-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)) (v4 : (c : Dev Cert.KernelIdeal.nD) → Buf (Elt Ideal) ((c.tc : Thread Cert.KernelIdeal.nD Cert.KernelIdeal.τ).loc Cert.KernelIdeal.main_v21_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_v21_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v65_6) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v20)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v20) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v16_0)) (v1 : (c : Dev Cert.Kernel8Ideal.nD) → Buf (Elt Ideal) ((c.tc : Thread Cert.Kernel8Ideal.nD Cert.Kernel8Ideal.τ).loc Cert.Kernel8Ideal.main_v16_1)) (v2 : (c : Dev Cert.Kernel8Ideal.nD) → Buf (Elt Ideal) ((c.tc : Thread Cert.Kernel8Ideal.nD Cert.Kernel8Ideal.τ).loc Cert.Kernel8Ideal.main_v16_2)) (v3 : (c : Dev Cert.Kernel8Ideal.nD) → Buf (Elt Ideal) ((c.tc : Thread Cert.Kernel8Ideal.nD Cert.Kernel8Ideal.τ).loc Cert.Kernel8Ideal.main_v16_3)) (v4 : (c : Dev Cert.Kernel8Ideal.nD) → Buf (Elt Ideal) ((c.tc : Thread Cert.Kernel8Ideal.nD Cert.Kernel8Ideal.τ).loc Cert.Kernel8Ideal.main_v16_4)) (v5 : (c : Dev Cert.Kernel8Ideal.nD) → Buf (Elt Ideal) ((c.tc : Thread Cert.Kernel8Ideal.nD Cert.Kernel8Ideal.τ).loc Cert.Kernel8Ideal.main_v16_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v16_0) = v0 c
          ∧ r.2.mem ((c.tc : Thread Cert.Kernel8Ideal.nD Cert.Kernel8Ideal.τ).loc Cert.Kernel8Ideal.main_v16_1) = v1 c
          ∧ r.2.mem ((c.tc : Thread Cert.Kernel8Ideal.nD Cert.Kernel8Ideal.τ).loc Cert.Kernel8Ideal.main_v16_2) = v2 c
          ∧ r.2.mem ((c.tc : Thread Cert.Kernel8Ideal.nD Cert.Kernel8Ideal.τ).loc Cert.Kernel8Ideal.main_v16_3) = v3 c
          ∧ r.2.mem ((c.tc : Thread Cert.Kernel8Ideal.nD Cert.Kernel8Ideal.τ).loc Cert.Kernel8Ideal.main_v16_4) = v4 c
          ∧ r.2.mem ((c.tc : Thread Cert.Kernel8Ideal.nD Cert.Kernel8Ideal.τ).loc Cert.Kernel8Ideal.main_v16_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_v1) = v1 c
          ∧ r.2.mem ((c.tc : Thread Cert.Reference8Ideal.nD Cert.Reference8Ideal.τ).loc Cert.Reference8Ideal.main_v28) = v2 c
          ∧ r.2.mem ((c.tc : Thread Cert.Reference8Ideal.nD Cert.Reference8Ideal.τ).loc Cert.Reference8Ideal.main_v29) = v3 c
          ∧ r.2.mem ((c.tc : Thread Cert.Reference8Ideal.nD Cert.Reference8Ideal.τ).loc Cert.Reference8Ideal.main_v30) = v4 c
          ∧ r.2.mem ((c.tc : Thread Cert.Reference8Ideal.nD Cert.Reference8Ideal.τ).loc Cert.Reference8Ideal.main_v34) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v17_0)) (v1 : (c : Dev Cert.Kernel10Ideal.nD) → Buf (Elt Ideal) ((c.tc : Thread Cert.Kernel10Ideal.nD Cert.Kernel10Ideal.τ).loc Cert.Kernel10Ideal.main_v17_1)) (v2 : (c : Dev Cert.Kernel10Ideal.nD) → Buf (Elt Ideal) ((c.tc : Thread Cert.Kernel10Ideal.nD Cert.Kernel10Ideal.τ).loc Cert.Kernel10Ideal.main_v17_2)) (v3 : (c : Dev Cert.Kernel10Ideal.nD) → Buf (Elt Ideal) ((c.tc : Thread Cert.Kernel10Ideal.nD Cert.Kernel10Ideal.τ).loc Cert.Kernel10Ideal.main_v17_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v17_0) = v0 c
          ∧ r.2.mem ((c.tc : Thread Cert.Kernel10Ideal.nD Cert.Kernel10Ideal.τ).loc Cert.Kernel10Ideal.main_v17_1) = v1 c
          ∧ r.2.mem ((c.tc : Thread Cert.Kernel10Ideal.nD Cert.Kernel10Ideal.τ).loc Cert.Kernel10Ideal.main_v17_2) = v2 c
          ∧ r.2.mem ((c.tc : Thread Cert.Kernel10Ideal.nD Cert.Kernel10Ideal.τ).loc Cert.Kernel10Ideal.main_v17_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v42) = v1 c
          ∧ r.2.mem ((c.tc : Thread Cert.Reference10Ideal.nD Cert.Reference10Ideal.τ).loc Cert.Reference10Ideal.main_v43) = v2 c
          ∧ r.2.mem ((c.tc : Thread Cert.Reference10Ideal.nD Cert.Reference10Ideal.τ).loc Cert.Reference10Ideal.main_v45) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v19)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v19) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v21) = v0 c
          ∧ r.2.mem ((c.tc : Thread Cert.Reference13Ideal.nD Cert.Reference13Ideal.τ).loc Cert.Reference13Ideal.main_v35) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Kernel.lean ====
abbrev S8192x11352 : Shape := ⟨2, ![8192, 11352]⟩
abbrev S8 : Shape := ⟨1, ![8]⟩
abbrev S4x1024 : Shape := ⟨2, ![4, 1024]⟩
abbrev S1024 : Shape := ⟨1, ![1024]⟩
abbrev S4x256x256 : Shape := ⟨3, ![4, 256, 256]⟩
abbrev S4x256 : Shape := ⟨2, ![4, 256]⟩
abbrev S8192x1024 : Shape := ⟨2, ![8192, 1024]⟩
abbrev S8192x4 : Shape := ⟨2, ![8192, 4]⟩
abbrev S8192x64 : Shape := ⟨2, ![8192, 64]⟩
abbrev S8192x16 : Shape := ⟨2, ![8192, 16]⟩
abbrev S8192x4096 : Shape := ⟨2, ![8192, 4096]⟩
abbrev S8192x11264 : Shape := ⟨2, ![8192, 11264]⟩
abbrev S_ : Shape := ⟨0, ![]⟩
abbrev S8192x40 : Shape := ⟨2, ![8192, 40]⟩
abbrev S8192x128 : Shape := ⟨2, ![8192, 128]⟩
abbrev S80 : Shape := ⟨1, ![80]⟩
abbrev S40 : Shape := ⟨1, ![40]⟩
abbrev S128 : Shape := ⟨1, ![128]⟩
abbrev S1x128 : Shape := ⟨2, ![1, 128]⟩
abbrev S1x1024 : Shape := ⟨2, ![1, 1024]⟩
abbrev S3x1024 : Shape := ⟨2, ![3, 1024]⟩
abbrev S4x128x256 : Shape := ⟨3, ![4, 128, 256]⟩
abbrev S8x128 : Shape := ⟨2, ![8, 128]⟩
abbrev S256x1024 : Shape := ⟨2, ![256, 1024]⟩
abbrev S256x128 : Shape := ⟨2, ![256, 128]⟩
abbrev S264x1024 : Shape := ⟨2, ![264, 1024]⟩
abbrev S8x1024 : Shape := ⟨2, ![8, 1024]⟩
abbrev S256x256 : Shape := ⟨2, ![256, 256]⟩
abbrev S128x256 : Shape := ⟨2, ![128, 256]⟩
abbrev S64x64 : Shape := ⟨2, ![64, 64]⟩
abbrev S1x256x256 : Shape := ⟨3, ![1, 256, 256]⟩
abbrev S256x1 : Shape := ⟨2, ![256, 1]⟩
abbrev S1x256 : Shape := ⟨2, ![1, 256]⟩
abbrev S1x128x256 : Shape := ⟨3, ![1, 128, 256]⟩
abbrev S1x1 : Shape := ⟨2, ![1, 1]⟩
abbrev S64x128 : Shape := ⟨2, ![64, 128]⟩
abbrev S64x256 : Shape := ⟨2, ![64, 256]⟩
abbrev S64x1 : Shape := ⟨2, ![64, 1]⟩
abbrev S1x64 : Shape := ⟨2, ![1, 64]⟩
abbrev S64 : Shape := ⟨1, ![64]⟩
abbrev S1 : Shape := ⟨1, ![1]⟩
abbrev S128x64 : Shape := ⟨2, ![128, 64]⟩

abbrev nBuf : Space → Nat
  | .hbm => 35
  | .vmem => 23
  | .smem => 0
  | _ => 0

abbrev bufTy : (tb : Table) → Fin (tcTables nBuf tb) → BufTy
  | .hbm, ⟨0, _⟩ => ⟨S8192x11352, .f32⟩
  | .hbm, ⟨1, _⟩ => ⟨S8, .f32⟩
  | .hbm, ⟨2, _⟩ => ⟨S4x1024, .f32⟩
  | .hbm, ⟨3, _⟩ => ⟨S1024, .f32⟩
  | .hbm, ⟨4, _⟩ => ⟨S4x256x256, .f32⟩
  | .hbm, ⟨5, _⟩ => ⟨S4x256, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x4, .f32⟩
  | .hbm, ⟨10, _⟩ => ⟨S8192x4, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x64, .f32⟩
  | .hbm, ⟨16, _⟩ => ⟨S8192x16, .f32⟩
  | .hbm, ⟨17, _⟩ => ⟨S8192x4096, .f32⟩
  | .hbm, ⟨18, _⟩ => ⟨S8192x11264, .f32⟩
  | .hbm, ⟨19, _⟩ => ⟨S_, .f32⟩
  | .hbm, ⟨20, _⟩ => ⟨S8192x40, .f32⟩
  | .hbm, ⟨21, _⟩ => ⟨S8192x128, .f32⟩
  | .hbm, ⟨22, _⟩ => ⟨S_, .f32⟩
  | .hbm, ⟨23, _⟩ => ⟨S80, .f32⟩
  | .hbm, ⟨24, _⟩ => ⟨S_, .f32⟩
  | .hbm, ⟨25, _⟩ => ⟨S40, .f32⟩
  | .hbm, ⟨26, _⟩ => ⟨S128, .f32⟩
  | .hbm, ⟨27, _⟩ => ⟨S1x128, .f32⟩
  | .hbm, ⟨28, _⟩ => ⟨S1x1024, .f32⟩
  | .hbm, ⟨29, _⟩ => ⟨S4x256x256, .bf16⟩
  | .hbm, ⟨30, _⟩ => ⟨S8192x1024, .bf16⟩
  | .hbm, ⟨31, _⟩ => ⟨S3x1024, .f32⟩
  | .hbm, ⟨32, _⟩ => ⟨S4x128x256, .f32⟩
  | .hbm, ⟨33, _⟩ => ⟨S8x128, .f32⟩
  | .hbm, ⟨34, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S4x1024, .f32⟩
  | .local _ .vmem, ⟨10, _⟩ => ⟨S1x1024, .f32⟩
  | .local _ .vmem, ⟨11, _⟩ => ⟨S4x256x256, .bf16⟩
  | .local _ .vmem, ⟨12, _⟩ => ⟨S4x256, .f32⟩
  | .local _ .vmem, ⟨13, _⟩ => ⟨S256x1024, .bf16⟩
  | .local _ .vmem, ⟨14, _⟩ => ⟨S256x1024, .bf16⟩
  | .local _ .vmem, ⟨15, _⟩ => ⟨S3x1024, .f32⟩
  | .local _ .vmem, ⟨16, _⟩ => ⟨S4x128x256, .f32⟩
  | .local _ .vmem, ⟨17, _⟩ => ⟨S8x128, .f32⟩
  | .local _ .vmem, ⟨18, _⟩ => ⟨S8x128, .f32⟩
  | .local _ .vmem, ⟨19, _⟩ => ⟨S264x1024, .f32⟩
  | .local _ .vmem, ⟨20, _⟩ => ⟨S4x128x256, .f32⟩
  | .local _ .vmem, ⟨21, _⟩ => ⟨S8x128, .f32⟩
  | .local _ .vmem, ⟨22, _⟩ => ⟨S8x128, .f32⟩
  | _, _ => ⟨S8192x11352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v1934 : BitVec 1 := Scalar.cmpi .eq arg0 c31_i32
  let v1935 : BitVec 32 := Scalar.extui v1934
  let c0_i32_479 : BitVec 32 := 0#32
  let v1936 : BitVec 1 := Scalar.cmpi .ne v1935 c0_i32_479
  v1936

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x11352 : Shape := ⟨2, ![8192, 11352]⟩
abbrev S8 : Shape := ⟨1, ![8]⟩
abbrev S4x1024 : Shape := ⟨2, ![4, 1024]⟩
abbrev S1024 : Shape := ⟨1, ![1024]⟩
abbrev S4x256x256 : Shape := ⟨3, ![4, 256, 256]⟩
abbrev S4x256 : Shape := ⟨2, ![4, 256]⟩
abbrev S8192x1024 : Shape := ⟨2, ![8192, 1024]⟩
abbrev S8192x4 : Shape := ⟨2, ![8192, 4]⟩
abbrev S_ : Shape := ⟨0, ![]⟩
abbrev S3x1024 : Shape := ⟨2, ![3, 1024]⟩
abbrev S8195x1024 : Shape := ⟨2, ![8195, 1024]⟩
abbrev S1x1024 : Shape := ⟨2, ![1, 1024]⟩
abbrev S8192x4x256 : Shape := ⟨3, ![8192, 4, 256]⟩
abbrev S4x256x8192 : Shape := ⟨3, ![4, 256, 8192]⟩
abbrev S8192x4x128 : Shape := ⟨3, ![8192, 4, 128]⟩
abbrev S8192x8 : Shape := ⟨2, ![8192, 8]⟩
abbrev S1x8 : Shape := ⟨2, ![1, 8]⟩
abbrev S128x64x4x128 : Shape := ⟨4, ![128, 64, 4, 128]⟩
abbrev S128x64x4x256 : Shape := ⟨4, ![128, 64, 4, 256]⟩
abbrev S128x64x4 : Shape := ⟨3, ![128, 64, 4]⟩
abbrev S4x128x256 : Shape := ⟨3, ![4, 128, 256]⟩
abbrev S4x128 : Shape := ⟨2, ![4, 128]⟩
abbrev S4 : Shape := ⟨1, ![4]⟩
abbrev S128x4x64x256 : Shape := ⟨4, ![128, 4, 64, 256]⟩
abbrev S1x64x4x128 : Shape := ⟨4, ![1, 64, 4, 128]⟩
abbrev S64x4x128 : Shape := ⟨3, ![64, 4, 128]⟩
abbrev S1x64x4x256 : Shape := ⟨4, ![1, 64, 4, 256]⟩
abbrev S64x4x256 : Shape := ⟨3, ![64, 4, 256]⟩
abbrev S1x64x4 : Shape := ⟨3, ![1, 64, 4]⟩
abbrev S64x4 : Shape := ⟨2, ![64, 4]⟩
abbrev S4x64 : Shape := ⟨2, ![4, 64]⟩
abbrev S64x64 : Shape := ⟨2, ![64, 64]⟩
abbrev S4x64x1 : Shape := ⟨3, ![4, 64, 1]⟩
abbrev S4x1x64 : Shape := ⟨3, ![4, 1, 64]⟩
abbrev S4x64x64 : Shape := ⟨3, ![4, 64, 64]⟩
abbrev S4x1 : Shape := ⟨2, ![4, 1]⟩
abbrev S4x64x256 : Shape := ⟨3, ![4, 64, 256]⟩
abbrev S64x4x1 : Shape := ⟨3, ![64, 4, 1]⟩
abbrev S4x1x1 : Shape := ⟨3, ![4, 1, 1]⟩
abbrev S1x4x64x256 : Shape := ⟨4, ![1, 4, 64, 256]⟩
abbrev S8192x4x1 : Shape := ⟨3, ![8192, 4, 1]⟩
abbrev S1x4x256 : Shape := ⟨3, ![1, 4, 256]⟩
abbrev S8x128 : Shape := ⟨2, ![8, 128]⟩

abbrev nBuf : Space → Nat
  | .hbm => 275
  | .vmem => 0
  | .smem => 0
  | _ => 0

abbrev hbmTy0_0 (i : Nat) : BufTy := match i % 128 with
  | 0 => ⟨S8192x11352, .f32⟩
  | 1 => ⟨S8, .f32⟩
  | 2 => ⟨S4x1024, .f32⟩
  | 3 => ⟨S1024, .f32⟩
  | 4 => ⟨S4x256x256, .f32⟩
  | 5 => ⟨S4x256, .f32⟩
  | 6 => ⟨S8192x1024, .f32⟩
  | 7 => ⟨S8192x1024, .f32⟩
  | 8 => ⟨S8192x4, .f32⟩
  | 9 => ⟨S8192x4, .f32⟩
  | 10 => ⟨S_, .f32⟩
  | 11 => ⟨S3x1024, .f32⟩
  | 12 => ⟨S8195x1024, .f32⟩
  | 13 => ⟨S8192x1024, .f32⟩
  | 14 => ⟨S1x1024, .f32⟩
  | 15 => ⟨S1024, .f32⟩
  | 16 => ⟨S1x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S1x1024, .f32⟩
  | 24 => ⟨S1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S1x1024, .f32⟩
  | 31 => ⟨S1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S1x1024, .f32⟩
  | 38 => ⟨S1024, .f32⟩
  | 39 => ⟨S1x1024, .f32⟩
  | 40 => ⟨S8192x1024, .f32⟩
  | 41 => ⟨S8192x1024, .f32⟩
  | 42 => ⟨S8192x1024, .f32⟩
  | 43 => ⟨S1x1024, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S8192x1024, .f32⟩
  | 55 => ⟨S8192x4x256, .f32⟩
  | 56 => ⟨S4x256x8192, .f32⟩
  | 57 => ⟨S8192x4x256, .f32⟩
  | 58 => ⟨S8192x4x128, .f32⟩
  | 59 => ⟨S8192x4x128, .f32⟩
  | 60 => ⟨S_, .f32⟩
  | 61 => ⟨S8192x4x128, .f32⟩
  | 62 => ⟨S8192x4x128, .f32⟩
  | 63 => ⟨S8192x8, .f32⟩
  | 64 => ⟨S1x8, .f32⟩
  | 65 => ⟨S8192x8, .f32⟩
  | 66 => ⟨S8192x8, .f32⟩
  | 67 => ⟨S8192x4, .f32⟩
  | 68 => ⟨S8192x4, .f32⟩
  | 69 => ⟨S8192x4, .f32⟩
  | 70 => ⟨S_, .f32⟩
  | 71 => ⟨S8192x4, .f32⟩
  | 72 => ⟨S8192x4, .f32⟩
  | 73 => ⟨S8192x4, .f32⟩
  | 74 => ⟨S8192x4, .f32⟩
  | 75 => ⟨S8192x4, .i1⟩
  | 76 => ⟨S8192x4, .f32⟩
  | 77 => ⟨S8192x4, .f32⟩
  | 78 => ⟨S8192x4, .f32⟩
  | 79 => ⟨S8192x4, .f32⟩
  | 80 => ⟨S8192x4, .f32⟩
  | 81 => ⟨S8192x4, .f32⟩
  | 82 => ⟨S8192x4, .f32⟩
  | 83 => ⟨S8192x4, .f32⟩
  | 84 => ⟨S8192x4, .f32⟩
  | 85 => ⟨S128x64x4x128, .f32⟩
  | 86 => ⟨S128x64x4x128, .f32⟩
  | 87 => ⟨S8192x4x256, .f32⟩
  | 88 => ⟨S128x64x4x256, .f32⟩
  | 89 => ⟨S128x64x4, .f32⟩
  | 90 => ⟨S128x64x4, .f32⟩
  | 91 => ⟨S_, .f32⟩
  | 92 => ⟨S4x128x256, .f32⟩
  | 93 => ⟨S_, .f32⟩
  | 94 => ⟨S4x128, .f32⟩
  | 95 => ⟨S_, .f32⟩
  | 96 => ⟨S4, .f32⟩
  | 97 => ⟨S_, .f32⟩
  | 98 => ⟨S128x4x64x256, .f32⟩
  | 99 => ⟨S_, .i32⟩
  | 100 => ⟨S128x64x4x128, .f32⟩
  | 101 => ⟨S128x64x4x128, .f32⟩
  | 102 => ⟨S128x64x4x256, .f32⟩
  | 103 => ⟨S128x64x4, .f32⟩
  | 104 => ⟨S128x64x4, .f32⟩
  | 105 => ⟨S_, .i32⟩
  | 106 => ⟨S4x128x256, .f32⟩
  | 107 => ⟨S4x128, .f32⟩
  | 108 => ⟨S4, .f32⟩
  | 109 => ⟨S128x4x64x256, .f32⟩
  | 110 => ⟨S_, .i32⟩
  | 111 => ⟨S_, .i1⟩
  | 112 => ⟨S_, .i32⟩
  | 113 => ⟨S_, .i32⟩
  | 114 => ⟨S_, .i32⟩
  | 115 => ⟨S1x64x4x128, .f32⟩
  | 116 => ⟨S64x4x128, .f32⟩
  | 117 => ⟨S_, .i32⟩
  | 118 => ⟨S_, .i32⟩
  | 119 => ⟨S_, .i32⟩
  | 120 => ⟨S1x64x4x128, .f32⟩
  | 121 => ⟨S64x4x128, .f32⟩
  | 122 => ⟨S_, .i32⟩
  | 123 => ⟨S_, .i32⟩
  | 124 => ⟨S_, .i32⟩
  | 125 => ⟨S1x64x4x256, .f32⟩
  | 126 => ⟨S64x4x256, .f32⟩
  | 127 => ⟨S_, .i32⟩
  | _ => ⟨S8192x11352, .f32⟩

abbrev hbmTy0_1 (i : Nat) : BufTy := match i % 128 with
  | 0 => ⟨S_, .i32⟩
  | 1 => ⟨S1x64x4, .f32⟩
  | 2 => ⟨S64x4, .f32⟩
  | 3 => ⟨S_, .i32⟩
  | 4 => ⟨S_, .i32⟩
  | 5 => ⟨S1x64x4, .f32⟩
  | 6 => ⟨S64x4, .f32⟩
  | 7 => ⟨S_, .f32⟩
  | 8 => ⟨S_, .f32⟩
  | 9 => ⟨S64x4, .f32⟩
  | 10 => ⟨S4x64, .f32⟩
  | 11 => ⟨S4x64, .f32⟩
  | 12 => ⟨S_, .i1⟩
  | 13 => ⟨S64x64, .i1⟩
  | 14 => ⟨S64x64, .i32⟩
  | 15 => ⟨S_, .i32⟩
  | 16 => ⟨S64x64, .i32⟩
  | 17 => ⟨S64x64, .i32⟩
  | 18 => ⟨S64x64, .i32⟩
  | 19 => ⟨S64x64, .i1⟩
  | 20 => ⟨S_, .i1⟩
  | 21 => ⟨S64x64, .i1⟩
  | 22 => ⟨S64x64, .i1⟩
  | 23 => ⟨S4x64x1, .f32⟩
  | 24 => ⟨S4x1x64, .f32⟩
  | 25 => ⟨S4x64x64, .f32⟩
  | 26 => ⟨S4x64x64, .f32⟩
  | 27 => ⟨S4x64x64, .f32⟩
  | 28 => ⟨S4x1x64, .f32⟩
  | 29 => ⟨S4x64x64, .f32⟩
  | 30 => ⟨S4x64x64, .f32⟩
  | 31 => ⟨S_, .f32⟩
  | 32 => ⟨S_, .f32⟩
  | 33 => ⟨S4x64x64, .i1⟩
  | 34 => ⟨S4x64x64, .f32⟩
  | 35 => ⟨S4x64x64, .f32⟩
  | 36 => ⟨S4x1, .f32⟩
  | 37 => ⟨S4x64, .f32⟩
  | 38 => ⟨S4x64, .f32⟩
  | 39 => ⟨S_, .f32⟩
  | 40 => ⟨S4x64, .f32⟩
  | 41 => ⟨S4x64, .f32⟩
  | 42 => ⟨S4x64, .f32⟩
  | 43 => ⟨S4x64, .f32⟩
  | 44 => ⟨S4x64x64, .f32⟩
  | 45 => ⟨S4x64x1, .f32⟩
  | 46 => ⟨S4x64x64, .f32⟩
  | 47 => ⟨S4x64x64, .f32⟩
  | 48 => ⟨S4x64x64, .f32⟩
  | 49 => ⟨S4x64x64, .f32⟩
  | 50 => ⟨S4x64x256, .f32⟩
  | 51 => ⟨S4x64x1, .f32⟩
  | 52 => ⟨S4x64x256, .f32⟩
  | 53 => ⟨S4x64x256, .f32⟩
  | 54 => ⟨S4x64x256, .f32⟩
  | 55 => ⟨S4x64x256, .f32⟩
  | 56 => ⟨S_, .f32⟩
  | 57 => ⟨S4x64, .f32⟩
  | 58 => ⟨S4x64, .f32⟩
  | 59 => ⟨S4x64, .f32⟩
  | 60 => ⟨S4x64, .f32⟩
  | 61 => ⟨S4x64, .f32⟩
  | 62 => ⟨S4x64, .f32⟩
  | 63 => ⟨S4x64, .f32⟩
  | 64 => ⟨S4x64, .f32⟩
  | 65 => ⟨S4x64x1, .f32⟩
  | 66 => ⟨S4x64x256, .f32⟩
  | 67 => ⟨S4x64x256, .f32⟩
  | 68 => ⟨S4x1, .f32⟩
  | 69 => ⟨S4, .f32⟩
  | 70 => ⟨S4x1, .f32⟩
  | 71 => ⟨S4x64, .f32⟩
  | 72 => ⟨S4x64, .f32⟩
  | 73 => ⟨S4x64, .f32⟩
  | 74 => ⟨S4, .f32⟩
  | 75 => ⟨S_, .f32⟩
  | 76 => ⟨S4, .f32⟩
  | 77 => ⟨S4, .f32⟩
  | 78 => ⟨S4, .f32⟩
  | 79 => ⟨S4, .f32⟩
  | 80 => ⟨S4, .f32⟩
  | 81 => ⟨S4x1, .f32⟩
  | 82 => ⟨S4x64, .f32⟩
  | 83 => ⟨S4x64, .f32⟩
  | 84 => ⟨S4x64, .f32⟩
  | 85 => ⟨S64x4, .f32⟩
  | 86 => ⟨S64x4x1, .f32⟩
  | 87 => ⟨S64x4x128, .f32⟩
  | 88 => ⟨S64x4x128, .f32⟩
  | 89 => ⟨S4x1x1, .f32⟩
  | 90 => ⟨S4x128x256, .f32⟩
  | 91 => ⟨S4x128x256, .f32⟩
  | 92 => ⟨S4x128x256, .f32⟩
  | 93 => ⟨S4x128x256, .f32⟩
  | 94 => ⟨S4x1, .f32⟩
  | 95 => ⟨S4x128, .f32⟩
  | 96 => ⟨S4x128, .f32⟩
  | 97 => ⟨S4x128, .f32⟩
  | 98 => ⟨S4x128, .f32⟩
  | 99 => ⟨S1x4x64x256, .f32⟩
  | 100 => ⟨S_, .i32⟩
  | 101 => ⟨S_, .i32⟩
  | 102 => ⟨S_, .i32⟩
  | 103 => ⟨S128x4x64x256, .f32⟩
  | 104 => ⟨S_, .i32⟩
  | 105 => ⟨S_, .i32⟩
  | 106 => ⟨S8192x1024, .f32⟩
  | 107 => ⟨S128x64x4x256, .f32⟩
  | 108 => ⟨S8192x4x256, .f32⟩
  | 109 => ⟨S8192x4x256, .f32⟩
  | 110 => ⟨S_, .f32⟩
  | 111 => ⟨S8192x4, .f32⟩
  | 112 => ⟨S8192x4x1, .f32⟩
  | 113 => ⟨S_, .f32⟩
  | 114 => ⟨S8192x4x1, .f32⟩
  | 115 => ⟨S8192x4x1, .f32⟩
  | 116 => ⟨S_, .f32⟩
  | 117 => ⟨S8192x4x1, .f32⟩
  | 118 => ⟨S8192x4x1, .f32⟩
  | 119 => ⟨S8192x4x1, .f32⟩
  | 120 => ⟨S8192x4x256, .f32⟩
  | 121 => ⟨S8192x4x256, .f32⟩
  | 122 => ⟨S1x4x256, .f32⟩
  | 123 => ⟨S8192x4x256, .f32⟩
  | 124 => ⟨S8192x4x256, .f32⟩
  | 125 => ⟨S8192x1024, .f32⟩
  | 126 => ⟨S8192x1024, .f32⟩
  | 127 => ⟨S8192x1024, .f32⟩
  | _ => ⟨S8192x11352, .f32⟩

abbrev hbmTy0_2 (i : Nat) : BufTy := match i % 128 with
  | 0 => ⟨S_, .f32⟩
  | 1 => ⟨S8192x1024, .f32⟩
  | 2 => ⟨S8192x1024, .f32⟩
  | 3 => ⟨S_, .f32⟩
  | 4 => ⟨S8192x1024, .f32⟩
  | 5 => ⟨S8192x1024, .f32⟩
  | 6 => ⟨S8192x1024, .f32⟩
  | 7 => ⟨S_, .f32⟩
  | 8 => ⟨S4x128, .f32⟩
  | 9 => ⟨S_, .f32⟩
  | 10 => ⟨S3x1024, .f32⟩
  | 11 => ⟨S8192x1024, .f32⟩
  | 12 => ⟨S8195x1024, .f32⟩
  | 13 => ⟨S3x1024, .f32⟩
  | 14 => ⟨S8192x1024, .bf16⟩
  | 15 => ⟨S8x128, .f32⟩
  | 16 => ⟨S4x1, .f32⟩
  | 17 => ⟨S4x128, .f32⟩
  | 18 => ⟨S8x128, .f32⟩
  | _ => ⟨S8192x11352, .f32⟩

abbrev hbmTy (i : Nat) : BufTy := match i / 128 with
  | 0 => hbmTy0_0 i
  | 1 => hbmTy0_1 i
  | 2 => hbmTy0_2 i
  | _ => ⟨S8192x11352, .f32⟩

abbrev bufTy : (tb : Table) → Fin (tcTables nBuf tb) → BufTy
  | .hbm, ⟨i, _⟩ => hbmTy i
  | _, _ => ⟨S8192x11352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_1 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_2 : Ref sig .tc := ⟨.hbm, 91, rfl⟩
abbrev main_v61 : Ref sig .tc := ⟨.hbm, 92, rfl⟩
abbrev main_cst_3 : Ref sig .tc := ⟨.hbm, 93, rfl⟩
abbrev main_v62 : Ref sig .tc := ⟨.hbm, 94, rfl⟩
abbrev main_cst_4 : Ref sig .tc := ⟨.hbm, 95, rfl⟩
abbrev main_v63 : Ref sig .tc := ⟨.hbm, 96, rfl⟩
abbrev main_cst_5 : Ref sig .tc := ⟨.hbm, 97, rfl⟩
abbrev main_v64 : Ref sig .tc := ⟨.hbm, 98, rfl⟩
abbrev main_c : Ref sig .tc := ⟨.hbm, 99, rfl⟩
abbrev main_v65_0 : Ref sig .tc := ⟨.hbm, 100, rfl⟩
abbrev main_v65_1 : Ref sig .tc := ⟨.hbm, 101, rfl⟩
abbrev main_v65_2 : Ref sig .tc := ⟨.hbm, 102, rfl⟩
abbrev main_v65_3 : Ref sig .tc := ⟨.hbm, 103, rfl⟩
abbrev main_v65_4 : Ref sig .tc := ⟨.hbm, 104, rfl⟩
abbrev main_v65_5 : Ref sig .tc := ⟨.hbm, 105, rfl⟩
abbrev main_v65_6 : Ref sig .tc := ⟨.hbm, 106, rfl⟩
abbrev main_v65_7 : Ref sig .tc := ⟨.hbm, 107, rfl⟩
abbrev main_v65_8 : Ref sig .tc := ⟨.hbm, 108, rfl⟩
abbrev main_v65_9 : Ref sig .tc := ⟨.hbm, 109, rfl⟩
abbrev main_while0c_c_22 : Ref sig .tc := ⟨.hbm, 110, rfl⟩
abbrev main_while0c_v100 : Ref sig .tc := ⟨.hbm, 111, rfl⟩
abbrev main_while0b_call2_c : Ref sig .tc := ⟨.hbm, 112, rfl⟩
abbrev main_while0b_call2_c_0 : Ref sig .tc := ⟨.hbm, 113, rfl⟩
abbrev main_while0b_call2_c_1 : Ref sig .tc := ⟨.hbm, 114, rfl⟩
abbrev main_while0b_call2_v0 : Ref sig .tc := ⟨.hbm, 115, rfl⟩
abbrev main_while0b_v100 : Ref sig .tc := ⟨.hbm, 116, rfl⟩
abbrev main_while0b_call3_c : Ref sig .tc := ⟨.hbm, 117, rfl⟩
abbrev main_while0b_call3_c_0 : Ref sig .tc := ⟨.hbm, 118, rfl⟩
abbrev main_while0b_call3_c_1 : Ref sig .tc := ⟨.hbm, 119, rfl⟩
abbrev main_while0b_call3_v0 : Ref sig .tc := ⟨.hbm, 120, rfl⟩
abbrev main_while0b_v101 : Ref sig .tc := ⟨.hbm, 121, rfl⟩
abbrev main_while0b_call4_c : Ref sig .tc := ⟨.hbm, 122, rfl⟩
abbrev main_while0b_call4_c_0 : Ref sig .tc := ⟨.hbm, 123, rfl⟩
abbrev main_while0b_call4_c_1 : Ref sig .tc := ⟨.hbm, 124, rfl⟩
abbrev main_while0b_call4_v0 : Ref sig .tc := ⟨.hbm, 125, rfl⟩
abbrev main_while0b_v102 : Ref sig .tc := ⟨.hbm, 126, rfl⟩
abbrev main_while0b_call5_c : Ref sig .tc := ⟨.hbm, 127, rfl⟩
abbrev main_while0b_call5_c_0 : Ref sig .tc := ⟨.hbm, 128, rfl⟩
abbrev main_while0b_call5_v0 : Ref sig .tc := ⟨.hbm, 129, rfl⟩
abbrev main_while0b_v103 : Ref sig .tc := ⟨.hbm, 130, rfl⟩
abbrev main_while0b_call6_c : Ref sig .tc := ⟨.hbm, 131, rfl⟩
abbrev main_while0b_call6_c_0 : Ref sig .tc := ⟨.hbm, 132, rfl⟩
abbrev main_while0b_call6_v0 : Ref sig .tc := ⟨.hbm, 133, rfl⟩
abbrev main_while0b_v104 : Ref sig .tc := ⟨.hbm, 134, rfl⟩
abbrev main_while0b_call7_call0_cst : Ref sig .tc := ⟨.hbm, 135, rfl⟩
abbrev main_while0b_call7_call0_v0 : Ref sig .tc := ⟨.hbm, 136, rfl⟩
abbrev main_while0b_v105 : Ref sig .tc := ⟨.hbm, 137, rfl⟩
abbrev main_while0b_v106 : Ref sig .tc := ⟨.hbm, 138, rfl⟩
abbrev main_while0b_v107 : Ref sig .tc := ⟨.hbm, 139, rfl⟩
abbrev main_while0b_c_22 : Ref sig .tc := ⟨.hbm, 140, rfl⟩
abbrev main_while0b_v108 : Ref sig .tc := ⟨.hbm, 141, rfl⟩
abbrev main_while0b_call8_v0 : Ref sig .tc := ⟨.hbm, 142, rfl⟩
abbrev main_while0b_call8_c : Ref sig .tc := ⟨.hbm, 143, rfl⟩
abbrev main_while0b_call8_v1 : Ref sig .tc := ⟨.hbm, 144, rfl⟩
abbrev main_while0b_call8_v2 : Ref sig .tc := ⟨.hbm, 145, rfl⟩
abbrev main_while0b_call8_v3 : Ref sig .tc := ⟨.hbm, 146, rfl⟩
abbrev main_while0b_call8_v4 : Ref sig .tc := ⟨.hbm, 147, rfl⟩
abbrev main_while0b_call8_c_0 : Ref sig .tc := ⟨.hbm, 148, rfl⟩
abbrev main_while0b_call8_v5 : Ref sig .tc := ⟨.hbm, 149, rfl⟩
abbrev main_while0b_v109 : Ref sig .tc := ⟨.hbm, 150, rfl⟩
abbrev main_while0b_v110 : Ref sig .tc := ⟨.hbm, 151, rfl⟩
abbrev main_while0b_v111 : Ref sig .tc := ⟨.hbm, 152, rfl⟩
abbrev main_while0b_v112 : Ref sig .tc := ⟨.hbm, 153, rfl⟩
abbrev main_while0b_v113 : Ref sig .tc := ⟨.hbm, 154, rfl⟩
abbrev main_while0b_v114 : Ref sig .tc := ⟨.hbm, 155, rfl⟩
abbrev main_while0b_v115 : Ref sig .tc := ⟨.hbm, 156, rfl⟩
abbrev main_while0b_v116 : Ref sig .tc := ⟨.hbm, 157, rfl⟩
abbrev main_while0b_v117 : Ref sig .tc := ⟨.hbm, 158, rfl⟩
abbrev main_while0b_cst_23 : Ref sig .tc := ⟨.hbm, 159, rfl⟩
abbrev main_while0b_call9_v0 : Ref sig .tc := ⟨.hbm, 160, rfl⟩
abbrev main_while0b_call9_v1 : Ref sig .tc := ⟨.hbm, 161, rfl⟩
abbrev main_while0b_call9_v2 : Ref sig .tc := ⟨.hbm, 162, rfl⟩
abbrev main_while0b_v118 : Ref sig .tc := ⟨.hbm, 163, rfl⟩
abbrev main_while0b_v119 : Ref sig .tc := ⟨.hbm, 164, rfl⟩
abbrev main_while0b_v120 : Ref sig .tc := ⟨.hbm, 165, rfl⟩
abbrev main_while0b_v121 : Ref sig .tc := ⟨.hbm, 166, rfl⟩
abbrev main_while0b_cst_24 : Ref sig .tc := ⟨.hbm, 167, rfl⟩
abbrev main_while0b_v122 : Ref sig .tc := ⟨.hbm, 168, rfl⟩
abbrev main_while0b_v123 : Ref sig .tc := ⟨.hbm, 169, rfl⟩
abbrev main_while0b_v124 : Ref sig .tc := ⟨.hbm, 170, rfl⟩
abbrev main_while0b_v125 : Ref sig .tc := ⟨.hbm, 171, rfl⟩
abbrev main_while0b_v126 : Ref sig .tc := ⟨.hbm, 172, rfl⟩
abbrev main_while0b_v127 : Ref sig .tc := ⟨.hbm, 173, rfl⟩
abbrev main_while0b_v128 : Ref sig .tc := ⟨.hbm, 174, rfl⟩
abbrev main_while0b_v129 : Ref sig .tc := ⟨.hbm, 175, rfl⟩
abbrev main_while0b_v130 : Ref sig .tc := ⟨.hbm, 176, rfl⟩
abbrev main_while0b_v131 : Ref sig .tc := ⟨.hbm, 177, rfl⟩
abbrev main_while0b_v132 : Ref sig .tc := ⟨.hbm, 178, rfl⟩
abbrev main_while0b_v133 : Ref sig .tc := ⟨.hbm, 179, rfl⟩
abbrev main_while0b_v134 : Ref sig .tc := ⟨.hbm, 180, rfl⟩
abbrev main_while0b_v135 : Ref sig .tc := ⟨.hbm, 181, rfl⟩
abbrev main_while0b_v136 : Ref sig .tc := ⟨.hbm, 182, rfl⟩
abbrev main_while0b_v137 : Ref sig .tc := ⟨.hbm, 183, rfl⟩
abbrev main_while0b_cst_25 : Ref sig .tc := ⟨.hbm, 184, rfl⟩
abbrev main_while0b_v138 : Ref sig .tc := ⟨.hbm, 185, rfl⟩
abbrev main_while0b_v139 : Ref sig .tc := ⟨.hbm, 186, rfl⟩
abbrev main_while0b_v140 : Ref sig .tc := ⟨.hbm, 187, rfl⟩
abbrev main_while0b_v141 : Ref sig .tc := ⟨.hbm, 188, rfl⟩
abbrev main_while0b_v142 : Ref sig .tc := ⟨.hbm, 189, rfl⟩
abbrev main_while0b_v143 : Ref sig .tc := ⟨.hbm, 190, rfl⟩
abbrev main_while0b_v144 : Ref sig .tc := ⟨.hbm, 191, rfl⟩
abbrev main_while0b_v145 : Ref sig .tc := ⟨.hbm, 192, rfl⟩
abbrev main_while0b_v146 : Ref sig .tc := ⟨.hbm, 193, rfl⟩
abbrev main_while0b_v147 : Ref sig .tc := ⟨.hbm, 194, rfl⟩
abbrev main_while0b_v148 : Ref sig .tc := ⟨.hbm, 195, rfl⟩
abbrev main_while0b_v149 : Ref sig .tc := ⟨.hbm, 196, rfl⟩
abbrev main_while0b_v150 : Ref sig .tc := ⟨.hbm, 197, rfl⟩
abbrev main_while0b_v151 : Ref sig .tc := ⟨.hbm, 198, rfl⟩
abbrev main_while0b_v152 : Ref sig .tc := ⟨.hbm, 199, rfl⟩
abbrev main_while0b_v153 : Ref sig .tc := ⟨.hbm, 200, rfl⟩
abbrev main_while0b_v154 : Ref sig .tc := ⟨.hbm, 201, rfl⟩
abbrev main_while0b_v155 : Ref sig .tc := ⟨.hbm, 202, rfl⟩
abbrev main_while0b_cst_26 : Ref sig .tc := ⟨.hbm, 203, rfl⟩
abbrev main_while0b_v156 : Ref sig .tc := ⟨.hbm, 204, rfl⟩
abbrev main_while0b_v157 : Ref sig .tc := ⟨.hbm, 205, rfl⟩
abbrev main_while0b_v158 : Ref sig .tc := ⟨.hbm, 206, rfl⟩
abbrev main_while0b_v159 : Ref sig .tc := ⟨.hbm, 207, rfl⟩
abbrev main_while0b_v160 : Ref sig .tc := ⟨.hbm, 208, rfl⟩
abbrev main_while0b_v161 : Ref sig .tc := ⟨.hbm, 209, rfl⟩
abbrev main_while0b_v162 : Ref sig .tc := ⟨.hbm, 210, rfl⟩
abbrev main_while0b_v163 : Ref sig .tc := ⟨.hbm, 211, rfl⟩
abbrev main_while0b_v164 : Ref sig .tc := ⟨.hbm, 212, rfl⟩
abbrev main_while0b_v165 : Ref sig .tc := ⟨.hbm, 213, rfl⟩
abbrev main_while0b_v166 : Ref sig .tc := ⟨.hbm, 214, rfl⟩
abbrev main_while0b_v167 : Ref sig .tc := ⟨.hbm, 215, rfl⟩
abbrev main_while0b_v168 : Ref sig .tc := ⟨.hbm, 216, rfl⟩
abbrev main_while0b_v169 : Ref sig .tc := ⟨.hbm, 217, rfl⟩
abbrev main_while0b_v170 : Ref sig .tc := ⟨.hbm, 218, rfl⟩
abbrev main_while0b_v171 : Ref sig .tc := ⟨.hbm, 219, rfl⟩
abbrev main_while0b_v172 : Ref sig .tc := ⟨.hbm, 220, rfl⟩
abbrev main_while0b_v173 : Ref sig .tc := ⟨.hbm, 221, rfl⟩
abbrev main_while0b_v174 : Ref sig .tc := ⟨.hbm, 222, rfl⟩
abbrev main_while0b_v175 : Ref sig .tc := ⟨.hbm, 223, rfl⟩
abbrev main_while0b_v176 : Ref sig .tc := ⟨.hbm, 224, rfl⟩
abbrev main_while0b_v177 : Ref sig .tc := ⟨.hbm, 225, rfl⟩
abbrev main_while0b_v178 : Ref sig .tc := ⟨.hbm, 226, rfl⟩
abbrev main_while0b_call10_v0 : Ref sig .tc := ⟨.hbm, 227, rfl⟩
abbrev main_while0b_call10_c : Ref sig .tc := ⟨.hbm, 228, rfl⟩
abbrev main_while0b_call10_c_0 : Ref sig .tc := ⟨.hbm, 229, rfl⟩
abbrev main_while0b_call10_c_1 : Ref sig .tc := ⟨.hbm, 230, rfl⟩
abbrev main_while0b_v179 : Ref sig .tc := ⟨.hbm, 231, rfl⟩
abbrev main_while0b_c_27 : Ref sig .tc := ⟨.hbm, 232, rfl⟩
abbrev main_while0b_v180 : Ref sig .tc := ⟨.hbm, 233, rfl⟩
abbrev main_v66 : Ref sig .tc := ⟨.hbm, 234, rfl⟩
abbrev main_v67 : Ref sig .tc := ⟨.hbm, 235, rfl⟩
abbrev main_v68 : Ref sig .tc := ⟨.hbm, 236, rfl⟩
abbrev main_v69 : Ref sig .tc := ⟨.hbm, 237, rfl⟩
abbrev main_cst_6 : Ref sig .tc := ⟨.hbm, 238, rfl⟩
abbrev main_v70 : Ref sig .tc := ⟨.hbm, 239, rfl⟩
abbrev main_v71 : Ref sig .tc := ⟨.hbm, 240, rfl⟩
abbrev main_cst_7 : Ref sig .tc := ⟨.hbm, 241, rfl⟩
abbrev main_v72 : Ref sig .tc := ⟨.hbm, 242, rfl⟩
abbrev main_v73 : Ref sig .tc := ⟨.hbm, 243, rfl⟩
abbrev main_cst_8 : Ref sig .tc := ⟨.hbm, 244, rfl⟩
abbrev main_v74 : Ref sig .tc := ⟨.hbm, 245, rfl⟩
abbrev main_v75 : Ref sig .tc := ⟨.hbm, 246, rfl⟩
abbrev main_v76 : Ref sig .tc := ⟨.hbm, 247, rfl⟩
abbrev main_v77 : Ref sig .tc := ⟨.hbm, 248, rfl⟩
abbrev main_v78 : Ref sig .tc := ⟨.hbm, 249, rfl⟩
abbrev main_v79 : Ref sig .tc := ⟨.hbm, 250, rfl⟩
abbrev main_v80 : Ref sig .tc := ⟨.hbm, 251, rfl⟩
abbrev main_v81 : Ref sig .tc := ⟨.hbm, 252, rfl⟩
abbrev main_v82 : Ref sig .tc := ⟨.hbm, 253, rfl⟩
abbrev main_v83 : Ref sig .tc := ⟨.hbm, 254, rfl⟩
abbrev main_v84 : Ref sig .tc := ⟨.hbm, 255, rfl⟩
abbrev main_cst_9 : Ref sig .tc := ⟨.hbm, 256, rfl⟩
abbrev main_v85 : Ref sig .tc := ⟨.hbm, 257, rfl⟩
abbrev main_v86 : Ref sig .tc := ⟨.hbm, 258, rfl⟩
abbrev main_cst_10 : Ref sig .tc := ⟨.hbm, 259, rfl⟩
abbrev main_v87 : Ref sig .tc := ⟨.hbm, 260, rfl⟩
abbrev main_v88 : Ref sig .tc := ⟨.hbm, 261, rfl⟩
abbrev main_v89 : Ref sig .tc := ⟨.hbm, 262, rfl⟩
abbrev main_cst_11 : Ref sig .tc := ⟨.hbm, 263, rfl⟩
abbrev main_v90 : Ref sig .tc := ⟨.hbm, 264, rfl⟩
abbrev main_cst_12 : Ref sig .tc := ⟨.hbm, 265, rfl⟩
abbrev main_v91 : Ref sig .tc := ⟨.hbm, 266, rfl⟩
abbrev main_v92 : Ref sig .tc := ⟨.hbm, 267, rfl⟩
abbrev main_v93 : Ref sig .tc := ⟨.hbm, 268, rfl⟩
abbrev main_v94 : Ref sig .tc := ⟨.hbm, 269, rfl⟩
abbrev main_v95 : Ref sig .tc := ⟨.hbm, 270, rfl⟩
abbrev main_v96 : Ref sig .tc := ⟨.hbm, 271, rfl⟩
abbrev main_v97 : Ref sig .tc := ⟨.hbm, 272, rfl⟩
abbrev main_v98 : Ref sig .tc := ⟨.hbm, 273, rfl⟩
abbrev main_v99 : Ref sig .tc := ⟨.hbm, 274, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x2048 : Shape := ⟨2, ![8192, 2048]⟩
abbrev S2048 : Shape := ⟨1, ![2048]⟩
abbrev S2048x11008 : Shape := ⟨2, ![2048, 11008]⟩
abbrev S5504x2048 : Shape := ⟨2, ![5504, 2048]⟩
abbrev S1x2048 : Shape := ⟨2, ![1, 2048]⟩
abbrev S512x2048 : Shape := ⟨2, ![512, 2048]⟩
abbrev S2048x512 : Shape := ⟨2, ![2048, 512]⟩
abbrev S2048x384 : Shape := ⟨2, ![2048, 384]⟩
abbrev S384x2048 : Shape := ⟨2, ![384, 2048]⟩
abbrev S512 : Shape := ⟨1, ![512]⟩
abbrev S512x1 : Shape := ⟨2, ![512, 1]⟩
abbrev S512x512 : Shape := ⟨2, ![512, 512]⟩
abbrev S512x384 : Shape := ⟨2, ![512, 384]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S1x2048, .f32⟩
  | .hbm, ⟨5, _⟩ => ⟨S2048x11008, .bf16⟩
  | .hbm, ⟨6, _⟩ => ⟨S5504x2048, .bf16⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S2048x384, .bf16⟩
  | .local _ .vmem, ⟨11, _⟩ => ⟨S2048x384, .bf16⟩
  | .local _ .vmem, ⟨12, _⟩ => ⟨S384x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let c10_i32 : BitVec 32 := 10#32
  let v7 : BitVec 1 := Scalar.cmpi .slt arg1 c10_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c10_i32_5 : BitVec 32 := 10#32
  let v11 : BitVec 1 := Scalar.cmpi .eq arg1 c10_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c512_i32 : BitVec 32 := 512#32
  let v1 : BitVec 32 := Scalar.muli v0 c512_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c4_i32 : BitVec 32 := 4#32
  let v1 : BitVec 32 := Scalar.muli v0 c4_i32
  let c43_i32 : BitVec 32 := 43#32
  let v2 : BitVec 32 := Scalar.addi c43_i32 v1
  let c128_i32 : BitVec 32 := 128#32
  let v3 : BitVec 32 := Scalar.muli v2 c128_i32
  let c0_i32 : BitVec 32 := 0#32
  let c0_i32_0 : BitVec 32 := 0#32
  ![c0_i32.toNat, v3.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c512_i32 : BitVec 32 := 512#32
  let v1 : BitVec 32 := Scalar.muli v0 c512_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c5120_i32 : BitVec 32 := 5120#32
  let c0_i32_0 : BitVec 32 := 0#32
  ![c0_i32.toNat, c5120_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c10624_i32 : BitVec 32 := 10624#32
  let c0_i32_0 : BitVec 32 := 0#32
  ![c0_i32.toNat, c10624_i32.toNat]

def cc0_transform_8 (i : grid0.Coords) : Fin 2 → Nat :=
  let arg0 : BitVec 32 := BitVec.ofNat 32 (i 0).val
  let arg1 : BitVec 32 := BitVec.ofNat 32 (i 1).val
  let c5120_i32 : BitVec 32 := 5120#32
  let c0_i32 : BitVec 32 := 0#32
  let c0_i32_0 : BitVec 32 := 0#32
  ![c5120_i32.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S8192x2048 : Shape := ⟨2, ![8192, 2048]⟩
abbrev S2048 : Shape := ⟨1, ![2048]⟩
abbrev S2048x11008 : Shape := ⟨2, ![2048, 11008]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x11008 : Shape := ⟨2, ![8192, 11008]⟩
abbrev S8192x5504 : Shape := ⟨2, ![8192, 5504]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x11008, .f32⟩
  | .hbm, ⟨21, _⟩ => ⟨S8192x5504, .f32⟩
  | .hbm, ⟨22, _⟩ => ⟨S8192x5504, .f32⟩
  | .hbm, ⟨23, _⟩ => ⟨S8192x5504, .f32⟩
  | .hbm, ⟨24, _⟩ => ⟨S8192x5504, .f32⟩
  | .hbm, ⟨25, _⟩ => ⟨S_, .f32⟩
  | .hbm, ⟨26, _⟩ => ⟨S8192x5504, .f32⟩
  | .hbm, ⟨27, _⟩ => ⟨S8192x5504, .f32⟩
  | .hbm, ⟨28, _⟩ => ⟨S_, .f32⟩
  | .hbm, ⟨29, _⟩ => ⟨S8192x5504, .f32⟩
  | .hbm, ⟨30, _⟩ => ⟨S8192x5504, .f32⟩
  | .hbm, ⟨31, _⟩ => ⟨S8192x5504, .f32⟩
  | .hbm, ⟨32, _⟩ => ⟨S8192x5504, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2048x11008 : Shape := ⟨2, ![2048, 11008]⟩
abbrev S5504x2048 : Shape := ⟨2, ![5504, 2048]⟩
abbrev S1x2048 : Shape := ⟨2, ![1, 2048]⟩
abbrev S512x2048 : Shape := ⟨2, ![512, 2048]⟩
abbrev S2048x512 : Shape := ⟨2, ![2048, 512]⟩
abbrev S2048x384 : Shape := ⟨2, ![2048, 384]⟩
abbrev S384x2048 : Shape := ⟨2, ![384, 2048]⟩
abbrev S512 : Shape := ⟨1, ![512]⟩
abbrev S512x1 : Shape := ⟨2, ![512, 1]⟩
abbrev S512x512 : Shape := ⟨2, ![512, 512]⟩
abbrev S512x384 : Shape := ⟨2, ![512, 384]⟩

abbrev nBuf : Space → Nat
  | .hbm => 11
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x11008, .f32⟩
  | .hbm, ⟨4, _⟩ => ⟨S5504x2048, .f32⟩
  | .hbm, ⟨5, _⟩ => ⟨S1x2048, .f32⟩
  | .hbm, ⟨6, _⟩ => ⟨S2048x11008, .bf16⟩
  | .hbm, ⟨7, _⟩ => ⟨S5504x2048, .bf16⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S2048x384, .bf16⟩
  | .local _ .vmem, ⟨11, _⟩ => ⟨S2048x384, .bf16⟩
  | .local _ .vmem, ⟨12, _⟩ => ⟨S384x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let c10_i32 : BitVec 32 := 10#32
  let v7 : BitVec 1 := Scalar.cmpi .slt arg1 c10_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c10_i32_5 : BitVec 32 := 10#32
  let v11 : BitVec 1 := Scalar.cmpi .eq arg1 c10_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c512_i32 : BitVec 32 := 512#32
  let v1 : BitVec 32 := Scalar.muli v0 c512_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c4_i32 : BitVec 32 := 4#32
  let v1 : BitVec 32 := Scalar.muli v0 c4_i32
  let c43_i32 : BitVec 32 := 43#32
  let v2 : BitVec 32 := Scalar.addi c43_i32 v1
  let c128_i32 : BitVec 32 := 128#32
  let v3 : BitVec 32 := Scalar.muli v2 c128_i32
  let c0_i32 : BitVec 32 := 0#32
  let c0_i32_0 : BitVec 32 := 0#32
  ![c0_i32.toNat, v3.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c512_i32 : BitVec 32 := 512#32
  let v1 : BitVec 32 := Scalar.muli v0 c512_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c5120_i32 : BitVec 32 := 5120#32
  let c0_i32_0 : BitVec 32 := 0#32
  ![c0_i32.toNat, c5120_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c10624_i32 : BitVec 32 := 10624#32
  let c0_i32_0 : BitVec 32 := 0#32
  ![c0_i32.toNat, c10624_i32.toNat]

def cc0_transform_8 (i : grid0.Coords) : Fin 2 → Nat :=
  let arg0 : BitVec 32 := BitVec.ofNat 32 (i 0).val
  let arg1 : BitVec 32 := BitVec.ofNat 32 (i 1).val
  let c5120_i32 : BitVec 32 := 5120#32
  let c0_i32 : BitVec 32 := 0#32
  let c0_i32_0 : BitVec 32 := 0#32
  ![c5120_i32.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference3Ideal.lean ====
abbrev S8192x2048 : Shape := ⟨2, ![8192, 2048]⟩
abbrev S2048 : Shape := ⟨1, ![2048]⟩
abbrev S2048x11008 : Shape := ⟨2, ![2048, 11008]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x11008 : Shape := ⟨2, ![8192, 11008]⟩
abbrev S8192x5504 : Shape := ⟨2, ![8192, 5504]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x11008, .f32⟩
  | .hbm, ⟨4, _⟩ => ⟨S5504x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x11008, .f32⟩
  | .hbm, ⟨22, _⟩ => ⟨S8192x5504, .f32⟩
  | .hbm, ⟨23, _⟩ => ⟨S8192x5504, .f32⟩
  | .hbm, ⟨24, _⟩ => ⟨S8192x5504, .f32⟩
  | .hbm, ⟨25, _⟩ => ⟨S8192x5504, .f32⟩
  | .hbm, ⟨26, _⟩ => ⟨S_, .f32⟩
  | .hbm, ⟨27, _⟩ => ⟨S8192x5504, .f32⟩
  | .hbm, ⟨28, _⟩ => ⟨S8192x5504, .f32⟩
  | .hbm, ⟨29, _⟩ => ⟨S_, .f32⟩
  | .hbm, ⟨30, _⟩ => ⟨S8192x5504, .f32⟩
  | .hbm, ⟨31, _⟩ => ⟨S8192x5504, .f32⟩
  | .hbm, ⟨32, _⟩ => ⟨S8192x5504, .f32⟩
  | .hbm, ⟨33, _⟩ => ⟨S8192x5504, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel4.lean ====
abbrev S32x2048 : Shape := ⟨2, ![32, 2048]⟩
abbrev S2048 : Shape := ⟨1, ![2048]⟩
abbrev S2048x11008 : Shape := ⟨2, ![2048, 11008]⟩
abbrev S5504x2048 : Shape := ⟨2, ![5504, 2048]⟩
abbrev S1x2048 : Shape := ⟨2, ![1, 2048]⟩
abbrev S2048x512 : Shape := ⟨2, ![2048, 512]⟩
abbrev S512x2048 : Shape := ⟨2, ![512, 2048]⟩
abbrev S2048x384 : Shape := ⟨2, ![2048, 384]⟩
abbrev S384x2048 : Shape := ⟨2, ![384, 2048]⟩
abbrev S32 : Shape := ⟨1, ![32]⟩
abbrev S32x1 : Shape := ⟨2, ![32, 1]⟩
abbrev S32x512 : Shape := ⟨2, ![32, 512]⟩
abbrev S32x384 : Shape := ⟨2, ![32, 384]⟩

abbrev nBuf : Space → Nat
  | .hbm => 8
  | .vmem => 14
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S1x2048, .f32⟩
  | .hbm, ⟨5, _⟩ => ⟨S2048x11008, .bf16⟩
  | .hbm, ⟨6, _⟩ => ⟨S5504x2048, .bf16⟩
  | .hbm, ⟨7, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S2048x384, .bf16⟩
  | .local _ .vmem, ⟨10, _⟩ => ⟨S2048x384, .bf16⟩
  | .local _ .vmem, ⟨11, _⟩ => ⟨S384x2048, .bf16⟩
  | .local _ .vmem, ⟨12, _⟩ => ⟨S32x2048, .f32⟩
  | .local _ .vmem, ⟨13, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let c10_i32 : BitVec 32 := 10#32
  let v7 : BitVec 1 := Scalar.cmpi .slt arg1 c10_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c10_i32_5 : BitVec 32 := 10#32
  let v11 : BitVec 1 := Scalar.cmpi .eq arg1 c10_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c512_i32 : BitVec 32 := 512#32
  let v1 : BitVec 32 := Scalar.muli v0 c512_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c4_i32 : BitVec 32 := 4#32
  let v1 : BitVec 32 := Scalar.muli v0 c4_i32
  let c43_i32 : BitVec 32 := 43#32
  let v2 : BitVec 32 := Scalar.addi c43_i32 v1
  let c128_i32 : BitVec 32 := 128#32
  let v3 : BitVec 32 := Scalar.muli v2 c128_i32
  let c0_i32 : BitVec 32 := 0#32
  let c0_i32_0 : BitVec 32 := 0#32
  ![c0_i32.toNat, v3.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c512_i32 : BitVec 32 := 512#32
  let v1 : BitVec 32 := Scalar.muli v0 c512_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c5120_i32 : BitVec 32 := 5120#32
  let c0_i32_0 : BitVec 32 := 0#32
  ![c0_i32.toNat, c5120_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c10624_i32 : BitVec 32 := 10624#32
  let c0_i32_0 : BitVec 32 := 0#32
  ![c0_i32.toNat, c10624_i32.toNat]

def cc0_transform_8 (i : grid0.Coords) : Fin 2 → Nat :=
  let arg0 : BitVec 32 := BitVec.ofNat 32 (i 0).val
  let arg1 : BitVec 32 := BitVec.ofNat 32 (i 1).val
  let c5120_i32 : BitVec 32 := 5120#32
  let c0_i32 : BitVec 32 := 0#32
  let c0_i32_0 : BitVec 32 := 0#32
  ![c5120_i32.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== Reference4Ideal.lean ====
abbrev S32x2048 : Shape := ⟨2, ![32, 2048]⟩
abbrev S2048 : Shape := ⟨1, ![2048]⟩
abbrev S2048x11008 : Shape := ⟨2, ![2048, 11008]⟩
abbrev S5504x2048 : Shape := ⟨2, ![5504, 2048]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S32x11008 : Shape := ⟨2, ![32, 11008]⟩
abbrev S32x5504 : Shape := ⟨2, ![32, 5504]⟩

abbrev nBuf : Space → Nat
  | .hbm => 38
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S32x2048, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x2048, .f32⟩
  | .hbm, ⟨16, _⟩ => ⟨S32x2048, .f32⟩
  | .hbm, ⟨17, _⟩ => ⟨S1x2048, .f32⟩
  | .hbm, ⟨18, _⟩ => ⟨S32x2048, .f32⟩
  | .hbm, ⟨19, _⟩ => ⟨S32x2048, .f32⟩
  | .hbm, ⟨20, _⟩ => ⟨S32x11008, .f32⟩
  | .hbm, ⟨21, _⟩ => ⟨S32x5504, .f32⟩
  | .hbm, ⟨22, _⟩ => ⟨S32x5504, .f32⟩
  | .hbm, ⟨23, _⟩ => ⟨S32x5504, .f32⟩
  | .hbm, ⟨24, _⟩ => ⟨S32x5504, .f32⟩
  | .hbm, ⟨25, _⟩ => ⟨S_, .f32⟩
  | .hbm, ⟨26, _⟩ => ⟨S32x5504, .f32⟩
  | .hbm, ⟨27, _⟩ => ⟨S32x5504, .f32⟩
  | .hbm, ⟨28, _⟩ => ⟨S_, .f32⟩
  | .hbm, ⟨29, _⟩ => ⟨S32x5504, .f32⟩
  | .hbm, ⟨30, _⟩ => ⟨S32x5504, .f32⟩
  | .hbm, ⟨31, _⟩ => ⟨S32x5504, .f32⟩
  | .hbm, ⟨32, _⟩ => ⟨S32x5504, .f32⟩
  | .hbm, ⟨33, _⟩ => ⟨S32x2048, .f32⟩
  | .hbm, ⟨34, _⟩ => ⟨S_, .f32⟩
  | .hbm, ⟨35, _⟩ => ⟨S32x2048, .f32⟩
  | .hbm, ⟨36, _⟩ => ⟨S32x2048, .f32⟩
  | .hbm, ⟨37, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel5.lean ====
abbrev S8192x2048 : Shape := ⟨2, ![8192, 2048]⟩
abbrev S2048x11352 : Shape := ⟨2, ![2048, 11352]⟩
abbrev S11352x2048 : Shape := ⟨2, ![11352, 2048]⟩
abbrev S_ : Shape := ⟨0, ![]⟩
abbrev S40x2048 : Shape := ⟨2, ![40, 2048]⟩
abbrev S64x2048 : Shape := ⟨2, ![64, 2048]⟩
abbrev S16x2048 : Shape := ⟨2, ![16, 2048]⟩
abbrev S4x2048 : Shape := ⟨2, ![4, 2048]⟩
abbrev S128x2048 : Shape := ⟨2, ![128, 2048]⟩
abbrev S8192x128 : Shape := ⟨2, ![8192, 128]⟩
abbrev S1024x2048 : Shape := ⟨2, ![1024, 2048]⟩
abbrev S1024x128 : Shape := ⟨2, ![1024, 128]⟩
abbrev S2048x128 : Shape := ⟨2, ![2048, 128]⟩

abbrev nBuf : Space → Nat
  | .hbm => 12
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x11352, .f32⟩
  | .hbm, ⟨2, _⟩ => ⟨S11352x2048, .f32⟩
  | .hbm, ⟨3, _⟩ => ⟨S_, .f32⟩
  | .hbm, ⟨4, _⟩ => ⟨S40x2048, .f32⟩
  | .hbm, ⟨5, _⟩ => ⟨S64x2048, .f32⟩
  | .hbm, ⟨6, _⟩ => ⟨S16x2048, .f32⟩
  | .hbm, ⟨7, _⟩ => ⟨S4x2048, .f32⟩
  | .hbm, ⟨8, _⟩ => ⟨S4x2048, .f32⟩
  | .hbm, ⟨9, _⟩ => ⟨S128x2048, .f32⟩
  | .hbm, ⟨10, _⟩ => ⟨S8192x2048, .bf16⟩
  | .hbm, ⟨11, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .f32⟩
  | .local _ .vmem, ⟨3, _⟩ => ⟨S1024x128, .f32⟩
  | .local _ .vmem, ⟨4, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x2048 : Shape := ⟨2, ![8192, 2048]⟩
abbrev S2048x11352 : Shape := ⟨2, ![2048, 11352]⟩
abbrev S8192x11352 : Shape := ⟨2, ![8192, 11352]⟩
abbrev S8192x4 : Shape := ⟨2, ![8192, 4]⟩
abbrev S8192x64 : Shape := ⟨2, ![8192, 64]⟩
abbrev S8192x16 : Shape := ⟨2, ![8192, 16]⟩
abbrev S_ : Shape := ⟨0, ![]⟩
abbrev S8192x40 : Shape := ⟨2, ![8192, 40]⟩
abbrev S8192x128 : Shape := ⟨2, ![8192, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11352, .f32⟩
  | .hbm, ⟨2, _⟩ => ⟨S8192x11352, .f32⟩
  | .hbm, ⟨3, _⟩ => ⟨S8192x4, .f32⟩
  | .hbm, ⟨4, _⟩ => ⟨S8192x4, .f32⟩
  | .hbm, ⟨5, _⟩ => ⟨S8192x64, .f32⟩
  | .hbm, ⟨6, _⟩ => ⟨S8192x16, .f32⟩
  | .hbm, ⟨7, _⟩ => ⟨S_, .f32⟩
  | .hbm, ⟨8, _⟩ => ⟨S8192x40, .f32⟩
  | .hbm, ⟨9, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S32x2048 : Shape := ⟨2, ![32, 2048]⟩
abbrev S2048x11352 : Shape := ⟨2, ![2048, 11352]⟩
abbrev S11352x2048 : Shape := ⟨2, ![11352, 2048]⟩
abbrev S_ : Shape := ⟨0, ![]⟩
abbrev S40x2048 : Shape := ⟨2, ![40, 2048]⟩
abbrev S64x2048 : Shape := ⟨2, ![64, 2048]⟩
abbrev S16x2048 : Shape := ⟨2, ![16, 2048]⟩
abbrev S4x2048 : Shape := ⟨2, ![4, 2048]⟩
abbrev S128x2048 : Shape := ⟨2, ![128, 2048]⟩
abbrev S32x128 : Shape := ⟨2, ![32, 128]⟩
abbrev S2048x128 : Shape := ⟨2, ![2048, 128]⟩

abbrev nBuf : Space → Nat
  | .hbm => 12
  | .vmem => 3
  | .smem => 0
  | _ => 0

abbrev bufTy : (tb : Table) → Fin (tcTables nBuf tb) → BufTy
  | .hbm, ⟨0, _⟩ => ⟨S32x2048, .f32⟩
  | .hbm, ⟨1, _⟩ => ⟨S2048x11352, .f32⟩
  | .hbm, ⟨2, _⟩ => ⟨S11352x2048, .f32⟩
  | .hbm, ⟨3, _⟩ => ⟨S_, .f32⟩
  | .hbm, ⟨4, _⟩ => ⟨S40x2048, .f32⟩
  | .hbm, ⟨5, _⟩ => ⟨S64x2048, .f32⟩
  | .hbm, ⟨6, _⟩ => ⟨S16x2048, .f32⟩
  | .hbm, ⟨7, _⟩ => ⟨S4x2048, .f32⟩
  | .hbm, ⟨8, _⟩ => ⟨S4x2048, .f32⟩
  | .hbm, ⟨9, _⟩ => ⟨S128x2048, .f32⟩
  | .hbm, ⟨10, _⟩ => ⟨S32x2048, .bf16⟩
  | .hbm, ⟨11, _⟩ => ⟨S32x128, .f32⟩
  | .local _ .vmem, ⟨0, _⟩ => ⟨S32x2048, .bf16⟩
  | .local _ .vmem, ⟨1, _⟩ => ⟨S128x2048, .f32⟩
  | .local _ .vmem, ⟨2, _⟩ => ⟨S32x128, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference6Ideal.lean ====
abbrev S32x2048 : Shape := ⟨2, ![32, 2048]⟩
abbrev S2048x11352 : Shape := ⟨2, ![2048, 11352]⟩
abbrev S32x11352 : Shape := ⟨2, ![32, 11352]⟩
abbrev S32x4 : Shape := ⟨2, ![32, 4]⟩
abbrev S32x64 : Shape := ⟨2, ![32, 64]⟩
abbrev S32x16 : Shape := ⟨2, ![32, 16]⟩
abbrev S_ : Shape := ⟨0, ![]⟩
abbrev S32x40 : Shape := ⟨2, ![32, 40]⟩
abbrev S32x128 : Shape := ⟨2, ![32, 128]⟩

abbrev nBuf : Space → Nat
  | .hbm => 10
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048x11352, .f32⟩
  | .hbm, ⟨2, _⟩ => ⟨S32x11352, .f32⟩
  | .hbm, ⟨3, _⟩ => ⟨S32x4, .f32⟩
  | .hbm, ⟨4, _⟩ => ⟨S32x4, .f32⟩
  | .hbm, ⟨5, _⟩ => ⟨S32x64, .f32⟩
  | .hbm, ⟨6, _⟩ => ⟨S32x16, .f32⟩
  | .hbm, ⟨7, _⟩ => ⟨S_, .f32⟩
  | .hbm, ⟨8, _⟩ => ⟨S32x40, .f32⟩
  | .hbm, ⟨9, _⟩ => ⟨S32x128, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S8192x11352 : Shape := ⟨2, ![8192, 11352]⟩
abbrev S8192x2048 : Shape := ⟨2, ![8192, 2048]⟩
abbrev S1024x2048 : Shape := ⟨2, ![1024, 2048]⟩
abbrev S2048x2048 : Shape := ⟨2, ![2048, 2048]⟩
abbrev S8192x4 : Shape := ⟨2, ![8192, 4]⟩
abbrev S8192x64 : Shape := ⟨2, ![8192, 64]⟩
abbrev S8192x16 : Shape := ⟨2, ![8192, 16]⟩
abbrev S8192x4096 : Shape := ⟨2, ![8192, 4096]⟩
abbrev S8192x11264 : Shape := ⟨2, ![8192, 11264]⟩
abbrev S_ : Shape := ⟨0, ![]⟩
abbrev S8192x40 : Shape := ⟨2, ![8192, 40]⟩
abbrev S8192x128 : Shape := ⟨2, ![8192, 128]⟩
abbrev S256x1024 : Shape := ⟨2, ![256, 1024]⟩
abbrev S256x2048 : Shape := ⟨2, ![256, 2048]⟩

abbrev nBuf : Space → Nat
  | .hbm => 29
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x11352, .f32⟩
  | .hbm, ⟨3, _⟩ => ⟨S8192x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x4, .f32⟩
  | .hbm, ⟨11, _⟩ => ⟨S8192x4, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x64, .f32⟩
  | .hbm, ⟨17, _⟩ => ⟨S8192x16, .f32⟩
  | .hbm, ⟨18, _⟩ => ⟨S8192x4096, .f32⟩
  | .hbm, ⟨19, _⟩ => ⟨S8192x11264, .f32⟩
  | .hbm, ⟨20, _⟩ => ⟨S_, .f32⟩
  | .hbm, ⟨21, _⟩ => ⟨S8192x40, .f32⟩
  | .hbm, ⟨22, _⟩ => ⟨S8192x128, .f32⟩
  | .hbm, ⟨23, _⟩ => ⟨S8192x1024, .bf16⟩
  | .hbm, ⟨24, _⟩ => ⟨S8192x1024, .bf16⟩
  | .hbm, ⟨25, _⟩ => ⟨S1024x2048, .bf16⟩
  | .hbm, ⟨26, _⟩ => ⟨S1024x2048, .bf16⟩
  | .hbm, ⟨27, _⟩ => ⟨S2048x2048, .bf16⟩
  | .hbm, ⟨28, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8192x1024 : Shape := ⟨2, ![8192, 1024]⟩
abbrev S8192x11352 : Shape := ⟨2, ![8192, 11352]⟩
abbrev S8192x2048 : Shape := ⟨2, ![8192, 2048]⟩
abbrev S1024x2048 : Shape := ⟨2, ![1024, 2048]⟩
abbrev S2048x2048 : Shape := ⟨2, ![2048, 2048]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x11352, .f32⟩
  | .hbm, ⟨3, _⟩ => ⟨S8192x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel8.lean ====
abbrev S8192x11352 : Shape := ⟨2, ![8192, 11352]⟩
abbrev S128 : Shape := ⟨1, ![128]⟩
abbrev S8192x1024 : Shape := ⟨2, ![8192, 1024]⟩
abbrev S8192x4 : Shape := ⟨2, ![8192, 4]⟩
abbrev S8192x64 : Shape := ⟨2, ![8192, 64]⟩
abbrev S8192x16 : Shape := ⟨2, ![8192, 16]⟩
abbrev S8192x4096 : Shape := ⟨2, ![8192, 4096]⟩
abbrev S8192x11264 : Shape := ⟨2, ![8192, 11264]⟩
abbrev S_ : Shape := ⟨0, ![]⟩
abbrev S8192x40 : Shape := ⟨2, ![8192, 40]⟩
abbrev S8192x128 : Shape := ⟨2, ![8192, 128]⟩
abbrev S1x128 : Shape := ⟨2, ![1, 128]⟩
abbrev S8x128 : Shape := ⟨2, ![8, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 25
  | .vmem => 18
  | .smem => 0
  | _ => 0

abbrev bufTy : (tb : Table) → Fin (tcTables nBuf tb) → BufTy
  | .hbm, ⟨0, _⟩ => ⟨S8192x11352, .f32⟩
  | .hbm, ⟨1, _⟩ => ⟨S128, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x4, .f32⟩
  | .hbm, ⟨6, _⟩ => ⟨S8192x4, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x64, .f32⟩
  | .hbm, ⟨12, _⟩ => ⟨S8192x16, .f32⟩
  | .hbm, ⟨13, _⟩ => ⟨S8192x4096, .f32⟩
  | .hbm, ⟨14, _⟩ => ⟨S8192x11264, .f32⟩
  | .hbm, ⟨15, _⟩ => ⟨S_, .f32⟩
  | .hbm, ⟨16, _⟩ => ⟨S8192x40, .f32⟩
  | .hbm, ⟨17, _⟩ => ⟨S8192x128, .f32⟩
  | .hbm, ⟨18, _⟩ => ⟨S1x128, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x1024, .bf16⟩
  | .hbm, ⟨23, _⟩ => ⟨S8192x128, .bf16⟩
  | .hbm, ⟨24, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x128, .bf16⟩
  | .local _ .vmem, ⟨16, _⟩ => ⟨S512x128, .bf16⟩
  | .local _ .vmem, ⟨17, _⟩ => ⟨S8x128, .f32⟩
  | _, _ => ⟨S8192x11352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16_0 : Ref sig .tc := ⟨.hbm, 19, rfl⟩
abbrev main_v16_1 : Ref sig .tc := ⟨.hbm, 20, rfl⟩
abbrev main_v16_2 : Ref sig .tc := ⟨.hbm, 21, rfl⟩
abbrev main_v16_3 : Ref sig .tc := ⟨.hbm, 22, rfl⟩
abbrev main_v16_4 : Ref sig .tc := ⟨.hbm, 23, rfl⟩
abbrev main_v16_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S8192x11352 : Shape := ⟨2, ![8192, 11352]⟩
abbrev S128 : Shape := ⟨1, ![128]⟩
abbrev S8192x1024 : Shape := ⟨2, ![8192, 1024]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S8 : Shape := ⟨1, ![8]⟩
abbrev S8192x64 : Shape := ⟨2, ![8192, 64]⟩
abbrev S8192x16 : Shape := ⟨2, ![8192, 16]⟩
abbrev S8192x4 : Shape := ⟨2, ![8192, 4]⟩
abbrev S8192x40 : Shape := ⟨2, ![8192, 40]⟩
abbrev S8192x128 : Shape := ⟨2, ![8192, 128]⟩
abbrev S8x1 : Shape := ⟨2, ![8, 1]⟩
abbrev S8x128 : Shape := ⟨2, ![8, 128]⟩

abbrev nBuf : Space → Nat
  | .hbm => 44
  | .vmem => 0
  | .smem => 0
  | _ => 0

abbrev bufTy : (tb : Table) → Fin (tcTables nBuf tb) → BufTy
  | .hbm, ⟨0, _⟩ => ⟨S8192x11352, .f32⟩
  | .hbm, ⟨1, _⟩ => ⟨S128, .f32⟩
  | .hbm, ⟨2, _⟩ => ⟨S8192x1024, .f32⟩
  | .hbm, ⟨3, _⟩ => ⟨S8192x1024, .f32⟩
  | .hbm, ⟨4, _⟩ => ⟨S8192x8x128, .f32⟩
  | .hbm, ⟨5, _⟩ => ⟨S8192x8x128, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x128, .f32⟩
  | .hbm, ⟨17, _⟩ => ⟨S8192x8x128, .f32⟩
  | .hbm, ⟨18, _⟩ => ⟨S1x1x128, .f32⟩
  | .hbm, ⟨19, _⟩ => ⟨S8192x8x128, .f32⟩
  | .hbm, ⟨20, _⟩ => ⟨S8192x8x128, .f32⟩
  | .hbm, ⟨21, _⟩ => ⟨S8192x8x128, .bf16⟩
  | .hbm, ⟨22, _⟩ => ⟨S8192x8x128, .f32⟩
  | .hbm, ⟨23, _⟩ => ⟨S8192x8x128, .f32⟩
  | .hbm, ⟨24, _⟩ => ⟨S_, .f32⟩
  | .hbm, ⟨25, _⟩ => ⟨S8192x8, .f32⟩
  | .hbm, ⟨26, _⟩ => ⟨S_, .f32⟩
  | .hbm, ⟨27, _⟩ => ⟨S8, .f32⟩
  | .hbm, ⟨28, _⟩ => ⟨S8192x1024, .f32⟩
  | .hbm, ⟨29, _⟩ => ⟨S8192x64, .f32⟩
  | .hbm, ⟨30, _⟩ => ⟨S8192x16, .f32⟩
  | .hbm, ⟨31, _⟩ => ⟨S8192x4, .f32⟩
  | .hbm, ⟨32, _⟩ => ⟨S8192x4, .f32⟩
  | .hbm, ⟨33, _⟩ => ⟨S_, .f32⟩
  | .hbm, ⟨34, _⟩ => ⟨S8192x40, .f32⟩
  | .hbm, ⟨35, _⟩ => ⟨S8192x128, .f32⟩
  | .hbm, ⟨36, _⟩ => ⟨S8192x1024, .bf16⟩
  | .hbm, ⟨37, _⟩ => ⟨S8192x1024, .bf16⟩
  | .hbm, ⟨38, _⟩ => ⟨S8192x128, .bf16⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8x1, .f32⟩
  | .hbm, ⟨43, _⟩ => ⟨S8x128, .f32⟩
  | _, _ => ⟨S8192x11352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel9.lean ====
abbrev S8192x2048 : Shape := ⟨2, ![8192, 2048]⟩
abbrev S2048x11352 : Shape := ⟨2, ![2048, 11352]⟩
abbrev S11 : Shape := ⟨1, ![11]⟩
abbrev S11352x2048 : Shape := ⟨2, ![11352, 2048]⟩
abbrev S_ : Shape := ⟨0, ![]⟩
abbrev S40x2048 : Shape := ⟨2, ![40, 2048]⟩
abbrev S64x2048 : Shape := ⟨2, ![64, 2048]⟩
abbrev S16x2048 : Shape := ⟨2, ![16, 2048]⟩
abbrev S4x2048 : Shape := ⟨2, ![4, 2048]⟩
abbrev S128x2048 : Shape := ⟨2, ![128, 2048]⟩
abbrev S8192x11264 : Shape := ⟨2, ![8192, 11264]⟩
abbrev S1024x2048 : Shape := ⟨2, ![1024, 2048]⟩
abbrev S1 : Shape := ⟨1, ![1]⟩
abbrev S1024x1024 : Shape := ⟨2, ![1024, 1024]⟩
abbrev S2048x1024 : Shape := ⟨2, ![2048, 1024]⟩

abbrev nBuf : Space → Nat
  | .hbm => 12
  | .vmem => 7
  | .smem => 1
  | _ => 0

abbrev bufTy : (tb : Table) → Fin (tcTables nBuf tb) → BufTy
  | .hbm, ⟨0, _⟩ => ⟨S8192x2048, .f32⟩
  | .hbm, ⟨1, _⟩ => ⟨S2048x11352, .f32⟩
  | .hbm, ⟨2, _⟩ => ⟨S11352x2048, .f32⟩
  | .hbm, ⟨3, _⟩ => ⟨S_, .f32⟩
  | .hbm, ⟨4, _⟩ => ⟨S40x2048, .f32⟩
  | .hbm, ⟨5, _⟩ => ⟨S64x2048, .f32⟩
  | .hbm, ⟨6, _⟩ => ⟨S16x2048, .f32⟩
  | .hbm, ⟨7, _⟩ => ⟨S4x2048, .f32⟩
  | .hbm, ⟨8, _⟩ => ⟨S4x2048, .f32⟩
  | .hbm, ⟨9, _⟩ => ⟨S128x2048, .f32⟩
  | .hbm, ⟨10, _⟩ => ⟨S8192x2048, .bf16⟩
  | .hbm, ⟨11, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | .local _ .smem, ⟨0, _⟩ => ⟨S11, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  let c8_i32 : BitVec 32 := 8#32
  let v2 : BitVec 32 := Scalar.muli v1 c8_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S11.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S11) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x2048 : Shape := ⟨2, ![8192, 2048]⟩
abbrev S2048x11352 : Shape := ⟨2, ![2048, 11352]⟩
abbrev S8192x11352 : Shape := ⟨2, ![8192, 11352]⟩
abbrev S8192x4096 : Shape := ⟨2, ![8192, 4096]⟩
abbrev S8192x3072 : Shape := ⟨2, ![8192, 3072]⟩
abbrev S8192x11264 : Shape := ⟨2, ![8192, 11264]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11352, .f32⟩
  | .hbm, ⟨2, _⟩ => ⟨S8192x11352, .f32⟩
  | .hbm, ⟨3, _⟩ => ⟨S8192x4096, .f32⟩
  | .hbm, ⟨4, _⟩ => ⟨S8192x3072, .f32⟩
  | .hbm, ⟨5, _⟩ => ⟨S8192x4096, .f32⟩
  | .hbm, ⟨6, _⟩ => ⟨S8192x11264, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S32x11352 : Shape := ⟨2, ![32, 11352]⟩
abbrev S128 : Shape := ⟨1, ![128]⟩
abbrev S32x1024 : Shape := ⟨2, ![32, 1024]⟩
abbrev S32x4 : Shape := ⟨2, ![32, 4]⟩
abbrev S32x64 : Shape := ⟨2, ![32, 64]⟩
abbrev S32x16 : Shape := ⟨2, ![32, 16]⟩
abbrev S32x4096 : Shape := ⟨2, ![32, 4096]⟩
abbrev S32x11264 : Shape := ⟨2, ![32, 11264]⟩
abbrev S_ : Shape := ⟨0, ![]⟩
abbrev S32x40 : Shape := ⟨2, ![32, 40]⟩
abbrev S32x128 : Shape := ⟨2, ![32, 128]⟩
abbrev S1x128 : Shape := ⟨2, ![1, 128]⟩
abbrev S32 : Shape := ⟨1, ![32]⟩
abbrev S32x1 : Shape := ⟨2, ![32, 1]⟩

abbrev nBuf : Space → Nat
  | .hbm => 25
  | .vmem => 11
  | .smem => 0
  | _ => 0

abbrev bufTy : (tb : Table) → Fin (tcTables nBuf tb) → BufTy
  | .hbm, ⟨0, _⟩ => ⟨S32x11352, .f32⟩
  | .hbm, ⟨1, _⟩ => ⟨S128, .f32⟩
  | .hbm, ⟨2, _⟩ => ⟨S128, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x4, .f32⟩
  | .hbm, ⟨7, _⟩ => ⟨S32x4, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x64, .f32⟩
  | .hbm, ⟨13, _⟩ => ⟨S32x16, .f32⟩
  | .hbm, ⟨14, _⟩ => ⟨S32x4096, .f32⟩
  | .hbm, ⟨15, _⟩ => ⟨S32x11264, .f32⟩
  | .hbm, ⟨16, _⟩ => ⟨S_, .f32⟩
  | .hbm, ⟨17, _⟩ => ⟨S32x40, .f32⟩
  | .hbm, ⟨18, _⟩ => ⟨S32x128, .f32⟩
  | .hbm, ⟨19, _⟩ => ⟨S1x128, .f32⟩
  | .hbm, ⟨20, _⟩ => ⟨S1x128, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x128, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x128, .f32⟩
  | .local _ .vmem, ⟨5, _⟩ => ⟨S1x128, .f32⟩
  | .local _ .vmem, ⟨6, _⟩ => ⟨S1x128, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x128, .f32⟩
  | _, _ => ⟨S32x11352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17_0 : Ref sig .tc := ⟨.hbm, 21, rfl⟩
abbrev main_v17_1 : Ref sig .tc := ⟨.hbm, 22, rfl⟩
abbrev main_v17_2 : Ref sig .tc := ⟨.hbm, 23, rfl⟩
abbrev main_v17_3 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_1 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_2 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_3 (i : grid0.Coords) : Fin 2 → Nat :=
  let arg0 : BitVec 32 := BitVec.ofNat 32 (i 0).val
  let c0_i32 : BitVec 32 := 0#32
  let c10_i32 : BitVec 32 := 10#32
  let c0_i32_0 : BitVec 32 := 0#32
  ![c0_i32.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S32x11352 : Shape := ⟨2, ![32, 11352]⟩
abbrev S128 : Shape := ⟨1, ![128]⟩
abbrev S32x1024 : Shape := ⟨2, ![32, 1024]⟩
abbrev S32x8x128 : Shape := ⟨3, ![32, 8, 128]⟩
abbrev S_ : Shape := ⟨0, ![]⟩
abbrev S32x8 : Shape := ⟨2, ![32, 8]⟩
abbrev S32x8x1 : Shape := ⟨3, ![32, 8, 1]⟩
abbrev S1x1x128 : Shape := ⟨3, ![1, 1, 128]⟩
abbrev S32x16x64 : Shape := ⟨3, ![32, 16, 64]⟩
abbrev S32x16 : Shape := ⟨2, ![32, 16]⟩
abbrev S32x64 : Shape := ⟨2, ![32, 64]⟩
abbrev S32 : Shape := ⟨1, ![32]⟩
abbrev S32x1 : Shape := ⟨2, ![32, 1]⟩
abbrev S32x128 : Shape := ⟨2, ![32, 128]⟩

abbrev nBuf : Space → Nat
  | .hbm => 59
  | .vmem => 0
  | .smem => 0
  | _ => 0

abbrev bufTy : (tb : Table) → Fin (tcTables nBuf tb) → BufTy
  | .hbm, ⟨0, _⟩ => ⟨S32x11352, .f32⟩
  | .hbm, ⟨1, _⟩ => ⟨S128, .f32⟩
  | .hbm, ⟨2, _⟩ => ⟨S128, .f32⟩
  | .hbm, ⟨3, _⟩ => ⟨S32x1024, .f32⟩
  | .hbm, ⟨4, _⟩ => ⟨S32x8x128, .f32⟩
  | .hbm, ⟨5, _⟩ => ⟨S32x8x128, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S32x8x1, .f32⟩
  | .hbm, ⟨16, _⟩ => ⟨S32x8x128, .f32⟩
  | .hbm, ⟨17, _⟩ => ⟨S32x8x128, .f32⟩
  | .hbm, ⟨18, _⟩ => ⟨S1x1x128, .f32⟩
  | .hbm, ⟨19, _⟩ => ⟨S32x8x128, .f32⟩
  | .hbm, ⟨20, _⟩ => ⟨S32x8x128, .f32⟩
  | .hbm, ⟨21, _⟩ => ⟨S_, .f32⟩
  | .hbm, ⟨22, _⟩ => ⟨S32x8x128, .f32⟩
  | .hbm, ⟨23, _⟩ => ⟨S32x8x128, .f32⟩
  | .hbm, ⟨24, _⟩ => ⟨S32x1024, .f32⟩
  | .hbm, ⟨25, _⟩ => ⟨S32x8x128, .f32⟩
  | .hbm, ⟨26, _⟩ => ⟨S32x8x128, .f32⟩
  | .hbm, ⟨27, _⟩ => ⟨S_, .f32⟩
  | .hbm, ⟨28, _⟩ => ⟨S32x8, .f32⟩
  | .hbm, ⟨29, _⟩ => ⟨S32x8x1, .f32⟩
  | .hbm, ⟨30, _⟩ => ⟨S_, .f32⟩
  | .hbm, ⟨31, _⟩ => ⟨S32x8x1, .f32⟩
  | .hbm, ⟨32, _⟩ => ⟨S32x8x1, .f32⟩
  | .hbm, ⟨33, _⟩ => ⟨S_, .f32⟩
  | .hbm, ⟨34, _⟩ => ⟨S32x8x1, .f32⟩
  | .hbm, ⟨35, _⟩ => ⟨S32x8x1, .f32⟩
  | .hbm, ⟨36, _⟩ => ⟨S32x8x1, .f32⟩
  | .hbm, ⟨37, _⟩ => ⟨S32x8x128, .f32⟩
  | .hbm, ⟨38, _⟩ => ⟨S32x8x128, .f32⟩
  | .hbm, ⟨39, _⟩ => ⟨S1x1x128, .f32⟩
  | .hbm, ⟨40, _⟩ => ⟨S32x8x128, .f32⟩
  | .hbm, ⟨41, _⟩ => ⟨S32x8x128, .f32⟩
  | .hbm, ⟨42, _⟩ => ⟨S32x1024, .f32⟩
  | .hbm, ⟨43, _⟩ => ⟨S32x16x64, .f32⟩
  | .hbm, ⟨44, _⟩ => ⟨S32x16, .f32⟩
  | .hbm, ⟨45, _⟩ => ⟨S_, .f32⟩
  | .hbm, ⟨46, _⟩ => ⟨S32x16, .f32⟩
  | .hbm, ⟨47, _⟩ => ⟨S32x16, .f32⟩
  | .hbm, ⟨48, _⟩ => ⟨S32x64, .f32⟩
  | .hbm, ⟨49, _⟩ => ⟨S32x16, .f32⟩
  | .hbm, ⟨50, _⟩ => ⟨S_, .f32⟩
  | .hbm, ⟨51, _⟩ => ⟨S32x16, .f32⟩
  | .hbm, ⟨52, _⟩ => ⟨S32x16, .f32⟩
  | .hbm, ⟨53, _⟩ => ⟨S32, .f32⟩
  | .hbm, ⟨54, _⟩ => ⟨S32x1024, .f32⟩
  | .hbm, ⟨55, _⟩ => ⟨S32x1024, .f32⟩
  | .hbm, ⟨56, _⟩ => ⟨S32x1024, .f32⟩
  | .hbm, ⟨57, _⟩ => ⟨S32x1, .f32⟩
  | .hbm, ⟨58, _⟩ => ⟨S32x128, .f32⟩
  | _, _ => ⟨S32x11352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_cst : Ref sig .tc := ⟨.hbm, 50, rfl⟩
abbrev main_call0_v0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Kernel11.lean ====
abbrev S32x1024 : Shape := ⟨2, ![32, 1024]⟩
abbrev S32x11352 : Shape := ⟨2, ![32, 11352]⟩
abbrev S32x2048 : Shape := ⟨2, ![32, 2048]⟩
abbrev S1024x2048 : Shape := ⟨2, ![1024, 2048]⟩
abbrev S2048x2048 : Shape := ⟨2, ![2048, 2048]⟩
abbrev S32x4 : Shape := ⟨2, ![32, 4]⟩
abbrev S32x64 : Shape := ⟨2, ![32, 64]⟩
abbrev S32x16 : Shape := ⟨2, ![32, 16]⟩
abbrev S32x4096 : Shape := ⟨2, ![32, 4096]⟩
abbrev S32x11264 : Shape := ⟨2, ![32, 11264]⟩
abbrev S_ : Shape := ⟨0, ![]⟩
abbrev S32x40 : Shape := ⟨2, ![32, 40]⟩
abbrev S32x128 : Shape := ⟨2, ![32, 128]⟩

abbrev nBuf : Space → Nat
  | .hbm => 28
  | .vmem => 9
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x11352, .f32⟩
  | .hbm, ⟨3, _⟩ => ⟨S32x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x4, .f32⟩
  | .hbm, ⟨11, _⟩ => ⟨S32x4, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S32x64, .f32⟩
  | .hbm, ⟨17, _⟩ => ⟨S32x16, .f32⟩
  | .hbm, ⟨18, _⟩ => ⟨S32x4096, .f32⟩
  | .hbm, ⟨19, _⟩ => ⟨S32x11264, .f32⟩
  | .hbm, ⟨20, _⟩ => ⟨S_, .f32⟩
  | .hbm, ⟨21, _⟩ => ⟨S32x40, .f32⟩
  | .hbm, ⟨22, _⟩ => ⟨S32x128, .f32⟩
  | .hbm, ⟨23, _⟩ => ⟨S32x1024, .bf16⟩
  | .hbm, ⟨24, _⟩ => ⟨S1024x2048, .bf16⟩
  | .hbm, ⟨25, _⟩ => ⟨S1024x2048, .bf16⟩
  | .hbm, ⟨26, _⟩ => ⟨S2048x2048, .bf16⟩
  | .hbm, ⟨27, _⟩ => ⟨S32x2048, .f32⟩
  | .local _ .vmem, ⟨0, _⟩ => ⟨S32x1024, .bf16⟩
  | .local _ .vmem, ⟨1, _⟩ => ⟨S32x1024, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S1024x2048, .bf16⟩
  | .local _ .vmem, ⟨6, _⟩ => ⟨S1024x2048, .bf16⟩
  | .local _ .vmem, ⟨7, _⟩ => ⟨S2048x2048, .bf16⟩
  | .local _ .vmem, ⟨8, _⟩ => ⟨S32x2048, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference11Ideal.lean ====
abbrev S32x1024 : Shape := ⟨2, ![32, 1024]⟩
abbrev S32x11352 : Shape := ⟨2, ![32, 11352]⟩
abbrev S32x2048 : Shape := ⟨2, ![32, 2048]⟩
abbrev S1024x2048 : Shape := ⟨2, ![1024, 2048]⟩
abbrev S2048x2048 : Shape := ⟨2, ![2048, 2048]⟩
abbrev S32x4096 : Shape := ⟨2, ![32, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x11352, .f32⟩
  | .hbm, ⟨3, _⟩ => ⟨S32x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S32x4096, .f32⟩
  | .hbm, ⟨8, _⟩ => ⟨S32x4096, .f32⟩
  | .hbm, ⟨9, _⟩ => ⟨S32x4096, .f32⟩
  | .hbm, ⟨10, _⟩ => ⟨S_, .f32⟩
  | .hbm, ⟨11, _⟩ => ⟨S32x4096, .f32⟩
  | .hbm, ⟨12, _⟩ => ⟨S32x4096, .f32⟩
  | .hbm, ⟨13, _⟩ => ⟨S_, .f32⟩
  | .hbm, ⟨14, _⟩ => ⟨S32x4096, .f32⟩
  | .hbm, ⟨15, _⟩ => ⟨S32x4096, .f32⟩
  | .hbm, ⟨16, _⟩ => ⟨S32x2048, .f32⟩
  | .hbm, ⟨17, _⟩ => ⟨S32x2048, .f32⟩
  | .hbm, ⟨18, _⟩ => ⟨S32x2048, .f32⟩
  | .hbm, ⟨19, _⟩ => ⟨S32x2048, .f32⟩
  | .hbm, ⟨20, _⟩ => ⟨S32x2048, .f32⟩
  | .hbm, ⟨21, _⟩ => ⟨S32x2048, .f32⟩
  | .hbm, ⟨22, _⟩ => ⟨S32x2048, .f32⟩
  | .hbm, ⟨23, _⟩ => ⟨S32x2048, .f32⟩
  | .hbm, ⟨24, _⟩ => ⟨S32x2048, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel12.lean ====
abbrev S32x2048 : Shape := ⟨2, ![32, 2048]⟩
abbrev S2048x11352 : Shape := ⟨2, ![2048, 11352]⟩
abbrev S11 : Shape := ⟨1, ![11]⟩
abbrev S11352x2048 : Shape := ⟨2, ![11352, 2048]⟩
abbrev S_ : Shape := ⟨0, ![]⟩
abbrev S40x2048 : Shape := ⟨2, ![40, 2048]⟩
abbrev S64x2048 : Shape := ⟨2, ![64, 2048]⟩
abbrev S16x2048 : Shape := ⟨2, ![16, 2048]⟩
abbrev S4x2048 : Shape := ⟨2, ![4, 2048]⟩
abbrev S128x2048 : Shape := ⟨2, ![128, 2048]⟩
abbrev S32x11264 : Shape := ⟨2, ![32, 11264]⟩
abbrev S1024x2048 : Shape := ⟨2, ![1024, 2048]⟩
abbrev S1 : Shape := ⟨1, ![1]⟩
abbrev S32x1024 : Shape := ⟨2, ![32, 1024]⟩
abbrev S2048x1024 : Shape := ⟨2, ![2048, 1024]⟩

abbrev nBuf : Space → Nat
  | .hbm => 12
  | .vmem => 6
  | .smem => 1
  | _ => 0

abbrev bufTy : (tb : Table) → Fin (tcTables nBuf tb) → BufTy
  | .hbm, ⟨0, _⟩ => ⟨S32x2048, .f32⟩
  | .hbm, ⟨1, _⟩ => ⟨S2048x11352, .f32⟩
  | .hbm, ⟨2, _⟩ => ⟨S11352x2048, .f32⟩
  | .hbm, ⟨3, _⟩ => ⟨S_, .f32⟩
  | .hbm, ⟨4, _⟩ => ⟨S40x2048, .f32⟩
  | .hbm, ⟨5, _⟩ => ⟨S64x2048, .f32⟩
  | .hbm, ⟨6, _⟩ => ⟨S16x2048, .f32⟩
  | .hbm, ⟨7, _⟩ => ⟨S4x2048, .f32⟩
  | .hbm, ⟨8, _⟩ => ⟨S4x2048, .f32⟩
  | .hbm, ⟨9, _⟩ => ⟨S128x2048, .f32⟩
  | .hbm, ⟨10, _⟩ => ⟨S32x2048, .bf16⟩
  | .hbm, ⟨11, _⟩ => ⟨S32x11264, .f32⟩
  | .local _ .vmem, ⟨0, _⟩ => ⟨S32x2048, .bf16⟩
  | .local _ .vmem, ⟨1, _⟩ => ⟨S1024x2048, .f32⟩
  | .local _ .vmem, ⟨2, _⟩ => ⟨S1024x2048, .f32⟩
  | .local _ .vmem, ⟨3, _⟩ => ⟨S32x1024, .f32⟩
  | .local _ .vmem, ⟨4, _⟩ => ⟨S32x1024, .f32⟩
  | .local _ .vmem, ⟨5, _⟩ => ⟨S2048x1024, .bf16⟩
  | .local _ .smem, ⟨0, _⟩ => ⟨S11, .i32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  let c8_i32 : BitVec 32 := 8#32
  let v2 : BitVec 32 := Scalar.muli v1 c8_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S11.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S11) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S32x2048 : Shape := ⟨2, ![32, 2048]⟩
abbrev S2048x11352 : Shape := ⟨2, ![2048, 11352]⟩
abbrev S32x11352 : Shape := ⟨2, ![32, 11352]⟩
abbrev S32x4096 : Shape := ⟨2, ![32, 4096]⟩
abbrev S32x3072 : Shape := ⟨2, ![32, 3072]⟩
abbrev S32x11264 : Shape := ⟨2, ![32, 11264]⟩

abbrev nBuf : Space → Nat
  | .hbm => 7
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048x11352, .f32⟩
  | .hbm, ⟨2, _⟩ => ⟨S32x11352, .f32⟩
  | .hbm, ⟨3, _⟩ => ⟨S32x4096, .f32⟩
  | .hbm, ⟨4, _⟩ => ⟨S32x3072, .f32⟩
  | .hbm, ⟨5, _⟩ => ⟨S32x4096, .f32⟩
  | .hbm, ⟨6, _⟩ => ⟨S32x11264, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S32x2048 : Shape := ⟨2, ![32, 2048]⟩
abbrev S2048 : Shape := ⟨1, ![2048]⟩
abbrev S2048x11008 : Shape := ⟨2, ![2048, 11008]⟩
abbrev S5504x2048 : Shape := ⟨2, ![5504, 2048]⟩
abbrev S1x2048 : Shape := ⟨2, ![1, 2048]⟩
abbrev S2048x512 : Shape := ⟨2, ![2048, 512]⟩
abbrev S512x2048 : Shape := ⟨2, ![512, 2048]⟩
abbrev S2048x384 : Shape := ⟨2, ![2048, 384]⟩
abbrev S384x2048 : Shape := ⟨2, ![384, 2048]⟩
abbrev S32 : Shape := ⟨1, ![32]⟩
abbrev S32x1 : Shape := ⟨2, ![32, 1]⟩
abbrev S32x512 : Shape := ⟨2, ![32, 512]⟩
abbrev S32x384 : Shape := ⟨2, ![32, 384]⟩

abbrev nBuf : Space → Nat
  | .hbm => 11
  | .vmem => 15
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048, .f32⟩
  | .hbm, ⟨3, _⟩ => ⟨S2048x11008, .f32⟩
  | .hbm, ⟨4, _⟩ => ⟨S5504x2048, .f32⟩
  | .hbm, ⟨5, _⟩ => ⟨S1x2048, .f32⟩
  | .hbm, ⟨6, _⟩ => ⟨S2048x11008, .bf16⟩
  | .hbm, ⟨7, _⟩ => ⟨S5504x2048, .bf16⟩
  | .hbm, ⟨8, _⟩ => ⟨S1x2048, .f32⟩
  | .hbm, ⟨9, _⟩ => ⟨S32x2048, .f32⟩
  | .hbm, ⟨10, _⟩ => ⟨S32x2048, .bf16⟩
  | .local _ .vmem, ⟨0, _⟩ => ⟨S32x2048, .f32⟩
  | .local _ .vmem, ⟨1, _⟩ => ⟨S1x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S2048x384, .bf16⟩
  | .local _ .vmem, ⟨10, _⟩ => ⟨S2048x384, .bf16⟩
  | .local _ .vmem, ⟨11, _⟩ => ⟨S384x2048, .bf16⟩
  | .local _ .vmem, ⟨12, _⟩ => ⟨S32x2048, .f32⟩
  | .local _ .vmem, ⟨13, _⟩ => ⟨S32x2048, .bf16⟩
  | .local _ .vmem, ⟨14, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let c10_i32 : BitVec 32 := 10#32
  let v7 : BitVec 1 := Scalar.cmpi .slt arg1 c10_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c10_i32_5 : BitVec 32 := 10#32
  let v11 : BitVec 1 := Scalar.cmpi .eq arg1 c10_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c512_i32 : BitVec 32 := 512#32
  let v1 : BitVec 32 := Scalar.muli v0 c512_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c4_i32 : BitVec 32 := 4#32
  let v1 : BitVec 32 := Scalar.muli v0 c4_i32
  let c43_i32 : BitVec 32 := 43#32
  let v2 : BitVec 32 := Scalar.addi c43_i32 v1
  let c128_i32 : BitVec 32 := 128#32
  let v3 : BitVec 32 := Scalar.muli v2 c128_i32
  let c0_i32 : BitVec 32 := 0#32
  let c0_i32_0 : BitVec 32 := 0#32
  ![c0_i32.toNat, v3.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c512_i32 : BitVec 32 := 512#32
  let v1 : BitVec 32 := Scalar.muli v0 c512_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c5120_i32 : BitVec 32 := 5120#32
  let c0_i32_0 : BitVec 32 := 0#32
  ![c0_i32.toNat, c5120_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c10624_i32 : BitVec 32 := 10624#32
  let c0_i32_0 : BitVec 32 := 0#32
  ![c0_i32.toNat, c10624_i32.toNat]

def cc0_transform_8 (i : grid0.Coords) : Fin 2 → Nat :=
  let arg0 : BitVec 32 := BitVec.ofNat 32 (i 0).val
  let arg1 : BitVec 32 := BitVec.ofNat 32 (i 1).val
  let c5120_i32 : BitVec 32 := 5120#32
  let c0_i32 : BitVec 32 := 0#32
  let c0_i32_0 : BitVec 32 := 0#32
  ![c5120_i32.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S32x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== Reference13Ideal.lean ====
abbrev S32x2048 : Shape := ⟨2, ![32, 2048]⟩
abbrev S2048 : Shape := ⟨1, ![2048]⟩
abbrev S2048x11008 : Shape := ⟨2, ![2048, 11008]⟩
abbrev S5504x2048 : Shape := ⟨2, ![5504, 2048]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S32x11008 : Shape := ⟨2, ![32, 11008]⟩
abbrev S32x5504 : Shape := ⟨2, ![32, 5504]⟩

abbrev nBuf : Space → Nat
  | .hbm => 56
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048, .f32⟩
  | .hbm, ⟨3, _⟩ => ⟨S2048x11008, .f32⟩
  | .hbm, ⟨4, _⟩ => ⟨S5504x2048, .f32⟩
  | .hbm, ⟨5, _⟩ => ⟨S32x2048, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x2048, .f32⟩
  | .hbm, ⟨17, _⟩ => ⟨S32x2048, .f32⟩
  | .hbm, ⟨18, _⟩ => ⟨S1x2048, .f32⟩
  | .hbm, ⟨19, _⟩ => ⟨S32x2048, .f32⟩
  | .hbm, ⟨20, _⟩ => ⟨S32x2048, .f32⟩
  | .hbm, ⟨21, _⟩ => ⟨S32x11008, .f32⟩
  | .hbm, ⟨22, _⟩ => ⟨S32x5504, .f32⟩
  | .hbm, ⟨23, _⟩ => ⟨S32x5504, .f32⟩
  | .hbm, ⟨24, _⟩ => ⟨S32x5504, .f32⟩
  | .hbm, ⟨25, _⟩ => ⟨S32x5504, .f32⟩
  | .hbm, ⟨26, _⟩ => ⟨S_, .f32⟩
  | .hbm, ⟨27, _⟩ => ⟨S32x5504, .f32⟩
  | .hbm, ⟨28, _⟩ => ⟨S32x5504, .f32⟩
  | .hbm, ⟨29, _⟩ => ⟨S_, .f32⟩
  | .hbm, ⟨30, _⟩ => ⟨S32x5504, .f32⟩
  | .hbm, ⟨31, _⟩ => ⟨S32x5504, .f32⟩
  | .hbm, ⟨32, _⟩ => ⟨S32x5504, .f32⟩
  | .hbm, ⟨33, _⟩ => ⟨S32x5504, .f32⟩
  | .hbm, ⟨34, _⟩ => ⟨S32x2048, .f32⟩
  | .hbm, ⟨35, _⟩ => ⟨S_, .f32⟩
  | .hbm, ⟨36, _⟩ => ⟨S32x2048, .f32⟩
  | .hbm, ⟨37, _⟩ => ⟨S32x2048, .f32⟩
  | .hbm, ⟨38, _⟩ => ⟨S32x2048, .f32⟩
  | .hbm, ⟨39, _⟩ => ⟨S32x2048, .f32⟩
  | .hbm, ⟨40, _⟩ => ⟨S_, .f32⟩
  | .hbm, ⟨41, _⟩ => ⟨S32, .f32⟩
  | .hbm, ⟨42, _⟩ => ⟨S32x1, .f32⟩
  | .hbm, ⟨43, _⟩ => ⟨S_, .f32⟩
  | .hbm, ⟨44, _⟩ => ⟨S32x1, .f32⟩
  | .hbm, ⟨45, _⟩ => ⟨S32x1, .f32⟩
  | .hbm, ⟨46, _⟩ => ⟨S_, .f32⟩
  | .hbm, ⟨47, _⟩ => ⟨S32x1, .f32⟩
  | .hbm, ⟨48, _⟩ => ⟨S32x1, .f32⟩
  | .hbm, ⟨49, _⟩ => ⟨S32x1, .f32⟩
  | .hbm, ⟨50, _⟩ => ⟨S32x2048, .f32⟩
  | .hbm, ⟨51, _⟩ => ⟨S32x2048, .f32⟩
  | .hbm, ⟨52, _⟩ => ⟨S1x2048, .f32⟩
  | .hbm, ⟨53, _⟩ => ⟨S32x2048, .f32⟩
  | .hbm, ⟨54, _⟩ => ⟨S32x2048, .f32⟩
  | .hbm, ⟨55, _⟩ => ⟨S32x2048, .bf16⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Proof.MlstmBody.lean ====
module

public import proofs.«01_k».proof.Proof.Gen.KernelIdeal.Frame
public import Idealize.ShloMosaic.Lib.Pipeline.Value

/-!
# One head of the mLSTM kernel's body

At a grid point the body takes 256 rows of one head as four chunks of 64 rows, and carries the head's memory (the
matrix `C`, the vector `n` and the level `m`) from chunk to chunk. The body's text is unrolled over the four heads and
the four chunks; here it is written once, for any head and any chunk, in the operations of the body itself.
-/

@[expose] public section

noncomputable section

namespace Cert.Mlstm

open Cert.KernelIdeal Cert.KernelIdeal.Gen Idealize.ShloMosaic Idealize.ShloMosaic.TcCoe Idealize.SL.Sem

variable {F : FTy → Type} [FloatOps F]

/-- The `j`-th group of 64 rows of a block of 256 rows (`j` taken modulo four). -/
def rowsOf {α : Type} {w : ℕ} (x : (⟨2, ![256, w]⟩ : Shape).Idx → α) (j : ℕ) : (⟨2, ![64, w]⟩ : Shape).Idx → α :=
  extractStridedSlice ⟨2, ![64, w]⟩ ![64 * (j % 4), 0] x
    ⟨rfl, fun a => match a with
      | ⟨0, _⟩ => by show 64 * (j % 4) + 64 ≤ 256; omega
      | ⟨1, _⟩ => by show 0 + w ≤ w; omega⟩

/-- The `j`-th group of 64 columns of a row of 256 (`j` taken modulo four). -/
def lanesOf {α : Type} (x : S1x256.Idx → α) (j : ℕ) : S1x64.Idx → α :=
  extractStridedSlice S1x64 ![0, 64 * (j % 4)] x
    ⟨rfl, fun a => match a with
      | ⟨0, _⟩ => by show 0 + 1 ≤ 1; omega
      | ⟨1, _⟩ => by show 64 * (j % 4) + 64 ≤ 256; omega⟩

/-- What the body has of one head at a grid point: the queries (scaled), the keys and the values of its 256 rows, and
    the running sums `b` of the forget gates and the input gates `li`, each as a column and as a row. -/
structure HeadIn (F : FTy → Type) where
  q : FVec F S256x128 .f32
  k : FVec F S256x128 .f32
  v : FVec F S256x256 .f32
  b : FVec F S256x1 .f32
  li : FVec F S256x1 .f32
  bT : FVec F S1x256 .f32
  liT : FVec F S1x256 .f32

/-- A head's memory: the matrix, the vector and the level. -/
structure HeadState (F : FTy → Type) where
  C : FVec F S128x256 .f32
  n : FVec F S1x128 .f32
  m : FVec F S1x1 .f32

section Chunk

variable (bc lic : FVec F S64x1 .f32) (br lir : FVec F S1x64 .f32)
  (kc : FVec F S64x128 .f32) (vc : FVec F S64x256 .f32) (qc : FVec F S64x128 .f32)
  (s : HeadState F)

/-- The running sum at the chunk's last row. -/
def lastSum : FVec F S1x1 .f32 := extractStridedSlice S1x1 ![63, 0] bc slices_S64x1_o63_0_S1x1

/-- The level after the chunk. -/
def newLevel (m : FVec F S1x1 .f32) : FVec F S1x1 .f32 :=
  maximumf (addf (lastSum bc) m)
    (shapeCast S1x1 (multiReduction .maximumf [1] S1
      (addf (subf (broadcastTo S1x64 (lastSum bc) broadcasts_S1x1_S1x64) br) lir) 0xFF800000#32 reduces_S1x64_S1 (.inl rfl) rfl)
      shapeCasts_S1_S1x1)

/-- The weight the old memory keeps. -/
def keep (m : FVec F S1x1 .f32) : FVec F S1x1 .f32 :=
  exp (subf (addf (lastSum bc) m) (newLevel bc br lir m))

/-- The chunk's keys, each at the weight it enters the memory with. -/
def weighedKeys (m : FVec F S1x1 .f32) : FVec F S64x128 .f32 :=
  mulf kc (broadcastTo S64x128
    (exp (subf (addf (subf (broadcastTo S64x1 (lastSum bc) broadcasts_S1x1_S64x1) bc) lic)
      (broadcastTo S64x1 (newLevel bc br lir m) broadcasts_S1x1_S64x1))) broadcasts_S64x1_S64x128)

/-- The memory matrix after the chunk. -/
def newMatrix : FVec F S128x256 .f32 :=
  addf (mulf (broadcastTo S128x256 (keep bc br lir s.m) broadcasts_S1x1_S128x256) s.C)
    (matmul dot_S128x64_S64x256_S128x256_1_0_0_1_n_n none
      (truncf .bf16 (transpose S128x64 [1, 0] (weighedKeys bc lic br lir kc s.m) transposes_S64x128_p1_0_S128x64) bitsLt_bf16_f32)
      (truncf .bf16 vc bitsLt_bf16_f32) (constant S128x256 .f32 0x00000000#32))

/-- The memory vector after the chunk. -/
def newVector : FVec F S1x128 .f32 :=
  addf (mulf (broadcastTo S1x128 (keep bc br lir s.m) broadcasts_S1x1_S1x128) s.n)
    (shapeCast S1x128 (multiReduction .add [0] S128 (weighedKeys bc lic br lir kc s.m) 0x00000000#32 reduces_S64x128_S128
      (.inl rfl) rfl) shapeCasts_S128_S1x128)

/-- The log weight of each of the chunk's rows at each of its rows, minus infinity after it. -/
def logWeight : FVec F S64x64 .f32 :=
  select k0_pay20 (addf (subf (broadcastTo S64x64 bc broadcasts_S64x1_S64x64) (broadcastTo S64x64 br broadcasts_S1x64_S64x64))
    (broadcastTo S64x64 lir broadcasts_S1x64_S64x64)) (broadcast S64x64 (Scalar.ofBits .f32 0xFF800000#32))

/-- The log weight the memory enters each row with. -/
def logMemory : FVec F S64x1 .f32 := addf bc (broadcastTo S64x1 s.m broadcasts_S1x1_S64x1)

/-- Each row's own level. -/
def rowLevel : FVec F S64x1 .f32 :=
  maximumf (logMemory bc s) (shapeCast S64x1 (multiReduction .maximumf [1] S64 (logWeight bc br lir) 0xFF800000#32
    reduces_S64x64_S64 (.inl rfl) rfl) shapeCasts_S64_S64x1)

/-- The weight the memory enters each row with. -/
def memoryWeight : FVec F S64x1 .f32 := exp (subf (logMemory bc s) (rowLevel bc br lir s))

/-- The weighted products of queries and keys. -/
def scores : FVec F S64x64 .f32 :=
  mulf (matmul dot_S64x128_S64x128_S64x64_1_1_0_0_n_n none (truncf .bf16 qc bitsLt_bf16_f32) (truncf .bf16 kc bitsLt_bf16_f32)
      (constant S64x64 .f32 0x00000000#32))
    (exp (subf (logWeight bc br lir) (broadcastTo S64x64 (rowLevel bc br lir s) broadcasts_S64x1_S64x64)))

/-- The chunk's rows before the output gate and the norm. -/
def chunkRows : FVec F S64x256 .f32 :=
  divf
    (addf (matmul dot_S64x64_S64x256_S64x256_1_0_0_1_n_n none (truncf .bf16 (scores bc br lir kc qc s) bitsLt_bf16_f32)
        (truncf .bf16 vc bitsLt_bf16_f32) (constant S64x256 .f32 0x00000000#32))
      (mulf (broadcastTo S64x256 (memoryWeight bc br lir s) broadcasts_S64x1_S64x256)
        (matmul dot_S64x128_S128x256_S64x256_1_0_0_1_n_n none (truncf .bf16 qc bitsLt_bf16_f32) (truncf .bf16 s.C bitsLt_bf16_f32)
          (constant S64x256 .f32 0x00000000#32))))
    (broadcastTo S64x256
      (maximumf
        (absf (addf (shapeCast S64x1 (multiReduction .add [1] S64 (scores bc br lir kc qc s) 0x00000000#32 reduces_S64x64_S64
              (.inl rfl) rfl) shapeCasts_S64_S64x1)
            (mulf (memoryWeight bc br lir s)
              (shapeCast S64x1 (multiReduction .add [1] S64 (mulf qc (broadcastTo S64x128 s.n broadcasts_S1x128_S64x128))
                0x00000000#32 reduces_S64x128_S64 (.inl rfl) rfl) shapeCasts_S64_S64x1))))
        (exp (subf (broadcast S64x1 (Scalar.ofBits .f32 0x00000000#32)) (rowLevel bc br lir s)))) broadcasts_S64x1_S64x256)

end Chunk

/-- Rows over the root of their mean square, times the norm's weights, times the output gate's logistic. -/
def normGate (hc : FVec F S64x256 .f32) (gain : FVec F S1x256 .f32) (o : FVec F S64x256 .f32) : FVec F S64x256 .bf16 :=
  truncf .bf16
    (mulf
      (mulf
        (mulf hc (broadcastTo S64x256
          (rsqrt (addf (divf (shapeCast S64x1 (multiReduction .add [1] S64 (mulf hc hc) 0x00000000#32 reduces_S64x256_S64
                (.inl rfl) rfl) shapeCasts_S64_S64x1) (broadcast S64x1 (Scalar.ofBits .f32 0x43800000#32)))
              (broadcast S64x1 (Scalar.ofBits .f32 0x358637BD#32)))) broadcasts_S64x1_S64x256))
        (broadcastTo S64x256 gain broadcasts_S1x256_S64x256))
      (divf (broadcast S64x256 (Scalar.ofBits .f32 0x3F800000#32))
        (addf (broadcast S64x256 (Scalar.ofBits .f32 0x3F800000#32))
          (exp (subf (broadcast S64x256 (Scalar.ofBits .f32 0x00000000#32)) (shapeCast S64x256 o shapeCasts_S64x256_S64x256))))))
    bitsLt_bf16_f32

/-- The memory after the `j`-th chunk, from the memory before it. -/
def chunk (I : HeadIn F) (j : ℕ) (s : HeadState F) : HeadState F where
  C := newMatrix (rowsOf I.b j) (rowsOf I.li j) (lanesOf I.bT j) (lanesOf I.liT j) (rowsOf I.k j) (rowsOf I.v j) s
  n := newVector (rowsOf I.b j) (rowsOf I.li j) (lanesOf I.bT j) (lanesOf I.liT j) (rowsOf I.k j) s
  m := newLevel (rowsOf I.b j) (lanesOf I.bT j) (lanesOf I.liT j) s.m

/-- The memory after `j` chunks. -/
def after (I : HeadIn F) (s : HeadState F) : ℕ → HeadState F
  | 0 => s
  | j + 1 => chunk I j (after I s j)

/-- The `j`-th chunk's rows, the memory before the first chunk being `s`. -/
def headRows (I : HeadIn F) (s : HeadState F) (gain : FVec F S1x256 .f32) (o : FVec F S64x256 .f32) (j : ℕ) : FVec F S64x256 .bf16 :=
  normGate (chunkRows (rowsOf I.b j) (lanesOf I.bT j) (lanesOf I.liT j) (rowsOf I.k j) (rowsOf I.v j) (rowsOf I.q j) (after I s j))
    gain o

/-- The queries and keys of head `h` of 256 rows, side by side: the convolved rows of the head by its weights. -/
def queryKey (act : FVec F S256x1024 .bf16) (x7 : Vec F S4x256x256 .bf16) (h : ℕ) : FVec F S256x256 .f32 :=
  matmul dot_S256x256_S256x256_S256x256_1_0_0_1_n_n none
    (extractStridedSlice S256x256 ![0, 256 * (h % 4)] act
      ⟨rfl, fun a => match a with
        | ⟨0, _⟩ => by show 0 + 256 ≤ 256; omega
        | ⟨1, _⟩ => by show 256 * (h % 4) + 256 ≤ 1024; omega⟩)
    (shapeCast S256x256 (View.ld x7 (Rect.unit ![h % 4, 0, 0] ![1, 256, 256] (fun a => match a with
        | ⟨0, _⟩ => by show h % 4 + 1 ≤ 4; omega
        | ⟨1, _⟩ => by show 0 + 256 ≤ 256; omega
        | ⟨2, _⟩ => by show 0 + 256 ≤ 256; omega))) shapeCasts_S1x256x256_S256x256)
    (constant S256x256 .f32 0x00000000#32)

/-- What the body has of head `h`: from the convolved rows, the gates' logits, the forget gates' running sums, the
    queries' and keys' weights and the values. -/
def headIn (act : FVec F S256x1024 .bf16) (g sums : FVec F S256x128 .f32) (x7 : Vec F S4x256x256 .bf16) (x1 : Vec F S256x1024 .f32)
    (h : ℕ) : HeadIn F where
  q := mulf (extractStridedSlice S256x128 ![0, 0] (queryKey act x7 h) slices_S256x256_o0_0_S256x128)
    (broadcast S256x128 (Scalar.ofBits .f32 0x3DB504F3#32))
  k := extractStridedSlice S256x128 ![0, 128] (queryKey act x7 h) slices_S256x256_o0_128_S256x128
  v := shapeCast S256x256 (View.ld x1 (Rect.unit ![0, 256 * (h % 4)] ![256, 256] (fun a => match a with
      | ⟨0, _⟩ => by show 0 + 256 ≤ 256; omega
      | ⟨1, _⟩ => by show 256 * (h % 4) + 256 ≤ 1024; omega))) shapeCasts_S256x256_S256x256
  b := extractStridedSlice S256x1 ![0, 84 + h % 4] sums
    ⟨rfl, fun a => match a with
      | ⟨0, _⟩ => by show 0 + 256 ≤ 256; omega
      | ⟨1, _⟩ => by show 84 + h % 4 + 1 ≤ 128; omega⟩
  li := extractStridedSlice S256x1 ![0, 80 + h % 4] g
    ⟨rfl, fun a => match a with
      | ⟨0, _⟩ => by show 0 + 256 ≤ 256; omega
      | ⟨1, _⟩ => by show 80 + h % 4 + 1 ≤ 128; omega⟩
  bT := extractStridedSlice S1x256 ![84 + h % 4, 0] (transpose S128x256 [1, 0] sums transposes_S256x128_p1_0_S128x256)
    ⟨rfl, fun a => match a with
      | ⟨0, _⟩ => by show 84 + h % 4 + 1 ≤ 128; omega
      | ⟨1, _⟩ => by show 0 + 256 ≤ 256; omega⟩
  liT := extractStridedSlice S1x256 ![80 + h % 4, 0] (transpose S128x256 [1, 0] g transposes_S256x128_p1_0_S128x256)
    ⟨rfl, fun a => match a with
      | ⟨0, _⟩ => by show 80 + h % 4 + 1 ≤ 128; omega
      | ⟨1, _⟩ => by show 0 + 256 ≤ 256; omega⟩

/-- Head `h`'s memory, out of the three buffers that carry all heads' memories. -/
def stateOf (xs1 : Vec F S4x128x256 .f32) (xs2 xs3 : Vec F S8x128 .f32) (h : ℕ) : HeadState F where
  C := shapeCast S128x256 (View.ld xs1 (Rect.unit ![h % 4, 0, 0] ![1, 128, 256] (fun a => match a with
      | ⟨0, _⟩ => by show h % 4 + 1 ≤ 4; omega
      | ⟨1, _⟩ => by show 0 + 128 ≤ 128; omega
      | ⟨2, _⟩ => by show 0 + 256 ≤ 256; omega))) shapeCasts_S1x128x256_S128x256
  n := View.ld xs2 (Rect.unit ![h % 4, 0] ![1, 128] (fun a => match a with
      | ⟨0, _⟩ => by show h % 4 + 1 ≤ 8; omega
      | ⟨1, _⟩ => by show 0 + 128 ≤ 128; omega))
  m := View.ld xs3 (Rect.unit ![h % 4, 0] ![1, 1] (fun a => match a with
      | ⟨0, _⟩ => by show h % 4 + 1 ≤ 8; omega
      | ⟨1, _⟩ => by show 0 + 1 ≤ 128; omega))

end Cert.Mlstm

end
-- ==== Proof.MlstmCases.lean ====
module

public import proofs.«01_k».proof.Proof.MlstmBody
public import Idealize.ShloMosaic.Lib.Pipeline.ReadBack

/-!
# What the mLSTM kernel's body leaves at a grid point

The frame states what each buffer holds after the body as a term over what it found. Here the term is opened, for each of
the three kinds of grid point (the first, the last, those between), and each store's payload is named by the one-head body
of `MlstmBody`.
-/

@[expose] public section

noncomputable section

namespace Cert.Mlstm

open Cert.KernelIdeal Cert.KernelIdeal.Gen Idealize.ShloMosaic Idealize.ShloMosaic.TcCoe Idealize.SL.Sem

variable {F : FTy → Type} [FloatOps F]

theorem corner2 : (![(0 : ℕ), 0] : Fin 2 → ℕ) = fun _ => 0 := by
  funext a; match a with | ⟨0, _⟩ => rfl | ⟨1, _⟩ => rfl

/-- The convolved rows. -/
def act (x0 : Vec F S256x1024 .f32) (x5 : Vec F S4x1024 .f32) (x6 : Vec F S1x1024 .f32) (e5 e6 e7 : Vec F S256x1024 .f32) :
    FVec F S256x1024 .bf16 :=
  k0_pay11 (k0_pay8 x0 x5 e5 e6 e7 x6) (k0_pay10 x0 x5 e5 e6 e7 x6)

/-- The forget gates' running sums within each chunk. -/
def sums (x3 : Vec F S256x128 .f32) (x4 : Vec F S1x128 .f32) : FVec F S256x128 .f32 :=
  k0_pay17 (k0_pay13 x3 x4) (iota .tc S256x256 32 [0] iota_S256x256_d0_w32) (iota .tc S256x256 32 [1] iota_S256x256_d1_w32)
    k0_pay14 k0_pay15 k0_pay16

section
variable (I : ℕ → HeadIn F) (s : ℕ → HeadState F)

/-- What the body stores of the memory matrices, head by head. -/
def matrixPieces : List (View.Piece (Elt F) S4x128x256 .f32) :=
  [⟨Rect.unit ![3, 0, 0] ![1, 128, 256] inb_S4x128x256_S1x128x256_3_0_0, shapeCast S1x128x256 (after (I 3) (s 3) 4).C shapeCasts_S128x256_S1x128x256⟩,
   ⟨Rect.unit ![2, 0, 0] ![1, 128, 256] inb_S4x128x256_S1x128x256_2_0_0, shapeCast S1x128x256 (after (I 2) (s 2) 4).C shapeCasts_S128x256_S1x128x256⟩,
   ⟨Rect.unit ![1, 0, 0] ![1, 128, 256] inb_S4x128x256_S1x128x256_1_0_0, shapeCast S1x128x256 (after (I 1) (s 1) 4).C shapeCasts_S128x256_S1x128x256⟩,
   ⟨Rect.unit ![0, 0, 0] ![1, 128, 256] inb_S4x128x256_S1x128x256_0_0_0, shapeCast S1x128x256 (after (I 0) (s 0) 4).C shapeCasts_S128x256_S1x128x256⟩]

/-- What the body stores of the memory vectors. -/
def vectorPieces : List (View.Piece (Elt F) S8x128 .f32) :=
  [⟨Rect.unit ![3, 0] ![1, 128] inb_S8x128_S1x128_3_0, shapeCast S1x128 (after (I 3) (s 3) 4).n shapeCasts_S1x128_S1x128⟩,
   ⟨Rect.unit ![2, 0] ![1, 128] inb_S8x128_S1x128_2_0, shapeCast S1x128 (after (I 2) (s 2) 4).n shapeCasts_S1x128_S1x128⟩,
   ⟨Rect.unit ![1, 0] ![1, 128] inb_S8x128_S1x128_1_0, shapeCast S1x128 (after (I 1) (s 1) 4).n shapeCasts_S1x128_S1x128⟩,
   ⟨Rect.unit ![0, 0] ![1, 128] inb_S8x128_S1x128_0_0, shapeCast S1x128 (after (I 0) (s 0) 4).n shapeCasts_S1x128_S1x128⟩]

/-- A level, in every lane of a row. -/
def levelRow (m : FVec F S1x1 .f32) : FVec F S1x128 .f32 :=
  shapeCast S1x128 (broadcastTo S1x128 (shapeCast S1x1 m shapeCasts_S1x1_S1x1) broadcasts_S1x1_S1x128) shapeCasts_S1x128_S1x128

/-- What the body stores of the levels. -/
def levelPieces : List (View.Piece (Elt F) S8x128 .f32) :=
  [⟨Rect.unit ![3, 0] ![1, 128] inb_S8x128_S1x128_3_0, levelRow (after (I 3) (s 3) 4).m⟩,
   ⟨Rect.unit ![2, 0] ![1, 128] inb_S8x128_S1x128_2_0, levelRow (after (I 2) (s 2) 4).m⟩,
   ⟨Rect.unit ![1, 0] ![1, 128] inb_S8x128_S1x128_1_0, levelRow (after (I 1) (s 1) 4).m⟩,
   ⟨Rect.unit ![0, 0] ![1, 128] inb_S8x128_S1x128_0_0, levelRow (after (I 0) (s 0) 4).m⟩]
/-- What the body stores of the output rows, head by head and chunk by chunk. -/
def rowPieces (x2 : Vec F S256x1024 .f32) (x8 : Vec F S4x256 .f32) : List (View.Piece (Elt F) S256x1024 .bf16) :=
  [⟨Rect.unit ![192, 768] ![64, 256] inb_S256x1024_S64x256_192_768, headRows (I 3) (s 3) (View.ld x8 (Rect.unit ![3, 0] ![1, 256] inb_S4x256_S1x256_3_0)) (View.ld x2 (Rect.unit ![192, 768] ![64, 256] inb_S256x1024_S64x256_192_768)) 3⟩,
   ⟨Rect.unit ![128, 768] ![64, 256] inb_S256x1024_S64x256_128_768, headRows (I 3) (s 3) (View.ld x8 (Rect.unit ![3, 0] ![1, 256] inb_S4x256_S1x256_3_0)) (View.ld x2 (Rect.unit ![128, 768] ![64, 256] inb_S256x1024_S64x256_128_768)) 2⟩,
   ⟨Rect.unit ![64, 768] ![64, 256] inb_S256x1024_S64x256_64_768, headRows (I 3) (s 3) (View.ld x8 (Rect.unit ![3, 0] ![1, 256] inb_S4x256_S1x256_3_0)) (View.ld x2 (Rect.unit ![64, 768] ![64, 256] inb_S256x1024_S64x256_64_768)) 1⟩,
   ⟨Rect.unit ![0, 768] ![64, 256] inb_S256x1024_S64x256_0_768, headRows (I 3) (s 3) (View.ld x8 (Rect.unit ![3, 0] ![1, 256] inb_S4x256_S1x256_3_0)) (View.ld x2 (Rect.unit ![0, 768] ![64, 256] inb_S256x1024_S64x256_0_768)) 0⟩,
   ⟨Rect.unit ![192, 512] ![64, 256] inb_S256x1024_S64x256_192_512, headRows (I 2) (s 2) (View.ld x8 (Rect.unit ![2, 0] ![1, 256] inb_S4x256_S1x256_2_0)) (View.ld x2 (Rect.unit ![192, 512] ![64, 256] inb_S256x1024_S64x256_192_512)) 3⟩,
   ⟨Rect.unit ![128, 512] ![64, 256] inb_S256x1024_S64x256_128_512, headRows (I 2) (s 2) (View.ld x8 (Rect.unit ![2, 0] ![1, 256] inb_S4x256_S1x256_2_0)) (View.ld x2 (Rect.unit ![128, 512] ![64, 256] inb_S256x1024_S64x256_128_512)) 2⟩,
   ⟨Rect.unit ![64, 512] ![64, 256] inb_S256x1024_S64x256_64_512, headRows (I 2) (s 2) (View.ld x8 (Rect.unit ![2, 0] ![1, 256] inb_S4x256_S1x256_2_0)) (View.ld x2 (Rect.unit ![64, 512] ![64, 256] inb_S256x1024_S64x256_64_512)) 1⟩,
   ⟨Rect.unit ![0, 512] ![64, 256] inb_S256x1024_S64x256_0_512, headRows (I 2) (s 2) (View.ld x8 (Rect.unit ![2, 0] ![1, 256] inb_S4x256_S1x256_2_0)) (View.ld x2 (Rect.unit ![0, 512] ![64, 256] inb_S256x1024_S64x256_0_512)) 0⟩,
   ⟨Rect.unit ![192, 256] ![64, 256] inb_S256x1024_S64x256_192_256, headRows (I 1) (s 1) (View.ld x8 (Rect.unit ![1, 0] ![1, 256] inb_S4x256_S1x256_1_0)) (View.ld x2 (Rect.unit ![192, 256] ![64, 256] inb_S256x1024_S64x256_192_256)) 3⟩,
   ⟨Rect.unit ![128, 256] ![64, 256] inb_S256x1024_S64x256_128_256, headRows (I 1) (s 1) (View.ld x8 (Rect.unit ![1, 0] ![1, 256] inb_S4x256_S1x256_1_0)) (View.ld x2 (Rect.unit ![128, 256] ![64, 256] inb_S256x1024_S64x256_128_256)) 2⟩,
   ⟨Rect.unit ![64, 256] ![64, 256] inb_S256x1024_S64x256_64_256, headRows (I 1) (s 1) (View.ld x8 (Rect.unit ![1, 0] ![1, 256] inb_S4x256_S1x256_1_0)) (View.ld x2 (Rect.unit ![64, 256] ![64, 256] inb_S256x1024_S64x256_64_256)) 1⟩,
   ⟨Rect.unit ![0, 256] ![64, 256] inb_S256x1024_S64x256_0_256, headRows (I 1) (s 1) (View.ld x8 (Rect.unit ![1, 0] ![1, 256] inb_S4x256_S1x256_1_0)) (View.ld x2 (Rect.unit ![0, 256] ![64, 256] inb_S256x1024_S64x256_0_256)) 0⟩,
   ⟨Rect.unit ![192, 0] ![64, 256] inb_S256x1024_S64x256_192_0, headRows (I 0) (s 0) (View.ld x8 (Rect.unit ![0, 0] ![1, 256] inb_S4x256_S1x256_0_0)) (View.ld x2 (Rect.unit ![192, 0] ![64, 256] inb_S256x1024_S64x256_192_0)) 3⟩,
   ⟨Rect.unit ![128, 0] ![64, 256] inb_S256x1024_S64x256_128_0, headRows (I 0) (s 0) (View.ld x8 (Rect.unit ![0, 0] ![1, 256] inb_S4x256_S1x256_0_0)) (View.ld x2 (Rect.unit ![128, 0] ![64, 256] inb_S256x1024_S64x256_128_0)) 2⟩,
   ⟨Rect.unit ![64, 0] ![64, 256] inb_S256x1024_S64x256_64_0, headRows (I 0) (s 0) (View.ld x8 (Rect.unit ![0, 0] ![1, 256] inb_S4x256_S1x256_0_0)) (View.ld x2 (Rect.unit ![64, 0] ![64, 256] inb_S256x1024_S64x256_64_0)) 1⟩,
   ⟨Rect.unit ![0, 0] ![64, 256] inb_S256x1024_S64x256_0_0, headRows (I 0) (s 0) (View.ld x8 (Rect.unit ![0, 0] ![1, 256] inb_S4x256_S1x256_0_0)) (View.ld x2 (Rect.unit ![0, 0] ![64, 256] inb_S256x1024_S64x256_0_0)) 0⟩]
end

/-- What the body stores of the rows it keeps for the convolution: its own, and the last eight of them again in front. -/
def extPieces (x0 : Vec F S256x1024 .f32) : List (View.Piece (Elt F) S264x1024 .f32) :=
  [⟨Rect.unit ![0, 0] ![8, 1024] inb_S264x1024_S8x1024_0_0, k0_pay9 x0⟩,
   ⟨Rect.unit ![8, 0] ![256, 1024] inb_S264x1024_S256x1024_8_0, k0_pay7 x0⟩]

/-- A load of any part of a buffer whose first store filled it whole with `Z` reads that part of `Z` (three axes). -/
theorem readCov_start3 {sig : RefSig} {κ : Kind} {sp : Space} (v : View sig κ sp S4x128x256 .f32) (Z : Vec F S4x128x256 .f32)
    (r : Rect S4x128x256) : v.readCov (Val := Elt F) [⟨Rect.unit ![0, 0, 0] ![4, 128, 256] inb_S4x128x256_S4x128x256_0_0_0, Z⟩] r.toLoadRect
      = View.ld Z r :=
  View.readCov_fill v (s := S4x128x256) inb_S4x128x256_S4x128x256_0_0_0 Z [] r
    (fun a => match a with | ⟨0, _⟩ => rfl | ⟨1, _⟩ => rfl | ⟨2, _⟩ => rfl)

/-- The same on two axes. -/
theorem readCov_start2 {sig : RefSig} {κ : Kind} {sp : Space} (v : View sig κ sp S8x128 .f32) (Z : Vec F S8x128 .f32)
    (r : Rect S8x128) : v.readCov (Val := Elt F) [⟨Rect.unit ![0, 0] ![8, 128] inb_S8x128_S8x128_0_0, Z⟩] r.toLoadRect
      = View.ld Z r :=
  View.readCov_fill v (s := S8x128) inb_S8x128_S8x128_0_0 Z [] r (fun a => match a with | ⟨0, _⟩ => rfl | ⟨1, _⟩ => rfl)

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x128 .f32) (harg4 : arg4.IsWhole)
  (arg5 : Memref sig .tc .vmem S1x128 .f32) (harg5 : arg5.IsWhole)
  (arg6 : Memref sig .tc .vmem S4x1024 .f32) (harg6 : arg6.IsWhole)
  (arg7 : Memref sig .tc .vmem S1x1024 .f32) (harg7 : arg7.IsWhole)
  (arg8 : Memref sig .tc .vmem S4x256x256 .bf16) (harg8 : arg8.IsWhole)
  (arg9 : Memref sig .tc .vmem S4x256 .f32) (harg9 : arg9.IsWhole)
  (arg10 : Memref sig .tc .vmem S256x1024 .bf16) (harg10 : arg10.IsWhole)
  (arg11 : Memref sig .tc .vmem S3x1024 .f32) (harg11 : arg11.IsWhole)
  (arg12 : Memref sig .tc .vmem S4x128x256 .f32) (harg12 : arg12.IsWhole)
  (arg13 : Memref sig .tc .vmem S8x128 .f32) (harg13 : arg13.IsWhole)
  (arg14 : Memref sig .tc .vmem S8x128 .f32) (harg14 : arg14.IsWhole)
  (arg15 : Memref sig .tc .vmem S264x1024 .f32) (harg15 : arg15.IsWhole)
  (arg16 : Memref sig .tc .vmem S4x128x256 .f32) (harg16 : arg16.IsWhole)
  (arg17 : Memref sig .tc .vmem S8x128 .f32) (harg17 : arg17.IsWhole)
  (arg18 : Memref sig .tc .vmem S8x128 .f32) (harg18 : arg18.IsWhole)
  (x0 : Vec F S256x1024 .f32) (x1 : Vec F S256x1024 .f32) (x2 : Vec F S256x1024 .f32) (x3 : Vec F S256x128 .f32) (x4 : Vec F S1x128 .f32) (x5 : Vec F S4x1024 .f32) (x6 : Vec F S1x1024 .f32) (x7 : Vec F S4x256x256 .bf16) (x8 : Vec F S4x256 .f32)
  (xs0 : Vec F S264x1024 .f32) (xs1 : Vec F S4x128x256 .f32) (xs2 : Vec F S8x128 .f32) (xs3 : Vec F S8x128 .f32)

/-- The block's rows behind eight earlier ones, `o` rows down, as the body reads them. -/
abbrev extRead (o : ℕ) (inb : ∀ a, (![o, 0] : Fin 2 → ℕ) a + S256x1024.size a ≤ S264x1024.size a) : Vec F S256x1024 .f32 :=
  View.ld (View.read (Elt F) arg15.view (arg15.view.writes (Elt F) (harg15.unread xs0)
    [⟨Rect.unit ![8, 0] ![256, 1024] inb_S264x1024_S256x1024_8_0, k0_pay7 x0⟩])) (Rect.unit ![o, 0] ![256, 1024] inb)

/-- The same at the first grid point, where the eight earlier rows are zeros. -/
abbrev extStart (o : ℕ) (inb : ∀ a, (![o, 0] : Fin 2 → ℕ) a + S256x1024.size a ≤ S264x1024.size a) : Vec F S256x1024 .f32 :=
  arg15.view.readCov
    [⟨Rect.unit ![8, 0] ![256, 1024] inb_S264x1024_S256x1024_8_0, k0_pay7 x0⟩,
     ⟨Rect.unit ![0, 0] ![8, 1024] inb_S264x1024_S8x1024_0_0, k0_pay2⟩]
    (Rect.unit ![o, 0] ![256, 1024] inb).toLoadRect

/-- What the body has of each head at a grid point. -/
abbrev headsOf : ℕ → HeadIn F :=
  headIn (act x0 x5 x6 (extRead arg15 harg15 x0 xs0 5 inb_S264x1024_S256x1024_5_0)
    (extRead arg15 harg15 x0 xs0 6 inb_S264x1024_S256x1024_6_0) (extRead arg15 harg15 x0 xs0 7 inb_S264x1024_S256x1024_7_0))
    (k0_pay12 x3 x4) (sums x3 x4) x7 x1

/-- The same at the first grid point. -/
abbrev headsStart : ℕ → HeadIn F :=
  headIn (act x0 x5 x6 (extStart arg15 x0 5 inb_S264x1024_S256x1024_5_0)
    (extStart arg15 x0 6 inb_S264x1024_S256x1024_6_0) (extStart arg15 x0 7 inb_S264x1024_S256x1024_7_0))
    (k0_pay12 x3 x4) (sums x3 x4) x7 x1

/-- The output rows at the first grid point. -/
theorem rows_first (hc0 : cond0_0 i) (hc1 : ¬cond0_1 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8
      = View.canon (rowPieces (headsStart arg15 x0 x1 x3 x4 x5 x6 x7) (stateOf k0_pay3 k0_pay4 k0_pay5) x2 x8) := by
  unfold out0_A_9
  rw [View.read_writes_junk_eq_canon]
  unfold kernelRun0_A
  dsimp only
  sl_unfold_words
  simp (disch := decide) only [↓View.readCov_skip, readCov_start3, readCov_start2, View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The rows kept for the convolution at the first grid point. -/
theorem ext_first (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8
      = View.canon (extPieces x0 ++ [⟨Rect.unit ![0, 0] ![8, 1024] inb_S264x1024_S8x1024_0_0, k0_pay2⟩]) := by
  unfold sout0_A_0
  rw [View.read_writes_junk_eq_canon]
  unfold kernelRun0_A
  dsimp only
  sl_unfold_words
  simp (disch := decide) only [↓View.readCov_skip, readCov_start3, readCov_start2, View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The memory matrices at the first grid point. -/
theorem matrix_first (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8
      = View.canon (matrixPieces (headsStart arg15 x0 x1 x3 x4 x5 x6 x7) (stateOf k0_pay3 k0_pay4 k0_pay5) ++ [⟨Rect.unit ![0, 0, 0] ![4, 128, 256] inb_S4x128x256_S4x128x256_0_0_0, k0_pay3⟩]) := by
  unfold sout0_A_1
  rw [View.read_writes_junk_eq_canon]
  unfold kernelRun0_A
  dsimp only
  sl_unfold_words
  simp (disch := decide) only [↓View.readCov_skip, readCov_start3, readCov_start2, View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The memory vectors at the first grid point. -/
theorem vector_first (hc0 : cond0_0 i) (hc1 : ¬cond0_1 i) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8
      = View.canon (vectorPieces (headsStart arg15 x0 x1 x3 x4 x5 x6 x7) (stateOf k0_pay3 k0_pay4 k0_pay5) ++ [⟨Rect.unit ![0, 0] ![8, 128] inb_S8x128_S8x128_0_0, k0_pay4⟩]) := by
  unfold sout0_A_2
  rw [View.read_writes_junk_eq_canon]
  unfold kernelRun0_A
  dsimp only
  sl_unfold_words
  simp (disch := decide) only [↓View.readCov_skip, readCov_start3, readCov_start2, View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The levels at the first grid point. -/
theorem level_first (hc0 : cond0_0 i) (hc1 : ¬cond0_1 i) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8
      = View.canon (levelPieces (headsStart arg15 x0 x1 x3 x4 x5 x6 x7) (stateOf k0_pay3 k0_pay4 k0_pay5) ++ [⟨Rect.unit ![0, 0] ![8, 128] inb_S8x128_S8x128_0_0, k0_pay5⟩]) := by
  unfold sout0_A_3
  rw [View.read_writes_junk_eq_canon]
  unfold kernelRun0_A
  dsimp only
  sl_unfold_words
  simp (disch := decide) only [↓View.readCov_skip, readCov_start3, readCov_start2, View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The output rows at a grid point between. -/
theorem rows_middle (hc0 : ¬cond0_0 i) (hc1 : ¬cond0_1 i) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.canon (rowPieces (headsOf arg15 harg15 x0 x1 x3 x4 x5 x6 x7 xs0) (stateOf xs1 xs2 xs3) x2 x8) := by
  unfold out0_B_9
  rw [View.read_writes_junk_eq_canon]
  unfold kernelRun0_B
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The rows kept for the convolution at a grid point between. -/
theorem ext_middle (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.canon (extPieces x0) := by
  unfold sout0_B_0
  rw [View.read_writes_junk_eq_canon]
  unfold kernelRun0_B
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The memory matrices at a grid point between. -/
theorem matrix_middle (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.canon (matrixPieces (headsOf arg15 harg15 x0 x1 x3 x4 x5 x6 x7 xs0) (stateOf xs1 xs2 xs3)) := by
  unfold sout0_B_1
  rw [View.read_writes_junk_eq_canon]
  unfold kernelRun0_B
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The memory vectors at a grid point between. -/
theorem vector_middle (hc0 : ¬cond0_0 i) (hc1 : ¬cond0_1 i) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.read (Elt F) arg17.view (arg17.view.writes (Elt F) (harg17.unread xs2) (vectorPieces (headsOf arg15 harg15 x0 x1 x3 x4 x5 x6 x7 xs0) (stateOf xs1 xs2 xs3))) := by
  unfold sout0_B_2
  unfold kernelRun0_B
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The levels at a grid point between. -/
theorem level_middle (hc0 : ¬cond0_0 i) (hc1 : ¬cond0_1 i) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.read (Elt F) arg18.view (arg18.view.writes (Elt F) (harg18.unread xs3) (levelPieces (headsOf arg15 harg15 x0 x1 x3 x4 x5 x6 x7 xs0) (stateOf xs1 xs2 xs3))) := by
  unfold sout0_B_3
  unfold kernelRun0_B
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The output rows at the last grid point. -/
theorem rows_last (hc0 : ¬cond0_0 i) (hc1 : cond0_1 i) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.canon (rowPieces (headsOf arg15 harg15 x0 x1 x3 x4 x5 x6 x7 xs0) (stateOf xs1 xs2 xs3) x2 x8) := by
  unfold out0_C_9
  rw [View.read_writes_junk_eq_canon]
  unfold kernelRun0_C
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The rows kept for the convolution at the last grid point. -/
theorem ext_last (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.canon (extPieces x0) := by
  unfold sout0_C_0
  rw [View.read_writes_junk_eq_canon]
  unfold kernelRun0_C
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The memory matrices at the last grid point. -/
theorem matrix_last (hc0 : ¬cond0_0 i) (hc1 : cond0_1 i) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.canon (matrixPieces (headsOf arg15 harg15 x0 x1 x3 x4 x5 x6 x7 xs0) (stateOf xs1 xs2 xs3)) := by
  unfold sout0_C_1
  rw [View.read_writes_junk_eq_canon]
  unfold kernelRun0_C
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The memory vectors at the last grid point. -/
theorem vector_last (hc0 : ¬cond0_0 i) (hc1 : cond0_1 i) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.read (Elt F) arg17.view (arg17.view.writes (Elt F) (harg17.unread xs2) (vectorPieces (headsOf arg15 harg15 x0 x1 x3 x4 x5 x6 x7 xs0) (stateOf xs1 xs2 xs3))) := by
  unfold sout0_C_2
  unfold kernelRun0_C
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The levels at the last grid point. -/
theorem level_last (hc0 : ¬cond0_0 i) (hc1 : cond0_1 i) :
    sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.read (Elt F) arg18.view (arg18.view.writes (Elt F) (harg18.unread xs3) (levelPieces (headsOf arg15 harg15 x0 x1 x3 x4 x5 x6 x7 xs0) (stateOf xs1 xs2 xs3))) := by
  unfold sout0_C_3
  unfold kernelRun0_C
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The convolution's rows handed out. -/
theorem convOut (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.canon [⟨Rect.unit ![0, 0] ![3, 1024] inb_S3x1024_S3x1024_0_0, arg15.view.readCov (extPieces x0) (Rect.unit ![261, 0] ![3, 1024] inb_S264x1024_S3x1024_261_0).toLoadRect⟩] := by
  unfold out0_C_10
  rw [View.read_writes_junk_eq_canon]
  unfold kernelRun0_C
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The memory matrices handed out. -/
theorem matrixOut (hc0 : ¬cond0_0 i) (hc1 : cond0_1 i) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.canon [⟨Rect.unit ![0, 0, 0] ![4, 128, 256] inb_S4x128x256_S4x128x256_0_0_0, arg16.view.readCov (matrixPieces (headsOf arg15 harg15 x0 x1 x3 x4 x5 x6 x7 xs0) (stateOf xs1 xs2 xs3)) (Rect.unit ![0, 0, 0] ![4, 128, 256] inb_S4x128x256_S4x128x256_0_0_0).toLoadRect⟩] := by
  unfold out0_C_11
  rw [View.read_writes_junk_eq_canon]
  unfold kernelRun0_C
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The memory vectors handed out. -/
theorem vectorOut (hc0 : ¬cond0_0 i) (hc1 : cond0_1 i) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.canon [⟨Rect.unit ![0, 0] ![8, 128] inb_S8x128_S8x128_0_0, View.ld (View.read (Elt F) arg17.view (arg17.view.writes (Elt F) (harg17.unread xs2) (vectorPieces (headsOf arg15 harg15 x0 x1 x3 x4 x5 x6 x7 xs0) (stateOf xs1 xs2 xs3)))) (Rect.unit ![0, 0] ![8, 128] inb_S8x128_S8x128_0_0)⟩] := by
  unfold out0_C_12
  rw [View.read_writes_junk_eq_canon]
  unfold kernelRun0_C
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

/-- The levels handed out. -/
theorem levelOut (hc0 : ¬cond0_0 i) (hc1 : cond0_1 i) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3
      = View.canon [⟨Rect.unit ![0, 0] ![8, 128] inb_S8x128_S8x128_0_0, View.ld (View.read (Elt F) arg18.view (arg18.view.writes (Elt F) (harg18.unread xs3) (levelPieces (headsOf arg15 harg15 x0 x1 x3 x4 x5 x6 x7 xs0) (stateOf xs1 xs2 xs3)))) (Rect.unit ![0, 0] ![8, 128] inb_S8x128_S8x128_0_0)⟩] := by
  unfold out0_C_13
  rw [View.read_writes_junk_eq_canon]
  unfold kernelRun0_C
  dsimp only
  sl_unfold_words
  simp only [View.readAt_eq_ld, View.ld_unit_zero (S := S256x1024) corner2, View.ld_unit_zero (S := S256x128) corner2,
    View.ld_unit_zero (S := S1x128) corner2, View.ld_unit_zero (S := S4x1024) corner2, View.ld_unit_zero (S := S1x1024) corner2,
    harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

end Cert.Mlstm

end
-- ==== Proof.MlstmMath.lean ====
module

public import Idealize.ShloMosaic.Lib.Pointwise

/-! The mLSTM branch of the prompt on arrays of extended reals: the convolved rows, the heads' queries, keys, values and
    gates, the memory carried over chunks of 64 rows, and the rows it gives. -/

@[expose] public section

noncomputable section

namespace Cert.Mlstm

open Idealize.ShloMosaic

/-- The absolute value. -/
def mag (x : EReal) : EReal := max x (-x)

/-- Minus infinity, as the programs write it. -/
abbrev ninf : EReal := Ideal.ofBits .f32 0xFF800000#32

/-- One chunk of one head: queries, keys, values, the running sums of the log forget gates, and the log input gates. -/
structure Chunk where
  q : Fin 64 → Fin 128 → EReal
  k : Fin 64 → Fin 128 → EReal
  v : Fin 64 → Fin 256 → EReal
  b : Fin 64 → EReal
  li : Fin 64 → EReal

/-- One head's memory. -/
structure Mem where
  C : Fin 128 → Fin 256 → EReal
  n : Fin 128 → EReal
  m : EReal

/-- The level after the chunk. -/
def Chunk.level (X : Chunk) (m : EReal) : EReal :=
  max (X.b 63 + m) (Finset.fold max ninf (fun x => X.b 63 - X.b x + X.li x) Finset.univ)

/-- The weight the old memory keeps. -/
def Chunk.keep (X : Chunk) (m : EReal) : EReal := Ideal.exp (X.b 63 + m - X.level m)

/-- The weight row `x` enters the memory with. -/
def Chunk.enter (X : Chunk) (m : EReal) (x : Fin 64) : EReal := Ideal.exp (X.b 63 - X.b x + X.li x - X.level m)

/-- The memory after the chunk. -/
def Chunk.next (X : Chunk) (s : Mem) : Mem where
  C r d := X.keep s.m * s.C r d + ∑ x, X.k x r * X.enter s.m x * X.v x d
  n r := X.keep s.m * s.n r + ∑ x, X.k x r * X.enter s.m x
  m := X.level s.m

/-- The log weight of row `x` at row `r`; minus infinity at the rows before `x`. -/
def Chunk.weight (X : Chunk) (r x : Fin 64) : EReal := if x.val ≤ r.val then X.b r - X.b x + X.li x else ninf

/-- Row `r`'s own level. -/
def Chunk.own (X : Chunk) (m : EReal) (r : Fin 64) : EReal :=
  max (X.b r + m) (Finset.fold max ninf (fun x => X.weight r x) Finset.univ)

/-- The weight the memory enters row `r` with. -/
def Chunk.recall (X : Chunk) (m : EReal) (r : Fin 64) : EReal := Ideal.exp (X.b r + m - X.own m r)

/-- The weighted product of row `r`'s query and row `x`'s key. -/
def Chunk.score (X : Chunk) (m : EReal) (r x : Fin 64) : EReal :=
  (∑ i, X.q r i * X.k x i) * Ideal.exp (X.weight r x - X.own m r)

/-- What row `r` is divided by. -/
def Chunk.denom (X : Chunk) (s : Mem) (r : Fin 64) : EReal :=
  max (mag ((∑ x, X.score s.m r x) + X.recall s.m r * ∑ i, X.q r i * s.n i)) (Ideal.exp (0 - X.own s.m r))

/-- The chunk's rows. -/
def Chunk.row (X : Chunk) (s : Mem) (r : Fin 64) (d : Fin 256) : EReal :=
  Ideal.div ((∑ x, X.score s.m r x * X.v x d) + X.recall s.m r * ∑ i, X.q r i * s.C i d) (X.denom s r)

/-- The logistic function. -/
def logistic (x : EReal) : EReal := Ideal.div 1 (1 + Ideal.exp (0 - x))

/-- A row over the root of its mean square, times the norm's weights, times the output gate. -/
def normed (x : Fin 256 → EReal) (g : Fin 256 → EReal) (o : EReal) (d : Fin 256) : EReal :=
  x d * Ideal.rsqrt (Ideal.div (∑ k, x k * x k) (Ideal.ofBits .f32 0x43800000#32) + Ideal.ofBits .f32 0x358637BD#32) * g d
    * logistic o

/-- The log of the logistic function. -/
def logLogistic (x : EReal) : EReal := min x 0 - Ideal.log (1 + Ideal.exp (0 - mag x))

/-- Row `r` of chunk `j` among the 8192 rows. -/
def time (j : ℕ) (r : Fin 64) : Fin 8192 := ⟨(64 * j + r.val) % 8192, by omega⟩

/-- The arrays the branch reads. -/
structure Arrays where
  proj : Fin 8192 → Fin 11352 → EReal
  bias : Fin 8 → EReal
  wc : Fin 4 → Fin 1024 → EReal
  bc : Fin 1024 → EReal
  wqk : Fin 4 → Fin 256 → Fin 256 → EReal
  gain : Fin 4 → Fin 256 → EReal

namespace Arrays

variable (A : Arrays)

/-- The row `3 - j` before row `t`, zero before the first. -/
def earlier (t : Fin 8192) (j : Fin 4) (c : Fin 1024) : EReal :=
  if t.val + j.val < 3 then 0 else A.proj ⟨t.val + j.val - 3, by omega⟩ ⟨c.val, by omega⟩

/-- The convolution over four rows. -/
def conv (t : Fin 8192) (c : Fin 1024) : EReal :=
  A.earlier t 0 c * A.wc 0 c + A.earlier t 1 c * A.wc 1 c + A.earlier t 2 c * A.wc 2 c + A.earlier t 3 c * A.wc 3 c + A.bc c

/-- The convolved rows. -/
def conved (t : Fin 8192) (c : Fin 1024) : EReal := A.conv t c * logistic (A.conv t c)

/-- A head's queries and keys, side by side. -/
def qk (h : Fin 4) (t : Fin 8192) (d : Fin 256) : EReal :=
  ∑ k : Fin 256, A.conved t ⟨256 * h.val + k.val, by omega⟩ * A.wqk h k d

/-- The log forget gate. -/
def forget (h : Fin 4) (t : Fin 8192) : EReal :=
  logLogistic (A.proj t ⟨3076 + h.val, by omega⟩ + A.bias ⟨4 + h.val, by omega⟩)

/-- Chunk `j` of head `h`. -/
def chunk (h : Fin 4) (j : ℕ) : Chunk where
  q r d := A.qk h (time j r) ⟨d.val, by omega⟩ * Ideal.ofBits .f32 0x3DB504F3#32
  k r d := A.qk h (time j r) ⟨128 + d.val, by omega⟩
  v r d := A.proj (time j r) ⟨1024 + (256 * h.val + d.val), by omega⟩
  b r := ∑ x : Fin 64, if x.val ≤ r.val then A.forget h (time j x) else 0
  li r := A.proj (time j r) ⟨3072 + h.val, by omega⟩ + A.bias ⟨h.val, by omega⟩

/-- Head `h`'s memory before chunk `j`. -/
def mem (h : Fin 4) : ℕ → Mem
  | 0 => ⟨fun _ _ => 0, fun _ => 0, 0⟩
  | j + 1 => (A.chunk h j).next (mem h j)

/-- Row `r` of chunk `j` of head `h`, normed and gated. -/
def head (h : Fin 4) (j : ℕ) (r : Fin 64) (d : Fin 256) : EReal :=
  normed ((A.chunk h j).row (A.mem h j) r) (A.gain h) (A.proj (time j r) ⟨2048 + (256 * h.val + d.val), by omega⟩) d

/-- The branch's rows. -/
def rows (t : Fin 8192) (c : Fin 1024) : EReal :=
  A.head ⟨c.val / 256, by omega⟩ (t.val / 64) ⟨t.val % 64, by omega⟩ ⟨c.val % 256, by omega⟩

end Arrays

end Cert.Mlstm
-- ==== Proof.MlstmChunk.lean ====
module

public import proofs.«01_k».proof.Proof.MlstmBody
public import proofs.«01_k».proof.Proof.MlstmMath

/-! One chunk of the kernel's body, element by element, is one chunk of the specification. -/

@[expose] public section

noncomputable section

namespace Cert.Mlstm

open Cert.KernelIdeal Cert.KernelIdeal.Gen Idealize.ShloMosaic Idealize.ShloMosaic.TcCoe Idealize.SL.Sem

/-- A memory in the body's buffers is one of the specification. -/
structure Holds (s : HeadState Ideal) (M : Mem) : Prop where
  C : ∀ r d, s.C (ix2 r d) = M.C r d
  n : ∀ d, s.n (ix2 0 d) = M.n d
  m : s.m (ix2 0 0) = M.m

/-- Comparing two small numbers as 32-bit words compares them. -/
theorem select_le (r d : Fin 64) (a b : EReal) :
    Scalar.select (IntOp.cmpi .sle (BitVec.ofNat 32 d.val) (BitVec.ofNat 32 r.val)) a b = if d.val ≤ r.val then a else b := by
  have e : ∀ r d : Fin 64, IntOp.cmpi .sle (BitVec.ofNat 32 d.val) (BitVec.ofNat 32 r.val) = if d.val ≤ r.val then 1#1 else 0#1 := by
    decide +kernel
  rw [e]
  by_cases h : d.val ≤ r.val
  · rw [if_pos h, if_pos h]; rfl
  · rw [if_neg h, if_neg h]; rfl

section

variable (X : Chunk) (M : Mem) (bc lic : FVec Ideal S64x1 .f32) (br lir : FVec Ideal S1x64 .f32)
  (kc : FVec Ideal S64x128 .f32) (vc : FVec Ideal S64x256 .f32) (qc : FVec Ideal S64x128 .f32) (s : HeadState Ideal)
  (hb : ∀ r, bc (ix2 r 0) = X.b r) (hli : ∀ r, lic (ix2 r 0) = X.li r)
  (hbr : ∀ r, br (ix2 0 r) = X.b r) (hlir : ∀ r, lir (ix2 0 r) = X.li r)
  (hk : ∀ r d, kc (ix2 r d) = X.k r d) (hv : ∀ r d, vc (ix2 r d) = X.v r d) (hq : ∀ r d, qc (ix2 r d) = X.q r d)
  (hs : Holds s M)

include hb hbr hlir hs in
theorem newLevel_eq : newLevel bc br lir s.m (ix2 0 0) = X.level M.m := by
  pointwise [newLevel, lastSum]
  simp only [hb, hbr, hlir, hs.m]
  rfl

include hb hli hbr hlir hk hv hs in
theorem newMatrix_eq (r : Fin 128) (d : Fin 256) : newMatrix bc lic br lir kc vc s (ix2 r d) = (X.next M).C r d := by
  pointwise [newMatrix, keep, weighedKeys, lastSum]
  simp only [newLevel_eq X M bc br lir s hb hbr hlir hs]
  simp only [hb, hli, hk, hv, hs.m, hs.C]
  rfl

include hb hli hbr hlir hk hs in
theorem newVector_eq (d : Fin 128) : newVector bc lic br lir kc s (ix2 0 d) = (X.next M).n d := by
  pointwise [newVector, keep, weighedKeys, lastSum]
  simp only [newLevel_eq X M bc br lir s hb hbr hlir hs]
  simp only [hb, hli, hk, hs.m, hs.n]
  rfl

include hb hbr hlir in
theorem logWeight_eq (r x : Fin 64) : logWeight bc br lir (ix2 r x) = X.weight r x := by
  pointwise [logWeight, k0_pay20]
  simp only [hb, hbr, hlir]
  exact select_le r x _ _

include hb hbr hlir hs in
theorem rowLevel_eq (r : Fin 64) : rowLevel bc br lir s (ix2 r 0) = X.own M.m r := by
  pointwise [rowLevel, logMemory]
  simp only [logWeight_eq X bc br lir hb hbr hlir, hb, hs.m]
  rfl

include hb hbr hlir hs in
theorem memoryWeight_eq (r : Fin 64) : memoryWeight bc br lir s (ix2 r 0) = X.recall M.m r := by
  pointwise [memoryWeight, logMemory]
  simp only [rowLevel_eq X M bc br lir s hb hbr hlir hs, hb, hs.m]
  rfl

include hb hbr hlir hk hq hs in
theorem scores_eq (r x : Fin 64) : scores bc br lir kc qc s (ix2 r x) = X.score M.m r x := by
  pointwise [scores]
  simp only [rowLevel_eq X M bc br lir s hb hbr hlir hs, logWeight_eq X bc br lir hb hbr hlir, hk, hq]
  rfl

include hb hbr hlir hk hv hq hs in
theorem chunkRows_eq (r : Fin 64) (d : Fin 256) : chunkRows bc br lir kc vc qc s (ix2 r d) = X.row M r d := by
  pointwise [chunkRows]
  simp only [rowLevel_eq X M bc br lir s hb hbr hlir hs, memoryWeight_eq X M bc br lir s hb hbr hlir hs,
    scores_eq X M bc br lir kc qc s hb hbr hlir hk hq hs, hv, hq, hs.C, hs.n]
  rfl

end

theorem normGate_eq (hc : FVec Ideal S64x256 .f32) (gain : FVec Ideal S1x256 .f32) (o : FVec Ideal S64x256 .f32) (r : Fin 64)
    (d : Fin 256) : (normGate hc gain o (ix2 r d) : EReal)
      = normed (fun d => hc (ix2 r d)) (fun d => gain (ix2 0 d)) (o (ix2 r d)) d := by
  pointwise [normGate]
  rfl

theorem rowsOf_eq {α : Type} {w : ℕ} (x : (⟨2, ![256, w]⟩ : Shape).Idx → α) (j : ℕ) (r : Fin 64) (d : Fin w) :
    rowsOf x j (ix2 r d) = x (ix2 ⟨64 * (j % 4) + r.val, by omega⟩ d) :=
  congrArg x (by funext a; apply Fin.ext; match a with
    | ⟨0, _⟩ => rfl
    | ⟨1, _⟩ => show 0 + d.val = d.val; omega)

theorem lanesOf_eq {α : Type} (x : S1x256.Idx → α) (j : ℕ) (r : Fin 64) :
    lanesOf x j (ix2 0 r) = x (ix2 0 ⟨64 * (j % 4) + r.val, by omega⟩) :=
  congrArg x (by funext a; apply Fin.ext; match a with
    | ⟨0, _⟩ => rfl
    | ⟨1, _⟩ => rfl)

/-- What the body has of a head at a grid point is four chunks of the specification. -/
structure Feeds (I : HeadIn Ideal) (X : ℕ → Chunk) : Prop where
  q : ∀ j (hj : j < 4) (r : Fin 64) d, I.q (ix2 ⟨64 * j + r.val, by omega⟩ d) = (X j).q r d
  k : ∀ j (hj : j < 4) (r : Fin 64) d, I.k (ix2 ⟨64 * j + r.val, by omega⟩ d) = (X j).k r d
  v : ∀ j (hj : j < 4) (r : Fin 64) d, I.v (ix2 ⟨64 * j + r.val, by omega⟩ d) = (X j).v r d
  b : ∀ j (hj : j < 4) (r : Fin 64), I.b (ix2 ⟨64 * j + r.val, by omega⟩ 0) = (X j).b r
  li : ∀ j (hj : j < 4) (r : Fin 64), I.li (ix2 ⟨64 * j + r.val, by omega⟩ 0) = (X j).li r
  bT : ∀ j (hj : j < 4) (r : Fin 64), I.bT (ix2 0 ⟨64 * j + r.val, by omega⟩) = (X j).b r
  liT : ∀ j (hj : j < 4) (r : Fin 64), I.liT (ix2 0 ⟨64 * j + r.val, by omega⟩) = (X j).li r

namespace Feeds

variable {I : HeadIn Ideal} {X : ℕ → Chunk} (hI : Feeds I X) {j : ℕ} (hj : j < 4)

include hI hj

theorem cq (r : Fin 64) (d : Fin 128) : rowsOf I.q j (ix2 r d) = (X j).q r d := by
  rw [rowsOf_eq, ← hI.q j hj r d]; simp only [Nat.mod_eq_of_lt hj]
theorem ck (r : Fin 64) (d : Fin 128) : rowsOf I.k j (ix2 r d) = (X j).k r d := by
  rw [rowsOf_eq, ← hI.k j hj r d]; simp only [Nat.mod_eq_of_lt hj]
theorem cv (r : Fin 64) (d : Fin 256) : rowsOf I.v j (ix2 r d) = (X j).v r d := by
  rw [rowsOf_eq, ← hI.v j hj r d]; simp only [Nat.mod_eq_of_lt hj]
theorem cb (r : Fin 64) : rowsOf I.b j (ix2 r 0) = (X j).b r := by
  rw [rowsOf_eq, ← hI.b j hj r]; simp only [Nat.mod_eq_of_lt hj]
theorem cli (r : Fin 64) : rowsOf I.li j (ix2 r 0) = (X j).li r := by
  rw [rowsOf_eq, ← hI.li j hj r]; simp only [Nat.mod_eq_of_lt hj]
theorem cbT (r : Fin 64) : lanesOf I.bT j (ix2 0 r) = (X j).b r := by
  rw [lanesOf_eq, ← hI.bT j hj r]; simp only [Nat.mod_eq_of_lt hj]
theorem cliT (r : Fin 64) : lanesOf I.liT j (ix2 0 r) = (X j).li r := by
  rw [lanesOf_eq, ← hI.liT j hj r]; simp only [Nat.mod_eq_of_lt hj]

/-- One chunk takes the memory to the specification's next. -/
theorem step {s : HeadState Ideal} {M : Mem} (hs : Holds s M) : Holds (chunk I j s) ((X j).next M) where
  C := newMatrix_eq (X j) M _ _ _ _ _ _ s (hI.cb hj) (hI.cli hj) (hI.cbT hj) (hI.cliT hj) (hI.ck hj) (hI.cv hj) hs
  n := newVector_eq (X j) M _ _ _ _ _ s (hI.cb hj) (hI.cli hj) (hI.cbT hj) (hI.cliT hj) (hI.ck hj) hs
  m := newLevel_eq (X j) M _ _ _ s (hI.cb hj) (hI.cbT hj) (hI.cliT hj) hs

omit hj in
/-- The memory after some of a grid point's chunks. -/
theorem after_holds {s : HeadState Ideal} (m : ℕ → Mem) (hs : Holds s (m 0)) (hm : ∀ j, m (j + 1) = (X j).next (m j)) :
    ∀ j, j ≤ 4 → Holds (after I s j) (m j)
  | 0, _ => hs
  | j + 1, h => by
    rw [hm]
    exact hI.step (by omega) (after_holds m hs hm j (by omega))

/-- The rows of a grid point's chunk. -/
theorem rows_eq {s : HeadState Ideal} (m : ℕ → Mem) (hs : Holds s (m 0)) (hm : ∀ j, m (j + 1) = (X j).next (m j))
    (gain : FVec Ideal S1x256 .f32) (o : FVec Ideal S64x256 .f32) (r : Fin 64) (d : Fin 256) :
    (headRows I s gain o j (ix2 r d) : EReal)
      = normed ((X j).row (m j) r) (fun d => gain (ix2 0 d)) (o (ix2 r d)) d := by
  unfold headRows
  rw [normGate_eq]
  congr 1
  funext d
  exact chunkRows_eq (X j) (m j) _ _ _ _ _ _ _ (hI.cb hj) (hI.cbT hj) (hI.cliT hj) (hI.ck hj) (hI.cv hj) (hI.cq hj)
    (hI.after_holds m hs hm j (by omega)) r d

end Feeds

end Cert.Mlstm

end
-- ==== Proof.MlstmBlock.lean ====
module

public import proofs.«01_k».proof.Proof.MlstmCases
public import proofs.«01_k».proof.Proof.MlstmChunk

/-! One grid point of the mLSTM kernel over the extended reals: if its blocks are the arrays' rows and its buffers hold what
    the earlier points left, the heads' queries, keys, values and gates are the specification's, and so is what it leaves. -/

@[expose] public section

noncomputable section

namespace Cert.Mlstm

open Cert.KernelIdeal Cert.KernelIdeal.Gen Idealize.ShloMosaic Idealize.ShloMosaic.TcCoe Idealize.SL.Sem

/-- Row `a` of grid point `t`'s block among the 8192 rows. -/
def row (t : ℕ) (a : Fin 256) : Fin 8192 := ⟨(256 * t + a.val) % 8192, by omega⟩

theorem row_time (t j : ℕ) (hj : j < 4) (r : Fin 64) : row t ⟨64 * j + r.val, by omega⟩ = time (4 * t + j) r := by
  apply Fin.ext
  show (256 * t + (64 * j + r.val)) % 8192 = (64 * (4 * t + j) + r.val) % 8192
  congr 1; omega

/-- What a grid point's blocks hold. -/
structure Block (A : Arrays) (t : ℕ) (x0 x1 x2 : Vec Ideal S256x1024 .f32) (x3 : Vec Ideal S256x128 .f32) (x4 : Vec Ideal S1x128 .f32)
    (x5 : Vec Ideal S4x1024 .f32) (x6 : Vec Ideal S1x1024 .f32) (x7 : Vec Ideal S4x256x256 .bf16) (x8 : Vec Ideal S4x256 .f32) : Prop where
  u : ∀ a (d : Fin 1024), x0 (ix2 a d) = A.proj (row t a) ⟨d.val, by omega⟩
  v : ∀ a (d : Fin 1024), x1 (ix2 a d) = A.proj (row t a) ⟨1024 + d.val, by omega⟩
  o : ∀ a (d : Fin 1024), x2 (ix2 a d) = A.proj (row t a) ⟨2048 + d.val, by omega⟩
  i : ∀ a (h : Fin 4), x3 (ix2 a ⟨80 + h.val, by omega⟩) = A.proj (row t a) ⟨3072 + h.val, by omega⟩
  f : ∀ a (h : Fin 4), x3 (ix2 a ⟨84 + h.val, by omega⟩) = A.proj (row t a) ⟨3076 + h.val, by omega⟩
  bi : ∀ h : Fin 4, x4 (ix2 0 ⟨80 + h.val, by omega⟩) = A.bias ⟨h.val, by omega⟩
  bf : ∀ h : Fin 4, x4 (ix2 0 ⟨84 + h.val, by omega⟩) = A.bias ⟨4 + h.val, by omega⟩
  wc : ∀ j d, x5 (ix2 j d) = A.wc j d
  bc : ∀ d, x6 (ix2 0 d) = A.bc d
  wqk : ∀ h k d, (x7 (ix3 h k d) : EReal) = A.wqk h k d
  gain : ∀ h d, x8 (ix2 h d) = A.gain h d

/-! ## The forget gates' running sums -/

/-- A number's quotient by 64, as the body computes it (rounding down whatever the signs). -/
def quotient (a : BitVec 32) : BitVec 32 :=
  Scalar.select
    (IntOp.andi
      (IntOp.cmpi .ne
        (IntOp.subi (BitVec.setWidth 32 (IntOp.cmpi .sgt a 0#32)) (BitVec.setWidth 32 (IntOp.cmpi .slt a 0#32)))
        (Scalar.subi (Scalar.extui (Scalar.cmpi .sgt 64#32 0#32)) (Scalar.extui (Scalar.cmpi .slt 64#32 0#32))))
      (IntOp.cmpi .ne (IntOp.remsi .vector a 64#32) 0#32))
    (IntOp.subi (IntOp.divsi .vector a 64#32) 1#32)
    (IntOp.divsi .vector a 64#32)

theorem quotient_eq : ∀ a : Fin 256, quotient (BitVec.ofNat 32 a.val) = BitVec.ofNat 32 (a.val / 64) := by
  decide +kernel

theorem same_eq : ∀ p q : Fin 4, IntOp.cmpi .eq (BitVec.ofNat 32 p.val) (BitVec.ofNat 32 q.val) = if p = q then 1#1 else 0#1 := by
  decide +kernel

theorem le_eq (x a : Fin 256) : IntOp.cmpi .sle (BitVec.ofNat 32 x.val) (BitVec.ofNat 32 a.val) = if x.val ≤ a.val then 1#1 else 0#1 := by
  have hx : (BitVec.ofNat 32 x.val).toInt = (x.val : ℤ) := by
    rw [BitVec.toInt_eq_toNat_of_lt (by rw [BitVec.toNat_ofNat]; omega), BitVec.toNat_ofNat]; omega
  have ha : (BitVec.ofNat 32 a.val).toInt = (a.val : ℤ) := by
    rw [BitVec.toInt_eq_toNat_of_lt (by rw [BitVec.toNat_ofNat]; omega), BitVec.toNat_ofNat]; omega
  show (BitVec.ofBool ((BitVec.ofNat 32 x.val).sle (BitVec.ofNat 32 a.val))) = _
  rw [BitVec.sle_eq_decide, hx, ha]
  by_cases h : x.val ≤ a.val
  · rw [if_pos h, decide_eq_true (by omega)]; rfl
  · rw [if_neg h, decide_eq_false (by omega)]; rfl

theorem sums_eq (x3 : Vec Ideal S256x128 .f32) (x4 : Vec Ideal S1x128 .f32) (j : Fin 4) (r : Fin 64) (l : Fin 128) :
    (sums x3 x4 (ix2 ⟨64 * j.val + r.val, by omega⟩ l) : EReal)
      = ∑ x : Fin 64, if x.val ≤ r.val then k0_pay13 x3 x4 (ix2 ⟨64 * j.val + x.val, by omega⟩ l) else 0 := by
  have e : (sums x3 x4 (ix2 ⟨64 * j.val + r.val, by omega⟩ l) : EReal) = ∑ x : Fin 256, Scalar.select
      (IntOp.andi (IntOp.cmpi .eq (quotient (BitVec.ofNat 32 (64 * j.val + r.val))) (quotient (BitVec.ofNat 32 x.val)))
        (IntOp.cmpi .sle (BitVec.ofNat 32 x.val) (BitVec.ofNat 32 (64 * j.val + r.val))))
      (k0_pay13 x3 x4 (ix2 x l)) 0 := by
    pointwise [sums, k0_pay17, k0_pay14, k0_pay15, k0_pay16]
    rfl
  rw [e, Fin.sum_univ_tiles 4 64 rfl, Finset.sum_eq_single j]
  · refine Finset.sum_congr rfl fun x _ => ?_
    have q1 := quotient_eq ⟨64 * j.val + r.val, by omega⟩
    have q2 := quotient_eq ⟨j.val * 64 + x.val, by omega⟩
    have s := same_eq j j
    have l1 := le_eq ⟨j.val * 64 + x.val, by omega⟩ ⟨64 * j.val + r.val, by omega⟩
    dsimp only at q1 q2 l1
    rw [show (64 * j.val + r.val) / 64 = j.val by omega] at q1
    rw [show (j.val * 64 + x.val) / 64 = j.val by omega] at q2
    rw [q1, q2, s, l1, if_pos rfl]
    have ex : (⟨j.val * 64 + x.val, by omega⟩ : Fin 256) = ⟨64 * j.val + x.val, by omega⟩ := by apply Fin.ext; dsimp only; omega
    by_cases h : x.val ≤ r.val
    · rw [if_pos h, if_pos (by omega)]
      exact congrArg (fun z => (k0_pay13 x3 x4 (ix2 z l) : EReal)) ex
    · rw [if_neg h, if_neg (by omega)]; rfl
  · intro b _ hb
    refine Finset.sum_eq_zero fun x _ => ?_
    have q1 := quotient_eq ⟨64 * j.val + r.val, by omega⟩
    have q2 := quotient_eq ⟨b.val * 64 + x.val, by omega⟩
    have s := same_eq j b
    dsimp only at q1 q2
    rw [show (64 * j.val + r.val) / 64 = j.val by omega] at q1
    rw [show (b.val * 64 + x.val) / 64 = b.val by omega] at q2
    rw [q1, q2, s, if_neg (fun h => hb h.symm)]
    show Scalar.select (IntOp.andi 0#1 _) _ _ = _
    rw [show ∀ z : BitVec 1, IntOp.andi 0#1 z = 0#1 from by decide]
    rfl
  · intro h; exact absurd (Finset.mem_univ j) h

theorem forget_eq (x3 : Vec Ideal S256x128 .f32) (x4 : Vec Ideal S1x128 .f32) (a : Fin 256) (l : Fin 128) :
    (k0_pay13 x3 x4 (ix2 a l) : EReal) = logLogistic (x3 (ix2 a l) + x4 (ix2 0 l)) := by
  pointwise [k0_pay13, k0_pay12]
  rfl

theorem gate_eq (x3 : Vec Ideal S256x128 .f32) (x4 : Vec Ideal S1x128 .f32) (a : Fin 256) (l : Fin 128) :
    (k0_pay12 x3 x4 (ix2 a l) : EReal) = x3 (ix2 a l) + x4 (ix2 0 l) := by
  pointwise [k0_pay12]

/-! ## Slices and loads at an index -/

theorem drop3 {α : Type} (y : S1x256x256.Idx → α) (a l : Fin 256) :
    shapeCast S256x256 y shapeCasts_S1x256x256_S256x256 (ix2 a l) = y (ix3 0 a l) := by
  pointwise

theorem cast2 {α : Type} (y : S256x256.Idx → α) (a l : Fin 256) :
    shapeCast S256x256 y shapeCasts_S256x256_S256x256 (ix2 a l) = y (ix2 a l) := by
  pointwise

theorem dropC {α : Type} (y : S1x128x256.Idx → α) (a : Fin 128) (l : Fin 256) :
    shapeCast S128x256 y shapeCasts_S1x128x256_S128x256 (ix2 a l) = y (ix3 0 a l) := by
  pointwise

theorem addC {α : Type} (y : S128x256.Idx → α) (a : Fin 128) (l : Fin 256) :
    shapeCast S1x128x256 y shapeCasts_S128x256_S1x128x256 (ix3 0 a l) = y (ix2 a l) := by
  pointwise

/-- A load of a rectangle of a matrix, at an index. -/
theorem ld2 {α : EltTy → Type} {e : EltTy} {A B C D : ℕ} (x : (⟨2, ![A, B]⟩ : Shape).Idx → α e) (o p : ℕ)
    (inb : ∀ a, (![o, p] : Fin 2 → ℕ) a + (![C, D] : Fin 2 → ℕ) a ≤ (⟨2, ![A, B]⟩ : Shape).size a) (r : Fin C) (d : Fin D)
    (i : Fin A) (j : Fin B) (hi : i.val = o + r.val) (hj : j.val = p + d.val) :
    View.ld (Val := α) (S := ⟨2, ![A, B]⟩) (e' := e) x (Rect.unit (s := ⟨2, ![A, B]⟩) ![o, p] ![C, D] inb) (ix2 r d) = x (ix2 i j) :=
  congrArg x (by
    funext a; apply Fin.ext
    match a with
    | ⟨0, _⟩ => show o + 1 * r.val = i.val; omega
    | ⟨1, _⟩ => show p + 1 * d.val = j.val; omega)

/-- The same for a matrix of a stack of matrices. -/
theorem ld3 {α : EltTy → Type} {e : EltTy} {N A B : ℕ} (x : (⟨3, ![N, A, B]⟩ : Shape).Idx → α e) (h : ℕ)
    (inb : ∀ a, (![h, 0, 0] : Fin 3 → ℕ) a + (![1, A, B] : Fin 3 → ℕ) a ≤ (⟨3, ![N, A, B]⟩ : Shape).size a) (r : Fin A) (d : Fin B)
    (i : Fin N) (hi : i.val = h) :
    View.ld (Val := α) (S := ⟨3, ![N, A, B]⟩) (e' := e) x (Rect.unit (s := ⟨3, ![N, A, B]⟩) ![h, 0, 0] ![1, A, B] inb) (ix3 0 r d)
      = x (ix3 i r d) :=
  congrArg x (by
    funext a; apply Fin.ext
    match a with
    | ⟨0, _⟩ => show h + 1 * 0 = i.val; omega
    | ⟨1, _⟩ => show 0 + 1 * r.val = r.val; omega
    | ⟨2, _⟩ => show 0 + 1 * d.val = d.val; omega)

theorem queryKey_eq (ac : FVec Ideal S256x1024 .bf16) (x7 : Vec Ideal S4x256x256 .bf16) (h : Fin 4) (r d : Fin 256) :
    (queryKey ac x7 h.val (ix2 r d) : EReal)
      = ∑ k : Fin 256, (ac (ix2 r ⟨256 * h.val + k.val, by omega⟩) : EReal) * x7 (ix3 h k d) := by
  have hm : h.val % 4 = h.val := Nat.mod_eq_of_lt h.isLt
  unfold queryKey
  generalize hw : shapeCast S256x256 (View.ld x7 (Rect.unit ![h.val % 4, 0, 0] ![1, 256, 256] _)) shapeCasts_S1x256x256_S256x256 = w
  have hw' (k : Fin 256) : w (ix2 k d) = x7 (ix3 h k d) := by
    rw [← hw, drop3]; exact ld3 (α := Elt Ideal) (e := .bf16) x7 (h.val % 4) _ k d h hm.symm
  pointwise
  refine Finset.sum_congr rfl fun k _ => ?_
  rw [hw']
  simp only [hm]

/-! ## What the body has of a head -/

section

variable (A : Arrays) (t : ℕ) {x0 x1 x2 : Vec Ideal S256x1024 .f32} {x3 : Vec Ideal S256x128 .f32} {x4 : Vec Ideal S1x128 .f32}
  {x5 : Vec Ideal S4x1024 .f32} {x6 : Vec Ideal S1x1024 .f32} {x7 : Vec Ideal S4x256x256 .bf16} {x8 : Vec Ideal S4x256 .f32}
  (B : Block A t x0 x1 x2 x3 x4 x5 x6 x7 x8)

include B

theorem act_eq (e5 e6 e7 : Vec Ideal S256x1024 .f32) (h5 : ∀ a l, e5 (ix2 a l) = A.earlier (row t a) 0 l)
    (h6 : ∀ a l, e6 (ix2 a l) = A.earlier (row t a) 1 l) (h7 : ∀ a l, e7 (ix2 a l) = A.earlier (row t a) 2 l) (a : Fin 256) (l : Fin 1024) :
    (act x0 x5 x6 e5 e6 e7 (ix2 a l) : EReal) = A.conved (row t a) l := by
  have c : (k0_pay8 x0 x5 e5 e6 e7 x6 (ix2 a l) : EReal) = A.conv (row t a) l := by
    pointwise [k0_pay8, k0_pay6]
    have e3 : A.earlier (row t a) 3 l = A.proj (row t a) ⟨l.val, by omega⟩ := by
      unfold Arrays.earlier
      rw [if_neg (show ¬ ((row t a).val + (3 : Fin 4).val < 3) by show ¬ ((row t a).val + 3 < 3); omega)]
      rfl
    rw [h5, h6, h7, B.u, B.wc, B.wc, B.wc, B.wc, B.bc, ← e3]
    rfl
  pointwise [act, k0_pay11, k0_pay10]
  rw [c]
  rfl

theorem feeds (ac : FVec Ideal S256x1024 .bf16) (hac : ∀ a l, (ac (ix2 a l) : EReal) = A.conved (row t a) l) (h : Fin 4) :
    Feeds (headIn ac (k0_pay12 x3 x4) (sums x3 x4) x7 x1 h.val) (fun j => A.chunk h (4 * t + j)) := by
  have hm : h.val % 4 = h.val := Nat.mod_eq_of_lt h.isLt
  have qk (a : Fin 256) (d : Fin 256) : (queryKey ac x7 h.val (ix2 a d) : EReal) = A.qk h (row t a) d := by
    rw [queryKey_eq]
    simp only [hac, B.wqk]
    rfl
  have hf (j : ℕ) (hj : j < 4) (r : Fin 64) :
      (sums x3 x4 (ix2 ⟨64 * j + r.val, by omega⟩ ⟨84 + h.val, by omega⟩) : EReal) = (A.chunk h (4 * t + j)).b r := by
    refine (sums_eq x3 x4 ⟨j, hj⟩ r _).trans ?_
    show _ = ∑ x : Fin 64, if x.val ≤ r.val then A.forget h (time (4 * t + j) x) else 0
    refine Finset.sum_congr rfl fun x _ => ?_
    rw [forget_eq, B.f, B.bf, ← row_time t j hj x]
    rfl
  have hi (j : ℕ) (hj : j < 4) (r : Fin 64) :
      (k0_pay12 x3 x4 (ix2 ⟨64 * j + r.val, by omega⟩ ⟨80 + h.val, by omega⟩) : EReal) = (A.chunk h (4 * t + j)).li r := by
    rw [gate_eq, B.i, B.bi, row_time t j hj r]
    rfl
  refine ⟨fun j hj r d => ?_, fun j hj r d => ?_, fun j hj r d => ?_, fun j hj r => ?_, fun j hj r => ?_, fun j hj r => ?_,
    fun j hj r => ?_⟩
  · unfold headIn
    generalize queryKey ac x7 h.val = z at qk ⊢
    pointwise
    rw [qk, row_time t j hj r]
    rfl
  · unfold headIn
    generalize queryKey ac x7 h.val = z at qk ⊢
    pointwise
    rw [qk, row_time t j hj r]
    rfl
  · unfold headIn
    dsimp only
    refine (cast2 _ _ _).trans ?_
    refine (ld2 (α := Elt Ideal) (e := .f32) x1 0 (256 * (h.val % 4)) _ _ d ⟨64 * j + r.val, by omega⟩
      ⟨256 * h.val + d.val, by omega⟩ (by omega) (by dsimp only; omega)).trans ?_
    rw [B.v, row_time t j hj r]
    rfl
  · rw [← hf j hj r]; unfold headIn
    pointwise
    simp only [hm]
  · rw [← hi j hj r]; unfold headIn
    pointwise
    simp only [hm]
  · rw [← hf j hj r]; unfold headIn
    pointwise
    simp only [hm]
  · rw [← hi j hj r]; unfold headIn
    pointwise
    simp only [hm]

end

end Cert.Mlstm

end
-- ==== Proof.MlstmPoint.lean ====
module

public import proofs.«01_k».proof.Proof.MlstmBlock
public import Idealize.ShloMosaic.Lib.WritesUnit
public import Idealize.ShloMosaic.Lib.Pipeline.ReadBack

/-! What a grid point of the mLSTM kernel leaves in its buffers, at an index: the rows it keeps for the convolution, the
    heads' memories, and its output rows. -/

@[expose] public section

noncomputable section

namespace Cert.Mlstm

open Cert.KernelIdeal Cert.KernelIdeal.Gen Idealize.ShloMosaic Idealize.ShloMosaic.TcCoe Idealize.SL.Sem

/-! ## Reading a buffer after a list of stores -/

section

variable {α : Type} {P : α → Prop} {q : α} {L : List α}

theorem exists_tail (h : ∃ p ∈ L, P p) : ∃ p ∈ q :: L, P p := by
  obtain ⟨p, hp, h⟩ := h
  exact ⟨p, List.mem_cons_of_mem _ hp, h⟩

end

theorem mem_unit2 {A B C D : ℕ} (o p : ℕ)
    (inb : ∀ a, (![o, p] : Fin 2 → ℕ) a + (![C, D] : Fin 2 → ℕ) a ≤ (⟨2, ![A, B]⟩ : Shape).size a) (r : Fin A) (d : Fin B) :
    ix2 r d ∈ (Rect.unit (s := ⟨2, ![A, B]⟩) ![o, p] ![C, D] inb).set
      ↔ (o ≤ r.val ∧ r.val < o + C) ∧ (p ≤ d.val ∧ d.val < p + D) := by
  rw [Rect.mem_set_unit]
  exact Fin.forall_fin_two

theorem emb_unit2 {A B C D : ℕ} (o p : ℕ)
    (inb : ∀ a, (![o, p] : Fin 2 → ℕ) a + (![C, D] : Fin 2 → ℕ) a ≤ (⟨2, ![A, B]⟩ : Shape).size a) (r : Fin C) (d : Fin D)
    (i : Fin A) (j : Fin B) (hi : i.val = o + r.val) (hj : j.val = p + d.val) :
    (Rect.unit (s := ⟨2, ![A, B]⟩) ![o, p] ![C, D] inb).emb (ix2 r d) = ix2 i j := by
  funext a; apply Fin.ext
  match a with
  | ⟨0, _⟩ => show o + 1 * r.val = i.val; omega
  | ⟨1, _⟩ => show p + 1 * d.val = j.val; omega

theorem mem_unit3 {N A B : ℕ} (o : ℕ)
    (inb : ∀ a, (![o, 0, 0] : Fin 3 → ℕ) a + (![1, A, B] : Fin 3 → ℕ) a ≤ (⟨3, ![N, A, B]⟩ : Shape).size a) (h : Fin N) (r : Fin A)
    (d : Fin B) (ho : h.val = o) : ix3 h r d ∈ (Rect.unit (s := ⟨3, ![N, A, B]⟩) ![o, 0, 0] ![1, A, B] inb).set := by
  rw [Rect.mem_set_unit]
  intro a
  match a with
  | ⟨0, _⟩ => show o ≤ h.val ∧ h.val < o + 1; omega
  | ⟨1, _⟩ => show 0 ≤ r.val ∧ r.val < 0 + A; omega
  | ⟨2, _⟩ => show 0 ≤ d.val ∧ d.val < 0 + B; omega

theorem emb_unit3 {N A B : ℕ} (o : ℕ)
    (inb : ∀ a, (![o, 0, 0] : Fin 3 → ℕ) a + (![1, A, B] : Fin 3 → ℕ) a ≤ (⟨3, ![N, A, B]⟩ : Shape).size a) (h : Fin N) (r : Fin A)
    (d : Fin B) (ho : h.val = o) : (Rect.unit (s := ⟨3, ![N, A, B]⟩) ![o, 0, 0] ![1, A, B] inb).emb (ix3 0 r d) = ix3 h r d := by
  funext a; apply Fin.ext
  match a with
  | ⟨0, _⟩ => show o + 1 * 0 = h.val; omega
  | ⟨1, _⟩ => show 0 + 1 * r.val = r.val; omega
  | ⟨2, _⟩ => show 0 + 1 * d.val = d.val; omega

section Stores

variable (I : ℕ → HeadIn Ideal) (s : ℕ → HeadState Ideal)

/-- The heads' matrices stacked. -/
def matricesOf : S4x128x256.Idx → Elt Ideal .f32 :=
  fun y : S4x128x256.Idx => (after (I (y 0).val) (s (y 0).val) 4).C (ix2 (y 1) (y 2))

/-- Rows stacked. -/
def rowsFrom (p : ℕ → FVec Ideal S1x128 .f32) : S8x128.Idx → Elt Ideal .f32 :=
  fun y : S8x128.Idx => p (y 0).val (ix2 0 (y 1))

/-- The matrices after a grid point. -/
theorem matrix_hit {κ : Kind} {sp : Space} (v : View sig κ sp S4x128x256 .f32) (f : v.ty.Contents (Elt Ideal)) (h : Fin 4) (r : Fin 128)
    (d : Fin 256) : v.read (Elt Ideal) (v.writes (Elt Ideal) f (matrixPieces I s)) (ix3 h r d) = (after (I h.val) (s h.val) 4).C (ix2 r d) := by
  have piece (k : Fin 4) (o : ℕ) (ho : k.val = o)
      (inb : ∀ a, (![o, 0, 0] : Fin 3 → ℕ) a + S1x128x256.size a ≤ S4x128x256.size a) (x : S1x128x256.Idx) :
      shapeCast S1x128x256 (after (I k.val) (s k.val) 4).C shapeCasts_S128x256_S1x128x256 x
        = (matricesOf I s)
          ((Rect.unit (s := S4x128x256) ![o, 0, 0] S1x128x256.size inb).emb x) := by
    obtain ⟨a, r, d, rfl⟩ : ∃ (a : Fin 1) (r : Fin 128) (d : Fin 256), x = ix3 a r d := ⟨x 0, x 1, x 2, (ix3_eta x).symm⟩
    obtain rfl : a = 0 := Subsingleton.elim _ _
    exact (addC _ r d).trans (congrArg (matricesOf I s)
      (emb_unit3 o inb k r d ho)).symm
  refine View.read_writes_apply_of_pieces v f (matricesOf I s)
    (matrixPieces I s) ?_ (ix3 h r d) ?_
  · exact View.PiecesOf.mem (Val := Elt Ideal) (G := matricesOf I s) (L := matrixPieces I s) ⟨piece 3 3 rfl inb_S4x128x256_S1x128x256_3_0_0,
       piece 2 2 rfl inb_S4x128x256_S1x128x256_2_0_0,
       piece 1 1 rfl inb_S4x128x256_S1x128x256_1_0_0,
       piece 0 0 rfl inb_S4x128x256_S1x128x256_0_0_0, trivial⟩
  · match h with
    | 3 => exact ⟨_, List.mem_cons_self, mem_unit3 3 inb_S4x128x256_S1x128x256_3_0_0 3 r d rfl⟩
    | 2 => exact exists_tail ⟨_, List.mem_cons_self, mem_unit3 2 inb_S4x128x256_S1x128x256_2_0_0 2 r d rfl⟩
    | 1 => exact exists_tail (exists_tail ⟨_, List.mem_cons_self, mem_unit3 1 inb_S4x128x256_S1x128x256_1_0_0 1 r d rfl⟩)
    | 0 => exact exists_tail (exists_tail (exists_tail ⟨_, List.mem_cons_self, mem_unit3 0 inb_S4x128x256_S1x128x256_0_0_0 0 r d rfl⟩))

/-- Four rows of an 8-row buffer stored one by one, row 0 first. -/
abbrev fourRows (p0 p1 p2 p3 : FVec Ideal S1x128 .f32) : List (View.Piece (Elt Ideal) S8x128 .f32) :=
  [⟨Rect.unit ![3, 0] ![1, 128] inb_S8x128_S1x128_3_0, p3⟩, ⟨Rect.unit ![2, 0] ![1, 128] inb_S8x128_S1x128_2_0, p2⟩,
   ⟨Rect.unit ![1, 0] ![1, 128] inb_S8x128_S1x128_1_0, p1⟩, ⟨Rect.unit ![0, 0] ![1, 128] inb_S8x128_S1x128_0_0, p0⟩]

theorem row_hit {κ : Kind} {sp : Space} (v : View sig κ sp S8x128 .f32) (f : v.ty.Contents (Elt Ideal)) (p : ℕ → FVec Ideal S1x128 .f32)
    (h : Fin 4) (d : Fin 128) :
    v.read (Elt Ideal) (v.writes (Elt Ideal) f (fourRows (p 0) (p 1) (p 2) (p 3))) (ix2 ⟨h.val, by omega⟩ d) = p h.val (ix2 0 d) := by
  have piece (k : Fin 4) (o : ℕ) (ho : k.val = o)
      (inb : ∀ a, (![o, 0] : Fin 2 → ℕ) a + S1x128.size a ≤ S8x128.size a) (x : S1x128.Idx) :
      p k.val x = (rowsFrom p) ((Rect.unit (s := S8x128) ![o, 0] S1x128.size inb).emb x) := by
    obtain ⟨a, d, rfl⟩ : ∃ (a : Fin 1) (d : Fin 128), x = ix2 a d := ⟨x 0, x 1, (ix2_eta x).symm⟩
    obtain rfl : a = 0 := Subsingleton.elim _ _
    exact (congrArg (rowsFrom p)
      (emb_unit2 o 0 inb 0 d ⟨k.val, by omega⟩ d (by simpa using ho) (Nat.zero_add _).symm)).symm
  refine View.read_writes_apply_of_pieces v f (rowsFrom p)
    (fourRows (p 0) (p 1) (p 2) (p 3)) ?_ (ix2 ⟨h.val, by omega⟩ d) ?_
  · exact View.PiecesOf.mem (Val := Elt Ideal) (G := rowsFrom p) (L := fourRows (p 0) (p 1) (p 2) (p 3)) ⟨piece 3 3 rfl inb_S8x128_S1x128_3_0,
       piece 2 2 rfl inb_S8x128_S1x128_2_0,
       piece 1 1 rfl inb_S8x128_S1x128_1_0,
       piece 0 0 rfl inb_S8x128_S1x128_0_0, trivial⟩
  · have m (k : Fin 4) (o : ℕ) (ho : k.val = o) (inb : ∀ a, (![o, 0] : Fin 2 → ℕ) a + S1x128.size a ≤ S8x128.size a) :
        (ix2 ⟨k.val, by omega⟩ d : S8x128.Idx) ∈ (Rect.unit (s := S8x128) ![o, 0] S1x128.size inb).set :=
      (mem_unit2 o 0 inb ⟨k.val, by omega⟩ d).mpr ⟨by dsimp only; omega, by omega⟩
    match h with
    | 3 => exact ⟨_, List.mem_cons_self, m 3 3 rfl inb_S8x128_S1x128_3_0⟩
    | 2 => exact exists_tail ⟨_, List.mem_cons_self, m 2 2 rfl inb_S8x128_S1x128_2_0⟩
    | 1 => exact exists_tail (exists_tail ⟨_, List.mem_cons_self, m 1 1 rfl inb_S8x128_S1x128_1_0⟩)
    | 0 => exact exists_tail (exists_tail (exists_tail ⟨_, List.mem_cons_self, m 0 0 rfl inb_S8x128_S1x128_0_0⟩))

theorem row_miss {κ : Kind} {sp : Space} (v : View sig κ sp S8x128 .f32) (f : v.ty.Contents (Elt Ideal)) (p0 p1 p2 p3 : FVec Ideal S1x128 .f32)
    (a : Fin 8) (ha : 4 ≤ a.val) (d : Fin 128) :
    v.read (Elt Ideal) (v.writes (Elt Ideal) f (fourRows p0 p1 p2 p3)) (ix2 a d) = v.read (Elt Ideal) f (ix2 a d) := by
  refine View.read_writes_apply_of_forall_not_mem v f (ix2 a d) _ ?_
  intro q hq
  have m (o : ℕ) (ho : o < 4) (inb : ∀ a, (![o, 0] : Fin 2 → ℕ) a + S1x128.size a ≤ S8x128.size a) :
      (ix2 a d : S8x128.Idx) ∉ (Rect.unit (s := S8x128) ![o, 0] S1x128.size inb).set := fun h => by
    have := ((mem_unit2 o 0 inb a d).mp h).1
    omega
  simp only [fourRows, List.mem_cons, List.not_mem_nil, or_false] at hq
  rcases hq with rfl | rfl | rfl | rfl
  · exact m 3 (by omega) inb_S8x128_S1x128_3_0
  · exact m 2 (by omega) inb_S8x128_S1x128_2_0
  · exact m 1 (by omega) inb_S8x128_S1x128_1_0
  · exact m 0 (by omega) inb_S8x128_S1x128_0_0

end Stores

theorem levelRow_eq (m : FVec Ideal S1x1 .f32) (d : Fin 128) : levelRow m (ix2 0 d) = m (ix2 0 0) := by
  pointwise [levelRow]

/-! ## The heads' memories -/

/-- What the three memory buffers hold before grid point `t`. -/
structure Memory (A : Arrays) (t : ℕ) (xs1 : Vec Ideal S4x128x256 .f32) (xs2 xs3 : Vec Ideal S8x128 .f32) : Prop where
  C : ∀ (h : Fin 4) r d, xs1 (ix3 h r d) = (A.mem h (4 * t)).C r d
  n : ∀ (h : Fin 4) d, xs2 (ix2 ⟨h.val, by omega⟩ d) = (A.mem h (4 * t)).n d
  m : ∀ (h : Fin 4) d, xs3 (ix2 ⟨h.val, by omega⟩ d) = (A.mem h (4 * t)).m
  n0 : ∀ a : Fin 8, 4 ≤ a.val → ∀ d, xs2 (ix2 a d) = (0 : EReal)
  m0 : ∀ a : Fin 8, 4 ≤ a.val → ∀ d, xs3 (ix2 a d) = (0 : EReal)

theorem zero3 (x : S4x128x256.Idx) : k0_pay3 (F := Ideal) x = (0 : EReal) := by
  obtain ⟨a, r, d, rfl⟩ : ∃ (a : Fin 4) (r : Fin 128) (d : Fin 256), x = ix3 a r d := ⟨x 0, x 1, x 2, (ix3_eta x).symm⟩
  pointwise [k0_pay3]
theorem zero4 (x : S8x128.Idx) : k0_pay4 (F := Ideal) x = (0 : EReal) := by
  obtain ⟨a, d, rfl⟩ : ∃ (a : Fin 8) (d : Fin 128), x = ix2 a d := ⟨x 0, x 1, (ix2_eta x).symm⟩
  pointwise [k0_pay4]
theorem zero5 (x : S8x128.Idx) : k0_pay5 (F := Ideal) x = (0 : EReal) := by
  obtain ⟨a, d, rfl⟩ : ∃ (a : Fin 8) (d : Fin 128), x = ix2 a d := ⟨x 0, x 1, (ix2_eta x).symm⟩
  pointwise [k0_pay5]
theorem zero2 (x : S8x1024.Idx) : k0_pay2 (F := Ideal) x = (0 : EReal) := by
  obtain ⟨a, d, rfl⟩ : ∃ (a : Fin 8) (d : Fin 1024), x = ix2 a d := ⟨x 0, x 1, (ix2_eta x).symm⟩
  pointwise [k0_pay2]

/-- The zeros the first grid point writes are the memory it starts from. -/
theorem memory_start (A : Arrays) : Memory A 0 (k0_pay3 (F := Ideal)) (k0_pay4 (F := Ideal)) (k0_pay5 (F := Ideal)) :=
  ⟨fun _ _ _ => zero3 _, fun _ _ => zero4 _, fun _ _ => zero5 _, fun _ _ _ => zero4 _, fun _ _ _ => zero5 _⟩

section

variable {A : Arrays} {t : ℕ} {xs1 : Vec Ideal S4x128x256 .f32} {xs2 xs3 : Vec Ideal S8x128 .f32} (hM : Memory A t xs1 xs2 xs3)

include hM

theorem Memory.holds (h : Fin 4) : Holds (stateOf xs1 xs2 xs3 h.val) (A.mem h (4 * t)) where
  C r d := by
    have hm : h.val % 4 = h.val := Nat.mod_eq_of_lt h.isLt
    exact (dropC (α := Elt Ideal .f32) (View.ld xs1 (Rect.unit ![h.val % 4, 0, 0] ![1, 128, 256] _)) r d).trans (ld3 (α := Elt Ideal) (e := .f32) xs1 (h.val % 4) _ r d h hm.symm) |>.trans (hM.C h r d)
  n d := by
    have hm : h.val % 4 = h.val := Nat.mod_eq_of_lt h.isLt
    exact (ld2 (α := Elt Ideal) (e := .f32) xs2 (h.val % 4) 0 _ 0 d ⟨h.val, by omega⟩ d (by simp [hm]) (Nat.zero_add _).symm).trans (hM.n h d)
  m := by
    have hm : h.val % 4 = h.val := Nat.mod_eq_of_lt h.isLt
    exact (ld2 (α := Elt Ideal) (e := .f32) xs3 (h.val % 4) 0 _ 0 0 ⟨h.val, by omega⟩ (0 : Fin 128) (by simp [hm]) rfl).trans (hM.m h 0)

variable {I : ℕ → HeadIn Ideal} (hI : ∀ h : Fin 4, Feeds (I h.val) (fun j => A.chunk h (4 * t + j)))

include hI

theorem Memory.after_eq (h : Fin 4) :
    Holds (after (I h.val) (stateOf xs1 xs2 xs3 h.val) 4) (A.mem h (4 * (t + 1))) :=
  (hI h).after_holds (fun j => A.mem h (4 * t + j)) (hM.holds h) (fun _ => rfl) 4 (le_refl 4)

/-- The memory after a grid point, out of the three buffers' stores over whatever they held. -/
theorem Memory.next {κ1 κ2 κ3 : Kind} {sp1 sp2 sp3 : Space} (v1 : View sig κ1 sp1 S4x128x256 .f32) (f1 : v1.ty.Contents (Elt Ideal))
    (v2 : View sig κ2 sp2 S8x128 .f32) (f2 : v2.ty.Contents (Elt Ideal)) (v3 : View sig κ3 sp3 S8x128 .f32) (f3 : v3.ty.Contents (Elt Ideal))
    (h2 : ∀ a : Fin 8, 4 ≤ a.val → ∀ d, v2.read (Elt Ideal) f2 (ix2 a d) = (0 : EReal))
    (h3 : ∀ a : Fin 8, 4 ≤ a.val → ∀ d, v3.read (Elt Ideal) f3 (ix2 a d) = (0 : EReal)) :
    Memory A (t + 1) (v1.read (Elt Ideal) (v1.writes (Elt Ideal) f1 (matrixPieces I (stateOf xs1 xs2 xs3))))
      (v2.read (Elt Ideal) (v2.writes (Elt Ideal) f2 (vectorPieces I (stateOf xs1 xs2 xs3))))
      (v3.read (Elt Ideal) (v3.writes (Elt Ideal) f3 (levelPieces I (stateOf xs1 xs2 xs3)))) where
  C h r d := (matrix_hit I _ v1 f1 h r d).trans ((hM.after_eq hI h).C r d)
  n h d := by
    refine (row_hit v2 f2 (fun k => shapeCast S1x128 (after (I k) (stateOf xs1 xs2 xs3 k) 4).n shapeCasts_S1x128_S1x128) h d).trans ?_
    rw [shapeCast_self]
    exact (hM.after_eq hI h).n d
  m h d := by
    refine (row_hit v3 f3 (fun k => levelRow (after (I k) (stateOf xs1 xs2 xs3 k) 4).m) h d).trans ?_
    rw [levelRow_eq]
    exact (hM.after_eq hI h).m
  n0 a ha d := (row_miss v2 f2 _ _ _ _ a ha d).trans (h2 a ha d)
  m0 a ha d := (row_miss v3 f3 _ _ _ _ a ha d).trans (h3 a ha d)

end

/-! ## The output rows -/

/-- The rows of a block the kernel is to leave. -/
def rowsAt (A : Arrays) (t : ℕ) : S256x1024.Idx → Elt Ideal .bf16 := fun y => A.rows (row t (y 0)) (y 1)

theorem rows_hit {A : Arrays} {t : ℕ} {xs1 : Vec Ideal S4x128x256 .f32} {xs2 xs3 : Vec Ideal S8x128 .f32}
    (hM : Memory A t xs1 xs2 xs3) {I : ℕ → HeadIn Ideal} (hI : ∀ h : Fin 4, Feeds (I h.val) (fun j => A.chunk h (4 * t + j)))
    (ht : t < 32) (x2 : Vec Ideal S256x1024 .f32) (x8 : Vec Ideal S4x256 .f32)
    (ho : ∀ a (d : Fin 1024), x2 (ix2 a d) = A.proj (row t a) ⟨2048 + d.val, by omega⟩) (hg : ∀ h d, x8 (ix2 h d) = A.gain h d)
    (a : Fin 256) (d : Fin 1024) :
    (View.canon (rowPieces I (stateOf xs1 xs2 xs3) x2 x8) (ix2 a d) : EReal) = A.rows (row t a) d := by
  have piece (h j : Fin 4) (o p g : ℕ) (eo : o = 64 * j.val) (ep : p = 256 * h.val) (eg : g = h.val)
      (inb : ∀ a, (![o, p] : Fin 2 → ℕ) a + S64x256.size a ≤ S256x1024.size a)
      (inb' : ∀ a, (![g, 0] : Fin 2 → ℕ) a + S1x256.size a ≤ S4x256.size a) (x : S64x256.Idx) :
      (headRows (I h.val) (stateOf xs1 xs2 xs3 h.val) (View.ld x8 (Rect.unit ![g, 0] ![1, 256] inb'))
          (View.ld x2 (Rect.unit ![o, p] ![64, 256] inb)) j.val x : EReal)
        = rowsAt A t
          ((Rect.unit (s := S256x1024) ![o, p] S64x256.size inb).emb x) := by
    obtain ⟨r, d, rfl⟩ : ∃ (r : Fin 64) (d : Fin 256), x = ix2 r d := ⟨x 0, x 1, (ix2_eta x).symm⟩
    rw [emb_unit2 o p inb r d ⟨64 * j.val + r.val, by omega⟩ ⟨256 * h.val + d.val, by omega⟩ (by dsimp only; omega) (by dsimp only; omega)]
    refine ((hI h).rows_eq j.isLt (fun j => A.mem h (4 * t + j)) (hM.holds h) (fun _ => rfl) _ _ r d).trans ?_
    have e1 (d : Fin 256) : View.ld x8 (Rect.unit ![g, 0] ![1, 256] inb') (ix2 0 d) = A.gain h d :=
      (ld2 (α := Elt Ideal) (e := .f32) x8 g 0 inb' 0 d h d (by simp [eg]) (Nat.zero_add _).symm).trans (hg h d)
    have e2 : View.ld x2 (Rect.unit ![o, p] ![64, 256] inb) (ix2 r d)
        = A.proj (time (4 * t + j.val) r) ⟨2048 + (256 * h.val + d.val), by omega⟩ :=
      (ld2 (α := Elt Ideal) (e := .f32) x2 o p inb r d ⟨64 * j.val + r.val, by omega⟩ ⟨256 * h.val + d.val, by omega⟩
        (by dsimp only; omega) (by dsimp only; omega)).trans (by rw [ho, row_time t j.val j.isLt r])
    rw [e2]
    simp only [e1]
    show A.head h (4 * t + j.val) r d = A.rows (row t ⟨64 * j.val + r.val, by omega⟩) ⟨256 * h.val + d.val, by omega⟩
    unfold Arrays.rows
    have hv : (row t ⟨64 * j.val + r.val, by omega⟩).val = 256 * t + (64 * j.val + r.val) :=
      Nat.mod_eq_of_lt (by dsimp only; omega)
    congr 1
    · apply Fin.ext; dsimp only; omega
    · rw [hv]; omega
    · apply Fin.ext; dsimp only; rw [hv]; omega
    · apply Fin.ext; dsimp only; omega
  refine View.canon_apply_of_pieces (Val := Elt Ideal) (rowsAt A t) (rowPieces I (stateOf xs1 xs2 xs3) x2 x8) ?_
    (ix2 a d) ?_
  · exact View.PiecesOf.mem (Val := Elt Ideal) (G := rowsAt A t) (L := rowPieces I (stateOf xs1 xs2 xs3) x2 x8)
      ⟨piece 3 3 192 768 3 rfl rfl rfl inb_S256x1024_S64x256_192_768 inb_S4x256_S1x256_3_0,
       piece 3 2 128 768 3 rfl rfl rfl inb_S256x1024_S64x256_128_768 inb_S4x256_S1x256_3_0,
       piece 3 1 64 768 3 rfl rfl rfl inb_S256x1024_S64x256_64_768 inb_S4x256_S1x256_3_0,
       piece 3 0 0 768 3 rfl rfl rfl inb_S256x1024_S64x256_0_768 inb_S4x256_S1x256_3_0,
       piece 2 3 192 512 2 rfl rfl rfl inb_S256x1024_S64x256_192_512 inb_S4x256_S1x256_2_0,
       piece 2 2 128 512 2 rfl rfl rfl inb_S256x1024_S64x256_128_512 inb_S4x256_S1x256_2_0,
       piece 2 1 64 512 2 rfl rfl rfl inb_S256x1024_S64x256_64_512 inb_S4x256_S1x256_2_0,
       piece 2 0 0 512 2 rfl rfl rfl inb_S256x1024_S64x256_0_512 inb_S4x256_S1x256_2_0,
       piece 1 3 192 256 1 rfl rfl rfl inb_S256x1024_S64x256_192_256 inb_S4x256_S1x256_1_0,
       piece 1 2 128 256 1 rfl rfl rfl inb_S256x1024_S64x256_128_256 inb_S4x256_S1x256_1_0,
       piece 1 1 64 256 1 rfl rfl rfl inb_S256x1024_S64x256_64_256 inb_S4x256_S1x256_1_0,
       piece 1 0 0 256 1 rfl rfl rfl inb_S256x1024_S64x256_0_256 inb_S4x256_S1x256_1_0,
       piece 0 3 192 0 0 rfl rfl rfl inb_S256x1024_S64x256_192_0 inb_S4x256_S1x256_0_0,
       piece 0 2 128 0 0 rfl rfl rfl inb_S256x1024_S64x256_128_0 inb_S4x256_S1x256_0_0,
       piece 0 1 64 0 0 rfl rfl rfl inb_S256x1024_S64x256_64_0 inb_S4x256_S1x256_0_0,
       piece 0 0 0 0 0 rfl rfl rfl inb_S256x1024_S64x256_0_0 inb_S4x256_S1x256_0_0, trivial⟩
  · exact View.cover_of_tiledL (Val := Elt Ideal) (rowPieces I (stateOf xs1 xs2 xs3) x2 x8) S64x256.size (by sl_kernel_rfl) (ix2 a d)

/-! ## The rows kept for the convolution -/

/-- The row of the first projection `8` rows before row `a` of the block's rows and the eight before them; zero before the
    first row. -/
def behind (A : Arrays) (t : ℕ) (a : ℕ) (d : Fin 1024) : EReal :=
  if 256 * t + a < 8 then 0 else A.proj ⟨(256 * t + a - 8) % 8192, by omega⟩ ⟨d.val, by omega⟩

theorem behind_earlier (A : Arrays) (t : ℕ) (ht : t < 32) (j : Fin 4) (a : Fin 256) (d : Fin 1024) (o : ℕ) (ho : o = 5 + j.val + a.val) :
    behind A t o d = A.earlier (row t a) j d := by
  subst ho
  have hv : (row t a).val = 256 * t + a.val := Nat.mod_eq_of_lt (by omega)
  unfold behind Arrays.earlier
  by_cases h : 256 * t + (5 + j.val + a.val) < 8
  · rw [if_pos h, if_pos (by omega)]
  · rw [if_neg h, if_neg (by omega)]
    refine congrArg (fun z => A.proj z _) (Fin.ext ?_)
    show (256 * t + (5 + j.val + a.val) - 8) % 8192 = (row t a).val + j.val - 3
    rw [hv, Nat.mod_eq_of_lt (by omega)]; omega

section

variable {A : Arrays} {t : ℕ} {x0 : Vec Ideal S256x1024 .f32} (hu : ∀ a (d : Fin 1024), x0 (ix2 a d) = A.proj (row t a) ⟨d.val, by omega⟩)

include hu

theorem pay7_eq (a : Fin 256) (d : Fin 1024) (o : ℕ) (ho : o = 8 + a.val) : (k0_pay7 x0 (ix2 a d) : EReal) = behind A t o d := by
  subst ho
  pointwise [k0_pay7, k0_pay6]
  rw [hu, behind, if_neg (by omega)]
  exact congrArg (fun z => A.proj z _) (Fin.ext (by
    show (256 * t + a.val) % 8192 = (256 * t + (8 + a.val) - 8) % 8192
    congr 1; omega))

theorem pay9_eq (a : Fin 8) (d : Fin 1024) : (k0_pay9 x0 (ix2 a d) : EReal) = behind A (t + 1) a.val d := by
  pointwise [k0_pay9, k0_pay6]
  rw [hu, behind, if_neg (by omega)]
  exact congrArg (fun z => A.proj z _) (Fin.ext (by
    show (256 * t + (248 + a.val)) % 8192 = (256 * (t + 1) + a.val - 8) % 8192
    congr 1; omega))

/-- The block's rows stored behind eight earlier ones. -/
theorem behind_read {κ : Kind} {sp : Space} (v : View sig κ sp S264x1024 .f32) (f : v.ty.Contents (Elt Ideal))
    (L : List (View.Piece (Elt Ideal) S264x1024 .f32))
    (hf : ∀ (a : Fin 264) d, a.val < 8 → v.read (Elt Ideal) (v.writes (Elt Ideal) f L) (ix2 a d) = behind A t a.val d) (a : Fin 264) (d : Fin 1024) :
    (v.read (Elt Ideal) (v.writes (Elt Ideal) f (⟨Rect.unit ![8, 0] ![256, 1024] inb_S264x1024_S256x1024_8_0, k0_pay7 x0⟩ :: L)) (ix2 a d) : EReal)
      = behind A t a.val d := by
  by_cases h : a.val < 8
  · rw [View.read_writes_cons_unit_of_not_mem v f inb_S264x1024_S256x1024_8_0 _ _ (ix2 a d) rfl 0 (Or.inl h)]
    exact hf a d h
  · rw [View.read_writes_cons_unit_of_mem v f inb_S264x1024_S256x1024_8_0 _ _ (ix2 a d) (ix2 ⟨a.val - 8, by omega⟩ d) rfl (fun b => match b with
      | ⟨0, _⟩ => by show a.val = 8 + (a.val - 8); omega
      | ⟨1, _⟩ => by show d.val = 0 + d.val; omega)]
    exact pay7_eq hu _ d a.val (by dsimp only; omega)

/-- What the body leaves there: its rows, and the last eight of them again in front. -/
theorem ext_front {κ : Kind} {sp : Space} (v : View sig κ sp S264x1024 .f32) (f : v.ty.Contents (Elt Ideal)) (a : Fin 264) (d : Fin 1024)
    (h : a.val < 8) :
    (v.read (Elt Ideal) (v.writes (Elt Ideal) f (extPieces x0)) (ix2 a d) : EReal) = behind A (t + 1) a.val d := by
  unfold extPieces
  rw [View.read_writes_cons_unit_of_mem v f inb_S264x1024_S8x1024_0_0 _ _ (ix2 a d) (ix2 ⟨a.val, h⟩ d) rfl (fun b => match b with
      | ⟨0, _⟩ => by show a.val = 0 + a.val; omega
      | ⟨1, _⟩ => by show d.val = 0 + d.val; omega)]
  exact pay9_eq hu _ d

theorem ext_back {κ : Kind} {sp : Space} (v : View sig κ sp S264x1024 .f32) (f : v.ty.Contents (Elt Ideal)) (a : Fin 264) (d : Fin 1024)
    (h : 8 ≤ a.val) :
    (v.read (Elt Ideal) (v.writes (Elt Ideal) f (extPieces x0)) (ix2 a d) : EReal) = behind A t a.val d := by
  unfold extPieces
  rw [View.read_writes_cons_unit_of_not_mem v f inb_S264x1024_S8x1024_0_0 _ _ (ix2 a d) rfl 0 (Or.inr h)]
  rw [View.read_writes_cons_unit_of_mem v f inb_S264x1024_S256x1024_8_0 _ _ (ix2 a d) (ix2 ⟨a.val - 8, by omega⟩ d) rfl (fun b => match b with
      | ⟨0, _⟩ => by show a.val = 8 + (a.val - 8); omega
      | ⟨1, _⟩ => by show d.val = 0 + d.val; omega)]
  exact pay7_eq hu _ d a.val (by dsimp only; omega)

end

end Cert.Mlstm

end
-- ==== Proof.MlstmStep.lean ====
module

public import proofs.«01_k».proof.Proof.MlstmPoint

/-! One grid point of the mLSTM kernel: its blocks and what the buffers held before it give its output rows and what the
    buffers hold after it. -/

@[expose] public section

noncomputable section

namespace Cert.Mlstm

open Cert.KernelIdeal Cert.KernelIdeal.Gen Idealize.ShloMosaic Idealize.ShloMosaic.TcCoe Idealize.SL.Sem

/-- What grid point `t` leaves: its rows, the eight rows the next point's convolution reaches back to, the memory. -/
structure Left (A : Arrays) (t : ℕ) (o : Vec Ideal S256x1024 .bf16) (s0 : Vec Ideal S264x1024 .f32) (s1 : Vec Ideal S4x128x256 .f32)
    (s2 s3 : Vec Ideal S8x128 .f32) : Prop where
  rows : ∀ a (d : Fin 1024), (o (ix2 a d) : EReal) = A.rows (row t a) d
  ext : ∀ (a : Fin 264) d, a.val < 8 → (s0 (ix2 a d) : EReal) = behind A (t + 1) a.val d
  memory : Memory A (t + 1) s1 s2 s3

theorem corner3 : (![(0 : ℕ), 0, 0] : Fin 3 → ℕ) = fun _ => 0 := by
  funext a; match a with | ⟨0, _⟩ => rfl | ⟨1, _⟩ => rfl | ⟨2, _⟩ => rfl

/-- Reading the whole of a buffer back after its stores. -/
theorem readCov_all {κ : Kind} {sp : Space} (v : View sig κ sp S4x128x256 .f32) (L : List (View.Piece (Elt Ideal) S4x128x256 .f32)) :
    v.readCov (Val := Elt Ideal) L (Rect.unit ![0, 0, 0] ![4, 128, 256] inb_S4x128x256_S4x128x256_0_0_0).toLoadRect = View.canon L := by
  rw [View.readCov_eq_canon']
  funext j
  refine congrArg (View.canon (Val := Elt Ideal) L) ?_
  funext x; apply Fin.ext
  match x with
  | ⟨0, _⟩ => show 0 + 1 * (j 0).val = (j 0).val; omega
  | ⟨1, _⟩ => show 0 + 1 * (j 1).val = (j 1).val; omega
  | ⟨2, _⟩ => show 0 + 1 * (j 2).val = (j 2).val; omega

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x128 .f32) (harg4 : arg4.IsWhole)
  (arg5 : Memref sig .tc .vmem S1x128 .f32) (harg5 : arg5.IsWhole)
  (arg6 : Memref sig .tc .vmem S4x1024 .f32) (harg6 : arg6.IsWhole)
  (arg7 : Memref sig .tc .vmem S1x1024 .f32) (harg7 : arg7.IsWhole)
  (arg8 : Memref sig .tc .vmem S4x256x256 .bf16) (harg8 : arg8.IsWhole)
  (arg9 : Memref sig .tc .vmem S4x256 .f32) (harg9 : arg9.IsWhole)
  (arg10 : Memref sig .tc .vmem S256x1024 .bf16) (harg10 : arg10.IsWhole)
  (arg11 : Memref sig .tc .vmem S3x1024 .f32) (harg11 : arg11.IsWhole)
  (arg12 : Memref sig .tc .vmem S4x128x256 .f32) (harg12 : arg12.IsWhole)
  (arg13 : Memref sig .tc .vmem S8x128 .f32) (harg13 : arg13.IsWhole)
  (arg14 : Memref sig .tc .vmem S8x128 .f32) (harg14 : arg14.IsWhole)
  (arg15 : Memref sig .tc .vmem S264x1024 .f32) (harg15 : arg15.IsWhole)
  (arg16 : Memref sig .tc .vmem S4x128x256 .f32) (harg16 : arg16.IsWhole)
  (arg17 : Memref sig .tc .vmem S8x128 .f32) (harg17 : arg17.IsWhole)
  (arg18 : Memref sig .tc .vmem S8x128 .f32) (harg18 : arg18.IsWhole)
  (x0 : Vec Ideal S256x1024 .f32) (x1 : Vec Ideal S256x1024 .f32) (x2 : Vec Ideal S256x1024 .f32) (x3 : Vec Ideal S256x128 .f32) (x4 : Vec Ideal S1x128 .f32) (x5 : Vec Ideal S4x1024 .f32) (x6 : Vec Ideal S1x1024 .f32) (x7 : Vec Ideal S4x256x256 .bf16) (x8 : Vec Ideal S4x256 .f32)
  (xs0 : Vec Ideal S264x1024 .f32) (xs1 : Vec Ideal S4x128x256 .f32) (xs2 : Vec Ideal S8x128 .f32) (xs3 : Vec Ideal S8x128 .f32)

variable {A : Arrays} {t : ℕ} (B : Block A t x0 x1 x2 x3 x4 x5 x6 x7 x8) (ht : t < 32)

include B ht

theorem feeds_start (h0 : t = 0) (h : Fin 4) : Feeds (headsStart arg15 x0 x1 x3 x4 x5 x6 x7 h.val) (fun j => A.chunk h (4 * t + j)) := by
  have read (o : ℕ) (inb : ∀ a, (![o, 0] : Fin 2 → ℕ) a + S256x1024.size a ≤ S264x1024.size a) (j : Fin 4) (hj : o = 5 + j.val)
      (a : Fin 256) (d : Fin 1024) : (extStart arg15 x0 o inb (ix2 a d) : EReal) = A.earlier (row t a) j d := by
    unfold extStart
    rw [View.readCov_eq_canon', ← View.read_writes_junk_eq_canon arg15.view]
    have e : (Rect.unit (s := S264x1024) ![o, 0] ![256, 1024] inb).toLoadRect.idx (ix2 a d) = ix2 ⟨o + a.val, by omega⟩ d := by
      funext x; apply Fin.ext
      match x with
      | ⟨0, _⟩ => show o + 1 * a.val = o + a.val; omega
      | ⟨1, _⟩ => show 0 + 1 * d.val = d.val; omega
    dsimp only
    rw [e]
    have z (b : Fin 264) (d : Fin 1024) (hb : b.val < 8) : (View.read (Elt Ideal) arg15.view (arg15.view.writes (Elt Ideal) arg15.view.junk
        [⟨Rect.unit ![0, 0] ![8, 1024] inb_S264x1024_S8x1024_0_0, k0_pay2 (F := Ideal)⟩]) (ix2 b d) : EReal) = behind A t b.val d := by
      rw [View.read_writes_cons_unit_of_mem arg15.view _ inb_S264x1024_S8x1024_0_0 _ _ (ix2 b d) (ix2 ⟨b.val, hb⟩ d) rfl (fun x => match x with
        | ⟨0, _⟩ => by show b.val = 0 + b.val; omega
        | ⟨1, _⟩ => by show d.val = 0 + d.val; omega)]
      rw [zero2, behind, if_pos (by omega)]
    have y := behind_read B.u arg15.view arg15.view.junk _ z ⟨o + a.val, by omega⟩ d
    exact y.trans (behind_earlier A t ht j a d _ (by dsimp only; omega))
  exact feeds A t B _ (act_eq A t B _ _ _ (fun a d => read 5 _ 0 rfl a d) (fun a d => read 6 _ 1 rfl a d) (fun a d => read 7 _ 2 rfl a d)) h

variable (hE : ∀ (a : Fin 264) d, a.val < 8 → (xs0 (ix2 a d) : EReal) = behind A t a.val d)

include hE

theorem feeds_later (h : Fin 4) : Feeds (headsOf arg15 harg15 x0 x1 x3 x4 x5 x6 x7 xs0 h.val) (fun j => A.chunk h (4 * t + j)) := by
  have read (o : ℕ) (inb : ∀ a, (![o, 0] : Fin 2 → ℕ) a + S256x1024.size a ≤ S264x1024.size a) (j : Fin 4) (hj : o = 5 + j.val)
      (a : Fin 256) (d : Fin 1024) : (extRead arg15 harg15 x0 xs0 o inb (ix2 a d) : EReal) = A.earlier (row t a) j d := by
    unfold extRead
    refine (ld2 (α := Elt Ideal) (e := .f32) _ o 0 inb a d ⟨o + a.val, by omega⟩ d rfl (Nat.zero_add _).symm).trans ?_
    refine (behind_read B.u arg15.view (harg15.unread xs0) [] ?_ ⟨o + a.val, by omega⟩ d).trans
      (behind_earlier A t ht j a d _ (by dsimp only; omega))
    intro b d hb
    rw [View.writes_nil, harg15.read_unread]
    exact hE b d hb
  exact feeds A t B _ (act_eq A t B _ _ _ (fun a d => read 5 _ 0 rfl a d) (fun a d => read 6 _ 1 rfl a d) (fun a d => read 7 _ 2 rfl a d)) h

omit hE

theorem left_first (h0 : t = 0) (hc0 : cond0_0 i) (hc1 : ¬cond0_1 i) :
    Left A t (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8)
      (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8)
      (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8)
      (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8)
      (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8) := by
  have hI (h : Fin 4) := feeds_start arg15 x0 x1 x2 x3 x4 x5 x6 x7 x8 B ht h0 h
  have hM : Memory A t (k0_pay3 (F := Ideal)) (k0_pay4 (F := Ideal)) (k0_pay5 (F := Ideal)) := by
    subst h0; exact memory_start A
  constructor
  · intro a d
    rw [rows_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1]
    exact rows_hit hM hI ht x2 x8 B.o B.gain a d
  · intro a d ha
    rw [ext_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1, ← View.read_writes_junk_eq_canon arg15.view, View.writes_append]
    exact ext_front B.u arg15.view _ a d ha
  · rw [matrix_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1, vector_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1, level_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1,
      ← View.read_writes_junk_eq_canon arg16.view, ← View.read_writes_junk_eq_canon arg17.view, ← View.read_writes_junk_eq_canon arg18.view,
      View.writes_append, View.writes_append, View.writes_append]
    refine hM.next hI arg16.view _ arg17.view _ arg18.view _ ?_ ?_
    · intro a _ d
      rw [View.read_writes_cons_unit_of_mem arg17.view _ inb_S8x128_S8x128_0_0 _ _ (ix2 a d) (ix2 a d) rfl (fun x => match x with
        | ⟨0, _⟩ => by show a.val = 0 + a.val; omega
        | ⟨1, _⟩ => by show d.val = 0 + d.val; omega)]
      exact zero4 _
    · intro a _ d
      rw [View.read_writes_cons_unit_of_mem arg18.view _ inb_S8x128_S8x128_0_0 _ _ (ix2 a d) (ix2 a d) rfl (fun x => match x with
        | ⟨0, _⟩ => by show a.val = 0 + a.val; omega
        | ⟨1, _⟩ => by show d.val = 0 + d.val; omega)]
      exact zero5 _

variable (hM : Memory A t xs1 xs2 xs3)

include hE hM

theorem left_middle (hc0 : ¬cond0_0 i) (hc1 : ¬cond0_1 i) :
    Left A t (out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3)
      (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3)
      (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3)
      (sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3)
      (sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3) := by
  have hI (h : Fin 4) := feeds_later arg15 harg15 x0 x1 x2 x3 x4 x5 x6 x7 x8 xs0 B ht hE h
  constructor
  · intro a d
    rw [rows_middle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1]
    exact rows_hit hM hI ht x2 x8 B.o B.gain a d
  · intro a d ha
    rw [ext_middle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1, ← View.read_writes_junk_eq_canon arg15.view]
    exact ext_front B.u arg15.view _ a d ha
  · rw [matrix_middle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1, vector_middle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1, level_middle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1, ← View.read_writes_junk_eq_canon arg16.view]
    refine hM.next hI arg16.view _ arg17.view _ arg18.view _ ?_ ?_
    · intro a ha d
      rw [harg17.read_unread]
      exact hM.n0 a ha d
    · intro a ha d
      rw [harg18.read_unread]
      exact hM.m0 a ha d

theorem left_last (hc0 : ¬cond0_0 i) (hc1 : cond0_1 i) :
    Left A t (out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3)
      (sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3)
      (sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3)
      (sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3)
      (sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3) := by
  have hI (h : Fin 4) := feeds_later arg15 harg15 x0 x1 x2 x3 x4 x5 x6 x7 x8 xs0 B ht hE h
  constructor
  · intro a d
    rw [rows_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1]
    exact rows_hit hM hI ht x2 x8 B.o B.gain a d
  · intro a d ha
    rw [ext_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1, ← View.read_writes_junk_eq_canon arg15.view]
    exact ext_front B.u arg15.view _ a d ha
  · rw [matrix_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1, vector_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1, level_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1, ← View.read_writes_junk_eq_canon arg16.view]
    refine hM.next hI arg16.view _ arg17.view _ arg18.view _ ?_ ?_
    · intro a ha d
      rw [harg17.read_unread]
      exact hM.n0 a ha d
    · intro a ha d
      rw [harg18.read_unread]
      exact hM.m0 a ha d

/-- What the last grid point writes out of its buffers. -/
theorem outs_last (h31 : t = 31) (hc0 : ¬cond0_0 i) (hc1 : cond0_1 i) :
    (∀ (a : Fin 3) (d : Fin 1024), ((out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3) (ix2 a d) : EReal) = A.proj ⟨8189 + a.val, by omega⟩ ⟨d.val, by omega⟩)
    ∧ Memory A (t + 1) (out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3)
        (out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3)
        (out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3) := by
  have hI (h : Fin 4) := feeds_later arg15 harg15 x0 x1 x2 x3 x4 x5 x6 x7 x8 xs0 B ht hE h
  constructor
  · intro a d
    rw [convOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1, View.canon_unit_zero (S := S3x1024) corner2, View.readCov_eq_canon', ← View.read_writes_junk_eq_canon arg15.view]
    have e : (Rect.unit (s := S264x1024) ![261, 0] ![3, 1024] inb_S264x1024_S3x1024_261_0).toLoadRect.idx (ix2 a d) = ix2 ⟨261 + a.val, by omega⟩ d := by
      funext x; apply Fin.ext
      match x with
      | ⟨0, _⟩ => show 261 + 1 * a.val = 261 + a.val; omega
      | ⟨1, _⟩ => show 0 + 1 * d.val = d.val; omega
    dsimp only
    rw [e]
    refine (ext_back B.u arg15.view _ ⟨261 + a.val, by omega⟩ d (by dsimp only; omega)).trans ?_
    rw [behind, if_neg (by omega)]
    exact congrArg (fun z => A.proj z _) (Fin.ext (by subst h31; dsimp only; omega))
  · rw [matrixOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1, vectorOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1, levelOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xs0 xs1 xs2 xs3 hc0 hc1,
      View.canon_unit_zero (S := S4x128x256) corner3, View.canon_unit_zero (S := S8x128) corner2, View.canon_unit_zero (S := S8x128) corner2,
      View.ld_unit_zero (S := S8x128) corner2, View.ld_unit_zero (S := S8x128) corner2, readCov_all arg16.view,
      ← View.read_writes_junk_eq_canon arg16.view]
    refine hM.next hI arg16.view _ arg17.view _ arg18.view _ ?_ ?_
    · intro a ha d
      rw [harg17.read_unread]
      exact hM.n0 a ha d
    · intro a ha d
      rw [harg18.read_unread]
      exact hM.m0 a ha d

end Cert.Mlstm

end
-- ==== Proof.MlstmReads.lean ====
module

public import proofs.«01_k».proof.Proof.MlstmPoint

/-! What the blocks hold that a grid point of the mLSTM kernel reads: point `t` has rows `256 * t …` of the projections, and
    the whole of the small arrays. -/

@[expose] public section

noncomputable section

namespace Cert.Mlstm

open Cert.KernelIdeal Cert.KernelIdeal.Gen Idealize.ShloMosaic Idealize.ShloMosaic.TcCoe Idealize.SL.Sem

/-- The kernel's arguments, as arrays of extended reals. -/
def arraysOf (m : (ℓ : Loc nD τ sig) → Buf (Elt Ideal) ℓ) (c : Dev nD) : Arrays where
  proj r d := m ((c : Thread nD τ).loc main_arg0) (ix2 r d)
  bias d := m ((c : Thread nD τ).loc main_arg1) (ix1 d)
  wc j d := m ((c : Thread nD τ).loc main_arg2) (ix2 j d)
  bc d := m ((c : Thread nD τ).loc main_arg3) (ix1 d)
  wqk h k d := m ((c : Thread nD τ).loc main_arg4) (ix3 h k d)
  gain h d := m ((c : Thread nD τ).loc main_arg5) (ix2 h d)

variable (m : (ℓ : Loc nD τ sig) → Buf (Elt Ideal) ℓ) (c : Dev nD)

/-! ## The packed arrays the host prepares -/

theorem entry_u (r : Fin 8192) (d : Fin 1024) :
    (V m c main_v12 (ix2 r ⟨4096 + d.val, by omega⟩) : EReal) = (arraysOf m c).proj r ⟨d.val, by omega⟩ := by
  unfold V hostOps0
  after_results_simp
  pointwise
  after_results_simp
  pointwise
  rfl

theorem entry_v (r : Fin 8192) (d : Fin 1024) :
    (V m c main_v12 (ix2 r ⟨5120 + d.val, by omega⟩) : EReal) = (arraysOf m c).proj r ⟨1024 + d.val, by omega⟩ := by
  unfold V hostOps0
  after_results_simp
  pointwise
  after_results_simp
  pointwise
  repeat first | refine (dif_pos (by omega)).trans ?_ | refine (dif_neg (by omega)).trans ?_
  exact congrArg (fun z => m ((c : Thread nD τ).loc main_arg0) (ix2 r z)) (Fin.ext (by dsimp only; omega))

theorem entry_o (r : Fin 8192) (d : Fin 1024) :
    (V m c main_v12 (ix2 r ⟨6144 + d.val, by omega⟩) : EReal) = (arraysOf m c).proj r ⟨2048 + d.val, by omega⟩ := by
  unfold V hostOps0
  after_results_simp
  pointwise
  after_results_simp
  pointwise
  repeat first | refine (dif_pos (by omega)).trans ?_ | refine (dif_neg (by omega)).trans ?_
  exact congrArg (fun z => m ((c : Thread nD τ).loc main_arg0) (ix2 r z)) (Fin.ext (by dsimp only; omega))

theorem entry_i (r : Fin 8192) (h : Fin 4) :
    (V m c main_v14 (ix2 r ⟨80 + h.val, by omega⟩) : EReal) = (arraysOf m c).proj r ⟨3072 + h.val, by omega⟩ := by
  unfold V hostOps0
  after_results_simp
  pointwise
  after_results_simp
  pointwise
  repeat first | refine (dif_pos (by omega)).trans ?_ | refine (dif_neg (by omega)).trans ?_
  exact congrArg (fun z => m ((c : Thread nD τ).loc main_arg0) (ix2 r z)) (Fin.ext (by dsimp only; omega))

theorem entry_f (r : Fin 8192) (h : Fin 4) :
    (V m c main_v14 (ix2 r ⟨84 + h.val, by omega⟩) : EReal) = (arraysOf m c).proj r ⟨3076 + h.val, by omega⟩ := by
  unfold V hostOps0
  after_results_simp
  pointwise
  after_results_simp
  pointwise
  repeat first | refine (dif_pos (by omega)).trans ?_ | refine (dif_neg (by omega)).trans ?_
  exact congrArg (fun z => m ((c : Thread nD τ).loc main_arg0) (ix2 r z)) (Fin.ext (by dsimp only; omega))

theorem entry_bi (h : Fin 4) : (V m c main_v18 (ix2 0 ⟨80 + h.val, by omega⟩) : EReal) = (arraysOf m c).bias ⟨h.val, by omega⟩ := by
  unfold V hostOps0
  after_results_simp
  pointwise
  after_results_simp
  repeat first | refine (dif_pos (by omega)).trans ?_ | refine (dif_neg (by omega)).trans ?_
  exact congrArg (fun z => m ((c : Thread nD τ).loc main_arg1) (ix1 z)) (Fin.ext (by dsimp only <;> omega))

theorem entry_bf (h : Fin 4) : (V m c main_v18 (ix2 0 ⟨84 + h.val, by omega⟩) : EReal) = (arraysOf m c).bias ⟨4 + h.val, by omega⟩ := by
  unfold V hostOps0
  after_results_simp
  pointwise
  after_results_simp
  repeat first | refine (dif_pos (by omega)).trans ?_ | refine (dif_neg (by omega)).trans ?_
  exact congrArg (fun z => m ((c : Thread nD τ).loc main_arg1) (ix1 z)) (Fin.ext (by dsimp only <;> omega))

theorem entry_bc (d : Fin 1024) : (V m c main_v19 (ix2 0 d) : EReal) = (arraysOf m c).bc d := by
  have e : V m c main_v19 = broadcastInDim S1x1024 ![1] bcast_S1024_S1x1024_1 (m ((c : Thread nD τ).loc main_arg3)) := by
    unfold V hostOps0
    after_results_simp
  rw [e]
  pointwise
  rfl

theorem entry_wqk (h : Fin 4) (k d : Fin 256) : (V m c main_v20 (ix3 h k d) : EReal) = (arraysOf m c).wqk h k d := by
  have e : V m c main_v20 = (truncf .bf16 (m ((c : Thread nD τ).loc main_arg4) : FVec Ideal S4x256x256 .f32) bitsLt_bf16_f32 :
      FVec Ideal S4x256x256 .bf16) := by
    unfold V hostOps0
    after_results_simp
  rw [e]
  rfl

/-! ## The blocks -/

/-- Where each window's block starts, over the grid. -/
theorem idx_facts : ∀ t : Fin cfg0.N, win0_0.index t (0 : Fin 2) = t.val ∧ win0_0.index t (1 : Fin 2) = 4
    ∧ win0_1.index t (0 : Fin 2) = t.val ∧ win0_1.index t (1 : Fin 2) = 5
    ∧ win0_2.index t (0 : Fin 2) = t.val ∧ win0_2.index t (1 : Fin 2) = 6
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ (win0_7.index t (0 : Fin 3) = 0 ∧ win0_7.index t (1 : Fin 3) = 0 ∧ win0_7.index t (2 : Fin 3) = 0)
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem lt_N (t : Fin cfg0.N) : t.val < 32 := lt_of_lt_of_eq t.isLt (show cfg0.N = 32 from N_0)

theorem row_val {t : ℕ} (ht : t < 32) (a : Fin 256) : (row t a).val = 256 * t + a.val := Nat.mod_eq_of_lt (by omega)

theorem block_u (t : Fin cfg0.N) : ∀ a (d : Fin 1024), iblk m c 0 t (ix2 a d) = (arraysOf m c).proj (row t.val a) ⟨d.val, by omega⟩ := by
  have ht := lt_N t
  obtain ⟨h00, h01, h10, h11, h20, h21, h30, h31, h40, h41, h50, h51, h60, h61, ⟨h70, h71, h72⟩, h80, h81, -, -⟩ := idx_facts t
  intro a d
  refine Eq.trans ?_ (entry_u m c (row t.val a) d)
  show V m c main_v12 (((cfg0.win 0).blk t).view.emb (ix2 a d)) = _
  refine congrArg (V m c main_v12) ?_
  have := row_val ht a
  funext x; apply Fin.ext
  match x with
  | ⟨0, _⟩ => show win0_0.index t (0 : Fin 2) * 256 + 1 * a.val = (row t.val a).val; omega
  | ⟨1, _⟩ => show win0_0.index t (1 : Fin 2) * 1024 + 1 * d.val = 4096 + d.val; omega

theorem block_v (t : Fin cfg0.N) : ∀ a (d : Fin 1024), iblk m c 1 t (ix2 a d) = (arraysOf m c).proj (row t.val a) ⟨1024 + d.val, by omega⟩ := by
  have ht := lt_N t
  obtain ⟨h00, h01, h10, h11, h20, h21, h30, h31, h40, h41, h50, h51, h60, h61, ⟨h70, h71, h72⟩, h80, h81, -, -⟩ := idx_facts t
  intro a d
  refine Eq.trans ?_ (entry_v m c (row t.val a) d)
  show V m c main_v12 (((cfg0.win 1).blk t).view.emb (ix2 a d)) = _
  refine congrArg (V m c main_v12) ?_
  have := row_val ht a
  funext x; apply Fin.ext
  match x with
  | ⟨0, _⟩ => show win0_1.index t (0 : Fin 2) * 256 + 1 * a.val = (row t.val a).val; omega
  | ⟨1, _⟩ => show win0_1.index t (1 : Fin 2) * 1024 + 1 * d.val = 5120 + d.val; omega

theorem block_o (t : Fin cfg0.N) : ∀ a (d : Fin 1024), iblk m c 2 t (ix2 a d) = (arraysOf m c).proj (row t.val a) ⟨2048 + d.val, by omega⟩ := by
  have ht := lt_N t
  obtain ⟨h00, h01, h10, h11, h20, h21, h30, h31, h40, h41, h50, h51, h60, h61, ⟨h70, h71, h72⟩, h80, h81, -, -⟩ := idx_facts t
  intro a d
  refine Eq.trans ?_ (entry_o m c (row t.val a) d)
  show V m c main_v12 (((cfg0.win 2).blk t).view.emb (ix2 a d)) = _
  refine congrArg (V m c main_v12) ?_
  have := row_val ht a
  funext x; apply Fin.ext
  match x with
  | ⟨0, _⟩ => show win0_2.index t (0 : Fin 2) * 256 + 1 * a.val = (row t.val a).val; omega
  | ⟨1, _⟩ => show win0_2.index t (1 : Fin 2) * 1024 + 1 * d.val = 6144 + d.val; omega

theorem block_i (t : Fin cfg0.N) : ∀ a (h : Fin 4), iblk m c 3 t (ix2 a ⟨80 + h.val, by omega⟩) = (arraysOf m c).proj (row t.val a) ⟨3072 + h.val, by omega⟩ := by
  have ht := lt_N t
  obtain ⟨h00, h01, h10, h11, h20, h21, h30, h31, h40, h41, h50, h51, h60, h61, ⟨h70, h71, h72⟩, h80, h81, -, -⟩ := idx_facts t
  intro a h
  refine Eq.trans ?_ (entry_i m c (row t.val a) h)
  show V m c main_v14 (((cfg0.win 3).blk t).view.emb (ix2 a ⟨80 + h.val, _⟩)) = _
  refine congrArg (V m c main_v14) ?_
  have := row_val ht a
  funext x; apply Fin.ext
  match x with
  | ⟨0, _⟩ => show win0_3.index t (0 : Fin 2) * 256 + 1 * a.val = (row t.val a).val; omega
  | ⟨1, _⟩ => show win0_3.index t (1 : Fin 2) * 128 + 1 * (80 + h.val) = 80 + h.val; omega

theorem block_f (t : Fin cfg0.N) : ∀ a (h : Fin 4), iblk m c 3 t (ix2 a ⟨84 + h.val, by omega⟩) = (arraysOf m c).proj (row t.val a) ⟨3076 + h.val, by omega⟩ := by
  have ht := lt_N t
  obtain ⟨h00, h01, h10, h11, h20, h21, h30, h31, h40, h41, h50, h51, h60, h61, ⟨h70, h71, h72⟩, h80, h81, -, -⟩ := idx_facts t
  intro a h
  refine Eq.trans ?_ (entry_f m c (row t.val a) h)
  show V m c main_v14 (((cfg0.win 3).blk t).view.emb (ix2 a ⟨84 + h.val, _⟩)) = _
  refine congrArg (V m c main_v14) ?_
  have := row_val ht a
  funext x; apply Fin.ext
  match x with
  | ⟨0, _⟩ => show win0_3.index t (0 : Fin 2) * 256 + 1 * a.val = (row t.val a).val; omega
  | ⟨1, _⟩ => show win0_3.index t (1 : Fin 2) * 128 + 1 * (84 + h.val) = 84 + h.val; omega

theorem block_bi (t : Fin cfg0.N) : ∀ h : Fin 4, iblk m c 4 t (ix2 0 ⟨80 + h.val, by omega⟩) = (arraysOf m c).bias ⟨h.val, by omega⟩ := by
  have ht := lt_N t
  obtain ⟨h00, h01, h10, h11, h20, h21, h30, h31, h40, h41, h50, h51, h60, h61, ⟨h70, h71, h72⟩, h80, h81, -, -⟩ := idx_facts t
  intro h
  refine Eq.trans ?_ (entry_bi m c h)
  show V m c main_v18 (((cfg0.win 4).blk t).view.emb (ix2 0 ⟨80 + h.val, _⟩)) = _
  refine congrArg (V m c main_v18) ?_
  funext x; apply Fin.ext
  match x with
  | ⟨0, _⟩ => show win0_4.index t (0 : Fin 2) * 1 + 1 * 0 = 0; omega
  | ⟨1, _⟩ => show win0_4.index t (1 : Fin 2) * 128 + 1 * (80 + h.val) = 80 + h.val; omega

theorem block_bf (t : Fin cfg0.N) : ∀ h : Fin 4, iblk m c 4 t (ix2 0 ⟨84 + h.val, by omega⟩) = (arraysOf m c).bias ⟨4 + h.val, by omega⟩ := by
  have ht := lt_N t
  obtain ⟨h00, h01, h10, h11, h20, h21, h30, h31, h40, h41, h50, h51, h60, h61, ⟨h70, h71, h72⟩, h80, h81, -, -⟩ := idx_facts t
  intro h
  refine Eq.trans ?_ (entry_bf m c h)
  show V m c main_v18 (((cfg0.win 4).blk t).view.emb (ix2 0 ⟨84 + h.val, _⟩)) = _
  refine congrArg (V m c main_v18) ?_
  funext x; apply Fin.ext
  match x with
  | ⟨0, _⟩ => show win0_4.index t (0 : Fin 2) * 1 + 1 * 0 = 0; omega
  | ⟨1, _⟩ => show win0_4.index t (1 : Fin 2) * 128 + 1 * (84 + h.val) = 84 + h.val; omega

theorem block_wc (t : Fin cfg0.N) : ∀ j d, iblk m c 5 t (ix2 j d) = (arraysOf m c).wc j d := by
  have ht := lt_N t
  obtain ⟨h00, h01, h10, h11, h20, h21, h30, h31, h40, h41, h50, h51, h60, h61, ⟨h70, h71, h72⟩, h80, h81, -, -⟩ := idx_facts t
  intro j d
  show V m c main_arg2 (((cfg0.win 5).blk t).view.emb (ix2 j d)) = _
  rw [V_main_arg2]
  refine congrArg (m ((c : Thread nD τ).loc main_arg2)) ?_
  funext x; apply Fin.ext
  match x with
  | ⟨0, _⟩ => show win0_5.index t (0 : Fin 2) * 4 + 1 * j.val = j.val; omega
  | ⟨1, _⟩ => show win0_5.index t (1 : Fin 2) * 1024 + 1 * d.val = d.val; omega

theorem block_bc (t : Fin cfg0.N) : ∀ d, iblk m c 6 t (ix2 0 d) = (arraysOf m c).bc d := by
  have ht := lt_N t
  obtain ⟨h00, h01, h10, h11, h20, h21, h30, h31, h40, h41, h50, h51, h60, h61, ⟨h70, h71, h72⟩, h80, h81, -, -⟩ := idx_facts t
  intro d
  refine Eq.trans ?_ (entry_bc m c d)
  show V m c main_v19 (((cfg0.win 6).blk t).view.emb (ix2 0 d)) = _
  refine congrArg (V m c main_v19) ?_
  funext x; apply Fin.ext
  match x with
  | ⟨0, _⟩ => show win0_6.index t (0 : Fin 2) * 1 + 1 * 0 = 0; omega
  | ⟨1, _⟩ => show win0_6.index t (1 : Fin 2) * 1024 + 1 * d.val = d.val; omega

theorem block_wqk (t : Fin cfg0.N) : ∀ h k d, (iblk m c 7 t (ix3 h k d) : EReal) = (arraysOf m c).wqk h k d := by
  have ht := lt_N t
  obtain ⟨h00, h01, h10, h11, h20, h21, h30, h31, h40, h41, h50, h51, h60, h61, ⟨h70, h71, h72⟩, h80, h81, -, -⟩ := idx_facts t
  intro h k d
  refine Eq.trans ?_ (entry_wqk m c h k d)
  show V m c main_v20 (((cfg0.win 7).blk t).view.emb (ix3 h k d)) = _
  refine congrArg (V m c main_v20) ?_
  funext x; apply Fin.ext
  match x with
  | ⟨0, _⟩ => show win0_7.index t (0 : Fin 3) * 4 + 1 * h.val = h.val; omega
  | ⟨1, _⟩ => show win0_7.index t (1 : Fin 3) * 256 + 1 * k.val = k.val; omega
  | ⟨2, _⟩ => show win0_7.index t (2 : Fin 3) * 256 + 1 * d.val = d.val; omega

theorem block_gain (t : Fin cfg0.N) : ∀ h d, iblk m c 8 t (ix2 h d) = (arraysOf m c).gain h d := by
  have ht := lt_N t
  obtain ⟨h00, h01, h10, h11, h20, h21, h30, h31, h40, h41, h50, h51, h60, h61, ⟨h70, h71, h72⟩, h80, h81, -, -⟩ := idx_facts t
  intro h d
  show V m c main_arg5 (((cfg0.win 8).blk t).view.emb (ix2 h d)) = _
  rw [V_main_arg5]
  refine congrArg (m ((c : Thread nD τ).loc main_arg5)) ?_
  funext x; apply Fin.ext
  match x with
  | ⟨0, _⟩ => show win0_8.index t (0 : Fin 2) * 4 + 1 * h.val = h.val; omega
  | ⟨1, _⟩ => show win0_8.index t (1 : Fin 2) * 256 + 1 * d.val = d.val; omega

/-- A grid point's blocks. -/
theorem block (t : Fin cfg0.N) :
    Block (arraysOf m c) t.val (iblk m c 0 t) (iblk m c 1 t) (iblk m c 2 t) (iblk m c 3 t) (iblk m c 4 t) (iblk m c 5 t)
      (iblk m c 6 t) (iblk m c 7 t) (iblk m c 8 t) :=
  ⟨block_u m c t, block_v m c t, block_o m c t, block_i m c t, block_f m c t, block_bi m c t, block_bf m c t, block_wc m c t, block_bc m c t, block_wqk m c t, block_gain m c t⟩

end Cert.Mlstm

end
-- ==== Proof.MlstmValue.lean ====
module

public import proofs.«01_k».proof.Proof.MlstmStep
public import proofs.«01_k».proof.Proof.MlstmReads
public import proofs.«01_k».proof.Proof.Gen.KernelIdeal.Value

/-! The mLSTM kernel's run: its rows, the convolution's last rows and the heads' memories after the last chunk. -/

@[expose] public section

noncomputable section

namespace Cert.Mlstm

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- What the point before `t` must have left. -/
def Before (t : Fin cfg0.N) : Prop :=
  (∀ (a : Fin 264) d, a.val < 8 → ((outsAt0 m c (t.val - 1) (Nat.lt_of_le_of_lt (Nat.sub_le _ _) t.isLt)).2.2.2.2.2.1 (ix2 a d) : EReal) = behind (arraysOf m c) t.val a.val d)
  ∧ Memory (arraysOf m c) t.val (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

theorem at_first (t : Fin cfg0.N) (h0 : t.val = 0) :
    Left (arraysOf m c) t.val (outsAt0 m c t.val t.isLt).1 (outsAt0 m c t.val t.isLt).2.2.2.2.2.1 (outsAt0 m c t.val t.isLt).2.2.2.2.2.2.1 (outsAt0 m c t.val t.isLt).2.2.2.2.2.2.2.1 (outsAt0 m c t.val t.isLt).2.2.2.2.2.2.2.2 := by
  rw [outsAt0_A m c t (by omega) (by omega)]
  dsimp only
  exact left_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (block m c t) (lt_N t) h0 ((hcond0_0 t).mpr (by omega)) (fun h => (by omega : ¬t.val % 32 = 31) ((hcond0_1 t).mp h))

theorem at_middle (t : Fin cfg0.N) (h0 : ¬t.val % 32 = 0) (h1 : ¬t.val % 32 = 31) (H : Before m c t) :
    Left (arraysOf m c) t.val (outsAt0 m c t.val t.isLt).1 (outsAt0 m c t.val t.isLt).2.2.2.2.2.1 (outsAt0 m c t.val t.isLt).2.2.2.2.2.2.1 (outsAt0 m c t.val t.isLt).2.2.2.2.2.2.2.1 (outsAt0 m c t.val t.isLt).2.2.2.2.2.2.2.2 := by
  rw [outsAt0_B m c t h0 h1]
  dsimp only
  exact left_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (block m c t) (lt_N t) H.1 H.2 (fun h => h0 ((hcond0_0 t).mp h)) (fun h => h1 ((hcond0_1 t).mp h))

theorem at_last (t : Fin cfg0.N) (h0 : ¬t.val % 32 = 0) (h1 : t.val % 32 = 31) (H : Before m c t) :
    Left (arraysOf m c) t.val (outsAt0 m c t.val t.isLt).1 (outsAt0 m c t.val t.isLt).2.2.2.2.2.1 (outsAt0 m c t.val t.isLt).2.2.2.2.2.2.1 (outsAt0 m c t.val t.isLt).2.2.2.2.2.2.2.1 (outsAt0 m c t.val t.isLt).2.2.2.2.2.2.2.2 := by
  rw [outsAt0_C m c t h0 h1]
  dsimp only
  exact left_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (block m c t) (lt_N t) H.1 H.2 (fun h => h0 ((hcond0_0 t).mp h)) ((hcond0_1 t).mpr h1)

/-- What the last grid point writes out. -/
theorem written_at (t : Fin cfg0.N) (h0 : ¬t.val % 32 = 0) (h1 : t.val % 32 = 31) (H : Before m c t) :
    (∀ (a : Fin 3) (d : Fin 1024), ((outsAt0 m c t.val t.isLt).2.1 (ix2 a d) : EReal) = (arraysOf m c).proj ⟨8189 + a.val, by omega⟩ ⟨d.val, by omega⟩)
    ∧ Memory (arraysOf m c) (t.val + 1) (outsAt0 m c t.val t.isLt).2.2.1 (outsAt0 m c t.val t.isLt).2.2.2.1 (outsAt0 m c t.val t.isLt).2.2.2.2.1 := by
  rw [outsAt0_C m c t h0 h1]
  dsimp only
  exact outs_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (block m c t) (lt_N t) H.1 H.2 (by have := lt_N t; omega) (fun h => h0 ((hcond0_0 t).mp h)) ((hcond0_1 t).mpr h1)

theorem before {n : ℕ} (hn : n + 1 < cfg0.N) (L : Left (arraysOf m c) n (outsAt0 m c n (Nat.lt_of_succ_lt hn)).1 (outsAt0 m c n (Nat.lt_of_succ_lt hn)).2.2.2.2.2.1 (outsAt0 m c n (Nat.lt_of_succ_lt hn)).2.2.2.2.2.2.1 (outsAt0 m c n (Nat.lt_of_succ_lt hn)).2.2.2.2.2.2.2.1 (outsAt0 m c n (Nat.lt_of_succ_lt hn)).2.2.2.2.2.2.2.2) : Before m c ⟨n + 1, hn⟩ := ⟨L.ext, L.memory⟩

theorem left : ∀ (n : ℕ) (hn : n < cfg0.N),
    Left (arraysOf m c) n (outsAt0 m c n hn).1 (outsAt0 m c n hn).2.2.2.2.2.1 (outsAt0 m c n hn).2.2.2.2.2.2.1 (outsAt0 m c n hn).2.2.2.2.2.2.2.1 (outsAt0 m c n hn).2.2.2.2.2.2.2.2 := by
  intro n
  induction n with
  | zero => exact fun hn => at_first m c ⟨0, hn⟩ rfl
  | succ n ih =>
    intro hn
    have hN : n + 1 < 32 := lt_N ⟨n + 1, hn⟩
    have L := ih (by omega)
    have H := before m c hn L
    by_cases h : n + 1 = 31
    · exact at_last m c ⟨n + 1, hn⟩ (by dsimp only; omega) (by dsimp only; omega) H
    · exact at_middle m c ⟨n + 1, hn⟩ (by dsimp only; omega) (by dsimp only; omega) H

theorem written (n : ℕ) (hn : n < cfg0.N) (h31 : n = 31) :
    (∀ (a : Fin 3) (d : Fin 1024), ((outsAt0 m c n hn).2.1 (ix2 a d) : EReal) = (arraysOf m c).proj ⟨8189 + a.val, by omega⟩ ⟨d.val, by omega⟩)
    ∧ Memory (arraysOf m c) (n + 1) (outsAt0 m c n hn).2.2.1 (outsAt0 m c n hn).2.2.2.1 (outsAt0 m c n hn).2.2.2.2.1 := by
  obtain ⟨k, rfl⟩ : ∃ k, n = k + 1 := ⟨n - 1, by omega⟩
  exact written_at m c ⟨k + 1, hn⟩ (by dsimp only; omega) (by dsimp only; omega) (before m c hn (left m c k (by omega)))

/-! ## The results -/

/-- The layer's rows. -/
def rowsOut : FVec Ideal S8192x1024 .bf16 := fun i => (arraysOf m c).rows (i 0) (i 1)

/-- The last three rows of the first projection. -/
def convOutput : FVec Ideal S3x1024 .f32 := fun i => (arraysOf m c).proj ⟨8189 + (i 0).val, by have : (i 0).val < 3 := (i 0).isLt; omega⟩ ⟨(i 1).val, by have : (i 1).val < 1024 := (i 1).isLt; omega⟩

/-- The heads' matrices after the last chunk. -/
def matrixOutput : FVec Ideal S4x128x256 .f32 := fun i => ((arraysOf m c).mem (i 0) 128).C (i 1) (i 2)

/-- The heads' vectors after the last chunk, and four rows of zeros. -/
def vectorOutput : FVec Ideal S8x128 .f32 := fun i =>
  if h : (i 0).val < 4 then ((arraysOf m c).mem ⟨(i 0).val, h⟩ 128).n (i 1) else (0 : EReal)

/-- The heads' levels after the last chunk, each along a row, and four rows of zeros. -/
def levelOutput : FVec Ideal S8x128 .f32 := fun i =>
  if h : (i 0).val < 4 then ((arraysOf m c).mem ⟨(i 0).val, h⟩ 128).m else (0 : EReal)

theorem G9_eq : G9 m c = rowsOut m c := by
  funext i
  obtain ⟨r, d, rfl⟩ : ∃ (r : Fin 8192) (d : Fin 1024), i = ix2 r d := ⟨i 0, i 1, (ix2_eta i).symm⟩
  have hp : pt9Of (ix2 r d) = r.val / 256 := by
    show 1 * (r.val / 256 - 0) + 1 * (d.val / 1024 - 0) = r.val / 256
    omega
  have hlt : pt9Of (ix2 r d) < cfg0.N := lt_of_lt_of_eq (by rw [hp]; omega) N_0.symm
  have hl : loc9Of (ix2 r d) = ix2 ⟨r.val % 256, by omega⟩ d := by
    funext a; apply Fin.ext
    match a with
    | ⟨0, _⟩ => rfl
    | ⟨1, _⟩ => show d.val % 1024 = d.val; omega
  unfold G9
  rw [dif_pos hlt, ← outsAt0_sweep m c _ hlt, hl]
  refine ((left m c _ hlt).rows ⟨r.val % 256, by omega⟩ d).trans ?_
  refine congrArg (fun z => (arraysOf m c).rows z d) (Fin.ext ?_)
  show (256 * pt9Of (ix2 r d) + r.val % 256) % 8192 = r.val
  rw [hp]; omega

theorem lt_31 : 31 < cfg0.N := lt_of_lt_of_eq (by decide) N_0.symm

theorem G10_eq : G10 m c = convOutput m c := by
  rw [G10_last, ← outsAt0_sweep m c 31 lt_31]
  funext i
  obtain ⟨r, d, rfl⟩ : ∃ (r : Fin 3) (d : Fin 1024), i = ix2 r d := ⟨i 0, i 1, (ix2_eta i).symm⟩
  exact (written m c 31 lt_31 rfl).1 r d

theorem G11_eq : G11 m c = matrixOutput m c := by
  rw [G11_last, ← outsAt0_sweep m c 31 lt_31]
  funext i
  obtain ⟨h, r, d, rfl⟩ : ∃ (h : Fin 4) (r : Fin 128) (d : Fin 256), i = ix3 h r d := ⟨i 0, i 1, i 2, (ix3_eta i).symm⟩
  exact (written m c 31 lt_31 rfl).2.C h r d

theorem G12_eq : G12 m c = vectorOutput m c := by
  rw [G12_last, ← outsAt0_sweep m c 31 lt_31]
  funext i
  obtain ⟨r, d, rfl⟩ : ∃ (r : Fin 8) (d : Fin 128), i = ix2 r d := ⟨i 0, i 1, (ix2_eta i).symm⟩
  show _ = (if h : r.val < 4 then ((arraysOf m c).mem ⟨r.val, h⟩ 128).n d else (0 : EReal))
  by_cases h : r.val < 4
  · rw [dif_pos h]
    exact (written m c 31 lt_31 rfl).2.n ⟨r.val, h⟩ d
  · rw [dif_neg h]
    exact (written m c 31 lt_31 rfl).2.n0 r (by omega) d

theorem G13_eq : G13 m c = levelOutput m c := by
  rw [G13_last, ← outsAt0_sweep m c 31 lt_31]
  funext i
  obtain ⟨r, d, rfl⟩ : ∃ (r : Fin 8) (d : Fin 128), i = ix2 r d := ⟨i 0, i 1, (ix2_eta i).symm⟩
  show _ = (if h : r.val < 4 then ((arraysOf m c).mem ⟨r.val, h⟩ 128).m else (0 : EReal))
  by_cases h : r.val < 4
  · rw [dif_pos h]
    exact (written m c 31 lt_31 rfl).2.m ⟨r.val, h⟩ d
  · rw [dif_neg h]
    exact (written m c 31 lt_31 rfl).2.m0 r (by omega) d

/-- The kernel's run. -/
theorem run (ρ : Dev nD → PrngReg) : θ_run defs (onTc (τ := τ) (main (F := Ideal))) ⟨m, fun _ => 0, ρ⟩ fun r => ∀ c : Dev nD,
      r.2.mem ((c : Thread nD τ).loc main_v21_0) = rowsOut m c
      ∧ r.2.mem ((c : Thread nD τ).loc main_v21_1) = convOutput m c
      ∧ r.2.mem ((c : Thread nD τ).loc main_v21_2) = matrixOutput m c
      ∧ r.2.mem ((c : Thread nD τ).loc main_v21_3) = vectorOutput m c
      ∧ r.2.mem ((c : Thread nD τ).loc main_v21_4) = levelOutput m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (G9_eq m c), (h c).2.1.trans (G10_eq m c), (h c).2.2.1.trans (G11_eq m c),
      (h c).2.2.2.1.trans (G12_eq m c), (h c).2.2.2.2.1.trans (G13_eq m c), (h c).2.2.2.2.2⟩)
    (Cert.KernelIdeal.Value.run m ρ)

end Cert.Mlstm

end
-- ==== Proof.MlstmSetup.lean ====
module

public import proofs.«01_k».proof.Proof.MlstmMath
public import proofs.«01_k».proof.Proof.Gen.ReferenceIdeal.Step

/-! What the reference computes before its loop: the chunks of the heads. -/

@[expose] public section

noncomputable section

namespace Cert.MlstmReference

open Cert.Mlstm Cert.ReferenceIdeal Cert.ReferenceIdeal.Step Idealize.ShloMosaic

/-- The log of the logistic function as the negated soft plus. -/
theorem softplus_eq (x : EReal) : -(max (-x) 0 + Ideal.log1p (Ideal.exp (-max (-x) (- -x)))) = logLogistic x := by
  have hb (y : EReal) : Ideal.log (1 + Ideal.exp y) ≠ ⊥ := by
    induction y using EReal.rec with
    | bot =>
      rw [Ideal.exp_bot, add_zero, ← EReal.coe_one, Ideal.log_coe, if_neg (by norm_num)]
      exact EReal.coe_ne_bot _
    | top =>
      rw [Ideal.exp_top, EReal.add_top_of_ne_bot (by decide), Ideal.log_top]
      decide
    | coe r =>
      have : ¬ 1 + Real.exp r ≤ 0 := not_le.mpr (by positivity)
      rw [Ideal.exp_coe, ← EReal.coe_one, ← EReal.coe_add, Ideal.log_coe, if_neg this]
      exact EReal.coe_ne_bot _
  have ha : max (-x) 0 ≠ ⊥ := ne_of_gt (lt_of_lt_of_le (by decide) (le_max_right _ _))
  unfold Ideal.log1p logLogistic mag
  rw [EReal.neg_add (.inl ha) (.inr (hb _)), neg_neg, max_comm (-x) x, zero_sub]
  refine congrArg (· - Ideal.log (1 + Ideal.exp (-max x (-x)))) ?_
  rcases le_total x 0 with h | h
  · rw [min_eq_left h, max_eq_left (by simpa using EReal.neg_le_neg_iff.mpr h), neg_neg]
  · rw [min_eq_right h, max_eq_right (by simpa using EReal.neg_le_neg_iff.mpr h), neg_zero]

theorem time_eq (j : Fin 128) (r : Fin 64) (h : j.val * 64 + r.val < 8192) : (⟨j.val * 64 + r.val, h⟩ : Fin 8192) = time j.val r :=
  Fin.ext (by show j.val * 64 + r.val = (64 * j.val + r.val) % 8192; omega)

/-- The arrays of the arguments. -/
def arrays (a0 : FVec Ideal S8192x11352 .f32) (a1 : FVec Ideal S8 .f32) (a2 : FVec Ideal S4x1024 .f32) (a3 : FVec Ideal S1024 .f32)
    (a4 : FVec Ideal S4x256x256 .f32) (a5 : FVec Ideal S4x256 .f32) : Arrays where
  proj r d := a0 (ix2 r d)
  bias d := a1 (ix1 d)
  wc j d := a2 (ix2 j d)
  bc d := a3 (ix1 d)
  wqk h k d := a4 (ix3 h k d)
  gain h d := a5 (ix2 h d)

variable (a0 : FVec Ideal S8192x11352 .f32) (a1 : FVec Ideal S8 .f32) (a2 : FVec Ideal S4x1024 .f32) (a3 : FVec Ideal S1024 .f32)
    (a4 : FVec Ideal S4x256x256 .f32) (a5 : FVec Ideal S4x256 .f32)

theorem padded (t : Fin 8195) (d : Fin 1024) : (A_main_v5 (F := Ideal) a0 a1 a2 a3 a4 (ix2 t d) : EReal) =
    if h : t.val < 3 then 0 else a0 (ix2 ⟨t.val - 3, by omega⟩ ⟨d.val, by omega⟩) := by
  unfold A_main_v5 A_main_v0 K_main_v4 K_main_cst
  pointwise

theorem conv_eq (t : Fin 8192) (d : Fin 1024) : (A_main_v37 (F := Ideal) a0 a1 a2 a3 a4 (ix2 t d) : EReal) = (arrays a0 a1 a2 a3 a4 a5).conv t d := by
  have e (j : Fin 4) (q : Fin 8195) (hq : q.val = t.val + j.val) : (A_main_v5 (F := Ideal) a0 a1 a2 a3 a4 (ix2 q d) : EReal) = (arrays a0 a1 a2 a3 a4 a5).earlier t j d := by
    rw [padded]
    unfold Arrays.earlier
    by_cases h : t.val + j.val < 3
    · rw [dif_pos (by omega), if_pos h]
    · rw [dif_neg (by omega), if_neg h]
      show a0 _ = a0 _
      exact congrArg (fun z => a0 (ix2 z _)) (Fin.ext (by dsimp only; omega))
  unfold A_main_v37 A_main_v36 A_main_v35 A_main_v34 A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v13 A_main_v11 A_main_v10 A_main_v9 A_main_v8 A_main_v7 A_main_v6 K_main_v12 K_main_cst_0
  generalize hp : A_main_v5 (F := Ideal) a0 a1 a2 a3 a4 = p at e ⊢
  pointwise
  rw [e 0 _ rfl, e 1 _ (Nat.add_comm _ _), e 2 _ (Nat.add_comm _ _), e 3 _ (Nat.add_comm _ _)]
  rfl

theorem conved_eq (t : Fin 8192) (d : Fin 1024) : (A_main_v38 (F := Ideal) a0 a1 a2 a3 a4 (ix2 t d) : EReal) = (arrays a0 a1 a2 a3 a4 a5).conved t d := by
  have e := conv_eq a0 a1 a2 a3 a4 a5 t d
  unfold A_main_v38 A_main_call0_v5 A_main_call0_v3 A_main_call0_v1 A_main_call0_v0 K_main_call0_v2 K_main_call0_v4 K_main_call0_cst K_main_call0_cst_0
  generalize A_main_v37 (F := Ideal) a0 a1 a2 a3 a4 = p at e ⊢
  pointwise
  rw [e]
  unfold Arrays.conved Mlstm.logistic
  simp only [zero_sub]

theorem qk_eq (t : Fin 8192) (h : Fin 4) (d : Fin 256) : (A_main_v41 (F := Ideal) a0 a1 a2 a3 a4 (ix3 t h d) : EReal) = (arrays a0 a1 a2 a3 a4 a5).qk h t d := by
  have e := conved_eq a0 a1 a2 a3 a4 a5 t
  unfold A_main_v41 A_main_v40 A_main_v39
  generalize A_main_v38 (F := Ideal) a0 a1 a2 a3 a4 = p at e ⊢
  pointwise
  unfold Arrays.qk
  refine Finset.sum_congr rfl fun k _ => ?_
  rw [← e, mul_comm]
  exact congrArg (fun z => p (ix2 t z) * a4 (ix3 h k d)) (Fin.ext (by dsimp only; omega))

theorem query_eq (j : Fin 128) (r : Fin 64) (h : Fin 4) (d : Fin 128) : (A_main_v55 (F := Ideal) a0 a1 a2 a3 a4 (ix4 j r h d) : EReal) = ((arrays a0 a1 a2 a3 a4 a5).chunk h j.val).q r d := by
  have e := qk_eq a0 a1 a2 a3 a4 a5
  unfold A_main_v55 A_main_v45 A_main_v42 K_main_v44 K_main_cst_1
  generalize A_main_v41 (F := Ideal) a0 a1 a2 a3 a4 = p at e ⊢
  pointwise
  rw [time_eq, e]
  rfl

theorem key_eq (j : Fin 128) (r : Fin 64) (h : Fin 4) (d : Fin 128) : (A_main_v56 (F := Ideal) a0 a1 a2 a3 a4 (ix4 j r h d) : EReal) = ((arrays a0 a1 a2 a3 a4 a5).chunk h j.val).k r d := by
  have e := qk_eq a0 a1 a2 a3 a4 a5
  unfold A_main_v56 A_main_v43
  generalize A_main_v41 (F := Ideal) a0 a1 a2 a3 a4 = p at e ⊢
  pointwise
  rw [time_eq, e]
  rfl

theorem value_eq (j : Fin 128) (r : Fin 64) (h : Fin 4) (d : Fin 256) : (A_main_v58 (F := Ideal) a0 a1 a2 a3 a4 (ix4 j r h d) : EReal) = ((arrays a0 a1 a2 a3 a4 a5).chunk h j.val).v r d := by
  unfold A_main_v58 A_main_v57 A_main_v1
  pointwise
  rw [time_eq]
  exact congrArg (fun z => a0 (ix2 _ z)) (Fin.ext (by dsimp only; omega))

theorem input_eq (j : Fin 128) (r : Fin 64) (h : Fin 4) : (A_main_v59 (F := Ideal) a0 a1 a2 a3 a4 (ix3 j r h) : EReal) = ((arrays a0 a1 a2 a3 a4 a5).chunk h j.val).li r := by
  unfold A_main_v59 A_main_v50 A_main_v49 A_main_v48 A_main_v47 A_main_v46 A_main_v3 A_main_v2
  pointwise
  rw [time_eq]
  rfl

theorem forget_eq (j : Fin 128) (r : Fin 64) (h : Fin 4) : (A_main_v60 (F := Ideal) a0 a1 a2 a3 a4 (ix3 j r h) : EReal) = (arrays a0 a1 a2 a3 a4 a5).forget h (time j.val r) := by
  have e (t : Fin 8192) : (A_main_v51 (F := Ideal) a0 a1 a2 a3 a4 (ix2 t h) : EReal) = a0 (ix2 t ⟨3076 + h.val, by omega⟩) + a1 (ix1 ⟨4 + h.val, by omega⟩) := by
    unfold A_main_v51 A_main_v49 A_main_v48 A_main_v47 A_main_v46 A_main_v3 A_main_v2
    pointwise
  unfold A_main_v60 A_main_v54 A_main_v53 A_main_call1_v11 A_main_call1_v10 A_main_call1_v9 A_main_call1_v8 A_main_call1_v7 A_main_call1_v6 A_main_call1_v4 A_main_call1_v3 A_main_call1_v1 A_main_v52 K_main_call1_v0 K_main_call1_v2 K_main_call1_v5 K_main_call1_cst
  generalize A_main_v51 (F := Ideal) a0 a1 a2 a3 a4 = p at e ⊢
  pointwise
  rw [if_neg (fun q => q rfl), time_eq, e]
  exact softplus_eq _

end Cert.MlstmReference
end
-- ==== Proof.MlstmSum.lean ====
module

public import proofs.«01_k».proof.Proof.MlstmMath

/-! Running sums. -/

@[expose] public section

noncomputable section

namespace Cert.MlstmReference

open Cert.Mlstm Idealize.ShloMosaic

/-- A running sum down the rows: entry `(r, d)` is the sum of column `d`'s entries up to and including row `r`. -/
theorem runningSum {N M C : ℕ} (hN : M + 1 = N) (x : FVec Ideal ⟨2, ![N, C]⟩ .f32) (init : FVec Ideal ⟨0, ![]⟩ .f32)
    (hi : ∀ i, (init i : EReal) = 0)
    (h : (⟨2, ![N, C]⟩ : Shape).ReduceWindows (![N, 1] : Fin 2 → ℕ) ![1, 1] ![M, 0] ![0, 0] ⟨2, ![N, C]⟩)
    (hu : 0 < (⟨0, ![]⟩ : Shape).numel) (r : Fin N) (d : Fin C) :
    (Host.reduceWindowAdd (F := Ideal) (φ := .f32) (u := ⟨0, ![]⟩) ![N, 1] ![1, 1] ![M, 0] ![0, 0] x init h hu (ix2 r d) : EReal) =
      ∑ y : Fin N, if y.val ≤ r.val then (x (ix2 y d) : EReal) else 0 := by
  have e : (Host.reduceWindowAdd (F := Ideal) (φ := .f32) (u := ⟨0, ![]⟩) ![N, 1] ![1, 1] ![M, 0] ![0, 0] x init h hu (ix2 r d) : EReal) =
      ∑ w : (⟨2, ![N, 1]⟩ : Shape).Idx, if hw : M ≤ r.val + (w 0).val then
        (x (ix2 ⟨r.val + (w 0).val - M, by have : (w 0).val < N := (w 0).isLt; omega⟩ d) : EReal) else 0 := by
    rw [sum_idx_eq_foldl]
    show List.foldl _ (init _ : EReal) _ = _
    rw [hi]
    refine congrArg (fun g => List.foldl g (0 : EReal) _) (funext fun s => funext fun n => congrArg (s + ·) ?_)
    have hw1 : ((⟨2, ![N, 1]⟩ : Shape).rowMajor.symm n 1).val = 0 := by
      have : ((⟨2, ![N, 1]⟩ : Shape).rowMajor.symm n 1).val < 1 := ((⟨2, ![N, 1]⟩ : Shape).rowMajor.symm n 1).isLt
      omega
    have hw0 : ((⟨2, ![N, 1]⟩ : Shape).rowMajor.symm n 0).val < N := ((⟨2, ![N, 1]⟩ : Shape).rowMajor.symm n 0).isLt
    by_cases hw : M ≤ r.val + ((⟨2, ![N, 1]⟩ : Shape).rowMajor.symm n 0).val
    · rw [dif_pos hw]
      refine (dif_pos ?_).trans (congrArg x ?_)
      · intro a
        match a with
        | ⟨0, _⟩ =>
          show M ≤ r.val * 1 + ((⟨2, ![N, 1]⟩ : Shape).rowMajor.symm n 0).val ∧ r.val * 1 + ((⟨2, ![N, 1]⟩ : Shape).rowMajor.symm n 0).val - M < N
          omega
        | ⟨1, _⟩ =>
          show 0 ≤ d.val * 1 + ((⟨2, ![N, 1]⟩ : Shape).rowMajor.symm n 1).val ∧ d.val * 1 + ((⟨2, ![N, 1]⟩ : Shape).rowMajor.symm n 1).val - 0 < C
          omega
      · funext a
        apply Fin.ext
        match a with
        | ⟨0, _⟩ =>
          show r.val * 1 + ((⟨2, ![N, 1]⟩ : Shape).rowMajor.symm n 0).val - M = r.val + ((⟨2, ![N, 1]⟩ : Shape).rowMajor.symm n 0).val - M
          omega
        | ⟨1, _⟩ =>
          show d.val * 1 + ((⟨2, ![N, 1]⟩ : Shape).rowMajor.symm n 1).val - 0 = d.val
          omega
    · rw [dif_neg hw]
      refine (dif_neg fun q => hw ?_).trans rfl
      have := (q 0).1
      change M ≤ r.val * 1 + ((⟨2, ![N, 1]⟩ : Shape).rowMajor.symm n 0).val at this
      omega
  rw [e, sum_idx2]
  simp only [Fin.sum_univ_one]
  subst hN
  refine Fintype.sum_equiv (Equiv.addRight (⟨(r.val + 1) % (M + 1), Nat.mod_lt _ (by omega)⟩ : Fin (M + 1))) _ _ fun w => ?_
  have hr := r.isLt
  have hw := w.isLt
  have hv : (Equiv.addRight (⟨(r.val + 1) % (M + 1), Nat.mod_lt _ (by omega)⟩ : Fin (M + 1)) w).val = (w.val + (r.val + 1)) % (M + 1) := by
    show (w.val + (r.val + 1) % (M + 1)) % (M + 1) = _
    rw [Nat.add_mod_mod]
  show (if hw : M ≤ r.val + w.val then (x (ix2 ⟨r.val + w.val - M, _⟩ d) : EReal) else 0) = _
  by_cases h : M ≤ r.val + w.val
  · have e : (w.val + (r.val + 1)) % (M + 1) = r.val + w.val - M := by
      rw [Nat.mod_eq_sub_mod (by omega), Nat.mod_eq_of_lt (by omega)]; omega
    rw [dif_pos h, if_pos (by rw [hv, e]; omega)]
    exact congrArg (fun z => x (ix2 z d)) (Fin.ext (by rw [hv, e]))
  · rw [dif_neg h, if_neg (by rw [hv, Nat.mod_eq_of_lt (by omega)]; omega)]

end Cert.MlstmReference
end
-- ==== Proof.MlstmTrip.lean ====
module

public import proofs.«01_k».proof.Proof.MlstmSum
public import proofs.«01_k».proof.Proof.Gen.ReferenceIdeal.Step

/-! One trip of the reference's loop takes a chunk into the memory and gives its rows. -/

@[expose] public section

noncomputable section

namespace Cert.MlstmReference

open Cert.Mlstm Cert.ReferenceIdeal Cert.ReferenceIdeal.Step Idealize.ShloMosaic

/-- A state of the loop before trip `j`: the chunk `X h` of every head `h` in the carried arrays, and the heads' memories. -/
structure Trip (X : Fin 4 → Chunk) (M : Fin 4 → Mem) (j : Fin 128) (s : State Ideal) : Prop where
  q : ∀ r h d, (s.main_v65_0 (ix4 j r h d) : EReal) = (X h).q r d
  k : ∀ r h d, (s.main_v65_1 (ix4 j r h d) : EReal) = (X h).k r d
  v : ∀ r h d, (s.main_v65_2 (ix4 j r h d) : EReal) = (X h).v r d
  li : ∀ r h, (s.main_v65_3 (ix3 j r h) : EReal) = (X h).li r
  b : ∀ (r : Fin 64) h, (∑ y : Fin 64, if y.val ≤ r.val then (s.main_v65_4 (ix3 j y h) : EReal) else 0) = (X h).b r
  C : ∀ h r d, (s.main_v65_6 (ix3 h r d) : EReal) = (M h).C r d
  n : ∀ h d, (s.main_v65_7 (ix2 h d) : EReal) = (M h).n d
  m : ∀ h, (s.main_v65_8 (ix1 h) : EReal) = (M h).m

variable {X : Fin 4 → Chunk} {M : Fin 4 → Mem} {j : Fin 128} {s : State Ideal} (T : Trip X M j s)
theorem first_start (o : Fin 128) : (min (max ((BitVec.ofNat 32 o.val).toInt) 0) (127 : ℤ)).toNat = o.val := by
  rw [BitVec.toInt_eq_toNat_of_lt (by rw [BitVec.toNat_ofNat]; omega), BitVec.toNat_ofNat]
  omega

theorem mask_eq (r x : Fin 64) : IntOp.cmpi CmpIPredicate.sge (IntOp.addi (BitVec.ofNat 32 r.val) 0#32) (BitVec.ofNat 32 x.val) = if x.val ≤ r.val then 1#1 else 0#1 := by
  revert r x; decide

include T

theorem b4_eq (r : Fin 64) (h : Fin 4) (d : Fin 128) : (b4 (F := Ideal) j.val s (ix3 r h d) : EReal) = (X h).q r d := by
  unfold b4 b3 b2 b1 b0
  pointwise
  refine (congrArg s.main_v65_0 (funext fun a => Fin.ext ?_)).trans (T.q r h d)
  match a with
  | ⟨0, _⟩ => exact first_start j
  | ⟨1, _⟩ => exact Nat.zero_add _
  | ⟨2, _⟩ => exact Nat.zero_add _
  | ⟨3, _⟩ => exact Nat.zero_add _

theorem b9_eq (r : Fin 64) (h : Fin 4) (d : Fin 128) : (b9 (F := Ideal) j.val s (ix3 r h d) : EReal) = (X h).k r d := by
  unfold b9 b8 b7 b6 b5
  pointwise
  refine (congrArg s.main_v65_1 (funext fun a => Fin.ext ?_)).trans (T.k r h d)
  match a with
  | ⟨0, _⟩ => exact first_start j
  | ⟨1, _⟩ => exact Nat.zero_add _
  | ⟨2, _⟩ => exact Nat.zero_add _
  | ⟨3, _⟩ => exact Nat.zero_add _

theorem b14_eq (r : Fin 64) (h : Fin 4) (d : Fin 256) : (b14 (F := Ideal) j.val s (ix3 r h d) : EReal) = (X h).v r d := by
  unfold b14 b13 b12 b11 b10
  pointwise
  refine (congrArg s.main_v65_2 (funext fun a => Fin.ext ?_)).trans (T.v r h d)
  match a with
  | ⟨0, _⟩ => exact first_start j
  | ⟨1, _⟩ => exact Nat.zero_add _
  | ⟨2, _⟩ => exact Nat.zero_add _
  | ⟨3, _⟩ => exact Nat.zero_add _

theorem b18_eq (r : Fin 64) (h : Fin 4) : (b18 (F := Ideal) j.val s (ix2 r h) : EReal) = (X h).li r := by
  unfold b18 b17 b16 b15
  pointwise
  refine (congrArg s.main_v65_3 (funext fun a => Fin.ext ?_)).trans (T.li r h)
  match a with
  | ⟨0, _⟩ => exact first_start j
  | ⟨1, _⟩ => exact Nat.zero_add _
  | ⟨2, _⟩ => exact Nat.zero_add _

omit T in
theorem b22_eq (r : Fin 64) (h : Fin 4) : (b22 (F := Ideal) j.val s (ix2 r h) : EReal) = s.main_v65_4 (ix3 j r h) := by
  unfold b22 b21 b20 b19
  pointwise
  refine (congrArg s.main_v65_4 (funext fun a => Fin.ext ?_)).trans (rfl)
  match a with
  | ⟨0, _⟩ => exact first_start j
  | ⟨1, _⟩ => exact Nat.zero_add _
  | ⟨2, _⟩ => exact Nat.zero_add _

theorem b25_eq (r : Fin 64) (h : Fin 4) : (b25 (F := Ideal) j.val s (ix2 r h) : EReal) = (X h).b r := by
  have z : ∀ i, (b24 (F := Ideal) j.val s i : EReal) = 0 := by
    intro i
    unfold b24 b23
    pointwise
  refine (runningSum (by decide) (b22 (F := Ideal) j.val s) (b24 (F := Ideal) j.val s) z _ _ r h).trans ((Finset.sum_congr rfl fun y _ => ?_).trans (T.b r h))
  rw [b22_eq]

theorem b26_eq (h : Fin 4) (r : Fin 64) : (b26 (F := Ideal) j.val s (ix2 h r) : EReal) = (X h).b r := by
  unfold b26
  pointwise
  simp only [b25_eq T]

theorem b27_eq (h : Fin 4) (r : Fin 64) : (b27 (F := Ideal) j.val s (ix2 h r) : EReal) = (X h).li r := by
  unfold b27
  pointwise
  simp only [b18_eq T]

theorem b51_eq (h : Fin 4) (r x : Fin 64) : (b51 (F := Ideal) j.val s (ix3 h r x) : EReal) = (X h).weight r x := by
  unfold b51 b50 b49 b48 b47 b46 b45 b44 b43 b42 b41 b40 b39 b38 b37 b36 b35 b34 b33 b32 b31 b30 b29 b28
  pointwise
  simp only [b26_eq T, b27_eq T, mask_eq]
  unfold Chunk.weight
  by_cases q : x.val ≤ r.val
  · simp only [if_pos q]
    rfl
  · simp only [if_neg q]
    rfl

theorem b54_eq (h : Fin 4) (r : Fin 64) : (b54 (F := Ideal) j.val s (ix2 h r) : EReal) = (X h).b r + (M h).m := by
  unfold b54 b53 b52
  pointwise
  simp only [b26_eq T, T.m]

theorem b57_eq (h : Fin 4) (r : Fin 64) : (b57 (F := Ideal) j.val s (ix2 h r) : EReal) = (X h).own (M h).m r := by
  unfold b57 b56 b55
  pointwise
  simp only [b54_eq T, b51_eq T]
  rfl

theorem b59_eq (h : Fin 4) (r : Fin 64) : (b59 (F := Ideal) j.val s (ix2 h r) : EReal) = (X h).recall (M h).m r := by
  unfold b59 b58
  pointwise
  simp only [b54_eq T, b57_eq T]
  rfl

theorem b65_eq (h : Fin 4) (r x : Fin 64) : (b65 (F := Ideal) j.val s (ix3 h r x) : EReal) = (X h).score (M h).m r x := by
  unfold b65 b64 b63 b62 b61 b60
  pointwise
  simp only [b4_eq T, b9_eq T, b51_eq T, b57_eq T]
  rfl

theorem b71_eq (h : Fin 4) (r : Fin 64) (d : Fin 256) : (b71 (F := Ideal) j.val s (ix3 h r d) : EReal) = (∑ x, (X h).score (M h).m r x * (X h).v x d) + (X h).recall (M h).m r * ∑ i, (X h).q r i * (M h).C i d := by
  unfold b71 b70 b69 b68 b67 b66
  pointwise
  simp only [b65_eq T, b14_eq T, b4_eq T, b59_eq T, T.C]

theorem b80_eq (h : Fin 4) (r : Fin 64) : (b80 (F := Ideal) j.val s (ix2 h r) : EReal) = (X h).denom (M h) r := by
  unfold b80 b79 b78 b77 b76 b75 b74 b73 b72
  pointwise
  simp only [b65_eq T, b4_eq T, b59_eq T, b57_eq T, T.n, ← zero_sub]
  rfl

theorem b83_eq (h : Fin 4) (r : Fin 64) (d : Fin 256) : (b83 (F := Ideal) j.val s (ix3 h r d) : EReal) = (X h).row (M h) r d := by
  unfold b83 b82 b81
  pointwise
  simp only [b71_eq T, b80_eq T]
  rfl

theorem b85_eq (h : Fin 4) : (b85 (F := Ideal) j.val s (ix1 h) : EReal) = (X h).b 63 := by
  unfold b85 b84
  pointwise
  simp only [b26_eq T]

theorem b89_eq (h : Fin 4) (x : Fin 64) : (b89 (F := Ideal) j.val s (ix2 h x) : EReal) = (X h).b 63 - (X h).b x + (X h).li x := by
  unfold b89 b88 b87 b86
  pointwise
  simp only [b85_eq T, b26_eq T, b27_eq T]

theorem b93_eq (h : Fin 4) : (b93 (F := Ideal) j.val s (ix1 h) : EReal) = (X h).level (M h).m := by
  unfold b93 b92 b91 b90
  pointwise
  simp only [b85_eq T, b89_eq T, T.m]
  rfl

theorem b96_eq (h : Fin 4) : (b96 (F := Ideal) j.val s (ix1 h) : EReal) = (X h).keep (M h).m := by
  unfold b96 b95 b94
  pointwise
  simp only [b85_eq T, b93_eq T, T.m]
  rfl

theorem b100_eq (h : Fin 4) (x : Fin 64) : (b100 (F := Ideal) j.val s (ix2 h x) : EReal) = (X h).enter (M h).m x := by
  unfold b100 b99 b98 b97
  pointwise
  simp only [b89_eq T, b93_eq T]
  rfl

theorem b109_eq (h : Fin 4) (r : Fin 128) (d : Fin 256) : (b109 (F := Ideal) j.val s (ix3 h r d) : EReal) = ((X h).next (M h)).C r d := by
  unfold b109 b108 b107 b106 b105 b104 b103 b102 b101
  pointwise
  simp only [b100_eq T, b96_eq T, b9_eq T, b14_eq T, T.C]
  rfl

theorem b114_eq (h : Fin 4) (r : Fin 128) : (b114 (F := Ideal) j.val s (ix2 h r) : EReal) = ((X h).next (M h)).n r := by
  unfold b114 b113 b112 b111 b110
  pointwise
  simp only [b100_eq T, b96_eq T, b9_eq T, T.n]
  unfold Chunk.next
  refine congrArg _ (Finset.sum_congr rfl fun x _ => mul_comm _ _)

theorem b119_eq (i : Fin 128) (h : Fin 4) (r : Fin 64) (d : Fin 256) : (b119 (F := Ideal) j.val s (ix4 i h r d) : EReal) =
    if i = j then (X h).row (M h) r d else s.main_v65_9 (ix4 i h r d) := by
  unfold b119 b118 b117 b116 b115
  pointwise
  by_cases e : i = j
  · subst e
    rw [if_pos rfl]
    refine (dif_pos ⟨⟨le_of_eq (first_start i), Nat.lt_succ_of_le (ge_of_eq (first_start i))⟩, Nat.zero_le _, Nat.zero_le _, Nat.zero_le _⟩).trans
      ((congrArg (b83 (F := Ideal) i.val s) (funext fun a => Fin.ext ?_)).trans (b83_eq T h r d))
    match a with
    | ⟨0, _⟩ => exact Nat.sub_zero _
    | ⟨1, _⟩ => exact Nat.sub_zero _
    | ⟨2, _⟩ => exact Nat.sub_zero _
  · rw [if_neg e]
    refine dif_neg fun q => e (Fin.ext ?_)
    have h1 : i.val < j.val + 1 := lt_of_lt_of_eq q.1.2 (congrArg (· + 1) (first_start j))
    have h2 : j.val ≤ i.val := le_of_eq_of_le (first_start j).symm q.1.1
    omega

end Cert.MlstmReference
end
-- ==== Proof.MlstmScan.lean ====
module

public import proofs.«01_k».proof.Proof.MlstmSetup
public import proofs.«01_k».proof.Proof.MlstmTrip

/-! The reference's results after its 128 trips. -/

@[expose] public section

noncomputable section

namespace Cert.MlstmReference

open Cert.Mlstm Cert.ReferenceIdeal Cert.ReferenceIdeal.Step Idealize.ShloMosaic

variable (a0 : FVec Ideal S8192x11352 .f32) (a1 : FVec Ideal S8 .f32) (a2 : FVec Ideal S4x1024 .f32) (a3 : FVec Ideal S1024 .f32)
    (a4 : FVec Ideal S4x256x256 .f32) (a5 : FVec Ideal S4x256 .f32)

/-- The loop's states, trip by trip. -/
def states : ℕ → State Ideal
  | 0 => init a0 a1 a2 a3 a4
  | n + 1 => step n (states n)

theorem states_constant : ∀ n,
    (states a0 a1 a2 a3 a4 n).main_v65_0 = A_main_v55 a0 a1 a2 a3 a4 ∧ (states a0 a1 a2 a3 a4 n).main_v65_1 = A_main_v56 a0 a1 a2 a3 a4
    ∧ (states a0 a1 a2 a3 a4 n).main_v65_2 = A_main_v58 a0 a1 a2 a3 a4 ∧ (states a0 a1 a2 a3 a4 n).main_v65_3 = A_main_v59 a0 a1 a2 a3 a4
    ∧ (states a0 a1 a2 a3 a4 n).main_v65_4 = A_main_v60 a0 a1 a2 a3 a4
  | 0 => ⟨rfl, rfl, rfl, rfl, rfl⟩
  | n + 1 => states_constant n

/-- The memories and the rows before trip `n`. -/
structure Reached (A : Arrays) (j : ℕ) (s : State Ideal) : Prop where
  C : ∀ h r d, (s.main_v65_6 (ix3 h r d) : EReal) = (A.mem h j).C r d
  n : ∀ h d, (s.main_v65_7 (ix2 h d) : EReal) = (A.mem h j).n d
  m : ∀ h, (s.main_v65_8 (ix1 h) : EReal) = (A.mem h j).m
  rows : ∀ (i : Fin 128) h r d, i.val < j → (s.main_v65_9 (ix4 i h r d) : EReal) = (A.chunk h i.val).row (A.mem h i.val) r d

theorem reached : ∀ n, n ≤ 128 → Reached (arrays a0 a1 a2 a3 a4 a5) n (states a0 a1 a2 a3 a4 n) := by
  intro n
  induction n with
  | zero =>
    intro _
    refine ⟨fun h r d => ?_, fun h d => ?_, fun h => ?_, fun i _ _ _ q => absurd q (by omega)⟩
    · show K_main_v61 (F := Ideal) (ix3 h r d) = _
      unfold K_main_v61 K_main_cst_2
      pointwise
      rfl
    · show K_main_v62 (F := Ideal) (ix2 h d) = _
      unfold K_main_v62 K_main_cst_3
      pointwise
      rfl
    · show K_main_v63 (F := Ideal) (ix1 h) = _
      unfold K_main_v63 K_main_cst_4
      pointwise
      rfl
  | succ n ih =>
    intro hn
    have R := ih (by omega)
    obtain ⟨e0, e1, e2, e3, e4⟩ := states_constant a0 a1 a2 a3 a4 n
    have T : Trip (fun h => (arrays a0 a1 a2 a3 a4 a5).chunk h n) (fun h => (arrays a0 a1 a2 a3 a4 a5).mem h n) ⟨n, by omega⟩ (states a0 a1 a2 a3 a4 n) := by
      refine ⟨fun r h d => ?_, fun r h d => ?_, fun r h d => ?_, fun r h => ?_, fun r h => ?_, R.C, R.n, R.m⟩
      · rw [e0]; exact query_eq a0 a1 a2 a3 a4 a5 ⟨n, by omega⟩ r h d
      · rw [e1]; exact key_eq a0 a1 a2 a3 a4 a5 ⟨n, by omega⟩ r h d
      · rw [e2]; exact value_eq a0 a1 a2 a3 a4 a5 ⟨n, by omega⟩ r h d
      · rw [e3]; exact input_eq a0 a1 a2 a3 a4 a5 ⟨n, by omega⟩ r h
      · rw [e4]
        show _ = ∑ y : Fin 64, if y.val ≤ r.val then (arrays a0 a1 a2 a3 a4 a5).forget h (time n y) else 0
        refine Finset.sum_congr rfl fun y _ => ?_
        rw [forget_eq a0 a1 a2 a3 a4 a5 ⟨n, by omega⟩ y h]
    refine ⟨fun h r d => b109_eq T h r d, fun h d => b114_eq T h d, fun h => b93_eq T h, fun i h r d q => ?_⟩
    refine (b119_eq T i h r d).trans ?_
    by_cases e : i = ⟨n, by omega⟩
    · rw [if_pos e]
      obtain rfl : i.val = n := congrArg Fin.val e
      rfl
    · rw [if_neg e]
      exact R.rows i h r d (by have : i.val ≠ n := fun q => e (Fin.ext q); omega)

theorem rows_eq (t : Fin 8192) (d : Fin 1024) : (R_main_v95 (F := Ideal) (states a0 a1 a2 a3 a4 128) a0 a5 (ix2 t d) : EReal) =
    (arrays a0 a1 a2 a3 a4 a5).rows t d := by
  have e := (reached a0 a1 a2 a3 a4 a5 128 le_rfl).rows
  unfold R_main_v95
  generalize (states a0 a1 a2 a3 a4 128).main_v65_9 = p at e ⊢
  pointwise
  have ht : time (t.val / 64) ⟨t.val % 64, by omega⟩ = t := Fin.ext (by show (64 * (t.val / 64) + t.val % 64) % 8192 = t.val; omega)
  have hd : (⟨2048 + (256 * (d.val / 256) + d.val % 256), by omega⟩ : Fin 11352) = ⟨2048 + d.val, by omega⟩ := Fin.ext (by show 2048 + (256 * (d.val / 256) + d.val % 256) = 2048 + d.val; omega)
  have hf (x : Fin 256) := e ⟨t.val / 64, by omega⟩ ⟨d.val / 256, by omega⟩ ⟨t.val % 64, by omega⟩ x (by dsimp only; omega)
  have hr : (arrays a0 a1 a2 a3 a4 a5).rows t d =
      normed (((arrays a0 a1 a2 a3 a4 a5).chunk ⟨d.val / 256, by omega⟩ (t.val / 64)).row ((arrays a0 a1 a2 a3 a4 a5).mem ⟨d.val / 256, by omega⟩ (t.val / 64)) ⟨t.val % 64, by omega⟩)
        (fun x => a5 (ix2 ⟨d.val / 256, by omega⟩ x)) (a0 (ix2 t ⟨2048 + d.val, by omega⟩)) ⟨d.val % 256, by omega⟩ := by
    unfold Arrays.rows Arrays.head
    refine congrArg (fun z => normed _ _ z _) ?_
    show a0 (ix2 _ _) = _
    rw [ht, hd]
  rw [hr]
  clear hr e
  dsimp only at hf
  generalize ((arrays a0 a1 a2 a3 a4 a5).chunk ⟨d.val / 256, _⟩ (t.val / 64)).row ((arrays a0 a1 a2 a3 a4 a5).mem ⟨d.val / 256, _⟩ (t.val / 64)) ⟨t.val % 64, _⟩ = f at hf ⊢
  simp only [hf]
  unfold normed Mlstm.logistic
  rw [zero_sub]

theorem conv_rows (a : Fin 3) (d : Fin 1024) : (R_main_v94 (F := Ideal) (states a0 a1 a2 a3 a4 128) a0 (ix2 a d) : EReal) =
    a0 (ix2 ⟨8189 + a.val, by omega⟩ ⟨d.val, by omega⟩) := by
  unfold R_main_v94
  pointwise
  refine (dif_neg (by omega)).trans (congrArg (fun z => a0 (ix2 z _)) (Fin.ext ?_))
  show 8192 + a.val - 3 = 8189 + a.val
  omega

theorem vector_rows (a : Fin 8) (d : Fin 128) : (R_main_v96 (F := Ideal) (states a0 a1 a2 a3 a4 128) (ix2 a d) : EReal) =
    if h : a.val < 4 then ((arrays a0 a1 a2 a3 a4 a5).mem ⟨a.val, h⟩ 128).n d else 0 := by
  have e := (reached a0 a1 a2 a3 a4 a5 128 le_rfl).n
  unfold R_main_v96
  generalize (states a0 a1 a2 a3 a4 128).main_v65_7 = p at e ⊢
  pointwise
  by_cases h : a.val < 4
  · rw [dif_pos h, dif_pos h, e]
  · rw [dif_neg h, dif_neg h]

theorem level_rows (a : Fin 8) (d : Fin 128) : (R_main_v99 (F := Ideal) (states a0 a1 a2 a3 a4 128) (ix2 a d) : EReal) =
    if h : a.val < 4 then ((arrays a0 a1 a2 a3 a4 a5).mem ⟨a.val, h⟩ 128).m else 0 := by
  have e := (reached a0 a1 a2 a3 a4 a5 128 le_rfl).m
  unfold R_main_v99
  generalize (states a0 a1 a2 a3 a4 128).main_v65_8 = p at e ⊢
  pointwise
  by_cases h : a.val < 4
  · rw [dif_pos h, dif_pos h, e]
  · rw [dif_neg h, dif_neg h]

end Cert.MlstmReference
end
-- ==== Proof.MlstmStepRun.lean ====
/- The reference's run stated over one trip's step: a copy of what is generated for this reference in
   Gen/ReferenceIdeal/StepRun.lean, in which one rewrite is replaced by an application (`step_9`); the generated proof of
   that lemma doesn't compile. -/
module

public import proofs.«01_k».proof.Proof.Gen.ReferenceIdeal.Run
public import proofs.«01_k».proof.Proof.Gen.ReferenceIdeal.Step

@[expose] public section

set_option maxRecDepth 8192

noncomputable section

namespace Cert.MlstmStepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v65_6) = s.main_v65_6
  f_7 : V0 (Proc.devRef .tc main_v65_7) = s.main_v65_7
  f_8 : V0 (Proc.devRef .tc main_v65_8) = s.main_v65_8
  f_9 : V0 (Proc.devRef .tc main_v65_9) = s.main_v65_9
  f_0 : V0 (Proc.devRef .tc main_v65_0) = s.main_v65_0
  f_1 : V0 (Proc.devRef .tc main_v65_1) = s.main_v65_1
  f_2 : V0 (Proc.devRef .tc main_v65_2) = s.main_v65_2
  f_3 : V0 (Proc.devRef .tc main_v65_3) = s.main_v65_3
  f_4 : V0 (Proc.devRef .tc main_v65_4) = s.main_v65_4
  n_5 : V0 (Proc.devRef .tc main_v65_5) = constantI S_ 32 (BitVec.ofNat 32 j)

variable {V0 s j}

theorem al_0 (h : Holds V0 s j) : (constantI S_ 32 0#32 : (Proc.devRef .tc main_while0b_call2_c : DevRef τ sig).ty.Contents (Elt F)) = Step.b0 j s := by
  unfold Step.b0
  rfl
theorem al_1 (h : Holds V0 s j) : (constantI S_ 32 0#32 : (Proc.devRef .tc main_while0b_call2_c_0 : DevRef τ sig).ty.Contents (Elt F)) = Step.b1 j s := by
  unfold Step.b1
  rfl
theorem al_2 (h : Holds V0 s j) : (constantI S_ 32 0#32 : (Proc.devRef .tc main_while0b_call2_c_1 : DevRef τ sig).ty.Contents (Elt F)) = Step.b2 j s := by
  unfold Step.b2
  rfl
theorem al_3 (h : Holds V0 s j) : (Host.dynamicSlice S1x64x4x128 (V0 (Proc.devRef .tc main_v65_0)) (fun k => (((![V0 (Proc.devRef .tc main_v65_5), constantI S_ 32 0#32, constantI S_ 32 0#32, constantI S_ 32 0#32] : Fin 4 → (⟨S_, .i32⟩ : BufTy).Contents (Elt F))) k (Shape.Idx.first h_S_)).toInt) sliceFits_S128x64x4x128_S1x64x4x128 : (Proc.devRef .tc main_while0b_call2_v0 : DevRef τ sig).ty.Contents (Elt F)) = Step.b3 j s := by
  unfold Step.b3
  rw [← al_0 h, ← al_1 h, ← al_2 h, h.f_0, h.n_5]
  try rfl
theorem al_4 (h : Holds V0 s j) : (res_main_while0b_v100 V0 : (Proc.devRef .tc main_while0b_v100 : DevRef τ sig).ty.Contents (Elt F)) = Step.b4 j s := by
  unfold res_main_while0b_v100 Step.b4
  rw [← al_3 h]
  try rfl
theorem al_5 (h : Holds V0 s j) : (constantI S_ 32 0#32 : (Proc.devRef .tc main_while0b_call3_c : DevRef τ sig).ty.Contents (Elt F)) = Step.b5 j s := by
  unfold Step.b5
  rfl
theorem al_6 (h : Holds V0 s j) : (constantI S_ 32 0#32 : (Proc.devRef .tc main_while0b_call3_c_0 : DevRef τ sig).ty.Contents (Elt F)) = Step.b6 j s := by
  unfold Step.b6
  rfl
theorem al_7 (h : Holds V0 s j) : (constantI S_ 32 0#32 : (Proc.devRef .tc main_while0b_call3_c_1 : DevRef τ sig).ty.Contents (Elt F)) = Step.b7 j s := by
  unfold Step.b7
  rfl
theorem al_8 (h : Holds V0 s j) : (Host.dynamicSlice S1x64x4x128 (V0 (Proc.devRef .tc main_v65_1)) (fun k => (((![V0 (Proc.devRef .tc main_v65_5), constantI S_ 32 0#32, constantI S_ 32 0#32, constantI S_ 32 0#32] : Fin 4 → (⟨S_, .i32⟩ : BufTy).Contents (Elt F))) k (Shape.Idx.first h_S_)).toInt) sliceFits_S128x64x4x128_S1x64x4x128 : (Proc.devRef .tc main_while0b_call3_v0 : DevRef τ sig).ty.Contents (Elt F)) = Step.b8 j s := by
  unfold Step.b8
  rw [← al_5 h, ← al_6 h, ← al_7 h, h.f_1, h.n_5]
  try rfl
theorem al_9 (h : Holds V0 s j) : (res_main_while0b_v101 V0 : (Proc.devRef .tc main_while0b_v101 : DevRef τ sig).ty.Contents (Elt F)) = Step.b9 j s := by
  unfold res_main_while0b_v101 Step.b9
  rw [← al_8 h]
  try rfl
theorem al_10 (h : Holds V0 s j) : (constantI S_ 32 0#32 : (Proc.devRef .tc main_while0b_call4_c : DevRef τ sig).ty.Contents (Elt F)) = Step.b10 j s := by
  unfold Step.b10
  rfl
theorem al_11 (h : Holds V0 s j) : (constantI S_ 32 0#32 : (Proc.devRef .tc main_while0b_call4_c_0 : DevRef τ sig).ty.Contents (Elt F)) = Step.b11 j s := by
  unfold Step.b11
  rfl
theorem al_12 (h : Holds V0 s j) : (constantI S_ 32 0#32 : (Proc.devRef .tc main_while0b_call4_c_1 : DevRef τ sig).ty.Contents (Elt F)) = Step.b12 j s := by
  unfold Step.b12
  rfl
theorem al_13 (h : Holds V0 s j) : (Host.dynamicSlice S1x64x4x256 (V0 (Proc.devRef .tc main_v65_2)) (fun k => (((![V0 (Proc.devRef .tc main_v65_5), constantI S_ 32 0#32, constantI S_ 32 0#32, constantI S_ 32 0#32] : Fin 4 → (⟨S_, .i32⟩ : BufTy).Contents (Elt F))) k (Shape.Idx.first h_S_)).toInt) sliceFits_S128x64x4x256_S1x64x4x256 : (Proc.devRef .tc main_while0b_call4_v0 : DevRef τ sig).ty.Contents (Elt F)) = Step.b13 j s := by
  unfold Step.b13
  rw [← al_10 h, ← al_11 h, ← al_12 h, h.f_2, h.n_5]
  try rfl
theorem al_14 (h : Holds V0 s j) : (res_main_while0b_v102 V0 : (Proc.devRef .tc main_while0b_v102 : DevRef τ sig).ty.Contents (Elt F)) = Step.b14 j s := by
  unfold res_main_while0b_v102 Step.b14
  rw [← al_13 h]
  try rfl
theorem al_15 (h : Holds V0 s j) : (constantI S_ 32 0#32 : (Proc.devRef .tc main_while0b_call5_c : DevRef τ sig).ty.Contents (Elt F)) = Step.b15 j s := by
  unfold Step.b15
  rfl
theorem al_16 (h : Holds V0 s j) : (constantI S_ 32 0#32 : (Proc.devRef .tc main_while0b_call5_c_0 : DevRef τ sig).ty.Contents (Elt F)) = Step.b16 j s := by
  unfold Step.b16
  rfl
theorem al_17 (h : Holds V0 s j) : (Host.dynamicSlice S1x64x4 (V0 (Proc.devRef .tc main_v65_3)) (fun k => (((![V0 (Proc.devRef .tc main_v65_5), constantI S_ 32 0#32, constantI S_ 32 0#32] : Fin 3 → (⟨S_, .i32⟩ : BufTy).Contents (Elt F))) k (Shape.Idx.first h_S_)).toInt) sliceFits_S128x64x4_S1x64x4 : (Proc.devRef .tc main_while0b_call5_v0 : DevRef τ sig).ty.Contents (Elt F)) = Step.b17 j s := by
  unfold Step.b17
  rw [← al_15 h, ← al_16 h, h.f_3, h.n_5]
  try rfl
theorem al_18 (h : Holds V0 s j) : (shapeCast S64x4 (Host.dynamicSlice S1x64x4 (V0 (Proc.devRef .tc main_v65_3)) (fun k => (((![V0 (Proc.devRef .tc main_v65_5), constantI S_ 32 0#32, constantI S_ 32 0#32] : Fin 3 → (⟨S_, .i32⟩ : BufTy).Contents (Elt F))) k (Shape.Idx.first h_S_)).toInt) sliceFits_S128x64x4_S1x64x4) shapeCasts_S1x64x4_S64x4 : (Proc.devRef .tc main_while0b_v103 : DevRef τ sig).ty.Contents (Elt F)) = Step.b18 j s := by
  unfold Step.b18
  rw [← al_17 h]
  try rfl
theorem al_19 (h : Holds V0 s j) : (constantI S_ 32 0#32 : (Proc.devRef .tc main_while0b_call6_c : DevRef τ sig).ty.Contents (Elt F)) = Step.b19 j s := by
  unfold Step.b19
  rfl
theorem al_20 (h : Holds V0 s j) : (constantI S_ 32 0#32 : (Proc.devRef .tc main_while0b_call6_c_0 : DevRef τ sig).ty.Contents (Elt F)) = Step.b20 j s := by
  unfold Step.b20
  rfl
theorem al_21 (h : Holds V0 s j) : (Host.dynamicSlice S1x64x4 (V0 (Proc.devRef .tc main_v65_4)) (fun k => (((![V0 (Proc.devRef .tc main_v65_5), constantI S_ 32 0#32, constantI S_ 32 0#32] : Fin 3 → (⟨S_, .i32⟩ : BufTy).Contents (Elt F))) k (Shape.Idx.first h_S_)).toInt) sliceFits_S128x64x4_S1x64x4 : (Proc.devRef .tc main_while0b_call6_v0 : DevRef τ sig).ty.Contents (Elt F)) = Step.b21 j s := by
  unfold Step.b21
  rw [← al_19 h, ← al_20 h, h.f_4, h.n_5]
  try rfl
theorem al_22 (h : Holds V0 s j) : (shapeCast S64x4 (Host.dynamicSlice S1x64x4 (V0 (Proc.devRef .tc main_v65_4)) (fun k => (((![V0 (Proc.devRef .tc main_v65_5), constantI S_ 32 0#32, constantI S_ 32 0#32] : Fin 3 → (⟨S_, .i32⟩ : BufTy).Contents (Elt F))) k (Shape.Idx.first h_S_)).toInt) sliceFits_S128x64x4_S1x64x4) shapeCasts_S1x64x4_S64x4 : (Proc.devRef .tc main_while0b_v104 : DevRef τ sig).ty.Contents (Elt F)) = Step.b22 j s := by
  unfold Step.b22
  rw [← al_21 h]
  try rfl
theorem al_23 (h : Holds V0 s j) : (constant S_ .f32 0x00000000#32 : (Proc.devRef .tc main_while0b_call7_call0_cst : DevRef τ sig).ty.Contents (Elt F)) = Step.b23 j s := by
  unfold Step.b23
  rfl
theorem al_24 (h : Holds V0 s j) : (broadcastInDim S_ ![] bcast_S_S_ (constant S_ .f32 0x00000000#32) : (Proc.devRef .tc main_while0b_call7_call0_v0 : DevRef τ sig).ty.Contents (Elt F)) = Step.b24 j s := by
  unfold Step.b24
  rw [← al_23 h]
  try rfl
theorem al_25 (h : Holds V0 s j) : (Host.reduceWindowAdd ![64, 1] ![1, 1] ![63, 0] ![0, 0] (shapeCast S64x4 (Host.dynamicSlice S1x64x4 (V0 (Proc.devRef .tc main_v65_4)) (fun k => (((![V0 (Proc.devRef .tc main_v65_5), constantI S_ 32 0#32, constantI S_ 32 0#32] : Fin 3 → (⟨S_, .i32⟩ : BufTy).Contents (Elt F))) k (Shape.Idx.first h_S_)).toInt) sliceFits_S128x64x4_S1x64x4) shapeCasts_S1x64x4_S64x4) (broadcastInDim S_ ![] bcast_S_S_ (constant S_ .f32 0x00000000#32)) reduceWindows_S64x4_S64x4_w64s1p63_0_w1s1p0_0 h_S_ : (Proc.devRef .tc main_while0b_v105 : DevRef τ sig).ty.Contents (Elt F)) = Step.b25 j s := by
  unfold Step.b25
  rw [← al_22 h, ← al_24 h]
  try rfl
theorem al_26 (h : Holds V0 s j) : (res_main_while0b_v106 V0 : (Proc.devRef .tc main_while0b_v106 : DevRef τ sig).ty.Contents (Elt F)) = Step.b26 j s := by
  unfold res_main_while0b_v106 Step.b26
  rw [← al_25 h]
  try rfl
theorem al_27 (h : Holds V0 s j) : (res_main_while0b_v107 V0 : (Proc.devRef .tc main_while0b_v107 : DevRef τ sig).ty.Contents (Elt F)) = Step.b27 j s := by
  unfold res_main_while0b_v107 Step.b27
  rw [← al_18 h]
  try rfl
theorem al_28 (h : Holds V0 s j) : (constantI S_ 1 1#1 : (Proc.devRef .tc main_while0b_c_22 : DevRef τ sig).ty.Contents (Elt F)) = Step.b28 j s := by
  unfold Step.b28
  rfl
theorem al_29 (h : Holds V0 s j) : (broadcastInDim S64x64 ![] bcast_S_S64x64 (constantI S_ 1 1#1) : (Proc.devRef .tc main_while0b_v108 : DevRef τ sig).ty.Contents (Elt F)) = Step.b29 j s := by
  unfold Step.b29
  rw [← al_28 h]
  try rfl
theorem al_30 (h : Holds V0 s j) : (iotaInDim S64x64 32 0 : (Proc.devRef .tc main_while0b_call8_v0 : DevRef τ sig).ty.Contents (Elt F)) = Step.b30 j s := by
  unfold Step.b30
  rfl
theorem al_31 (h : Holds V0 s j) : (constantI S_ 32 0#32 : (Proc.devRef .tc main_while0b_call8_c : DevRef τ sig).ty.Contents (Elt F)) = Step.b31 j s := by
  unfold Step.b31
  rfl
theorem al_32 (h : Holds V0 s j) : (broadcastInDim S64x64 ![] bcast_S_S64x64 (constantI S_ 32 0#32) : (Proc.devRef .tc main_while0b_call8_v1 : DevRef τ sig).ty.Contents (Elt F)) = Step.b32 j s := by
  unfold Step.b32
  rw [← al_31 h]
  try rfl
theorem al_33 (h : Holds V0 s j) : (addi (iotaInDim S64x64 32 0) (broadcastInDim S64x64 ![] bcast_S_S64x64 (constantI S_ 32 0#32)) : (Proc.devRef .tc main_while0b_call8_v2 : DevRef τ sig).ty.Contents (Elt F)) = Step.b33 j s := by
  unfold Step.b33
  rw [← al_30 h, ← al_32 h]
  try rfl
theorem al_34 (h : Holds V0 s j) : (iotaInDim S64x64 32 1 : (Proc.devRef .tc main_while0b_call8_v3 : DevRef τ sig).ty.Contents (Elt F)) = Step.b34 j s := by
  unfold Step.b34
  rfl
theorem al_35 (h : Holds V0 s j) : (cmpi .sge (addi (iotaInDim S64x64 32 0) (broadcastInDim S64x64 ![] bcast_S_S64x64 (constantI S_ 32 0#32))) (iotaInDim S64x64 32 1) : (Proc.devRef .tc main_while0b_call8_v4 : DevRef τ sig).ty.Contents (Elt F)) = Step.b35 j s := by
  unfold Step.b35
  rw [← al_33 h, ← al_34 h]
  try rfl
theorem al_36 (h : Holds V0 s j) : (constantI S_ 1 0#1 : (Proc.devRef .tc main_while0b_call8_c_0 : DevRef τ sig).ty.Contents (Elt F)) = Step.b36 j s := by
  unfold Step.b36
  rfl
theorem al_37 (h : Holds V0 s j) : (broadcastInDim S64x64 ![] bcast_S_S64x64 (constantI S_ 1 0#1) : (Proc.devRef .tc main_while0b_call8_v5 : DevRef τ sig).ty.Contents (Elt F)) = Step.b37 j s := by
  unfold Step.b37
  rw [← al_36 h]
  try rfl
theorem al_38 (h : Holds V0 s j) : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : (Proc.devRef .tc main_while0b_v109 : DevRef τ sig).ty.Contents (Elt F)) = Step.b38 j s := by
  unfold Step.b38
  rw [← al_35 h, ← al_29 h, ← al_37 h]
  try rfl
theorem al_39 (h : Holds V0 s j) : (broadcastInDim S4x64x1 ![0, 1] bcast_S4x64_S4x64x1_0_1 (res_main_while0b_v106 V0) : (Proc.devRef .tc main_while0b_v110 : DevRef τ sig).ty.Contents (Elt F)) = Step.b39 j s := by
  unfold Step.b39
  rw [← al_26 h]
  try rfl
theorem al_40 (h : Holds V0 s j) : (broadcastInDim S4x1x64 ![0, 2] bcast_S4x64_S4x1x64_0_2 (res_main_while0b_v106 V0) : (Proc.devRef .tc main_while0b_v111 : DevRef τ sig).ty.Contents (Elt F)) = Step.b40 j s := by
  unfold Step.b40
  rw [← al_26 h]
  try rfl
theorem al_41 (h : Holds V0 s j) : (broadcastInDim S4x64x64 ![0, 1, 2] bcast_S4x64x1_S4x64x64_0_1_2 (broadcastInDim S4x64x1 ![0, 1] bcast_S4x64_S4x64x1_0_1 (res_main_while0b_v106 V0)) : (Proc.devRef .tc main_while0b_v112 : DevRef τ sig).ty.Contents (Elt F)) = Step.b41 j s := by
  unfold Step.b41
  rw [← al_39 h]
  try rfl
theorem al_42 (h : Holds V0 s j) : (broadcastInDim S4x64x64 ![0, 1, 2] bcast_S4x1x64_S4x64x64_0_1_2 (broadcastInDim S4x1x64 ![0, 2] bcast_S4x64_S4x1x64_0_2 (res_main_while0b_v106 V0)) : (Proc.devRef .tc main_while0b_v113 : DevRef τ sig).ty.Contents (Elt F)) = Step.b42 j s := by
  unfold Step.b42
  rw [← al_40 h]
  try rfl
theorem al_43 (h : Holds V0 s j) : (subf (broadcastInDim S4x64x64 ![0, 1, 2] bcast_S4x64x1_S4x64x64_0_1_2 (broadcastInDim S4x64x1 ![0, 1] bcast_S4x64_S4x64x1_0_1 (res_main_while0b_v106 V0))) (broadcastInDim S4x64x64 ![0, 1, 2] bcast_S4x1x64_S4x64x64_0_1_2 (broadcastInDim S4x1x64 ![0, 2] bcast_S4x64_S4x1x64_0_2 (res_main_while0b_v106 V0))) : (Proc.devRef .tc main_while0b_v114 : DevRef τ sig).ty.Contents (Elt F)) = Step.b43 j s := by
  unfold Step.b43
  rw [← al_41 h, ← al_42 h]
  try rfl
theorem al_44 (h : Holds V0 s j) : (broadcastInDim S4x1x64 ![0, 2] bcast_S4x64_S4x1x64_0_2 (res_main_while0b_v107 V0) : (Proc.devRef .tc main_while0b_v115 : DevRef τ sig).ty.Contents (Elt F)) = Step.b44 j s := by
  unfold Step.b44
  rw [← al_27 h]
  try rfl
theorem al_45 (h : Holds V0 s j) : (broadcastInDim S4x64x64 ![0, 1, 2] bcast_S4x1x64_S4x64x64_0_1_2 (broadcastInDim S4x1x64 ![0, 2] bcast_S4x64_S4x1x64_0_2 (res_main_while0b_v107 V0)) : (Proc.devRef .tc main_while0b_v116 : DevRef τ sig).ty.Contents (Elt F)) = Step.b45 j s := by
  unfold Step.b45
  rw [← al_44 h]
  try rfl
theorem al_46 (h : Holds V0 s j) : (addf (subf (broadcastInDim S4x64x64 ![0, 1, 2] bcast_S4x64x1_S4x64x64_0_1_2 (broadcastInDim S4x64x1 ![0, 1] bcast_S4x64_S4x64x1_0_1 (res_main_while0b_v106 V0))) (broadcastInDim S4x64x64 ![0, 1, 2] bcast_S4x1x64_S4x64x64_0_1_2 (broadcastInDim S4x1x64 ![0, 2] bcast_S4x64_S4x1x64_0_2 (res_main_while0b_v106 V0)))) (broadcastInDim S4x64x64 ![0, 1, 2] bcast_S4x1x64_S4x64x64_0_1_2 (broadcastInDim S4x1x64 ![0, 2] bcast_S4x64_S4x1x64_0_2 (res_main_while0b_v107 V0))) : (Proc.devRef .tc main_while0b_v117 : DevRef τ sig).ty.Contents (Elt F)) = Step.b46 j s := by
  unfold Step.b46
  rw [← al_43 h, ← al_45 h]
  try rfl
theorem al_47 (h : Holds V0 s j) : (constant S_ .f32 0xFF800000#32 : (Proc.devRef .tc main_while0b_cst_23 : DevRef τ sig).ty.Contents (Elt F)) = Step.b47 j s := by
  unfold Step.b47
  rfl
theorem al_48 (h : Holds V0 s j) : (id (constant S_ .f32 0xFF800000#32) : (Proc.devRef .tc main_while0b_call9_v0 : DevRef τ sig).ty.Contents (Elt F)) = Step.b48 j s := by
  unfold Step.b48
  rw [← al_47 h]
  try rfl
theorem al_49 (h : Holds V0 s j) : (broadcastInDim S4x64x64 ![1, 2] bcast_S64x64_S4x64x64_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))) : (Proc.devRef .tc main_while0b_call9_v1 : DevRef τ sig).ty.Contents (Elt F)) = Step.b49 j s := by
  unfold Step.b49
  rw [← al_38 h]
  try rfl
theorem al_50 (h : Holds V0 s j) : (broadcastInDim S4x64x64 ![] bcast_S_S4x64x64 (id (constant S_ .f32 0xFF800000#32)) : (Proc.devRef .tc main_while0b_call9_v2 : DevRef τ sig).ty.Contents (Elt F)) = Step.b50 j s := by
  unfold Step.b50
  rw [← al_48 h]
  try rfl
theorem al_51 (h : Holds V0 s j) : (res_main_while0b_v118 V0 : (Proc.devRef .tc main_while0b_v118 : DevRef τ sig).ty.Contents (Elt F)) = Step.b51 j s := by
  unfold res_main_while0b_v118 Step.b51
  rw [← al_49 h, ← al_46 h, ← al_50 h]
  try rfl
theorem al_52 (h : Holds V0 s j) : (broadcastInDim S4x1 ![0] bcast_S4_S4x1_0 (V0 (Proc.devRef .tc main_v65_8)) : (Proc.devRef .tc main_while0b_v119 : DevRef τ sig).ty.Contents (Elt F)) = Step.b52 j s := by
  unfold Step.b52
  rw [h.f_8]
  try rfl
theorem al_53 (h : Holds V0 s j) : (broadcastInDim S4x64 ![0, 1] bcast_S4x1_S4x64_0_1 (broadcastInDim S4x1 ![0] bcast_S4_S4x1_0 (V0 (Proc.devRef .tc main_v65_8))) : (Proc.devRef .tc main_while0b_v120 : DevRef τ sig).ty.Contents (Elt F)) = Step.b53 j s := by
  unfold Step.b53
  rw [← al_52 h]
  try rfl
theorem al_54 (h : Holds V0 s j) : (res_main_while0b_v121 V0 : (Proc.devRef .tc main_while0b_v121 : DevRef τ sig).ty.Contents (Elt F)) = Step.b54 j s := by
  unfold res_main_while0b_v121 Step.b54
  rw [← al_26 h, ← al_53 h]
  try rfl
theorem al_55 (h : Holds V0 s j) : (constant S_ .f32 0xFF800000#32 : (Proc.devRef .tc main_while0b_cst_24 : DevRef τ sig).ty.Contents (Elt F)) = Step.b55 j s := by
  unfold Step.b55
  rfl
theorem al_56 (h : Holds V0 s j) : (Host.reduce FloatOps.maximumf (res_main_while0b_v118 V0) (constant S_ .f32 0xFF800000#32) reducesTo_S4x64x64_S4x64_d2 h_S_ : (Proc.devRef .tc main_while0b_v122 : DevRef τ sig).ty.Contents (Elt F)) = Step.b56 j s := by
  unfold Step.b56
  rw [← al_51 h, ← al_55 h]
  try rfl
theorem al_57 (h : Holds V0 s j) : (res_main_while0b_v123 V0 : (Proc.devRef .tc main_while0b_v123 : DevRef τ sig).ty.Contents (Elt F)) = Step.b57 j s := by
  unfold res_main_while0b_v123 Step.b57
  rw [← al_54 h, ← al_56 h]
  try rfl
theorem al_58 (h : Holds V0 s j) : (subf (res_main_while0b_v121 V0) (res_main_while0b_v123 V0) : (Proc.devRef .tc main_while0b_v124 : DevRef τ sig).ty.Contents (Elt F)) = Step.b58 j s := by
  unfold Step.b58
  rw [← al_54 h, ← al_57 h]
  try rfl
theorem al_59 (h : Holds V0 s j) : (res_main_while0b_v125 V0 : (Proc.devRef .tc main_while0b_v125 : DevRef τ sig).ty.Contents (Elt F)) = Step.b59 j s := by
  unfold res_main_while0b_v125 Step.b59
  rw [← al_58 h]
  try rfl
theorem al_60 (h : Holds V0 s j) : (Host.dotGeneral dot_S64x4x128_S64x4x128_S4x64x64_2_2_0_0_1_1 none (res_main_while0b_v100 V0) (res_main_while0b_v101 V0) : (Proc.devRef .tc main_while0b_v126 : DevRef τ sig).ty.Contents (Elt F)) = Step.b60 j s := by
  unfold Step.b60
  rw [← al_4 h, ← al_9 h]
  try rfl
theorem al_61 (h : Holds V0 s j) : (broadcastInDim S4x64x1 ![0, 1] bcast_S4x64_S4x64x1_0_1 (res_main_while0b_v123 V0) : (Proc.devRef .tc main_while0b_v127 : DevRef τ sig).ty.Contents (Elt F)) = Step.b61 j s := by
  unfold Step.b61
  rw [← al_57 h]
  try rfl
theorem al_62 (h : Holds V0 s j) : (broadcastInDim S4x64x64 ![0, 1, 2] bcast_S4x64x1_S4x64x64_0_1_2 (broadcastInDim S4x64x1 ![0, 1] bcast_S4x64_S4x64x1_0_1 (res_main_while0b_v123 V0)) : (Proc.devRef .tc main_while0b_v128 : DevRef τ sig).ty.Contents (Elt F)) = Step.b62 j s := by
  unfold Step.b62
  rw [← al_61 h]
  try rfl
theorem al_63 (h : Holds V0 s j) : (subf (res_main_while0b_v118 V0) (broadcastInDim S4x64x64 ![0, 1, 2] bcast_S4x64x1_S4x64x64_0_1_2 (broadcastInDim S4x64x1 ![0, 1] bcast_S4x64_S4x64x1_0_1 (res_main_while0b_v123 V0))) : (Proc.devRef .tc main_while0b_v129 : DevRef τ sig).ty.Contents (Elt F)) = Step.b63 j s := by
  unfold Step.b63
  rw [← al_51 h, ← al_62 h]
  try rfl
theorem al_64 (h : Holds V0 s j) : (Host.exp (subf (res_main_while0b_v118 V0) (broadcastInDim S4x64x64 ![0, 1, 2] bcast_S4x64x1_S4x64x64_0_1_2 (broadcastInDim S4x64x1 ![0, 1] bcast_S4x64_S4x64x1_0_1 (res_main_while0b_v123 V0)))) : (Proc.devRef .tc main_while0b_v130 : DevRef τ sig).ty.Contents (Elt F)) = Step.b64 j s := by
  unfold Step.b64
  rw [← al_63 h]
  try rfl
theorem al_65 (h : Holds V0 s j) : (res_main_while0b_v131 V0 : (Proc.devRef .tc main_while0b_v131 : DevRef τ sig).ty.Contents (Elt F)) = Step.b65 j s := by
  unfold res_main_while0b_v131 Step.b65
  rw [← al_60 h, ← al_64 h]
  try rfl
theorem al_66 (h : Holds V0 s j) : (Host.dotGeneral dot_S4x64x64_S64x4x256_S4x64x256_2_0_1_2_0_1 none (res_main_while0b_v131 V0) (res_main_while0b_v102 V0) : (Proc.devRef .tc main_while0b_v132 : DevRef τ sig).ty.Contents (Elt F)) = Step.b66 j s := by
  unfold Step.b66
  rw [← al_65 h, ← al_14 h]
  try rfl
theorem al_67 (h : Holds V0 s j) : (broadcastInDim S4x64x1 ![0, 1] bcast_S4x64_S4x64x1_0_1 (res_main_while0b_v125 V0) : (Proc.devRef .tc main_while0b_v133 : DevRef τ sig).ty.Contents (Elt F)) = Step.b67 j s := by
  unfold Step.b67
  rw [← al_59 h]
  try rfl
theorem al_68 (h : Holds V0 s j) : (Host.dotGeneral dot_S64x4x128_S4x128x256_S4x64x256_2_1_0_2_1_0 none (res_main_while0b_v100 V0) (V0 (Proc.devRef .tc main_v65_6)) : (Proc.devRef .tc main_while0b_v134 : DevRef τ sig).ty.Contents (Elt F)) = Step.b68 j s := by
  unfold Step.b68
  rw [← al_4 h, h.f_6]
  try rfl
theorem al_69 (h : Holds V0 s j) : (broadcastInDim S4x64x256 ![0, 1, 2] bcast_S4x64x1_S4x64x256_0_1_2 (broadcastInDim S4x64x1 ![0, 1] bcast_S4x64_S4x64x1_0_1 (res_main_while0b_v125 V0)) : (Proc.devRef .tc main_while0b_v135 : DevRef τ sig).ty.Contents (Elt F)) = Step.b69 j s := by
  unfold Step.b69
  rw [← al_67 h]
  try rfl
theorem al_70 (h : Holds V0 s j) : (mulf (broadcastInDim S4x64x256 ![0, 1, 2] bcast_S4x64x1_S4x64x256_0_1_2 (broadcastInDim S4x64x1 ![0, 1] bcast_S4x64_S4x64x1_0_1 (res_main_while0b_v125 V0))) (Host.dotGeneral dot_S64x4x128_S4x128x256_S4x64x256_2_1_0_2_1_0 none (res_main_while0b_v100 V0) (V0 (Proc.devRef .tc main_v65_6))) : (Proc.devRef .tc main_while0b_v136 : DevRef τ sig).ty.Contents (Elt F)) = Step.b70 j s := by
  unfold Step.b70
  rw [← al_69 h, ← al_68 h]
  try rfl
theorem al_71 (h : Holds V0 s j) : (addf (Host.dotGeneral dot_S4x64x64_S64x4x256_S4x64x256_2_0_1_2_0_1 none (res_main_while0b_v131 V0) (res_main_while0b_v102 V0)) (mulf (broadcastInDim S4x64x256 ![0, 1, 2] bcast_S4x64x1_S4x64x256_0_1_2 (broadcastInDim S4x64x1 ![0, 1] bcast_S4x64_S4x64x1_0_1 (res_main_while0b_v125 V0))) (Host.dotGeneral dot_S64x4x128_S4x128x256_S4x64x256_2_1_0_2_1_0 none (res_main_while0b_v100 V0) (V0 (Proc.devRef .tc main_v65_6)))) : (Proc.devRef .tc main_while0b_v137 : DevRef τ sig).ty.Contents (Elt F)) = Step.b71 j s := by
  unfold Step.b71
  rw [← al_66 h, ← al_70 h]
  try rfl
theorem al_72 (h : Holds V0 s j) : (constant S_ .f32 0x00000000#32 : (Proc.devRef .tc main_while0b_cst_25 : DevRef τ sig).ty.Contents (Elt F)) = Step.b72 j s := by
  unfold Step.b72
  rfl
theorem al_73 (h : Holds V0 s j) : (Host.reduceAdd (res_main_while0b_v131 V0) (constant S_ .f32 0x00000000#32) reducesTo_S4x64x64_S4x64_d2 h_S_ : (Proc.devRef .tc main_while0b_v138 : DevRef τ sig).ty.Contents (Elt F)) = Step.b73 j s := by
  unfold Step.b73
  rw [← al_65 h, ← al_72 h]
  try rfl
theorem al_74 (h : Holds V0 s j) : (Host.dotGeneral dot_S64x4x128_S4x128_S4x64_2_1_0_n_1_0 none (res_main_while0b_v100 V0) (V0 (Proc.devRef .tc main_v65_7)) : (Proc.devRef .tc main_while0b_v139 : DevRef τ sig).ty.Contents (Elt F)) = Step.b74 j s := by
  unfold Step.b74
  rw [← al_4 h, h.f_7]
  try rfl
theorem al_75 (h : Holds V0 s j) : (mulf (res_main_while0b_v125 V0) (Host.dotGeneral dot_S64x4x128_S4x128_S4x64_2_1_0_n_1_0 none (res_main_while0b_v100 V0) (V0 (Proc.devRef .tc main_v65_7))) : (Proc.devRef .tc main_while0b_v140 : DevRef τ sig).ty.Contents (Elt F)) = Step.b75 j s := by
  unfold Step.b75
  rw [← al_59 h, ← al_74 h]
  try rfl
theorem al_76 (h : Holds V0 s j) : (addf (Host.reduceAdd (res_main_while0b_v131 V0) (constant S_ .f32 0x00000000#32) reducesTo_S4x64x64_S4x64_d2 h_S_) (mulf (res_main_while0b_v125 V0) (Host.dotGeneral dot_S64x4x128_S4x128_S4x64_2_1_0_n_1_0 none (res_main_while0b_v100 V0) (V0 (Proc.devRef .tc main_v65_7)))) : (Proc.devRef .tc main_while0b_v141 : DevRef τ sig).ty.Contents (Elt F)) = Step.b76 j s := by
  unfold Step.b76
  rw [← al_73 h, ← al_75 h]
  try rfl
theorem al_77 (h : Holds V0 s j) : (Host.absf (addf (Host.reduceAdd (res_main_while0b_v131 V0) (constant S_ .f32 0x00000000#32) reducesTo_S4x64x64_S4x64_d2 h_S_) (mulf (res_main_while0b_v125 V0) (Host.dotGeneral dot_S64x4x128_S4x128_S4x64_2_1_0_n_1_0 none (res_main_while0b_v100 V0) (V0 (Proc.devRef .tc main_v65_7))))) : (Proc.devRef .tc main_while0b_v142 : DevRef τ sig).ty.Contents (Elt F)) = Step.b77 j s := by
  unfold Step.b77
  rw [← al_76 h]
  try rfl
theorem al_78 (h : Holds V0 s j) : (Host.negf (res_main_while0b_v123 V0) : (Proc.devRef .tc main_while0b_v143 : DevRef τ sig).ty.Contents (Elt F)) = Step.b78 j s := by
  unfold Step.b78
  rw [← al_57 h]
  try rfl
theorem al_79 (h : Holds V0 s j) : (Host.exp (Host.negf (res_main_while0b_v123 V0)) : (Proc.devRef .tc main_while0b_v144 : DevRef τ sig).ty.Contents (Elt F)) = Step.b79 j s := by
  unfold Step.b79
  rw [← al_78 h]
  try rfl
theorem al_80 (h : Holds V0 s j) : (maximumf (Host.absf (addf (Host.reduceAdd (res_main_while0b_v131 V0) (constant S_ .f32 0x00000000#32) reducesTo_S4x64x64_S4x64_d2 h_S_) (mulf (res_main_while0b_v125 V0) (Host.dotGeneral dot_S64x4x128_S4x128_S4x64_2_1_0_n_1_0 none (res_main_while0b_v100 V0) (V0 (Proc.devRef .tc main_v65_7)))))) (Host.exp (Host.negf (res_main_while0b_v123 V0))) : (Proc.devRef .tc main_while0b_v145 : DevRef τ sig).ty.Contents (Elt F)) = Step.b80 j s := by
  unfold Step.b80
  rw [← al_77 h, ← al_79 h]
  try rfl
theorem al_81 (h : Holds V0 s j) : (broadcastInDim S4x64x1 ![0, 1] bcast_S4x64_S4x64x1_0_1 (maximumf (Host.absf (addf (Host.reduceAdd (res_main_while0b_v131 V0) (constant S_ .f32 0x00000000#32) reducesTo_S4x64x64_S4x64_d2 h_S_) (mulf (res_main_while0b_v125 V0) (Host.dotGeneral dot_S64x4x128_S4x128_S4x64_2_1_0_n_1_0 none (res_main_while0b_v100 V0) (V0 (Proc.devRef .tc main_v65_7)))))) (Host.exp (Host.negf (res_main_while0b_v123 V0)))) : (Proc.devRef .tc main_while0b_v146 : DevRef τ sig).ty.Contents (Elt F)) = Step.b81 j s := by
  unfold Step.b81
  rw [← al_80 h]
  try rfl
theorem al_82 (h : Holds V0 s j) : (broadcastInDim S4x64x256 ![0, 1, 2] bcast_S4x64x1_S4x64x256_0_1_2 (broadcastInDim S4x64x1 ![0, 1] bcast_S4x64_S4x64x1_0_1 (maximumf (Host.absf (addf (Host.reduceAdd (res_main_while0b_v131 V0) (constant S_ .f32 0x00000000#32) reducesTo_S4x64x64_S4x64_d2 h_S_) (mulf (res_main_while0b_v125 V0) (Host.dotGeneral dot_S64x4x128_S4x128_S4x64_2_1_0_n_1_0 none (res_main_while0b_v100 V0) (V0 (Proc.devRef .tc main_v65_7)))))) (Host.exp (Host.negf (res_main_while0b_v123 V0))))) : (Proc.devRef .tc main_while0b_v147 : DevRef τ sig).ty.Contents (Elt F)) = Step.b82 j s := by
  unfold Step.b82
  rw [← al_81 h]
  try rfl
theorem al_83 (h : Holds V0 s j) : (Host.divf (addf (Host.dotGeneral dot_S4x64x64_S64x4x256_S4x64x256_2_0_1_2_0_1 none (res_main_while0b_v131 V0) (res_main_while0b_v102 V0)) (mulf (broadcastInDim S4x64x256 ![0, 1, 2] bcast_S4x64x1_S4x64x256_0_1_2 (broadcastInDim S4x64x1 ![0, 1] bcast_S4x64_S4x64x1_0_1 (res_main_while0b_v125 V0))) (Host.dotGeneral dot_S64x4x128_S4x128x256_S4x64x256_2_1_0_2_1_0 none (res_main_while0b_v100 V0) (V0 (Proc.devRef .tc main_v65_6))))) (broadcastInDim S4x64x256 ![0, 1, 2] bcast_S4x64x1_S4x64x256_0_1_2 (broadcastInDim S4x64x1 ![0, 1] bcast_S4x64_S4x64x1_0_1 (maximumf (Host.absf (addf (Host.reduceAdd (res_main_while0b_v131 V0) (constant S_ .f32 0x00000000#32) reducesTo_S4x64x64_S4x64_d2 h_S_) (mulf (res_main_while0b_v125 V0) (Host.dotGeneral dot_S64x4x128_S4x128_S4x64_2_1_0_n_1_0 none (res_main_while0b_v100 V0) (V0 (Proc.devRef .tc main_v65_7)))))) (Host.exp (Host.negf (res_main_while0b_v123 V0)))))) : (Proc.devRef .tc main_while0b_v148 : DevRef τ sig).ty.Contents (Elt F)) = Step.b83 j s := by
  unfold Step.b83
  rw [← al_71 h, ← al_82 h]
  try rfl
theorem al_84 (h : Holds V0 s j) : (extractStridedSlice S4x1 ![0, 63] (res_main_while0b_v106 V0) slices_S4x64_S4x1_0_63 : (Proc.devRef .tc main_while0b_v149 : DevRef τ sig).ty.Contents (Elt F)) = Step.b84 j s := by
  unfold Step.b84
  rw [← al_26 h]
  try rfl
theorem al_85 (h : Holds V0 s j) : (res_main_while0b_v150 V0 : (Proc.devRef .tc main_while0b_v150 : DevRef τ sig).ty.Contents (Elt F)) = Step.b85 j s := by
  unfold res_main_while0b_v150 Step.b85
  rw [← al_84 h]
  try rfl
theorem al_86 (h : Holds V0 s j) : (broadcastInDim S4x1 ![0] bcast_S4_S4x1_0 (res_main_while0b_v150 V0) : (Proc.devRef .tc main_while0b_v151 : DevRef τ sig).ty.Contents (Elt F)) = Step.b86 j s := by
  unfold Step.b86
  rw [← al_85 h]
  try rfl
theorem al_87 (h : Holds V0 s j) : (broadcastInDim S4x64 ![0, 1] bcast_S4x1_S4x64_0_1 (broadcastInDim S4x1 ![0] bcast_S4_S4x1_0 (res_main_while0b_v150 V0)) : (Proc.devRef .tc main_while0b_v152 : DevRef τ sig).ty.Contents (Elt F)) = Step.b87 j s := by
  unfold Step.b87
  rw [← al_86 h]
  try rfl
theorem al_88 (h : Holds V0 s j) : (subf (broadcastInDim S4x64 ![0, 1] bcast_S4x1_S4x64_0_1 (broadcastInDim S4x1 ![0] bcast_S4_S4x1_0 (res_main_while0b_v150 V0))) (res_main_while0b_v106 V0) : (Proc.devRef .tc main_while0b_v153 : DevRef τ sig).ty.Contents (Elt F)) = Step.b88 j s := by
  unfold Step.b88
  rw [← al_87 h, ← al_26 h]
  try rfl
theorem al_89 (h : Holds V0 s j) : (res_main_while0b_v154 V0 : (Proc.devRef .tc main_while0b_v154 : DevRef τ sig).ty.Contents (Elt F)) = Step.b89 j s := by
  unfold res_main_while0b_v154 Step.b89
  rw [← al_88 h, ← al_27 h]
  try rfl
theorem al_90 (h : Holds V0 s j) : (addf (res_main_while0b_v150 V0) (V0 (Proc.devRef .tc main_v65_8)) : (Proc.devRef .tc main_while0b_v155 : DevRef τ sig).ty.Contents (Elt F)) = Step.b90 j s := by
  unfold Step.b90
  rw [← al_85 h, h.f_8]
  try rfl
theorem al_91 (h : Holds V0 s j) : (constant S_ .f32 0xFF800000#32 : (Proc.devRef .tc main_while0b_cst_26 : DevRef τ sig).ty.Contents (Elt F)) = Step.b91 j s := by
  unfold Step.b91
  rfl
theorem al_92 (h : Holds V0 s j) : (Host.reduce FloatOps.maximumf (res_main_while0b_v154 V0) (constant S_ .f32 0xFF800000#32) reducesTo_S4x64_S4_d1 h_S_ : (Proc.devRef .tc main_while0b_v156 : DevRef τ sig).ty.Contents (Elt F)) = Step.b92 j s := by
  unfold Step.b92
  rw [← al_89 h, ← al_91 h]
  try rfl
theorem al_93 (h : Holds V0 s j) : (res_main_while0b_v157 V0 : (Proc.devRef .tc main_while0b_v157 : DevRef τ sig).ty.Contents (Elt F)) = Step.b93 j s := by
  unfold res_main_while0b_v157 Step.b93
  rw [← al_90 h, ← al_92 h]
  try rfl
theorem al_94 (h : Holds V0 s j) : (addf (res_main_while0b_v150 V0) (V0 (Proc.devRef .tc main_v65_8)) : (Proc.devRef .tc main_while0b_v158 : DevRef τ sig).ty.Contents (Elt F)) = Step.b94 j s := by
  unfold Step.b94
  rw [← al_85 h, h.f_8]
  try rfl
theorem al_95 (h : Holds V0 s j) : (subf (addf (res_main_while0b_v150 V0) (V0 (Proc.devRef .tc main_v65_8))) (res_main_while0b_v157 V0) : (Proc.devRef .tc main_while0b_v159 : DevRef τ sig).ty.Contents (Elt F)) = Step.b95 j s := by
  unfold Step.b95
  rw [← al_94 h, ← al_93 h]
  try rfl
theorem al_96 (h : Holds V0 s j) : (res_main_while0b_v160 V0 : (Proc.devRef .tc main_while0b_v160 : DevRef τ sig).ty.Contents (Elt F)) = Step.b96 j s := by
  unfold res_main_while0b_v160 Step.b96
  rw [← al_95 h]
  try rfl
theorem al_97 (h : Holds V0 s j) : (broadcastInDim S4x1 ![0] bcast_S4_S4x1_0 (res_main_while0b_v157 V0) : (Proc.devRef .tc main_while0b_v161 : DevRef τ sig).ty.Contents (Elt F)) = Step.b97 j s := by
  unfold Step.b97
  rw [← al_93 h]
  try rfl
theorem al_98 (h : Holds V0 s j) : (broadcastInDim S4x64 ![0, 1] bcast_S4x1_S4x64_0_1 (broadcastInDim S4x1 ![0] bcast_S4_S4x1_0 (res_main_while0b_v157 V0)) : (Proc.devRef .tc main_while0b_v162 : DevRef τ sig).ty.Contents (Elt F)) = Step.b98 j s := by
  unfold Step.b98
  rw [← al_97 h]
  try rfl
theorem al_99 (h : Holds V0 s j) : (subf (res_main_while0b_v154 V0) (broadcastInDim S4x64 ![0, 1] bcast_S4x1_S4x64_0_1 (broadcastInDim S4x1 ![0] bcast_S4_S4x1_0 (res_main_while0b_v157 V0))) : (Proc.devRef .tc main_while0b_v163 : DevRef τ sig).ty.Contents (Elt F)) = Step.b99 j s := by
  unfold Step.b99
  rw [← al_89 h, ← al_98 h]
  try rfl
theorem al_100 (h : Holds V0 s j) : (res_main_while0b_v164 V0 : (Proc.devRef .tc main_while0b_v164 : DevRef τ sig).ty.Contents (Elt F)) = Step.b100 j s := by
  unfold res_main_while0b_v164 Step.b100
  rw [← al_99 h]
  try rfl
theorem al_101 (h : Holds V0 s j) : (transpose S64x4 [1, 0] (res_main_while0b_v164 V0) transposes_S4x64_S64x4_1_0 : (Proc.devRef .tc main_while0b_v165 : DevRef τ sig).ty.Contents (Elt F)) = Step.b101 j s := by
  unfold Step.b101
  rw [← al_100 h]
  try rfl
theorem al_102 (h : Holds V0 s j) : (broadcastInDim S64x4x1 ![0, 1] bcast_S64x4_S64x4x1_0_1 (transpose S64x4 [1, 0] (res_main_while0b_v164 V0) transposes_S4x64_S64x4_1_0) : (Proc.devRef .tc main_while0b_v166 : DevRef τ sig).ty.Contents (Elt F)) = Step.b102 j s := by
  unfold Step.b102
  rw [← al_101 h]
  try rfl
theorem al_103 (h : Holds V0 s j) : (broadcastInDim S64x4x128 ![0, 1, 2] bcast_S64x4x1_S64x4x128_0_1_2 (broadcastInDim S64x4x1 ![0, 1] bcast_S64x4_S64x4x1_0_1 (transpose S64x4 [1, 0] (res_main_while0b_v164 V0) transposes_S4x64_S64x4_1_0)) : (Proc.devRef .tc main_while0b_v167 : DevRef τ sig).ty.Contents (Elt F)) = Step.b103 j s := by
  unfold Step.b103
  rw [← al_102 h]
  try rfl
theorem al_104 (h : Holds V0 s j) : (mulf (res_main_while0b_v101 V0) (broadcastInDim S64x4x128 ![0, 1, 2] bcast_S64x4x1_S64x4x128_0_1_2 (broadcastInDim S64x4x1 ![0, 1] bcast_S64x4_S64x4x1_0_1 (transpose S64x4 [1, 0] (res_main_while0b_v164 V0) transposes_S4x64_S64x4_1_0))) : (Proc.devRef .tc main_while0b_v168 : DevRef τ sig).ty.Contents (Elt F)) = Step.b104 j s := by
  unfold Step.b104
  rw [← al_9 h, ← al_103 h]
  try rfl
theorem al_105 (h : Holds V0 s j) : (broadcastInDim S4x1x1 ![0] bcast_S4_S4x1x1_0 (res_main_while0b_v160 V0) : (Proc.devRef .tc main_while0b_v169 : DevRef τ sig).ty.Contents (Elt F)) = Step.b105 j s := by
  unfold Step.b105
  rw [← al_96 h]
  try rfl
theorem al_106 (h : Holds V0 s j) : (broadcastInDim S4x128x256 ![0, 1, 2] bcast_S4x1x1_S4x128x256_0_1_2 (broadcastInDim S4x1x1 ![0] bcast_S4_S4x1x1_0 (res_main_while0b_v160 V0)) : (Proc.devRef .tc main_while0b_v170 : DevRef τ sig).ty.Contents (Elt F)) = Step.b106 j s := by
  unfold Step.b106
  rw [← al_105 h]
  try rfl
theorem al_107 (h : Holds V0 s j) : (mulf (broadcastInDim S4x128x256 ![0, 1, 2] bcast_S4x1x1_S4x128x256_0_1_2 (broadcastInDim S4x1x1 ![0] bcast_S4_S4x1x1_0 (res_main_while0b_v160 V0))) (V0 (Proc.devRef .tc main_v65_6)) : (Proc.devRef .tc main_while0b_v171 : DevRef τ sig).ty.Contents (Elt F)) = Step.b107 j s := by
  unfold Step.b107
  rw [← al_106 h, h.f_6]
  try rfl
theorem al_108 (h : Holds V0 s j) : (Host.dotGeneral dot_S64x4x128_S64x4x256_S4x128x256_0_0_2_2_1_1 none (mulf (res_main_while0b_v101 V0) (broadcastInDim S64x4x128 ![0, 1, 2] bcast_S64x4x1_S64x4x128_0_1_2 (broadcastInDim S64x4x1 ![0, 1] bcast_S64x4_S64x4x1_0_1 (transpose S64x4 [1, 0] (res_main_while0b_v164 V0) transposes_S4x64_S64x4_1_0)))) (res_main_while0b_v102 V0) : (Proc.devRef .tc main_while0b_v172 : DevRef τ sig).ty.Contents (Elt F)) = Step.b108 j s := by
  unfold Step.b108
  rw [← al_104 h, ← al_14 h]
  try rfl
theorem al_109 (h : Holds V0 s j) : (addf (mulf (broadcastInDim S4x128x256 ![0, 1, 2] bcast_S4x1x1_S4x128x256_0_1_2 (broadcastInDim S4x1x1 ![0] bcast_S4_S4x1x1_0 (res_main_while0b_v160 V0))) (V0 (Proc.devRef .tc main_v65_6))) (Host.dotGeneral dot_S64x4x128_S64x4x256_S4x128x256_0_0_2_2_1_1 none (mulf (res_main_while0b_v101 V0) (broadcastInDim S64x4x128 ![0, 1, 2] bcast_S64x4x1_S64x4x128_0_1_2 (broadcastInDim S64x4x1 ![0, 1] bcast_S64x4_S64x4x1_0_1 (transpose S64x4 [1, 0] (res_main_while0b_v164 V0) transposes_S4x64_S64x4_1_0)))) (res_main_while0b_v102 V0)) : (Proc.devRef .tc main_while0b_v173 : DevRef τ sig).ty.Contents (Elt F)) = Step.b109 j s := by
  unfold Step.b109
  rw [← al_107 h, ← al_108 h]
  try rfl
theorem al_110 (h : Holds V0 s j) : (broadcastInDim S4x1 ![0] bcast_S4_S4x1_0 (res_main_while0b_v160 V0) : (Proc.devRef .tc main_while0b_v174 : DevRef τ sig).ty.Contents (Elt F)) = Step.b110 j s := by
  unfold Step.b110
  rw [← al_96 h]
  try rfl
theorem al_111 (h : Holds V0 s j) : (broadcastInDim S4x128 ![0, 1] bcast_S4x1_S4x128_0_1 (broadcastInDim S4x1 ![0] bcast_S4_S4x1_0 (res_main_while0b_v160 V0)) : (Proc.devRef .tc main_while0b_v175 : DevRef τ sig).ty.Contents (Elt F)) = Step.b111 j s := by
  unfold Step.b111
  rw [← al_110 h]
  try rfl
theorem al_112 (h : Holds V0 s j) : (mulf (broadcastInDim S4x128 ![0, 1] bcast_S4x1_S4x128_0_1 (broadcastInDim S4x1 ![0] bcast_S4_S4x1_0 (res_main_while0b_v160 V0))) (V0 (Proc.devRef .tc main_v65_7)) : (Proc.devRef .tc main_while0b_v176 : DevRef τ sig).ty.Contents (Elt F)) = Step.b112 j s := by
  unfold Step.b112
  rw [← al_111 h, h.f_7]
  try rfl
theorem al_113 (h : Holds V0 s j) : (Host.dotGeneral dot_S4x64_S64x4x128_S4x128_1_0_n_2_0_1 none (res_main_while0b_v164 V0) (res_main_while0b_v101 V0) : (Proc.devRef .tc main_while0b_v177 : DevRef τ sig).ty.Contents (Elt F)) = Step.b113 j s := by
  unfold Step.b113
  rw [← al_100 h, ← al_9 h]
  try rfl
theorem al_114 (h : Holds V0 s j) : (addf (mulf (broadcastInDim S4x128 ![0, 1] bcast_S4x1_S4x128_0_1 (broadcastInDim S4x1 ![0] bcast_S4_S4x1_0 (res_main_while0b_v160 V0))) (V0 (Proc.devRef .tc main_v65_7))) (Host.dotGeneral dot_S4x64_S64x4x128_S4x128_1_0_n_2_0_1 none (res_main_while0b_v164 V0) (res_main_while0b_v101 V0)) : (Proc.devRef .tc main_while0b_v178 : DevRef τ sig).ty.Contents (Elt F)) = Step.b114 j s := by
  unfold Step.b114
  rw [← al_112 h, ← al_113 h]
  try rfl
theorem al_115 (h : Holds V0 s j) : (broadcastInDim S1x4x64x256 ![1, 2, 3] bcast_S4x64x256_S1x4x64x256_1_2_3 (Host.divf (addf (Host.dotGeneral dot_S4x64x64_S64x4x256_S4x64x256_2_0_1_2_0_1 none (res_main_while0b_v131 V0) (res_main_while0b_v102 V0)) (mulf (broadcastInDim S4x64x256 ![0, 1, 2] bcast_S4x64x1_S4x64x256_0_1_2 (broadcastInDim S4x64x1 ![0, 1] bcast_S4x64_S4x64x1_0_1 (res_main_while0b_v125 V0))) (Host.dotGeneral dot_S64x4x128_S4x128x256_S4x64x256_2_1_0_2_1_0 none (res_main_while0b_v100 V0) (V0 (Proc.devRef .tc main_v65_6))))) (broadcastInDim S4x64x256 ![0, 1, 2] bcast_S4x64x1_S4x64x256_0_1_2 (broadcastInDim S4x64x1 ![0, 1] bcast_S4x64_S4x64x1_0_1 (maximumf (Host.absf (addf (Host.reduceAdd (res_main_while0b_v131 V0) (constant S_ .f32 0x00000000#32) reducesTo_S4x64x64_S4x64_d2 h_S_) (mulf (res_main_while0b_v125 V0) (Host.dotGeneral dot_S64x4x128_S4x128_S4x64_2_1_0_n_1_0 none (res_main_while0b_v100 V0) (V0 (Proc.devRef .tc main_v65_7)))))) (Host.exp (Host.negf (res_main_while0b_v123 V0))))))) : (Proc.devRef .tc main_while0b_call10_v0 : DevRef τ sig).ty.Contents (Elt F)) = Step.b115 j s := by
  unfold Step.b115
  rw [← al_83 h]
  try rfl
theorem al_116 (h : Holds V0 s j) : (constantI S_ 32 0#32 : (Proc.devRef .tc main_while0b_call10_c : DevRef τ sig).ty.Contents (Elt F)) = Step.b116 j s := by
  unfold Step.b116
  rfl
theorem al_117 (h : Holds V0 s j) : (constantI S_ 32 0#32 : (Proc.devRef .tc main_while0b_call10_c_0 : DevRef τ sig).ty.Contents (Elt F)) = Step.b117 j s := by
  unfold Step.b117
  rfl
theorem al_118 (h : Holds V0 s j) : (constantI S_ 32 0#32 : (Proc.devRef .tc main_while0b_call10_c_1 : DevRef τ sig).ty.Contents (Elt F)) = Step.b118 j s := by
  unfold Step.b118
  rfl
theorem al_119 (h : Holds V0 s j) : (Host.dynamicUpdateSlice (V0 (Proc.devRef .tc main_v65_9)) (broadcastInDim S1x4x64x256 ![1, 2, 3] bcast_S4x64x256_S1x4x64x256_1_2_3 (Host.divf (addf (Host.dotGeneral dot_S4x64x64_S64x4x256_S4x64x256_2_0_1_2_0_1 none (res_main_while0b_v131 V0) (res_main_while0b_v102 V0)) (mulf (broadcastInDim S4x64x256 ![0, 1, 2] bcast_S4x64x1_S4x64x256_0_1_2 (broadcastInDim S4x64x1 ![0, 1] bcast_S4x64_S4x64x1_0_1 (res_main_while0b_v125 V0))) (Host.dotGeneral dot_S64x4x128_S4x128x256_S4x64x256_2_1_0_2_1_0 none (res_main_while0b_v100 V0) (V0 (Proc.devRef .tc main_v65_6))))) (broadcastInDim S4x64x256 ![0, 1, 2] bcast_S4x64x1_S4x64x256_0_1_2 (broadcastInDim S4x64x1 ![0, 1] bcast_S4x64_S4x64x1_0_1 (maximumf (Host.absf (addf (Host.reduceAdd (res_main_while0b_v131 V0) (constant S_ .f32 0x00000000#32) reducesTo_S4x64x64_S4x64_d2 h_S_) (mulf (res_main_while0b_v125 V0) (Host.dotGeneral dot_S64x4x128_S4x128_S4x64_2_1_0_n_1_0 none (res_main_while0b_v100 V0) (V0 (Proc.devRef .tc main_v65_7)))))) (Host.exp (Host.negf (res_main_while0b_v123 V0)))))))) (fun k => (((![V0 (Proc.devRef .tc main_v65_5), constantI S_ 32 0#32, constantI S_ 32 0#32, constantI S_ 32 0#32] : Fin 4 → (⟨S_, .i32⟩ : BufTy).Contents (Elt F))) k (Shape.Idx.first h_S_)).toInt) updateFits_S128x4x64x256_S1x4x64x256 : (Proc.devRef .tc main_while0b_v179 : DevRef τ sig).ty.Contents (Elt F)) = Step.b119 j s := by
  unfold Step.b119
  rw [← al_115 h, ← al_116 h, ← al_117 h, ← al_118 h, h.f_9, h.n_5]
  try rfl

/-! One trip's step of the carried values is `step`, field by field; a counter steps to the next number. -/

theorem step_6 (h : Holds V0 s j) : step_main_v65_6 V0 = (step j s).main_v65_6 := by
  unfold step_main_v65_6 Cert.ReferenceIdeal.Step.step
  show id (addf (mulf (broadcastInDim S4x128x256 ![0, 1, 2] bcast_S4x1x1_S4x128x256_0_1_2 (broadcastInDim S4x1x1 ![0] bcast_S4_S4x1x1_0 (res_main_while0b_v160 V0))) (V0 (Proc.devRef .tc main_v65_6))) (Host.dotGeneral dot_S64x4x128_S64x4x256_S4x128x256_0_0_2_2_1_1 none (mulf (res_main_while0b_v101 V0) (broadcastInDim S64x4x128 ![0, 1, 2] bcast_S64x4x1_S64x4x128_0_1_2 (broadcastInDim S64x4x1 ![0, 1] bcast_S64x4_S64x4x1_0_1 (transpose S64x4 [1, 0] (res_main_while0b_v164 V0) transposes_S4x64_S64x4_1_0)))) (res_main_while0b_v102 V0))) = _
  rw [al_109 h]
  try rfl
theorem step_7 (h : Holds V0 s j) : step_main_v65_7 V0 = (step j s).main_v65_7 := by
  unfold step_main_v65_7 Cert.ReferenceIdeal.Step.step
  show id (addf (mulf (broadcastInDim S4x128 ![0, 1] bcast_S4x1_S4x128_0_1 (broadcastInDim S4x1 ![0] bcast_S4_S4x1_0 (res_main_while0b_v160 V0))) (V0 (Proc.devRef .tc main_v65_7))) (Host.dotGeneral dot_S4x64_S64x4x128_S4x128_1_0_n_2_0_1 none (res_main_while0b_v164 V0) (res_main_while0b_v101 V0))) = _
  rw [al_114 h]
  try rfl
theorem step_8 (h : Holds V0 s j) : step_main_v65_8 V0 = (step j s).main_v65_8 := by
  unfold step_main_v65_8 Cert.ReferenceIdeal.Step.step
  show id (res_main_while0b_v157 V0) = _
  rw [al_93 h]
  try rfl
theorem step_9 (h : Holds V0 s j) : step_main_v65_9 V0 = (step j s).main_v65_9 := by
  unfold step_main_v65_9 Cert.ReferenceIdeal.Step.step
  show id (Host.dynamicUpdateSlice (V0 (Proc.devRef .tc main_v65_9)) (broadcastInDim S1x4x64x256 ![1, 2, 3] bcast_S4x64x256_S1x4x64x256_1_2_3 (Host.divf (addf (Host.dotGeneral dot_S4x64x64_S64x4x256_S4x64x256_2_0_1_2_0_1 none (res_main_while0b_v131 V0) (res_main_while0b_v102 V0)) (mulf (broadcastInDim S4x64x256 ![0, 1, 2] bcast_S4x64x1_S4x64x256_0_1_2 (broadcastInDim S4x64x1 ![0, 1] bcast_S4x64_S4x64x1_0_1 (res_main_while0b_v125 V0))) (Host.dotGeneral dot_S64x4x128_S4x128x256_S4x64x256_2_1_0_2_1_0 none (res_main_while0b_v100 V0) (V0 (Proc.devRef .tc main_v65_6))))) (broadcastInDim S4x64x256 ![0, 1, 2] bcast_S4x64x1_S4x64x256_0_1_2 (broadcastInDim S4x64x1 ![0, 1] bcast_S4x64_S4x64x1_0_1 (maximumf (Host.absf (addf (Host.reduceAdd (res_main_while0b_v131 V0) (constant S_ .f32 0x00000000#32) reducesTo_S4x64x64_S4x64_d2 h_S_) (mulf (res_main_while0b_v125 V0) (Host.dotGeneral dot_S64x4x128_S4x128_S4x64_2_1_0_n_1_0 none (res_main_while0b_v100 V0) (V0 (Proc.devRef .tc main_v65_7)))))) (Host.exp (Host.negf (res_main_while0b_v123 V0)))))))) (fun k => (((![V0 (Proc.devRef .tc main_v65_5), constantI S_ 32 0#32, constantI S_ 32 0#32, constantI S_ 32 0#32] : Fin 4 → (⟨S_, .i32⟩ : BufTy).Contents (Elt F))) k (Shape.Idx.first h_S_)).toInt) updateFits_S128x4x64x256_S1x4x64x256) = _
  exact al_119 h
  try rfl
theorem step_5 (h : Holds V0 s j) : step_main_v65_5 V0 = constantI S_ 32 (BitVec.ofNat 32 (j + 1)) := by
  unfold step_main_v65_5
  rw [h.n_5]
  funext i
  show BitVec.ofNat 32 j + 1#32 = BitVec.ofNat 32 (j + 1)
  simp only [BitVec.ofNat_add]

theorem out_main_v95_holds (h : Holds V0 s j) {x_main_arg0 : (⟨S8192x11352, .f32⟩ : BufTy).Contents (Elt F)} (h_main_arg0 : V0 (Proc.devRef .tc main_arg0) = x_main_arg0) {x_main_arg5 : (⟨S4x256, .f32⟩ : BufTy).Contents (Elt F)} (h_main_arg5 : V0 (Proc.devRef .tc main_arg5) = x_main_arg5) : out_main_v95 V0 = Cert.ReferenceIdeal.Step.R_main_v95 s x_main_arg0 x_main_arg5 := by
  unfold out_main_v95 Cert.ReferenceIdeal.Step.R_main_v95
  rw [h.f_9, h_main_arg0, h_main_arg5]
  try rfl

theorem out_main_v94_holds (h : Holds V0 s j) {x_main_arg0 : (⟨S8192x11352, .f32⟩ : BufTy).Contents (Elt F)} (h_main_arg0 : V0 (Proc.devRef .tc main_arg0) = x_main_arg0) : out_main_v94 V0 = Cert.ReferenceIdeal.Step.R_main_v94 s x_main_arg0 := by
  unfold out_main_v94 Cert.ReferenceIdeal.Step.R_main_v94
  rw [h_main_arg0]
  try rfl

theorem out_main_v96_holds (h : Holds V0 s j) : out_main_v96 V0 = Cert.ReferenceIdeal.Step.R_main_v96 s := by
  unfold out_main_v96 Cert.ReferenceIdeal.Step.R_main_v96
  rw [h.f_7]
  try rfl

theorem out_main_v99_holds (h : Holds V0 s j) : out_main_v99 V0 = Cert.ReferenceIdeal.Step.R_main_v99 s := by
  unfold out_main_v99 Cert.ReferenceIdeal.Step.R_main_v99
  rw [h.f_8]
  try rfl

/-- One trip keeps the valuation holding: `step` of the state, the same set-up values, the next number. -/
theorem holds_step (h : Holds V0 s j) : Holds (STEP V0) (step j s) (j + 1) where
  f_6 := (STEP_main_v65_6 V0).trans (step_6 h)
  f_7 := (STEP_main_v65_7 V0).trans (step_7 h)
  f_8 := (STEP_main_v65_8 V0).trans (step_8 h)
  f_9 := (STEP_main_v65_9 V0).trans (step_9 h)
  n_5 := (STEP_main_v65_5 V0).trans (step_5 h)
  f_0 := (STEP_main_v65_0 V0).trans h.f_0
  f_1 := (STEP_main_v65_1 V0).trans h.f_1
  f_2 := (STEP_main_v65_2 V0).trans h.f_2
  f_3 := (STEP_main_v65_3 V0).trans h.f_3
  f_4 := (STEP_main_v65_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v95) = Cert.ReferenceIdeal.Step.R_main_v95 (it c 128) (m ((c.tc : Thread nD τ).loc main_arg0)) (m ((c.tc : Thread nD τ).loc main_arg5))
      ∧ r.2.mem ((c.tc : Thread nD τ).loc main_v94) = Cert.ReferenceIdeal.Step.R_main_v94 (it c 128) (m ((c.tc : Thread nD τ).loc main_arg0))
      ∧ r.2.mem ((c.tc : Thread nD τ).loc main_v65_6) = (it c 128).main_v65_6
      ∧ r.2.mem ((c.tc : Thread nD τ).loc main_v96) = Cert.ReferenceIdeal.Step.R_main_v96 (it c 128)
      ∧ r.2.mem ((c.tc : Thread nD τ).loc main_v99) = Cert.ReferenceIdeal.Step.R_main_v99 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 128
    ⟨(h c).1.trans (out_main_v95_holds hk (iter_main_arg0 m c 128) (iter_main_arg5 m c 128)), (h c).2.1.trans (out_main_v94_holds hk (iter_main_arg0 m c 128)), (h c).2.2.1.trans hk.f_6, (h c).2.2.2.1.trans (out_main_v96_holds hk), (h c).2.2.2.2.1.trans (out_main_v99_holds hk), (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.MlstmStepRun

end
-- ==== Proof.MlstmReference.lean ====
module

public import proofs.«01_k».proof.Proof.MlstmScan
public import proofs.«01_k».proof.Proof.MlstmStepRun

/-! The mLSTM reference's run: its rows, the convolution's last rows and the heads' memories after the last chunk. -/

@[expose] public section

noncomputable section

namespace Cert.MlstmReference

open Cert.Mlstm Cert.ReferenceIdeal Cert.ReferenceIdeal.Step Idealize.ShloMosaic Idealize.ShloMosaic.TcCoe Idealize.SL.Sem

variable (m : (ℓ : Loc nD τ sig) → Buf (Elt Ideal) ℓ) (c : Dev nD)

/-- The arrays of the reference's arguments. -/
def arraysAt : Arrays :=
  arrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The states of the reference's arguments. -/
def statesAt (n : ℕ) : State Ideal :=
  states (m ((c : Thread nD τ).loc main_arg0)) (m ((c : Thread nD τ).loc main_arg1)) (m ((c : Thread nD τ).loc main_arg2))
    (m ((c : Thread nD τ).loc main_arg3)) (m ((c : Thread nD τ).loc main_arg4)) n

/-- The reference's run. -/
theorem run (ρ : Dev nD → PrngReg) : θ_run defs (onTc (τ := τ) (main (F := Ideal))) ⟨m, fun _ => 0, ρ⟩ fun r => ∀ c : Dev nD,
      (∀ (t : Fin 8192) (d : Fin 1024), r.2.mem ((c : Thread nD τ).loc main_v95) (ix2 t d) = (arraysAt m c).rows t d)
      ∧ (∀ (a : Fin 3) (d : Fin 1024), r.2.mem ((c : Thread nD τ).loc main_v94) (ix2 a d) = (arraysAt m c).proj ⟨8189 + a.val, by omega⟩ ⟨d.val, by omega⟩)
      ∧ (∀ (h : Fin 4) (q : Fin 128) (d : Fin 256), r.2.mem ((c : Thread nD τ).loc main_v65_6) (ix3 h q d) = ((arraysAt m c).mem h 128).C q d)
      ∧ (∀ (a : Fin 8) (d : Fin 128), r.2.mem ((c : Thread nD τ).loc main_v96) (ix2 a d) =
          if h : a.val < 4 then ((arraysAt m c).mem ⟨a.val, h⟩ 128).n d else (0 : EReal))
      ∧ (∀ (a : Fin 8) (d : Fin 128), r.2.mem ((c : Thread nD τ).loc main_v99) (ix2 a d) =
          if h : a.val < 4 then ((arraysAt m c).mem ⟨a.val, h⟩ 128).m else (0 : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun _ h c => ?_) (Cert.MlstmStepRun.run_iter m ρ (statesAt m) (fun _ => rfl) (fun _ _ => rfl))
  obtain ⟨h0, h1, h2, h3, h4, hrest⟩ := h c
  refine ⟨fun t d => ?_, fun a d => ?_, fun h q d => ?_, fun a d => ?_, fun a d => ?_, hrest⟩
  · rw [h0]; exact rows_eq _ _ _ _ _ _ t d
  · rw [h1]; exact conv_rows _ _ _ _ _ a d
  · rw [h2]; exact (reached _ _ _ _ _ _ 128 le_rfl).C h q d
  · rw [h3]; exact vector_rows _ _ _ _ _ _ a d
  · rw [h4]; exact level_rows _ _ _ _ _ _ a d

end Cert.MlstmReference

end
-- ==== Proof.FfnCases.lean ====
module

public import proofs.«01_k».proof.Proof.Gen.Kernel2Ideal.Frame
public import Idealize.ShloMosaic.Lib.Pipeline.Value

/-! What one grid point of the feed-forward kernel leaves in its output block and in its scratch, as a function of the
    blocks it reads: the first tile of a row block normalises the rows into the scratch and starts the output, the middle
    tiles add to the output, the last one adds its tile and the residual. -/

@[expose] public section

noncomputable section

namespace Cert.Ffn

open Cert.Kernel2Ideal Cert.Kernel2Ideal.Gen Idealize.ShloMosaic Idealize.ShloMosaic.TcCoe Idealize.SL.Sem

variable {F : FTy → Type} [FloatOps F]

/-- Every load and store of the kernel starts at the window's corner. -/
theorem corner2 : (![(0 : ℕ), 0] : Fin 2 → ℕ) = fun _ => 0 := by
  funext a; match a with
  | ⟨0, _⟩ => rfl
  | ⟨1, _⟩ => rfl

section Cases

variable (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S512x2048 .bf16) (harg7 : arg7.IsWhole)
  (arg8 : Memref sig .tc .vmem S2048x384 .bf16) (harg8 : arg8.IsWhole)
  (arg9 : Memref sig .tc .vmem S2048x384 .bf16) (harg9 : arg9.IsWhole)
  (arg10 : Memref sig .tc .vmem S384x2048 .bf16) (harg10 : arg10.IsWhole)
  (arg11 : Memref sig .tc .vmem S512x2048 .f32) (harg11 : arg11.IsWhole)
  (arg12 : Memref sig .tc .vmem S512x2048 .bf16) (harg12 : arg12.IsWhole)
  (x0 : Vec F S512x2048 .f32) (x1 : Vec F S1x2048 .f32) (x2 : Vec F S1x2048 .f32) (x3 : Vec F S2048x512 .bf16) (x4 : Vec F S2048x512 .bf16) (x5 : Vec F S512x2048 .bf16) (x6 : Vec F S2048x384 .bf16) (x7 : Vec F S2048x384 .bf16) (x8 : Vec F S384x2048 .bf16)

/-- The first tile stores the normalised rows. -/
theorem scratch_first (hc0 : cond0_0 i) (hc1 : cond0_1 i) (hc2 : ¬cond0_2 i) (hc3 : ¬cond0_3 i) :
    sout0_A_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8)]
  unfold kernelRun0_A
  dsimp only
  sl_unfold_words
  simp only [View.canon_unit_zero (S := S512x2048) corner2, View.readAt_eq_ld, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S512x2048) _ corner2,
    harg2.read_unread, harg3.read_unread, harg4.read_unread, harg5.read_unread, harg6.read_unread, harg7.read_unread, harg8.read_unread, harg9.read_unread, harg10.read_unread, harg11.read_unread, harg12.read_unread]

/-- The first tile starts the output, from the rows it has just normalised. -/
theorem out_first (hc0 : cond0_0 i) (hc1 : cond0_1 i) (hc2 : ¬cond0_2 i) (hc3 : ¬cond0_3 i) :
    out0_A_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 = k0_pay2 (k0_pay1 x0 x1) x3 x4 x5 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8)]
  unfold kernelRun0_A
  dsimp only
  sl_unfold_words
  simp only [View.canon_unit_zero (S := S512x2048) corner2, View.readAt_eq_ld, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S512x2048) _ corner2,
    harg2.read_unread, harg3.read_unread, harg4.read_unread, harg5.read_unread, harg6.read_unread, harg7.read_unread, harg8.read_unread, harg9.read_unread, harg10.read_unread, harg11.read_unread, harg12.read_unread]

/-- A middle tile adds to the output. -/
theorem out_middle (hc0 : ¬cond0_0 i) (hc1 : ¬cond0_1 i) (hc2 : cond0_2 i) (hc3 : ¬cond0_3 i) (acc : Vec F S512x2048 .f32) (h : Vec F S512x2048 .bf16) :
    out0_B_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 acc h = k0_pay3 acc h x3 x4 x5 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 acc h)]
  unfold kernelRun0_B
  dsimp only
  sl_unfold_words
  simp only [View.canon_unit_zero (S := S512x2048) corner2, View.readAt_eq_ld, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S512x2048) _ corner2,
    harg2.read_unread, harg3.read_unread, harg4.read_unread, harg5.read_unread, harg6.read_unread, harg7.read_unread, harg8.read_unread, harg9.read_unread, harg10.read_unread, harg11.read_unread, harg12.read_unread]

/-- The last tile adds its product, halves the sum and adds the block of `x`. -/
theorem out_last (hc0 : ¬cond0_0 i) (hc1 : ¬cond0_1 i) (hc2 : ¬cond0_2 i) (hc3 : cond0_3 i) (acc : Vec F S512x2048 .f32) (h : Vec F S512x2048 .bf16) :
    out0_C_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 acc h = k0_pay4 x0 acc h x6 x7 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 acc h)]
  unfold kernelRun0_C
  dsimp only
  sl_unfold_words
  simp only [View.canon_unit_zero (S := S512x2048) corner2, View.readAt_eq_ld, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S512x2048) _ corner2,
    harg2.read_unread, harg3.read_unread, harg4.read_unread, harg5.read_unread, harg6.read_unread, harg7.read_unread, harg8.read_unread, harg9.read_unread, harg10.read_unread, harg11.read_unread, harg12.read_unread]

end Cases

variable (m : (ℓ : Loc nD τ sig) → Buf (Elt F) ℓ)

/-- After the first tile of a row block. -/
theorem outs_first (c : Dev nD) (t : Fin cfg0.N) (h0 : t.val % 11 = 0) :
    outsAt0 m c t.val t.isLt =
      (k0_pay2 (k0_pay1 (iblk m c 0 t) (iblk m c 1 t)) (iblk m c 3 t) (iblk m c 4 t) (iblk m c 5 t),
        k0_pay1 (iblk m c 0 t) (iblk m c 1 t)) := by
  rw [outsAt0_A m c t h0 h0 (by omega) (by omega), out_first, scratch_first]

/-- After a middle tile, over what the tile before left. -/
theorem outs_middle (c : Dev nD) (t : Fin cfg0.N) (h2 : 1 ≤ t.val % 11 ∧ t.val % 11 ≤ 9) :
    outsAt0 m c t.val t.isLt =
      (k0_pay3 (outsAt0 m c (t.val - 1) (by omega)).1 (outsAt0 m c (t.val - 1) (by omega)).2
        (iblk m c 3 t) (iblk m c 4 t) (iblk m c 5 t), (outsAt0 m c (t.val - 1) (by omega)).2) := by
  rw [outsAt0_B m c t (by omega) (by omega) h2 (by omega), out_middle]
  rfl

/-- After the last tile. -/
theorem outs_last (c : Dev nD) (t : Fin cfg0.N) (h3 : t.val % 11 = 10) :
    (outsAt0 m c t.val t.isLt).1 =
      k0_pay4 (iblk m c 0 t) (outsAt0 m c (t.val - 1) (by omega)).1 (outsAt0 m c (t.val - 1) (by omega)).2
        (iblk m c 6 t) (iblk m c 7 t) (iblk m c 8 t) := by
  rw [outsAt0_C m c t (by omega) (by omega) (by omega) h3, out_last]

end Cert.Ffn
-- ==== Proof.FfnReads.lean ====
module

public import proofs.«01_k».proof.Proof.FfnCases
public import Idealize.ShloMosaic.Lib.Pointwise

/-! What the blocks hold that a grid point of the feed-forward kernel reads: point `11 * i + j` has rows `512 * i …` of the
    input and columns `512 * j …` of the two halves of the weights; the last point of a row block has the last 384. -/

@[expose] public section

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The arguments, as arrays of extended reals. -/
abbrev argX (r : Fin 8192) (d : Fin 2048) : EReal := m ((c : Thread nD τ).loc main_arg0) (ix2 r d)
abbrev argG (d : Fin 2048) : EReal := m ((c : Thread nD τ).loc main_arg1) (ix1 d)
abbrev argU (k : Fin 2048) (f : Fin 11008) : EReal := m ((c : Thread nD τ).loc main_arg2) (ix2 k f)
abbrev argD (f : Fin 5504) (d : Fin 2048) : EReal := m ((c : Thread nD τ).loc main_arg3) (ix2 f d)

theorem entryG (d : Fin 2048) : V m c main_v0 (ix2 0 d) = argG m c d := by
  have e : V m c main_v0 = broadcastInDim S1x2048 ![1] bcast_S2048_S1x2048_1 (m ((c : Thread nD τ).loc main_arg1)) := by
    unfold V hostOps0
    after_results_simp
  rw [e]
  pointwise

theorem entryU (j : S2048x11008.Idx) : (V m c main_v1 j : EReal) = m ((c : Thread nD τ).loc main_arg2) j := by
  have e : V m c main_v1 = (truncf .bf16 (m ((c : Thread nD τ).loc main_arg2) : FVec Ideal S2048x11008 .f32) bitsLt_bf16_f32 :
      FVec Ideal S2048x11008 .bf16) := by
    unfold V hostOps0
    after_results_simp
  rw [e]
  rfl

theorem entryD (j : S5504x2048.Idx) : (V m c main_v2 j : EReal) = m ((c : Thread nD τ).loc main_arg3) j := by
  have e : V m c main_v2 = (truncf .bf16 (m ((c : Thread nD τ).loc main_arg3) : FVec Ideal S5504x2048 .f32) bitsLt_bf16_f32 :
      FVec Ideal S5504x2048 .bf16) := by
    unfold V hostOps0
    after_results_simp
  rw [e]
  rfl

/-- Where each window's block starts, over the grid. -/
theorem idx_facts : ∀ t : Fin cfg0.N, win0_0.index t (0 : Fin 2) = t.val / 11 ∧ win0_0.index t (1 : Fin 2) = 0
    ∧ win0_1.index t (0 : Fin 2) = 0 ∧ win0_1.index t (1 : Fin 2) = 0
    ∧ win0_9.index t (0 : Fin 2) = t.val / 11 ∧ win0_9.index t (1 : Fin 2) = 0 :=
  (by decide +kernel : ∀ t : Fin grid0.N, _)

theorem off_facts : ∀ t : Fin cfg0.N, cc0_transform_3 (grid0.coords t) (0 : Fin 2) = 0
    ∧ (t.val % 11 ≤ 9 → cc0_transform_3 (grid0.coords t) (1 : Fin 2) = 512 * (t.val % 11))
    ∧ cc0_transform_4 (grid0.coords t) (0 : Fin 2) = 0
    ∧ (t.val % 11 ≤ 9 → cc0_transform_4 (grid0.coords t) (1 : Fin 2) = 5504 + 512 * (t.val % 11))
    ∧ (t.val % 11 ≤ 9 → cc0_transform_5 (grid0.coords t) (0 : Fin 2) = 512 * (t.val % 11))
    ∧ cc0_transform_5 (grid0.coords t) (1 : Fin 2) = 0 :=
  (by decide +kernel : ∀ t : Fin grid0.N, _)

theorem lt_16 (t : Fin cfg0.N) : t.val / 11 < 16 := by
  have h : t.val < 176 := lt_of_lt_of_eq t.isLt (show cfg0.N = 176 from N_0)
  omega

theorem read_x (t : Fin cfg0.N) (r : Fin 512) (d : Fin 2048) :
    iblk m c 0 t (ix2 r d) = argX m c ⟨512 * (t.val / 11) + r.val, by have := lt_16 t; omega⟩ d := by
  show V m c main_arg0 (((cfg0.win 0).blk t).view.emb (ix2 r d)) = _
  rw [V_main_arg0]
  refine congrArg (m ((c : Thread nD τ).loc main_arg0)) ?_
  obtain ⟨e0, e1, _⟩ := idx_facts t
  funext a; apply Fin.ext
  match a with
  | ⟨0, _⟩ => show win0_0.index t (0 : Fin 2) * 512 + 1 * r.val = 512 * (t.val / 11) + r.val; omega
  | ⟨1, _⟩ => show win0_0.index t (1 : Fin 2) * 2048 + 1 * d.val = d.val; omega

theorem read_g (t : Fin cfg0.N) (d : Fin 2048) : iblk m c 1 t (ix2 0 d) = argG m c d := by
  show V m c main_v0 (((cfg0.win 1).blk t).view.emb (ix2 0 d)) = _
  rw [← entryG]
  refine congrArg (V m c main_v0) ?_
  obtain ⟨_, _, e0, e1, _⟩ := idx_facts t
  funext a; apply Fin.ext
  match a with
  | ⟨0, _⟩ => show win0_1.index t (0 : Fin 2) * 1 + 1 * 0 = 0; omega
  | ⟨1, _⟩ => show win0_1.index t (1 : Fin 2) * 2048 + 1 * d.val = d.val; omega

theorem read_a (t : Fin cfg0.N) (h : t.val % 11 ≤ 9) (k : Fin 2048) (f : Fin 512) :
    iblk m c 3 t (ix2 k f) = argU m c k ⟨512 * (t.val % 11) + f.val, by omega⟩ := by
  show V m c main_v1 (((cfg0.win 3).blk t).view.emb (ix2 k f)) = _
  rw [entryU]
  refine congrArg (m ((c : Thread nD τ).loc main_arg2)) ?_
  obtain ⟨e0, e1, _⟩ := off_facts t
  have e1 := e1 h
  funext a; apply Fin.ext
  match a with
  | ⟨0, _⟩ => show cc0_transform_3 (grid0.coords t) (0 : Fin 2) + 1 * k.val = k.val; omega
  | ⟨1, _⟩ => show cc0_transform_3 (grid0.coords t) (1 : Fin 2) + 1 * f.val = 512 * (t.val % 11) + f.val; omega

theorem read_b (t : Fin cfg0.N) (h : t.val % 11 ≤ 9) (k : Fin 2048) (f : Fin 512) :
    iblk m c 4 t (ix2 k f) = argU m c k ⟨5504 + (512 * (t.val % 11) + f.val), by omega⟩ := by
  show V m c main_v1 (((cfg0.win 4).blk t).view.emb (ix2 k f)) = _
  rw [entryU]
  refine congrArg (m ((c : Thread nD τ).loc main_arg2)) ?_
  obtain ⟨_, _, e0, e1, _⟩ := off_facts t
  have e1 := e1 h
  funext a; apply Fin.ext
  match a with
  | ⟨0, _⟩ => show cc0_transform_4 (grid0.coords t) (0 : Fin 2) + 1 * k.val = k.val; omega
  | ⟨1, _⟩ => show cc0_transform_4 (grid0.coords t) (1 : Fin 2) + 1 * f.val = 5504 + (512 * (t.val % 11) + f.val); omega

theorem read_w (t : Fin cfg0.N) (h : t.val % 11 ≤ 9) (f : Fin 512) (d : Fin 2048) :
    iblk m c 5 t (ix2 f d) = argD m c ⟨512 * (t.val % 11) + f.val, by omega⟩ d := by
  show V m c main_v2 (((cfg0.win 5).blk t).view.emb (ix2 f d)) = _
  rw [entryD]
  refine congrArg (m ((c : Thread nD τ).loc main_arg3)) ?_
  obtain ⟨_, _, _, _, e0, e1⟩ := off_facts t
  have e0 := e0 h
  funext a; apply Fin.ext
  match a with
  | ⟨0, _⟩ => show cc0_transform_5 (grid0.coords t) (0 : Fin 2) + 1 * f.val = 512 * (t.val % 11) + f.val; omega
  | ⟨1, _⟩ => show cc0_transform_5 (grid0.coords t) (1 : Fin 2) + 1 * d.val = d.val; omega

theorem read_ta (t : Fin cfg0.N) (k : Fin 2048) (f : Fin 384) :
    iblk m c 6 t (ix2 k f) = argU m c k ⟨5120 + f.val, by omega⟩ := by
  show V m c main_v1 (((cfg0.win 6).blk t).view.emb (ix2 k f)) = _
  rw [entryU]
  refine congrArg (m ((c : Thread nD τ).loc main_arg2)) ?_
  funext a; apply Fin.ext
  match a with
  | ⟨0, _⟩ => show 0 + 1 * k.val = k.val; omega
  | ⟨1, _⟩ => show 5120 + 1 * f.val = 5120 + f.val; omega

theorem read_tb (t : Fin cfg0.N) (k : Fin 2048) (f : Fin 384) :
    iblk m c 7 t (ix2 k f) = argU m c k ⟨5504 + (5120 + f.val), by omega⟩ := by
  show V m c main_v1 (((cfg0.win 7).blk t).view.emb (ix2 k f)) = _
  rw [entryU]
  refine congrArg (m ((c : Thread nD τ).loc main_arg2)) ?_
  funext a; apply Fin.ext
  match a with
  | ⟨0, _⟩ => show 0 + 1 * k.val = k.val; omega
  | ⟨1, _⟩ => show 10624 + 1 * f.val = 5504 + (5120 + f.val); omega

theorem read_tw (t : Fin cfg0.N) (f : Fin 384) (d : Fin 2048) :
    iblk m c 8 t (ix2 f d) = argD m c ⟨5120 + f.val, by omega⟩ d := by
  show V m c main_v2 (((cfg0.win 8).blk t).view.emb (ix2 f d)) = _
  rw [entryD]
  refine congrArg (m ((c : Thread nD τ).loc main_arg3)) ?_
  funext a; apply Fin.ext
  match a with
  | ⟨0, _⟩ => show 5120 + 1 * f.val = 5120 + f.val; omega
  | ⟨1, _⟩ => show 0 + 1 * d.val = d.val; omega

end Cert.Ffn
-- ==== Proof.FfnMath.lean ====
module

public import Idealize.ShloMosaic.Lib.Pointwise

/-! The feed-forward layer on arrays of extended reals: the normalised rows, the gated product of the two halves of the
    first projection, and the second projection as one sum over the 5504 hidden features. -/

@[expose] public section

noncomputable section

namespace Cert.Ffn

open Idealize.ShloMosaic

/-- A row divided by its root mean square, times the gain. -/
def hrow (x : Fin 2048 → EReal) (g : Fin 2048 → EReal) (d : Fin 2048) : EReal :=
  x d * Ideal.rsqrt (Ideal.div (∑ k, x k * x k) (Ideal.ofBits .f32 0x45000000#32) + Ideal.ofBits .f32 0x358637BD#32) * g d

/-- The gate: `a · sigmoid a · b`. -/
def gate (a b : EReal) : EReal := a * Ideal.div 1 (1 + Ideal.exp (0 - a)) * b

/-- What hidden feature `f` adds to output feature `d` of a row whose normalised form is `h`; nothing beyond the last. -/
def feat (h : Fin 2048 → EReal) (u : Fin 2048 → Fin 11008 → EReal) (w : Fin 5504 → Fin 2048 → EReal) (d : Fin 2048)
    (f : ℕ) : EReal :=
  if hf : f < 5504 then
    gate (∑ k, h k * u k ⟨f, by omega⟩) (∑ k, h k * u k ⟨5504 + f, by omega⟩) * w ⟨f, hf⟩ d
  else 0

theorem feat_of_lt (h : Fin 2048 → EReal) (u : Fin 2048 → Fin 11008 → EReal) (w : Fin 5504 → Fin 2048 → EReal)
    (d : Fin 2048) {f : ℕ} (hf : f < 5504) :
    feat h u w d f = gate (∑ k, h k * u k ⟨f, by omega⟩) (∑ k, h k * u k ⟨5504 + f, by omega⟩) * w ⟨f, hf⟩ d := dif_pos hf

/-- The layer: the row plus half its second projection. -/
def layer (x : Fin 2048 → EReal) (g : Fin 2048 → EReal) (u : Fin 2048 → Fin 11008 → EReal)
    (w : Fin 5504 → Fin 2048 → EReal) (d : Fin 2048) : EReal :=
  x d + Ideal.ofBits .f32 0x3F000000#32 * ∑ f ∈ Finset.range 5504, feat (hrow x g) u w d f

/-- The layer with its sum over the features as indices. -/
theorem layer_sum (x : Fin 2048 → EReal) (g : Fin 2048 → EReal) (u : Fin 2048 → Fin 11008 → EReal)
    (w : Fin 5504 → Fin 2048 → EReal) (d : Fin 2048) :
    layer x g u w d = x d + Ideal.ofBits .f32 0x3F000000#32 * ∑ f : Fin 5504,
      gate (∑ k, hrow x g k * u k ⟨f.val, by omega⟩) (∑ k, hrow x g k * u k ⟨5504 + f.val, by omega⟩) * w f d := by
  have e : ∑ f : Fin 5504, feat (hrow x g) u w d f.val = ∑ f : Fin 5504,
      gate (∑ k, hrow x g k * u k ⟨f.val, by omega⟩) (∑ k, hrow x g k * u k ⟨5504 + f.val, by omega⟩) * w f d :=
    Finset.sum_congr rfl fun f _ => feat_of_lt _ _ _ _ f.isLt
  rw [layer, Finset.sum_range, e]

/-- A partial sum and one more tile of `n` features. -/
theorem sum_tile (F : ℕ → EReal) (a n b : ℕ) (hb : b = a + n) (t : Fin n → EReal) (ht : ∀ f, t f = F (a + f.val)) :
    (∑ f ∈ Finset.range a, F f) + ∑ f, t f = ∑ f ∈ Finset.range b, F f := by
  subst hb
  rw [Finset.sum_range_add, Finset.sum_range (fun f => F (a + f))]
  exact congrArg _ (Finset.sum_congr rfl fun f _ => ht f)

end Cert.Ffn
-- ==== Proof.FfnValue.lean ====
module

public import proofs.«01_k».proof.Proof.FfnReads
public import proofs.«01_k».proof.Proof.FfnMath

/-! The feed-forward kernel's result: after the tiles of a row block the output block holds the partial sums over the
    features that the tiles met, and the last tile completes them and adds the row. -/

@[expose] public section

noncomputable section

namespace Cert.Ffn

open Cert.Kernel2Ideal Cert.Kernel2Ideal.Gen Idealize.ShloMosaic Idealize.ShloMosaic.TcCoe Idealize.SL.Sem

/-! ## The payloads at an index -/

theorem pay1_apply (x : Vec Ideal S512x2048 .f32) (g : Vec Ideal S1x2048 .f32) (r : Fin 512) (d : Fin 2048) :
    k0_pay1 x g (ix2 r d) = hrow (fun k => x (ix2 r k)) (fun k => g (ix2 0 k)) d := by
  pointwise [k0_pay1, hrow]

theorem pay2_apply (h : Vec Ideal S512x2048 .bf16) (a b : Vec Ideal S2048x512 .bf16) (w : Vec Ideal S512x2048 .bf16)
    (r : Fin 512) (d : Fin 2048) :
    k0_pay2 h a b w (ix2 r d)
      = ∑ f : Fin 512, gate (∑ k, h (ix2 r k) * a (ix2 k f)) (∑ k, h (ix2 r k) * b (ix2 k f)) * w (ix2 f d) := by
  pointwise [k0_pay2, gate]

theorem pay3_apply (acc : Vec Ideal S512x2048 .f32) (h : Vec Ideal S512x2048 .bf16) (a b : Vec Ideal S2048x512 .bf16)
    (w : Vec Ideal S512x2048 .bf16) (r : Fin 512) (d : Fin 2048) :
    k0_pay3 acc h a b w (ix2 r d) = acc (ix2 r d)
      + ∑ f : Fin 512, gate (∑ k, h (ix2 r k) * a (ix2 k f)) (∑ k, h (ix2 r k) * b (ix2 k f)) * w (ix2 f d) := by
  pointwise [k0_pay3, gate]

theorem pay4_apply (x acc : Vec Ideal S512x2048 .f32) (h : Vec Ideal S512x2048 .bf16) (a b : Vec Ideal S2048x384 .bf16)
    (w : Vec Ideal S384x2048 .bf16) (r : Fin 512) (d : Fin 2048) :
    k0_pay4 x acc h a b w (ix2 r d) = x (ix2 r d) + Ideal.ofBits .f32 0x3F000000#32 * (acc (ix2 r d)
      + ∑ f : Fin 384, gate (∑ k, h (ix2 r k) * a (ix2 k f)) (∑ k, h (ix2 r k) * b (ix2 k f)) * w (ix2 f d)) := by
  pointwise [k0_pay4, gate]

/-! ## The invariant over the tiles -/

variable (m : (ℓ : Loc nD τ sig) → Buf (Elt Ideal) ℓ) (c : Dev nD)

/-- Row `r` of row block `i`, normalised. -/
abbrev rowAt (i : Fin 16) (r : Fin 512) : Fin 2048 → EReal :=
  hrow (argX m c ⟨512 * i.val + r.val, by omega⟩) (argG m c)

/-- What feature `f` adds at row `r` of row block `i`, output feature `d`. -/
abbrev featAt (i : Fin 16) (r : Fin 512) (d : Fin 2048) (f : ℕ) : EReal :=
  feat (rowAt m c i r) (argU m c) (argD m c) d f

/-- What an output block and the scratch hold after tile `j` of row block `i`. -/
def Inv (i : Fin 16) (j : ℕ) (o : Vec Ideal S512x2048 .f32 × Vec Ideal S512x2048 .bf16) : Prop :=
  (∀ (r : Fin 512) (d : Fin 2048), o.1 (ix2 r d) = ∑ f ∈ Finset.range (512 * (j + 1)), featAt m c i r d f)
  ∧ ∀ (r : Fin 512) (d : Fin 2048), o.2 (ix2 r d) = rowAt m c i r d

/-- One feature of tile `j`, over the normalised rows. -/
theorem tile_feat (t : Fin cfg0.N) (i : Fin 16) (hi : t.val / 11 = i.val) (h : t.val % 11 ≤ 9) (r : Fin 512) (d : Fin 2048)
    (H : Vec Ideal S512x2048 .bf16) (hH : ∀ k, H (ix2 r k) = rowAt m c i r k) (f : Fin 512) :
    gate (∑ k, H (ix2 r k) * iblk m c 3 t (ix2 k f)) (∑ k, H (ix2 r k) * iblk m c 4 t (ix2 k f)) * iblk m c 5 t (ix2 f d)
      = featAt m c i r d (512 * (t.val % 11) + f.val) := by
  rw [featAt, feat_of_lt _ _ _ _ (show 512 * (t.val % 11) + f.val < 5504 by omega), read_w m c t h]
  simp only [read_a m c t h, read_b m c t h, hH]

theorem norm_at (t : Fin cfg0.N) (i : Fin 16) (hi : t.val / 11 = i.val) (r : Fin 512) (d : Fin 2048) :
    k0_pay1 (iblk m c 0 t) (iblk m c 1 t) (ix2 r d) = rowAt m c i r d := by
  rw [pay1_apply]
  simp only [read_x, read_g, hi]

theorem inv (i : Fin 16) : ∀ (j : ℕ) (_ : j ≤ 9) (n : ℕ) (hn : n < cfg0.N) (_ : n = 11 * i.val + j),
    Inv m c i j (outsAt0 m c n hn) := by
  intro j
  induction j with
  | zero =>
    intro _ n hn e
    have hd : n / 11 = i.val := by omega
    have hm : n % 11 = 0 := by omega
    rw [outs_first m c ⟨n, hn⟩ hm]
    refine ⟨fun r d => ?_, fun r d => norm_at m c ⟨n, hn⟩ i hd r d⟩
    dsimp only
    rw [pay2_apply, ← zero_add (∑ f : Fin 512, _)]
    refine sum_tile (featAt m c i r d) 0 512 _ rfl _ fun f => ?_
    rw [tile_feat m c ⟨n, hn⟩ i hd (by dsimp only; omega) r d _ (fun k => norm_at m c ⟨n, hn⟩ i hd r k)]
    dsimp only
    rw [hm]
  | succ j ih =>
    intro hj n hn e
    have hd : n / 11 = i.val := by omega
    have hm : n % 11 = j + 1 := by omega
    obtain ⟨ha, hh⟩ := ih (by omega) (n - 1) (by omega) (by omega)
    rw [outs_middle m c ⟨n, hn⟩ (by dsimp only; omega)]
    refine ⟨fun r d => ?_, hh⟩
    dsimp only
    rw [pay3_apply, ha]
    refine sum_tile (featAt m c i r d) (512 * (j + 1)) 512 _ (by omega) _ fun f => ?_
    rw [tile_feat m c ⟨n, hn⟩ i hd (by dsimp only; omega) r d _ (fun k => hh r k)]
    dsimp only
    rw [hm]

/-- After the last tile the output block holds the layer's rows. -/
theorem out_block (t : Fin cfg0.N) (ht : t.val % 11 = 10) (r : Fin 512) (d : Fin 2048) :
    (outsAt0 m c t.val t.isLt).1 (ix2 r d)
      = layer (argX m c ⟨512 * (t.val / 11) + r.val, by have := lt_16 t; omega⟩) (argG m c) (argU m c) (argD m c) d := by
  obtain ⟨ha, hh⟩ := inv m c ⟨t.val / 11, lt_16 t⟩ 9 (by omega) (t.val - 1) (by omega) (by dsimp only; omega)
  have last (f : Fin 384) : gate (∑ k, (outsAt0 m c (t.val - 1) (by omega)).2 (ix2 r k) * iblk m c 6 t (ix2 k f))
      (∑ k, (outsAt0 m c (t.val - 1) (by omega)).2 (ix2 r k) * iblk m c 7 t (ix2 k f)) * iblk m c 8 t (ix2 f d)
      = featAt m c ⟨t.val / 11, lt_16 t⟩ r d (5120 + f.val) := by
    rw [featAt, feat_of_lt _ _ _ _ (show 5120 + f.val < 5504 by omega), read_tw]
    simp only [read_ta, read_tb, hh]
  rw [outs_last m c t ht, pay4_apply, ha, read_x, sum_tile (featAt m c ⟨t.val / 11, lt_16 t⟩ r d) 5120 384 5504 (by omega) _ last, layer]

/-! ## The array after the run -/

/-- The layer's rows, as the result array. -/
def target : Buf (Elt Ideal) ((c : Thread nD τ).loc main_v3) := fun i : S8192x2048.Idx =>
  layer (argX m c (i 0)) (argG m c) (argU m c) (argD m c) (i 1)

theorem flushed (t : Fin cfg0.N) (hf : (cfg0.win 9).flush t = true) :
    (dats m 0 c).flushed 9 t = ((cfg0.win 9).blk t).view.read (Elt Ideal) (target m c) := by
  show (cfg0.win 9).cut (grid0.coords t) ((dats m 0 c).after 9 t) = _
  rw [after0_9]
  funext y
  obtain ⟨_, _, _, _, e0, e1⟩ := idx_facts t
  have hb0 : (((cfg0.win 9).blk t).view.emb y 0) = (⟨512 * (t.val / 11) + (y 0).val, by have := lt_16 t; have : (y 0).val < 512 := (y 0).isLt; omega⟩ : Fin 8192) := by
    apply Fin.ext; show win0_9.index t (0 : Fin 2) * 512 + 1 * (y 0).val = 512 * (t.val / 11) + (y 0).val; omega
  have hb1 : (((cfg0.win 9).blk t).view.emb y 1) = (⟨(y 1).val, (y 1).isLt⟩ : Fin 2048) := by
    apply Fin.ext; show win0_9.index t (1 : Fin 2) * 2048 + 1 * (y 1).val = (y 1).val; omega
  have h := out_block m c t ((flush0_9 t).mp hf) ⟨(y 0).val, (y 0).isLt⟩ ⟨(y 1).val, (y 1).isLt⟩
  show (outsAt0 m c t.val t.isLt).1 ((cfg0.win 9).xinj (grid0.coords t) y)
    = layer (argX m c (((cfg0.win 9).blk t).view.emb y 0)) (argG m c) (argU m c) (argD m c) (((cfg0.win 9).blk t).view.emb y 1)
  rw [hb0, hb1, ← h]
  refine congrArg _ ?_
  funext a; apply Fin.ext
  match a with
  | ⟨0, _⟩ => rfl
  | ⟨1, _⟩ => rfl

theorem cover (i : S8192x2048.Idx) : ∃ t : Fin cfg0.N, (cfg0.win 9).flush t = true ∧ i ∈ ((cfg0.win 9).blk t).view.set := by
  have hi0 : (i 0).val < 8192 := (i 0).isLt
  have hi1 : (i 1).val < 2048 := (i 1).isLt
  have hN : 11 * ((i 0).val / 512) + 10 < cfg0.N := lt_of_lt_of_eq (by omega) N_0.symm
  refine ⟨⟨11 * ((i 0).val / 512) + 10, hN⟩, (flush0_9 _).mpr (by dsimp only; omega), ?_⟩
  obtain ⟨_, _, _, _, e0, e1⟩ := idx_facts ⟨11 * ((i 0).val / 512) + 10, hN⟩
  dsimp only at e0 e1
  show i ∈ ((View.whole main_v3).slice (win0_9.rect (⟨11 * ((i 0).val / 512) + 10, hN⟩ : Fin cfg0.N))).set
  rw [View.set_slice_whole, Rect.mem_set_unit]
  intro a
  match a with
  | ⟨0, _⟩ => show win0_9.index _ (0 : Fin 2) * 512 ≤ (i 0).val ∧ (i 0).val < win0_9.index _ (0 : Fin 2) * 512 + 512; omega
  | ⟨1, _⟩ => show win0_9.index _ (1 : Fin 2) * 2048 ≤ (i 1).val ∧ (i 1).val < win0_9.index _ (1 : Fin 2) * 2048 + 2048; omega

theorem final : (dats m 0 c).arrAt 9 cfg0.N = target m c :=
  (dats m 0 c).arrAt_eq_of_cover 9 _ (fun t hf => flushed m c t hf) cover

/-- The kernel's run: the layer's rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 9).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Ffn
-- ==== Proof.FfnReference.lean ====
module

public import proofs.«01_k».proof.Proof.Gen.Reference2Ideal.Run
public import proofs.«01_k».proof.Proof.FfnMath

/-! The feed-forward reference's result is the layer's rows. -/

@[expose] public section

noncomputable section

namespace Cert.FfnReference

open Cert.Ffn Cert.Reference2Ideal Idealize.ShloMosaic Idealize.ShloMosaic.TcCoe Idealize.SL.Sem

variable (m : (ℓ : Loc nD τ sig) → Buf (Elt Ideal) ℓ) (c : Dev nD)

/-- The layer's rows of the reference's arguments. -/
def target : Buf (Elt Ideal) ((c : Thread nD τ).loc main_v21) := fun i : S8192x2048.Idx =>
  layer (fun d => m ((c : Thread nD τ).loc main_arg0) (ix2 (i 0) d)) (fun d => m ((c : Thread nD τ).loc main_arg1) (ix1 d))
    (fun k f => m ((c : Thread nD τ).loc main_arg2) (ix2 k f)) (fun f d => m ((c : Thread nD τ).loc main_arg3) (ix2 f d)) (i 1)

/-- The reference's run: the layer's rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v21) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2⟩) (Cert.Reference2Ideal.Value.run m ρ)
  funext i
  refine Eq.trans ?_ (layer_sum _ _ _ _ _).symm
  pointwise [hrow, gate]
  simp only [zero_sub]

end Cert.FfnReference
-- ==== Proof.FirstCases.lean ====
module

public import proofs.«01_k».proof.Proof.Gen.Kernel3Ideal.Frame
public import Idealize.ShloMosaic.Lib.Pipeline.Value

/-! What one grid point of the feed-forward kernel leaves in its output block and in its scratch, as a function of the
    blocks it reads: the first tile of a row block normalises the rows into the scratch and starts the output, the middle
    tiles add to the output, the last one adds its tile and the residual, and
    normalises the completed rows for the mixer. -/

@[expose] public section

noncomputable section

namespace Cert.FfnFirst

open Cert.Kernel3Ideal Cert.Kernel3Ideal.Gen Idealize.ShloMosaic Idealize.ShloMosaic.TcCoe Idealize.SL.Sem

variable {F : FTy → Type} [FloatOps F]

/-- Every load and store of the kernel starts at the window's corner. -/
theorem corner2 : (![(0 : ℕ), 0] : Fin 2 → ℕ) = fun _ => 0 := by
  funext a; match a with
  | ⟨0, _⟩ => rfl
  | ⟨1, _⟩ => rfl

section Cases

variable (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S512x2048 .bf16) (harg7 : arg7.IsWhole)
  (arg8 : Memref sig .tc .vmem S2048x384 .bf16) (harg8 : arg8.IsWhole)
  (arg9 : Memref sig .tc .vmem S2048x384 .bf16) (harg9 : arg9.IsWhole)
  (arg10 : Memref sig .tc .vmem S384x2048 .bf16) (harg10 : arg10.IsWhole)
  (arg11 : Memref sig .tc .vmem S512x2048 .f32) (harg11 : arg11.IsWhole)
  (arg12 : Memref sig .tc .vmem S512x2048 .bf16) (harg12 : arg12.IsWhole)
  (arg13 : Memref sig .tc .vmem S512x2048 .bf16) (harg13 : arg13.IsWhole)
  (x0 : Vec F S512x2048 .f32) (x1 : Vec F S1x2048 .f32) (x2 : Vec F S1x2048 .f32) (x3 : Vec F S2048x512 .bf16) (x4 : Vec F S2048x512 .bf16) (x5 : Vec F S512x2048 .bf16) (x6 : Vec F S2048x384 .bf16) (x7 : Vec F S2048x384 .bf16) (x8 : Vec F S384x2048 .bf16)

/-- The first tile stores the normalised rows. -/
theorem scratch_first (hc0 : cond0_0 i) (hc1 : cond0_1 i) (hc2 : ¬cond0_2 i) (hc3 : ¬cond0_3 i) :
    sout0_A_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8)]
  unfold kernelRun0_A
  dsimp only
  sl_unfold_words
  simp only [View.canon_unit_zero (S := S512x2048) corner2, View.readAt_eq_ld, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S512x2048) _ corner2,
    harg2.read_unread, harg3.read_unread, harg4.read_unread, harg5.read_unread, harg6.read_unread, harg7.read_unread, harg8.read_unread, harg9.read_unread, harg10.read_unread, harg11.read_unread, harg12.read_unread, harg13.read_unread]

/-- The first tile starts the output, from the rows it has just normalised. -/
theorem out_first (hc0 : cond0_0 i) (hc1 : cond0_1 i) (hc2 : ¬cond0_2 i) (hc3 : ¬cond0_3 i) :
    out0_A_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 = k0_pay2 (k0_pay1 x0 x1) x3 x4 x5 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8)]
  unfold kernelRun0_A
  dsimp only
  sl_unfold_words
  simp only [View.canon_unit_zero (S := S512x2048) corner2, View.readAt_eq_ld, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S512x2048) _ corner2,
    harg2.read_unread, harg3.read_unread, harg4.read_unread, harg5.read_unread, harg6.read_unread, harg7.read_unread, harg8.read_unread, harg9.read_unread, harg10.read_unread, harg11.read_unread, harg12.read_unread, harg13.read_unread]

/-- A middle tile adds to the output. -/
theorem out_middle (hc0 : ¬cond0_0 i) (hc1 : ¬cond0_1 i) (hc2 : cond0_2 i) (hc3 : ¬cond0_3 i) (acc : Vec F S512x2048 .f32) (h : Vec F S512x2048 .bf16) :
    out0_B_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 acc h = k0_pay3 acc h x3 x4 x5 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 acc h)]
  unfold kernelRun0_B
  dsimp only
  sl_unfold_words
  simp only [View.canon_unit_zero (S := S512x2048) corner2, View.readAt_eq_ld, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S512x2048) _ corner2,
    harg2.read_unread, harg3.read_unread, harg4.read_unread, harg5.read_unread, harg6.read_unread, harg7.read_unread, harg8.read_unread, harg9.read_unread, harg10.read_unread, harg11.read_unread, harg12.read_unread, harg13.read_unread]

/-- The last tile adds its product, halves the sum and adds the block of `x`. -/
theorem out_last (hc0 : ¬cond0_0 i) (hc1 : ¬cond0_1 i) (hc2 : ¬cond0_2 i) (hc3 : cond0_3 i) (acc : Vec F S512x2048 .f32) (h : Vec F S512x2048 .bf16) :
    out0_C_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 acc h = k0_pay5 x0 acc h x6 x7 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 acc h)]
  unfold kernelRun0_C
  dsimp only
  sl_unfold_words
  simp only [View.canon_unit_zero (S := S512x2048) corner2, View.readAt_eq_ld, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S512x2048) _ corner2,
    harg2.read_unread, harg3.read_unread, harg4.read_unread, harg5.read_unread, harg6.read_unread, harg7.read_unread, harg8.read_unread, harg9.read_unread, harg10.read_unread, harg11.read_unread, harg12.read_unread, harg13.read_unread]

/-- The last tile normalises the rows it completes. -/
theorem next_last (hc0 : ¬cond0_0 i) (hc1 : ¬cond0_1 i) (hc2 : ¬cond0_2 i) (hc3 : cond0_3 i) (acc : Vec F S512x2048 .f32) (h : Vec F S512x2048 .bf16) :
    out0_C_10 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 acc h = k0_pay4 (k0_pay5 x0 acc h x6 x7 x8) (k0_pay6 x2) (k0_pay7 x0 acc h x6 x7 x8) k0_pay8 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 acc h)]
  unfold kernelRun0_C
  dsimp only
  sl_unfold_words
  simp only [View.canon_unit_zero (S := S512x2048) corner2, View.readAt_eq_ld, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S512x2048) _ corner2,
    harg2.read_unread, harg3.read_unread, harg4.read_unread, harg5.read_unread, harg6.read_unread, harg7.read_unread, harg8.read_unread, harg9.read_unread, harg10.read_unread, harg11.read_unread, harg12.read_unread, harg13.read_unread]

end Cases

variable (m : (ℓ : Loc nD τ sig) → Buf (Elt F) ℓ)

/-- After the first tile of a row block, the second output aside. -/
theorem outs_first (c : Dev nD) (t : Fin cfg0.N) (h0 : t.val % 11 = 0) :
    (outsAt0 m c t.val t.isLt).1 = k0_pay2 (k0_pay1 (iblk m c 0 t) (iblk m c 1 t)) (iblk m c 3 t) (iblk m c 4 t) (iblk m c 5 t)
      ∧ (outsAt0 m c t.val t.isLt).2.2 = k0_pay1 (iblk m c 0 t) (iblk m c 1 t) := by
  rw [outsAt0_A m c t h0 h0 (by omega) (by omega), out_first, scratch_first]
  exact ⟨rfl, rfl⟩

/-- After a middle tile, over what the tile before left. -/
theorem outs_middle (c : Dev nD) (t : Fin cfg0.N) (h2 : 1 ≤ t.val % 11 ∧ t.val % 11 ≤ 9) :
    (outsAt0 m c t.val t.isLt).1 = k0_pay3 (outsAt0 m c (t.val - 1) (by omega)).1 (outsAt0 m c (t.val - 1) (by omega)).2.2
        (iblk m c 3 t) (iblk m c 4 t) (iblk m c 5 t)
      ∧ (outsAt0 m c t.val t.isLt).2.2 = (outsAt0 m c (t.val - 1) (by omega)).2.2 := by
  rw [outsAt0_B m c t (by omega) (by omega) h2 (by omega), out_middle]
  exact ⟨rfl, rfl⟩

/-- After the last tile: the completed rows. -/
theorem outs_last (c : Dev nD) (t : Fin cfg0.N) (h3 : t.val % 11 = 10) :
    (outsAt0 m c t.val t.isLt).1 =
      k0_pay5 (iblk m c 0 t) (outsAt0 m c (t.val - 1) (by omega)).1 (outsAt0 m c (t.val - 1) (by omega)).2.2
        (iblk m c 6 t) (iblk m c 7 t) (iblk m c 8 t) := by
  rw [outsAt0_C m c t (by omega) (by omega) (by omega) h3, out_last]

/-- After the last tile: the completed rows, normalised. -/
theorem nexts_last (c : Dev nD) (t : Fin cfg0.N) (h3 : t.val % 11 = 10) :
    (outsAt0 m c t.val t.isLt).2.1 =
      k0_pay4 (k0_pay5 (iblk m c 0 t) (outsAt0 m c (t.val - 1) (by omega)).1 (outsAt0 m c (t.val - 1) (by omega)).2.2
        (iblk m c 6 t) (iblk m c 7 t) (iblk m c 8 t)) (k0_pay6 (iblk m c 2 t))
        (k0_pay7 (iblk m c 0 t) (outsAt0 m c (t.val - 1) (by omega)).1 (outsAt0 m c (t.val - 1) (by omega)).2.2
        (iblk m c 6 t) (iblk m c 7 t) (iblk m c 8 t)) k0_pay8 := by
  rw [outsAt0_C m c t (by omega) (by omega) (by omega) h3, next_last]

end Cert.FfnFirst
-- ==== Proof.FirstReads.lean ====
module

public import proofs.«01_k».proof.Proof.FirstCases
public import Idealize.ShloMosaic.Lib.Pointwise

/-! What the blocks hold that a grid point of the feed-forward kernel reads: point `11 * i + j` has rows `512 * i …` of the
    input and columns `512 * j …` of the two halves of the weights; the last point of a row block has the last 384. -/

@[expose] public section

noncomputable section

namespace Cert.FfnFirst

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The arguments, as arrays of extended reals. -/
abbrev argX (r : Fin 8192) (d : Fin 2048) : EReal := m ((c : Thread nD τ).loc main_arg0) (ix2 r d)
abbrev argG (d : Fin 2048) : EReal := m ((c : Thread nD τ).loc main_arg1) (ix1 d)
abbrev argN (d : Fin 2048) : EReal := m ((c : Thread nD τ).loc main_arg2) (ix1 d)
abbrev argU (k : Fin 2048) (f : Fin 11008) : EReal := m ((c : Thread nD τ).loc main_arg3) (ix2 k f)
abbrev argD (f : Fin 5504) (d : Fin 2048) : EReal := m ((c : Thread nD τ).loc main_arg4) (ix2 f d)

theorem entryG (d : Fin 2048) : V m c main_v0 (ix2 0 d) = argG m c d := by
  have e : V m c main_v0 = broadcastInDim S1x2048 ![1] bcast_S2048_S1x2048_1 (m ((c : Thread nD τ).loc main_arg1)) := by
    unfold V hostOps0
    after_results_simp
  rw [e]
  pointwise

theorem entryN (d : Fin 2048) : V m c main_v3 (ix2 0 d) = argN m c d := by
  have e : V m c main_v3 = broadcastInDim S1x2048 ![1] bcast_S2048_S1x2048_1 (m ((c : Thread nD τ).loc main_arg2)) := by
    unfold V hostOps0
    after_results_simp
  rw [e]
  pointwise

theorem entryU (j : S2048x11008.Idx) : (V m c main_v1 j : EReal) = m ((c : Thread nD τ).loc main_arg3) j := by
  have e : V m c main_v1 = (truncf .bf16 (m ((c : Thread nD τ).loc main_arg3) : FVec Ideal S2048x11008 .f32) bitsLt_bf16_f32 :
      FVec Ideal S2048x11008 .bf16) := by
    unfold V hostOps0
    after_results_simp
  rw [e]
  rfl

theorem entryD (j : S5504x2048.Idx) : (V m c main_v2 j : EReal) = m ((c : Thread nD τ).loc main_arg4) j := by
  have e : V m c main_v2 = (truncf .bf16 (m ((c : Thread nD τ).loc main_arg4) : FVec Ideal S5504x2048 .f32) bitsLt_bf16_f32 :
      FVec Ideal S5504x2048 .bf16) := by
    unfold V hostOps0
    after_results_simp
  rw [e]
  rfl

/-- Where each window's block starts, over the grid. -/
theorem idx_facts : ∀ t : Fin cfg0.N, win0_0.index t (0 : Fin 2) = t.val / 11 ∧ win0_0.index t (1 : Fin 2) = 0
    ∧ win0_1.index t (0 : Fin 2) = 0 ∧ win0_1.index t (1 : Fin 2) = 0
    ∧ win0_9.index t (0 : Fin 2) = t.val / 11 ∧ win0_9.index t (1 : Fin 2) = 0
    ∧ win0_10.index t (0 : Fin 2) = t.val / 11 ∧ win0_10.index t (1 : Fin 2) = 0
    ∧ win0_2.index t (0 : Fin 2) = 0 ∧ win0_2.index t (1 : Fin 2) = 0 :=
  (by decide +kernel : ∀ t : Fin grid0.N, _)

theorem off_facts : ∀ t : Fin cfg0.N, cc0_transform_3 (grid0.coords t) (0 : Fin 2) = 0
    ∧ (t.val % 11 ≤ 9 → cc0_transform_3 (grid0.coords t) (1 : Fin 2) = 512 * (t.val % 11))
    ∧ cc0_transform_4 (grid0.coords t) (0 : Fin 2) = 0
    ∧ (t.val % 11 ≤ 9 → cc0_transform_4 (grid0.coords t) (1 : Fin 2) = 5504 + 512 * (t.val % 11))
    ∧ (t.val % 11 ≤ 9 → cc0_transform_5 (grid0.coords t) (0 : Fin 2) = 512 * (t.val % 11))
    ∧ cc0_transform_5 (grid0.coords t) (1 : Fin 2) = 0 :=
  (by decide +kernel : ∀ t : Fin grid0.N, _)

theorem lt_16 (t : Fin cfg0.N) : t.val / 11 < 16 := by
  have h : t.val < 176 := lt_of_lt_of_eq t.isLt (show cfg0.N = 176 from N_0)
  omega

theorem read_x (t : Fin cfg0.N) (r : Fin 512) (d : Fin 2048) :
    iblk m c 0 t (ix2 r d) = argX m c ⟨512 * (t.val / 11) + r.val, by have := lt_16 t; omega⟩ d := by
  show V m c main_arg0 (((cfg0.win 0).blk t).view.emb (ix2 r d)) = _
  rw [V_main_arg0]
  refine congrArg (m ((c : Thread nD τ).loc main_arg0)) ?_
  obtain ⟨e0, e1, _⟩ := idx_facts t
  funext a; apply Fin.ext
  match a with
  | ⟨0, _⟩ => show win0_0.index t (0 : Fin 2) * 512 + 1 * r.val = 512 * (t.val / 11) + r.val; omega
  | ⟨1, _⟩ => show win0_0.index t (1 : Fin 2) * 2048 + 1 * d.val = d.val; omega

theorem read_g (t : Fin cfg0.N) (d : Fin 2048) : iblk m c 1 t (ix2 0 d) = argG m c d := by
  show V m c main_v0 (((cfg0.win 1).blk t).view.emb (ix2 0 d)) = _
  rw [← entryG]
  refine congrArg (V m c main_v0) ?_
  obtain ⟨_, _, e0, e1, _⟩ := idx_facts t
  funext a; apply Fin.ext
  match a with
  | ⟨0, _⟩ => show win0_1.index t (0 : Fin 2) * 1 + 1 * 0 = 0; omega
  | ⟨1, _⟩ => show win0_1.index t (1 : Fin 2) * 2048 + 1 * d.val = d.val; omega

theorem read_n (t : Fin cfg0.N) (d : Fin 2048) : iblk m c 2 t (ix2 0 d) = argN m c d := by
  show V m c main_v3 (((cfg0.win 2).blk t).view.emb (ix2 0 d)) = _
  rw [← entryN]
  refine congrArg (V m c main_v3) ?_
  obtain ⟨_, _, _, _, _, _, _, _, e0, e1⟩ := idx_facts t
  funext a; apply Fin.ext
  match a with
  | ⟨0, _⟩ => show win0_2.index t (0 : Fin 2) * 1 + 1 * 0 = 0; omega
  | ⟨1, _⟩ => show win0_2.index t (1 : Fin 2) * 2048 + 1 * d.val = d.val; omega

theorem read_a (t : Fin cfg0.N) (h : t.val % 11 ≤ 9) (k : Fin 2048) (f : Fin 512) :
    iblk m c 3 t (ix2 k f) = argU m c k ⟨512 * (t.val % 11) + f.val, by omega⟩ := by
  show V m c main_v1 (((cfg0.win 3).blk t).view.emb (ix2 k f)) = _
  rw [entryU]
  refine congrArg (m ((c : Thread nD τ).loc main_arg3)) ?_
  obtain ⟨e0, e1, _⟩ := off_facts t
  have e1 := e1 h
  funext a; apply Fin.ext
  match a with
  | ⟨0, _⟩ => show cc0_transform_3 (grid0.coords t) (0 : Fin 2) + 1 * k.val = k.val; omega
  | ⟨1, _⟩ => show cc0_transform_3 (grid0.coords t) (1 : Fin 2) + 1 * f.val = 512 * (t.val % 11) + f.val; omega

theorem read_b (t : Fin cfg0.N) (h : t.val % 11 ≤ 9) (k : Fin 2048) (f : Fin 512) :
    iblk m c 4 t (ix2 k f) = argU m c k ⟨5504 + (512 * (t.val % 11) + f.val), by omega⟩ := by
  show V m c main_v1 (((cfg0.win 4).blk t).view.emb (ix2 k f)) = _
  rw [entryU]
  refine congrArg (m ((c : Thread nD τ).loc main_arg3)) ?_
  obtain ⟨_, _, e0, e1, _⟩ := off_facts t
  have e1 := e1 h
  funext a; apply Fin.ext
  match a with
  | ⟨0, _⟩ => show cc0_transform_4 (grid0.coords t) (0 : Fin 2) + 1 * k.val = k.val; omega
  | ⟨1, _⟩ => show cc0_transform_4 (grid0.coords t) (1 : Fin 2) + 1 * f.val = 5504 + (512 * (t.val % 11) + f.val); omega

theorem read_w (t : Fin cfg0.N) (h : t.val % 11 ≤ 9) (f : Fin 512) (d : Fin 2048) :
    iblk m c 5 t (ix2 f d) = argD m c ⟨512 * (t.val % 11) + f.val, by omega⟩ d := by
  show V m c main_v2 (((cfg0.win 5).blk t).view.emb (ix2 f d)) = _
  rw [entryD]
  refine congrArg (m ((c : Thread nD τ).loc main_arg4)) ?_
  obtain ⟨_, _, _, _, e0, e1⟩ := off_facts t
  have e0 := e0 h
  funext a; apply Fin.ext
  match a with
  | ⟨0, _⟩ => show cc0_transform_5 (grid0.coords t) (0 : Fin 2) + 1 * f.val = 512 * (t.val % 11) + f.val; omega
  | ⟨1, _⟩ => show cc0_transform_5 (grid0.coords t) (1 : Fin 2) + 1 * d.val = d.val; omega

theorem read_ta (t : Fin cfg0.N) (k : Fin 2048) (f : Fin 384) :
    iblk m c 6 t (ix2 k f) = argU m c k ⟨5120 + f.val, by omega⟩ := by
  show V m c main_v1 (((cfg0.win 6).blk t).view.emb (ix2 k f)) = _
  rw [entryU]
  refine congrArg (m ((c : Thread nD τ).loc main_arg3)) ?_
  funext a; apply Fin.ext
  match a with
  | ⟨0, _⟩ => show 0 + 1 * k.val = k.val; omega
  | ⟨1, _⟩ => show 5120 + 1 * f.val = 5120 + f.val; omega

theorem read_tb (t : Fin cfg0.N) (k : Fin 2048) (f : Fin 384) :
    iblk m c 7 t (ix2 k f) = argU m c k ⟨5504 + (5120 + f.val), by omega⟩ := by
  show V m c main_v1 (((cfg0.win 7).blk t).view.emb (ix2 k f)) = _
  rw [entryU]
  refine congrArg (m ((c : Thread nD τ).loc main_arg3)) ?_
  funext a; apply Fin.ext
  match a with
  | ⟨0, _⟩ => show 0 + 1 * k.val = k.val; omega
  | ⟨1, _⟩ => show 10624 + 1 * f.val = 5504 + (5120 + f.val); omega

theorem read_tw (t : Fin cfg0.N) (f : Fin 384) (d : Fin 2048) :
    iblk m c 8 t (ix2 f d) = argD m c ⟨5120 + f.val, by omega⟩ d := by
  show V m c main_v2 (((cfg0.win 8).blk t).view.emb (ix2 f d)) = _
  rw [entryD]
  refine congrArg (m ((c : Thread nD τ).loc main_arg4)) ?_
  funext a; apply Fin.ext
  match a with
  | ⟨0, _⟩ => show 5120 + 1 * f.val = 5120 + f.val; omega
  | ⟨1, _⟩ => show 0 + 1 * d.val = d.val; omega

end Cert.FfnFirst
-- ==== Proof.FirstValue.lean ====
module

public import proofs.«01_k».proof.Proof.FirstReads
public import proofs.«01_k».proof.Proof.FfnMath

/-! The feed-forward kernel's result: after the tiles of a row block the output block holds the partial sums over the
    features that the tiles met, and the last tile completes them and adds the row. -/

@[expose] public section

noncomputable section

namespace Cert.FfnFirst

open Cert.Ffn Cert.Kernel3Ideal Cert.Kernel3Ideal.Gen Idealize.ShloMosaic Idealize.ShloMosaic.TcCoe Idealize.SL.Sem

/-! ## The payloads at an index -/

theorem pay1_apply (x : Vec Ideal S512x2048 .f32) (g : Vec Ideal S1x2048 .f32) (r : Fin 512) (d : Fin 2048) :
    k0_pay1 x g (ix2 r d) = hrow (fun k => x (ix2 r k)) (fun k => g (ix2 0 k)) d := by
  pointwise [k0_pay1, hrow]

theorem pay2_apply (h : Vec Ideal S512x2048 .bf16) (a b : Vec Ideal S2048x512 .bf16) (w : Vec Ideal S512x2048 .bf16)
    (r : Fin 512) (d : Fin 2048) :
    k0_pay2 h a b w (ix2 r d)
      = ∑ f : Fin 512, gate (∑ k, h (ix2 r k) * a (ix2 k f)) (∑ k, h (ix2 r k) * b (ix2 k f)) * w (ix2 f d) := by
  pointwise [k0_pay2, gate]

theorem pay3_apply (acc : Vec Ideal S512x2048 .f32) (h : Vec Ideal S512x2048 .bf16) (a b : Vec Ideal S2048x512 .bf16)
    (w : Vec Ideal S512x2048 .bf16) (r : Fin 512) (d : Fin 2048) :
    k0_pay3 acc h a b w (ix2 r d) = acc (ix2 r d)
      + ∑ f : Fin 512, gate (∑ k, h (ix2 r k) * a (ix2 k f)) (∑ k, h (ix2 r k) * b (ix2 k f)) * w (ix2 f d) := by
  pointwise [k0_pay3, gate]

theorem pay5_apply (x acc : Vec Ideal S512x2048 .f32) (h : Vec Ideal S512x2048 .bf16) (a b : Vec Ideal S2048x384 .bf16)
    (w : Vec Ideal S384x2048 .bf16) (r : Fin 512) (d : Fin 2048) :
    k0_pay5 x acc h a b w (ix2 r d) = x (ix2 r d) + Ideal.ofBits .f32 0x3F000000#32 * (acc (ix2 r d)
      + ∑ f : Fin 384, gate (∑ k, h (ix2 r k) * a (ix2 k f)) (∑ k, h (ix2 r k) * b (ix2 k f)) * w (ix2 f d)) := by
  pointwise [k0_pay5, gate]

theorem pay6_apply (g : Vec Ideal S1x2048 .f32) (d : Fin 2048) : k0_pay6 g (ix2 0 d) = g (ix2 0 d) := by
  pointwise [k0_pay6]

theorem pay7_apply (x acc : Vec Ideal S512x2048 .f32) (h : Vec Ideal S512x2048 .bf16) (a b : Vec Ideal S2048x384 .bf16)
    (w : Vec Ideal S384x2048 .bf16) (r : Fin 512) :
    k0_pay7 x acc h a b w (ix2 r 0) = ∑ k : Fin 2048, k0_pay5 x acc h a b w (ix2 r k) * k0_pay5 x acc h a b w (ix2 r k) := by
  unfold k0_pay7
  generalize k0_pay5 x acc h a b w = y
  pointwise

theorem pay4_apply (y : Vec Ideal S512x2048 .f32) (g : Vec Ideal S1x2048 .f32) (s : Vec Ideal S512x1 .f32)
    (r : Fin 512) (hs : s (ix2 r 0) = ∑ k : Fin 2048, y (ix2 r k) * y (ix2 r k)) (d : Fin 2048) :
    k0_pay4 (F := Ideal) y g s k0_pay8 (ix2 r d) = hrow (fun k => y (ix2 r k)) (fun k => g (ix2 0 k)) d := by
  unfold hrow
  rw [← hs]
  pointwise [k0_pay4, k0_pay8]

/-! ## The invariant over the tiles -/

variable (m : (ℓ : Loc nD τ sig) → Buf (Elt Ideal) ℓ) (c : Dev nD)

/-- Row `r` of row block `i`, normalised. -/
abbrev rowAt (i : Fin 16) (r : Fin 512) : Fin 2048 → EReal :=
  hrow (argX m c ⟨512 * i.val + r.val, by omega⟩) (argG m c)

/-- What feature `f` adds at row `r` of row block `i`, output feature `d`. -/
abbrev featAt (i : Fin 16) (r : Fin 512) (d : Fin 2048) (f : ℕ) : EReal :=
  feat (rowAt m c i r) (argU m c) (argD m c) d f

/-- What the first output's block and the scratch hold after tile `j` of row block `i`. -/
def Inv (i : Fin 16) (j : ℕ) (o : Vec Ideal S512x2048 .f32 × Vec Ideal S512x2048 .bf16 × Vec Ideal S512x2048 .bf16) : Prop :=
  (∀ (r : Fin 512) (d : Fin 2048), o.1 (ix2 r d) = ∑ f ∈ Finset.range (512 * (j + 1)), featAt m c i r d f)
  ∧ ∀ (r : Fin 512) (d : Fin 2048), o.2.2 (ix2 r d) = rowAt m c i r d

/-- One feature of tile `j`, over the normalised rows. -/
theorem tile_feat (t : Fin cfg0.N) (i : Fin 16) (hi : t.val / 11 = i.val) (h : t.val % 11 ≤ 9) (r : Fin 512) (d : Fin 2048)
    (H : Vec Ideal S512x2048 .bf16) (hH : ∀ k, H (ix2 r k) = rowAt m c i r k) (f : Fin 512) :
    gate (∑ k, H (ix2 r k) * iblk m c 3 t (ix2 k f)) (∑ k, H (ix2 r k) * iblk m c 4 t (ix2 k f)) * iblk m c 5 t (ix2 f d)
      = featAt m c i r d (512 * (t.val % 11) + f.val) := by
  rw [featAt, feat_of_lt _ _ _ _ (show 512 * (t.val % 11) + f.val < 5504 by omega), read_w m c t h]
  simp only [read_a m c t h, read_b m c t h, hH]

theorem norm_at (t : Fin cfg0.N) (i : Fin 16) (hi : t.val / 11 = i.val) (r : Fin 512) (d : Fin 2048) :
    k0_pay1 (iblk m c 0 t) (iblk m c 1 t) (ix2 r d) = rowAt m c i r d := by
  rw [pay1_apply]
  simp only [read_x, read_g, hi]

theorem inv (i : Fin 16) : ∀ (j : ℕ) (_ : j ≤ 9) (n : ℕ) (hn : n < cfg0.N) (_ : n = 11 * i.val + j),
    Inv m c i j (outsAt0 m c n hn) := by
  intro j
  induction j with
  | zero =>
    intro _ n hn e
    have hd : n / 11 = i.val := by omega
    have hm : n % 11 = 0 := by omega
    obtain ⟨e1, e2⟩ := outs_first m c ⟨n, hn⟩ hm
    dsimp only at e1 e2
    refine ⟨fun r d => ?_, fun r d => by rw [e2]; exact norm_at m c ⟨n, hn⟩ i hd r d⟩
    rw [e1, pay2_apply, ← zero_add (∑ f : Fin 512, _)]
    refine sum_tile (featAt m c i r d) 0 512 _ rfl _ fun f => ?_
    rw [tile_feat m c ⟨n, hn⟩ i hd (by dsimp only; omega) r d _ (fun k => norm_at m c ⟨n, hn⟩ i hd r k)]
    dsimp only
    rw [hm]
  | succ j ih =>
    intro hj n hn e
    have hd : n / 11 = i.val := by omega
    have hm : n % 11 = j + 1 := by omega
    obtain ⟨ha, hh⟩ := ih (by omega) (n - 1) (by omega) (by omega)
    obtain ⟨e1, e2⟩ := outs_middle m c ⟨n, hn⟩ (by dsimp only; omega)
    dsimp only at e1 e2
    refine ⟨fun r d => ?_, fun r d => by rw [e2]; exact hh r d⟩
    rw [e1, pay3_apply, ha]
    refine sum_tile (featAt m c i r d) (512 * (j + 1)) 512 _ (by omega) _ fun f => ?_
    rw [tile_feat m c ⟨n, hn⟩ i hd (by dsimp only; omega) r d _ (fun k => hh r k)]
    dsimp only
    rw [hm]

/-- After the last tile the output block holds the layer's rows. -/
theorem out_block (t : Fin cfg0.N) (ht : t.val % 11 = 10) (r : Fin 512) (d : Fin 2048) :
    (outsAt0 m c t.val t.isLt).1 (ix2 r d)
      = layer (argX m c ⟨512 * (t.val / 11) + r.val, by have := lt_16 t; omega⟩) (argG m c) (argU m c) (argD m c) d := by
  obtain ⟨ha, hh⟩ := inv m c ⟨t.val / 11, lt_16 t⟩ 9 (by omega) (t.val - 1) (by omega) (by dsimp only; omega)
  have last (f : Fin 384) : gate (∑ k, (outsAt0 m c (t.val - 1) (by omega)).2.2 (ix2 r k) * iblk m c 6 t (ix2 k f))
      (∑ k, (outsAt0 m c (t.val - 1) (by omega)).2.2 (ix2 r k) * iblk m c 7 t (ix2 k f)) * iblk m c 8 t (ix2 f d)
      = featAt m c ⟨t.val / 11, lt_16 t⟩ r d (5120 + f.val) := by
    rw [featAt, feat_of_lt _ _ _ _ (show 5120 + f.val < 5504 by omega), read_tw]
    simp only [read_ta, read_tb, hh]
  rw [outs_last m c t ht, pay5_apply, ha, read_x, sum_tile (featAt m c ⟨t.val / 11, lt_16 t⟩ r d) 5120 384 5504 (by omega) _ last, layer]

/-- After the last tile the second output's block holds the layer's rows, normalised. -/
theorem next_block (t : Fin cfg0.N) (ht : t.val % 11 = 10) (r : Fin 512) (d : Fin 2048) :
    (outsAt0 m c t.val t.isLt).2.1 (ix2 r d)
      = hrow (layer (argX m c ⟨512 * (t.val / 11) + r.val, by have := lt_16 t; omega⟩) (argG m c) (argU m c) (argD m c)) (argN m c) d := by
  have h := fun k => out_block m c t ht r k
  rw [outs_last m c t ht] at h
  rw [nexts_last m c t ht, pay4_apply _ _ _ r (pay7_apply _ _ _ _ _ _ r)]
  simp only [h, pay6_apply, read_n]

/-! ## The arrays after the run -/

/-- The layer's rows, as the result array. -/
def target : Buf (Elt Ideal) ((c : Thread nD τ).loc main_v4_0) := fun i : S8192x2048.Idx =>
  layer (argX m c (i 0)) (argG m c) (argU m c) (argD m c) (i 1)

theorem flushed (t : Fin cfg0.N) (hf : (cfg0.win 9).flush t = true) :
    (dats m 0 c).flushed 9 t = ((cfg0.win 9).blk t).view.read (Elt Ideal) (target m c) := by
  show (cfg0.win 9).cut (grid0.coords t) ((dats m 0 c).after 9 t) = _
  rw [after0_9]
  funext y
  obtain ⟨_, _, _, _, e0, e1, _⟩ := idx_facts t
  have hb0 : (((cfg0.win 9).blk t).view.emb y 0) = (⟨512 * (t.val / 11) + (y 0).val, by have := lt_16 t; have : (y 0).val < 512 := (y 0).isLt; omega⟩ : Fin 8192) := by
    apply Fin.ext; show win0_9.index t (0 : Fin 2) * 512 + 1 * (y 0).val = 512 * (t.val / 11) + (y 0).val; omega
  have hb1 : (((cfg0.win 9).blk t).view.emb y 1) = (⟨(y 1).val, (y 1).isLt⟩ : Fin 2048) := by
    apply Fin.ext; show win0_9.index t (1 : Fin 2) * 2048 + 1 * (y 1).val = (y 1).val; omega
  have h := out_block m c t ((flush0_9 t).mp hf) ⟨(y 0).val, (y 0).isLt⟩ ⟨(y 1).val, (y 1).isLt⟩
  show (outsAt0 m c t.val t.isLt).1 ((cfg0.win 9).xinj (grid0.coords t) y)
    = layer (argX m c (((cfg0.win 9).blk t).view.emb y 0)) (argG m c) (argU m c) (argD m c) (((cfg0.win 9).blk t).view.emb y 1)
  rw [hb0, hb1, ← h]
  refine congrArg _ ?_
  funext a; apply Fin.ext
  match a with
  | ⟨0, _⟩ => rfl
  | ⟨1, _⟩ => rfl

theorem cover (i : S8192x2048.Idx) : ∃ t : Fin cfg0.N, (cfg0.win 9).flush t = true ∧ i ∈ ((cfg0.win 9).blk t).view.set := by
  have hi0 : (i 0).val < 8192 := (i 0).isLt
  have hi1 : (i 1).val < 2048 := (i 1).isLt
  have hN : 11 * ((i 0).val / 512) + 10 < cfg0.N := lt_of_lt_of_eq (by omega) N_0.symm
  refine ⟨⟨11 * ((i 0).val / 512) + 10, hN⟩, (flush0_9 _).mpr (by dsimp only; omega), ?_⟩
  obtain ⟨_, _, _, _, e0, e1, _⟩ := idx_facts ⟨11 * ((i 0).val / 512) + 10, hN⟩
  dsimp only at e0 e1
  show i ∈ ((View.whole main_v4_0).slice (win0_9.rect (⟨11 * ((i 0).val / 512) + 10, hN⟩ : Fin cfg0.N))).set
  rw [View.set_slice_whole, Rect.mem_set_unit]
  intro a
  match a with
  | ⟨0, _⟩ => show win0_9.index _ (0 : Fin 2) * 512 ≤ (i 0).val ∧ (i 0).val < win0_9.index _ (0 : Fin 2) * 512 + 512; omega
  | ⟨1, _⟩ => show win0_9.index _ (1 : Fin 2) * 2048 ≤ (i 1).val ∧ (i 1).val < win0_9.index _ (1 : Fin 2) * 2048 + 2048; omega

theorem final : (dats m 0 c).arrAt 9 cfg0.N = target m c :=
  (dats m 0 c).arrAt_eq_of_cover 9 _ (fun t hf => flushed m c t hf) cover

/-- The layer's rows normalised, as the second result array. -/
def nextTarget : Buf (Elt Ideal) ((c : Thread nD τ).loc main_v4_1) := fun i : S8192x2048.Idx =>
  hrow (layer (argX m c (i 0)) (argG m c) (argU m c) (argD m c)) (argN m c) (i 1)

theorem flushed_next (t : Fin cfg0.N) (hf : (cfg0.win 10).flush t = true) :
    (dats m 0 c).flushed 10 t = ((cfg0.win 10).blk t).view.read (Elt Ideal) (nextTarget m c) := by
  show (cfg0.win 10).cut (grid0.coords t) ((dats m 0 c).after 10 t) = _
  rw [after0_10]
  funext y
  obtain ⟨_, _, _, _, _, _, e0, e1, _⟩ := idx_facts t
  have hb0 : (((cfg0.win 10).blk t).view.emb y 0) = (⟨512 * (t.val / 11) + (y 0).val, by have := lt_16 t; have : (y 0).val < 512 := (y 0).isLt; omega⟩ : Fin 8192) := by
    apply Fin.ext; show win0_10.index t (0 : Fin 2) * 512 + 1 * (y 0).val = 512 * (t.val / 11) + (y 0).val; omega
  have hb1 : (((cfg0.win 10).blk t).view.emb y 1) = (⟨(y 1).val, (y 1).isLt⟩ : Fin 2048) := by
    apply Fin.ext; show win0_10.index t (1 : Fin 2) * 2048 + 1 * (y 1).val = (y 1).val; omega
  have h := next_block m c t ((flush0_10 t).mp hf) ⟨(y 0).val, (y 0).isLt⟩ ⟨(y 1).val, (y 1).isLt⟩
  show (outsAt0 m c t.val t.isLt).2.1 ((cfg0.win 10).xinj (grid0.coords t) y)
    = hrow (layer (argX m c (((cfg0.win 10).blk t).view.emb y 0)) (argG m c) (argU m c) (argD m c)) (argN m c) (((cfg0.win 10).blk t).view.emb y 1)
  rw [hb0, hb1, ← h]
  refine congrArg _ ?_
  funext a; apply Fin.ext
  match a with
  | ⟨0, _⟩ => rfl
  | ⟨1, _⟩ => rfl

theorem cover_next (i : S8192x2048.Idx) : ∃ t : Fin cfg0.N, (cfg0.win 10).flush t = true ∧ i ∈ ((cfg0.win 10).blk t).view.set := by
  have hi0 : (i 0).val < 8192 := (i 0).isLt
  have hi1 : (i 1).val < 2048 := (i 1).isLt
  have hN : 11 * ((i 0).val / 512) + 10 < cfg0.N := lt_of_lt_of_eq (by omega) N_0.symm
  refine ⟨⟨11 * ((i 0).val / 512) + 10, hN⟩, (flush0_10 _).mpr (by dsimp only; omega), ?_⟩
  obtain ⟨_, _, _, _, _, _, e0, e1, _⟩ := idx_facts ⟨11 * ((i 0).val / 512) + 10, hN⟩
  dsimp only at e0 e1
  show i ∈ ((View.whole main_v4_1).slice (win0_10.rect (⟨11 * ((i 0).val / 512) + 10, hN⟩ : Fin cfg0.N))).set
  rw [View.set_slice_whole, Rect.mem_set_unit]
  intro a
  match a with
  | ⟨0, _⟩ => show win0_10.index _ (0 : Fin 2) * 512 ≤ (i 0).val ∧ (i 0).val < win0_10.index _ (0 : Fin 2) * 512 + 512; omega
  | ⟨1, _⟩ => show win0_10.index _ (1 : Fin 2) * 2048 ≤ (i 1).val ∧ (i 1).val < win0_10.index _ (1 : Fin 2) * 2048 + 2048; omega

theorem final_next : (dats m 0 c).arrAt 10 cfg0.N = nextTarget m c :=
  (dats m 0 c).arrAt_eq_of_cover 10 _ (fun t hf => flushed_next m c t hf) cover_next

/-- The kernel's run: the layer's rows, those rows normalised, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = target m c
      ∧ r.2.mem ((c : Thread nD τ).loc main_v4_1) = nextTarget m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 9).trans (final m c), ((h c).1 10).trans (final_next m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.FfnFirst
-- ==== Proof.FirstReference.lean ====
module

public import proofs.«01_k».proof.Proof.Gen.Reference3Ideal.Run
public import proofs.«01_k».proof.Proof.FfnMath

/-! The feed-forward reference's result is the layer's rows. -/

@[expose] public section

noncomputable section

namespace Cert.FfnFirstReference

open Cert.Ffn Cert.Reference3Ideal Cert.Reference3Ideal.Gen Idealize.ShloMosaic Idealize.ShloMosaic.TcCoe Idealize.SL.Sem

variable (m : (ℓ : Loc nD τ sig) → Buf (Elt Ideal) ℓ) (c : Dev nD)

/-- The layer's row `r` of the reference's arguments. -/
def row (r : Fin 8192) : Fin 2048 → EReal :=
  layer (fun d => m ((c : Thread nD τ).loc main_arg0) (ix2 r d)) (fun d => m ((c : Thread nD τ).loc main_arg1) (ix1 d))
    (fun k f => m ((c : Thread nD τ).loc main_arg3) (ix2 k f)) (fun f d => m ((c : Thread nD τ).loc main_arg4) (ix2 f d))

/-- The layer's rows. -/
def target : Buf (Elt Ideal) ((c : Thread nD τ).loc main_v21) := fun i : S8192x2048.Idx => row m c (i 0) (i 1)

/-- The layer's rows normalised. -/
def nextTarget : Buf (Elt Ideal) ((c : Thread nD τ).loc main_v35) := fun i : S8192x2048.Idx =>
  hrow (row m c (i 0)) (fun d => m ((c : Thread nD τ).loc main_arg2) (ix1 d)) (i 1)

/-- The reference's first result. -/
def rowsTerm (a0 : FVec Ideal S8192x2048 .f32) (a1 : FVec Ideal S2048 .f32) (a3 : FVec Ideal S2048x11008 .f32)
    (a4 : FVec Ideal S5504x2048 .f32) : FVec Ideal S8192x2048 .f32 :=
  addf a0 (mulf (broadcastInDim S8192x2048 ![] bcast_S_S8192x2048 (constant S_ .f32 0x3F000000#32)) (Host.dotGeneral dot_S8192x5504_S5504x2048_S8192x2048_1_0_0_1_n_n none (mulf (mulf (extractStridedSlice S8192x5504 ![0, 0] (Host.dotGeneral dot_S8192x2048_S2048x11008_S8192x11008_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a1))) a3) slices_S8192x11008_S8192x5504_0_0) (Host.divf (broadcastInDim S8192x5504 ![] bcast_S_S8192x5504 (constant S_ .f32 0x3F800000#32)) (addf (broadcastInDim S8192x5504 ![] bcast_S_S8192x5504 (constant S_ .f32 0x3F800000#32)) (Host.exp (Host.negf (extractStridedSlice S8192x5504 ![0, 0] (Host.dotGeneral dot_S8192x2048_S2048x11008_S8192x11008_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a1))) a3) slices_S8192x11008_S8192x5504_0_0)))))) (extractStridedSlice S8192x5504 ![0, 5504] (Host.dotGeneral dot_S8192x2048_S2048x11008_S8192x11008_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a1))) a3) slices_S8192x11008_S8192x5504_0_5504)) a4))

/-- What the reference does to its first result. -/
def nextTerm (y : FVec Ideal S8192x2048 .f32) (g : FVec Ideal S2048 .f32) : FVec Ideal S8192x2048 .bf16 :=
  truncf .bf16 (mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) bitsLt_bf16_f32

/-- The reference's first result of the arguments. -/
abbrev rowsAt : FVec Ideal S8192x2048 .f32 :=
  rowsTerm (m ((c : Thread nD τ).loc main_arg0)) (m ((c : Thread nD τ).loc main_arg1)) (m ((c : Thread nD τ).loc main_arg3)) (m ((c : Thread nD τ).loc main_arg4))

theorem rows_eq (r : Fin 8192) (d : Fin 2048) : rowsAt m c (ix2 r d) = row m c r d := by
  unfold row rowsAt rowsTerm
  rw [layer_sum]
  pointwise [hrow, gate]
  simp only [zero_sub]

theorem next_eq (y : FVec Ideal S8192x2048 .f32) (g : FVec Ideal S2048 .f32) (r : Fin 8192) (d : Fin 2048) :
    nextTerm y g (ix2 r d) = hrow (fun k => y (ix2 r k)) (fun k => g (ix1 k)) d := by
  unfold nextTerm
  pointwise [hrow]

theorem next_rows (r : Fin 8192) (d : Fin 2048) :
    nextTerm (rowsAt m c) (m ((c : Thread nD τ).loc main_arg2)) (ix2 r d)
      = hrow (row m c r) (fun d => m ((c : Thread nD τ).loc main_arg2) (ix1 d)) d := by
  rw [next_eq]
  simp only [rows_eq]

/-- The reference's run: the layer's rows, those rows normalised, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v21) = target m c
      ∧ r.2.mem ((c : Thread nD τ).loc main_v35) = nextTarget m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun _ h c => ⟨(h c).1.trans ?_, (h c).2.1.trans ?_, (h c).2.2⟩) (Cert.Reference3Ideal.Value.run m ρ)
  · funext i
    rw [← ix2_eta i]
    exact rows_eq m c (i 0) (i 1)
  · funext i
    have e : Cert.Reference3Ideal.Value.res_out1 m c = nextTerm (rowsAt m c) (m ((c : Thread nD τ).loc main_arg2)) := rfl
    show Cert.Reference3Ideal.Value.res_out1 m c i = _
    rw [e, ← ix2_eta i]
    exact next_rows m c (i 0) (i 1)

end Cert.FfnFirstReference
-- ==== Proof.SampleCases.lean ====
module

public import proofs.«01_k».proof.Proof.Gen.Kernel4Ideal.Frame
public import Idealize.ShloMosaic.Lib.Pipeline.Value

/-! What one grid point of the feed-forward kernel leaves in its output block and in its scratch, as a function of the
    blocks it reads: the first tile of a row block normalises the rows into the scratch and starts the output, the middle
    tiles add to the output, the last one adds its tile and the residual. -/

@[expose] public section

noncomputable section

namespace Cert.FfnSample

open Cert.Kernel4Ideal Cert.Kernel4Ideal.Gen Idealize.ShloMosaic Idealize.ShloMosaic.TcCoe Idealize.SL.Sem

variable {F : FTy → Type} [FloatOps F]

/-- Every load and store of the kernel starts at the window's corner. -/
theorem corner2 : (![(0 : ℕ), 0] : Fin 2 → ℕ) = fun _ => 0 := by
  funext a; match a with
  | ⟨0, _⟩ => rfl
  | ⟨1, _⟩ => rfl

section Cases

variable (c : Dev nD) (i : grid0.Coords)
  (arg2 : Memref sig .tc .vmem S32x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S512x2048 .bf16) (harg7 : arg7.IsWhole)
  (arg8 : Memref sig .tc .vmem S2048x384 .bf16) (harg8 : arg8.IsWhole)
  (arg9 : Memref sig .tc .vmem S2048x384 .bf16) (harg9 : arg9.IsWhole)
  (arg10 : Memref sig .tc .vmem S384x2048 .bf16) (harg10 : arg10.IsWhole)
  (arg11 : Memref sig .tc .vmem S32x2048 .f32) (harg11 : arg11.IsWhole)
  (arg12 : Memref sig .tc .vmem S32x2048 .bf16) (harg12 : arg12.IsWhole)
  (x0 : Vec F S32x2048 .f32) (x1 : Vec F S1x2048 .f32) (x2 : Vec F S1x2048 .f32) (x3 : Vec F S2048x512 .bf16) (x4 : Vec F S2048x512 .bf16) (x5 : Vec F S512x2048 .bf16) (x6 : Vec F S2048x384 .bf16) (x7 : Vec F S2048x384 .bf16) (x8 : Vec F S384x2048 .bf16)

/-- The first tile stores the normalised rows. -/
theorem scratch_first (hc0 : cond0_0 i) (hc1 : cond0_1 i) (hc2 : ¬cond0_2 i) (hc3 : ¬cond0_3 i) :
    sout0_A_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8)]
  unfold kernelRun0_A
  dsimp only
  sl_unfold_words
  simp only [View.canon_unit_zero (S := S32x2048) corner2, View.readAt_eq_ld, View.ld_unit_zero (S := S32x2048) corner2, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S32x2048) _ corner2,
    harg2.read_unread, harg3.read_unread, harg4.read_unread, harg5.read_unread, harg6.read_unread, harg7.read_unread, harg8.read_unread, harg9.read_unread, harg10.read_unread, harg11.read_unread, harg12.read_unread]

/-- The first tile starts the output, from the rows it has just normalised. -/
theorem out_first (hc0 : cond0_0 i) (hc1 : cond0_1 i) (hc2 : ¬cond0_2 i) (hc3 : ¬cond0_3 i) :
    out0_A_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 = k0_pay2 (k0_pay1 x0 x1) x3 x4 x5 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8)]
  unfold kernelRun0_A
  dsimp only
  sl_unfold_words
  simp only [View.canon_unit_zero (S := S32x2048) corner2, View.readAt_eq_ld, View.ld_unit_zero (S := S32x2048) corner2, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S32x2048) _ corner2,
    harg2.read_unread, harg3.read_unread, harg4.read_unread, harg5.read_unread, harg6.read_unread, harg7.read_unread, harg8.read_unread, harg9.read_unread, harg10.read_unread, harg11.read_unread, harg12.read_unread]

/-- A middle tile adds to the output. -/
theorem out_middle (hc0 : ¬cond0_0 i) (hc1 : ¬cond0_1 i) (hc2 : cond0_2 i) (hc3 : ¬cond0_3 i) (acc : Vec F S32x2048 .f32) (h : Vec F S32x2048 .bf16) :
    out0_B_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 acc h = k0_pay3 acc h x3 x4 x5 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 acc h)]
  unfold kernelRun0_B
  dsimp only
  sl_unfold_words
  simp only [View.canon_unit_zero (S := S32x2048) corner2, View.readAt_eq_ld, View.ld_unit_zero (S := S32x2048) corner2, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S32x2048) _ corner2,
    harg2.read_unread, harg3.read_unread, harg4.read_unread, harg5.read_unread, harg6.read_unread, harg7.read_unread, harg8.read_unread, harg9.read_unread, harg10.read_unread, harg11.read_unread, harg12.read_unread]

/-- The last tile adds its product, halves the sum and adds the block of `x`. -/
theorem out_last (hc0 : ¬cond0_0 i) (hc1 : ¬cond0_1 i) (hc2 : ¬cond0_2 i) (hc3 : cond0_3 i) (acc : Vec F S32x2048 .f32) (h : Vec F S32x2048 .bf16) :
    out0_C_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 acc h = k0_pay4 x0 acc h x6 x7 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 acc h)]
  unfold kernelRun0_C
  dsimp only
  sl_unfold_words
  simp only [View.canon_unit_zero (S := S32x2048) corner2, View.readAt_eq_ld, View.ld_unit_zero (S := S32x2048) corner2, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S32x2048) _ corner2,
    harg2.read_unread, harg3.read_unread, harg4.read_unread, harg5.read_unread, harg6.read_unread, harg7.read_unread, harg8.read_unread, harg9.read_unread, harg10.read_unread, harg11.read_unread, harg12.read_unread]

end Cases

variable (m : (ℓ : Loc nD τ sig) → Buf (Elt F) ℓ)

/-- After the first tile of a row block. -/
theorem outs_first (c : Dev nD) (t : Fin cfg0.N) (h0 : t.val % 11 = 0) :
    outsAt0 m c t.val t.isLt =
      (k0_pay2 (k0_pay1 (iblk m c 0 t) (iblk m c 1 t)) (iblk m c 3 t) (iblk m c 4 t) (iblk m c 5 t),
        k0_pay1 (iblk m c 0 t) (iblk m c 1 t)) := by
  rw [outsAt0_A m c t h0 h0 (by omega) (by omega), out_first, scratch_first]

/-- After a middle tile, over what the tile before left. -/
theorem outs_middle (c : Dev nD) (t : Fin cfg0.N) (h2 : 1 ≤ t.val % 11 ∧ t.val % 11 ≤ 9) :
    outsAt0 m c t.val t.isLt =
      (k0_pay3 (outsAt0 m c (t.val - 1) (by omega)).1 (outsAt0 m c (t.val - 1) (by omega)).2
        (iblk m c 3 t) (iblk m c 4 t) (iblk m c 5 t), (outsAt0 m c (t.val - 1) (by omega)).2) := by
  rw [outsAt0_B m c t (by omega) (by omega) h2 (by omega), out_middle]
  rfl

/-- After the last tile. -/
theorem outs_last (c : Dev nD) (t : Fin cfg0.N) (h3 : t.val % 11 = 10) :
    (outsAt0 m c t.val t.isLt).1 =
      k0_pay4 (iblk m c 0 t) (outsAt0 m c (t.val - 1) (by omega)).1 (outsAt0 m c (t.val - 1) (by omega)).2
        (iblk m c 6 t) (iblk m c 7 t) (iblk m c 8 t) := by
  rw [outsAt0_C m c t (by omega) (by omega) (by omega) h3, out_last]

end Cert.FfnSample
-- ==== Proof.SampleReads.lean ====
module

public import proofs.«01_k».proof.Proof.SampleCases
public import Idealize.ShloMosaic.Lib.Pointwise

/-! What the blocks hold that a grid point of the feed-forward kernel over the samples' 32 rows reads: every point has all
    the rows, point `j` columns `512 * j …` of the two halves of the weights, and the last point the last 384. -/

@[expose] public section

noncomputable section

namespace Cert.FfnSample

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The arguments, as arrays of extended reals. -/
abbrev argX (r : Fin 32) (d : Fin 2048) : EReal := m ((c : Thread nD τ).loc main_arg0) (ix2 r d)
abbrev argG (d : Fin 2048) : EReal := m ((c : Thread nD τ).loc main_arg1) (ix1 d)
abbrev argU (k : Fin 2048) (f : Fin 11008) : EReal := m ((c : Thread nD τ).loc main_arg2) (ix2 k f)
abbrev argD (f : Fin 5504) (d : Fin 2048) : EReal := m ((c : Thread nD τ).loc main_arg3) (ix2 f d)

theorem entryG (d : Fin 2048) : V m c main_v0 (ix2 0 d) = argG m c d := by
  have e : V m c main_v0 = broadcastInDim S1x2048 ![1] bcast_S2048_S1x2048_1 (m ((c : Thread nD τ).loc main_arg1)) := by
    unfold V hostOps0
    after_results_simp
  rw [e]
  pointwise

theorem entryU (j : S2048x11008.Idx) : (V m c main_v1 j : EReal) = m ((c : Thread nD τ).loc main_arg2) j := by
  have e : V m c main_v1 = (truncf .bf16 (m ((c : Thread nD τ).loc main_arg2) : FVec Ideal S2048x11008 .f32) bitsLt_bf16_f32 :
      FVec Ideal S2048x11008 .bf16) := by
    unfold V hostOps0
    after_results_simp
  rw [e]
  rfl

theorem entryD (j : S5504x2048.Idx) : (V m c main_v2 j : EReal) = m ((c : Thread nD τ).loc main_arg3) j := by
  have e : V m c main_v2 = (truncf .bf16 (m ((c : Thread nD τ).loc main_arg3) : FVec Ideal S5504x2048 .f32) bitsLt_bf16_f32 :
      FVec Ideal S5504x2048 .bf16) := by
    unfold V hostOps0
    after_results_simp
  rw [e]
  rfl

/-- Where each window's block starts, over the grid. -/
theorem idx_facts : ∀ t : Fin cfg0.N, win0_0.index t (0 : Fin 2) = t.val / 11 ∧ win0_0.index t (1 : Fin 2) = 0
    ∧ win0_1.index t (0 : Fin 2) = 0 ∧ win0_1.index t (1 : Fin 2) = 0
    ∧ win0_9.index t (0 : Fin 2) = t.val / 11 ∧ win0_9.index t (1 : Fin 2) = 0 :=
  (by decide +kernel : ∀ t : Fin grid0.N, _)

theorem off_facts : ∀ t : Fin cfg0.N, cc0_transform_3 (grid0.coords t) (0 : Fin 2) = 0
    ∧ (t.val % 11 ≤ 9 → cc0_transform_3 (grid0.coords t) (1 : Fin 2) = 512 * (t.val % 11))
    ∧ cc0_transform_4 (grid0.coords t) (0 : Fin 2) = 0
    ∧ (t.val % 11 ≤ 9 → cc0_transform_4 (grid0.coords t) (1 : Fin 2) = 5504 + 512 * (t.val % 11))
    ∧ (t.val % 11 ≤ 9 → cc0_transform_5 (grid0.coords t) (0 : Fin 2) = 512 * (t.val % 11))
    ∧ cc0_transform_5 (grid0.coords t) (1 : Fin 2) = 0 :=
  (by decide +kernel : ∀ t : Fin grid0.N, _)

theorem lt_1 (t : Fin cfg0.N) : t.val / 11 < 1 := by
  have h : t.val < 11 := lt_of_lt_of_eq t.isLt (show cfg0.N = 11 from N_0)
  omega

theorem read_x (t : Fin cfg0.N) (r : Fin 32) (d : Fin 2048) :
    iblk m c 0 t (ix2 r d) = argX m c ⟨32 * (t.val / 11) + r.val, by have := lt_1 t; omega⟩ d := by
  show V m c main_arg0 (((cfg0.win 0).blk t).view.emb (ix2 r d)) = _
  rw [V_main_arg0]
  refine congrArg (m ((c : Thread nD τ).loc main_arg0)) ?_
  obtain ⟨e0, e1, _⟩ := idx_facts t
  funext a; apply Fin.ext
  match a with
  | ⟨0, _⟩ => show win0_0.index t (0 : Fin 2) * 32 + 1 * r.val = 32 * (t.val / 11) + r.val; omega
  | ⟨1, _⟩ => show win0_0.index t (1 : Fin 2) * 2048 + 1 * d.val = d.val; omega

theorem read_g (t : Fin cfg0.N) (d : Fin 2048) : iblk m c 1 t (ix2 0 d) = argG m c d := by
  show V m c main_v0 (((cfg0.win 1).blk t).view.emb (ix2 0 d)) = _
  rw [← entryG]
  refine congrArg (V m c main_v0) ?_
  obtain ⟨_, _, e0, e1, _⟩ := idx_facts t
  funext a; apply Fin.ext
  match a with
  | ⟨0, _⟩ => show win0_1.index t (0 : Fin 2) * 1 + 1 * 0 = 0; omega
  | ⟨1, _⟩ => show win0_1.index t (1 : Fin 2) * 2048 + 1 * d.val = d.val; omega

theorem read_a (t : Fin cfg0.N) (h : t.val % 11 ≤ 9) (k : Fin 2048) (f : Fin 512) :
    iblk m c 3 t (ix2 k f) = argU m c k ⟨512 * (t.val % 11) + f.val, by omega⟩ := by
  show V m c main_v1 (((cfg0.win 3).blk t).view.emb (ix2 k f)) = _
  rw [entryU]
  refine congrArg (m ((c : Thread nD τ).loc main_arg2)) ?_
  obtain ⟨e0, e1, _⟩ := off_facts t
  have e1 := e1 h
  funext a; apply Fin.ext
  match a with
  | ⟨0, _⟩ => show cc0_transform_3 (grid0.coords t) (0 : Fin 2) + 1 * k.val = k.val; omega
  | ⟨1, _⟩ => show cc0_transform_3 (grid0.coords t) (1 : Fin 2) + 1 * f.val = 512 * (t.val % 11) + f.val; omega

theorem read_b (t : Fin cfg0.N) (h : t.val % 11 ≤ 9) (k : Fin 2048) (f : Fin 512) :
    iblk m c 4 t (ix2 k f) = argU m c k ⟨5504 + (512 * (t.val % 11) + f.val), by omega⟩ := by
  show V m c main_v1 (((cfg0.win 4).blk t).view.emb (ix2 k f)) = _
  rw [entryU]
  refine congrArg (m ((c : Thread nD τ).loc main_arg2)) ?_
  obtain ⟨_, _, e0, e1, _⟩ := off_facts t
  have e1 := e1 h
  funext a; apply Fin.ext
  match a with
  | ⟨0, _⟩ => show cc0_transform_4 (grid0.coords t) (0 : Fin 2) + 1 * k.val = k.val; omega
  | ⟨1, _⟩ => show cc0_transform_4 (grid0.coords t) (1 : Fin 2) + 1 * f.val = 5504 + (512 * (t.val % 11) + f.val); omega

theorem read_w (t : Fin cfg0.N) (h : t.val % 11 ≤ 9) (f : Fin 512) (d : Fin 2048) :
    iblk m c 5 t (ix2 f d) = argD m c ⟨512 * (t.val % 11) + f.val, by omega⟩ d := by
  show V m c main_v2 (((cfg0.win 5).blk t).view.emb (ix2 f d)) = _
  rw [entryD]
  refine congrArg (m ((c : Thread nD τ).loc main_arg3)) ?_
  obtain ⟨_, _, _, _, e0, e1⟩ := off_facts t
  have e0 := e0 h
  funext a; apply Fin.ext
  match a with
  | ⟨0, _⟩ => show cc0_transform_5 (grid0.coords t) (0 : Fin 2) + 1 * f.val = 512 * (t.val % 11) + f.val; omega
  | ⟨1, _⟩ => show cc0_transform_5 (grid0.coords t) (1 : Fin 2) + 1 * d.val = d.val; omega

theorem read_ta (t : Fin cfg0.N) (k : Fin 2048) (f : Fin 384) :
    iblk m c 6 t (ix2 k f) = argU m c k ⟨5120 + f.val, by omega⟩ := by
  show V m c main_v1 (((cfg0.win 6).blk t).view.emb (ix2 k f)) = _
  rw [entryU]
  refine congrArg (m ((c : Thread nD τ).loc main_arg2)) ?_
  funext a; apply Fin.ext
  match a with
  | ⟨0, _⟩ => show 0 + 1 * k.val = k.val; omega
  | ⟨1, _⟩ => show 5120 + 1 * f.val = 5120 + f.val; omega

theorem read_tb (t : Fin cfg0.N) (k : Fin 2048) (f : Fin 384) :
    iblk m c 7 t (ix2 k f) = argU m c k ⟨5504 + (5120 + f.val), by omega⟩ := by
  show V m c main_v1 (((cfg0.win 7).blk t).view.emb (ix2 k f)) = _
  rw [entryU]
  refine congrArg (m ((c : Thread nD τ).loc main_arg2)) ?_
  funext a; apply Fin.ext
  match a with
  | ⟨0, _⟩ => show 0 + 1 * k.val = k.val; omega
  | ⟨1, _⟩ => show 10624 + 1 * f.val = 5504 + (5120 + f.val); omega

theorem read_tw (t : Fin cfg0.N) (f : Fin 384) (d : Fin 2048) :
    iblk m c 8 t (ix2 f d) = argD m c ⟨5120 + f.val, by omega⟩ d := by
  show V m c main_v2 (((cfg0.win 8).blk t).view.emb (ix2 f d)) = _
  rw [entryD]
  refine congrArg (m ((c : Thread nD τ).loc main_arg3)) ?_
  funext a; apply Fin.ext
  match a with
  | ⟨0, _⟩ => show 5120 + 1 * f.val = 5120 + f.val; omega
  | ⟨1, _⟩ => show 0 + 1 * d.val = d.val; omega

end Cert.FfnSample
-- ==== Proof.SampleValue.lean ====
module

public import proofs.«01_k».proof.Proof.SampleReads
public import proofs.«01_k».proof.Proof.FfnMath

/-! The result of the feed-forward kernel over the samples' rows: after the tiles of a row block the output block holds the partial sums over the
    features that the tiles met, and the last tile completes them and adds the row. -/

@[expose] public section

noncomputable section

namespace Cert.FfnSample

open Cert.Ffn Cert.Kernel4Ideal Cert.Kernel4Ideal.Gen Idealize.ShloMosaic Idealize.ShloMosaic.TcCoe Idealize.SL.Sem

/-! ## The payloads at an index -/

theorem pay1_apply (x : Vec Ideal S32x2048 .f32) (g : Vec Ideal S1x2048 .f32) (r : Fin 32) (d : Fin 2048) :
    k0_pay1 x g (ix2 r d) = hrow (fun k => x (ix2 r k)) (fun k => g (ix2 0 k)) d := by
  pointwise [k0_pay1, hrow]

theorem pay2_apply (h : Vec Ideal S32x2048 .bf16) (a b : Vec Ideal S2048x512 .bf16) (w : Vec Ideal S512x2048 .bf16)
    (r : Fin 32) (d : Fin 2048) :
    k0_pay2 h a b w (ix2 r d)
      = ∑ f : Fin 512, gate (∑ k, h (ix2 r k) * a (ix2 k f)) (∑ k, h (ix2 r k) * b (ix2 k f)) * w (ix2 f d) := by
  pointwise [k0_pay2, gate]

theorem pay3_apply (acc : Vec Ideal S32x2048 .f32) (h : Vec Ideal S32x2048 .bf16) (a b : Vec Ideal S2048x512 .bf16)
    (w : Vec Ideal S512x2048 .bf16) (r : Fin 32) (d : Fin 2048) :
    k0_pay3 acc h a b w (ix2 r d) = acc (ix2 r d)
      + ∑ f : Fin 512, gate (∑ k, h (ix2 r k) * a (ix2 k f)) (∑ k, h (ix2 r k) * b (ix2 k f)) * w (ix2 f d) := by
  pointwise [k0_pay3, gate]

theorem pay4_apply (x acc : Vec Ideal S32x2048 .f32) (h : Vec Ideal S32x2048 .bf16) (a b : Vec Ideal S2048x384 .bf16)
    (w : Vec Ideal S384x2048 .bf16) (r : Fin 32) (d : Fin 2048) :
    k0_pay4 x acc h a b w (ix2 r d) = x (ix2 r d) + Ideal.ofBits .f32 0x3F000000#32 * (acc (ix2 r d)
      + ∑ f : Fin 384, gate (∑ k, h (ix2 r k) * a (ix2 k f)) (∑ k, h (ix2 r k) * b (ix2 k f)) * w (ix2 f d)) := by
  pointwise [k0_pay4, gate]

/-! ## The invariant over the tiles -/

variable (m : (ℓ : Loc nD τ sig) → Buf (Elt Ideal) ℓ) (c : Dev nD)

/-- Row `r` of row block `i`, normalised. -/
abbrev rowAt (i : Fin 1) (r : Fin 32) : Fin 2048 → EReal :=
  hrow (argX m c ⟨32 * i.val + r.val, by omega⟩) (argG m c)

/-- What feature `f` adds at row `r` of row block `i`, output feature `d`. -/
abbrev featAt (i : Fin 1) (r : Fin 32) (d : Fin 2048) (f : ℕ) : EReal :=
  feat (rowAt m c i r) (argU m c) (argD m c) d f

/-- What an output block and the scratch hold after tile `j` of row block `i`. -/
def Inv (i : Fin 1) (j : ℕ) (o : Vec Ideal S32x2048 .f32 × Vec Ideal S32x2048 .bf16) : Prop :=
  (∀ (r : Fin 32) (d : Fin 2048), o.1 (ix2 r d) = ∑ f ∈ Finset.range (512 * (j + 1)), featAt m c i r d f)
  ∧ ∀ (r : Fin 32) (d : Fin 2048), o.2 (ix2 r d) = rowAt m c i r d

/-- One feature of tile `j`, over the normalised rows. -/
theorem tile_feat (t : Fin cfg0.N) (i : Fin 1) (hi : t.val / 11 = i.val) (h : t.val % 11 ≤ 9) (r : Fin 32) (d : Fin 2048)
    (H : Vec Ideal S32x2048 .bf16) (hH : ∀ k, H (ix2 r k) = rowAt m c i r k) (f : Fin 512) :
    gate (∑ k, H (ix2 r k) * iblk m c 3 t (ix2 k f)) (∑ k, H (ix2 r k) * iblk m c 4 t (ix2 k f)) * iblk m c 5 t (ix2 f d)
      = featAt m c i r d (512 * (t.val % 11) + f.val) := by
  rw [featAt, feat_of_lt _ _ _ _ (show 512 * (t.val % 11) + f.val < 5504 by omega), read_w m c t h]
  simp only [read_a m c t h, read_b m c t h, hH]

theorem norm_at (t : Fin cfg0.N) (i : Fin 1) (hi : t.val / 11 = i.val) (r : Fin 32) (d : Fin 2048) :
    k0_pay1 (iblk m c 0 t) (iblk m c 1 t) (ix2 r d) = rowAt m c i r d := by
  rw [pay1_apply]
  simp only [read_x, read_g, hi]

theorem inv (i : Fin 1) : ∀ (j : ℕ) (_ : j ≤ 9) (n : ℕ) (hn : n < cfg0.N) (_ : n = 11 * i.val + j),
    Inv m c i j (outsAt0 m c n hn) := by
  intro j
  induction j with
  | zero =>
    intro _ n hn e
    have hd : n / 11 = i.val := by omega
    have hm : n % 11 = 0 := by omega
    rw [outs_first m c ⟨n, hn⟩ hm]
    refine ⟨fun r d => ?_, fun r d => norm_at m c ⟨n, hn⟩ i hd r d⟩
    dsimp only
    rw [pay2_apply, ← zero_add (∑ f : Fin 512, _)]
    refine sum_tile (featAt m c i r d) 0 512 _ rfl _ fun f => ?_
    rw [tile_feat m c ⟨n, hn⟩ i hd (by dsimp only; omega) r d _ (fun k => norm_at m c ⟨n, hn⟩ i hd r k)]
    dsimp only
    rw [hm]
  | succ j ih =>
    intro hj n hn e
    have hd : n / 11 = i.val := by omega
    have hm : n % 11 = j + 1 := by omega
    obtain ⟨ha, hh⟩ := ih (by omega) (n - 1) (by omega) (by omega)
    rw [outs_middle m c ⟨n, hn⟩ (by dsimp only; omega)]
    refine ⟨fun r d => ?_, hh⟩
    dsimp only
    rw [pay3_apply, ha]
    refine sum_tile (featAt m c i r d) (512 * (j + 1)) 512 _ (by omega) _ fun f => ?_
    rw [tile_feat m c ⟨n, hn⟩ i hd (by dsimp only; omega) r d _ (fun k => hh r k)]
    dsimp only
    rw [hm]

/-- After the last tile the output block holds the layer's rows. -/
theorem out_block (t : Fin cfg0.N) (ht : t.val % 11 = 10) (r : Fin 32) (d : Fin 2048) :
    (outsAt0 m c t.val t.isLt).1 (ix2 r d)
      = layer (argX m c ⟨32 * (t.val / 11) + r.val, by have := lt_1 t; omega⟩) (argG m c) (argU m c) (argD m c) d := by
  obtain ⟨ha, hh⟩ := inv m c ⟨t.val / 11, lt_1 t⟩ 9 (by omega) (t.val - 1) (by omega) (by dsimp only; omega)
  have last (f : Fin 384) : gate (∑ k, (outsAt0 m c (t.val - 1) (by omega)).2 (ix2 r k) * iblk m c 6 t (ix2 k f))
      (∑ k, (outsAt0 m c (t.val - 1) (by omega)).2 (ix2 r k) * iblk m c 7 t (ix2 k f)) * iblk m c 8 t (ix2 f d)
      = featAt m c ⟨t.val / 11, lt_1 t⟩ r d (5120 + f.val) := by
    rw [featAt, feat_of_lt _ _ _ _ (show 5120 + f.val < 5504 by omega), read_tw]
    simp only [read_ta, read_tb, hh]
  rw [outs_last m c t ht, pay4_apply, ha, read_x, sum_tile (featAt m c ⟨t.val / 11, lt_1 t⟩ r d) 5120 384 5504 (by omega) _ last, layer]

/-! ## The array after the run -/

/-- The layer's rows, as the result array. -/
def target : Buf (Elt Ideal) ((c : Thread nD τ).loc main_v3) := fun i : S32x2048.Idx =>
  layer (argX m c (i 0)) (argG m c) (argU m c) (argD m c) (i 1)

theorem flushed (t : Fin cfg0.N) (hf : (cfg0.win 9).flush t = true) :
    (dats m 0 c).flushed 9 t = ((cfg0.win 9).blk t).view.read (Elt Ideal) (target m c) := by
  show (cfg0.win 9).cut (grid0.coords t) ((dats m 0 c).after 9 t) = _
  rw [after0_9]
  funext y
  obtain ⟨_, _, _, _, e0, e1⟩ := idx_facts t
  have hb0 : (((cfg0.win 9).blk t).view.emb y 0) = (⟨32 * (t.val / 11) + (y 0).val, by have := lt_1 t; have : (y 0).val < 32 := (y 0).isLt; omega⟩ : Fin 32) := by
    apply Fin.ext; show win0_9.index t (0 : Fin 2) * 32 + 1 * (y 0).val = 32 * (t.val / 11) + (y 0).val; omega
  have hb1 : (((cfg0.win 9).blk t).view.emb y 1) = (⟨(y 1).val, (y 1).isLt⟩ : Fin 2048) := by
    apply Fin.ext; show win0_9.index t (1 : Fin 2) * 2048 + 1 * (y 1).val = (y 1).val; omega
  have h := out_block m c t ((flush0_9 t).mp hf) ⟨(y 0).val, (y 0).isLt⟩ ⟨(y 1).val, (y 1).isLt⟩
  show (outsAt0 m c t.val t.isLt).1 ((cfg0.win 9).xinj (grid0.coords t) y)
    = layer (argX m c (((cfg0.win 9).blk t).view.emb y 0)) (argG m c) (argU m c) (argD m c) (((cfg0.win 9).blk t).view.emb y 1)
  rw [hb0, hb1, ← h]
  refine congrArg _ ?_
  funext a; apply Fin.ext
  match a with
  | ⟨0, _⟩ => rfl
  | ⟨1, _⟩ => rfl

theorem cover (i : S32x2048.Idx) : ∃ t : Fin cfg0.N, (cfg0.win 9).flush t = true ∧ i ∈ ((cfg0.win 9).blk t).view.set := by
  have hi0 : (i 0).val < 32 := (i 0).isLt
  have hi1 : (i 1).val < 2048 := (i 1).isLt
  have hN : 11 * ((i 0).val / 32) + 10 < cfg0.N := lt_of_lt_of_eq (by omega) N_0.symm
  refine ⟨⟨11 * ((i 0).val / 32) + 10, hN⟩, (flush0_9 _).mpr (by dsimp only; omega), ?_⟩
  obtain ⟨_, _, _, _, e0, e1⟩ := idx_facts ⟨11 * ((i 0).val / 32) + 10, hN⟩
  dsimp only at e0 e1
  show i ∈ ((View.whole main_v3).slice (win0_9.rect (⟨11 * ((i 0).val / 32) + 10, hN⟩ : Fin cfg0.N))).set
  rw [View.set_slice_whole, Rect.mem_set_unit]
  intro a
  match a with
  | ⟨0, _⟩ => show win0_9.index _ (0 : Fin 2) * 32 ≤ (i 0).val ∧ (i 0).val < win0_9.index _ (0 : Fin 2) * 32 + 32; omega
  | ⟨1, _⟩ => show win0_9.index _ (1 : Fin 2) * 2048 ≤ (i 1).val ∧ (i 1).val < win0_9.index _ (1 : Fin 2) * 2048 + 2048; omega

theorem final : (dats m 0 c).arrAt 9 cfg0.N = target m c :=
  (dats m 0 c).arrAt_eq_of_cover 9 _ (fun t hf => flushed m c t hf) cover

/-- The kernel's run: the layer's rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 9).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.FfnSample
-- ==== Proof.SampleReference.lean ====
module

public import proofs.«01_k».proof.Proof.Gen.Reference4Ideal.Run
public import proofs.«01_k».proof.Proof.FfnMath

/-! The feed-forward reference's result is the layer's rows. -/

@[expose] public section

noncomputable section

namespace Cert.FfnSampleReference

open Cert.Ffn Cert.Reference4Ideal Idealize.ShloMosaic Idealize.ShloMosaic.TcCoe Idealize.SL.Sem

variable (m : (ℓ : Loc nD τ sig) → Buf (Elt Ideal) ℓ) (c : Dev nD)

/-- The layer's rows of the reference's arguments. -/
def target : Buf (Elt Ideal) ((c : Thread nD τ).loc main_v21) := fun i : S32x2048.Idx =>
  layer (fun d => m ((c : Thread nD τ).loc main_arg0) (ix2 (i 0) d)) (fun d => m ((c : Thread nD τ).loc main_arg1) (ix1 d))
    (fun k f => m ((c : Thread nD τ).loc main_arg2) (ix2 k f)) (fun f d => m ((c : Thread nD τ).loc main_arg3) (ix2 f d)) (i 1)

/-- The reference's run: the layer's rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v21) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2⟩) (Cert.Reference4Ideal.Value.run m ρ)
  funext i
  refine Eq.trans ?_ (layer_sum _ _ _ _ _).symm
  pointwise [hrow, gate]
  simp only [zero_sub]

end Cert.FfnSampleReference
-- ==== Proof.MergeCases.lean ====
module

public import proofs.«01_k».proof.Proof.Gen.Kernel7Ideal.Value

/-! What one grid point of the merge kernel leaves in its output block, as a function of the blocks it reads. -/

@[expose] public section

noncomputable section

namespace Cert.Merge

open Cert.Kernel7Ideal Cert.Kernel7Ideal.Gen Idealize.ShloMosaic Idealize.ShloMosaic.TcCoe Idealize.SL.Sem

variable {F : FTy → Type} [FloatOps F]

/-- Every load and store of the kernel starts at the window's corner. -/
theorem corner : (![(0 : ℕ), 0] : Fin 2 → ℕ) = fun _ => 0 := by
  funext a; match a with
  | ⟨0, _⟩ => rfl
  | ⟨1, _⟩ => rfl

/-- The point stores its rows. -/
theorem out_point (c : Dev nD) (i : grid0.Coords)
  (arg1 : Memref sig .tc .vmem S256x1024 .bf16) (harg1 : arg1.IsWhole)
  (arg2 : Memref sig .tc .vmem S256x1024 .bf16) (harg2 : arg2.IsWhole)
  (arg3 : Memref sig .tc .vmem S256x2048 .f32) (harg3 : arg3.IsWhole)
  (arg4 : Memref sig .tc .vmem S256x2048 .f32) (harg4 : arg4.IsWhole)
  (arg5 : Memref sig .tc .vmem S256x2048 .f32) (harg5 : arg5.IsWhole)
  (arg6 : Memref sig .tc .vmem S1024x2048 .bf16) (harg6 : arg6.IsWhole)
  (arg7 : Memref sig .tc .vmem S1024x2048 .bf16) (harg7 : arg7.IsWhole)
  (arg8 : Memref sig .tc .vmem S2048x2048 .bf16) (harg8 : arg8.IsWhole)
  (arg9 : Memref sig .tc .vmem S256x2048 .f32) (harg9 : arg9.IsWhole)
    (x0 : Vec F S256x1024 .bf16) (x1 : Vec F S256x1024 .bf16) (x2 : Vec F S256x2048 .f32) (x3 : Vec F S256x2048 .f32) (x4 : Vec F S256x2048 .f32) (x5 : Vec F S1024x2048 .bf16) (x6 : Vec F S1024x2048 .bf16) (x7 : Vec F S2048x2048 .bf16) :
    out0_A_8 c i arg1 harg1 arg2 harg2 arg3 harg3 arg4 harg4 arg5 harg5 arg6 harg6 arg7 harg7 arg8 harg8 arg9 harg9 x0 x1 x2 x3 x4 x5 x6 x7 = k0_pay1 x4 (k0_pay2 x0 x5 x1 x6 x2 x3) (k0_pay3 x7) := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  sl_unfold_words
  simp only [View.canon_unit_zero (S := S256x2048) corner, View.readAt_eq_ld, View.ld_unit_zero (S := S256x2048) corner,
    View.ld_unit_zero (S := S256x1024) corner, View.ld_unit_zero (S := S1024x2048) corner, View.ld_unit_zero (S := S2048x2048) corner,
    harg1.read_unread, harg2.read_unread, harg3.read_unread, harg4.read_unread, harg5.read_unread, harg6.read_unread, harg7.read_unread, harg8.read_unread, harg9.read_unread]

variable (m : (ℓ : Loc nD τ sig) → Buf (Elt F) ℓ) (c : Dev nD)

theorem outs_point (t : Fin cfg0.N) : outsAt0 m c t = k0_pay1 (iblk m c 4 t)
    (k0_pay2 (iblk m c 0 t) (iblk m c 5 t) (iblk m c 1 t) (iblk m c 6 t) (X0_2 m c t) (X0_3 m c t)) (k0_pay3 (iblk m c 7 t)) := by
  unfold outsAt0
  exact out_point ..

end Cert.Merge
-- ==== Proof.MergeMath.lean ====
module

public import proofs.«01_k».proof.Proof.MlstmMath

/-! The merge of the two branches on arrays of extended reals. -/

@[expose] public section

noncomputable section

namespace Cert.Merge

open Idealize.ShloMosaic Cert.Mlstm

/-- One feature of the gated sum of the two branches' rows. -/
def mixed (a b : Fin 1024 → EReal) (g h : Fin 2048 → EReal) (wa wb : Fin 1024 → Fin 2048 → EReal) (f : Fin 2048) : EReal :=
  logistic (g f) * (∑ k, a k * wa k f) + logistic (h f) * (∑ k, b k * wb k f)

/-- One row of the result: the row before the branches and the gated sum's projection. -/
def merged (a b : Fin 1024 → EReal) (g h x : Fin 2048 → EReal) (wa wb : Fin 1024 → Fin 2048 → EReal)
    (w : Fin 2048 → Fin 2048 → EReal) (d : Fin 2048) : EReal := x d + ∑ f, mixed a b g h wa wb f * w f d

end Cert.Merge
-- ==== Proof.MergeReads.lean ====
module

public import proofs.«01_k».proof.Proof.MergeCases
public import proofs.«01_k».proof.Proof.MergeMath
public import Idealize.ShloMosaic.Lib.Pointwise

/-! What the blocks hold that a grid point of the merge kernel reads: point `t` has rows `256 * t …` of the branches, of the
    gates' two halves and of the input, and the whole weights. -/

@[expose] public section

noncomputable section

namespace Cert.Merge

open Cert.Kernel7Ideal Cert.Kernel7Ideal.Gen Idealize.ShloMosaic Idealize.ShloMosaic.TcCoe Idealize.SL.Sem

variable (m : (ℓ : Loc nD τ sig) → Buf (Elt Ideal) ℓ) (c : Dev nD)

/-- The arguments, as arrays of extended reals. -/
abbrev argA (r : Fin 8192) (k : Fin 1024) : EReal := m ((c : Thread nD τ).loc main_arg0) (ix2 r k)
abbrev argB (r : Fin 8192) (k : Fin 1024) : EReal := m ((c : Thread nD τ).loc main_arg1) (ix2 r k)
abbrev argP (r : Fin 8192) (k : Fin 11352) : EReal := m ((c : Thread nD τ).loc main_arg2) (ix2 r k)
abbrev argX (r : Fin 8192) (k : Fin 2048) : EReal := m ((c : Thread nD τ).loc main_arg3) (ix2 r k)
abbrev argWA (k : Fin 1024) (f : Fin 2048) : EReal := m ((c : Thread nD τ).loc main_arg4) (ix2 k f)
abbrev argWB (k : Fin 1024) (f : Fin 2048) : EReal := m ((c : Thread nD τ).loc main_arg5) (ix2 k f)
abbrev argW (k : Fin 2048) (f : Fin 2048) : EReal := m ((c : Thread nD τ).loc main_arg6) (ix2 k f)

theorem entryA (j : S8192x1024.Idx) : (V m c main_v15 j : EReal) = m ((c : Thread nD τ).loc main_arg0) j := by
  have e : V m c main_v15 = (truncf .bf16 (m ((c : Thread nD τ).loc main_arg0) : FVec Ideal S8192x1024 .f32) bitsLt_bf16_f32 :
      FVec Ideal S8192x1024 .bf16) := by
    unfold V hostOps0
    after_results_simp
  rw [e]
  rfl

theorem entryB (j : S8192x1024.Idx) : (V m c main_v16 j : EReal) = m ((c : Thread nD τ).loc main_arg1) j := by
  have e : V m c main_v16 = (truncf .bf16 (m ((c : Thread nD τ).loc main_arg1) : FVec Ideal S8192x1024 .f32) bitsLt_bf16_f32 :
      FVec Ideal S8192x1024 .bf16) := by
    unfold V hostOps0
    after_results_simp
  rw [e]
  rfl

theorem entryWA (j : S1024x2048.Idx) : (V m c main_v17 j : EReal) = m ((c : Thread nD τ).loc main_arg4) j := by
  have e : V m c main_v17 = (truncf .bf16 (m ((c : Thread nD τ).loc main_arg4) : FVec Ideal S1024x2048 .f32) bitsLt_bf16_f32 :
      FVec Ideal S1024x2048 .bf16) := by
    unfold V hostOps0
    after_results_simp
  rw [e]
  rfl

theorem entryWB (j : S1024x2048.Idx) : (V m c main_v18 j : EReal) = m ((c : Thread nD τ).loc main_arg5) j := by
  have e : V m c main_v18 = (truncf .bf16 (m ((c : Thread nD τ).loc main_arg5) : FVec Ideal S1024x2048 .f32) bitsLt_bf16_f32 :
      FVec Ideal S1024x2048 .bf16) := by
    unfold V hostOps0
    after_results_simp
  rw [e]
  rfl

theorem entryW (j : S2048x2048.Idx) : (V m c main_v19 j : EReal) = m ((c : Thread nD τ).loc main_arg6) j := by
  have e : V m c main_v19 = (truncf .bf16 (m ((c : Thread nD τ).loc main_arg6) : FVec Ideal S2048x2048 .f32) bitsLt_bf16_f32 :
      FVec Ideal S2048x2048 .bf16) := by
    unfold V hostOps0
    after_results_simp
  rw [e]
  rfl

/-- The gates are the first columns of the array the kernel stages. -/
theorem entryP (r : Fin 8192) (n : Fin 11264) (h : n.val < 4096) : V m c main_v12 (ix2 r n) = argP m c r ⟨7256 + n.val, by omega⟩ := by
  have e : V m c main_v12 = concatenate S8192x11264 1
     [⟨S8192x4096, extractStridedSlice S8192x4096 ![0, 7256] (m ((c : Thread nD τ).loc main_arg2)) slices_S8192x11352_S8192x4096_0_7256⟩,
      ⟨S8192x1024, extractStridedSlice S8192x1024 ![0, 0] (m ((c : Thread nD τ).loc main_arg2)) slices_S8192x11352_S8192x1024_0_0⟩,
      ⟨S8192x1024, extractStridedSlice S8192x1024 ![0, 1024] (m ((c : Thread nD τ).loc main_arg2)) slices_S8192x11352_S8192x1024_0_1024⟩,
      ⟨S8192x1024, extractStridedSlice S8192x1024 ![0, 2048] (m ((c : Thread nD τ).loc main_arg2)) slices_S8192x11352_S8192x1024_0_2048⟩,
      ⟨S8192x1024, extractStridedSlice S8192x1024 ![0, 3080] (m ((c : Thread nD τ).loc main_arg2)) slices_S8192x11352_S8192x1024_0_3080⟩,
      ⟨S8192x1024, extractStridedSlice S8192x1024 ![0, 4104] (m ((c : Thread nD τ).loc main_arg2)) slices_S8192x11352_S8192x1024_0_4104⟩,
      ⟨S8192x1024, extractStridedSlice S8192x1024 ![0, 5128] (m ((c : Thread nD τ).loc main_arg2)) slices_S8192x11352_S8192x1024_0_5128⟩,
      ⟨S8192x1024, extractStridedSlice S8192x1024 ![0, 6152] (m ((c : Thread nD τ).loc main_arg2)) slices_S8192x11352_S8192x1024_0_6152⟩]
      concatenates_S8192x4096_S8192x1024_S8192x1024_S8192x1024_S8192x1024_S8192x1024_S8192x1024_S8192x1024_S8192x11264_d1 := by
    unfold V hostOps0
    after_results_simp
    dsimp only [Matrix.cons_val]
    rfl
  rw [e]
  pointwise
  rw [dif_pos h]

theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 1)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

theorem lt_32 (t : Fin cfg0.N) : t.val < 32 := lt_of_lt_of_eq t.isLt (show cfg0.N = 32 from N_0)

theorem read_a (t : Fin cfg0.N) (r : Fin 256) (k : Fin 1024) : iblk m c 0 t (ix2 r k) = argA m c ⟨256 * t.val + r.val, by have := lt_32 t; omega⟩ k := by
  show V m c main_v15 (((cfg0.win 0).blk t).view.emb (ix2 r k)) = _
  rw [entryA]
  refine congrArg (m ((c : Thread nD τ).loc main_arg0)) ?_
  obtain ⟨⟨e0, e1⟩, _, _, _, _, _, _, _, _⟩ := idx_facts t
  funext a; apply Fin.ext
  match a with
  | ⟨0, _⟩ => show win0_0.index t (0 : Fin 2) * 256 + 1 * r.val = 256 * t.val + r.val; omega
  | ⟨1, _⟩ => show win0_0.index t (1 : Fin 2) * 1024 + 1 * k.val = k.val; omega

theorem read_b (t : Fin cfg0.N) (r : Fin 256) (k : Fin 1024) : iblk m c 1 t (ix2 r k) = argB m c ⟨256 * t.val + r.val, by have := lt_32 t; omega⟩ k := by
  show V m c main_v16 (((cfg0.win 1).blk t).view.emb (ix2 r k)) = _
  rw [entryB]
  refine congrArg (m ((c : Thread nD τ).loc main_arg1)) ?_
  obtain ⟨_, ⟨e0, e1⟩, _, _, _, _, _, _, _⟩ := idx_facts t
  funext a; apply Fin.ext
  match a with
  | ⟨0, _⟩ => show win0_1.index t (0 : Fin 2) * 256 + 1 * r.val = 256 * t.val + r.val; omega
  | ⟨1, _⟩ => show win0_1.index t (1 : Fin 2) * 1024 + 1 * k.val = k.val; omega

theorem read_x (t : Fin cfg0.N) (r : Fin 256) (k : Fin 2048) : iblk m c 4 t (ix2 r k) = argX m c ⟨256 * t.val + r.val, by have := lt_32 t; omega⟩ k := by
  show V m c main_arg3 (((cfg0.win 4).blk t).view.emb (ix2 r k)) = _
  rw [V_main_arg3]
  refine congrArg (m ((c : Thread nD τ).loc main_arg3)) ?_
  obtain ⟨_, _, _, _, ⟨e0, e1⟩, _, _, _, _⟩ := idx_facts t
  funext a; apply Fin.ext
  match a with
  | ⟨0, _⟩ => show win0_4.index t (0 : Fin 2) * 256 + 1 * r.val = 256 * t.val + r.val; omega
  | ⟨1, _⟩ => show win0_4.index t (1 : Fin 2) * 2048 + 1 * k.val = k.val; omega

theorem read_wa (t : Fin cfg0.N) (f : Fin 1024) (k : Fin 2048) : iblk m c 5 t (ix2 f k) = argWA m c f k := by
  show V m c main_v17 (((cfg0.win 5).blk t).view.emb (ix2 f k)) = _
  rw [entryWA]
  refine congrArg (m ((c : Thread nD τ).loc main_arg4)) ?_
  obtain ⟨_, _, _, _, _, ⟨e0, e1⟩, _, _, _⟩ := idx_facts t
  funext a; apply Fin.ext
  match a with
  | ⟨0, _⟩ => show win0_5.index t (0 : Fin 2) * 1024 + 1 * f.val = f.val; omega
  | ⟨1, _⟩ => show win0_5.index t (1 : Fin 2) * 2048 + 1 * k.val = k.val; omega

theorem read_wb (t : Fin cfg0.N) (f : Fin 1024) (k : Fin 2048) : iblk m c 6 t (ix2 f k) = argWB m c f k := by
  show V m c main_v18 (((cfg0.win 6).blk t).view.emb (ix2 f k)) = _
  rw [entryWB]
  refine congrArg (m ((c : Thread nD τ).loc main_arg5)) ?_
  obtain ⟨_, _, _, _, _, _, ⟨e0, e1⟩, _, _⟩ := idx_facts t
  funext a; apply Fin.ext
  match a with
  | ⟨0, _⟩ => show win0_6.index t (0 : Fin 2) * 1024 + 1 * f.val = f.val; omega
  | ⟨1, _⟩ => show win0_6.index t (1 : Fin 2) * 2048 + 1 * k.val = k.val; omega

theorem read_w (t : Fin cfg0.N) (f : Fin 2048) (k : Fin 2048) : iblk m c 7 t (ix2 f k) = argW m c f k := by
  show V m c main_v19 (((cfg0.win 7).blk t).view.emb (ix2 f k)) = _
  rw [entryW]
  refine congrArg (m ((c : Thread nD τ).loc main_arg6)) ?_
  obtain ⟨_, _, _, _, _, _, _, ⟨e0, e1⟩, _⟩ := idx_facts t
  funext a; apply Fin.ext
  match a with
  | ⟨0, _⟩ => show win0_7.index t (0 : Fin 2) * 2048 + 1 * f.val = f.val; omega
  | ⟨1, _⟩ => show win0_7.index t (1 : Fin 2) * 2048 + 1 * k.val = k.val; omega

theorem read_g (t : Fin cfg0.N) (r : Fin 256) (k : Fin 2048) :
    X0_2 m c t (ix2 r k) = argP m c ⟨256 * t.val + r.val, by have := lt_32 t; omega⟩ ⟨7256 + k.val, by omega⟩ := by
  unfold X0_2 Pipeline.Window.fill
  rw [dif_pos (moved0_2 t _)]
  obtain ⟨y, hy⟩ : ∃ y : ((cfg0.win 2).xblock (cfg0.grid.coords t)).Idx, y = fun a => ⟨((ix2 r k : S256x2048.Idx) a).val,
    ((cfg0.win 2).moved_iff _ _).mp (moved0_2 t (ix2 r k : S256x2048.Idx)) a⟩ := ⟨_, rfl⟩
  refine (congrArg (iblk m c 2 t) hy.symm).trans ?_
  show V m c main_v12 (((cfg0.win 2).blk t).view.emb y) = _
  obtain ⟨_, _, ⟨e0, e1⟩, _, _, _, _, _, _⟩ := idx_facts t
  have hb : ((cfg0.win 2).blk t).view.emb y = (ix2 ⟨256 * t.val + r.val, by have := lt_32 t; omega⟩ ⟨0 + k.val, by omega⟩ : S8192x11264.Idx) := by
    subst hy
    funext a; apply Fin.ext
    match a with
    | ⟨0, _⟩ => show win0_2.index t (0 : Fin 2) * 256 + 1 * r.val = 256 * t.val + r.val; omega
    | ⟨1, _⟩ => show win0_2.index t (1 : Fin 2) * 2048 + 1 * k.val = 0 + k.val; omega
  rw [hb, entryP m c _ _ (by dsimp only; omega)]
  refine congrArg (argP m c _) (Fin.ext ?_)
  dsimp only
  omega

theorem read_h (t : Fin cfg0.N) (r : Fin 256) (k : Fin 2048) :
    X0_3 m c t (ix2 r k) = argP m c ⟨256 * t.val + r.val, by have := lt_32 t; omega⟩ ⟨7256 + (2048 + k.val), by omega⟩ := by
  unfold X0_3 Pipeline.Window.fill
  rw [dif_pos (moved0_3 t _)]
  obtain ⟨y, hy⟩ : ∃ y : ((cfg0.win 3).xblock (cfg0.grid.coords t)).Idx, y = fun a => ⟨((ix2 r k : S256x2048.Idx) a).val,
    ((cfg0.win 3).moved_iff _ _).mp (moved0_3 t (ix2 r k : S256x2048.Idx)) a⟩ := ⟨_, rfl⟩
  refine (congrArg (iblk m c 3 t) hy.symm).trans ?_
  show V m c main_v12 (((cfg0.win 3).blk t).view.emb y) = _
  obtain ⟨_, _, _, ⟨e0, e1⟩, _, _, _, _, _⟩ := idx_facts t
  have hb : ((cfg0.win 3).blk t).view.emb y = (ix2 ⟨256 * t.val + r.val, by have := lt_32 t; omega⟩ ⟨2048 + k.val, by omega⟩ : S8192x11264.Idx) := by
    subst hy
    funext a; apply Fin.ext
    match a with
    | ⟨0, _⟩ => show win0_3.index t (0 : Fin 2) * 256 + 1 * r.val = 256 * t.val + r.val; omega
    | ⟨1, _⟩ => show win0_3.index t (1 : Fin 2) * 2048 + 1 * k.val = 2048 + k.val; omega
  rw [hb, entryP m c _ _ (by dsimp only; omega)]

end Cert.Merge
-- ==== Proof.MergeValue.lean ====
module

public import proofs.«01_k».proof.Proof.MergeReads

/-! The merge kernel's result: every point writes its 256 rows. -/

@[expose] public section

noncomputable section

namespace Cert.Merge

open Cert.Kernel7Ideal Cert.Kernel7Ideal.Gen Idealize.ShloMosaic Idealize.ShloMosaic.TcCoe Idealize.SL.Sem

/-! ## The payloads at an index -/

theorem pay1_apply (x : Vec Ideal S256x2048 .f32) (z : Vec Ideal S256x2048 .bf16) (w : Vec Ideal S2048x2048 .bf16)
    (r : Fin 256) (d : Fin 2048) :
    k0_pay1 (F := Ideal) x z w (ix2 r d) = x (ix2 r d) + ∑ f, z (ix2 r f) * w (ix2 f d) := by
  pointwise [k0_pay1]

theorem pay2_apply (a : Vec Ideal S256x1024 .bf16) (wa : Vec Ideal S1024x2048 .bf16) (b : Vec Ideal S256x1024 .bf16)
    (wb : Vec Ideal S1024x2048 .bf16) (g h : Vec Ideal S256x2048 .f32) (r : Fin 256) (f : Fin 2048) :
    k0_pay2 (F := Ideal) a wa b wb g h (ix2 r f)
      = mixed (fun k => a (ix2 r k)) (fun k => b (ix2 r k)) (fun f => g (ix2 r f)) (fun f => h (ix2 r f))
          (fun k f => wa (ix2 k f)) (fun k f => wb (ix2 k f)) f := by
  pointwise [k0_pay2, mixed, Mlstm.logistic]

theorem pay3_apply (w : Vec Ideal S2048x2048 .bf16) (f d : Fin 2048) : k0_pay3 (F := Ideal) w (ix2 f d) = w (ix2 f d) := by
  pointwise [k0_pay3]

variable (m : (ℓ : Loc nD τ sig) → Buf (Elt Ideal) ℓ) (c : Dev nD)

/-- Row `r` of the result. -/
abbrev rowAt (r : Fin 8192) (d : Fin 2048) : EReal :=
  merged (argA m c r) (argB m c r) (fun f => argP m c r ⟨7256 + f.val, by omega⟩) (fun f => argP m c r ⟨7256 + (2048 + f.val), by omega⟩)
    (argX m c r) (argWA m c) (argWB m c) (argW m c) d

theorem out_block (t : Fin cfg0.N) (r : Fin 256) (d : Fin 2048) :
    outsAt0 m c t (ix2 r d) = rowAt m c ⟨256 * t.val + r.val, by have := lt_32 t; omega⟩ d := by
  rw [outs_point, pay1_apply]
  simp only [pay2_apply, pay3_apply, read_a, read_b, read_g, read_h, read_x, read_wa, read_wb, read_w]
  rfl

/-! ## The array after the run -/

/-- The merged rows, as the result array. -/
def target : Buf (Elt Ideal) ((c : Thread nD τ).loc main_v20) := fun i : S8192x2048.Idx => rowAt m c (i 0) (i 1)

theorem flushed (t : Fin cfg0.N) :
    (dats m 0 c).flushed 8 t = ((cfg0.win 8).blk t).view.read (Elt Ideal) (target m c) := by
  rw [Cert.Kernel7Ideal.Value.flushed8]
  refine funext fun (y : S256x2048.Idx) => ?_
  obtain ⟨_, _, _, _, _, _, _, _, e0, e1⟩ := idx_facts t
  have ht := lt_32 t
  have hb : (((cfg0.win 8).blk t).view.emb y : S8192x2048.Idx)
      = ix2 ⟨256 * t.val + (y 0).val, by have : (y 0).val < 256 := (y 0).isLt; omega⟩ (y 1) := by
    funext a; apply Fin.ext
    match a with
    | ⟨0, _⟩ => show win0_8.index t (0 : Fin 2) * 256 + 1 * (y 0).val = 256 * t.val + (y 0).val; omega
    | ⟨1, _⟩ => show win0_8.index t (1 : Fin 2) * 2048 + 1 * (y 1).val = (y 1).val; omega
  have hx : ((cfg0.win 8).xinj (grid0.coords t) y : S256x2048.Idx) = ix2 (y 0) (y 1) := by
    funext a; apply Fin.ext
    match a with
    | ⟨0, _⟩ => rfl
    | ⟨1, _⟩ => rfl
  refine ((congrArg (outsAt0 m c t) hx).trans (out_block m c t (y 0) (y 1))).trans ?_
  exact (congrArg (target m c) hb).symm

theorem cover (i : S8192x2048.Idx) : ∃ t : Fin cfg0.N, (cfg0.win 8).flush t = true ∧ i ∈ ((cfg0.win 8).blk t).view.set := by
  have hi0 : (i 0).val < 8192 := (i 0).isLt
  have hi1 : (i 1).val < 2048 := (i 1).isLt
  have hN : (i 0).val / 256 < cfg0.N := lt_of_lt_of_eq (by omega) N_0.symm
  refine ⟨⟨(i 0).val / 256, hN⟩, flush0_8 _, ?_⟩
  obtain ⟨_, _, _, _, _, _, _, _, e0, e1⟩ := idx_facts ⟨(i 0).val / 256, hN⟩
  dsimp only at e0 e1
  show i ∈ ((View.whole main_v20).slice (win0_8.rect (⟨(i 0).val / 256, hN⟩ : Fin cfg0.N))).set
  rw [View.set_slice_whole, Rect.mem_set_unit]
  intro a
  match a with
  | ⟨0, _⟩ => show win0_8.index _ (0 : Fin 2) * 256 ≤ (i 0).val ∧ (i 0).val < win0_8.index _ (0 : Fin 2) * 256 + 256; omega
  | ⟨1, _⟩ => show win0_8.index _ (1 : Fin 2) * 2048 ≤ (i 1).val ∧ (i 1).val < win0_8.index _ (1 : Fin 2) * 2048 + 2048; omega

theorem final : (dats m 0 c).arrAt 8 cfg0.N = target m c :=
  (dats m 0 c).arrAt_eq_of_cover 8 _ (fun t _ => flushed m c t) cover

/-- The kernel's run: the merged rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v20) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Cert.Kernel7Ideal.Value.run_blocks m ρ)

end Cert.Merge
-- ==== Proof.MergeReference.lean ====
module

public import proofs.«01_k».proof.Proof.Gen.Reference7Ideal.Run
public import proofs.«01_k».proof.Proof.MergeMath

/-! The merge reference's result is the merged rows. -/

@[expose] public section

noncomputable section

namespace Cert.MergeReference

open Cert.Merge Cert.Reference7Ideal Idealize.ShloMosaic Idealize.ShloMosaic.TcCoe Idealize.SL.Sem

variable (m : (ℓ : Loc nD τ sig) → Buf (Elt Ideal) ℓ) (c : Dev nD)

/-- The merged rows of the reference's arguments. -/
def target : Buf (Elt Ideal) ((c : Thread nD τ).loc main_v15) := fun i : S8192x2048.Idx =>
  merged (fun k => m ((c : Thread nD τ).loc main_arg0) (ix2 (i 0) k)) (fun k => m ((c : Thread nD τ).loc main_arg1) (ix2 (i 0) k))
    (fun f => m ((c : Thread nD τ).loc main_arg2) (ix2 (i 0) ⟨7256 + f.val, by omega⟩)) (fun f => m ((c : Thread nD τ).loc main_arg2) (ix2 (i 0) ⟨7256 + (2048 + f.val), by omega⟩))
    (fun d => m ((c : Thread nD τ).loc main_arg3) (ix2 (i 0) d)) (fun k f => m ((c : Thread nD τ).loc main_arg4) (ix2 k f))
    (fun k f => m ((c : Thread nD τ).loc main_arg5) (ix2 k f)) (fun f d => m ((c : Thread nD τ).loc main_arg6) (ix2 f d)) (i 1)

/-- The reference's run: the merged rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v15) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun _ h c => ⟨(h c).1.trans ?_, (h c).2⟩) (Cert.Reference7Ideal.Value.run m ρ)
  funext i
  unfold target
  pointwise [merged, mixed, Mlstm.logistic]
  simp only [zero_sub]

end Cert.MergeReference
-- ==== Proof.InprojCases.lean ====
module

public import proofs.«01_k».proof.Proof.Gen.Kernel9.Frame
public import proofs.«01_k».proof.Proof.Gen.Kernel9Ideal.Frame
public import Idealize.ShloMosaic.Lib.Pipeline.Value
public import Idealize.ShloMosaic.Lib.Pointwise

/-! The input projection's call: its table of block starts is a constant, every block it names lies inside the weights, and
    what one grid point leaves in its output block and in its scratch. -/

@[expose] public section

noncomputable section

namespace Cert.Inproj

open Idealize.ShloMosaic Idealize.ShloMosaic.TcCoe Idealize.SL.Sem

section Bits
open Cert.Kernel9 Cert.Kernel9.Gen

set_option backward.proofsInPublic true in
/-- The table of block starts. -/
def table : pre0.Contents (Elt Bits) :=
  fun | ⟨0, _⟩ => fun x => lit0 (S11.rowMajor x) | ⟨_ + 1, h⟩ => absurd h (by simp)

theorem tbl_eq (m : (ℓ : Loc nD τ sig) → Buf (Elt Bits) ℓ) : tbl m = table := by
  funext j
  match j with
  | ⟨0, _⟩ =>
    show V m (0 : Dev nD) main_c = fun x => lit0 (S11.rowMajor x)
    unfold V hostOps0
    after_results_simp
    rfl

theorem ok (m : (ℓ : Loc nD τ sig) → Buf (Elt Bits) ℓ) : Ok (F := Bits) m := by
  unfold Ok; rw [tbl_eq m]; decide +kernel

end Bits

open Cert.Kernel9Ideal Cert.Kernel9Ideal.Gen

set_option backward.proofsInPublic true in
/-- The same table, of the program over the extended reals. -/
def tableIdeal : pre0.Contents (Elt Ideal) :=
  fun | ⟨0, _⟩ => fun x => lit0 (S11.rowMajor x) | ⟨_ + 1, h⟩ => absurd h (by simp)

theorem tbl_ideal_eq (m : (ℓ : Loc nD τ sig) → Buf (Elt Ideal) ℓ) : tbl m = tableIdeal := by
  funext j
  match j with
  | ⟨0, _⟩ =>
    show V m (0 : Dev nD) main_c = fun x => lit0 (S11.rowMajor x)
    unfold V hostOps0
    after_results_simp
    rfl

theorem ok_ideal (m : (ℓ : Loc nD τ sig) → Buf (Elt Ideal) ℓ) : Ok (F := Ideal) m := by
  unfold Ok; rw [tbl_ideal_eq m]; decide +kernel

/-- Every load and store of the kernel starts at the window's corner. -/
theorem corner2 : (![(0 : ℕ), 0] : Fin 2 → ℕ) = fun _ => 0 := by
  funext a; match a with
  | ⟨0, _⟩ => rfl
  | ⟨1, _⟩ => rfl

section Cases

variable {F : FTy → Type} [FloatOps F]
variable (c : Dev nD) (i : grid0.Coords)
  (arg3 : Memref sig .tc .vmem S1024x2048 .bf16) (harg3 : arg3.IsWhole)
  (arg4 : Memref sig .tc .vmem S1024x2048 .f32) (harg4 : arg4.IsWhole)
  (arg5 : Memref sig .tc .vmem S1024x1024 .f32) (harg5 : arg5.IsWhole)
  (arg6 : Memref sig .tc .vmem S2048x1024 .bf16) (harg6 : arg6.IsWhole)
  (x0 : Vec F S1024x2048 .bf16) (x1 : Vec F S1024x2048 .f32) (xt0 : TbBuf0 (F := F) c tbM0_0)

/-- The first row block of a column block stores the transposed weights. -/
theorem scratch_first (hc0 : cond0_0 i) :
    sout0_A_0 c i arg3 harg3 arg4 harg4 arg5 harg5 arg6 harg6 hc0 x0 x1 xt0 = k0_pay1 x1 := by
  unfold sout0_A_0
  rw [View.read_writes_eq_canon _ _ _ (scover0_A_0 c i arg3 harg3 arg4 harg4 arg5 harg5 arg6 harg6 hc0 x0 x1 xt0)]
  unfold kernelRun0_A
  dsimp only
  sl_unfold_words
  simp only [View.canon_unit_zero (S := S2048x1024) corner2, View.readAt_eq_ld, View.ld_unit_zero (S := S1024x2048) corner2,
    harg3.read_unread, harg4.read_unread]

/-- The first row block's product, with the weights just transposed. -/
theorem out_first (hc0 : cond0_0 i) :
    out0_A_2 c i arg3 harg3 arg4 harg4 arg5 harg5 arg6 harg6 hc0 x0 x1 xt0 = k0_pay2 x0 (k0_pay1 x1) := by
  unfold out0_A_2
  rw [View.read_writes_eq_canon _ _ _ (cover0_A_2 c i arg3 harg3 arg4 harg4 arg5 harg5 arg6 harg6 hc0 x0 x1 xt0)]
  unfold kernelRun0_A
  dsimp only
  sl_unfold_words
  simp only [View.canon_unit_zero (S := S1024x1024) corner2, View.readAt_eq_ld, View.ld_unit_zero (S := S1024x2048) corner2,
    View.ld_unit_zero (S := S2048x1024) corner2, View.readCov_unit_zero (S := S2048x1024) _ corner2,
    harg3.read_unread, harg4.read_unread]

/-- A later row block's product, with the weights kept. -/
theorem out_later (hc0 : ¬cond0_0 i) (w : Vec F S2048x1024 .bf16) :
    out0_B_2 c i arg3 harg3 arg4 harg4 arg5 harg5 arg6 harg6 hc0 x0 x1 xt0 w = k0_pay2 x0 w := by
  unfold out0_B_2
  rw [View.read_writes_eq_canon _ _ _ (cover0_B_2 c i arg3 harg3 arg4 harg4 arg5 harg5 arg6 harg6 hc0 x0 x1 xt0 w)]
  unfold kernelRun0_B
  dsimp only
  sl_unfold_words
  simp only [View.canon_unit_zero (S := S1024x1024) corner2, View.readAt_eq_ld, View.ld_unit_zero (S := S1024x2048) corner2,
    View.ld_unit_zero (S := S2048x1024) corner2, harg3.read_unread, harg4.read_unread, harg6.read_unread]

end Cases

variable (m : (ℓ : Loc nD τ sig) → Buf (Elt Ideal) ℓ) (c : Dev nD)

/-- The rows and the weights that point `t` reads. -/
def blockX (t : Fin (cfgM m (ok_ideal m)).N) : Vec Ideal S1024x2048 .bf16 := iblk m (ok_ideal m) c 0 t
def blockW (t : Fin (cfgM m (ok_ideal m)).N) : Vec Ideal S1024x2048 .f32 := iblk m (ok_ideal m) c 1 t

/-- After the first row block of a column block. -/
theorem outs_first (t : Fin (cfgM m (ok_ideal m)).N) (h0 : t.val % 8 = 0) :
    outsAt0 m (ok_ideal m) c t.val t.isLt = (k0_pay2 (blockX m c t) (k0_pay1 (blockW m c t)), k0_pay1 (blockW m c t)) := by
  refine (outsAt0_A m (ok_ideal m) c t h0).trans (congrArg₂ Prod.mk ?_ ?_)
  · exact out_first c (grid0.coords t) _ _ _ _ _ _ _ _ (iblk m (ok_ideal m) c 0 t) (iblk m (ok_ideal m) c 1 t) (tbl m 0) _
  · exact scratch_first c (grid0.coords t) _ _ _ _ _ _ _ _ (iblk m (ok_ideal m) c 0 t) (iblk m (ok_ideal m) c 1 t) (tbl m 0) _

/-- After a later row block. -/
theorem outs_later (t : Fin (cfgM m (ok_ideal m)).N) (h0 : ¬t.val % 8 = 0) :
    outsAt0 m (ok_ideal m) c t.val t.isLt
      = (k0_pay2 (blockX m c t) (outsAt0 m (ok_ideal m) c (t.val - 1) (Nat.lt_of_le_of_lt (Nat.sub_le _ _) t.isLt)).2,
        (outsAt0 m (ok_ideal m) c (t.val - 1) (Nat.lt_of_le_of_lt (Nat.sub_le _ _) t.isLt)).2) := by
  refine (outsAt0_B m (ok_ideal m) c t h0).trans (congrArg₂ Prod.mk ?_ rfl)
  exact out_later c (grid0.coords t) _ _ _ _ _ _ _ _ (iblk m (ok_ideal m) c 0 t) (iblk m (ok_ideal m) c 1 t) (tbl m 0) _ _

end Cert.Inproj
-- ==== Proof.InprojValue.lean ====
module

public import proofs.«01_k».proof.Proof.InprojCases

/-! The input projection's result: point `8 * g + i` multiplies rows `1024 * i …` with the 1024 columns that the table
    names for `g`, so the result's columns are the gate's, the mLSTM's and the attention's, side by side. -/

@[expose] public section

noncomputable section

namespace Cert.Inproj

open Cert.Kernel9Ideal Cert.Kernel9Ideal.Gen Idealize.ShloMosaic Idealize.ShloMosaic.TcCoe Idealize.SL.Sem

/-- The weights' column that the result's column `n` is of. -/
def column (n : Fin 11264) : Fin 11352 :=
  if h : n.val < 4096 then ⟨7256 + n.val, by omega⟩ else if h' : n.val < 7168 then ⟨n.val - 4096, by omega⟩ else ⟨n.val - 4088, by omega⟩

/-- The product of a row and the weights' column. -/
def product (x : Fin 2048 → EReal) (w : Fin 2048 → Fin 11352 → EReal) (n : Fin 11264) : EReal := ∑ k, x k * w k (column n)

/-! ## The payloads at an index -/

theorem pay1_apply (w : Vec Ideal S1024x2048 .f32) (k : Fin 2048) (f : Fin 1024) : k0_pay1 w (ix2 k f) = w (ix2 f k) := by
  pointwise [k0_pay1]

theorem pay2_apply (x : Vec Ideal S1024x2048 .bf16) (w : Vec Ideal S2048x1024 .bf16) (r f : Fin 1024) :
    k0_pay2 x w (ix2 r f) = ∑ k, x (ix2 r k) * w (ix2 k f) := by
  pointwise [k0_pay2]

/-! ## What the blocks hold -/

variable (m : (ℓ : Loc nD τ sig) → Buf (Elt Ideal) ℓ) (c : Dev nD)

abbrev argX (r : Fin 8192) (k : Fin 2048) : EReal := m ((c : Thread nD τ).loc main_arg0) (ix2 r k)
abbrev argW (k : Fin 2048) (n : Fin 11352) : EReal := m ((c : Thread nD τ).loc main_arg1) (ix2 k n)

theorem entryX (j : S8192x2048.Idx) : (V m c main_v7 j : EReal) = m ((c : Thread nD τ).loc main_arg0) j := by
  have e : V m c main_v7 = (truncf .bf16 (m ((c : Thread nD τ).loc main_arg0) : FVec Ideal S8192x2048 .f32) bitsLt_bf16_f32 :
      FVec Ideal S8192x2048 .bf16) := by
    unfold V hostOps0
    after_results_simp
  rw [e]
  rfl

theorem entryW (n : Fin 11352) (k : Fin 2048) : V m c main_v0 (ix2 n k) = argW m c k n := by
  have e : V m c main_v0 = transpose S11352x2048 [1, 0] (m ((c : Thread nD τ).loc main_arg1)) transposes_S2048x11352_S11352x2048_1_0 := by
    unfold V hostOps0
    after_results_simp
  rw [e]
  pointwise

theorem lt_88 (t : Fin (cfgM m (ok_ideal m)).N) : t.val < 88 := lt_of_lt_of_eq t.isLt (show (cfgM m (ok_ideal m)).N = 88 from N_0)

theorem idx_facts : ∀ t : Fin grid0.N, cc0_transform_0 (grid0.coords t) (0 : Fin 2) = t.val % 8
    ∧ cc0_transform_0 (grid0.coords t) (1 : Fin 2) = 0
    ∧ cc0_transform_2 (grid0.coords t) (0 : Fin 2) = t.val % 8 ∧ cc0_transform_2 (grid0.coords t) (1 : Fin 2) = t.val / 8 := by
  decide +kernel

theorem start_table : ∀ t : Fin grid0.N,
    cc0_transform_1 (F := Ideal) k0_off1_inb numel1_S1 tableIdeal (grid0.coords t) (0 : Fin 2)
      = (column ⟨1024 * (t.val / 8), by have : t.val < 88 := lt_of_lt_of_eq t.isLt N_0; omega⟩).val
    ∧ cc0_transform_1 (F := Ideal) k0_off1_inb numel1_S1 tableIdeal (grid0.coords t) (1 : Fin 2) = 0 := by
  decide +kernel

theorem start (t : Fin grid0.N) :
    cc0_transform_1 k0_off1_inb numel1_S1 (tbl m) (grid0.coords t) (0 : Fin 2)
      = (column ⟨1024 * (t.val / 8), by have : t.val < 88 := lt_of_lt_of_eq t.isLt N_0; omega⟩).val
    ∧ cc0_transform_1 k0_off1_inb numel1_S1 (tbl m) (grid0.coords t) (1 : Fin 2) = 0 := by
  rw [tbl_ideal_eq]; exact start_table t

theorem column_val (n : Fin 11264) : (column n).val
    = if n.val < 4096 then 7256 + n.val else if n.val < 7168 then n.val - 4096 else n.val - 4088 := by
  unfold column
  split_ifs <;> rfl

/-- The columns of one block of the result come from one run of the weights' columns. -/
theorem column_block (g : Fin 11) (f : Fin 1024) :
    (column ⟨1024 * g.val + f.val, by omega⟩).val = (column ⟨1024 * g.val, by omega⟩).val + f.val := by
  rw [column_val, column_val]
  dsimp only
  split_ifs <;> omega

theorem read_x (t : Fin (cfgM m (ok_ideal m)).N) (r : Fin 1024) (k : Fin 2048) :
    blockX m c t (ix2 r k) = argX m c ⟨1024 * (t.val % 8) + r.val, by omega⟩ k := by
  let y : (((cfgM m (ok_ideal m)).win 0).xblock ((cfgM m (ok_ideal m)).grid.coords t)).Idx := (ix2 r k : S1024x2048.Idx)
  refine (entryX m c ((((cfgM m (ok_ideal m)).win 0).blk t).view.emb y)).trans ?_
  refine congrArg (m ((c : Thread nD τ).loc main_arg0)) ?_
  obtain ⟨e0, e1, _⟩ := idx_facts t
  funext a; apply Fin.ext
  match a with
  | ⟨0, _⟩ => show cc0_transform_0 (grid0.coords t) (0 : Fin 2) * 1024 + 1 * r.val = 1024 * (t.val % 8) + r.val; omega
  | ⟨1, _⟩ => show cc0_transform_0 (grid0.coords t) (1 : Fin 2) * 2048 + 1 * k.val = k.val; omega

theorem read_w (t : Fin (cfgM m (ok_ideal m)).N) (f : Fin 1024) (k : Fin 2048) :
    blockW m c t (ix2 f k) = argW m c k (column ⟨1024 * (t.val / 8) + f.val, by have := lt_88 m t; omega⟩) := by
  let y : (((cfgM m (ok_ideal m)).win 1).xblock ((cfgM m (ok_ideal m)).grid.coords t)).Idx := (ix2 f k : S1024x2048.Idx)
  refine Eq.trans ?_ (entryW m c _ k)
  show V m c main_v0 ((((cfgM m (ok_ideal m)).win 1).blk t).view.emb y) = _
  refine congrArg (V m c main_v0) ?_
  obtain ⟨e0, e1⟩ := start m t
  have e2 := column_block ⟨t.val / 8, by have := lt_88 m t; omega⟩ f
  dsimp only at e2
  funext a; apply Fin.ext
  match a with
  | ⟨0, _⟩ =>
    show cc0_transform_1 k0_off1_inb numel1_S1 (tbl m) (grid0.coords t) (0 : Fin 2) + 1 * f.val = (column _).val
    omega
  | ⟨1, _⟩ =>
    show cc0_transform_1 k0_off1_inb numel1_S1 (tbl m) (grid0.coords t) (1 : Fin 2) + 1 * k.val = k.val
    omega

/-! ## The kept weights and the blocks -/

/-- After every point of column block `g` the scratch holds the block's columns. -/
theorem kept (g : Fin 11) : ∀ (i : ℕ) (_ : i ≤ 7) (n : ℕ) (hn : n < (cfgM m (ok_ideal m)).N) (_ : n = 8 * g.val + i)
    (k : Fin 2048) (f : Fin 1024),
    (outsAt0 m (ok_ideal m) c n hn).2 (ix2 k f) = argW m c k (column ⟨1024 * g.val + f.val, by omega⟩) := by
  intro i
  induction i with
  | zero =>
    intro _ n hn e k f
    have hd : n / 8 = g.val := by omega
    rw [outs_first m c ⟨n, hn⟩ (by dsimp only; omega)]
    dsimp only
    rw [pay1_apply, read_w]
    simp only [hd]
  | succ i ih =>
    intro hi n hn e k f
    rw [outs_later m c ⟨n, hn⟩ (by dsimp only; omega)]
    exact ih (by omega) (n - 1) (by omega) (by omega) k f

/-- Every point's output block is its rows' products. -/
theorem out_block (t : Fin (cfgM m (ok_ideal m)).N) (r f : Fin 1024) :
    (outsAt0 m (ok_ideal m) c t.val t.isLt).1 (ix2 r f)
      = product (argX m c ⟨1024 * (t.val % 8) + r.val, by omega⟩) (argW m c)
          ⟨1024 * (t.val / 8) + f.val, by have := lt_88 m t; omega⟩ := by
  have ht := lt_88 m t
  unfold product
  by_cases h0 : t.val % 8 = 0
  · rw [outs_first m c t h0]
    dsimp only
    rw [pay2_apply]
    simp only [pay1_apply, read_x, read_w]
  · rw [outs_later m c t h0]
    dsimp only
    rw [pay2_apply]
    have hk (k : Fin 2048) := kept m c ⟨t.val / 8, by omega⟩ (t.val % 8 - 1) (by omega) (t.val - 1) (by omega) (by dsimp only; omega) k f
    simp only [hk, read_x]

/-! ## The array after the run -/

/-- The products, as the result array. -/
def target : Buf (Elt Ideal) ((c : Thread nD τ).loc main_v8) := fun i : S8192x11264.Idx => product (argX m c (i 0)) (argW m c) (i 1)

theorem flushed (t : Fin (cfgM m (ok_ideal m)).N) :
    (dats m (ok_ideal m) 0 c).flushed 2 t = (((cfgM m (ok_ideal m)).win 2).blk t).view.read (Elt Ideal) (target m c) := by
  show ((cfgM m (ok_ideal m)).win 2).cut (grid0.coords t) ((dats m (ok_ideal m) 0 c).after 2 t) = _
  rw [after0_2]
  refine funext fun (y : S1024x1024.Idx) => ?_
  obtain ⟨_, _, e0, e1⟩ := idx_facts t
  have ht := lt_88 m t
  have hb : ((((cfgM m (ok_ideal m)).win 2).blk t).view.emb y : S8192x11264.Idx)
      = ix2 ⟨1024 * (t.val % 8) + (y 0).val, by have : (y 0).val < 1024 := (y 0).isLt; omega⟩
        ⟨1024 * (t.val / 8) + (y 1).val, by have : (y 1).val < 1024 := (y 1).isLt; omega⟩ := by
    funext a; apply Fin.ext
    match a with
    | ⟨0, _⟩ => show cc0_transform_2 (grid0.coords t) (0 : Fin 2) * 1024 + 1 * (y 0).val = 1024 * (t.val % 8) + (y 0).val; omega
    | ⟨1, _⟩ => show cc0_transform_2 (grid0.coords t) (1 : Fin 2) * 1024 + 1 * (y 1).val = 1024 * (t.val / 8) + (y 1).val; omega
  have hx : (((cfgM m (ok_ideal m)).win 2).xinj (grid0.coords t) y : S1024x1024.Idx) = ix2 (y 0) (y 1) := by
    funext a; apply Fin.ext
    match a with
    | ⟨0, _⟩ => rfl
    | ⟨1, _⟩ => rfl
  refine ((congrArg (outsAt0 m (ok_ideal m) c t.val t.isLt).1 hx).trans (out_block m c t (y 0) (y 1))).trans ?_
  exact (congrArg (target m c) hb).symm

theorem cover (i : S8192x11264.Idx) : ∃ t : Fin (cfgM m (ok_ideal m)).N,
    ((cfgM m (ok_ideal m)).win 2).flush t = true ∧ i ∈ (((cfgM m (ok_ideal m)).win 2).blk t).view.set := by
  have hi0 : (i 0).val < 8192 := (i 0).isLt
  have hi1 : (i 1).val < 11264 := (i 1).isLt
  obtain ⟨n, hn⟩ : ∃ n, n = 8 * ((i 1).val / 1024) + (i 0).val / 1024 := ⟨_, rfl⟩
  have hN : n < (cfgM m (ok_ideal m)).N := lt_of_lt_of_eq (by omega) N_0.symm
  refine ⟨⟨n, hN⟩, flush0_2 _ _, ?_⟩
  obtain ⟨_, _, e0, e1⟩ := idx_facts ⟨n, hN⟩
  dsimp only at e0 e1
  refine (congrArg (i ∈ ·) (View.set_slice_whole main_v8 (((cfgM m (ok_ideal m)).win 2).rect
    (⟨n, hN⟩ : Fin (cfgM m (ok_ideal m)).N)))).mpr ?_
  refine (Rect.mem_set_unit ..).mpr ?_
  intro a
  match a with
  | ⟨0, _⟩ =>
    show cc0_transform_2 (grid0.coords ⟨n, hN⟩) (0 : Fin 2) * 1024 ≤ (i 0).val
      ∧ (i 0).val < cc0_transform_2 (grid0.coords ⟨n, hN⟩) (0 : Fin 2) * 1024 + 1024
    omega
  | ⟨1, _⟩ =>
    show cc0_transform_2 (grid0.coords ⟨n, hN⟩) (1 : Fin 2) * 1024 ≤ (i 1).val
      ∧ (i 1).val < cc0_transform_2 (grid0.coords ⟨n, hN⟩) (1 : Fin 2) * 1024 + 1024
    omega

theorem final : (dats m (ok_ideal m) 0 c).arrAt 2 (cfgM m (ok_ideal m)).N = target m c :=
  (dats m (ok_ideal m) 0 c).arrAt_eq_of_cover 2 _ (fun t _ => flushed m c t) (cover m)

/-- The kernel's run: the products, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v8) = target m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).2 main_arg0 (by decide : main_arg0 ∈ Pipeline.restRefs sig spec0)).trans (V_main_arg0 m c),
      ((h c).2 main_arg1 (by decide : main_arg1 ∈ Pipeline.restRefs sig spec0)).trans (V_main_arg1 m c)⟩)
    (run_main m ρ (ok_ideal m))

end Cert.Inproj
-- ==== Proof.InprojReference.lean ====
module

public import proofs.«01_k».proof.Proof.Gen.Reference9Ideal.Run
public import proofs.«01_k».proof.Proof.InprojValue

/-! The input projection's reference gives the same products. -/

@[expose] public section

noncomputable section

namespace Cert.InprojReference

open Cert.Inproj Cert.Reference9Ideal Idealize.ShloMosaic Idealize.ShloMosaic.TcCoe Idealize.SL.Sem

variable (m : (ℓ : Loc nD τ sig) → Buf (Elt Ideal) ℓ) (c : Dev nD)

/-- The products of the reference's arguments. -/
def target : Buf (Elt Ideal) ((c : Thread nD τ).loc main_v4) := fun i : S8192x11264.Idx =>
  product (fun k => m ((c : Thread nD τ).loc main_arg0) (ix2 (i 0) k)) (fun k n => m ((c : Thread nD τ).loc main_arg1) (ix2 k n)) (i 1)

/-- The reference's run: the products, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4) = target m c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Cert.Reference9Ideal.Value.run m ρ)
  funext i
  unfold target product column
  by_cases h : (i 1).val < 4096
  · rw [dif_pos h]
    pointwise
    rw [dif_pos h]
  · rw [dif_neg h]
    by_cases h' : (i 1).val < 7168
    · rw [dif_pos h']
      pointwise
      rw [dif_neg h, dif_pos (by omega)]
    · rw [dif_neg h']
      pointwise
      rw [dif_neg h, dif_neg (by omega)]
      have hn (p : 3080 + ((i 1).val - 4096 - 3072) < 11352) (q : (i 1).val - 4088 < 11352) :
          (⟨3080 + ((i 1).val - 4096 - 3072), p⟩ : Fin 11352) = ⟨(i 1).val - 4088, q⟩ := Fin.ext (by dsimp only; omega)
      rw [hn _ (by have : (i 1).val < 11264 := (i 1).isLt; omega)]

end Cert.InprojReference
-- ==== Proof.SmallMath.lean ====
module

public import Idealize.ShloMosaic.Lib.Pointwise

/-! The small columns of the input projection on arrays of extended reals. -/

@[expose] public section

noncomputable section

namespace Cert.Small

open Idealize.ShloMosaic

/-- Column `j` of the packed weights: the indexer's keys, its head weights, the two gates, and columns of zeros. -/
def weight (w : Fin 2048 → Fin 11352 → EReal) (k : Fin 2048) (j : Fin 128) : EReal :=
  if h : j.val < 64 then w k ⟨7176 + j.val, by omega⟩
  else if h : j.val - 64 < 16 then w k ⟨7240 + (j.val - 64), by omega⟩
  else if h : j.val - 64 - 16 < 4 then w k ⟨3072 + (j.val - 64 - 16), by omega⟩
  else if h : j.val - 64 - 16 - 4 < 4 then w k ⟨3076 + (j.val - 64 - 16 - 4), by omega⟩
  else 0

/-- Entry `j` of the projected row. -/
def product (x : Fin 2048 → EReal) (w : Fin 2048 → Fin 11352 → EReal) (j : Fin 128) : EReal := ∑ k, x k * weight w k j

end Cert.Small
-- ==== Proof.SmallValue.lean ====
module

public import proofs.«01_k».proof.Proof.Gen.Kernel5Ideal.Value
public import proofs.«01_k».proof.Proof.SmallMath

/-! The small projection's kernel: point `t` writes rows `1024 * t …` of the product with the packed weights. -/

@[expose] public section

noncomputable section

namespace Cert.Small

open Cert.Small Cert.Kernel5Ideal Cert.Kernel5Ideal.Gen Idealize.ShloMosaic Idealize.ShloMosaic.TcCoe Idealize.SL.Sem

/-- Every load and store of the kernel starts at the window's corner. -/
theorem corner : (![(0 : ℕ), 0] : Fin 2 → ℕ) = fun _ => 0 := by
  funext a; match a with
  | ⟨0, _⟩ => rfl
  | ⟨1, _⟩ => rfl

/-- The point stores its product. -/
theorem out_point (x0 : Vec Ideal S1024x2048 .bf16) (x1 : Vec Ideal S128x2048 .f32) : out0_2 x0 x1 = k0_pay1 x0 x1 := by
  unfold out0_2
  unfold r0_0 r0_1 r0_2
  simp only [View.canon_unit_zero (S := S1024x128) corner, View.ld_unit_zero (S := S1024x2048) corner,
    View.ld_unit_zero (S := S128x2048) corner]

theorem pay1_apply (x : Vec Ideal S1024x2048 .bf16) (w : Vec Ideal S128x2048 .f32) (r : Fin 1024) (j : Fin 128) :
    k0_pay1 (F := Ideal) x w (ix2 r j) = ∑ k, x (ix2 r k) * w (ix2 j k) := by
  pointwise [k0_pay1]

variable (m : (ℓ : Loc nD τ sig) → Buf (Elt Ideal) ℓ) (c : Dev nD)

/-- The arguments, as arrays of extended reals. -/
abbrev argX (r : Fin 8192) (k : Fin 2048) : EReal := m ((c : Thread nD τ).loc main_arg0) (ix2 r k)
abbrev argW (k : Fin 2048) (n : Fin 11352) : EReal := m ((c : Thread nD τ).loc main_arg1) (ix2 k n)

/-! ## What the windows' arrays hold -/

theorem entryX (j : S8192x2048.Idx) : (V m c main_v7 j : EReal) = m ((c : Thread nD τ).loc main_arg0) j := by
  have e : V m c main_v7 = (truncf .bf16 (m ((c : Thread nD τ).loc main_arg0) : FVec Ideal S8192x2048 .f32) bitsLt_bf16_f32 :
      FVec Ideal S8192x2048 .bf16) := by
    unfold V hostOps0
    after_results_simp
  rw [e]
  rfl

/-- The packed weights, transposed. -/
theorem entryW (j : Fin 128) (k : Fin 2048) : V m c main_v6 (ix2 j k) = weight (argW m c) k j := by
  have e : V m c main_v6 = concatenate S128x2048 0
     [⟨S64x2048, extractStridedSlice S64x2048 ![7176, 0] (transpose S11352x2048 [1, 0] (m ((c : Thread nD τ).loc main_arg1)) transposes_S2048x11352_S11352x2048_1_0) slices_S11352x2048_S64x2048_7176_0⟩,
      ⟨S16x2048, extractStridedSlice S16x2048 ![7240, 0] (transpose S11352x2048 [1, 0] (m ((c : Thread nD τ).loc main_arg1)) transposes_S2048x11352_S11352x2048_1_0) slices_S11352x2048_S16x2048_7240_0⟩,
      ⟨S4x2048, extractStridedSlice S4x2048 ![3072, 0] (transpose S11352x2048 [1, 0] (m ((c : Thread nD τ).loc main_arg1)) transposes_S2048x11352_S11352x2048_1_0) slices_S11352x2048_S4x2048_3072_0⟩,
      ⟨S4x2048, extractStridedSlice S4x2048 ![3076, 0] (transpose S11352x2048 [1, 0] (m ((c : Thread nD τ).loc main_arg1)) transposes_S2048x11352_S11352x2048_1_0) slices_S11352x2048_S4x2048_3076_0⟩,
      ⟨S40x2048, broadcastInDim S40x2048 ![] bcast_S_S40x2048 (constant S_ .f32 0x00000000#32 : FVec Ideal S_ .f32)⟩]
      concatenates_S64x2048_S16x2048_S4x2048_S4x2048_S40x2048_S128x2048_d0 := by
    unfold V hostOps0
    after_results_simp
    dsimp only [Matrix.cons_val]
    rfl
  rw [e]
  pointwise [weight]

/-! ## What the blocks hold -/

theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem lt_N (t : Fin cfg0.N) : t.val < 8 := lt_of_lt_of_eq t.isLt (show cfg0.N = 8 from N_0)

theorem read_x (t : Fin cfg0.N) (r : Fin 1024) (k : Fin 2048) : iblk m c 0 t (ix2 r k) = argX m c ⟨1024 * t.val + r.val, by have := lt_N t; omega⟩ k := by
  show V m c main_v7 (((cfg0.win 0).blk t).view.emb (ix2 r k)) = _
  rw [entryX]
  refine congrArg (m ((c : Thread nD τ).loc main_arg0)) ?_
  obtain ⟨⟨e0, e1⟩, _, _, _⟩ := idx_facts t
  funext a; apply Fin.ext
  match a with
  | ⟨0, _⟩ => show win0_0.index t (0 : Fin 2) * 1024 + 1 * r.val = 1024 * t.val + r.val; omega
  | ⟨1, _⟩ => show win0_0.index t (1 : Fin 2) * 2048 + 1 * k.val = k.val; omega

theorem read_w (t : Fin cfg0.N) (j : Fin 128) (k : Fin 2048) : iblk m c 1 t (ix2 j k) = weight (argW m c) k j := by
  show V m c main_v6 (((cfg0.win 1).blk t).view.emb (ix2 j k)) = _
  rw [← entryW]
  refine congrArg (V m c main_v6) ?_
  obtain ⟨_, ⟨e0, e1⟩, _, _⟩ := idx_facts t
  funext a; apply Fin.ext
  match a with
  | ⟨0, _⟩ => show win0_1.index t (0 : Fin 2) * 128 + 1 * j.val = j.val; omega
  | ⟨1, _⟩ => show win0_1.index t (1 : Fin 2) * 2048 + 1 * k.val = k.val; omega

theorem out_block (t : Fin cfg0.N) (r : Fin 1024) (j : Fin 128) :
    out0_2 (iblk m c 0 t) (iblk m c 1 t) (ix2 r j) = product (argX m c ⟨1024 * t.val + r.val, by have := lt_N t; omega⟩) (argW m c) j := by
  rw [out_point, pay1_apply]
  simp only [read_x, read_w]
  rfl

/-! ## The array after the run -/

/-- The products, as the result array. -/
def target : Buf (Elt Ideal) ((c : Thread nD τ).loc main_v8) := fun i : S8192x128.Idx => product (argX m c (i 0)) (argW m c) (i 1)

theorem flushed (t : Fin cfg0.N) :
    (dats m 0 c).flushed 2 t = ((cfg0.win 2).blk t).view.read (Elt Ideal) (target m c) := by
  rw [Cert.Kernel5Ideal.Value.flushed2]
  refine funext fun (y : S1024x128.Idx) => ?_
  obtain ⟨_, _, e0, e1⟩ := idx_facts t
  have ht := lt_N t
  have hb : (((cfg0.win 2).blk t).view.emb y : S8192x128.Idx)
      = ix2 ⟨1024 * t.val + (y 0).val, by have : (y 0).val < 1024 := (y 0).isLt; omega⟩ (y 1) := by
    funext a; apply Fin.ext
    match a with
    | ⟨0, _⟩ => show win0_2.index t (0 : Fin 2) * 1024 + 1 * (y 0).val = 1024 * t.val + (y 0).val; omega
    | ⟨1, _⟩ => show win0_2.index t (1 : Fin 2) * 128 + 1 * (y 1).val = (y 1).val; omega
  have hx : ((cfg0.win 2).xinj (grid0.coords t) y : S1024x128.Idx) = ix2 (y 0) (y 1) := by
    funext a; apply Fin.ext
    match a with
    | ⟨0, _⟩ => rfl
    | ⟨1, _⟩ => rfl
  refine ((congrArg (out0_2 (iblk m c 0 t) (iblk m c 1 t)) hx).trans (out_block m c t (y 0) (y 1))).trans ?_
  exact (congrArg (target m c) hb).symm

theorem cover (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  have hN : (i 0).val / 1024 < cfg0.N := lt_of_lt_of_eq (by omega) N_0.symm
  refine ⟨⟨(i 0).val / 1024, hN⟩, flush0_2 _, ?_⟩
  obtain ⟨_, _, e0, e1⟩ := idx_facts ⟨(i 0).val / 1024, hN⟩
  dsimp only at e0 e1
  show i ∈ ((View.whole main_v8).slice (win0_2.rect (⟨(i 0).val / 1024, hN⟩ : Fin cfg0.N))).set
  rw [View.set_slice_whole, Rect.mem_set_unit]
  intro a
  match a with
  | ⟨0, _⟩ => show win0_2.index _ (0 : Fin 2) * 1024 ≤ (i 0).val ∧ (i 0).val < win0_2.index _ (0 : Fin 2) * 1024 + 1024; omega
  | ⟨1, _⟩ => show win0_2.index _ (1 : Fin 2) * 128 ≤ (i 1).val ∧ (i 1).val < win0_2.index _ (1 : Fin 2) * 128 + 128; omega

theorem final : (dats m 0 c).arrAt 2 cfg0.N = target m c :=
  (dats m 0 c).arrAt_eq_of_cover 2 _ (fun t _ => flushed m c t) cover

/-- The kernel's run: the products, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v8) = target m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel5Ideal.Value.run_blocks m ρ)

end Cert.Small
-- ==== Proof.SmallReference.lean ====
module

public import proofs.«01_k».proof.Proof.Gen.Reference5Ideal.Run
public import proofs.«01_k».proof.Proof.SmallMath

/-! The small projection's reference gives the same products. -/

@[expose] public section

noncomputable section

namespace Cert.SmallReference

open Cert.Small Cert.Reference5Ideal Idealize.ShloMosaic Idealize.ShloMosaic.TcCoe Idealize.SL.Sem

variable (m : (ℓ : Loc nD τ sig) → Buf (Elt Ideal) ℓ) (c : Dev nD)

/-- The products of the reference's arguments. -/
def target : Buf (Elt Ideal) ((c : Thread nD τ).loc main_v6) := fun i : S8192x128.Idx =>
  product (fun k => m ((c : Thread nD τ).loc main_arg0) (ix2 (i 0) k)) (fun k n => m ((c : Thread nD τ).loc main_arg1) (ix2 k n)) (i 1)

/-- The reference's run: the products, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = target m c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Cert.Reference5Ideal.Value.run m ρ)
  funext i
  unfold target product weight
  pointwise
  split_ifs <;> simp only [mul_zero, Finset.sum_const_zero]

end Cert.SmallReference
-- ==== Proof.SmallSampleValue.lean ====
module

public import proofs.«01_k».proof.Proof.Gen.Kernel6Ideal.Value
public import proofs.«01_k».proof.Proof.SmallMath

/-! The small projection's kernel: point `t` writes rows `32 * t …` of the product with the packed weights. -/

@[expose] public section

noncomputable section

namespace Cert.SmallSample

open Cert.Small Cert.Kernel6Ideal Cert.Kernel6Ideal.Gen Idealize.ShloMosaic Idealize.ShloMosaic.TcCoe Idealize.SL.Sem

/-- Every load and store of the kernel starts at the window's corner. -/
theorem corner : (![(0 : ℕ), 0] : Fin 2 → ℕ) = fun _ => 0 := by
  funext a; match a with
  | ⟨0, _⟩ => rfl
  | ⟨1, _⟩ => rfl

/-- The point stores its product. -/
theorem out_point (x0 : Vec Ideal S32x2048 .bf16) (x1 : Vec Ideal S128x2048 .f32) : out0_2 x0 x1 = k0_pay1 x0 x1 := by
  unfold out0_2
  unfold r0_0 r0_1 r0_2
  simp only [View.canon_unit_zero (S := S32x128) corner, View.ld_unit_zero (S := S32x2048) corner,
    View.ld_unit_zero (S := S128x2048) corner]

theorem pay1_apply (x : Vec Ideal S32x2048 .bf16) (w : Vec Ideal S128x2048 .f32) (r : Fin 32) (j : Fin 128) :
    k0_pay1 (F := Ideal) x w (ix2 r j) = ∑ k, x (ix2 r k) * w (ix2 j k) := by
  pointwise [k0_pay1]

variable (m : (ℓ : Loc nD τ sig) → Buf (Elt Ideal) ℓ) (c : Dev nD)

/-- The arguments, as arrays of extended reals. -/
abbrev argX (r : Fin 32) (k : Fin 2048) : EReal := m ((c : Thread nD τ).loc main_arg0) (ix2 r k)
abbrev argW (k : Fin 2048) (n : Fin 11352) : EReal := m ((c : Thread nD τ).loc main_arg1) (ix2 k n)

/-! ## What the windows' arrays hold -/

theorem entryX (j : S32x2048.Idx) : (V m c main_v7 j : EReal) = m ((c : Thread nD τ).loc main_arg0) j := by
  have e : V m c main_v7 = (truncf .bf16 (m ((c : Thread nD τ).loc main_arg0) : FVec Ideal S32x2048 .f32) bitsLt_bf16_f32 :
      FVec Ideal S32x2048 .bf16) := by
    unfold V hostOps0
    after_results_simp
  rw [e]
  rfl

/-- The packed weights, transposed. -/
theorem entryW (j : Fin 128) (k : Fin 2048) : V m c main_v6 (ix2 j k) = weight (argW m c) k j := by
  have e : V m c main_v6 = concatenate S128x2048 0
     [⟨S64x2048, extractStridedSlice S64x2048 ![7176, 0] (transpose S11352x2048 [1, 0] (m ((c : Thread nD τ).loc main_arg1)) transposes_S2048x11352_S11352x2048_1_0) slices_S11352x2048_S64x2048_7176_0⟩,
      ⟨S16x2048, extractStridedSlice S16x2048 ![7240, 0] (transpose S11352x2048 [1, 0] (m ((c : Thread nD τ).loc main_arg1)) transposes_S2048x11352_S11352x2048_1_0) slices_S11352x2048_S16x2048_7240_0⟩,
      ⟨S4x2048, extractStridedSlice S4x2048 ![3072, 0] (transpose S11352x2048 [1, 0] (m ((c : Thread nD τ).loc main_arg1)) transposes_S2048x11352_S11352x2048_1_0) slices_S11352x2048_S4x2048_3072_0⟩,
      ⟨S4x2048, extractStridedSlice S4x2048 ![3076, 0] (transpose S11352x2048 [1, 0] (m ((c : Thread nD τ).loc main_arg1)) transposes_S2048x11352_S11352x2048_1_0) slices_S11352x2048_S4x2048_3076_0⟩,
      ⟨S40x2048, broadcastInDim S40x2048 ![] bcast_S_S40x2048 (constant S_ .f32 0x00000000#32 : FVec Ideal S_ .f32)⟩]
      concatenates_S64x2048_S16x2048_S4x2048_S4x2048_S40x2048_S128x2048_d0 := by
    unfold V hostOps0
    after_results_simp
    dsimp only [Matrix.cons_val]
    rfl
  rw [e]
  pointwise [weight]

/-! ## What the blocks hold -/

theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem lt_N (t : Fin cfg0.N) : t.val < 1 := lt_of_lt_of_eq t.isLt (show cfg0.N = 1 from N_0)

theorem read_x (t : Fin cfg0.N) (r : Fin 32) (k : Fin 2048) : iblk m c 0 t (ix2 r k) = argX m c ⟨32 * t.val + r.val, by have := lt_N t; omega⟩ k := by
  show V m c main_v7 (((cfg0.win 0).blk t).view.emb (ix2 r k)) = _
  rw [entryX]
  refine congrArg (m ((c : Thread nD τ).loc main_arg0)) ?_
  obtain ⟨⟨e0, e1⟩, _, _, _⟩ := idx_facts t
  funext a; apply Fin.ext
  match a with
  | ⟨0, _⟩ => show win0_0.index t (0 : Fin 2) * 32 + 1 * r.val = 32 * t.val + r.val; omega
  | ⟨1, _⟩ => show win0_0.index t (1 : Fin 2) * 2048 + 1 * k.val = k.val; omega

theorem read_w (t : Fin cfg0.N) (j : Fin 128) (k : Fin 2048) : iblk m c 1 t (ix2 j k) = weight (argW m c) k j := by
  show V m c main_v6 (((cfg0.win 1).blk t).view.emb (ix2 j k)) = _
  rw [← entryW]
  refine congrArg (V m c main_v6) ?_
  obtain ⟨_, ⟨e0, e1⟩, _, _⟩ := idx_facts t
  funext a; apply Fin.ext
  match a with
  | ⟨0, _⟩ => show win0_1.index t (0 : Fin 2) * 128 + 1 * j.val = j.val; omega
  | ⟨1, _⟩ => show win0_1.index t (1 : Fin 2) * 2048 + 1 * k.val = k.val; omega

theorem out_block (t : Fin cfg0.N) (r : Fin 32) (j : Fin 128) :
    out0_2 (iblk m c 0 t) (iblk m c 1 t) (ix2 r j) = product (argX m c ⟨32 * t.val + r.val, by have := lt_N t; omega⟩) (argW m c) j := by
  rw [out_point, pay1_apply]
  simp only [read_x, read_w]
  rfl

/-! ## The array after the run -/

/-- The products, as the result array. -/
def target : Buf (Elt Ideal) ((c : Thread nD τ).loc main_v8) := fun i : S32x128.Idx => product (argX m c (i 0)) (argW m c) (i 1)

theorem flushed (t : Fin cfg0.N) :
    (dats m 0 c).flushed 2 t = ((cfg0.win 2).blk t).view.read (Elt Ideal) (target m c) := by
  rw [Cert.Kernel6Ideal.Value.flushed2]
  refine funext fun (y : S32x128.Idx) => ?_
  obtain ⟨_, _, e0, e1⟩ := idx_facts t
  have ht := lt_N t
  have hb : (((cfg0.win 2).blk t).view.emb y : S32x128.Idx)
      = ix2 ⟨32 * t.val + (y 0).val, by have : (y 0).val < 32 := (y 0).isLt; omega⟩ (y 1) := by
    funext a; apply Fin.ext
    match a with
    | ⟨0, _⟩ => show win0_2.index t (0 : Fin 2) * 32 + 1 * (y 0).val = 32 * t.val + (y 0).val; omega
    | ⟨1, _⟩ => show win0_2.index t (1 : Fin 2) * 128 + 1 * (y 1).val = (y 1).val; omega
  have hx : ((cfg0.win 2).xinj (grid0.coords t) y : S32x128.Idx) = ix2 (y 0) (y 1) := by
    funext a; apply Fin.ext
    match a with
    | ⟨0, _⟩ => rfl
    | ⟨1, _⟩ => rfl
  refine ((congrArg (out0_2 (iblk m c 0 t) (iblk m c 1 t)) hx).trans (out_block m c t (y 0) (y 1))).trans ?_
  exact (congrArg (target m c) hb).symm

theorem cover (i : S32x128.Idx) : ∃ t : Fin cfg0.N, (cfg0.win 2).flush t = true ∧ i ∈ ((cfg0.win 2).blk t).view.set := by
  have hi0 : (i 0).val < 32 := (i 0).isLt
  have hi1 : (i 1).val < 128 := (i 1).isLt
  have hN : (i 0).val / 32 < cfg0.N := lt_of_lt_of_eq (by omega) N_0.symm
  refine ⟨⟨(i 0).val / 32, hN⟩, flush0_2 _, ?_⟩
  obtain ⟨_, _, e0, e1⟩ := idx_facts ⟨(i 0).val / 32, hN⟩
  dsimp only at e0 e1
  show i ∈ ((View.whole main_v8).slice (win0_2.rect (⟨(i 0).val / 32, hN⟩ : Fin cfg0.N))).set
  rw [View.set_slice_whole, Rect.mem_set_unit]
  intro a
  match a with
  | ⟨0, _⟩ => show win0_2.index _ (0 : Fin 2) * 32 ≤ (i 0).val ∧ (i 0).val < win0_2.index _ (0 : Fin 2) * 32 + 32; omega
  | ⟨1, _⟩ => show win0_2.index _ (1 : Fin 2) * 128 ≤ (i 1).val ∧ (i 1).val < win0_2.index _ (1 : Fin 2) * 128 + 128; omega

theorem final : (dats m 0 c).arrAt 2 cfg0.N = target m c :=
  (dats m 0 c).arrAt_eq_of_cover 2 _ (fun t _ => flushed m c t) cover

/-- The kernel's run: the products, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v8) = target m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel6Ideal.Value.run_blocks m ρ)

end Cert.SmallSample
-- ==== Proof.SmallSampleReference.lean ====
module

public import proofs.«01_k».proof.Proof.Gen.Reference6Ideal.Run
public import proofs.«01_k».proof.Proof.SmallMath

/-! The small projection's reference gives the same products. -/

@[expose] public section

noncomputable section

namespace Cert.SmallSampleReference

open Cert.Small Cert.Reference6Ideal Idealize.ShloMosaic Idealize.ShloMosaic.TcCoe Idealize.SL.Sem

variable (m : (ℓ : Loc nD τ sig) → Buf (Elt Ideal) ℓ) (c : Dev nD)

/-- The products of the reference's arguments. -/
def target : Buf (Elt Ideal) ((c : Thread nD τ).loc main_v6) := fun i : S32x128.Idx =>
  product (fun k => m ((c : Thread nD τ).loc main_arg0) (ix2 (i 0) k)) (fun k n => m ((c : Thread nD τ).loc main_arg1) (ix2 k n)) (i 1)

/-- The reference's run: the products, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = target m c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Cert.Reference6Ideal.Value.run m ρ)
  funext i
  unfold target product weight
  pointwise
  split_ifs <;> simp only [mul_zero, Finset.sum_const_zero]

end Cert.SmallSampleReference
-- ==== Proof.SamplePrepMath.lean ====
module

public import Idealize.ShloMosaic.Lib.Pointwise

/-! The attention's prepared rows on arrays of extended reals: heads of 128 lanes divided by their root mean square, and a
    row's own indexer score. -/

@[expose] public section

noncomputable section

namespace Cert.SamplePrep

open Idealize.ShloMosaic

/-- A head's lanes divided by their root mean square, times the gain. -/
def normed (x g : Fin 128 → EReal) (j : Fin 128) : EReal :=
  x j * Ideal.rsqrt (Ideal.div (∑ k, x k * x k) (Ideal.ofBits .f32 0x43000000#32) + Ideal.ofBits .f32 0x358637BD#32) * g j

/-- A row of eight heads, each normalised. -/
def heads (x : Fin 1024 → EReal) (g : Fin 128 → EReal) (j : Fin 1024) : EReal :=
  normed (fun k => x ⟨128 * (j.val / 128) + k.val, by omega⟩) g ⟨j.val % 128, by omega⟩

theorem heads_at (x : Fin 1024 → EReal) (g : Fin 128 → EReal) (o : ℕ) (ho : o < 8) (k : Fin 128) (h : 128 * o + k.val < 1024) :
    heads x g ⟨128 * o + k.val, h⟩ = normed (fun k => x ⟨128 * o + k.val, by omega⟩) g k := by
  unfold heads
  have e : (128 * o + k.val) / 128 = o := by omega
  have e' : (⟨(128 * o + k.val) % 128, by omega⟩ : Fin 128) = k := Fin.ext (by dsimp only; omega)
  dsimp only
  rw [e']
  refine congrArg (fun f => normed f g k) (funext fun k' => congrArg x (Fin.ext ?_))
  dsimp only
  rw [e]

/-- The queries carry the softmax's scale. -/
def queries (x : Fin 1024 → EReal) (g : Fin 128 → EReal) (j : Fin 1024) : EReal := heads x g j * Ideal.ofBits .f32 0x3E0293EE#32

/-- What indexer head `h` adds to a score. -/
def term (q : Fin 1024 → EReal) (k : Fin 64 → EReal) (w : Fin 16 → EReal) (h : Fin 16) : EReal :=
  max (∑ d : Fin 64, q ⟨64 * h.val + d.val, by omega⟩ * k d) 0 * (w h * Ideal.ofBits .f32 0x3D000000#32)

/-- A row's own indexer score. -/
def score (q : Fin 1024 → EReal) (k : Fin 64 → EReal) (w : Fin 16 → EReal) : EReal := ∑ h, term q k w h

/-- A sum over 128 lanes of which only the first half counts. -/
theorem sum_low (f : Fin 128 → EReal) (k : Fin 64 → EReal) :
    ∑ l : Fin 128, f l * (if h : l.val < 64 then k ⟨l.val, h⟩ else 0) = ∑ d : Fin 64, f ⟨d.val, by omega⟩ * k d := by
  refine (Fin.sum_univ_add (a := 64) (b := 64) (fun l => f l * (if h : l.val < 64 then k ⟨l.val, h⟩ else 0))).trans ?_
  have h1 : ∀ i : Fin 64, (Fin.castAdd 64 i).val < 64 := fun i => i.isLt
  have h2 : ∀ i : Fin 64, ¬ (Fin.natAdd 64 i).val < 64 := fun i => by simp
  simp only [dif_pos (h1 _), dif_neg (h2 _), mul_zero, Finset.sum_const_zero, add_zero]
  rfl

/-- The same with the second half. -/
theorem sum_high (f : Fin 128 → EReal) (k : Fin 64 → EReal) :
    ∑ l : Fin 128, f l * (if h : 64 ≤ l.val then k ⟨l.val - 64, by omega⟩ else 0) = ∑ d : Fin 64, f ⟨64 + d.val, by omega⟩ * k d := by
  refine (Fin.sum_univ_add (a := 64) (b := 64) (fun l => f l * (if h : 64 ≤ l.val then k ⟨l.val - 64, by omega⟩ else 0))).trans ?_
  have h1 : ∀ i : Fin 64, ¬ 64 ≤ (Fin.castAdd 64 i).val := fun i => by have := i.isLt; simp
  have h2 : ∀ i : Fin 64, 64 ≤ (Fin.natAdd 64 i).val := fun i => by simp
  simp only [dif_neg (h1 _), dif_pos (h2 _), mul_zero, Finset.sum_const_zero, zero_add]
  refine Finset.sum_congr rfl fun d _ => ?_
  refine congrArg₂ (· * ·) rfl (congrArg k (Fin.ext ?_))
  simp

end Cert.SamplePrep
-- ==== Proof.SamplePrepCases.lean ====
module

public import proofs.«01_k».proof.Proof.Gen.Kernel10Ideal.Frame
public import proofs.«01_k».proof.Proof.SamplePrepMath

/-! What the samples' preparation kernel leaves in its output blocks, as a function of the blocks it reads. -/

@[expose] public section

noncomputable section

namespace Cert.SamplePrep

open Cert.Kernel10Ideal Cert.Kernel10Ideal.Gen Idealize.ShloMosaic Idealize.ShloMosaic.TcCoe Idealize.SL.Sem

theorem corner : (![(0 : ℕ), 0] : Fin 2 → ℕ) = fun _ => 0 := by
  funext a; match a with
  | ⟨0, _⟩ => rfl
  | ⟨1, _⟩ => rfl

/-! ## The payloads at an index -/

section Payloads

variable (x : Vec Ideal S32x128 .f32) (g : Vec Ideal S1x128 .f32) (r : Fin 32) (k : Fin 128)

/-- A head's queries. -/
abbrev QueryAt (p : Vec Ideal S32x128 .f32) : Prop :=
  p (ix2 r k) = normed (fun k => x (ix2 r k)) (fun k => g (ix2 0 k)) k * Ideal.ofBits .f32 0x3E0293EE#32

/-- A head's keys. -/
abbrev KeyAt (p : Vec Ideal S32x128 .f32) : Prop := p (ix2 r k) = normed (fun k => x (ix2 r k)) (fun k => g (ix2 0 k)) k

theorem query0 : QueryAt x g r k (k0_pay2 x g) := by unfold QueryAt; pointwise [k0_pay2, normed]
theorem query1 : QueryAt x g r k (k0_pay4 x g) := by unfold QueryAt; pointwise [k0_pay4, normed]
theorem query2 : QueryAt x g r k (k0_pay7 (k0_pay6 x) g) := by unfold QueryAt; pointwise [k0_pay7, k0_pay6, normed]
theorem query3 : QueryAt x g r k (k0_pay11 (k0_pay9 x) (k0_pay10 g)) := by unfold QueryAt; pointwise [k0_pay11, k0_pay9, k0_pay10, normed]
theorem query4 : QueryAt x g r k (k0_pay16 (k0_pay13 x) (k0_pay14 g) (k0_pay15 x)) := by unfold QueryAt; pointwise [k0_pay16, k0_pay13, k0_pay14, k0_pay15, normed]
theorem query5 : QueryAt x g r k (k0_pay22 (k0_pay18 x) (k0_pay19 g) (k0_pay20 x) (k0_pay21 (F := Ideal))) := by unfold QueryAt; pointwise [k0_pay22, k0_pay18, k0_pay19, k0_pay20, k0_pay21, normed]
theorem query6 : QueryAt x g r k (k0_pay28 (k0_pay24 x) (k0_pay25 g) (k0_pay26 x) (k0_pay27 (F := Ideal))) := by unfold QueryAt; pointwise [k0_pay28, k0_pay24, k0_pay25, k0_pay26, k0_pay27, normed]
theorem query7 : QueryAt x g r k (k0_pay33 (k0_pay30 x) (k0_pay31 g) (k0_pay32 x)) := by unfold QueryAt; pointwise [k0_pay33, k0_pay30, k0_pay31, k0_pay32, normed]
theorem key0 : KeyAt x g r k (k0_pay3 x g) := by unfold KeyAt; pointwise [k0_pay3, normed]
theorem key1 : KeyAt x g r k (k0_pay5 x g) := by unfold KeyAt; pointwise [k0_pay5, normed]
theorem key2 : KeyAt x g r k (k0_pay8 x g) := by unfold KeyAt; pointwise [k0_pay8, normed]
theorem key3 : KeyAt x g r k (k0_pay12 x g) := by unfold KeyAt; pointwise [k0_pay12, normed]
theorem key4 : KeyAt x g r k (k0_pay17 x g) := by unfold KeyAt; pointwise [k0_pay17, normed]
theorem key5 : KeyAt x g r k (k0_pay23 x g) := by unfold KeyAt; pointwise [k0_pay23, normed]
theorem key6 : KeyAt x g r k (k0_pay29 x g) := by unfold KeyAt; pointwise [k0_pay29, normed]
theorem key7 : KeyAt x g r k (k0_pay34 x g) := by unfold KeyAt; pointwise [k0_pay34, normed]

theorem lt_half : ∀ k : Fin 128, IntOp.cmpi .slt (BitVec.ofNat 32 k.val) 64#32 = if k.val < 64 then 1#1 else 0#1 := by decide +kernel

/-- The indexer's keys, in the first half of the lanes. -/
theorem low : k0_pay37 x (ix2 r k) = if h : k.val < 64 then (fun d : Fin 64 => x (ix2 r ⟨d.val, by omega⟩)) ⟨k.val, h⟩ else 0 := by
  pointwise [k0_pay37, k0_pay36]
  rw [lt_half]
  by_cases h : k.val < 64
  · rw [dif_pos h, if_pos h]
    rfl
  · rw [dif_neg h, if_neg h]
    rfl

/-- The same, rolled into the second half. -/
theorem high : k0_pay38 x (ix2 r k) = if h : 64 ≤ k.val then (fun d : Fin 64 => x (ix2 r ⟨d.val, by omega⟩)) ⟨k.val - 64, by omega⟩ else 0 := by
  pointwise [k0_pay38]
  rw [low]
  by_cases h : 64 ≤ k.val
  · rw [dif_pos h, dif_pos (by dsimp only; omega)]
    refine congrArg (fun d : Fin 128 => x (ix2 r d)) (Fin.ext ?_)
    dsimp only
    omega
  · rw [dif_neg h, dif_neg (by dsimp only; omega)]

theorem pay1_apply (z : Vec Ideal S32x1 .f32) : k0_pay1 (F := Ideal) z (ix2 r k) = z (ix2 r 0) := by
  pointwise [k0_pay1]

theorem pay36_apply : k0_pay36 x (ix2 r k) = x (ix2 r k) := by
  pointwise [k0_pay36]

theorem pay39_apply : k0_pay39 (F := Ideal) (ix2 r 0) = (0 : EReal) := by
  pointwise [k0_pay39]

theorem pay40_apply (a b c : Vec Ideal S32x128 .f32) (z : Vec Ideal S32x1 .f32) (q p : Vec Ideal S32x128 .f32) :
    k0_pay40 a b c z q p (ix2 r 0) = z (ix2 r 0) + max (∑ l, q (ix2 r l) * b (ix2 r l)) 0 * (a (ix2 r 64) * Ideal.ofBits .f32 0x3D000000#32)
      + max (∑ l, q (ix2 r l) * c (ix2 r l)) 0 * (a (ix2 r 65) * Ideal.ofBits .f32 0x3D000000#32)
      + max (∑ l, p (ix2 r l) * b (ix2 r l)) 0 * (a (ix2 r 66) * Ideal.ofBits .f32 0x3D000000#32)
      + max (∑ l, p (ix2 r l) * c (ix2 r l)) 0 * (a (ix2 r 67) * Ideal.ofBits .f32 0x3D000000#32) := by
  pointwise [k0_pay40]

theorem pay41_apply (a b c : Vec Ideal S32x128 .f32) (z : Vec Ideal S32x1 .f32) (q p : Vec Ideal S32x128 .f32) :
    k0_pay41 a b c z q p (ix2 r 0) = z (ix2 r 0) + max (∑ l, q (ix2 r l) * b (ix2 r l)) 0 * (a (ix2 r 68) * Ideal.ofBits .f32 0x3D000000#32)
      + max (∑ l, q (ix2 r l) * c (ix2 r l)) 0 * (a (ix2 r 69) * Ideal.ofBits .f32 0x3D000000#32)
      + max (∑ l, p (ix2 r l) * b (ix2 r l)) 0 * (a (ix2 r 70) * Ideal.ofBits .f32 0x3D000000#32)
      + max (∑ l, p (ix2 r l) * c (ix2 r l)) 0 * (a (ix2 r 71) * Ideal.ofBits .f32 0x3D000000#32) := by
  pointwise [k0_pay41]

theorem pay42_apply (a b c : Vec Ideal S32x128 .f32) (z : Vec Ideal S32x1 .f32) (q p : Vec Ideal S32x128 .f32) :
    k0_pay42 a b c z q p (ix2 r 0) = z (ix2 r 0) + max (∑ l, q (ix2 r l) * b (ix2 r l)) 0 * (a (ix2 r 72) * Ideal.ofBits .f32 0x3D000000#32)
      + max (∑ l, q (ix2 r l) * c (ix2 r l)) 0 * (a (ix2 r 73) * Ideal.ofBits .f32 0x3D000000#32)
      + max (∑ l, p (ix2 r l) * b (ix2 r l)) 0 * (a (ix2 r 74) * Ideal.ofBits .f32 0x3D000000#32)
      + max (∑ l, p (ix2 r l) * c (ix2 r l)) 0 * (a (ix2 r 75) * Ideal.ofBits .f32 0x3D000000#32) := by
  pointwise [k0_pay42]

theorem pay43_apply (a b c : Vec Ideal S32x128 .f32) (z : Vec Ideal S32x1 .f32) (q p : Vec Ideal S32x128 .f32) :
    k0_pay43 a b c z q p (ix2 r 0) = z (ix2 r 0) + max (∑ l, q (ix2 r l) * b (ix2 r l)) 0 * (a (ix2 r 76) * Ideal.ofBits .f32 0x3D000000#32)
      + max (∑ l, q (ix2 r l) * c (ix2 r l)) 0 * (a (ix2 r 77) * Ideal.ofBits .f32 0x3D000000#32)
      + max (∑ l, p (ix2 r l) * b (ix2 r l)) 0 * (a (ix2 r 78) * Ideal.ofBits .f32 0x3D000000#32)
      + max (∑ l, p (ix2 r l) * c (ix2 r l)) 0 * (a (ix2 r 79) * Ideal.ofBits .f32 0x3D000000#32) := by
  pointwise [k0_pay43]

end Payloads

/-! ## Blocks of eight heads -/

theorem ld_head (x : Vec Ideal S32x1024 .f32) (o : ℕ) (inb) (r : Fin 32) (k : Fin 128) (h : o + k.val < 1024) :
    View.ld x (Rect.unit (s := S32x1024) ![0, o] S32x128.size inb) (ix2 r k) = x (ix2 r ⟨o + k.val, h⟩) := by
  refine congrArg x ?_
  funext a; apply Fin.ext
  match a with
  | ⟨0, _⟩ => show 0 + 1 * r.val = r.val; omega
  | ⟨1, _⟩ => show o + 1 * k.val = o + k.val; omega

theorem head_ld (x : Vec Ideal S32x1024 .f32) (g : Fin 128 → EReal) (o n : ℕ) (inb) (hn : n < 8) (ho : o = 128 * n) (r : Fin 32) (k : Fin 128)
    (h : o + k.val < 1024) :
    normed (fun k => View.ld x (Rect.unit (s := S32x1024) ![0, o] S32x128.size inb) (ix2 r k)) g k
      = heads (fun k => x (ix2 r k)) g ⟨o + k.val, h⟩ := by
  subst ho
  rw [heads_at _ _ n hn k h]
  refine congrArg (fun f => normed f g k) (funext fun k' => ?_)
  exact ld_head x _ inb r k' (by omega)

theorem canon_step (o : ℕ) (ho : o + 128 ≤ 1024) (inb) (w : Vec Ideal S32x128 .f32) (L : List (View.Piece (Elt Ideal) S32x1024 .f32))
    (r : Fin 32) (j : Fin 1024) (G : Fin 1024 → EReal) (hw : ∀ k : Fin 128, w (ix2 r k) = G ⟨o + k.val, by omega⟩)
    (hL : ¬ (o ≤ j.val ∧ j.val < o + 128) → (View.canon L (ix2 r j) : EReal) = G j) :
    (View.canon (⟨Rect.unit (s := S32x1024) ![0, o] S32x128.size inb, w⟩ :: L) (ix2 r j) : EReal) = G j := by
  by_cases h : o ≤ j.val ∧ j.val < o + 128
  · have e : (Rect.unit (s := S32x1024) ![0, o] S32x128.size inb).emb (ix2 r ⟨j.val - o, by omega⟩ : S32x128.Idx) = (ix2 r j : S32x1024.Idx) := by
      funext a; apply Fin.ext
      match a with
      | ⟨0, _⟩ => show 0 + 1 * r.val = r.val; omega
      | ⟨1, _⟩ => show o + 1 * (j.val - o) = j.val; omega
    rw [← e]
    refine (View.canon_cons_emb _ _ _ _).trans ((hw _).trans (congrArg G (Fin.ext ?_)))
    dsimp only
    omega
  · refine (View.canon_cons_of_not_mem _ _ ?_).trans (hL h)
    rw [Rect.mem_set_unit]
    intro hm
    exact h (hm 1)

variable (x0 x1 x2 x3 : Vec Ideal S32x1024 .f32) (x4 : Vec Ideal S32x128 .f32) (x5 x6 : Vec Ideal S1x128 .f32) (r : Fin 32) (j : Fin 1024)

theorem out_queries : out0_7 x0 x1 x2 x3 x4 x5 x6 (ix2 r j) = queries (fun k => x0 (ix2 r k)) (fun k => x5 (ix2 0 k)) j := by
  unfold out0_7
  unfold r0_0 r0_1 r0_2 r0_3 r0_4 r0_5 r0_6 r0_7 r0_8
  rw [View.ld_unit_zero (S := S1x128) corner]
  refine canon_step 896 (by omega) _ _ _ r j (fun j => queries (fun k => x0 (ix2 r k)) (fun k => x5 (ix2 0 k)) j) (fun k => ?_) (fun n7 => ?_)
  · exact (query7 _ _ r k).trans (congrArg (· * _) (head_ld _ _ _ 7 _ (by omega) rfl r k _))
  refine canon_step 768 (by omega) _ _ _ r j (fun j => queries (fun k => x0 (ix2 r k)) (fun k => x5 (ix2 0 k)) j) (fun k => ?_) (fun n6 => ?_)
  · exact (query6 _ _ r k).trans (congrArg (· * _) (head_ld _ _ _ 6 _ (by omega) rfl r k _))
  refine canon_step 640 (by omega) _ _ _ r j (fun j => queries (fun k => x0 (ix2 r k)) (fun k => x5 (ix2 0 k)) j) (fun k => ?_) (fun n5 => ?_)
  · exact (query5 _ _ r k).trans (congrArg (· * _) (head_ld _ _ _ 5 _ (by omega) rfl r k _))
  refine canon_step 512 (by omega) _ _ _ r j (fun j => queries (fun k => x0 (ix2 r k)) (fun k => x5 (ix2 0 k)) j) (fun k => ?_) (fun n4 => ?_)
  · exact (query4 _ _ r k).trans (congrArg (· * _) (head_ld _ _ _ 4 _ (by omega) rfl r k _))
  refine canon_step 384 (by omega) _ _ _ r j (fun j => queries (fun k => x0 (ix2 r k)) (fun k => x5 (ix2 0 k)) j) (fun k => ?_) (fun n3 => ?_)
  · exact (query3 _ _ r k).trans (congrArg (· * _) (head_ld _ _ _ 3 _ (by omega) rfl r k _))
  refine canon_step 256 (by omega) _ _ _ r j (fun j => queries (fun k => x0 (ix2 r k)) (fun k => x5 (ix2 0 k)) j) (fun k => ?_) (fun n2 => ?_)
  · exact (query2 _ _ r k).trans (congrArg (· * _) (head_ld _ _ _ 2 _ (by omega) rfl r k _))
  refine canon_step 128 (by omega) _ _ _ r j (fun j => queries (fun k => x0 (ix2 r k)) (fun k => x5 (ix2 0 k)) j) (fun k => ?_) (fun n1 => ?_)
  · exact (query1 _ _ r k).trans (congrArg (· * _) (head_ld _ _ _ 1 _ (by omega) rfl r k _))
  refine canon_step 0 (by omega) _ _ _ r j (fun j => queries (fun k => x0 (ix2 r k)) (fun k => x5 (ix2 0 k)) j) (fun k => ?_) (fun n0 => ?_)
  · exact (query0 _ _ r k).trans (congrArg (· * _) (head_ld _ _ _ 0 _ (by omega) rfl r k _))
  exfalso; omega

theorem out_keys : out0_8 x0 x1 x2 x3 x4 x5 x6 (ix2 r j) = heads (fun k => x1 (ix2 r k)) (fun k => x6 (ix2 0 k)) j := by
  unfold out0_8
  unfold r0_0 r0_1 r0_2 r0_3 r0_4 r0_5 r0_6 r0_7 r0_8
  rw [View.ld_unit_zero (S := S1x128) corner]
  refine canon_step 896 (by omega) _ _ _ r j (fun j => heads (fun k => x1 (ix2 r k)) (fun k => x6 (ix2 0 k)) j) (fun k => ?_) (fun n7 => ?_)
  · exact (key7 _ _ r k).trans (head_ld _ _ _ 7 _ (by omega) rfl r k _)
  refine canon_step 768 (by omega) _ _ _ r j (fun j => heads (fun k => x1 (ix2 r k)) (fun k => x6 (ix2 0 k)) j) (fun k => ?_) (fun n6 => ?_)
  · exact (key6 _ _ r k).trans (head_ld _ _ _ 6 _ (by omega) rfl r k _)
  refine canon_step 640 (by omega) _ _ _ r j (fun j => heads (fun k => x1 (ix2 r k)) (fun k => x6 (ix2 0 k)) j) (fun k => ?_) (fun n5 => ?_)
  · exact (key5 _ _ r k).trans (head_ld _ _ _ 5 _ (by omega) rfl r k _)
  refine canon_step 512 (by omega) _ _ _ r j (fun j => heads (fun k => x1 (ix2 r k)) (fun k => x6 (ix2 0 k)) j) (fun k => ?_) (fun n4 => ?_)
  · exact (key4 _ _ r k).trans (head_ld _ _ _ 4 _ (by omega) rfl r k _)
  refine canon_step 384 (by omega) _ _ _ r j (fun j => heads (fun k => x1 (ix2 r k)) (fun k => x6 (ix2 0 k)) j) (fun k => ?_) (fun n3 => ?_)
  · exact (key3 _ _ r k).trans (head_ld _ _ _ 3 _ (by omega) rfl r k _)
  refine canon_step 256 (by omega) _ _ _ r j (fun j => heads (fun k => x1 (ix2 r k)) (fun k => x6 (ix2 0 k)) j) (fun k => ?_) (fun n2 => ?_)
  · exact (key2 _ _ r k).trans (head_ld _ _ _ 2 _ (by omega) rfl r k _)
  refine canon_step 128 (by omega) _ _ _ r j (fun j => heads (fun k => x1 (ix2 r k)) (fun k => x6 (ix2 0 k)) j) (fun k => ?_) (fun n1 => ?_)
  · exact (key1 _ _ r k).trans (head_ld _ _ _ 1 _ (by omega) rfl r k _)
  refine canon_step 0 (by omega) _ _ _ r j (fun j => heads (fun k => x1 (ix2 r k)) (fun k => x6 (ix2 0 k)) j) (fun k => ?_) (fun n0 => ?_)
  · exact (key0 _ _ r k).trans (head_ld _ _ _ 0 _ (by omega) rfl r k _)
  exfalso; omega

theorem out_values : out0_9 x0 x1 x2 x3 x4 x5 x6 (ix2 r j) = x2 (ix2 r j) := by
  unfold out0_9
  unfold r0_9
  rw [View.canon_unit_zero (S := S32x1024) corner, View.ld_unit_zero (S := S32x1024) corner]
  pointwise [k0_pay35]

/-- The indexer's keys and head weights of a row. -/
abbrev keyOf (d : Fin 64) : EReal := x4 (ix2 r ⟨d.val, by omega⟩)
abbrev weightOf (h : Fin 16) : EReal := x4 (ix2 r ⟨64 + h.val, by omega⟩)

theorem even (o n : ℕ) (inb) (hn : n < 8) (ho : o = 128 * n) (w : Fin 128) (hw : w.val = 64 + 2 * n) :
    max (∑ l, View.ld x3 (Rect.unit (s := S32x1024) ![0, o] S32x128.size inb) (ix2 r l) * k0_pay37 x4 (ix2 r l)) 0
        * (x4 (ix2 r w) * Ideal.ofBits .f32 0x3D000000#32)
      = term (fun k => x3 (ix2 r k)) (keyOf x4 r) (weightOf x4 r) ⟨2 * n, by omega⟩ := by
  have e : (w : Fin 128) = ⟨64 + 2 * n, by omega⟩ := Fin.ext hw
  subst ho
  rw [e]
  unfold term
  simp only [low]
  refine congrArg (fun s => max s 0 * _) ?_
  refine (sum_low _ (keyOf x4 r)).trans (Finset.sum_congr rfl fun d _ => congrArg (· * _) ?_)
  refine (ld_head x3 _ inb r _ (by dsimp only; omega)).trans (congrArg (fun k => x3 (ix2 r k)) (Fin.ext ?_))
  dsimp only
  omega

theorem odd (o n : ℕ) (inb) (hn : n < 8) (ho : o = 128 * n) (w : Fin 128) (hw : w.val = 64 + (2 * n + 1)) :
    max (∑ l, View.ld x3 (Rect.unit (s := S32x1024) ![0, o] S32x128.size inb) (ix2 r l) * k0_pay38 x4 (ix2 r l)) 0
        * (x4 (ix2 r w) * Ideal.ofBits .f32 0x3D000000#32)
      = term (fun k => x3 (ix2 r k)) (keyOf x4 r) (weightOf x4 r) ⟨2 * n + 1, by omega⟩ := by
  have e : (w : Fin 128) = ⟨64 + (2 * n + 1), by omega⟩ := Fin.ext hw
  subst ho
  rw [e]
  unfold term
  simp only [high]
  refine congrArg (fun s => max s 0 * _) ?_
  refine (sum_high _ (keyOf x4 r)).trans (Finset.sum_congr rfl fun d _ => congrArg (· * _) ?_)
  refine (ld_head x3 _ inb r _ (by dsimp only; omega)).trans (congrArg (fun k => x3 (ix2 r k)) (Fin.ext ?_))
  dsimp only
  omega

theorem out_score (l : Fin 128) : out0_10 x0 x1 x2 x3 x4 x5 x6 (ix2 r l) = score (fun k => x3 (ix2 r k)) (keyOf x4 r) (weightOf x4 r) := by
  unfold out0_10 k0_pay44 k0_pay45 k0_pay46
  unfold r0_0 r0_2 r0_3 r0_4 r0_5 r0_6 r0_7 r0_8 r0_10
  rw [View.canon_unit_zero (S := S32x128) corner, View.ld_unit_zero (S := S32x128) corner]
  rw [pay1_apply, pay43_apply, pay42_apply, pay41_apply, pay40_apply, pay39_apply]
  simp only [pay36_apply]
  rw [even x3 x4 r 0 0 _ (by omega) rfl _ rfl, odd x3 x4 r 0 0 _ (by omega) rfl _ rfl, even x3 x4 r 128 1 _ (by omega) rfl _ rfl, odd x3 x4 r 128 1 _ (by omega) rfl _ rfl, even x3 x4 r 256 2 _ (by omega) rfl _ rfl, odd x3 x4 r 256 2 _ (by omega) rfl _ rfl, even x3 x4 r 384 3 _ (by omega) rfl _ rfl, odd x3 x4 r 384 3 _ (by omega) rfl _ rfl, even x3 x4 r 512 4 _ (by omega) rfl _ rfl, odd x3 x4 r 512 4 _ (by omega) rfl _ rfl, even x3 x4 r 640 5 _ (by omega) rfl _ rfl, odd x3 x4 r 640 5 _ (by omega) rfl _ rfl, even x3 x4 r 768 6 _ (by omega) rfl _ rfl, odd x3 x4 r 768 6 _ (by omega) rfl _ rfl, even x3 x4 r 896 7 _ (by omega) rfl _ rfl, odd x3 x4 r 896 7 _ (by omega) rfl _ rfl]
  unfold score
  simp only [Fin.sum_univ_castSucc, Fin.sum_univ_zero]
  rfl

end Cert.SamplePrep
-- ==== Proof.SamplePrepValue.lean ====
module

public import proofs.«01_k».proof.Proof.SamplePrepCases

/-! The samples' preparation: what the blocks hold, and the arrays after the kernel's one grid point. -/

@[expose] public section

noncomputable section

namespace Cert.SamplePrep

open Cert.Kernel10Ideal Cert.Kernel10Ideal.Gen Idealize.ShloMosaic Idealize.ShloMosaic.TcCoe Idealize.SL.Sem

variable (m : (ℓ : Loc nD τ sig) → Buf (Elt Ideal) ℓ) (c : Dev nD)

/-- The arguments, as arrays of extended reals. -/
abbrev argP (r : Fin 32) (k : Fin 11352) : EReal := m ((c : Thread nD τ).loc main_arg0) (ix2 r k)
abbrev argQ (k : Fin 128) : EReal := m ((c : Thread nD τ).loc main_arg1) (ix1 k)
abbrev argK (k : Fin 128) : EReal := m ((c : Thread nD τ).loc main_arg2) (ix1 k)

/-! ## What the windows' arrays hold -/

/-- The wide columns. -/
theorem wide : V m c main_v12 = concatenate S32x11264 1
     [⟨S32x4096, extractStridedSlice S32x4096 ![0, 7256] (m ((c : Thread nD τ).loc main_arg0)) slices_S32x11352_S32x4096_0_7256⟩,
      ⟨S32x1024, extractStridedSlice S32x1024 ![0, 0] (m ((c : Thread nD τ).loc main_arg0)) slices_S32x11352_S32x1024_0_0⟩,
      ⟨S32x1024, extractStridedSlice S32x1024 ![0, 1024] (m ((c : Thread nD τ).loc main_arg0)) slices_S32x11352_S32x1024_0_1024⟩,
      ⟨S32x1024, extractStridedSlice S32x1024 ![0, 2048] (m ((c : Thread nD τ).loc main_arg0)) slices_S32x11352_S32x1024_0_2048⟩,
      ⟨S32x1024, extractStridedSlice S32x1024 ![0, 3080] (m ((c : Thread nD τ).loc main_arg0)) slices_S32x11352_S32x1024_0_3080⟩,
      ⟨S32x1024, extractStridedSlice S32x1024 ![0, 4104] (m ((c : Thread nD τ).loc main_arg0)) slices_S32x11352_S32x1024_0_4104⟩,
      ⟨S32x1024, extractStridedSlice S32x1024 ![0, 5128] (m ((c : Thread nD τ).loc main_arg0)) slices_S32x11352_S32x1024_0_5128⟩,
      ⟨S32x1024, extractStridedSlice S32x1024 ![0, 6152] (m ((c : Thread nD τ).loc main_arg0)) slices_S32x11352_S32x1024_0_6152⟩]
     concatenates_S32x4096_S32x1024_S32x1024_S32x1024_S32x1024_S32x1024_S32x1024_S32x1024_S32x11264_d1 := by
  unfold V hostOps0
  after_results_simp
  dsimp only [Matrix.cons_val]
  rfl

theorem entryQ (r : Fin 32) (k : Fin 1024) (n : Fin 11264) (h : n.val = 7168 + k.val) : V m c main_v12 (ix2 r n) = argP m c r ⟨3080 + k.val, by omega⟩ := by
  rw [wide]
  pointwise
  rw [dif_neg (by omega), dif_neg (by omega), dif_neg (by omega), dif_neg (by omega), dif_pos (by omega)]
  refine congrArg (argP m c r) (Fin.ext ?_)
  dsimp only
  omega

theorem entryK (r : Fin 32) (k : Fin 1024) (n : Fin 11264) (h : n.val = 8192 + k.val) : V m c main_v12 (ix2 r n) = argP m c r ⟨4104 + k.val, by omega⟩ := by
  rw [wide]
  pointwise
  rw [dif_neg (by omega), dif_neg (by omega), dif_neg (by omega), dif_neg (by omega), dif_neg (by omega), dif_pos (by omega)]
  refine congrArg (argP m c r) (Fin.ext ?_)
  dsimp only
  omega

theorem entryV (r : Fin 32) (k : Fin 1024) (n : Fin 11264) (h : n.val = 9216 + k.val) : V m c main_v12 (ix2 r n) = argP m c r ⟨5128 + k.val, by omega⟩ := by
  rw [wide]
  pointwise
  rw [dif_neg (by omega), dif_neg (by omega), dif_neg (by omega), dif_neg (by omega), dif_neg (by omega), dif_neg (by omega), dif_pos (by omega)]
  refine congrArg (argP m c r) (Fin.ext ?_)
  dsimp only
  omega

theorem entryI (r : Fin 32) (k : Fin 1024) (n : Fin 11264) (h : n.val = 10240 + k.val) : V m c main_v12 (ix2 r n) = argP m c r ⟨6152 + k.val, by omega⟩ := by
  rw [wide]
  pointwise
  rw [dif_neg (by omega), dif_neg (by omega), dif_neg (by omega), dif_neg (by omega), dif_neg (by omega), dif_neg (by omega), dif_neg (by omega)]
  refine congrArg (argP m c r) (Fin.ext ?_)
  dsimp only
  omega

/-- The small columns. -/
theorem small : V m c main_v14 = concatenate S32x128 1
     [⟨S32x64, extractStridedSlice S32x64 ![0, 7176] (m ((c : Thread nD τ).loc main_arg0)) slices_S32x11352_S32x64_0_7176⟩,
      ⟨S32x16, extractStridedSlice S32x16 ![0, 7240] (m ((c : Thread nD τ).loc main_arg0)) slices_S32x11352_S32x16_0_7240⟩,
      ⟨S32x4, extractStridedSlice S32x4 ![0, 3072] (m ((c : Thread nD τ).loc main_arg0)) slices_S32x11352_S32x4_0_3072⟩,
      ⟨S32x4, extractStridedSlice S32x4 ![0, 3076] (m ((c : Thread nD τ).loc main_arg0)) slices_S32x11352_S32x4_0_3076⟩,
      ⟨S32x40, broadcastInDim S32x40 ![] bcast_S_S32x40 (constant S_ .f32 0x00000000#32 : FVec Ideal S_ .f32)⟩]
     concatenates_S32x64_S32x16_S32x4_S32x4_S32x40_S32x128_d1 := by
  unfold V hostOps0
  after_results_simp
  dsimp only [Matrix.cons_val]
  rfl

theorem entryD (r : Fin 32) (d : Fin 64) (n : Fin 128) (h : n.val = d.val) : V m c main_v14 (ix2 r n) = argP m c r ⟨7176 + d.val, by omega⟩ := by
  rw [small]
  pointwise
  rw [dif_pos (by omega)]
  refine congrArg (argP m c r) (Fin.ext ?_)
  dsimp only
  omega

theorem entryW (r : Fin 32) (d : Fin 16) (n : Fin 128) (h : n.val = 64 + d.val) : V m c main_v14 (ix2 r n) = argP m c r ⟨7240 + d.val, by omega⟩ := by
  rw [small]
  pointwise
  rw [dif_neg (by omega), dif_pos (by omega)]
  refine congrArg (argP m c r) (Fin.ext ?_)
  dsimp only
  omega

theorem entryG (k : Fin 128) : V m c main_v15 (ix2 0 k) = argQ m c k := by
  have e : V m c main_v15 = broadcastInDim S1x128 ![1] bcast_S128_S1x128_1 (m ((c : Thread nD τ).loc main_arg1)) := by
    unfold V hostOps0
    after_results_simp
  rw [e]
  pointwise

theorem entryH (k : Fin 128) : V m c main_v16 (ix2 0 k) = argK m c k := by
  have e : V m c main_v16 = broadcastInDim S1x128 ![1] bcast_S128_S1x128_1 (m ((c : Thread nD τ).loc main_arg2)) := by
    unfold V hostOps0
    after_results_simp
  rw [e]
  pointwise

/-! ## What the blocks hold -/

theorem idx_facts : ∀ t : Fin cfg0.N, (win0_0.index t (0 : Fin 2) = 0 ∧ win0_0.index t (1 : Fin 2) = 7)
    ∧ (win0_1.index t (0 : Fin 2) = 0 ∧ win0_1.index t (1 : Fin 2) = 8)
    ∧ (win0_2.index t (0 : Fin 2) = 0 ∧ win0_2.index t (1 : Fin 2) = 9)
    ∧ (win0_3.index t (0 : Fin 2) = 0 ∧ win0_3.index t (1 : Fin 2) = 10)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem readQ (t : Fin cfg0.N) (r : Fin 32) (k : Fin 1024) : iblk m c 0 t (ix2 r k) = argP m c r ⟨3080 + k.val, by omega⟩ := by
  show V m c main_v12 (((cfg0.win 0).blk t).view.emb (ix2 r k)) = _
  rw [← entryQ m c r k ⟨7168 + k.val, by omega⟩ rfl]
  refine congrArg (V m c main_v12) ?_
  obtain ⟨⟨e0, e1⟩, _, _, _, _, _, _, _, _, _, _⟩ := idx_facts t
  funext a; apply Fin.ext
  match a with
  | ⟨0, _⟩ => show win0_0.index t (0 : Fin 2) * 32 + 1 * r.val = r.val; omega
  | ⟨1, _⟩ => show win0_0.index t (1 : Fin 2) * 1024 + 1 * k.val = 7168 + k.val; omega

theorem readK (t : Fin cfg0.N) (r : Fin 32) (k : Fin 1024) : iblk m c 1 t (ix2 r k) = argP m c r ⟨4104 + k.val, by omega⟩ := by
  show V m c main_v12 (((cfg0.win 1).blk t).view.emb (ix2 r k)) = _
  rw [← entryK m c r k ⟨8192 + k.val, by omega⟩ rfl]
  refine congrArg (V m c main_v12) ?_
  obtain ⟨_, ⟨e0, e1⟩, _, _, _, _, _, _, _, _, _⟩ := idx_facts t
  funext a; apply Fin.ext
  match a with
  | ⟨0, _⟩ => show win0_1.index t (0 : Fin 2) * 32 + 1 * r.val = r.val; omega
  | ⟨1, _⟩ => show win0_1.index t (1 : Fin 2) * 1024 + 1 * k.val = 8192 + k.val; omega

theorem readV (t : Fin cfg0.N) (r : Fin 32) (k : Fin 1024) : iblk m c 2 t (ix2 r k) = argP m c r ⟨5128 + k.val, by omega⟩ := by
  show V m c main_v12 (((cfg0.win 2).blk t).view.emb (ix2 r k)) = _
  rw [← entryV m c r k ⟨9216 + k.val, by omega⟩ rfl]
  refine congrArg (V m c main_v12) ?_
  obtain ⟨_, _, ⟨e0, e1⟩, _, _, _, _, _, _, _, _⟩ := idx_facts t
  funext a; apply Fin.ext
  match a with
  | ⟨0, _⟩ => show win0_2.index t (0 : Fin 2) * 32 + 1 * r.val = r.val; omega
  | ⟨1, _⟩ => show win0_2.index t (1 : Fin 2) * 1024 + 1 * k.val = 9216 + k.val; omega

theorem readI (t : Fin cfg0.N) (r : Fin 32) (k : Fin 1024) : iblk m c 3 t (ix2 r k) = argP m c r ⟨6152 + k.val, by omega⟩ := by
  show V m c main_v12 (((cfg0.win 3).blk t).view.emb (ix2 r k)) = _
  rw [← entryI m c r k ⟨10240 + k.val, by omega⟩ rfl]
  refine congrArg (V m c main_v12) ?_
  obtain ⟨_, _, _, ⟨e0, e1⟩, _, _, _, _, _, _, _⟩ := idx_facts t
  funext a; apply Fin.ext
  match a with
  | ⟨0, _⟩ => show win0_3.index t (0 : Fin 2) * 32 + 1 * r.val = r.val; omega
  | ⟨1, _⟩ => show win0_3.index t (1 : Fin 2) * 1024 + 1 * k.val = 10240 + k.val; omega

theorem whole4 (t : Fin cfg0.N) (r : Fin 32) (k : Fin 128) : iblk m c 4 t (ix2 r k) = V m c main_v14 (ix2 r k) := by
  show V m c main_v14 (((cfg0.win 4).blk t).view.emb (ix2 r k)) = _
  refine congrArg (V m c main_v14) ?_
  obtain ⟨_, _, _, _, ⟨e0, e1⟩, _, _, _, _, _, _⟩ := idx_facts t
  funext a; apply Fin.ext
  match a with
  | ⟨0, _⟩ => show win0_4.index t (0 : Fin 2) * 32 + 1 * r.val = r.val; omega
  | ⟨1, _⟩ => show win0_4.index t (1 : Fin 2) * 128 + 1 * k.val = k.val; omega

theorem whole5 (t : Fin cfg0.N) (r : Fin 1) (k : Fin 128) : iblk m c 5 t (ix2 r k) = V m c main_v15 (ix2 r k) := by
  show V m c main_v15 (((cfg0.win 5).blk t).view.emb (ix2 r k)) = _
  refine congrArg (V m c main_v15) ?_
  obtain ⟨_, _, _, _, _, ⟨e0, e1⟩, _, _, _, _, _⟩ := idx_facts t
  funext a; apply Fin.ext
  match a with
  | ⟨0, _⟩ => show win0_5.index t (0 : Fin 2) * 1 + 1 * r.val = r.val; omega
  | ⟨1, _⟩ => show win0_5.index t (1 : Fin 2) * 128 + 1 * k.val = k.val; omega

theorem whole6 (t : Fin cfg0.N) (r : Fin 1) (k : Fin 128) : iblk m c 6 t (ix2 r k) = V m c main_v16 (ix2 r k) := by
  show V m c main_v16 (((cfg0.win 6).blk t).view.emb (ix2 r k)) = _
  refine congrArg (V m c main_v16) ?_
  obtain ⟨_, _, _, _, _, _, ⟨e0, e1⟩, _, _, _, _⟩ := idx_facts t
  funext a; apply Fin.ext
  match a with
  | ⟨0, _⟩ => show win0_6.index t (0 : Fin 2) * 1 + 1 * r.val = r.val; omega
  | ⟨1, _⟩ => show win0_6.index t (1 : Fin 2) * 128 + 1 * k.val = k.val; omega

/-! ## The arrays after the run -/

/-- The four results. -/
def queriesTarget : Buf (Elt Ideal) ((c : Thread nD τ).loc main_v17_0) := fun i : S32x1024.Idx =>
  queries (fun k => argP m c (i 0) ⟨3080 + k.val, by omega⟩) (argQ m c) (i 1)
def keysTarget : Buf (Elt Ideal) ((c : Thread nD τ).loc main_v17_1) := fun i : S32x1024.Idx =>
  heads (fun k => argP m c (i 0) ⟨4104 + k.val, by omega⟩) (argK m c) (i 1)
def valuesTarget : Buf (Elt Ideal) ((c : Thread nD τ).loc main_v17_2) := fun i : S32x1024.Idx =>
  argP m c (i 0) ⟨5128 + (i 1).val, by have : (i 1).val < 1024 := (i 1).isLt; omega⟩
def scoreTarget : Buf (Elt Ideal) ((c : Thread nD τ).loc main_v17_3) := fun i : S32x128.Idx =>
  score (fun k => argP m c (i 0) ⟨6152 + k.val, by omega⟩) (fun d => argP m c (i 0) ⟨7176 + d.val, by omega⟩)
    (fun h => argP m c (i 0) ⟨7240 + h.val, by omega⟩)

theorem queries_block (t : Fin cfg0.N) (r : Fin 32) (j : Fin 1024) :
    out0_7 (iblk m c 0 t) (iblk m c 1 t) (iblk m c 2 t) (iblk m c 3 t) (iblk m c 4 t) (iblk m c 5 t) (iblk m c 6 t) (ix2 r j) = queriesTarget m c (ix2 r j : S32x1024.Idx) := by
  rw [out_queries]
  simp only [readQ, whole5]
  exact congrArg (fun g => queries _ g j) (funext fun k => entryG m c k)

theorem queries_flushed (t : Fin cfg0.N) :
    (dats m 0 c).flushed 7 t = ((cfg0.win 7).blk t).view.read (Elt Ideal) (queriesTarget m c) := by
  show (cfg0.win 7).cut (grid0.coords t) ((dats m 0 c).after 7 t) = _
  rw [after0_7]
  refine funext fun (y : S32x1024.Idx) => ?_
  obtain ⟨_, _, _, _, _, _, _, ⟨e0, e1⟩, _, _, _⟩ := idx_facts t
  have hb : (((cfg0.win 7).blk t).view.emb y : S32x1024.Idx) = ix2 (y 0) (y 1) := by
    funext a; apply Fin.ext
    match a with
    | ⟨0, _⟩ => show win0_7.index t (0 : Fin 2) * 32 + 1 * (y 0).val = (y 0).val; omega
    | ⟨1, _⟩ => show win0_7.index t (1 : Fin 2) * 1024 + 1 * (y 1).val = (y 1).val; omega
  have hx : ((cfg0.win 7).xinj (grid0.coords t) y : S32x1024.Idx) = ix2 (y 0) (y 1) := by
    funext a; apply Fin.ext
    match a with
    | ⟨0, _⟩ => rfl
    | ⟨1, _⟩ => rfl
  refine ((congrArg (out0_7 (iblk m c 0 t) (iblk m c 1 t) (iblk m c 2 t) (iblk m c 3 t) (iblk m c 4 t) (iblk m c 5 t) (iblk m c 6 t)) hx).trans (queries_block m c t (y 0) (y 1))).trans ?_
  exact (congrArg (queriesTarget m c) hb).symm

theorem queries_cover (i : S32x1024.Idx) : ∃ t : Fin cfg0.N, (cfg0.win 7).flush t = true ∧ i ∈ ((cfg0.win 7).blk t).view.set := by
  have hi0 : (i 0).val < 32 := (i 0).isLt
  have hi1 : (i 1).val < 1024 := (i 1).isLt
  have hN : 0 < cfg0.N := lt_of_lt_of_eq (by omega) N_0.symm
  refine ⟨⟨0, hN⟩, flush0_7 _, ?_⟩
  obtain ⟨_, _, _, _, _, _, _, ⟨e0, e1⟩, _, _, _⟩ := idx_facts ⟨0, hN⟩
  show i ∈ ((View.whole main_v17_0).slice (win0_7.rect (⟨0, hN⟩ : Fin cfg0.N))).set
  rw [View.set_slice_whole, Rect.mem_set_unit]
  intro a
  match a with
  | ⟨0, _⟩ => show win0_7.index _ (0 : Fin 2) * 32 ≤ (i 0).val ∧ (i 0).val < win0_7.index _ (0 : Fin 2) * 32 + 32; omega
  | ⟨1, _⟩ => show win0_7.index _ (1 : Fin 2) * 1024 ≤ (i 1).val ∧ (i 1).val < win0_7.index _ (1 : Fin 2) * 1024 + 1024; omega

theorem queries_final : (dats m 0 c).arrAt 7 cfg0.N = queriesTarget m c :=
  (dats m 0 c).arrAt_eq_of_cover 7 _ (fun t _ => queries_flushed m c t) queries_cover

theorem keys_block (t : Fin cfg0.N) (r : Fin 32) (j : Fin 1024) :
    out0_8 (iblk m c 0 t) (iblk m c 1 t) (iblk m c 2 t) (iblk m c 3 t) (iblk m c 4 t) (iblk m c 5 t) (iblk m c 6 t) (ix2 r j) = keysTarget m c (ix2 r j : S32x1024.Idx) := by
  rw [out_keys]
  simp only [readK, whole6]
  exact congrArg (fun g => heads _ g j) (funext fun k => entryH m c k)

theorem keys_flushed (t : Fin cfg0.N) :
    (dats m 0 c).flushed 8 t = ((cfg0.win 8).blk t).view.read (Elt Ideal) (keysTarget m c) := by
  show (cfg0.win 8).cut (grid0.coords t) ((dats m 0 c).after 8 t) = _
  rw [after0_8]
  refine funext fun (y : S32x1024.Idx) => ?_
  obtain ⟨_, _, _, _, _, _, _, _, ⟨e0, e1⟩, _, _⟩ := idx_facts t
  have hb : (((cfg0.win 8).blk t).view.emb y : S32x1024.Idx) = ix2 (y 0) (y 1) := by
    funext a; apply Fin.ext
    match a with
    | ⟨0, _⟩ => show win0_8.index t (0 : Fin 2) * 32 + 1 * (y 0).val = (y 0).val; omega
    | ⟨1, _⟩ => show win0_8.index t (1 : Fin 2) * 1024 + 1 * (y 1).val = (y 1).val; omega
  have hx : ((cfg0.win 8).xinj (grid0.coords t) y : S32x1024.Idx) = ix2 (y 0) (y 1) := by
    funext a; apply Fin.ext
    match a with
    | ⟨0, _⟩ => rfl
    | ⟨1, _⟩ => rfl
  refine ((congrArg (out0_8 (iblk m c 0 t) (iblk m c 1 t) (iblk m c 2 t) (iblk m c 3 t) (iblk m c 4 t) (iblk m c 5 t) (iblk m c 6 t)) hx).trans (keys_block m c t (y 0) (y 1))).trans ?_
  exact (congrArg (keysTarget m c) hb).symm

theorem keys_cover (i : S32x1024.Idx) : ∃ t : Fin cfg0.N, (cfg0.win 8).flush t = true ∧ i ∈ ((cfg0.win 8).blk t).view.set := by
  have hi0 : (i 0).val < 32 := (i 0).isLt
  have hi1 : (i 1).val < 1024 := (i 1).isLt
  have hN : 0 < cfg0.N := lt_of_lt_of_eq (by omega) N_0.symm
  refine ⟨⟨0, hN⟩, flush0_8 _, ?_⟩
  obtain ⟨_, _, _, _, _, _, _, _, ⟨e0, e1⟩, _, _⟩ := idx_facts ⟨0, hN⟩
  show i ∈ ((View.whole main_v17_1).slice (win0_8.rect (⟨0, hN⟩ : Fin cfg0.N))).set
  rw [View.set_slice_whole, Rect.mem_set_unit]
  intro a
  match a with
  | ⟨0, _⟩ => show win0_8.index _ (0 : Fin 2) * 32 ≤ (i 0).val ∧ (i 0).val < win0_8.index _ (0 : Fin 2) * 32 + 32; omega
  | ⟨1, _⟩ => show win0_8.index _ (1 : Fin 2) * 1024 ≤ (i 1).val ∧ (i 1).val < win0_8.index _ (1 : Fin 2) * 1024 + 1024; omega

theorem keys_final : (dats m 0 c).arrAt 8 cfg0.N = keysTarget m c :=
  (dats m 0 c).arrAt_eq_of_cover 8 _ (fun t _ => keys_flushed m c t) keys_cover

theorem values_block (t : Fin cfg0.N) (r : Fin 32) (j : Fin 1024) :
    out0_9 (iblk m c 0 t) (iblk m c 1 t) (iblk m c 2 t) (iblk m c 3 t) (iblk m c 4 t) (iblk m c 5 t) (iblk m c 6 t) (ix2 r j) = valuesTarget m c (ix2 r j : S32x1024.Idx) := by
  rw [out_values]
  rw [readV]
  rfl

theorem values_flushed (t : Fin cfg0.N) :
    (dats m 0 c).flushed 9 t = ((cfg0.win 9).blk t).view.read (Elt Ideal) (valuesTarget m c) := by
  show (cfg0.win 9).cut (grid0.coords t) ((dats m 0 c).after 9 t) = _
  rw [after0_9]
  refine funext fun (y : S32x1024.Idx) => ?_
  obtain ⟨_, _, _, _, _, _, _, _, _, ⟨e0, e1⟩, _⟩ := idx_facts t
  have hb : (((cfg0.win 9).blk t).view.emb y : S32x1024.Idx) = ix2 (y 0) (y 1) := by
    funext a; apply Fin.ext
    match a with
    | ⟨0, _⟩ => show win0_9.index t (0 : Fin 2) * 32 + 1 * (y 0).val = (y 0).val; omega
    | ⟨1, _⟩ => show win0_9.index t (1 : Fin 2) * 1024 + 1 * (y 1).val = (y 1).val; omega
  have hx : ((cfg0.win 9).xinj (grid0.coords t) y : S32x1024.Idx) = ix2 (y 0) (y 1) := by
    funext a; apply Fin.ext
    match a with
    | ⟨0, _⟩ => rfl
    | ⟨1, _⟩ => rfl
  refine ((congrArg (out0_9 (iblk m c 0 t) (iblk m c 1 t) (iblk m c 2 t) (iblk m c 3 t) (iblk m c 4 t) (iblk m c 5 t) (iblk m c 6 t)) hx).trans (values_block m c t (y 0) (y 1))).trans ?_
  exact (congrArg (valuesTarget m c) hb).symm

theorem values_cover (i : S32x1024.Idx) : ∃ t : Fin cfg0.N, (cfg0.win 9).flush t = true ∧ i ∈ ((cfg0.win 9).blk t).view.set := by
  have hi0 : (i 0).val < 32 := (i 0).isLt
  have hi1 : (i 1).val < 1024 := (i 1).isLt
  have hN : 0 < cfg0.N := lt_of_lt_of_eq (by omega) N_0.symm
  refine ⟨⟨0, hN⟩, flush0_9 _, ?_⟩
  obtain ⟨_, _, _, _, _, _, _, _, _, ⟨e0, e1⟩, _⟩ := idx_facts ⟨0, hN⟩
  show i ∈ ((View.whole main_v17_2).slice (win0_9.rect (⟨0, hN⟩ : Fin cfg0.N))).set
  rw [View.set_slice_whole, Rect.mem_set_unit]
  intro a
  match a with
  | ⟨0, _⟩ => show win0_9.index _ (0 : Fin 2) * 32 ≤ (i 0).val ∧ (i 0).val < win0_9.index _ (0 : Fin 2) * 32 + 32; omega
  | ⟨1, _⟩ => show win0_9.index _ (1 : Fin 2) * 1024 ≤ (i 1).val ∧ (i 1).val < win0_9.index _ (1 : Fin 2) * 1024 + 1024; omega

theorem values_final : (dats m 0 c).arrAt 9 cfg0.N = valuesTarget m c :=
  (dats m 0 c).arrAt_eq_of_cover 9 _ (fun t _ => values_flushed m c t) values_cover

theorem score_block (t : Fin cfg0.N) (r : Fin 32) (j : Fin 128) :
    out0_10 (iblk m c 0 t) (iblk m c 1 t) (iblk m c 2 t) (iblk m c 3 t) (iblk m c 4 t) (iblk m c 5 t) (iblk m c 6 t) (ix2 r j) = scoreTarget m c (ix2 r j : S32x128.Idx) := by
  rw [out_score]
  unfold keyOf weightOf
  simp only [readI, whole4]
  exact congrArg₂ (score _) (funext fun d => entryD m c r d _ rfl) (funext fun h => entryW m c r h _ rfl)

theorem score_flushed (t : Fin cfg0.N) :
    (dats m 0 c).flushed 10 t = ((cfg0.win 10).blk t).view.read (Elt Ideal) (scoreTarget m c) := by
  show (cfg0.win 10).cut (grid0.coords t) ((dats m 0 c).after 10 t) = _
  rw [after0_10]
  refine funext fun (y : S32x128.Idx) => ?_
  obtain ⟨_, _, _, _, _, _, _, _, _, _, e0, e1⟩ := idx_facts t
  have hb : (((cfg0.win 10).blk t).view.emb y : S32x128.Idx) = ix2 (y 0) (y 1) := by
    funext a; apply Fin.ext
    match a with
    | ⟨0, _⟩ => show win0_10.index t (0 : Fin 2) * 32 + 1 * (y 0).val = (y 0).val; omega
    | ⟨1, _⟩ => show win0_10.index t (1 : Fin 2) * 128 + 1 * (y 1).val = (y 1).val; omega
  have hx : ((cfg0.win 10).xinj (grid0.coords t) y : S32x128.Idx) = ix2 (y 0) (y 1) := by
    funext a; apply Fin.ext
    match a with
    | ⟨0, _⟩ => rfl
    | ⟨1, _⟩ => rfl
  refine ((congrArg (out0_10 (iblk m c 0 t) (iblk m c 1 t) (iblk m c 2 t) (iblk m c 3 t) (iblk m c 4 t) (iblk m c 5 t) (iblk m c 6 t)) hx).trans (score_block m c t (y 0) (y 1))).trans ?_
  exact (congrArg (scoreTarget m c) hb).symm

theorem score_cover (i : S32x128.Idx) : ∃ t : Fin cfg0.N, (cfg0.win 10).flush t = true ∧ i ∈ ((cfg0.win 10).blk t).view.set := by
  have hi0 : (i 0).val < 32 := (i 0).isLt
  have hi1 : (i 1).val < 128 := (i 1).isLt
  have hN : 0 < cfg0.N := lt_of_lt_of_eq (by omega) N_0.symm
  refine ⟨⟨0, hN⟩, flush0_10 _, ?_⟩
  obtain ⟨_, _, _, _, _, _, _, _, _, _, e0, e1⟩ := idx_facts ⟨0, hN⟩
  show i ∈ ((View.whole main_v17_3).slice (win0_10.rect (⟨0, hN⟩ : Fin cfg0.N))).set
  rw [View.set_slice_whole, Rect.mem_set_unit]
  intro a
  match a with
  | ⟨0, _⟩ => show win0_10.index _ (0 : Fin 2) * 32 ≤ (i 0).val ∧ (i 0).val < win0_10.index _ (0 : Fin 2) * 32 + 32; omega
  | ⟨1, _⟩ => show win0_10.index _ (1 : Fin 2) * 128 ≤ (i 1).val ∧ (i 1).val < win0_10.index _ (1 : Fin 2) * 128 + 128; omega

theorem score_final : (dats m 0 c).arrAt 10 cfg0.N = scoreTarget m c :=
  (dats m 0 c).arrAt_eq_of_cover 10 _ (fun t _ => score_flushed m c t) score_cover

/-- The kernel's run: the four results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v17_0) = queriesTarget m c
      ∧ r.2.mem ((c : Thread nD τ).loc main_v17_1) = keysTarget m c
      ∧ r.2.mem ((c : Thread nD τ).loc main_v17_2) = valuesTarget m c
      ∧ r.2.mem ((c : Thread nD τ).loc main_v17_3) = scoreTarget m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 7).trans (queries_final m c), ((h c).1 8).trans (keys_final m c),
      ((h c).1 9).trans (values_final m c), ((h c).1 10).trans (score_final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.SamplePrep
-- ==== Proof.SamplePrepReference.lean ====
module

public import proofs.«01_k».proof.Proof.Gen.Reference10Ideal.Run
public import proofs.«01_k».proof.Proof.SamplePrepValue

/-! The reference of the samples' preparation gives the same four arrays. -/

@[expose] public section

noncomputable section

namespace Cert.SamplePrepReference

open Cert.SamplePrep Cert.Reference10Ideal Idealize.ShloMosaic Idealize.ShloMosaic.TcCoe Idealize.SL.Sem

variable (m : (ℓ : Loc nD τ sig) → Buf (Elt Ideal) ℓ) (c : Dev nD)

/-- The arguments, as arrays of extended reals. -/
abbrev argP (r : Fin 32) (k : Fin 11352) : EReal := m ((c : Thread nD τ).loc main_arg0) (ix2 r k)
abbrev argQ (k : Fin 128) : EReal := m ((c : Thread nD τ).loc main_arg1) (ix1 k)
abbrev argK (k : Fin 128) : EReal := m ((c : Thread nD τ).loc main_arg2) (ix1 k)

/-- The four results. -/
def queriesTarget : Buf (Elt Ideal) ((c : Thread nD τ).loc main_v41) := fun i : S32x1024.Idx =>
  queries (fun k => argP m c (i 0) ⟨3080 + k.val, by omega⟩) (argQ m c) (i 1)
def keysTarget : Buf (Elt Ideal) ((c : Thread nD τ).loc main_v42) := fun i : S32x1024.Idx =>
  heads (fun k => argP m c (i 0) ⟨4104 + k.val, by omega⟩) (argK m c) (i 1)
def valuesTarget : Buf (Elt Ideal) ((c : Thread nD τ).loc main_v43) := fun i : S32x1024.Idx =>
  argP m c (i 0) ⟨5128 + (i 1).val, by have : (i 1).val < 1024 := (i 1).isLt; omega⟩
def scoreTarget : Buf (Elt Ideal) ((c : Thread nD τ).loc main_v45) := fun i : S32x128.Idx =>
  score (fun k => argP m c (i 0) ⟨6152 + k.val, by omega⟩) (fun d => argP m c (i 0) ⟨7176 + d.val, by omega⟩)
    (fun h => argP m c (i 0) ⟨7240 + h.val, by omega⟩)

/-- The reference's run: the four results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v41) = queriesTarget m c
      ∧ r.2.mem ((c : Thread nD τ).loc main_v42) = keysTarget m c
      ∧ r.2.mem ((c : Thread nD τ).loc main_v43) = valuesTarget m c
      ∧ r.2.mem ((c : Thread nD τ).loc main_v45) = scoreTarget m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ⟨(h c).1.trans ?_, (h c).2.1.trans ?_, (h c).2.2.1.trans ?_,
    (h c).2.2.2.1.trans ?_, (h c).2.2.2.2⟩) (Cert.Reference10Ideal.Value.run m ρ)
  · funext i
    unfold queriesTarget queries heads normed
    pointwise
    simp only [mul_comm (128 : ℕ), Nat.div_add_mod']
  · funext i
    unfold keysTarget heads normed
    pointwise
    simp only [mul_comm (128 : ℕ), Nat.div_add_mod']
  · funext i
    unfold valuesTarget
    pointwise
  · funext i
    unfold scoreTarget score term
    pointwise
    simp only [mul_comm (64 : ℕ)]

end Cert.SamplePrepReference
-- ==== Proof.PrepMath.lean ====
module

public import proofs.«01_k».proof.Proof.SamplePrepMath

/-! The prompt's prepared keys on arrays of extended reals: the squared sizes of the normalised heads and their largest. -/

@[expose] public section

noncomputable section

namespace Cert.Prep

open Cert.SamplePrep Idealize.ShloMosaic

/-- The squared size of a normalised head. -/
def square (x g : Fin 128 → EReal) : EReal := ∑ k, normed x g k * normed x g k

/-- The squared size of head `h` of a row of eight normalised heads. -/
def size (x : Fin 1024 → EReal) (g : Fin 128 → EReal) (h : Fin 8) : EReal :=
  ∑ k : Fin 128, heads x g ⟨128 * h.val + k.val, by omega⟩ * heads x g ⟨128 * h.val + k.val, by omega⟩

/-- A row's small columns: the indexer's keys and head weights, the gates, and zeros. -/
def smallColumns (x : Fin 11352 → EReal) (l : Fin 128) : EReal :=
  if _h : l.val < 64 then x ⟨7176 + l.val, by omega⟩
  else if _h : l.val - 64 < 16 then x ⟨7240 + (l.val - 64), by omega⟩
  else if _h : l.val - 64 - 16 < 4 then x ⟨3072 + (l.val - 64 - 16), by omega⟩
  else if _h : l.val - 64 - 16 - 4 < 4 then x ⟨3076 + (l.val - 64 - 16 - 4), by omega⟩
  else 0

/-- The largest of the values over some rows. -/
def largest {n : ℕ} (f : Fin n → EReal) : EReal := Finset.univ.fold max (Ideal.ofBits .f32 0xFF800000#32) f

/-- The largest of the rows `0 .. n - 1`. -/
def upTo (f : Fin 8192 → EReal) (n : ℕ) : EReal :=
  (Finset.univ.filter fun r : Fin 8192 => r.val < n).fold max (Ideal.ofBits .f32 0xFF800000#32) f

theorem upTo_all (f : Fin 8192 → EReal) : upTo f 8192 = largest f := by
  unfold upTo largest
  rw [Finset.filter_true_of_mem fun r _ => r.isLt]

/-- Taking in one more block of 512 rows. -/
theorem upTo_next (f : Fin 8192 → EReal) (t : ℕ) (h : 512 * t + 512 ≤ 8192) :
    max (upTo f (512 * t)) (largest fun r : Fin 512 => f ⟨512 * t + r.val, by omega⟩) = upTo f (512 * t + 512) := by
  apply le_antisymm
  · refine max_le (Finset.fold_max_le _ |>.mpr ⟨Finset.le_fold_max _ |>.mpr (Or.inl le_rfl), fun r hr => ?_⟩)
      (Finset.fold_max_le _ |>.mpr ⟨Finset.le_fold_max _ |>.mpr (Or.inl le_rfl), fun r _ => ?_⟩)
    · refine Finset.le_fold_max _ |>.mpr (Or.inr ⟨r, ?_, le_rfl⟩)
      rw [Finset.mem_filter] at hr ⊢
      exact ⟨hr.1, by omega⟩
    · refine Finset.le_fold_max _ |>.mpr (Or.inr ⟨⟨512 * t + r.val, by omega⟩, ?_, le_rfl⟩)
      rw [Finset.mem_filter]
      exact ⟨Finset.mem_univ _, by dsimp only; omega⟩
  · refine Finset.fold_max_le _ |>.mpr ⟨le_max_of_le_left (Finset.le_fold_max _ |>.mpr (Or.inl le_rfl)), fun r hr => ?_⟩
    rw [Finset.mem_filter] at hr
    by_cases q : r.val < 512 * t
    · refine le_max_of_le_left (Finset.le_fold_max _ |>.mpr (Or.inr ⟨r, ?_, le_rfl⟩))
      rw [Finset.mem_filter]
      exact ⟨hr.1, q⟩
    · refine le_max_of_le_right (Finset.le_fold_max _ |>.mpr (Or.inr ⟨⟨r.val - 512 * t, by omega⟩, Finset.mem_univ _, le_of_eq ?_⟩))
      refine congrArg f (Fin.ext ?_)
      dsimp only
      omega

/-- The first block, on its own. -/
theorem upTo_first (f : Fin 8192 → EReal) : (largest fun r : Fin 512 => f ⟨r.val, by omega⟩) = upTo f 512 := by
  have h := upTo_next f 0 (by omega)
  have e : upTo f (512 * 0) ≤ largest fun r : Fin 512 => f ⟨512 * 0 + r.val, by omega⟩ := by
    refine Finset.fold_max_le _ |>.mpr ⟨Finset.le_fold_max _ |>.mpr (Or.inl le_rfl), fun r hr => ?_⟩
    rw [Finset.mem_filter] at hr
    omega
  rw [max_eq_right e] at h
  refine Eq.trans (congrArg largest (funext fun r => congrArg f (Fin.ext ?_))) h
  dsimp only
  omega

end Cert.Prep
-- ==== Proof.PrepCases.lean ====
module

public import proofs.«01_k».proof.Proof.Gen.Kernel8Ideal.Frame
public import proofs.«01_k».proof.Proof.PrepMath
public import Idealize.ShloMosaic.Lib.Pipeline.ReadBack

/-! What the prompt's preparation kernel leaves in its output blocks, as a function of the blocks it reads. -/

@[expose] public section

noncomputable section

namespace Cert.Prep

open Cert.SamplePrep Cert.Kernel8Ideal Cert.Kernel8Ideal.Gen Idealize.ShloMosaic Idealize.ShloMosaic.TcCoe Idealize.SL.Sem

theorem corner : (![(0 : ℕ), 0] : Fin 2 → ℕ) = fun _ => 0 := by
  funext a; match a with
  | ⟨0, _⟩ => rfl
  | ⟨1, _⟩ => rfl

/-! ## The payloads at an index -/

section Payloads

variable (x : Vec Ideal S512x128 .f32) (g v : Vec Ideal S1x128 .f32) (r : Fin 512) (k l : Fin 128)

/-- A head's keys. -/
abbrev KeyAt (p : Vec Ideal S512x128 .f32) : Prop := p (ix2 r k) = normed (fun k => x (ix2 r k)) (fun k => g (ix2 0 k)) k

/-- The same, stored in the narrow type. -/
abbrev NarrowAt (p : Vec Ideal S512x128 .bf16) : Prop :=
  (p (ix2 r k) : EReal) = normed (fun k => x (ix2 r k)) (fun k => g (ix2 0 k)) k

/-- A head's running maximum. -/
abbrev MaxAt (p : Vec Ideal S1x128 .f32) : Prop :=
  p (ix2 0 l) = max (v (ix2 0 l)) (largest fun r : Fin 512 => square (fun k => x (ix2 r k)) fun k => g (ix2 0 k))

theorem key0 : KeyAt x g r k (k0_pay3 x g) := by unfold KeyAt; pointwise [k0_pay3, normed]
theorem key1 : KeyAt x g r k (k0_pay6 x g) := by unfold KeyAt; pointwise [k0_pay6, normed]
theorem key2 : KeyAt x g r k (k0_pay12 (k0_pay9 x) (k0_pay10 g) (k0_pay11 x) (FloatOps.ofBits .f32 0x43000000#32)) := by unfold KeyAt; pointwise [k0_pay12, k0_pay9, k0_pay10, k0_pay11, normed]
theorem key3 : KeyAt x g r k (k0_pay15 x g) := by unfold KeyAt; pointwise [k0_pay15, normed]
theorem key4 : KeyAt x g r k (k0_pay18 x g) := by unfold KeyAt; pointwise [k0_pay18, normed]
theorem key5 : KeyAt x g r k (k0_pay22 x g) := by unfold KeyAt; pointwise [k0_pay22, normed]
theorem key6 : KeyAt x g r k (k0_pay26 x g) := by unfold KeyAt; pointwise [k0_pay26, normed]
theorem key7 : KeyAt x g r k (k0_pay29 x g) := by unfold KeyAt; pointwise [k0_pay29, normed]
theorem narrow0 : NarrowAt x g r k (k0_pay4 x g) := by unfold NarrowAt; pointwise [k0_pay4, k0_pay3, normed]
theorem narrow1 : NarrowAt x g r k (k0_pay7 x g) := by unfold NarrowAt; pointwise [k0_pay7, k0_pay6, normed]
theorem narrow2 : NarrowAt x g r k (k0_pay13 (k0_pay9 x) (k0_pay10 g) (k0_pay11 x) (FloatOps.ofBits .f32 0x43000000#32)) := by unfold NarrowAt; pointwise [k0_pay13, k0_pay9, k0_pay10, k0_pay11, k0_pay12, normed]
theorem narrow3 : NarrowAt x g r k (k0_pay16 (k0_pay15 x g)) := by unfold NarrowAt; pointwise [k0_pay16, k0_pay15, normed]
theorem narrow4 : NarrowAt x g r k (k0_pay19 x g) := by unfold NarrowAt; pointwise [k0_pay19, k0_pay18, normed]
theorem narrow5 : NarrowAt x g r k (k0_pay23 x g) := by unfold NarrowAt; pointwise [k0_pay23, k0_pay22, normed]
theorem narrow6 : NarrowAt x g r k (k0_pay27 x g) := by unfold NarrowAt; pointwise [k0_pay27, k0_pay26, normed]
theorem narrow7 : NarrowAt x g r k (k0_pay30 x g) := by unfold NarrowAt; pointwise [k0_pay30, k0_pay29, normed]
theorem max0 : MaxAt x g v l (k0_pay5 x g v) := by unfold MaxAt largest square; pointwise [k0_pay5, k0_pay4, k0_pay3, normed]
theorem max1 : MaxAt x g v l (k0_pay8 x g v) := by unfold MaxAt largest square; pointwise [k0_pay8, k0_pay7, k0_pay6, normed]
theorem max2 : MaxAt x g v l (k0_pay14 (k0_pay9 x) (k0_pay10 g) (k0_pay11 x) (FloatOps.ofBits .f32 0x43000000#32) v) := by unfold MaxAt largest square; pointwise [k0_pay14, k0_pay9, k0_pay10, k0_pay11, k0_pay13, k0_pay12, normed]
theorem max3 : MaxAt x g v l (k0_pay17 (k0_pay15 x g) v) := by unfold MaxAt largest square; pointwise [k0_pay17, k0_pay15, k0_pay16, normed]
theorem max4 : MaxAt x g v l (k0_pay21 (k0_pay20 x g) v) := by unfold MaxAt largest square; pointwise [k0_pay21, k0_pay20, k0_pay19, k0_pay18, normed]
theorem max5 : MaxAt x g v l (k0_pay25 (k0_pay24 x g) v) := by unfold MaxAt largest square; pointwise [k0_pay25, k0_pay24, k0_pay23, k0_pay22, normed]
theorem max6 : MaxAt x g v l (k0_pay28 x g v) := by unfold MaxAt largest square; pointwise [k0_pay28, k0_pay27, k0_pay26, normed]
theorem max7 : MaxAt x g v l (k0_pay31 x g v) := by unfold MaxAt largest square; pointwise [k0_pay31, k0_pay30, k0_pay29, normed]

theorem zero_apply (h : Fin 8) : k0_pay2 (F := Ideal) (ix2 h l) = (0 : EReal) := by
  pointwise [k0_pay2]

theorem small_apply : (k0_pay1 x (ix2 r k) : EReal) = x (ix2 r k) := by
  pointwise [k0_pay1]

end Payloads

theorem values_apply (x : Vec Ideal S512x1024 .f32) (y : S512x1024.Idx) : k0_pay32 x y = x y := by
  rw [← ix2_eta y]
  pointwise [k0_pay32]

theorem narrowValues_apply (x : Vec Ideal S512x1024 .f32) (y : S512x1024.Idx) : (k0_pay33 x y : EReal) = x y := by
  rw [← ix2_eta y]
  pointwise [k0_pay33, k0_pay32]

/-! ## Blocks of eight heads -/

theorem ld_head (x : Vec Ideal S512x1024 .f32) (o : ℕ) (inb) (r : Fin 512) (k : Fin 128) (h : o + k.val < 1024) :
    View.ld x (Rect.unit (s := S512x1024) ![0, o] S512x128.size inb) (ix2 r k) = x (ix2 r ⟨o + k.val, h⟩) := by
  refine congrArg x ?_
  funext a; apply Fin.ext
  match a with
  | ⟨0, _⟩ => show 0 + 1 * r.val = r.val; omega
  | ⟨1, _⟩ => show o + 1 * k.val = o + k.val; omega

theorem head_ld (x : Vec Ideal S512x1024 .f32) (g : Fin 128 → EReal) (o n : ℕ) (inb) (hn : n < 8) (ho : o = 128 * n) (r : Fin 512) (k : Fin 128)
    (h : o + k.val < 1024) :
    normed (fun k => View.ld x (Rect.unit (s := S512x1024) ![0, o] S512x128.size inb) (ix2 r k)) g k
      = heads (fun k => x (ix2 r k)) g ⟨o + k.val, h⟩ := by
  subst ho
  rw [heads_at _ _ n hn k h]
  refine congrArg (fun f => normed f g k) (funext fun k' => ?_)
  exact ld_head x _ inb r k' (by omega)

theorem largest_ld (x : Vec Ideal S512x1024 .f32) (g : Fin 128 → EReal) (o n : ℕ) (inb) (hn : n < 8) (ho : o = 128 * n) :
    (largest fun r : Fin 512 => square (fun k => View.ld x (Rect.unit (s := S512x1024) ![0, o] S512x128.size inb) (ix2 r k)) g)
      = largest fun r : Fin 512 => size (fun k => x (ix2 r k)) g ⟨n, hn⟩ := by
  unfold square size
  refine congrArg largest (funext fun r => Finset.sum_congr rfl fun k _ => ?_)
  rw [head_ld x g o n inb hn ho r k (by omega)]
  have e : (⟨o + k.val, by omega⟩ : Fin 1024) = ⟨128 * (⟨n, hn⟩ : Fin 8).val + k.val, by have := (⟨n, hn⟩ : Fin 8).isLt; omega⟩ := Fin.ext (by dsimp only; omega)
  rw [e]

theorem canon_step (o : ℕ) (ho : o + 128 ≤ 1024) (inb) (w : Vec Ideal S512x128 .f32) (L : List (View.Piece (Elt Ideal) S512x1024 .f32))
    (r : Fin 512) (j : Fin 1024) (G : Fin 1024 → EReal) (hw : ∀ k : Fin 128, (w (ix2 r k) : EReal) = G ⟨o + k.val, by omega⟩)
    (hL : ¬ (o ≤ j.val ∧ j.val < o + 128) → (View.canon L (ix2 r j) : EReal) = G j) :
    (View.canon (⟨Rect.unit (s := S512x1024) ![0, o] S512x128.size inb, w⟩ :: L) (ix2 r j) : EReal) = G j := by
  by_cases h : o ≤ j.val ∧ j.val < o + 128
  · have e : (Rect.unit (s := S512x1024) ![0, o] S512x128.size inb).emb (ix2 r ⟨j.val - o, by omega⟩ : S512x128.Idx) = (ix2 r j : S512x1024.Idx) := by
      funext a; apply Fin.ext
      match a with
      | ⟨0, _⟩ => show 0 + 1 * r.val = r.val; omega
      | ⟨1, _⟩ => show o + 1 * (j.val - o) = j.val; omega
    rw [← e]
    refine (View.canon_cons_emb _ _ _ _).trans ((hw _).trans (congrArg G (Fin.ext ?_)))
    dsimp only
    omega
  · refine (View.canon_cons_of_not_mem _ _ ?_).trans (hL h)
    rw [Rect.mem_set_unit]
    intro hm
    exact h (hm 1)

theorem canon_narrow (o : ℕ) (ho : o + 128 ≤ 1024) (inb) (w : Vec Ideal S512x128 .bf16) (L : List (View.Piece (Elt Ideal) S512x1024 .bf16))
    (r : Fin 512) (j : Fin 1024) (G : Fin 1024 → EReal) (hw : ∀ k : Fin 128, (w (ix2 r k) : EReal) = G ⟨o + k.val, by omega⟩)
    (hL : ¬ (o ≤ j.val ∧ j.val < o + 128) → (View.canon L (ix2 r j) : EReal) = G j) :
    (View.canon (⟨Rect.unit (s := S512x1024) ![0, o] S512x128.size inb, w⟩ :: L) (ix2 r j) : EReal) = G j := by
  by_cases h : o ≤ j.val ∧ j.val < o + 128
  · have e : (Rect.unit (s := S512x1024) ![0, o] S512x128.size inb).emb (ix2 r ⟨j.val - o, by omega⟩ : S512x128.Idx) = (ix2 r j : S512x1024.Idx) := by
      funext a; apply Fin.ext
      match a with
      | ⟨0, _⟩ => show 0 + 1 * r.val = r.val; omega
      | ⟨1, _⟩ => show o + 1 * (j.val - o) = j.val; omega
    rw [← e]
    refine (View.canon_cons_emb _ _ _ _).trans ((hw _).trans (congrArg G (Fin.ext ?_)))
    dsimp only
    omega
  · refine (View.canon_cons_of_not_mem _ _ ?_).trans (hL h)
    rw [Rect.mem_set_unit]
    intro hm
    exact h (hm 1)

/-! ## The block of running maxima, one row per head -/

theorem canon_row (o : ℕ) (ho : o < 8) (inb) (w : Vec Ideal S1x128 .f32) (L : List (View.Piece (Elt Ideal) S8x128 .f32))
    (h : Fin 8) (l : Fin 128) (G : Fin 8 → EReal) (hw : w (ix2 0 l) = G ⟨o, ho⟩)
    (hL : h.val ≠ o → (View.canon L (ix2 h l) : EReal) = G h) :
    (View.canon (⟨Rect.unit (s := S8x128) ![o, 0] S1x128.size inb, w⟩ :: L) (ix2 h l) : EReal) = G h := by
  by_cases q : h.val = o
  · have e : (Rect.unit (s := S8x128) ![o, 0] S1x128.size inb).emb (ix2 0 l : S1x128.Idx) = (ix2 h l : S8x128.Idx) := by
      funext a; apply Fin.ext
      match a with
      | ⟨0, _⟩ => show o + 1 * 0 = h.val; omega
      | ⟨1, _⟩ => show 0 + 1 * l.val = l.val; omega
    rw [← e]
    refine (View.canon_cons_emb _ _ _ _).trans (hw.trans (congrArg G (Fin.ext ?_)))
    exact q.symm
  · refine (View.canon_cons_of_not_mem _ _ ?_).trans (hL q)
    rw [Rect.mem_set_unit]
    intro hm
    have h0 : o ≤ h.val ∧ h.val < o + 1 := hm 0
    omega

theorem ld_row (x : Vec Ideal S8x128 .f32) (o : ℕ) (ho : o < 8) (inb) (l : Fin 128) :
    View.ld x (Rect.unit (s := S8x128) ![o, 0] S1x128.size inb) (ix2 0 l) = x (ix2 ⟨o, ho⟩ l) := by
  refine congrArg x ?_
  funext a; apply Fin.ext
  match a with
  | ⟨0, _⟩ => show o + 1 * 0 = o; omega
  | ⟨1, _⟩ => show 0 + 1 * l.val = l.val; omega

theorem start_row {sig : RefSig} {κ : Kind} {sp : Space} (v : View sig κ sp S8x128 .f32) (o : ℕ) (ho : o < 8) (inb') (inb) (l : Fin 128) :
    v.readCov (Val := Elt Ideal) [⟨Rect.unit (s := S8x128) ![0, 0] S8x128.size inb', k0_pay2 (F := Ideal)⟩]
      (Rect.unit (s := S8x128) ![o, 0] S1x128.size inb).toLoadRect (ix2 0 l) = (0 : EReal) := by
  rw [View.readCov_fill v (s := S8x128) inb' _ [] _ (fun a => match a with | ⟨0, _⟩ => rfl | ⟨1, _⟩ => rfl)]
  exact (ld_row _ o ho inb l).trans (zero_apply l ⟨o, ho⟩)

theorem skip_row {sig : RefSig} {κ : Kind} {sp : Space} (v : View sig κ sp S8x128 .f32) (o n : ℕ) (inb') (inb) (l : Fin 128)
    (w : Vec Ideal S1x128 .f32) (L : List (View.Piece (Elt Ideal) S8x128 .f32)) (hn : o < n)
    (hL : v.readCov (Val := Elt Ideal) L (Rect.unit (s := S8x128) ![n, 0] S1x128.size inb).toLoadRect (ix2 0 l) = (0 : EReal)) :
    v.readCov (Val := Elt Ideal) (⟨Rect.unit (s := S8x128) ![o, 0] S1x128.size inb', w⟩ :: L)
      (Rect.unit (s := S8x128) ![n, 0] S1x128.size inb).toLoadRect (ix2 0 l) = (0 : EReal) := by
  rw [View.readCov_eq_canon'] at hL ⊢
  refine (View.canon_cons_of_not_mem _ _ ?_).trans hL
  rw [Rect.mem_set_unit]
  intro hm
  have h0 : o ≤ n + 1 * 0 ∧ n + 1 * 0 < o + 1 := hm 0
  omega

/-! ## The blocks -/

section Blocks

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x128 .bf16) (harg9 : arg9.IsWhole) (arg10 : Memref sig .tc .vmem S8x128 .f32) (harg10 : arg10.IsWhole)
  (x0 x1 : Vec Ideal S512x1024 .f32) (x2 : Vec Ideal S512x128 .f32) (x3 : Vec Ideal S1x128 .f32) (x9 : Vec Ideal S8x128 .f32)
  (r : Fin 512) (j : Fin 1024) (h : Fin 8) (l : Fin 128)

theorem keys_A (hc0 : cond0_0 i) : (out0_A_4 c i arg1 harg1 arg2 harg2 arg3 harg3 arg4 harg4 arg5 harg5 arg6 harg6 arg7 harg7 arg8 harg8 arg9 harg9 arg10 harg10 hc0 x0 x1 x2 x3 (ix2 r j) : EReal) = heads (fun k => x0 (ix2 r k)) (fun k => x3 (ix2 0 k)) j := by
  unfold out0_A_4
  rw [View.read_writes_junk_eq_canon]
  unfold kernelRun0_A
  dsimp only
  sl_unfold_words
  simp only [View.readAt_eq_ld, View.ld_unit_zero (S := S1x128) corner, harg1.read_unread, harg4.read_unread]
  refine canon_step 896 (by omega) _ _ _ r j (fun j => heads (fun k => x0 (ix2 r k)) (fun k => x3 (ix2 0 k)) j) (fun k => ?_) (fun n7 => ?_)
  · exact (key7 _ _ r k).trans (head_ld _ _ _ 7 _ (by omega) rfl r k _)
  refine canon_step 768 (by omega) _ _ _ r j (fun j => heads (fun k => x0 (ix2 r k)) (fun k => x3 (ix2 0 k)) j) (fun k => ?_) (fun n6 => ?_)
  · exact (key6 _ _ r k).trans (head_ld _ _ _ 6 _ (by omega) rfl r k _)
  refine canon_step 640 (by omega) _ _ _ r j (fun j => heads (fun k => x0 (ix2 r k)) (fun k => x3 (ix2 0 k)) j) (fun k => ?_) (fun n5 => ?_)
  · exact (key5 _ _ r k).trans (head_ld _ _ _ 5 _ (by omega) rfl r k _)
  refine canon_step 512 (by omega) _ _ _ r j (fun j => heads (fun k => x0 (ix2 r k)) (fun k => x3 (ix2 0 k)) j) (fun k => ?_) (fun n4 => ?_)
  · exact (key4 _ _ r k).trans (head_ld _ _ _ 4 _ (by omega) rfl r k _)
  refine canon_step 384 (by omega) _ _ _ r j (fun j => heads (fun k => x0 (ix2 r k)) (fun k => x3 (ix2 0 k)) j) (fun k => ?_) (fun n3 => ?_)
  · exact (key3 _ _ r k).trans (head_ld _ _ _ 3 _ (by omega) rfl r k _)
  refine canon_step 256 (by omega) _ _ _ r j (fun j => heads (fun k => x0 (ix2 r k)) (fun k => x3 (ix2 0 k)) j) (fun k => ?_) (fun n2 => ?_)
  · exact (key2 _ _ r k).trans (head_ld _ _ _ 2 _ (by omega) rfl r k _)
  refine canon_step 128 (by omega) _ _ _ r j (fun j => heads (fun k => x0 (ix2 r k)) (fun k => x3 (ix2 0 k)) j) (fun k => ?_) (fun n1 => ?_)
  · exact (key1 _ _ r k).trans (head_ld _ _ _ 1 _ (by omega) rfl r k _)
  refine canon_step 0 (by omega) _ _ _ r j (fun j => heads (fun k => x0 (ix2 r k)) (fun k => x3 (ix2 0 k)) j) (fun k => ?_) (fun n0 => ?_)
  · exact (key0 _ _ r k).trans (head_ld _ _ _ 0 _ (by omega) rfl r k _)
  exfalso; omega

theorem narrow_keys_A (hc0 : cond0_0 i) : (out0_A_6 c i arg1 harg1 arg2 harg2 arg3 harg3 arg4 harg4 arg5 harg5 arg6 harg6 arg7 harg7 arg8 harg8 arg9 harg9 arg10 harg10 hc0 x0 x1 x2 x3 (ix2 r j) : EReal) = heads (fun k => x0 (ix2 r k)) (fun k => x3 (ix2 0 k)) j := by
  unfold out0_A_6
  rw [View.read_writes_junk_eq_canon]
  unfold kernelRun0_A
  dsimp only
  sl_unfold_words
  simp only [View.readAt_eq_ld, View.ld_unit_zero (S := S1x128) corner, harg1.read_unread, harg4.read_unread]
  refine canon_narrow 896 (by omega) _ _ _ r j (fun j => heads (fun k => x0 (ix2 r k)) (fun k => x3 (ix2 0 k)) j) (fun k => ?_) (fun n7 => ?_)
  · exact (narrow7 _ _ r k).trans (head_ld _ _ _ 7 _ (by omega) rfl r k _)
  refine canon_narrow 768 (by omega) _ _ _ r j (fun j => heads (fun k => x0 (ix2 r k)) (fun k => x3 (ix2 0 k)) j) (fun k => ?_) (fun n6 => ?_)
  · exact (narrow6 _ _ r k).trans (head_ld _ _ _ 6 _ (by omega) rfl r k _)
  refine canon_narrow 640 (by omega) _ _ _ r j (fun j => heads (fun k => x0 (ix2 r k)) (fun k => x3 (ix2 0 k)) j) (fun k => ?_) (fun n5 => ?_)
  · exact (narrow5 _ _ r k).trans (head_ld _ _ _ 5 _ (by omega) rfl r k _)
  refine canon_narrow 512 (by omega) _ _ _ r j (fun j => heads (fun k => x0 (ix2 r k)) (fun k => x3 (ix2 0 k)) j) (fun k => ?_) (fun n4 => ?_)
  · exact (narrow4 _ _ r k).trans (head_ld _ _ _ 4 _ (by omega) rfl r k _)
  refine canon_narrow 384 (by omega) _ _ _ r j (fun j => heads (fun k => x0 (ix2 r k)) (fun k => x3 (ix2 0 k)) j) (fun k => ?_) (fun n3 => ?_)
  · exact (narrow3 _ _ r k).trans (head_ld _ _ _ 3 _ (by omega) rfl r k _)
  refine canon_narrow 256 (by omega) _ _ _ r j (fun j => heads (fun k => x0 (ix2 r k)) (fun k => x3 (ix2 0 k)) j) (fun k => ?_) (fun n2 => ?_)
  · exact (narrow2 _ _ r k).trans (head_ld _ _ _ 2 _ (by omega) rfl r k _)
  refine canon_narrow 128 (by omega) _ _ _ r j (fun j => heads (fun k => x0 (ix2 r k)) (fun k => x3 (ix2 0 k)) j) (fun k => ?_) (fun n1 => ?_)
  · exact (narrow1 _ _ r k).trans (head_ld _ _ _ 1 _ (by omega) rfl r k _)
  refine canon_narrow 0 (by omega) _ _ _ r j (fun j => heads (fun k => x0 (ix2 r k)) (fun k => x3 (ix2 0 k)) j) (fun k => ?_) (fun n0 => ?_)
  · exact (narrow0 _ _ r k).trans (head_ld _ _ _ 0 _ (by omega) rfl r k _)
  exfalso; omega

theorem values_A (hc0 : cond0_0 i) : out0_A_5 c i arg1 harg1 arg2 harg2 arg3 harg3 arg4 harg4 arg5 harg5 arg6 harg6 arg7 harg7 arg8 harg8 arg9 harg9 arg10 harg10 hc0 x0 x1 x2 x3 (ix2 r j) = x1 (ix2 r j) := by
  unfold out0_A_5
  rw [View.read_writes_junk_eq_canon]
  unfold kernelRun0_A
  dsimp only
  sl_unfold_words
  rw [View.canon_unit_zero (S := S512x1024) corner]
  simp only [View.readAt_eq_ld, View.ld_unit_zero (S := S512x1024) corner, harg2.read_unread]
  exact values_apply x1 _

theorem narrow_values_A (hc0 : cond0_0 i) : (out0_A_7 c i arg1 harg1 arg2 harg2 arg3 harg3 arg4 harg4 arg5 harg5 arg6 harg6 arg7 harg7 arg8 harg8 arg9 harg9 arg10 harg10 hc0 x0 x1 x2 x3 (ix2 r j) : EReal) = x1 (ix2 r j) := by
  unfold out0_A_7
  rw [View.read_writes_junk_eq_canon]
  unfold kernelRun0_A
  dsimp only
  sl_unfold_words
  rw [View.canon_unit_zero (S := S512x1024) corner]
  simp only [View.readAt_eq_ld, View.ld_unit_zero (S := S512x1024) corner, harg2.read_unread]
  exact narrowValues_apply x1 _

theorem small_A (hc0 : cond0_0 i) : (out0_A_8 c i arg1 harg1 arg2 harg2 arg3 harg3 arg4 harg4 arg5 harg5 arg6 harg6 arg7 harg7 arg8 harg8 arg9 harg9 arg10 harg10 hc0 x0 x1 x2 x3 (ix2 r l) : EReal) = x2 (ix2 r l) := by
  unfold out0_A_8
  rw [View.read_writes_junk_eq_canon]
  unfold kernelRun0_A
  dsimp only
  sl_unfold_words
  rw [View.canon_unit_zero (S := S512x128) corner]
  simp only [View.readAt_eq_ld, View.ld_unit_zero (S := S512x128) corner, harg3.read_unread]
  exact small_apply x2 r l

theorem maxima_A (hc0 : cond0_0 i) : out0_A_9 c i arg1 harg1 arg2 harg2 arg3 harg3 arg4 harg4 arg5 harg5 arg6 harg6 arg7 harg7 arg8 harg8 arg9 harg9 arg10 harg10 hc0 x0 x1 x2 x3 (ix2 h l)
    = max (0 : EReal) (largest fun r : Fin 512 => size (fun k => x0 (ix2 r k)) (fun k => x3 (ix2 0 k)) h) := by
  unfold out0_A_9
  rw [View.read_writes_junk_eq_canon]
  unfold kernelRun0_A
  dsimp only
  sl_unfold_words
  simp only [View.readAt_eq_ld, View.ld_unit_zero (S := S1x128) corner, harg1.read_unread, harg4.read_unread]
  refine canon_row 7 (by omega) _ _ _ h l (fun h : Fin 8 => max (0 : EReal) (largest fun r : Fin 512 => size (fun k => x0 (ix2 r k)) (fun k => x3 (ix2 0 k)) h)) ?_ (fun n7 => ?_)
  · exact (max7 _ _ _ l).trans (congrArg₂ max (skip_row _ 6 7 _ _ l _ _ (by omega) (skip_row _ 5 7 _ _ l _ _ (by omega) (skip_row _ 4 7 _ _ l _ _ (by omega) (skip_row _ 3 7 _ _ l _ _ (by omega) (skip_row _ 2 7 _ _ l _ _ (by omega) (skip_row _ 1 7 _ _ l _ _ (by omega) (skip_row _ 0 7 _ _ l _ _ (by omega) (start_row _ 7 (by omega) _ _ l)))))))) (largest_ld x0 _ _ 7 _ (by omega) rfl))
  refine canon_row 6 (by omega) _ _ _ h l (fun h : Fin 8 => max (0 : EReal) (largest fun r : Fin 512 => size (fun k => x0 (ix2 r k)) (fun k => x3 (ix2 0 k)) h)) ?_ (fun n6 => ?_)
  · exact (max6 _ _ _ l).trans (congrArg₂ max (skip_row _ 5 6 _ _ l _ _ (by omega) (skip_row _ 4 6 _ _ l _ _ (by omega) (skip_row _ 3 6 _ _ l _ _ (by omega) (skip_row _ 2 6 _ _ l _ _ (by omega) (skip_row _ 1 6 _ _ l _ _ (by omega) (skip_row _ 0 6 _ _ l _ _ (by omega) (start_row _ 6 (by omega) _ _ l))))))) (largest_ld x0 _ _ 6 _ (by omega) rfl))
  refine canon_row 5 (by omega) _ _ _ h l (fun h : Fin 8 => max (0 : EReal) (largest fun r : Fin 512 => size (fun k => x0 (ix2 r k)) (fun k => x3 (ix2 0 k)) h)) ?_ (fun n5 => ?_)
  · exact (max5 _ _ _ l).trans (congrArg₂ max (skip_row _ 4 5 _ _ l _ _ (by omega) (skip_row _ 3 5 _ _ l _ _ (by omega) (skip_row _ 2 5 _ _ l _ _ (by omega) (skip_row _ 1 5 _ _ l _ _ (by omega) (skip_row _ 0 5 _ _ l _ _ (by omega) (start_row _ 5 (by omega) _ _ l)))))) (largest_ld x0 _ _ 5 _ (by omega) rfl))
  refine canon_row 4 (by omega) _ _ _ h l (fun h : Fin 8 => max (0 : EReal) (largest fun r : Fin 512 => size (fun k => x0 (ix2 r k)) (fun k => x3 (ix2 0 k)) h)) ?_ (fun n4 => ?_)
  · exact (max4 _ _ _ l).trans (congrArg₂ max (skip_row _ 3 4 _ _ l _ _ (by omega) (skip_row _ 2 4 _ _ l _ _ (by omega) (skip_row _ 1 4 _ _ l _ _ (by omega) (skip_row _ 0 4 _ _ l _ _ (by omega) (start_row _ 4 (by omega) _ _ l))))) (largest_ld x0 _ _ 4 _ (by omega) rfl))
  refine canon_row 3 (by omega) _ _ _ h l (fun h : Fin 8 => max (0 : EReal) (largest fun r : Fin 512 => size (fun k => x0 (ix2 r k)) (fun k => x3 (ix2 0 k)) h)) ?_ (fun n3 => ?_)
  · exact (max3 _ _ _ l).trans (congrArg₂ max (skip_row _ 2 3 _ _ l _ _ (by omega) (skip_row _ 1 3 _ _ l _ _ (by omega) (skip_row _ 0 3 _ _ l _ _ (by omega) (start_row _ 3 (by omega) _ _ l)))) (largest_ld x0 _ _ 3 _ (by omega) rfl))
  refine canon_row 2 (by omega) _ _ _ h l (fun h : Fin 8 => max (0 : EReal) (largest fun r : Fin 512 => size (fun k => x0 (ix2 r k)) (fun k => x3 (ix2 0 k)) h)) ?_ (fun n2 => ?_)
  · exact (max2 _ _ _ l).trans (congrArg₂ max (skip_row _ 1 2 _ _ l _ _ (by omega) (skip_row _ 0 2 _ _ l _ _ (by omega) (start_row _ 2 (by omega) _ _ l))) (largest_ld x0 _ _ 2 _ (by omega) rfl))
  refine canon_row 1 (by omega) _ _ _ h l (fun h : Fin 8 => max (0 : EReal) (largest fun r : Fin 512 => size (fun k => x0 (ix2 r k)) (fun k => x3 (ix2 0 k)) h)) ?_ (fun n1 => ?_)
  · exact (max1 _ _ _ l).trans (congrArg₂ max (skip_row _ 0 1 _ _ l _ _ (by omega) (start_row _ 1 (by omega) _ _ l)) (largest_ld x0 _ _ 1 _ (by omega) rfl))
  refine canon_row 0 (by omega) _ _ _ h l (fun h : Fin 8 => max (0 : EReal) (largest fun r : Fin 512 => size (fun k => x0 (ix2 r k)) (fun k => x3 (ix2 0 k)) h)) ?_ (fun n0 => ?_)
  · exact (max0 _ _ _ l).trans (congrArg₂ max (start_row _ 0 (by omega) _ _ l) (largest_ld x0 _ _ 0 _ (by omega) rfl))
  exfalso; omega

theorem keys_B (hc0 : ¬cond0_0 i) : (out0_B_4 c i arg1 harg1 arg2 harg2 arg3 harg3 arg4 harg4 arg5 harg5 arg6 harg6 arg7 harg7 arg8 harg8 arg9 harg9 arg10 harg10 hc0 x0 x1 x2 x3 x9 (ix2 r j) : EReal) = heads (fun k => x0 (ix2 r k)) (fun k => x3 (ix2 0 k)) j := by
  unfold out0_B_4
  rw [View.read_writes_junk_eq_canon]
  unfold kernelRun0_B
  dsimp only
  sl_unfold_words
  simp only [View.readAt_eq_ld, View.ld_unit_zero (S := S1x128) corner, harg1.read_unread, harg4.read_unread]
  refine canon_step 896 (by omega) _ _ _ r j (fun j => heads (fun k => x0 (ix2 r k)) (fun k => x3 (ix2 0 k)) j) (fun k => ?_) (fun n7 => ?_)
  · exact (key7 _ _ r k).trans (head_ld _ _ _ 7 _ (by omega) rfl r k _)
  refine canon_step 768 (by omega) _ _ _ r j (fun j => heads (fun k => x0 (ix2 r k)) (fun k => x3 (ix2 0 k)) j) (fun k => ?_) (fun n6 => ?_)
  · exact (key6 _ _ r k).trans (head_ld _ _ _ 6 _ (by omega) rfl r k _)
  refine canon_step 640 (by omega) _ _ _ r j (fun j => heads (fun k => x0 (ix2 r k)) (fun k => x3 (ix2 0 k)) j) (fun k => ?_) (fun n5 => ?_)
  · exact (key5 _ _ r k).trans (head_ld _ _ _ 5 _ (by omega) rfl r k _)
  refine canon_step 512 (by omega) _ _ _ r j (fun j => heads (fun k => x0 (ix2 r k)) (fun k => x3 (ix2 0 k)) j) (fun k => ?_) (fun n4 => ?_)
  · exact (key4 _ _ r k).trans (head_ld _ _ _ 4 _ (by omega) rfl r k _)
  refine canon_step 384 (by omega) _ _ _ r j (fun j => heads (fun k => x0 (ix2 r k)) (fun k => x3 (ix2 0 k)) j) (fun k => ?_) (fun n3 => ?_)
  · exact (key3 _ _ r k).trans (head_ld _ _ _ 3 _ (by omega) rfl r k _)
  refine canon_step 256 (by omega) _ _ _ r j (fun j => heads (fun k => x0 (ix2 r k)) (fun k => x3 (ix2 0 k)) j) (fun k => ?_) (fun n2 => ?_)
  · exact (key2 _ _ r k).trans (head_ld _ _ _ 2 _ (by omega) rfl r k _)
  refine canon_step 128 (by omega) _ _ _ r j (fun j => heads (fun k => x0 (ix2 r k)) (fun k => x3 (ix2 0 k)) j) (fun k => ?_) (fun n1 => ?_)
  · exact (key1 _ _ r k).trans (head_ld _ _ _ 1 _ (by omega) rfl r k _)
  refine canon_step 0 (by omega) _ _ _ r j (fun j => heads (fun k => x0 (ix2 r k)) (fun k => x3 (ix2 0 k)) j) (fun k => ?_) (fun n0 => ?_)
  · exact (key0 _ _ r k).trans (head_ld _ _ _ 0 _ (by omega) rfl r k _)
  exfalso; omega

theorem narrow_keys_B (hc0 : ¬cond0_0 i) : (out0_B_6 c i arg1 harg1 arg2 harg2 arg3 harg3 arg4 harg4 arg5 harg5 arg6 harg6 arg7 harg7 arg8 harg8 arg9 harg9 arg10 harg10 hc0 x0 x1 x2 x3 x9 (ix2 r j) : EReal) = heads (fun k => x0 (ix2 r k)) (fun k => x3 (ix2 0 k)) j := by
  unfold out0_B_6
  rw [View.read_writes_junk_eq_canon]
  unfold kernelRun0_B
  dsimp only
  sl_unfold_words
  simp only [View.readAt_eq_ld, View.ld_unit_zero (S := S1x128) corner, harg1.read_unread, harg4.read_unread]
  refine canon_narrow 896 (by omega) _ _ _ r j (fun j => heads (fun k => x0 (ix2 r k)) (fun k => x3 (ix2 0 k)) j) (fun k => ?_) (fun n7 => ?_)
  · exact (narrow7 _ _ r k).trans (head_ld _ _ _ 7 _ (by omega) rfl r k _)
  refine canon_narrow 768 (by omega) _ _ _ r j (fun j => heads (fun k => x0 (ix2 r k)) (fun k => x3 (ix2 0 k)) j) (fun k => ?_) (fun n6 => ?_)
  · exact (narrow6 _ _ r k).trans (head_ld _ _ _ 6 _ (by omega) rfl r k _)
  refine canon_narrow 640 (by omega) _ _ _ r j (fun j => heads (fun k => x0 (ix2 r k)) (fun k => x3 (ix2 0 k)) j) (fun k => ?_) (fun n5 => ?_)
  · exact (narrow5 _ _ r k).trans (head_ld _ _ _ 5 _ (by omega) rfl r k _)
  refine canon_narrow 512 (by omega) _ _ _ r j (fun j => heads (fun k => x0 (ix2 r k)) (fun k => x3 (ix2 0 k)) j) (fun k => ?_) (fun n4 => ?_)
  · exact (narrow4 _ _ r k).trans (head_ld _ _ _ 4 _ (by omega) rfl r k _)
  refine canon_narrow 384 (by omega) _ _ _ r j (fun j => heads (fun k => x0 (ix2 r k)) (fun k => x3 (ix2 0 k)) j) (fun k => ?_) (fun n3 => ?_)
  · exact (narrow3 _ _ r k).trans (head_ld _ _ _ 3 _ (by omega) rfl r k _)
  refine canon_narrow 256 (by omega) _ _ _ r j (fun j => heads (fun k => x0 (ix2 r k)) (fun k => x3 (ix2 0 k)) j) (fun k => ?_) (fun n2 => ?_)
  · exact (narrow2 _ _ r k).trans (head_ld _ _ _ 2 _ (by omega) rfl r k _)
  refine canon_narrow 128 (by omega) _ _ _ r j (fun j => heads (fun k => x0 (ix2 r k)) (fun k => x3 (ix2 0 k)) j) (fun k => ?_) (fun n1 => ?_)
  · exact (narrow1 _ _ r k).trans (head_ld _ _ _ 1 _ (by omega) rfl r k _)
  refine canon_narrow 0 (by omega) _ _ _ r j (fun j => heads (fun k => x0 (ix2 r k)) (fun k => x3 (ix2 0 k)) j) (fun k => ?_) (fun n0 => ?_)
  · exact (narrow0 _ _ r k).trans (head_ld _ _ _ 0 _ (by omega) rfl r k _)
  exfalso; omega

theorem values_B (hc0 : ¬cond0_0 i) : out0_B_5 c i arg1 harg1 arg2 harg2 arg3 harg3 arg4 harg4 arg5 harg5 arg6 harg6 arg7 harg7 arg8 harg8 arg9 harg9 arg10 harg10 hc0 x0 x1 x2 x3 x9 (ix2 r j) = x1 (ix2 r j) := by
  unfold out0_B_5
  rw [View.read_writes_junk_eq_canon]
  unfold kernelRun0_B
  dsimp only
  sl_unfold_words
  rw [View.canon_unit_zero (S := S512x1024) corner]
  simp only [View.readAt_eq_ld, View.ld_unit_zero (S := S512x1024) corner, harg2.read_unread]
  exact values_apply x1 _

theorem narrow_values_B (hc0 : ¬cond0_0 i) : (out0_B_7 c i arg1 harg1 arg2 harg2 arg3 harg3 arg4 harg4 arg5 harg5 arg6 harg6 arg7 harg7 arg8 harg8 arg9 harg9 arg10 harg10 hc0 x0 x1 x2 x3 x9 (ix2 r j) : EReal) = x1 (ix2 r j) := by
  unfold out0_B_7
  rw [View.read_writes_junk_eq_canon]
  unfold kernelRun0_B
  dsimp only
  sl_unfold_words
  rw [View.canon_unit_zero (S := S512x1024) corner]
  simp only [View.readAt_eq_ld, View.ld_unit_zero (S := S512x1024) corner, harg2.read_unread]
  exact narrowValues_apply x1 _

theorem small_B (hc0 : ¬cond0_0 i) : (out0_B_8 c i arg1 harg1 arg2 harg2 arg3 harg3 arg4 harg4 arg5 harg5 arg6 harg6 arg7 harg7 arg8 harg8 arg9 harg9 arg10 harg10 hc0 x0 x1 x2 x3 x9 (ix2 r l) : EReal) = x2 (ix2 r l) := by
  unfold out0_B_8
  rw [View.read_writes_junk_eq_canon]
  unfold kernelRun0_B
  dsimp only
  sl_unfold_words
  rw [View.canon_unit_zero (S := S512x128) corner]
  simp only [View.readAt_eq_ld, View.ld_unit_zero (S := S512x128) corner, harg3.read_unread]
  exact small_apply x2 r l

theorem maxima_B (hc0 : ¬cond0_0 i) : out0_B_9 c i arg1 harg1 arg2 harg2 arg3 harg3 arg4 harg4 arg5 harg5 arg6 harg6 arg7 harg7 arg8 harg8 arg9 harg9 arg10 harg10 hc0 x0 x1 x2 x3 x9 (ix2 h l)
    = max (x9 (ix2 h l)) (largest fun r : Fin 512 => size (fun k => x0 (ix2 r k)) (fun k => x3 (ix2 0 k)) h) := by
  unfold out0_B_9
  rw [View.read_writes_junk_eq_canon]
  unfold kernelRun0_B
  dsimp only
  sl_unfold_words
  simp only [View.readAt_eq_ld, View.ld_unit_zero (S := S1x128) corner, harg1.read_unread, harg4.read_unread, harg10.read_unread]
  refine canon_row 7 (by omega) _ _ _ h l (fun h : Fin 8 => max (x9 (ix2 h l)) (largest fun r : Fin 512 => size (fun k => x0 (ix2 r k)) (fun k => x3 (ix2 0 k)) h)) ?_ (fun n7 => ?_)
  · exact (max7 _ _ _ l).trans (congrArg₂ max (ld_row x9 7 (by omega) _ l) (largest_ld x0 _ _ 7 _ (by omega) rfl))
  refine canon_row 6 (by omega) _ _ _ h l (fun h : Fin 8 => max (x9 (ix2 h l)) (largest fun r : Fin 512 => size (fun k => x0 (ix2 r k)) (fun k => x3 (ix2 0 k)) h)) ?_ (fun n6 => ?_)
  · exact (max6 _ _ _ l).trans (congrArg₂ max (ld_row x9 6 (by omega) _ l) (largest_ld x0 _ _ 6 _ (by omega) rfl))
  refine canon_row 5 (by omega) _ _ _ h l (fun h : Fin 8 => max (x9 (ix2 h l)) (largest fun r : Fin 512 => size (fun k => x0 (ix2 r k)) (fun k => x3 (ix2 0 k)) h)) ?_ (fun n5 => ?_)
  · exact (max5 _ _ _ l).trans (congrArg₂ max (ld_row x9 5 (by omega) _ l) (largest_ld x0 _ _ 5 _ (by omega) rfl))
  refine canon_row 4 (by omega) _ _ _ h l (fun h : Fin 8 => max (x9 (ix2 h l)) (largest fun r : Fin 512 => size (fun k => x0 (ix2 r k)) (fun k => x3 (ix2 0 k)) h)) ?_ (fun n4 => ?_)
  · exact (max4 _ _ _ l).trans (congrArg₂ max (ld_row x9 4 (by omega) _ l) (largest_ld x0 _ _ 4 _ (by omega) rfl))
  refine canon_row 3 (by omega) _ _ _ h l (fun h : Fin 8 => max (x9 (ix2 h l)) (largest fun r : Fin 512 => size (fun k => x0 (ix2 r k)) (fun k => x3 (ix2 0 k)) h)) ?_ (fun n3 => ?_)
  · exact (max3 _ _ _ l).trans (congrArg₂ max (ld_row x9 3 (by omega) _ l) (largest_ld x0 _ _ 3 _ (by omega) rfl))
  refine canon_row 2 (by omega) _ _ _ h l (fun h : Fin 8 => max (x9 (ix2 h l)) (largest fun r : Fin 512 => size (fun k => x0 (ix2 r k)) (fun k => x3 (ix2 0 k)) h)) ?_ (fun n2 => ?_)
  · exact (max2 _ _ _ l).trans (congrArg₂ max (ld_row x9 2 (by omega) _ l) (largest_ld x0 _ _ 2 _ (by omega) rfl))
  refine canon_row 1 (by omega) _ _ _ h l (fun h : Fin 8 => max (x9 (ix2 h l)) (largest fun r : Fin 512 => size (fun k => x0 (ix2 r k)) (fun k => x3 (ix2 0 k)) h)) ?_ (fun n1 => ?_)
  · exact (max1 _ _ _ l).trans (congrArg₂ max (ld_row x9 1 (by omega) _ l) (largest_ld x0 _ _ 1 _ (by omega) rfl))
  refine canon_row 0 (by omega) _ _ _ h l (fun h : Fin 8 => max (x9 (ix2 h l)) (largest fun r : Fin 512 => size (fun k => x0 (ix2 r k)) (fun k => x3 (ix2 0 k)) h)) ?_ (fun n0 => ?_)
  · exact (max0 _ _ _ l).trans (congrArg₂ max (ld_row x9 0 (by omega) _ l) (largest_ld x0 _ _ 0 _ (by omega) rfl))
  exfalso; omega

end Blocks

end Cert.Prep
-- ==== Proof.PrepValue.lean ====
module

public import proofs.«01_k».proof.Proof.PrepCases

/-! The prompt's preparation: what the blocks hold, the running maxima over the grid, and the arrays after the run. -/

@[expose] public section

noncomputable section

namespace Cert.Prep

open Cert.SamplePrep Cert.Kernel8Ideal Cert.Kernel8Ideal.Gen Idealize.ShloMosaic Idealize.ShloMosaic.TcCoe Idealize.SL.Sem

variable (m : (ℓ : Loc nD τ sig) → Buf (Elt Ideal) ℓ) (c : Dev nD)

/-- The arguments, as arrays of extended reals. -/
abbrev argP (r : Fin 8192) (k : Fin 11352) : EReal := m ((c : Thread nD τ).loc main_arg0) (ix2 r k)
abbrev argK (k : Fin 128) : EReal := m ((c : Thread nD τ).loc main_arg1) (ix1 k)

/-! ## What the windows' arrays hold -/

/-- The wide columns. -/
theorem wide : V m c main_v12 = concatenate S8192x11264 1
     [⟨S8192x4096, extractStridedSlice S8192x4096 ![0, 7256] (m ((c : Thread nD τ).loc main_arg0)) slices_S8192x11352_S8192x4096_0_7256⟩,
      ⟨S8192x1024, extractStridedSlice S8192x1024 ![0, 0] (m ((c : Thread nD τ).loc main_arg0)) slices_S8192x11352_S8192x1024_0_0⟩,
      ⟨S8192x1024, extractStridedSlice S8192x1024 ![0, 1024] (m ((c : Thread nD τ).loc main_arg0)) slices_S8192x11352_S8192x1024_0_1024⟩,
      ⟨S8192x1024, extractStridedSlice S8192x1024 ![0, 2048] (m ((c : Thread nD τ).loc main_arg0)) slices_S8192x11352_S8192x1024_0_2048⟩,
      ⟨S8192x1024, extractStridedSlice S8192x1024 ![0, 3080] (m ((c : Thread nD τ).loc main_arg0)) slices_S8192x11352_S8192x1024_0_3080⟩,
      ⟨S8192x1024, extractStridedSlice S8192x1024 ![0, 4104] (m ((c : Thread nD τ).loc main_arg0)) slices_S8192x11352_S8192x1024_0_4104⟩,
      ⟨S8192x1024, extractStridedSlice S8192x1024 ![0, 5128] (m ((c : Thread nD τ).loc main_arg0)) slices_S8192x11352_S8192x1024_0_5128⟩,
      ⟨S8192x1024, extractStridedSlice S8192x1024 ![0, 6152] (m ((c : Thread nD τ).loc main_arg0)) slices_S8192x11352_S8192x1024_0_6152⟩]
     concatenates_S8192x4096_S8192x1024_S8192x1024_S8192x1024_S8192x1024_S8192x1024_S8192x1024_S8192x1024_S8192x11264_d1 := by
  unfold V hostOps0
  after_results_simp
  dsimp only [Matrix.cons_val]
  rfl

theorem entryK (r : Fin 8192) (k : Fin 1024) (n : Fin 11264) (h : n.val = 8192 + k.val) : V m c main_v12 (ix2 r n) = argP m c r ⟨4104 + k.val, by omega⟩ := by
  rw [wide]
  pointwise
  rw [dif_neg (by omega), dif_neg (by omega), dif_neg (by omega), dif_neg (by omega), dif_neg (by omega), dif_pos (by omega)]
  refine congrArg (argP m c r) (Fin.ext ?_)
  dsimp only
  omega

theorem entryV (r : Fin 8192) (k : Fin 1024) (n : Fin 11264) (h : n.val = 9216 + k.val) : V m c main_v12 (ix2 r n) = argP m c r ⟨5128 + k.val, by omega⟩ := by
  rw [wide]
  pointwise
  rw [dif_neg (by omega), dif_neg (by omega), dif_neg (by omega), dif_neg (by omega), dif_neg (by omega), dif_neg (by omega), dif_pos (by omega)]
  refine congrArg (argP m c r) (Fin.ext ?_)
  dsimp only
  omega

/-- The small columns. -/
theorem small : V m c main_v14 = concatenate S8192x128 1
     [⟨S8192x64, extractStridedSlice S8192x64 ![0, 7176] (m ((c : Thread nD τ).loc main_arg0)) slices_S8192x11352_S8192x64_0_7176⟩,
      ⟨S8192x16, extractStridedSlice S8192x16 ![0, 7240] (m ((c : Thread nD τ).loc main_arg0)) slices_S8192x11352_S8192x16_0_7240⟩,
      ⟨S8192x4, extractStridedSlice S8192x4 ![0, 3072] (m ((c : Thread nD τ).loc main_arg0)) slices_S8192x11352_S8192x4_0_3072⟩,
      ⟨S8192x4, extractStridedSlice S8192x4 ![0, 3076] (m ((c : Thread nD τ).loc main_arg0)) slices_S8192x11352_S8192x4_0_3076⟩,
      ⟨S8192x40, broadcastInDim S8192x40 ![] bcast_S_S8192x40 (constant S_ .f32 0x00000000#32 : FVec Ideal S_ .f32)⟩]
     concatenates_S8192x64_S8192x16_S8192x4_S8192x4_S8192x40_S8192x128_d1 := by
  unfold V hostOps0
  after_results_simp
  dsimp only [Matrix.cons_val]
  rfl

theorem entryS (r : Fin 8192) (l : Fin 128) : V m c main_v14 (ix2 r l) = smallColumns (argP m c r) l := by
  rw [small]
  unfold smallColumns
  pointwise

theorem entryG (k : Fin 128) : V m c main_v15 (ix2 0 k) = argK m c k := by
  have e : V m c main_v15 = broadcastInDim S1x128 ![1] bcast_S128_S1x128_1 (m ((c : Thread nD τ).loc main_arg1)) := by
    unfold V hostOps0
    after_results_simp
  rw [e]
  pointwise

/-! ## What the blocks hold -/

theorem idx_facts : ∀ t : Fin cfg0.N, (win0_0.index t (0 : Fin 2) = t.val ∧ win0_0.index t (1 : Fin 2) = 8)
    ∧ (win0_1.index t (0 : Fin 2) = t.val ∧ win0_1.index t (1 : Fin 2) = 9)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = 0 ∧ win0_9.index t (1 : Fin 2) = 0) :=
  (by decide +kernel : ∀ t : Fin grid0.N, _)

theorem lt_N (t : Fin cfg0.N) : t.val < 16 := lt_of_lt_of_eq t.isLt N_0

/-- Row `r` of block `t`. -/
abbrev rowOf (t : Fin cfg0.N) (r : Fin 512) : Fin 8192 := ⟨512 * t.val + r.val, by have := lt_N t; omega⟩

theorem readK (t : Fin cfg0.N) (r : Fin 512) (k : Fin 1024) : iblk m c 0 t (ix2 r k) = argP m c (rowOf t r) ⟨4104 + k.val, by omega⟩ := by
  show V m c main_v12 (((cfg0.win 0).blk t).view.emb (ix2 r k)) = _
  rw [← entryK m c (rowOf t r) k ⟨8192 + k.val, by omega⟩ rfl]
  refine congrArg (V m c main_v12) ?_
  obtain ⟨⟨e0, e1⟩, _, _, _, _, _, _, _, _, _⟩ := idx_facts t
  funext a; apply Fin.ext
  match a with
  | ⟨0, _⟩ => show win0_0.index t (0 : Fin 2) * 512 + 1 * r.val = 512 * t.val + r.val; omega
  | ⟨1, _⟩ => show win0_0.index t (1 : Fin 2) * 1024 + 1 * k.val = 8192 + k.val; omega

theorem readV (t : Fin cfg0.N) (r : Fin 512) (k : Fin 1024) : iblk m c 1 t (ix2 r k) = argP m c (rowOf t r) ⟨5128 + k.val, by omega⟩ := by
  show V m c main_v12 (((cfg0.win 1).blk t).view.emb (ix2 r k)) = _
  rw [← entryV m c (rowOf t r) k ⟨9216 + k.val, by omega⟩ rfl]
  refine congrArg (V m c main_v12) ?_
  obtain ⟨_, ⟨e0, e1⟩, _, _, _, _, _, _, _, _⟩ := idx_facts t
  funext a; apply Fin.ext
  match a with
  | ⟨0, _⟩ => show win0_1.index t (0 : Fin 2) * 512 + 1 * r.val = 512 * t.val + r.val; omega
  | ⟨1, _⟩ => show win0_1.index t (1 : Fin 2) * 1024 + 1 * k.val = 9216 + k.val; omega

theorem readS (t : Fin cfg0.N) (r : Fin 512) (l : Fin 128) : iblk m c 2 t (ix2 r l) = smallColumns (argP m c (rowOf t r)) l := by
  show V m c main_v14 (((cfg0.win 2).blk t).view.emb (ix2 r l)) = _
  rw [← entryS m c (rowOf t r) l]
  refine congrArg (V m c main_v14) ?_
  obtain ⟨_, _, ⟨e0, e1⟩, _, _, _, _, _, _, _⟩ := idx_facts t
  funext a; apply Fin.ext
  match a with
  | ⟨0, _⟩ => show win0_2.index t (0 : Fin 2) * 512 + 1 * r.val = 512 * t.val + r.val; omega
  | ⟨1, _⟩ => show win0_2.index t (1 : Fin 2) * 128 + 1 * l.val = l.val; omega

theorem readG (t : Fin cfg0.N) (k : Fin 128) : iblk m c 3 t (ix2 0 k) = argK m c k := by
  show V m c main_v15 (((cfg0.win 3).blk t).view.emb (ix2 0 k)) = _
  rw [← entryG m c k]
  refine congrArg (V m c main_v15) ?_
  obtain ⟨_, _, _, ⟨e0, e1⟩, _, _, _, _, _, _⟩ := idx_facts t
  funext a; apply Fin.ext
  match a with
  | ⟨0, _⟩ => show win0_3.index t (0 : Fin 2) * 1 + 1 * 0 = 0; omega
  | ⟨1, _⟩ => show win0_3.index t (1 : Fin 2) * 128 + 1 * k.val = k.val; omega

/-- A row's keys before the norm. -/
abbrev keyRow (r : Fin 8192) (k : Fin 1024) : EReal := argP m c r ⟨4104 + k.val, by omega⟩

/-! ## The arrays after the run -/

/-- The normalised keys, and the same in the narrow type. -/
def keysTarget : Buf (Elt Ideal) ((c : Thread nD τ).loc main_v16_0) := fun i : S8192x1024.Idx =>
  heads (keyRow m c (i 0)) (argK m c) (i 1)
def narrowKeysTarget : Buf (Elt Ideal) ((c : Thread nD τ).loc main_v16_2) := fun i : S8192x1024.Idx =>
  heads (keyRow m c (i 0)) (argK m c) (i 1)

/-- The values, and the same in the narrow type. -/
def valuesTarget : Buf (Elt Ideal) ((c : Thread nD τ).loc main_v16_1) := fun i : S8192x1024.Idx =>
  argP m c (i 0) ⟨5128 + (i 1).val, by have : (i 1).val < 1024 := (i 1).isLt; omega⟩
def narrowValuesTarget : Buf (Elt Ideal) ((c : Thread nD τ).loc main_v16_3) := fun i : S8192x1024.Idx =>
  argP m c (i 0) ⟨5128 + (i 1).val, by have : (i 1).val < 1024 := (i 1).isLt; omega⟩

/-- The small columns, in the narrow type. -/
def smallTarget : Buf (Elt Ideal) ((c : Thread nD τ).loc main_v16_4) := fun i : S8192x128.Idx =>
  smallColumns (argP m c (i 0)) (i 1)

/-- The largest squared size of each head's keys. -/
def maximaTarget : Buf (Elt Ideal) ((c : Thread nD τ).loc main_v16_5) := fun i : S8x128.Idx =>
  (max (0 : EReal) (largest fun r : Fin 8192 => size (keyRow m c r) (argK m c) (i 0)) : EReal)

theorem keys_block (t : Fin cfg0.N) (r : Fin 512) (j : Fin 1024) : ((outsAt0 m c t.val t.isLt).1 (ix2 r j) : EReal) = heads (keyRow m c (rowOf t r)) (argK m c) j := by
  by_cases h0 : t.val % 16 = 0
  · rw [outsAt0_A m c t h0]
    dsimp only
    refine Eq.trans (keys_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ r j _) ?_
    exact congrArg₂ (fun x g => heads x g j) (funext fun k => readK m c t r k) (funext fun k => readG m c t k)
  · rw [outsAt0_B m c t h0]
    dsimp only
    refine Eq.trans (keys_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ r j _) ?_
    exact congrArg₂ (fun x g => heads x g j) (funext fun k => readK m c t r k) (funext fun k => readG m c t k)

theorem keys_flushed (t : Fin cfg0.N) :
    (dats m 0 c).flushed 4 t = ((cfg0.win 4).blk t).view.read (Elt Ideal) (keysTarget m c) := by
  show (cfg0.win 4).cut (grid0.coords t) ((dats m 0 c).after 4 t) = _
  rw [after0_4]
  refine funext fun (y : S512x1024.Idx) => ?_
  obtain ⟨_, _, _, _, ⟨e0, e1⟩, _, _, _, _, _⟩ := idx_facts t
  have hb : (((cfg0.win 4).blk t).view.emb y : S8192x1024.Idx) = ix2 (rowOf t (y 0)) (y 1) := by
    funext a; apply Fin.ext
    match a with
    | ⟨0, _⟩ => show win0_4.index t (0 : Fin 2) * 512 + 1 * (y 0).val = 512 * t.val + (y 0).val; omega
    | ⟨1, _⟩ => show win0_4.index t (1 : Fin 2) * 1024 + 1 * (y 1).val = (y 1).val; omega
  have hx : ((cfg0.win 4).xinj (grid0.coords t) y : S512x1024.Idx) = ix2 (y 0) (y 1) := by
    funext a; apply Fin.ext
    match a with
    | ⟨0, _⟩ => rfl
    | ⟨1, _⟩ => rfl
  refine ((congrArg (outsAt0 m c t.val t.isLt).1 hx).trans (keys_block m c t (y 0) (y 1))).trans ?_
  exact (congrArg (keysTarget m c) hb).symm

theorem keys_cover (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ : ∃ t : Fin cfg0.N, t.val = (i 0).val / 512 := ⟨⟨(i 0).val / 512, lt_of_lt_of_eq (by omega) N_0.symm⟩, rfl⟩
  refine ⟨t, flush0_4 _, ?_⟩
  obtain ⟨_, _, _, _, ⟨e0, e1⟩, _, _, _, _, _⟩ := idx_facts t
  show i ∈ ((View.whole main_v16_0).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

theorem keys_final : (dats m 0 c).arrAt 4 cfg0.N = keysTarget m c :=
  (dats m 0 c).arrAt_eq_of_cover 4 _ (fun t _ => keys_flushed m c t) keys_cover

theorem values_block (t : Fin cfg0.N) (r : Fin 512) (j : Fin 1024) : ((outsAt0 m c t.val t.isLt).2.1 (ix2 r j) : EReal) = argP m c (rowOf t r) ⟨5128 + j.val, by omega⟩ := by
  by_cases h0 : t.val % 16 = 0
  · rw [outsAt0_A m c t h0]
    dsimp only
    refine Eq.trans (values_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ r j _) ?_
    exact readV m c t r j
  · rw [outsAt0_B m c t h0]
    dsimp only
    refine Eq.trans (values_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ r j _) ?_
    exact readV m c t r j

theorem values_flushed (t : Fin cfg0.N) :
    (dats m 0 c).flushed 5 t = ((cfg0.win 5).blk t).view.read (Elt Ideal) (valuesTarget m c) := by
  show (cfg0.win 5).cut (grid0.coords t) ((dats m 0 c).after 5 t) = _
  rw [after0_5]
  refine funext fun (y : S512x1024.Idx) => ?_
  obtain ⟨_, _, _, _, _, ⟨e0, e1⟩, _, _, _, _⟩ := idx_facts t
  have hb : (((cfg0.win 5).blk t).view.emb y : S8192x1024.Idx) = ix2 (rowOf t (y 0)) (y 1) := by
    funext a; apply Fin.ext
    match a with
    | ⟨0, _⟩ => show win0_5.index t (0 : Fin 2) * 512 + 1 * (y 0).val = 512 * t.val + (y 0).val; omega
    | ⟨1, _⟩ => show win0_5.index t (1 : Fin 2) * 1024 + 1 * (y 1).val = (y 1).val; omega
  have hx : ((cfg0.win 5).xinj (grid0.coords t) y : S512x1024.Idx) = ix2 (y 0) (y 1) := by
    funext a; apply Fin.ext
    match a with
    | ⟨0, _⟩ => rfl
    | ⟨1, _⟩ => rfl
  refine ((congrArg (outsAt0 m c t.val t.isLt).2.1 hx).trans (values_block m c t (y 0) (y 1))).trans ?_
  exact (congrArg (valuesTarget m c) hb).symm

theorem values_cover (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨t, ht⟩ : ∃ t : Fin cfg0.N, t.val = (i 0).val / 512 := ⟨⟨(i 0).val / 512, lt_of_lt_of_eq (by omega) N_0.symm⟩, rfl⟩
  refine ⟨t, flush0_5 _, ?_⟩
  obtain ⟨_, _, _, _, _, ⟨e0, e1⟩, _, _, _, _⟩ := idx_facts t
  show i ∈ ((View.whole main_v16_1).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

theorem values_final : (dats m 0 c).arrAt 5 cfg0.N = valuesTarget m c :=
  (dats m 0 c).arrAt_eq_of_cover 5 _ (fun t _ => values_flushed m c t) values_cover

theorem narrowKeys_block (t : Fin cfg0.N) (r : Fin 512) (j : Fin 1024) : ((outsAt0 m c t.val t.isLt).2.2.1 (ix2 r j) : EReal) = heads (keyRow m c (rowOf t r)) (argK m c) j := by
  by_cases h0 : t.val % 16 = 0
  · rw [outsAt0_A m c t h0]
    dsimp only
    refine Eq.trans (narrow_keys_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ r j _) ?_
    exact congrArg₂ (fun x g => heads x g j) (funext fun k => readK m c t r k) (funext fun k => readG m c t k)
  · rw [outsAt0_B m c t h0]
    dsimp only
    refine Eq.trans (narrow_keys_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ r j _) ?_
    exact congrArg₂ (fun x g => heads x g j) (funext fun k => readK m c t r k) (funext fun k => readG m c t k)

theorem narrowKeys_flushed (t : Fin cfg0.N) :
    (dats m 0 c).flushed 6 t = ((cfg0.win 6).blk t).view.read (Elt Ideal) (narrowKeysTarget m c) := by
  show (cfg0.win 6).cut (grid0.coords t) ((dats m 0 c).after 6 t) = _
  rw [after0_6]
  refine funext fun (y : S512x1024.Idx) => ?_
  obtain ⟨_, _, _, _, _, _, ⟨e0, e1⟩, _, _, _⟩ := idx_facts t
  have hb : (((cfg0.win 6).blk t).view.emb y : S8192x1024.Idx) = ix2 (rowOf t (y 0)) (y 1) := by
    funext a; apply Fin.ext
    match a with
    | ⟨0, _⟩ => show win0_6.index t (0 : Fin 2) * 512 + 1 * (y 0).val = 512 * t.val + (y 0).val; omega
    | ⟨1, _⟩ => show win0_6.index t (1 : Fin 2) * 1024 + 1 * (y 1).val = (y 1).val; omega
  have hx : ((cfg0.win 6).xinj (grid0.coords t) y : S512x1024.Idx) = ix2 (y 0) (y 1) := by
    funext a; apply Fin.ext
    match a with
    | ⟨0, _⟩ => rfl
    | ⟨1, _⟩ => rfl
  refine ((congrArg (outsAt0 m c t.val t.isLt).2.2.1 hx).trans (narrowKeys_block m c t (y 0) (y 1))).trans ?_
  exact (congrArg (narrowKeysTarget m c) hb).symm

theorem narrowKeys_cover (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, ht⟩ : ∃ t : Fin cfg0.N, t.val = (i 0).val / 512 := ⟨⟨(i 0).val / 512, lt_of_lt_of_eq (by omega) N_0.symm⟩, rfl⟩
  refine ⟨t, flush0_6 _, ?_⟩
  obtain ⟨_, _, _, _, _, _, ⟨e0, e1⟩, _, _, _⟩ := idx_facts t
  show i ∈ ((View.whole main_v16_2).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

theorem narrowKeys_final : (dats m 0 c).arrAt 6 cfg0.N = narrowKeysTarget m c :=
  (dats m 0 c).arrAt_eq_of_cover 6 _ (fun t _ => narrowKeys_flushed m c t) narrowKeys_cover

theorem narrowValues_block (t : Fin cfg0.N) (r : Fin 512) (j : Fin 1024) : ((outsAt0 m c t.val t.isLt).2.2.2.1 (ix2 r j) : EReal) = argP m c (rowOf t r) ⟨5128 + j.val, by omega⟩ := by
  by_cases h0 : t.val % 16 = 0
  · rw [outsAt0_A m c t h0]
    dsimp only
    refine Eq.trans (narrow_values_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ r j _) ?_
    exact readV m c t r j
  · rw [outsAt0_B m c t h0]
    dsimp only
    refine Eq.trans (narrow_values_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ r j _) ?_
    exact readV m c t r j

theorem narrowValues_flushed (t : Fin cfg0.N) :
    (dats m 0 c).flushed 7 t = ((cfg0.win 7).blk t).view.read (Elt Ideal) (narrowValuesTarget m c) := by
  show (cfg0.win 7).cut (grid0.coords t) ((dats m 0 c).after 7 t) = _
  rw [after0_7]
  refine funext fun (y : S512x1024.Idx) => ?_
  obtain ⟨_, _, _, _, _, _, _, ⟨e0, e1⟩, _, _⟩ := idx_facts t
  have hb : (((cfg0.win 7).blk t).view.emb y : S8192x1024.Idx) = ix2 (rowOf t (y 0)) (y 1) := by
    funext a; apply Fin.ext
    match a with
    | ⟨0, _⟩ => show win0_7.index t (0 : Fin 2) * 512 + 1 * (y 0).val = 512 * t.val + (y 0).val; omega
    | ⟨1, _⟩ => show win0_7.index t (1 : Fin 2) * 1024 + 1 * (y 1).val = (y 1).val; omega
  have hx : ((cfg0.win 7).xinj (grid0.coords t) y : S512x1024.Idx) = ix2 (y 0) (y 1) := by
    funext a; apply Fin.ext
    match a with
    | ⟨0, _⟩ => rfl
    | ⟨1, _⟩ => rfl
  refine ((congrArg (outsAt0 m c t.val t.isLt).2.2.2.1 hx).trans (narrowValues_block m c t (y 0) (y 1))).trans ?_
  exact (congrArg (narrowValuesTarget m c) hb).symm

theorem narrowValues_cover (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ : ∃ t : Fin cfg0.N, t.val = (i 0).val / 512 := ⟨⟨(i 0).val / 512, lt_of_lt_of_eq (by omega) N_0.symm⟩, rfl⟩
  refine ⟨t, flush0_7 _, ?_⟩
  obtain ⟨_, _, _, _, _, _, _, ⟨e0, e1⟩, _, _⟩ := idx_facts t
  show i ∈ ((View.whole main_v16_3).slice (win0_7.rect t)).set
  rw [View.set_slice_whole, Rect.mem_set_unit]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

theorem narrowValues_final : (dats m 0 c).arrAt 7 cfg0.N = narrowValuesTarget m c :=
  (dats m 0 c).arrAt_eq_of_cover 7 _ (fun t _ => narrowValues_flushed m c t) narrowValues_cover

theorem small_block (t : Fin cfg0.N) (r : Fin 512) (j : Fin 128) : ((outsAt0 m c t.val t.isLt).2.2.2.2.1 (ix2 r j) : EReal) = smallColumns (argP m c (rowOf t r)) j := by
  by_cases h0 : t.val % 16 = 0
  · rw [outsAt0_A m c t h0]
    dsimp only
    refine Eq.trans (small_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ r j _) ?_
    exact readS m c t r j
  · rw [outsAt0_B m c t h0]
    dsimp only
    refine Eq.trans (small_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ r j _) ?_
    exact readS m c t r j

theorem small_flushed (t : Fin cfg0.N) :
    (dats m 0 c).flushed 8 t = ((cfg0.win 8).blk t).view.read (Elt Ideal) (smallTarget m c) := by
  show (cfg0.win 8).cut (grid0.coords t) ((dats m 0 c).after 8 t) = _
  rw [after0_8]
  refine funext fun (y : S512x128.Idx) => ?_
  obtain ⟨_, _, _, _, _, _, _, _, ⟨e0, e1⟩, _⟩ := idx_facts t
  have hb : (((cfg0.win 8).blk t).view.emb y : S8192x128.Idx) = ix2 (rowOf t (y 0)) (y 1) := by
    funext a; apply Fin.ext
    match a with
    | ⟨0, _⟩ => show win0_8.index t (0 : Fin 2) * 512 + 1 * (y 0).val = 512 * t.val + (y 0).val; omega
    | ⟨1, _⟩ => show win0_8.index t (1 : Fin 2) * 128 + 1 * (y 1).val = (y 1).val; omega
  have hx : ((cfg0.win 8).xinj (grid0.coords t) y : S512x128.Idx) = ix2 (y 0) (y 1) := by
    funext a; apply Fin.ext
    match a with
    | ⟨0, _⟩ => rfl
    | ⟨1, _⟩ => rfl
  refine ((congrArg (outsAt0 m c t.val t.isLt).2.2.2.2.1 hx).trans (small_block m c t (y 0) (y 1))).trans ?_
  exact (congrArg (smallTarget m c) hb).symm

theorem small_cover (i : S8192x128.Idx) : ∃ t : Fin cfg0.N, (cfg0.win 8).flush t = true ∧ i ∈ ((cfg0.win 8).blk t).view.set := by
  have hi0 : (i 0).val < 8192 := (i 0).isLt
  have hi1 : (i 1).val < 128 := (i 1).isLt
  obtain ⟨t, ht⟩ : ∃ t : Fin cfg0.N, t.val = (i 0).val / 512 := ⟨⟨(i 0).val / 512, lt_of_lt_of_eq (by omega) N_0.symm⟩, rfl⟩
  refine ⟨t, flush0_8 _, ?_⟩
  obtain ⟨_, _, _, _, _, _, _, _, ⟨e0, e1⟩, _⟩ := idx_facts t
  show i ∈ ((View.whole main_v16_4).slice (win0_8.rect t)).set
  rw [View.set_slice_whole, Rect.mem_set_unit]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 128 ≤ (i 1).val ∧ (i 1).val < win0_8.index t (1 : Fin 2) * 128 + 128; omega

theorem small_final : (dats m 0 c).arrAt 8 cfg0.N = smallTarget m c :=
  (dats m 0 c).arrAt_eq_of_cover 8 _ (fun t _ => small_flushed m c t) small_cover

/-! ## The running maxima -/

theorem largest_block (t : Fin cfg0.N) (h : Fin 8) :
    (largest fun r : Fin 512 => size (fun k => iblk m c 0 t (ix2 r k)) (fun k => iblk m c 3 t (ix2 0 k)) h)
      = largest fun r : Fin 512 => size (keyRow m c (rowOf t r)) (argK m c) h :=
  congrArg largest (funext fun r => congrArg₂ (fun x g => size x g h) (funext fun k => readK m c t r k) (funext fun k => readG m c t k))

/-- After point `n` the maxima are those of the rows up to its block's end. -/
theorem maxima_at (h : Fin 8) (l : Fin 128) : ∀ (n : ℕ) (hn : n < cfg0.N), ((outsAt0 m c n hn).2.2.2.2.2 (ix2 h l) : EReal)
    = max 0 (upTo (fun r : Fin 8192 => size (keyRow m c r) (argK m c) h) (512 * n + 512))
  | 0, hn => by
    rw [outsAt0_A m c ⟨0, hn⟩ rfl]
    dsimp only
    refine Eq.trans (maxima_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) _ _ _ _ h l _) (congrArg (max 0) ?_)
    refine (largest_block m c ⟨0, hn⟩ h).trans ?_
    refine Eq.trans ?_ (upTo_first _)
    refine congrArg largest (funext fun r => congrArg (fun q : Fin 8192 => size (keyRow m c q) (argK m c) h) (Fin.ext ?_))
    show 512 * 0 + r.val = r.val
    omega
  | n + 1, hn => by
    have hN : n + 1 < 16 := lt_N ⟨n + 1, hn⟩
    have ih := maxima_at h l n (by omega)
    rw [outsAt0_B m c ⟨n + 1, hn⟩ (by show ¬ (n + 1) % 16 = 0; omega)]
    dsimp only
    refine Eq.trans (maxima_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) _ _ _ _ _ h l _) ?_
    refine (congrArg₂ max ih (largest_block m c ⟨n + 1, hn⟩ h)).trans ?_
    rw [max_assoc]
    exact congrArg (max 0) (upTo_next _ (n + 1) (by omega))

theorem maxima_flushed (t : Fin cfg0.N) (hf : (cfg0.win 9).flush t = true) :
    (dats m 0 c).flushed 9 t = ((cfg0.win 9).blk t).view.read (Elt Ideal) (maximaTarget m c) := by
  have h15 : t.val % 16 = 15 := (flush0_9 t).mp hf
  have hN := lt_N t
  show (cfg0.win 9).cut (grid0.coords t) ((dats m 0 c).after 9 t) = _
  rw [after0_9]
  refine funext fun (y : S8x128.Idx) => ?_
  obtain ⟨_, _, _, _, _, _, _, _, _, e0, e1⟩ := idx_facts t
  have hb : (((cfg0.win 9).blk t).view.emb y : S8x128.Idx) = ix2 (y 0) (y 1) := by
    funext a; apply Fin.ext
    match a with
    | ⟨0, _⟩ => show win0_9.index t (0 : Fin 2) * 8 + 1 * (y 0).val = (y 0).val; omega
    | ⟨1, _⟩ => show win0_9.index t (1 : Fin 2) * 128 + 1 * (y 1).val = (y 1).val; omega
  have hx : ((cfg0.win 9).xinj (grid0.coords t) y : S8x128.Idx) = ix2 (y 0) (y 1) := by
    funext a; apply Fin.ext
    match a with
    | ⟨0, _⟩ => rfl
    | ⟨1, _⟩ => rfl
  refine ((congrArg (outsAt0 m c t.val t.isLt).2.2.2.2.2 hx).trans (maxima_at m c (y 0) (y 1) t.val t.isLt)).trans ?_
  have e : 512 * t.val + 512 = 8192 := by omega
  rw [e, upTo_all]
  exact (congrArg (maximaTarget m c) hb).symm

theorem maxima_cover (i : S8x128.Idx) : ∃ t : Fin cfg0.N, (cfg0.win 9).flush t = true ∧ i ∈ ((cfg0.win 9).blk t).view.set := by
  have hi0 : (i 0).val < 8 := (i 0).isLt
  have hi1 : (i 1).val < 128 := (i 1).isLt
  obtain ⟨t, ht⟩ : ∃ t : Fin cfg0.N, t.val = 15 := ⟨⟨15, lt_of_lt_of_eq (by omega) N_0.symm⟩, rfl⟩
  refine ⟨t, (flush0_9 t).mpr (by omega), ?_⟩
  obtain ⟨_, _, _, _, _, _, _, _, _, e0, e1⟩ := idx_facts t
  show i ∈ ((View.whole main_v16_5).slice (win0_9.rect t)).set
  rw [View.set_slice_whole, Rect.mem_set_unit]
  intro a
  match a with
  | ⟨0, _⟩ => show win0_9.index t (0 : Fin 2) * 8 ≤ (i 0).val ∧ (i 0).val < win0_9.index t (0 : Fin 2) * 8 + 8; omega
  | ⟨1, _⟩ => show win0_9.index t (1 : Fin 2) * 128 ≤ (i 1).val ∧ (i 1).val < win0_9.index t (1 : Fin 2) * 128 + 128; omega

theorem maxima_final : (dats m 0 c).arrAt 9 cfg0.N = maximaTarget m c :=
  (dats m 0 c).arrAt_eq_of_cover 9 _ (fun t hf => maxima_flushed m c t hf) maxima_cover

/-- The kernel's run: the six results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v16_0) = keysTarget m c
      ∧ r.2.mem ((c : Thread nD τ).loc main_v16_1) = valuesTarget m c
      ∧ r.2.mem ((c : Thread nD τ).loc main_v16_2) = narrowKeysTarget m c
      ∧ r.2.mem ((c : Thread nD τ).loc main_v16_3) = narrowValuesTarget m c
      ∧ r.2.mem ((c : Thread nD τ).loc main_v16_4) = smallTarget m c
      ∧ r.2.mem ((c : Thread nD τ).loc main_v16_5) = maximaTarget m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 4).trans (keys_final m c), ((h c).1 5).trans (values_final m c),
      ((h c).1 6).trans (narrowKeys_final m c), ((h c).1 7).trans (narrowValues_final m c), ((h c).1 8).trans (small_final m c),
      ((h c).1 9).trans (maxima_final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.Prep
-- ==== Proof.PrepReference.lean ====
module

public import proofs.«01_k».proof.Proof.Gen.Reference8Ideal.Run
public import proofs.«01_k».proof.Proof.PrepValue

/-! The reference of the prompt's preparation gives the same six arrays. -/

@[expose] public section

noncomputable section

namespace Cert.PrepReference

open Cert.SamplePrep Cert.Prep Cert.Reference8Ideal Idealize.ShloMosaic Idealize.ShloMosaic.TcCoe Idealize.SL.Sem

variable (m : (ℓ : Loc nD τ sig) → Buf (Elt Ideal) ℓ) (c : Dev nD)

/-- The arguments, as arrays of extended reals. -/
abbrev argP (r : Fin 8192) (k : Fin 11352) : EReal := m ((c : Thread nD τ).loc main_arg0) (ix2 r k)
abbrev argK (k : Fin 128) : EReal := m ((c : Thread nD τ).loc main_arg1) (ix1 k)

/-- A row's keys before the norm. -/
abbrev keyRow (r : Fin 8192) (k : Fin 1024) : EReal := argP m c r ⟨4104 + k.val, by omega⟩

/-- The six results. -/
def keysTarget : Buf (Elt Ideal) ((c : Thread nD τ).loc main_v21) := fun i : S8192x1024.Idx =>
  heads (keyRow m c (i 0)) (argK m c) (i 1)
def narrowKeysTarget : Buf (Elt Ideal) ((c : Thread nD τ).loc main_v28) := fun i : S8192x1024.Idx =>
  heads (keyRow m c (i 0)) (argK m c) (i 1)
def valuesTarget : Buf (Elt Ideal) ((c : Thread nD τ).loc main_v1) := fun i : S8192x1024.Idx =>
  argP m c (i 0) ⟨5128 + (i 1).val, by have : (i 1).val < 1024 := (i 1).isLt; omega⟩
def narrowValuesTarget : Buf (Elt Ideal) ((c : Thread nD τ).loc main_v29) := fun i : S8192x1024.Idx =>
  argP m c (i 0) ⟨5128 + (i 1).val, by have : (i 1).val < 1024 := (i 1).isLt; omega⟩
def smallTarget : Buf (Elt Ideal) ((c : Thread nD τ).loc main_v30) := fun i : S8192x128.Idx =>
  smallColumns (argP m c (i 0)) (i 1)
def maximaTarget : Buf (Elt Ideal) ((c : Thread nD τ).loc main_v34) := fun i : S8x128.Idx =>
  (max (0 : EReal) (largest fun r : Fin 8192 => size (keyRow m c r) (argK m c) (i 0)) : EReal)

/-- The size of a head, by its lanes. -/
theorem size_eq (x : Fin 1024 → EReal) (g : Fin 128 → EReal) (h : Fin 8) :
    size x g h = square (fun k => x ⟨128 * h.val + k.val, by omega⟩) g := by
  unfold size square
  exact Finset.sum_congr rfl fun k _ => congrArg₂ (· * ·) (heads_at x g h.val h.isLt k _) (heads_at x g h.val h.isLt k _)

/-- The reference's run: the six results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v21) = keysTarget m c
      ∧ r.2.mem ((c : Thread nD τ).loc main_v1) = valuesTarget m c
      ∧ r.2.mem ((c : Thread nD τ).loc main_v28) = narrowKeysTarget m c
      ∧ r.2.mem ((c : Thread nD τ).loc main_v29) = narrowValuesTarget m c
      ∧ r.2.mem ((c : Thread nD τ).loc main_v30) = smallTarget m c
      ∧ r.2.mem ((c : Thread nD τ).loc main_v34) = maximaTarget m c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Cert.Reference8Ideal.Value.run m ρ)
  · clear h
    funext i
    unfold keysTarget heads normed
    pointwise
    simp only [mul_comm (128 : ℕ), Nat.div_add_mod']
  · clear h
    funext i
    unfold valuesTarget
    pointwise
  · clear h
    funext i
    unfold narrowKeysTarget heads normed
    pointwise
    simp only [mul_comm (128 : ℕ), Nat.div_add_mod']
  · clear h
    funext i
    unfold narrowValuesTarget
    pointwise
  · clear h
    funext i
    unfold smallTarget smallColumns
    pointwise
  · clear h
    funext i
    unfold maximaTarget largest
    rw [show (fun r : Fin 8192 => size (keyRow m c r) (argK m c) (i 0)) = fun r => square (fun k => keyRow m c r ⟨128 * (i 0).val + k.val, by have : (i 0).val < 8 := (i 0).isLt; omega⟩) (argK m c) from funext fun r => size_eq _ _ (i 0)]
    unfold square normed
    pointwise
    simp only [mul_comm (128 : ℕ)]
    rw [max_comm]

end Cert.PrepReference
-- ==== Proof.MergeSampleCases.lean ====
module

public import proofs.«01_k».proof.Proof.Gen.Kernel11Ideal.Value

/-! What one grid point of the merge kernel over the samples' rows leaves in its output block, as a function of the blocks it reads. -/

@[expose] public section

noncomputable section

namespace Cert.MergeSample

open Cert.Kernel11Ideal Cert.Kernel11Ideal.Gen Idealize.ShloMosaic Idealize.ShloMosaic.TcCoe Idealize.SL.Sem

variable {F : FTy → Type} [FloatOps F]

/-- Every load and store of the kernel starts at the window's corner. -/
theorem corner : (![(0 : ℕ), 0] : Fin 2 → ℕ) = fun _ => 0 := by
  funext a; match a with
  | ⟨0, _⟩ => rfl
  | ⟨1, _⟩ => rfl

/-- The point stores its rows. -/
theorem out_point (c : Dev nD) (i : grid0.Coords)
  (arg1 : Memref sig .tc .vmem S32x1024 .bf16) (harg1 : arg1.IsWhole)
  (arg2 : Memref sig .tc .vmem S32x1024 .f32) (harg2 : arg2.IsWhole)
  (arg3 : Memref sig .tc .vmem S32x2048 .f32) (harg3 : arg3.IsWhole)
  (arg4 : Memref sig .tc .vmem S32x2048 .f32) (harg4 : arg4.IsWhole)
  (arg5 : Memref sig .tc .vmem S32x2048 .f32) (harg5 : arg5.IsWhole)
  (arg6 : Memref sig .tc .vmem S1024x2048 .bf16) (harg6 : arg6.IsWhole)
  (arg7 : Memref sig .tc .vmem S1024x2048 .bf16) (harg7 : arg7.IsWhole)
  (arg8 : Memref sig .tc .vmem S2048x2048 .bf16) (harg8 : arg8.IsWhole)
  (arg9 : Memref sig .tc .vmem S32x2048 .f32) (harg9 : arg9.IsWhole)
    (x0 : Vec F S32x1024 .bf16) (x1 : Vec F S32x1024 .f32) (x2 : Vec F S32x2048 .f32) (x3 : Vec F S32x2048 .f32) (x4 : Vec F S32x2048 .f32) (x5 : Vec F S1024x2048 .bf16) (x6 : Vec F S1024x2048 .bf16) (x7 : Vec F S2048x2048 .bf16) :
    out0_A_8 c i arg1 harg1 arg2 harg2 arg3 harg3 arg4 harg4 arg5 harg5 arg6 harg6 arg7 harg7 arg8 harg8 arg9 harg9 x0 x1 x2 x3 x4 x5 x6 x7 = k0_pay1 x4 (k0_pay2 x0 x5 x1 x6 x2 x3) (k0_pay3 x7) := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  sl_unfold_words
  simp only [View.canon_unit_zero (S := S32x2048) corner, View.readAt_eq_ld, View.ld_unit_zero (S := S32x2048) corner,
    View.ld_unit_zero (S := S32x1024) corner, View.ld_unit_zero (S := S1024x2048) corner, View.ld_unit_zero (S := S2048x2048) corner,
    harg1.read_unread, harg2.read_unread, harg3.read_unread, harg4.read_unread, harg5.read_unread, harg6.read_unread, harg7.read_unread, harg8.read_unread, harg9.read_unread]

variable (m : (ℓ : Loc nD τ sig) → Buf (Elt F) ℓ) (c : Dev nD)

theorem outs_point (t : Fin cfg0.N) : outsAt0 m c t = k0_pay1 (iblk m c 4 t)
    (k0_pay2 (iblk m c 0 t) (iblk m c 5 t) (iblk m c 1 t) (iblk m c 6 t) (X0_2 m c t) (X0_3 m c t)) (k0_pay3 (iblk m c 7 t)) := by
  unfold outsAt0
  exact out_point ..

end Cert.MergeSample
-- ==== Proof.MergeSampleReads.lean ====
module

public import proofs.«01_k».proof.Proof.MergeSampleCases
public import proofs.«01_k».proof.Proof.MergeMath
public import Idealize.ShloMosaic.Lib.Pointwise

/-! What the blocks hold that the grid point of the merge kernel over the samples' 32 rows reads: all rows of the branches, of
    the gates' two halves and of the input, and the whole weights. -/

@[expose] public section

noncomputable section

namespace Cert.MergeSample

open Cert.Merge Cert.Kernel11Ideal Cert.Kernel11Ideal.Gen Idealize.ShloMosaic Idealize.ShloMosaic.TcCoe Idealize.SL.Sem

variable (m : (ℓ : Loc nD τ sig) → Buf (Elt Ideal) ℓ) (c : Dev nD)

/-- The arguments, as arrays of extended reals. -/
abbrev argA (r : Fin 32) (k : Fin 1024) : EReal := m ((c : Thread nD τ).loc main_arg0) (ix2 r k)
abbrev argB (r : Fin 32) (k : Fin 1024) : EReal := m ((c : Thread nD τ).loc main_arg1) (ix2 r k)
abbrev argP (r : Fin 32) (k : Fin 11352) : EReal := m ((c : Thread nD τ).loc main_arg2) (ix2 r k)
abbrev argX (r : Fin 32) (k : Fin 2048) : EReal := m ((c : Thread nD τ).loc main_arg3) (ix2 r k)
abbrev argWA (k : Fin 1024) (f : Fin 2048) : EReal := m ((c : Thread nD τ).loc main_arg4) (ix2 k f)
abbrev argWB (k : Fin 1024) (f : Fin 2048) : EReal := m ((c : Thread nD τ).loc main_arg5) (ix2 k f)
abbrev argW (k : Fin 2048) (f : Fin 2048) : EReal := m ((c : Thread nD τ).loc main_arg6) (ix2 k f)

theorem entryA (j : S32x1024.Idx) : (V m c main_v15 j : EReal) = m ((c : Thread nD τ).loc main_arg0) j := by
  have e : V m c main_v15 = (truncf .bf16 (m ((c : Thread nD τ).loc main_arg0) : FVec Ideal S32x1024 .f32) bitsLt_bf16_f32 :
      FVec Ideal S32x1024 .bf16) := by
    unfold V hostOps0
    after_results_simp
  rw [e]
  rfl

theorem entryWA (j : S1024x2048.Idx) : (V m c main_v16 j : EReal) = m ((c : Thread nD τ).loc main_arg4) j := by
  have e : V m c main_v16 = (truncf .bf16 (m ((c : Thread nD τ).loc main_arg4) : FVec Ideal S1024x2048 .f32) bitsLt_bf16_f32 :
      FVec Ideal S1024x2048 .bf16) := by
    unfold V hostOps0
    after_results_simp
  rw [e]
  rfl

theorem entryWB (j : S1024x2048.Idx) : (V m c main_v17 j : EReal) = m ((c : Thread nD τ).loc main_arg5) j := by
  have e : V m c main_v17 = (truncf .bf16 (m ((c : Thread nD τ).loc main_arg5) : FVec Ideal S1024x2048 .f32) bitsLt_bf16_f32 :
      FVec Ideal S1024x2048 .bf16) := by
    unfold V hostOps0
    after_results_simp
  rw [e]
  rfl

theorem entryW (j : S2048x2048.Idx) : (V m c main_v18 j : EReal) = m ((c : Thread nD τ).loc main_arg6) j := by
  have e : V m c main_v18 = (truncf .bf16 (m ((c : Thread nD τ).loc main_arg6) : FVec Ideal S2048x2048 .f32) bitsLt_bf16_f32 :
      FVec Ideal S2048x2048 .bf16) := by
    unfold V hostOps0
    after_results_simp
  rw [e]
  rfl

/-- The gates are the first columns of the array the kernel stages. -/
theorem entryP (r : Fin 32) (n : Fin 11264) (h : n.val < 4096) : V m c main_v12 (ix2 r n) = argP m c r ⟨7256 + n.val, by omega⟩ := by
  have e : V m c main_v12 = concatenate S32x11264 1
     [⟨S32x4096, extractStridedSlice S32x4096 ![0, 7256] (m ((c : Thread nD τ).loc main_arg2)) slices_S32x11352_S32x4096_0_7256⟩,
      ⟨S32x1024, extractStridedSlice S32x1024 ![0, 0] (m ((c : Thread nD τ).loc main_arg2)) slices_S32x11352_S32x1024_0_0⟩,
      ⟨S32x1024, extractStridedSlice S32x1024 ![0, 1024] (m ((c : Thread nD τ).loc main_arg2)) slices_S32x11352_S32x1024_0_1024⟩,
      ⟨S32x1024, extractStridedSlice S32x1024 ![0, 2048] (m ((c : Thread nD τ).loc main_arg2)) slices_S32x11352_S32x1024_0_2048⟩,
      ⟨S32x1024, extractStridedSlice S32x1024 ![0, 3080] (m ((c : Thread nD τ).loc main_arg2)) slices_S32x11352_S32x1024_0_3080⟩,
      ⟨S32x1024, extractStridedSlice S32x1024 ![0, 4104] (m ((c : Thread nD τ).loc main_arg2)) slices_S32x11352_S32x1024_0_4104⟩,
      ⟨S32x1024, extractStridedSlice S32x1024 ![0, 5128] (m ((c : Thread nD τ).loc main_arg2)) slices_S32x11352_S32x1024_0_5128⟩,
      ⟨S32x1024, extractStridedSlice S32x1024 ![0, 6152] (m ((c : Thread nD τ).loc main_arg2)) slices_S32x11352_S32x1024_0_6152⟩]
      concatenates_S32x4096_S32x1024_S32x1024_S32x1024_S32x1024_S32x1024_S32x1024_S32x1024_S32x11264_d1 := by
    unfold V hostOps0
    after_results_simp
    dsimp only [Matrix.cons_val]
    rfl
  rw [e]
  pointwise
  rw [dif_pos h]

theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 1)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

theorem lt_1 (t : Fin cfg0.N) : t.val < 1 := lt_of_lt_of_eq t.isLt (show cfg0.N = 1 from N_0)

theorem read_a (t : Fin cfg0.N) (r : Fin 32) (k : Fin 1024) : iblk m c 0 t (ix2 r k) = argA m c ⟨32 * t.val + r.val, by have := lt_1 t; omega⟩ k := by
  show V m c main_v15 (((cfg0.win 0).blk t).view.emb (ix2 r k)) = _
  rw [entryA]
  refine congrArg (m ((c : Thread nD τ).loc main_arg0)) ?_
  obtain ⟨⟨e0, e1⟩, _, _, _, _, _, _, _, _⟩ := idx_facts t
  funext a; apply Fin.ext
  match a with
  | ⟨0, _⟩ => show win0_0.index t (0 : Fin 2) * 32 + 1 * r.val = 32 * t.val + r.val; omega
  | ⟨1, _⟩ => show win0_0.index t (1 : Fin 2) * 1024 + 1 * k.val = k.val; omega

theorem read_b (t : Fin cfg0.N) (r : Fin 32) (k : Fin 1024) : iblk m c 1 t (ix2 r k) = argB m c ⟨32 * t.val + r.val, by have := lt_1 t; omega⟩ k := by
  show V m c main_arg1 (((cfg0.win 1).blk t).view.emb (ix2 r k)) = _
  rw [V_main_arg1]
  refine congrArg (m ((c : Thread nD τ).loc main_arg1)) ?_
  obtain ⟨_, ⟨e0, e1⟩, _, _, _, _, _, _, _⟩ := idx_facts t
  funext a; apply Fin.ext
  match a with
  | ⟨0, _⟩ => show win0_1.index t (0 : Fin 2) * 32 + 1 * r.val = 32 * t.val + r.val; omega
  | ⟨1, _⟩ => show win0_1.index t (1 : Fin 2) * 1024 + 1 * k.val = k.val; omega

theorem read_x (t : Fin cfg0.N) (r : Fin 32) (k : Fin 2048) : iblk m c 4 t (ix2 r k) = argX m c ⟨32 * t.val + r.val, by have := lt_1 t; omega⟩ k := by
  show V m c main_arg3 (((cfg0.win 4).blk t).view.emb (ix2 r k)) = _
  rw [V_main_arg3]
  refine congrArg (m ((c : Thread nD τ).loc main_arg3)) ?_
  obtain ⟨_, _, _, _, ⟨e0, e1⟩, _, _, _, _⟩ := idx_facts t
  funext a; apply Fin.ext
  match a with
  | ⟨0, _⟩ => show win0_4.index t (0 : Fin 2) * 32 + 1 * r.val = 32 * t.val + r.val; omega
  | ⟨1, _⟩ => show win0_4.index t (1 : Fin 2) * 2048 + 1 * k.val = k.val; omega

theorem read_wa (t : Fin cfg0.N) (f : Fin 1024) (k : Fin 2048) : iblk m c 5 t (ix2 f k) = argWA m c f k := by
  show V m c main_v16 (((cfg0.win 5).blk t).view.emb (ix2 f k)) = _
  rw [entryWA]
  refine congrArg (m ((c : Thread nD τ).loc main_arg4)) ?_
  obtain ⟨_, _, _, _, _, ⟨e0, e1⟩, _, _, _⟩ := idx_facts t
  funext a; apply Fin.ext
  match a with
  | ⟨0, _⟩ => show win0_5.index t (0 : Fin 2) * 1024 + 1 * f.val = f.val; omega
  | ⟨1, _⟩ => show win0_5.index t (1 : Fin 2) * 2048 + 1 * k.val = k.val; omega

theorem read_wb (t : Fin cfg0.N) (f : Fin 1024) (k : Fin 2048) : iblk m c 6 t (ix2 f k) = argWB m c f k := by
  show V m c main_v17 (((cfg0.win 6).blk t).view.emb (ix2 f k)) = _
  rw [entryWB]
  refine congrArg (m ((c : Thread nD τ).loc main_arg5)) ?_
  obtain ⟨_, _, _, _, _, _, ⟨e0, e1⟩, _, _⟩ := idx_facts t
  funext a; apply Fin.ext
  match a with
  | ⟨0, _⟩ => show win0_6.index t (0 : Fin 2) * 1024 + 1 * f.val = f.val; omega
  | ⟨1, _⟩ => show win0_6.index t (1 : Fin 2) * 2048 + 1 * k.val = k.val; omega

theorem read_w (t : Fin cfg0.N) (f : Fin 2048) (k : Fin 2048) : iblk m c 7 t (ix2 f k) = argW m c f k := by
  show V m c main_v18 (((cfg0.win 7).blk t).view.emb (ix2 f k)) = _
  rw [entryW]
  refine congrArg (m ((c : Thread nD τ).loc main_arg6)) ?_
  obtain ⟨_, _, _, _, _, _, _, ⟨e0, e1⟩, _⟩ := idx_facts t
  funext a; apply Fin.ext
  match a with
  | ⟨0, _⟩ => show win0_7.index t (0 : Fin 2) * 2048 + 1 * f.val = f.val; omega
  | ⟨1, _⟩ => show win0_7.index t (1 : Fin 2) * 2048 + 1 * k.val = k.val; omega

theorem read_g (t : Fin cfg0.N) (r : Fin 32) (k : Fin 2048) :
    X0_2 m c t (ix2 r k) = argP m c ⟨32 * t.val + r.val, by have := lt_1 t; omega⟩ ⟨7256 + k.val, by omega⟩ := by
  unfold X0_2 Pipeline.Window.fill
  rw [dif_pos (moved0_2 t _)]
  obtain ⟨y, hy⟩ : ∃ y : ((cfg0.win 2).xblock (cfg0.grid.coords t)).Idx, y = fun a => ⟨((ix2 r k : S32x2048.Idx) a).val,
    ((cfg0.win 2).moved_iff _ _).mp (moved0_2 t (ix2 r k : S32x2048.Idx)) a⟩ := ⟨_, rfl⟩
  refine (congrArg (iblk m c 2 t) hy.symm).trans ?_
  show V m c main_v12 (((cfg0.win 2).blk t).view.emb y) = _
  obtain ⟨_, _, ⟨e0, e1⟩, _, _, _, _, _, _⟩ := idx_facts t
  have hb : ((cfg0.win 2).blk t).view.emb y = (ix2 ⟨32 * t.val + r.val, by have := lt_1 t; omega⟩ ⟨0 + k.val, by omega⟩ : S32x11264.Idx) := by
    subst hy
    funext a; apply Fin.ext
    match a with
    | ⟨0, _⟩ => show win0_2.index t (0 : Fin 2) * 32 + 1 * r.val = 32 * t.val + r.val; omega
    | ⟨1, _⟩ => show win0_2.index t (1 : Fin 2) * 2048 + 1 * k.val = 0 + k.val; omega
  rw [hb, entryP m c _ _ (by dsimp only; omega)]
  refine congrArg (argP m c _) (Fin.ext ?_)
  dsimp only
  omega

theorem read_h (t : Fin cfg0.N) (r : Fin 32) (k : Fin 2048) :
    X0_3 m c t (ix2 r k) = argP m c ⟨32 * t.val + r.val, by have := lt_1 t; omega⟩ ⟨7256 + (2048 + k.val), by omega⟩ := by
  unfold X0_3 Pipeline.Window.fill
  rw [dif_pos (moved0_3 t _)]
  obtain ⟨y, hy⟩ : ∃ y : ((cfg0.win 3).xblock (cfg0.grid.coords t)).Idx, y = fun a => ⟨((ix2 r k : S32x2048.Idx) a).val,
    ((cfg0.win 3).moved_iff _ _).mp (moved0_3 t (ix2 r k : S32x2048.Idx)) a⟩ := ⟨_, rfl⟩
  refine (congrArg (iblk m c 3 t) hy.symm).trans ?_
  show V m c main_v12 (((cfg0.win 3).blk t).view.emb y) = _
  obtain ⟨_, _, _, ⟨e0, e1⟩, _, _, _, _, _⟩ := idx_facts t
  have hb : ((cfg0.win 3).blk t).view.emb y = (ix2 ⟨32 * t.val + r.val, by have := lt_1 t; omega⟩ ⟨2048 + k.val, by omega⟩ : S32x11264.Idx) := by
    subst hy
    funext a; apply Fin.ext
    match a with
    | ⟨0, _⟩ => show win0_3.index t (0 : Fin 2) * 32 + 1 * r.val = 32 * t.val + r.val; omega
    | ⟨1, _⟩ => show win0_3.index t (1 : Fin 2) * 2048 + 1 * k.val = 2048 + k.val; omega
  rw [hb, entryP m c _ _ (by dsimp only; omega)]

end Cert.MergeSample
-- ==== Proof.MergeSampleValue.lean ====
module

public import proofs.«01_k».proof.Proof.MergeSampleReads

/-! The result of the merge kernel over the samples' rows: its one point writes all 32. -/

@[expose] public section

noncomputable section

namespace Cert.MergeSample

open Cert.Merge Cert.Kernel11Ideal Cert.Kernel11Ideal.Gen Idealize.ShloMosaic Idealize.ShloMosaic.TcCoe Idealize.SL.Sem

/-! ## The payloads at an index -/

theorem pay1_apply (x : Vec Ideal S32x2048 .f32) (z : Vec Ideal S32x2048 .bf16) (w : Vec Ideal S2048x2048 .bf16)
    (r : Fin 32) (d : Fin 2048) :
    k0_pay1 (F := Ideal) x z w (ix2 r d) = x (ix2 r d) + ∑ f, z (ix2 r f) * w (ix2 f d) := by
  pointwise [k0_pay1]

theorem pay2_apply (a : Vec Ideal S32x1024 .bf16) (wa : Vec Ideal S1024x2048 .bf16) (b : Vec Ideal S32x1024 .f32)
    (wb : Vec Ideal S1024x2048 .bf16) (g h : Vec Ideal S32x2048 .f32) (r : Fin 32) (f : Fin 2048) :
    k0_pay2 (F := Ideal) a wa b wb g h (ix2 r f)
      = mixed (fun k => a (ix2 r k)) (fun k => b (ix2 r k)) (fun f => g (ix2 r f)) (fun f => h (ix2 r f))
          (fun k f => wa (ix2 k f)) (fun k f => wb (ix2 k f)) f := by
  pointwise [k0_pay2, mixed, Mlstm.logistic]

theorem pay3_apply (w : Vec Ideal S2048x2048 .bf16) (f d : Fin 2048) : k0_pay3 (F := Ideal) w (ix2 f d) = w (ix2 f d) := by
  pointwise [k0_pay3]

variable (m : (ℓ : Loc nD τ sig) → Buf (Elt Ideal) ℓ) (c : Dev nD)

/-- Row `r` of the result. -/
abbrev rowAt (r : Fin 32) (d : Fin 2048) : EReal :=
  merged (argA m c r) (argB m c r) (fun f => argP m c r ⟨7256 + f.val, by omega⟩) (fun f => argP m c r ⟨7256 + (2048 + f.val), by omega⟩)
    (argX m c r) (argWA m c) (argWB m c) (argW m c) d

theorem out_block (t : Fin cfg0.N) (r : Fin 32) (d : Fin 2048) :
    outsAt0 m c t (ix2 r d) = rowAt m c ⟨32 * t.val + r.val, by have := lt_1 t; omega⟩ d := by
  rw [outs_point, pay1_apply]
  simp only [pay2_apply, pay3_apply, read_a, read_b, read_g, read_h, read_x, read_wa, read_wb, read_w]
  rfl

/-! ## The array after the run -/

/-- The merged rows, as the result array. -/
def target : Buf (Elt Ideal) ((c : Thread nD τ).loc main_v19) := fun i : S32x2048.Idx => rowAt m c (i 0) (i 1)

theorem flushed (t : Fin cfg0.N) :
    (dats m 0 c).flushed 8 t = ((cfg0.win 8).blk t).view.read (Elt Ideal) (target m c) := by
  rw [Cert.Kernel11Ideal.Value.flushed8]
  refine funext fun (y : S32x2048.Idx) => ?_
  obtain ⟨_, _, _, _, _, _, _, _, e0, e1⟩ := idx_facts t
  have ht := lt_1 t
  have hb : (((cfg0.win 8).blk t).view.emb y : S32x2048.Idx)
      = ix2 ⟨32 * t.val + (y 0).val, by have : (y 0).val < 32 := (y 0).isLt; omega⟩ (y 1) := by
    funext a; apply Fin.ext
    match a with
    | ⟨0, _⟩ => show win0_8.index t (0 : Fin 2) * 32 + 1 * (y 0).val = 32 * t.val + (y 0).val; omega
    | ⟨1, _⟩ => show win0_8.index t (1 : Fin 2) * 2048 + 1 * (y 1).val = (y 1).val; omega
  have hx : ((cfg0.win 8).xinj (grid0.coords t) y : S32x2048.Idx) = ix2 (y 0) (y 1) := by
    funext a; apply Fin.ext
    match a with
    | ⟨0, _⟩ => rfl
    | ⟨1, _⟩ => rfl
  refine ((congrArg (outsAt0 m c t) hx).trans (out_block m c t (y 0) (y 1))).trans ?_
  exact (congrArg (target m c) hb).symm

theorem cover (i : S32x2048.Idx) : ∃ t : Fin cfg0.N, (cfg0.win 8).flush t = true ∧ i ∈ ((cfg0.win 8).blk t).view.set := by
  have hi0 : (i 0).val < 32 := (i 0).isLt
  have hi1 : (i 1).val < 2048 := (i 1).isLt
  have hN : (i 0).val / 32 < cfg0.N := lt_of_lt_of_eq (by omega) N_0.symm
  refine ⟨⟨(i 0).val / 32, hN⟩, flush0_8 _, ?_⟩
  obtain ⟨_, _, _, _, _, _, _, _, e0, e1⟩ := idx_facts ⟨(i 0).val / 32, hN⟩
  dsimp only at e0 e1
  show i ∈ ((View.whole main_v19).slice (win0_8.rect (⟨(i 0).val / 32, hN⟩ : Fin cfg0.N))).set
  rw [View.set_slice_whole, Rect.mem_set_unit]
  intro a
  match a with
  | ⟨0, _⟩ => show win0_8.index _ (0 : Fin 2) * 32 ≤ (i 0).val ∧ (i 0).val < win0_8.index _ (0 : Fin 2) * 32 + 32; omega
  | ⟨1, _⟩ => show win0_8.index _ (1 : Fin 2) * 2048 ≤ (i 1).val ∧ (i 1).val < win0_8.index _ (1 : Fin 2) * 2048 + 2048; omega

theorem final : (dats m 0 c).arrAt 8 cfg0.N = target m c :=
  (dats m 0 c).arrAt_eq_of_cover 8 _ (fun t _ => flushed m c t) cover

/-- The kernel's run: the merged rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v19) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Cert.Kernel11Ideal.Value.run_blocks m ρ)

end Cert.MergeSample
-- ==== Proof.MergeSampleReference.lean ====
module

public import proofs.«01_k».proof.Proof.Gen.Reference11Ideal.Run
public import proofs.«01_k».proof.Proof.MergeMath

/-! The samples' merge reference's result is the merged rows. -/

@[expose] public section

noncomputable section

namespace Cert.MergeSampleReference

open Cert.Merge Cert.Reference11Ideal Idealize.ShloMosaic Idealize.ShloMosaic.TcCoe Idealize.SL.Sem

variable (m : (ℓ : Loc nD τ sig) → Buf (Elt Ideal) ℓ) (c : Dev nD)

/-- The merged rows of the reference's arguments. -/
def target : Buf (Elt Ideal) ((c : Thread nD τ).loc main_v15) := fun i : S32x2048.Idx =>
  merged (fun k => m ((c : Thread nD τ).loc main_arg0) (ix2 (i 0) k)) (fun k => m ((c : Thread nD τ).loc main_arg1) (ix2 (i 0) k))
    (fun f => m ((c : Thread nD τ).loc main_arg2) (ix2 (i 0) ⟨7256 + f.val, by omega⟩)) (fun f => m ((c : Thread nD τ).loc main_arg2) (ix2 (i 0) ⟨7256 + (2048 + f.val), by omega⟩))
    (fun d => m ((c : Thread nD τ).loc main_arg3) (ix2 (i 0) d)) (fun k f => m ((c : Thread nD τ).loc main_arg4) (ix2 k f))
    (fun k f => m ((c : Thread nD τ).loc main_arg5) (ix2 k f)) (fun f d => m ((c : Thread nD τ).loc main_arg6) (ix2 f d)) (i 1)

/-- The reference's run: the merged rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v15) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun _ h c => ⟨(h c).1.trans ?_, (h c).2⟩) (Cert.Reference11Ideal.Value.run m ρ)
  funext i
  unfold target
  pointwise [merged, mixed, Mlstm.logistic]
  simp only [zero_sub]

end Cert.MergeSampleReference
-- ==== Proof.InprojSampleCases.lean ====
module

public import proofs.«01_k».proof.Proof.Gen.Kernel12.Frame
public import proofs.«01_k».proof.Proof.Gen.Kernel12Ideal.Frame
public import Idealize.ShloMosaic.Lib.Pipeline.Value
public import Idealize.ShloMosaic.Lib.Pointwise

/-! The input projection's call for the samples' rows: its table of block starts is a constant, every block it names lies inside the weights, and
    what one grid point leaves in its output block. -/

@[expose] public section

noncomputable section

namespace Cert.InprojSample

open Idealize.ShloMosaic Idealize.ShloMosaic.TcCoe Idealize.SL.Sem

section Bits
open Cert.Kernel12 Cert.Kernel12.Gen

set_option backward.proofsInPublic true in
/-- The table of block starts. -/
def table : pre0.Contents (Elt Bits) :=
  fun | ⟨0, _⟩ => fun x => lit0 (S11.rowMajor x) | ⟨_ + 1, h⟩ => absurd h (by simp)

theorem tbl_eq (m : (ℓ : Loc nD τ sig) → Buf (Elt Bits) ℓ) : tbl m = table := by
  funext j
  match j with
  | ⟨0, _⟩ =>
    show V m (0 : Dev nD) main_c = fun x => lit0 (S11.rowMajor x)
    unfold V hostOps0
    after_results_simp
    rfl

theorem ok (m : (ℓ : Loc nD τ sig) → Buf (Elt Bits) ℓ) : Ok (F := Bits) m := by
  unfold Ok; rw [tbl_eq m]; decide +kernel

end Bits

open Cert.Kernel12Ideal Cert.Kernel12Ideal.Gen

set_option backward.proofsInPublic true in
/-- The same table, of the program over the extended reals. -/
def tableIdeal : pre0.Contents (Elt Ideal) :=
  fun | ⟨0, _⟩ => fun x => lit0 (S11.rowMajor x) | ⟨_ + 1, h⟩ => absurd h (by simp)

theorem tbl_ideal_eq (m : (ℓ : Loc nD τ sig) → Buf (Elt Ideal) ℓ) : tbl m = tableIdeal := by
  funext j
  match j with
  | ⟨0, _⟩ =>
    show V m (0 : Dev nD) main_c = fun x => lit0 (S11.rowMajor x)
    unfold V hostOps0
    after_results_simp
    rfl

theorem ok_ideal (m : (ℓ : Loc nD τ sig) → Buf (Elt Ideal) ℓ) : Ok (F := Ideal) m := by
  unfold Ok; rw [tbl_ideal_eq m]; decide +kernel

/-- Every load and store of the kernel starts at the window's corner. -/
theorem corner2 : (![(0 : ℕ), 0] : Fin 2 → ℕ) = fun _ => 0 := by
  funext a; match a with
  | ⟨0, _⟩ => rfl
  | ⟨1, _⟩ => rfl

section Cases

variable {F : FTy → Type} [FloatOps F]
variable (c : Dev nD) (i : grid0.Coords)
  (arg3 : Memref sig .tc .vmem S32x2048 .bf16) (harg3 : arg3.IsWhole)
  (arg4 : Memref sig .tc .vmem S1024x2048 .f32) (harg4 : arg4.IsWhole)
  (arg5 : Memref sig .tc .vmem S32x1024 .f32) (harg5 : arg5.IsWhole)
  (arg6 : Memref sig .tc .vmem S2048x1024 .bf16) (harg6 : arg6.IsWhole)
  (x0 : Vec F S32x2048 .bf16) (x1 : Vec F S1024x2048 .f32) (xt0 : TbBuf0 (F := F) c tbM0_0)

/-- A point's product, with the weights just transposed. -/
theorem out_point (hc0 : cond0_0 i) :
    out0_A_2 c i arg3 harg3 arg4 harg4 arg5 harg5 arg6 harg6 hc0 x0 x1 xt0 = k0_pay2 x0 (k0_pay1 x1) := by
  unfold out0_A_2
  rw [View.read_writes_eq_canon _ _ _ (cover0_A_2 c i arg3 harg3 arg4 harg4 arg5 harg5 arg6 harg6 hc0 x0 x1 xt0)]
  unfold kernelRun0_A
  dsimp only
  sl_unfold_words
  simp only [View.canon_unit_zero (S := S32x1024) corner2, View.readAt_eq_ld, View.ld_unit_zero (S := S32x2048) corner2, View.ld_unit_zero (S := S1024x2048) corner2,
    View.ld_unit_zero (S := S2048x1024) corner2, View.readCov_unit_zero (S := S2048x1024) _ corner2,
    harg3.read_unread, harg4.read_unread]

end Cases

variable (m : (ℓ : Loc nD τ sig) → Buf (Elt Ideal) ℓ) (c : Dev nD)

/-- The rows and the weights that point `t` reads. -/
def blockX (t : Fin (cfgM m (ok_ideal m)).N) : Vec Ideal S32x2048 .bf16 := iblk m (ok_ideal m) c 0 t
def blockW (t : Fin (cfgM m (ok_ideal m)).N) : Vec Ideal S1024x2048 .f32 := iblk m (ok_ideal m) c 1 t

/-- After every point: its product. -/
theorem outs_point (t : Fin (cfgM m (ok_ideal m)).N) :
    outsAt0 m (ok_ideal m) c t = k0_pay2 (blockX m c t) (k0_pay1 (blockW m c t)) := by
  unfold outsAt0
  exact out_point c (grid0.coords t) _ _ _ _ _ _ _ _ (iblk m (ok_ideal m) c 0 t) (iblk m (ok_ideal m) c 1 t) (tbl m 0) _

end Cert.InprojSample
-- ==== Proof.InprojSampleValue.lean ====
module

public import proofs.«01_k».proof.Proof.InprojSampleCases
public import proofs.«01_k».proof.Proof.InprojValue

/-! The input projection's result for the samples' rows: point `g` multiplies the 32 rows with the 1024 columns that the
    table names for `g`. -/

@[expose] public section

noncomputable section

namespace Cert.InprojSample

open Cert.Inproj (column product column_block)
open Cert.Kernel12Ideal Cert.Kernel12Ideal.Gen Idealize.ShloMosaic Idealize.ShloMosaic.TcCoe Idealize.SL.Sem

/-! ## The payloads at an index -/

theorem pay1_apply (w : Vec Ideal S1024x2048 .f32) (k : Fin 2048) (f : Fin 1024) : k0_pay1 w (ix2 k f) = w (ix2 f k) := by
  pointwise [k0_pay1]

theorem pay2_apply (x : Vec Ideal S32x2048 .bf16) (w : Vec Ideal S2048x1024 .bf16) (r : Fin 32) (f : Fin 1024) :
    k0_pay2 x w (ix2 r f) = ∑ k, x (ix2 r k) * w (ix2 k f) := by
  pointwise [k0_pay2]

/-! ## What the blocks hold -/

variable (m : (ℓ : Loc nD τ sig) → Buf (Elt Ideal) ℓ) (c : Dev nD)

abbrev argX (r : Fin 32) (k : Fin 2048) : EReal := m ((c : Thread nD τ).loc main_arg0) (ix2 r k)
abbrev argW (k : Fin 2048) (n : Fin 11352) : EReal := m ((c : Thread nD τ).loc main_arg1) (ix2 k n)

theorem entryX (j : S32x2048.Idx) : (V m c main_v7 j : EReal) = m ((c : Thread nD τ).loc main_arg0) j := by
  have e : V m c main_v7 = (truncf .bf16 (m ((c : Thread nD τ).loc main_arg0) : FVec Ideal S32x2048 .f32) bitsLt_bf16_f32 :
      FVec Ideal S32x2048 .bf16) := by
    unfold V hostOps0
    after_results_simp
  rw [e]
  rfl

theorem entryW (n : Fin 11352) (k : Fin 2048) : V m c main_v0 (ix2 n k) = argW m c k n := by
  have e : V m c main_v0 = transpose S11352x2048 [1, 0] (m ((c : Thread nD τ).loc main_arg1)) transposes_S2048x11352_S11352x2048_1_0 := by
    unfold V hostOps0
    after_results_simp
  rw [e]
  pointwise

theorem lt_11 (t : Fin (cfgM m (ok_ideal m)).N) : t.val < 11 := lt_of_lt_of_eq t.isLt (show (cfgM m (ok_ideal m)).N = 11 from N_0)

theorem idx_facts : ∀ t : Fin grid0.N, cc0_transform_0 (grid0.coords t) (0 : Fin 2) = 0
    ∧ cc0_transform_0 (grid0.coords t) (1 : Fin 2) = 0
    ∧ cc0_transform_2 (grid0.coords t) (0 : Fin 2) = 0 ∧ cc0_transform_2 (grid0.coords t) (1 : Fin 2) = t.val := by
  decide +kernel

theorem start_table : ∀ t : Fin grid0.N,
    cc0_transform_1 (F := Ideal) k0_off1_inb numel1_S1 tableIdeal (grid0.coords t) (0 : Fin 2)
      = (column ⟨1024 * t.val, by have : t.val < 11 := lt_of_lt_of_eq t.isLt N_0; omega⟩).val
    ∧ cc0_transform_1 (F := Ideal) k0_off1_inb numel1_S1 tableIdeal (grid0.coords t) (1 : Fin 2) = 0 := by
  decide +kernel

theorem start (t : Fin grid0.N) :
    cc0_transform_1 k0_off1_inb numel1_S1 (tbl m) (grid0.coords t) (0 : Fin 2)
      = (column ⟨1024 * t.val, by have : t.val < 11 := lt_of_lt_of_eq t.isLt N_0; omega⟩).val
    ∧ cc0_transform_1 k0_off1_inb numel1_S1 (tbl m) (grid0.coords t) (1 : Fin 2) = 0 := by
  rw [tbl_ideal_eq]; exact start_table t

theorem read_x (t : Fin (cfgM m (ok_ideal m)).N) (r : Fin 32) (k : Fin 2048) :
    blockX m c t (ix2 r k) = argX m c r k := by
  let y : (((cfgM m (ok_ideal m)).win 0).xblock ((cfgM m (ok_ideal m)).grid.coords t)).Idx := (ix2 r k : S32x2048.Idx)
  refine (entryX m c ((((cfgM m (ok_ideal m)).win 0).blk t).view.emb y)).trans ?_
  refine congrArg (m ((c : Thread nD τ).loc main_arg0)) ?_
  obtain ⟨e0, e1, _⟩ := idx_facts t
  funext a; apply Fin.ext
  match a with
  | ⟨0, _⟩ => show cc0_transform_0 (grid0.coords t) (0 : Fin 2) * 32 + 1 * r.val = r.val; omega
  | ⟨1, _⟩ => show cc0_transform_0 (grid0.coords t) (1 : Fin 2) * 2048 + 1 * k.val = k.val; omega

theorem read_w (t : Fin (cfgM m (ok_ideal m)).N) (f : Fin 1024) (k : Fin 2048) :
    blockW m c t (ix2 f k) = argW m c k (column ⟨1024 * t.val + f.val, by have := lt_11 m t; omega⟩) := by
  let y : (((cfgM m (ok_ideal m)).win 1).xblock ((cfgM m (ok_ideal m)).grid.coords t)).Idx := (ix2 f k : S1024x2048.Idx)
  refine Eq.trans ?_ (entryW m c _ k)
  show V m c main_v0 ((((cfgM m (ok_ideal m)).win 1).blk t).view.emb y) = _
  refine congrArg (V m c main_v0) ?_
  obtain ⟨e0, e1⟩ := start m t
  have e2 := column_block ⟨t.val, by have := lt_11 m t; omega⟩ f
  dsimp only at e2
  funext a; apply Fin.ext
  match a with
  | ⟨0, _⟩ =>
    show cc0_transform_1 k0_off1_inb numel1_S1 (tbl m) (grid0.coords t) (0 : Fin 2) + 1 * f.val = (column _).val
    omega
  | ⟨1, _⟩ =>
    show cc0_transform_1 k0_off1_inb numel1_S1 (tbl m) (grid0.coords t) (1 : Fin 2) + 1 * k.val = k.val
    omega

/-- Every point's output block is the rows' products. -/
theorem out_block (t : Fin (cfgM m (ok_ideal m)).N) (r : Fin 32) (f : Fin 1024) :
    outsAt0 m (ok_ideal m) c t (ix2 r f)
      = product (argX m c r) (argW m c) ⟨1024 * t.val + f.val, by have := lt_11 m t; omega⟩ := by
  unfold product
  rw [outs_point, pay2_apply]
  simp only [pay1_apply, read_x, read_w]

/-! ## The array after the run -/

/-- The products, as the result array. -/
def target : Buf (Elt Ideal) ((c : Thread nD τ).loc main_v8) := fun i : S32x11264.Idx => product (argX m c (i 0)) (argW m c) (i 1)

theorem flushed (t : Fin (cfgM m (ok_ideal m)).N) :
    (dats m (ok_ideal m) 0 c).flushed 2 t = (((cfgM m (ok_ideal m)).win 2).blk t).view.read (Elt Ideal) (target m c) := by
  show ((cfgM m (ok_ideal m)).win 2).cut (grid0.coords t) ((dats m (ok_ideal m) 0 c).after 2 t) = _
  rw [after0_2]
  refine funext fun (y : S32x1024.Idx) => ?_
  obtain ⟨_, _, e0, e1⟩ := idx_facts t
  have ht := lt_11 m t
  have hb : ((((cfgM m (ok_ideal m)).win 2).blk t).view.emb y : S32x11264.Idx)
      = ix2 (y 0)
        ⟨1024 * t.val + (y 1).val, by have : (y 1).val < 1024 := (y 1).isLt; omega⟩ := by
    funext a; apply Fin.ext
    match a with
    | ⟨0, _⟩ => show cc0_transform_2 (grid0.coords t) (0 : Fin 2) * 32 + 1 * (y 0).val = (y 0).val; omega
    | ⟨1, _⟩ => show cc0_transform_2 (grid0.coords t) (1 : Fin 2) * 1024 + 1 * (y 1).val = 1024 * t.val + (y 1).val; omega
  have hx : (((cfgM m (ok_ideal m)).win 2).xinj (grid0.coords t) y : S32x1024.Idx) = ix2 (y 0) (y 1) := by
    funext a; apply Fin.ext
    match a with
    | ⟨0, _⟩ => rfl
    | ⟨1, _⟩ => rfl
  refine ((congrArg (outsAt0 m (ok_ideal m) c t) hx).trans (out_block m c t (y 0) (y 1))).trans ?_
  exact (congrArg (target m c) hb).symm

theorem cover (i : S32x11264.Idx) : ∃ t : Fin (cfgM m (ok_ideal m)).N,
    ((cfgM m (ok_ideal m)).win 2).flush t = true ∧ i ∈ (((cfgM m (ok_ideal m)).win 2).blk t).view.set := by
  have hi0 : (i 0).val < 32 := (i 0).isLt
  have hi1 : (i 1).val < 11264 := (i 1).isLt
  obtain ⟨n, hn⟩ : ∃ n, n = (i 1).val / 1024 := ⟨_, rfl⟩
  have hN : n < (cfgM m (ok_ideal m)).N := lt_of_lt_of_eq (by omega) N_0.symm
  refine ⟨⟨n, hN⟩, flush0_2 _ _, ?_⟩
  obtain ⟨_, _, e0, e1⟩ := idx_facts ⟨n, hN⟩
  dsimp only at e0 e1
  refine (congrArg (i ∈ ·) (View.set_slice_whole main_v8 (((cfgM m (ok_ideal m)).win 2).rect
    (⟨n, hN⟩ : Fin (cfgM m (ok_ideal m)).N)))).mpr ?_
  refine (Rect.mem_set_unit ..).mpr ?_
  intro a
  match a with
  | ⟨0, _⟩ =>
    show cc0_transform_2 (grid0.coords ⟨n, hN⟩) (0 : Fin 2) * 32 ≤ (i 0).val
      ∧ (i 0).val < cc0_transform_2 (grid0.coords ⟨n, hN⟩) (0 : Fin 2) * 32 + 32
    omega
  | ⟨1, _⟩ =>
    show cc0_transform_2 (grid0.coords ⟨n, hN⟩) (1 : Fin 2) * 1024 ≤ (i 1).val
      ∧ (i 1).val < cc0_transform_2 (grid0.coords ⟨n, hN⟩) (1 : Fin 2) * 1024 + 1024
    omega

theorem final : (dats m (ok_ideal m) 0 c).arrAt 2 (cfgM m (ok_ideal m)).N = target m c :=
  (dats m (ok_ideal m) 0 c).arrAt_eq_of_cover 2 _ (fun t _ => flushed m c t) (cover m)

/-- The kernel's run: the products, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v8) = target m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).2 main_arg0 (by decide : main_arg0 ∈ Pipeline.restRefs sig spec0)).trans (V_main_arg0 m c),
      ((h c).2 main_arg1 (by decide : main_arg1 ∈ Pipeline.restRefs sig spec0)).trans (V_main_arg1 m c)⟩)
    (run_main m ρ (ok_ideal m))

end Cert.InprojSample
-- ==== Proof.InprojSampleReference.lean ====
module

public import proofs.«01_k».proof.Proof.Gen.Reference12Ideal.Run
public import proofs.«01_k».proof.Proof.InprojValue

/-! The input projection's reference for the samples' rows gives the same products. -/

@[expose] public section

noncomputable section

namespace Cert.InprojSampleReference

open Cert.Inproj Cert.Reference12Ideal Idealize.ShloMosaic Idealize.ShloMosaic.TcCoe Idealize.SL.Sem

variable (m : (ℓ : Loc nD τ sig) → Buf (Elt Ideal) ℓ) (c : Dev nD)

/-- The products of the reference's arguments. -/
def target : Buf (Elt Ideal) ((c : Thread nD τ).loc main_v4) := fun i : S32x11264.Idx =>
  product (fun k => m ((c : Thread nD τ).loc main_arg0) (ix2 (i 0) k)) (fun k n => m ((c : Thread nD τ).loc main_arg1) (ix2 k n)) (i 1)

/-- The reference's run: the products, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4) = target m c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Cert.Reference12Ideal.Value.run m ρ)
  funext i
  unfold target product column
  by_cases h : (i 1).val < 4096
  · rw [dif_pos h]
    pointwise
    rw [dif_pos h]
  · rw [dif_neg h]
    by_cases h' : (i 1).val < 7168
    · rw [dif_pos h']
      pointwise
      rw [dif_neg h, dif_pos (by omega)]
    · rw [dif_neg h']
      pointwise
      rw [dif_neg h, dif_neg (by omega)]
      have hn (p : 3080 + ((i 1).val - 4096 - 3072) < 11352) (q : (i 1).val - 4088 < 11352) :
          (⟨3080 + ((i 1).val - 4096 - 3072), p⟩ : Fin 11352) = ⟨(i 1).val - 4088, q⟩ := Fin.ext (by dsimp only; omega)
      rw [hn _ (by have : (i 1).val < 11264 := (i 1).isLt; omega)]

end Cert.InprojSampleReference
-- ==== Proof.FirstSampleCases.lean ====
module

public import proofs.«01_k».proof.Proof.Gen.Kernel13Ideal.Frame
public import Idealize.ShloMosaic.Lib.Pipeline.Value

/-! What one grid point of the first feed-forward kernel over the samples' rows leaves in its output block and in its scratch, as a function of the
    blocks it reads: the first tile of a row block normalises the rows into the scratch and starts the output, the middle
    tiles add to the output, the last one adds its tile and the residual, and
    normalises the completed rows for the mixer. -/

@[expose] public section

noncomputable section

namespace Cert.FfnFirstSample

open Cert.Kernel13Ideal Cert.Kernel13Ideal.Gen Idealize.ShloMosaic Idealize.ShloMosaic.TcCoe Idealize.SL.Sem

variable {F : FTy → Type} [FloatOps F]

/-- Every load and store of the kernel starts at the window's corner. -/
theorem corner2 : (![(0 : ℕ), 0] : Fin 2 → ℕ) = fun _ => 0 := by
  funext a; match a with
  | ⟨0, _⟩ => rfl
  | ⟨1, _⟩ => rfl

section Cases

variable (c : Dev nD) (i : grid0.Coords)
  (arg2 : Memref sig .tc .vmem S32x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S512x2048 .bf16) (harg7 : arg7.IsWhole)
  (arg8 : Memref sig .tc .vmem S2048x384 .bf16) (harg8 : arg8.IsWhole)
  (arg9 : Memref sig .tc .vmem S2048x384 .bf16) (harg9 : arg9.IsWhole)
  (arg10 : Memref sig .tc .vmem S384x2048 .bf16) (harg10 : arg10.IsWhole)
  (arg11 : Memref sig .tc .vmem S32x2048 .f32) (harg11 : arg11.IsWhole)
  (arg12 : Memref sig .tc .vmem S32x2048 .bf16) (harg12 : arg12.IsWhole)
  (arg13 : Memref sig .tc .vmem S32x2048 .bf16) (harg13 : arg13.IsWhole)
  (x0 : Vec F S32x2048 .f32) (x1 : Vec F S1x2048 .f32) (x2 : Vec F S1x2048 .f32) (x3 : Vec F S2048x512 .bf16) (x4 : Vec F S2048x512 .bf16) (x5 : Vec F S512x2048 .bf16) (x6 : Vec F S2048x384 .bf16) (x7 : Vec F S2048x384 .bf16) (x8 : Vec F S384x2048 .bf16)

/-- The first tile stores the normalised rows. -/
theorem scratch_first (hc0 : cond0_0 i) (hc1 : cond0_1 i) (hc2 : ¬cond0_2 i) (hc3 : ¬cond0_3 i) :
    sout0_A_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8)]
  unfold kernelRun0_A
  dsimp only
  sl_unfold_words
  simp only [View.canon_unit_zero (S := S32x2048) corner2, View.readAt_eq_ld, View.ld_unit_zero (S := S32x2048) corner2, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S32x2048) _ corner2,
    harg2.read_unread, harg3.read_unread, harg4.read_unread, harg5.read_unread, harg6.read_unread, harg7.read_unread, harg8.read_unread, harg9.read_unread, harg10.read_unread, harg11.read_unread, harg12.read_unread, harg13.read_unread]

/-- The first tile starts the output, from the rows it has just normalised. -/
theorem out_first (hc0 : cond0_0 i) (hc1 : cond0_1 i) (hc2 : ¬cond0_2 i) (hc3 : ¬cond0_3 i) :
    out0_A_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 = k0_pay2 (k0_pay1 x0 x1) x3 x4 x5 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8)]
  unfold kernelRun0_A
  dsimp only
  sl_unfold_words
  simp only [View.canon_unit_zero (S := S32x2048) corner2, View.readAt_eq_ld, View.ld_unit_zero (S := S32x2048) corner2, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S32x2048) _ corner2,
    harg2.read_unread, harg3.read_unread, harg4.read_unread, harg5.read_unread, harg6.read_unread, harg7.read_unread, harg8.read_unread, harg9.read_unread, harg10.read_unread, harg11.read_unread, harg12.read_unread, harg13.read_unread]

/-- A middle tile adds to the output. -/
theorem out_middle (hc0 : ¬cond0_0 i) (hc1 : ¬cond0_1 i) (hc2 : cond0_2 i) (hc3 : ¬cond0_3 i) (acc : Vec F S32x2048 .f32) (h : Vec F S32x2048 .bf16) :
    out0_B_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 acc h = k0_pay3 acc h x3 x4 x5 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 acc h)]
  unfold kernelRun0_B
  dsimp only
  sl_unfold_words
  simp only [View.canon_unit_zero (S := S32x2048) corner2, View.readAt_eq_ld, View.ld_unit_zero (S := S32x2048) corner2, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S32x2048) _ corner2,
    harg2.read_unread, harg3.read_unread, harg4.read_unread, harg5.read_unread, harg6.read_unread, harg7.read_unread, harg8.read_unread, harg9.read_unread, harg10.read_unread, harg11.read_unread, harg12.read_unread, harg13.read_unread]

/-- The last tile adds its product, halves the sum and adds the block of `x`. -/
theorem out_last (hc0 : ¬cond0_0 i) (hc1 : ¬cond0_1 i) (hc2 : ¬cond0_2 i) (hc3 : cond0_3 i) (acc : Vec F S32x2048 .f32) (h : Vec F S32x2048 .bf16) :
    out0_C_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 acc h = k0_pay5 x0 acc h x6 x7 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 acc h)]
  unfold kernelRun0_C
  dsimp only
  sl_unfold_words
  simp only [View.canon_unit_zero (S := S32x2048) corner2, View.readAt_eq_ld, View.ld_unit_zero (S := S32x2048) corner2, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S32x2048) _ corner2,
    harg2.read_unread, harg3.read_unread, harg4.read_unread, harg5.read_unread, harg6.read_unread, harg7.read_unread, harg8.read_unread, harg9.read_unread, harg10.read_unread, harg11.read_unread, harg12.read_unread, harg13.read_unread]

/-- The last tile normalises the rows it completes. -/
theorem next_last (hc0 : ¬cond0_0 i) (hc1 : ¬cond0_1 i) (hc2 : ¬cond0_2 i) (hc3 : cond0_3 i) (acc : Vec F S32x2048 .f32) (h : Vec F S32x2048 .bf16) :
    out0_C_10 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 acc h = k0_pay4 (k0_pay5 x0 acc h x6 x7 x8) (k0_pay6 x2) (k0_pay7 x0 acc h x6 x7 x8) k0_pay8 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 acc h)]
  unfold kernelRun0_C
  dsimp only
  sl_unfold_words
  simp only [View.canon_unit_zero (S := S32x2048) corner2, View.readAt_eq_ld, View.ld_unit_zero (S := S32x2048) corner2, View.ld_unit_zero (S := S512x2048) corner2,
    View.ld_unit_zero (S := S2048x512) corner2, View.ld_unit_zero (S := S2048x384) corner2, View.ld_unit_zero (S := S384x2048) corner2,
    View.ld_unit_zero (S := S1x2048) corner2, View.readCov_unit_zero (S := S32x2048) _ corner2,
    harg2.read_unread, harg3.read_unread, harg4.read_unread, harg5.read_unread, harg6.read_unread, harg7.read_unread, harg8.read_unread, harg9.read_unread, harg10.read_unread, harg11.read_unread, harg12.read_unread, harg13.read_unread]

end Cases

variable (m : (ℓ : Loc nD τ sig) → Buf (Elt F) ℓ)

/-- After the first tile of a row block, the second output aside. -/
theorem outs_first (c : Dev nD) (t : Fin cfg0.N) (h0 : t.val % 11 = 0) :
    (outsAt0 m c t.val t.isLt).1 = k0_pay2 (k0_pay1 (iblk m c 0 t) (iblk m c 1 t)) (iblk m c 3 t) (iblk m c 4 t) (iblk m c 5 t)
      ∧ (outsAt0 m c t.val t.isLt).2.2 = k0_pay1 (iblk m c 0 t) (iblk m c 1 t) := by
  rw [outsAt0_A m c t h0 h0 (by omega) (by omega), out_first, scratch_first]
  exact ⟨rfl, rfl⟩

/-- After a middle tile, over what the tile before left. -/
theorem outs_middle (c : Dev nD) (t : Fin cfg0.N) (h2 : 1 ≤ t.val % 11 ∧ t.val % 11 ≤ 9) :
    (outsAt0 m c t.val t.isLt).1 = k0_pay3 (outsAt0 m c (t.val - 1) (by omega)).1 (outsAt0 m c (t.val - 1) (by omega)).2.2
        (iblk m c 3 t) (iblk m c 4 t) (iblk m c 5 t)
      ∧ (outsAt0 m c t.val t.isLt).2.2 = (outsAt0 m c (t.val - 1) (by omega)).2.2 := by
  rw [outsAt0_B m c t (by omega) (by omega) h2 (by omega), out_middle]
  exact ⟨rfl, rfl⟩

/-- After the last tile: the completed rows. -/
theorem outs_last (c : Dev nD) (t : Fin cfg0.N) (h3 : t.val % 11 = 10) :
    (outsAt0 m c t.val t.isLt).1 =
      k0_pay5 (iblk m c 0 t) (outsAt0 m c (t.val - 1) (by omega)).1 (outsAt0 m c (t.val - 1) (by omega)).2.2
        (iblk m c 6 t) (iblk m c 7 t) (iblk m c 8 t) := by
  rw [outsAt0_C m c t (by omega) (by omega) (by omega) h3, out_last]

/-- After the last tile: the completed rows, normalised. -/
theorem nexts_last (c : Dev nD) (t : Fin cfg0.N) (h3 : t.val % 11 = 10) :
    (outsAt0 m c t.val t.isLt).2.1 =
      k0_pay4 (k0_pay5 (iblk m c 0 t) (outsAt0 m c (t.val - 1) (by omega)).1 (outsAt0 m c (t.val - 1) (by omega)).2.2
        (iblk m c 6 t) (iblk m c 7 t) (iblk m c 8 t)) (k0_pay6 (iblk m c 2 t))
        (k0_pay7 (iblk m c 0 t) (outsAt0 m c (t.val - 1) (by omega)).1 (outsAt0 m c (t.val - 1) (by omega)).2.2
        (iblk m c 6 t) (iblk m c 7 t) (iblk m c 8 t)) k0_pay8 := by
  rw [outsAt0_C m c t (by omega) (by omega) (by omega) h3, next_last]

end Cert.FfnFirstSample
-- ==== Proof.FirstSampleReads.lean ====
module

public import proofs.«01_k».proof.Proof.FirstSampleCases
public import Idealize.ShloMosaic.Lib.Pointwise

/-! What the blocks hold that a grid point of the first feed-forward kernel over the samples' 32 rows reads: point `j` has all rows of the
    input and columns `512 * j …` of the two halves of the weights; the last point of a row block has the last 384. -/

@[expose] public section

noncomputable section

namespace Cert.FfnFirstSample

open Cert.Kernel13Ideal Cert.Kernel13Ideal.Gen Idealize.ShloMosaic Idealize.ShloMosaic.TcCoe Idealize.SL.Sem

variable (m : (ℓ : Loc nD τ sig) → Buf (Elt Ideal) ℓ) (c : Dev nD)

/-- The arguments, as arrays of extended reals. -/
abbrev argX (r : Fin 32) (d : Fin 2048) : EReal := m ((c : Thread nD τ).loc main_arg0) (ix2 r d)
abbrev argG (d : Fin 2048) : EReal := m ((c : Thread nD τ).loc main_arg1) (ix1 d)
abbrev argN (d : Fin 2048) : EReal := m ((c : Thread nD τ).loc main_arg2) (ix1 d)
abbrev argU (k : Fin 2048) (f : Fin 11008) : EReal := m ((c : Thread nD τ).loc main_arg3) (ix2 k f)
abbrev argD (f : Fin 5504) (d : Fin 2048) : EReal := m ((c : Thread nD τ).loc main_arg4) (ix2 f d)

theorem entryG (d : Fin 2048) : V m c main_v0 (ix2 0 d) = argG m c d := by
  have e : V m c main_v0 = broadcastInDim S1x2048 ![1] bcast_S2048_S1x2048_1 (m ((c : Thread nD τ).loc main_arg1)) := by
    unfold V hostOps0
    after_results_simp
  rw [e]
  pointwise

theorem entryN (d : Fin 2048) : V m c main_v3 (ix2 0 d) = argN m c d := by
  have e : V m c main_v3 = broadcastInDim S1x2048 ![1] bcast_S2048_S1x2048_1 (m ((c : Thread nD τ).loc main_arg2)) := by
    unfold V hostOps0
    after_results_simp
  rw [e]
  pointwise

theorem entryU (j : S2048x11008.Idx) : (V m c main_v1 j : EReal) = m ((c : Thread nD τ).loc main_arg3) j := by
  have e : V m c main_v1 = (truncf .bf16 (m ((c : Thread nD τ).loc main_arg3) : FVec Ideal S2048x11008 .f32) bitsLt_bf16_f32 :
      FVec Ideal S2048x11008 .bf16) := by
    unfold V hostOps0
    after_results_simp
  rw [e]
  rfl

theorem entryD (j : S5504x2048.Idx) : (V m c main_v2 j : EReal) = m ((c : Thread nD τ).loc main_arg4) j := by
  have e : V m c main_v2 = (truncf .bf16 (m ((c : Thread nD τ).loc main_arg4) : FVec Ideal S5504x2048 .f32) bitsLt_bf16_f32 :
      FVec Ideal S5504x2048 .bf16) := by
    unfold V hostOps0
    after_results_simp
  rw [e]
  rfl

/-- Where each window's block starts, over the grid. -/
theorem idx_facts : ∀ t : Fin cfg0.N, win0_0.index t (0 : Fin 2) = t.val / 11 ∧ win0_0.index t (1 : Fin 2) = 0
    ∧ win0_1.index t (0 : Fin 2) = 0 ∧ win0_1.index t (1 : Fin 2) = 0
    ∧ win0_9.index t (0 : Fin 2) = t.val / 11 ∧ win0_9.index t (1 : Fin 2) = 0
    ∧ win0_10.index t (0 : Fin 2) = t.val / 11 ∧ win0_10.index t (1 : Fin 2) = 0
    ∧ win0_2.index t (0 : Fin 2) = 0 ∧ win0_2.index t (1 : Fin 2) = 0 :=
  (by decide +kernel : ∀ t : Fin grid0.N, _)

theorem off_facts : ∀ t : Fin cfg0.N, cc0_transform_3 (grid0.coords t) (0 : Fin 2) = 0
    ∧ (t.val % 11 ≤ 9 → cc0_transform_3 (grid0.coords t) (1 : Fin 2) = 512 * (t.val % 11))
    ∧ cc0_transform_4 (grid0.coords t) (0 : Fin 2) = 0
    ∧ (t.val % 11 ≤ 9 → cc0_transform_4 (grid0.coords t) (1 : Fin 2) = 5504 + 512 * (t.val % 11))
    ∧ (t.val % 11 ≤ 9 → cc0_transform_5 (grid0.coords t) (0 : Fin 2) = 512 * (t.val % 11))
    ∧ cc0_transform_5 (grid0.coords t) (1 : Fin 2) = 0 :=
  (by decide +kernel : ∀ t : Fin grid0.N, _)

theorem lt_1 (t : Fin cfg0.N) : t.val / 11 < 1 := by
  have h : t.val < 11 := lt_of_lt_of_eq t.isLt (show cfg0.N = 11 from N_0)
  omega

theorem read_x (t : Fin cfg0.N) (r : Fin 32) (d : Fin 2048) :
    iblk m c 0 t (ix2 r d) = argX m c ⟨32 * (t.val / 11) + r.val, by have := lt_1 t; omega⟩ d := by
  show V m c main_arg0 (((cfg0.win 0).blk t).view.emb (ix2 r d)) = _
  rw [V_main_arg0]
  refine congrArg (m ((c : Thread nD τ).loc main_arg0)) ?_
  obtain ⟨e0, e1, _⟩ := idx_facts t
  funext a; apply Fin.ext
  match a with
  | ⟨0, _⟩ => show win0_0.index t (0 : Fin 2) * 32 + 1 * r.val = 32 * (t.val / 11) + r.val; omega
  | ⟨1, _⟩ => show win0_0.index t (1 : Fin 2) * 2048 + 1 * d.val = d.val; omega

theorem read_g (t : Fin cfg0.N) (d : Fin 2048) : iblk m c 1 t (ix2 0 d) = argG m c d := by
  show V m c main_v0 (((cfg0.win 1).blk t).view.emb (ix2 0 d)) = _
  rw [← entryG]
  refine congrArg (V m c main_v0) ?_
  obtain ⟨_, _, e0, e1, _⟩ := idx_facts t
  funext a; apply Fin.ext
  match a with
  | ⟨0, _⟩ => show win0_1.index t (0 : Fin 2) * 1 + 1 * 0 = 0; omega
  | ⟨1, _⟩ => show win0_1.index t (1 : Fin 2) * 2048 + 1 * d.val = d.val; omega

theorem read_n (t : Fin cfg0.N) (d : Fin 2048) : iblk m c 2 t (ix2 0 d) = argN m c d := by
  show V m c main_v3 (((cfg0.win 2).blk t).view.emb (ix2 0 d)) = _
  rw [← entryN]
  refine congrArg (V m c main_v3) ?_
  obtain ⟨_, _, _, _, _, _, _, _, e0, e1⟩ := idx_facts t
  funext a; apply Fin.ext
  match a with
  | ⟨0, _⟩ => show win0_2.index t (0 : Fin 2) * 1 + 1 * 0 = 0; omega
  | ⟨1, _⟩ => show win0_2.index t (1 : Fin 2) * 2048 + 1 * d.val = d.val; omega

theorem read_a (t : Fin cfg0.N) (h : t.val % 11 ≤ 9) (k : Fin 2048) (f : Fin 512) :
    iblk m c 3 t (ix2 k f) = argU m c k ⟨512 * (t.val % 11) + f.val, by omega⟩ := by
  show V m c main_v1 (((cfg0.win 3).blk t).view.emb (ix2 k f)) = _
  rw [entryU]
  refine congrArg (m ((c : Thread nD τ).loc main_arg3)) ?_
  obtain ⟨e0, e1, _⟩ := off_facts t
  have e1 := e1 h
  funext a; apply Fin.ext
  match a with
  | ⟨0, _⟩ => show cc0_transform_3 (grid0.coords t) (0 : Fin 2) + 1 * k.val = k.val; omega
  | ⟨1, _⟩ => show cc0_transform_3 (grid0.coords t) (1 : Fin 2) + 1 * f.val = 512 * (t.val % 11) + f.val; omega

theorem read_b (t : Fin cfg0.N) (h : t.val % 11 ≤ 9) (k : Fin 2048) (f : Fin 512) :
    iblk m c 4 t (ix2 k f) = argU m c k ⟨5504 + (512 * (t.val % 11) + f.val), by omega⟩ := by
  show V m c main_v1 (((cfg0.win 4).blk t).view.emb (ix2 k f)) = _
  rw [entryU]
  refine congrArg (m ((c : Thread nD τ).loc main_arg3)) ?_
  obtain ⟨_, _, e0, e1, _⟩ := off_facts t
  have e1 := e1 h
  funext a; apply Fin.ext
  match a with
  | ⟨0, _⟩ => show cc0_transform_4 (grid0.coords t) (0 : Fin 2) + 1 * k.val = k.val; omega
  | ⟨1, _⟩ => show cc0_transform_4 (grid0.coords t) (1 : Fin 2) + 1 * f.val = 5504 + (512 * (t.val % 11) + f.val); omega

theorem read_w (t : Fin cfg0.N) (h : t.val % 11 ≤ 9) (f : Fin 512) (d : Fin 2048) :
    iblk m c 5 t (ix2 f d) = argD m c ⟨512 * (t.val % 11) + f.val, by omega⟩ d := by
  show V m c main_v2 (((cfg0.win 5).blk t).view.emb (ix2 f d)) = _
  rw [entryD]
  refine congrArg (m ((c : Thread nD τ).loc main_arg4)) ?_
  obtain ⟨_, _, _, _, e0, e1⟩ := off_facts t
  have e0 := e0 h
  funext a; apply Fin.ext
  match a with
  | ⟨0, _⟩ => show cc0_transform_5 (grid0.coords t) (0 : Fin 2) + 1 * f.val = 512 * (t.val % 11) + f.val; omega
  | ⟨1, _⟩ => show cc0_transform_5 (grid0.coords t) (1 : Fin 2) + 1 * d.val = d.val; omega

theorem read_ta (t : Fin cfg0.N) (k : Fin 2048) (f : Fin 384) :
    iblk m c 6 t (ix2 k f) = argU m c k ⟨5120 + f.val, by omega⟩ := by
  show V m c main_v1 (((cfg0.win 6).blk t).view.emb (ix2 k f)) = _
  rw [entryU]
  refine congrArg (m ((c : Thread nD τ).loc main_arg3)) ?_
  funext a; apply Fin.ext
  match a with
  | ⟨0, _⟩ => show 0 + 1 * k.val = k.val; omega
  | ⟨1, _⟩ => show 5120 + 1 * f.val = 5120 + f.val; omega

theorem read_tb (t : Fin cfg0.N) (k : Fin 2048) (f : Fin 384) :
    iblk m c 7 t (ix2 k f) = argU m c k ⟨5504 + (5120 + f.val), by omega⟩ := by
  show V m c main_v1 (((cfg0.win 7).blk t).view.emb (ix2 k f)) = _
  rw [entryU]
  refine congrArg (m ((c : Thread nD τ).loc main_arg3)) ?_
  funext a; apply Fin.ext
  match a with
  | ⟨0, _⟩ => show 0 + 1 * k.val = k.val; omega
  | ⟨1, _⟩ => show 10624 + 1 * f.val = 5504 + (5120 + f.val); omega

theorem read_tw (t : Fin cfg0.N) (f : Fin 384) (d : Fin 2048) :
    iblk m c 8 t (ix2 f d) = argD m c ⟨5120 + f.val, by omega⟩ d := by
  show V m c main_v2 (((cfg0.win 8).blk t).view.emb (ix2 f d)) = _
  rw [entryD]
  refine congrArg (m ((c : Thread nD τ).loc main_arg4)) ?_
  funext a; apply Fin.ext
  match a with
  | ⟨0, _⟩ => show 5120 + 1 * f.val = 5120 + f.val; omega
  | ⟨1, _⟩ => show 0 + 1 * d.val = d.val; omega

end Cert.FfnFirstSample
-- ==== Proof.FirstSampleValue.lean ====
module

public import proofs.«01_k».proof.Proof.FirstSampleReads
public import proofs.«01_k».proof.Proof.FfnMath

/-! The feed-forward kernel's result: after the tiles of a row block the output block holds the partial sums over the
    features that the tiles met, and the last tile completes them and adds the row. -/

@[expose] public section

noncomputable section

namespace Cert.FfnFirstSample

open Cert.Ffn Cert.Kernel13Ideal Cert.Kernel13Ideal.Gen Idealize.ShloMosaic Idealize.ShloMosaic.TcCoe Idealize.SL.Sem

/-! ## The payloads at an index -/

theorem pay1_apply (x : Vec Ideal S32x2048 .f32) (g : Vec Ideal S1x2048 .f32) (r : Fin 32) (d : Fin 2048) :
    k0_pay1 x g (ix2 r d) = hrow (fun k => x (ix2 r k)) (fun k => g (ix2 0 k)) d := by
  pointwise [k0_pay1, hrow]

theorem pay2_apply (h : Vec Ideal S32x2048 .bf16) (a b : Vec Ideal S2048x512 .bf16) (w : Vec Ideal S512x2048 .bf16)
    (r : Fin 32) (d : Fin 2048) :
    k0_pay2 h a b w (ix2 r d)
      = ∑ f : Fin 512, gate (∑ k, h (ix2 r k) * a (ix2 k f)) (∑ k, h (ix2 r k) * b (ix2 k f)) * w (ix2 f d) := by
  pointwise [k0_pay2, gate]

theorem pay3_apply (acc : Vec Ideal S32x2048 .f32) (h : Vec Ideal S32x2048 .bf16) (a b : Vec Ideal S2048x512 .bf16)
    (w : Vec Ideal S512x2048 .bf16) (r : Fin 32) (d : Fin 2048) :
    k0_pay3 acc h a b w (ix2 r d) = acc (ix2 r d)
      + ∑ f : Fin 512, gate (∑ k, h (ix2 r k) * a (ix2 k f)) (∑ k, h (ix2 r k) * b (ix2 k f)) * w (ix2 f d) := by
  pointwise [k0_pay3, gate]

theorem pay5_apply (x acc : Vec Ideal S32x2048 .f32) (h : Vec Ideal S32x2048 .bf16) (a b : Vec Ideal S2048x384 .bf16)
    (w : Vec Ideal S384x2048 .bf16) (r : Fin 32) (d : Fin 2048) :
    k0_pay5 x acc h a b w (ix2 r d) = x (ix2 r d) + Ideal.ofBits .f32 0x3F000000#32 * (acc (ix2 r d)
      + ∑ f : Fin 384, gate (∑ k, h (ix2 r k) * a (ix2 k f)) (∑ k, h (ix2 r k) * b (ix2 k f)) * w (ix2 f d)) := by
  pointwise [k0_pay5, gate]

theorem pay6_apply (g : Vec Ideal S1x2048 .f32) (d : Fin 2048) : k0_pay6 g (ix2 0 d) = g (ix2 0 d) := by
  pointwise [k0_pay6]

theorem pay7_apply (x acc : Vec Ideal S32x2048 .f32) (h : Vec Ideal S32x2048 .bf16) (a b : Vec Ideal S2048x384 .bf16)
    (w : Vec Ideal S384x2048 .bf16) (r : Fin 32) :
    k0_pay7 x acc h a b w (ix2 r 0) = ∑ k : Fin 2048, k0_pay5 x acc h a b w (ix2 r k) * k0_pay5 x acc h a b w (ix2 r k) := by
  unfold k0_pay7
  generalize k0_pay5 x acc h a b w = y
  pointwise

theorem pay4_apply (y : Vec Ideal S32x2048 .f32) (g : Vec Ideal S1x2048 .f32) (s : Vec Ideal S32x1 .f32)
    (r : Fin 32) (hs : s (ix2 r 0) = ∑ k : Fin 2048, y (ix2 r k) * y (ix2 r k)) (d : Fin 2048) :
    k0_pay4 (F := Ideal) y g s k0_pay8 (ix2 r d) = hrow (fun k => y (ix2 r k)) (fun k => g (ix2 0 k)) d := by
  unfold hrow
  rw [← hs]
  pointwise [k0_pay4, k0_pay8]

/-! ## The invariant over the tiles -/

variable (m : (ℓ : Loc nD τ sig) → Buf (Elt Ideal) ℓ) (c : Dev nD)

/-- Row `r` of row block `i`, normalised. -/
abbrev rowAt (i : Fin 1) (r : Fin 32) : Fin 2048 → EReal :=
  hrow (argX m c ⟨32 * i.val + r.val, by omega⟩) (argG m c)

/-- What feature `f` adds at row `r` of row block `i`, output feature `d`. -/
abbrev featAt (i : Fin 1) (r : Fin 32) (d : Fin 2048) (f : ℕ) : EReal :=
  feat (rowAt m c i r) (argU m c) (argD m c) d f

/-- What the first output's block and the scratch hold after tile `j` of row block `i`. -/
def Inv (i : Fin 1) (j : ℕ) (o : Vec Ideal S32x2048 .f32 × Vec Ideal S32x2048 .bf16 × Vec Ideal S32x2048 .bf16) : Prop :=
  (∀ (r : Fin 32) (d : Fin 2048), o.1 (ix2 r d) = ∑ f ∈ Finset.range (512 * (j + 1)), featAt m c i r d f)
  ∧ ∀ (r : Fin 32) (d : Fin 2048), o.2.2 (ix2 r d) = rowAt m c i r d

/-- One feature of tile `j`, over the normalised rows. -/
theorem tile_feat (t : Fin cfg0.N) (i : Fin 1) (hi : t.val / 11 = i.val) (h : t.val % 11 ≤ 9) (r : Fin 32) (d : Fin 2048)
    (H : Vec Ideal S32x2048 .bf16) (hH : ∀ k, H (ix2 r k) = rowAt m c i r k) (f : Fin 512) :
    gate (∑ k, H (ix2 r k) * iblk m c 3 t (ix2 k f)) (∑ k, H (ix2 r k) * iblk m c 4 t (ix2 k f)) * iblk m c 5 t (ix2 f d)
      = featAt m c i r d (512 * (t.val % 11) + f.val) := by
  rw [featAt, feat_of_lt _ _ _ _ (show 512 * (t.val % 11) + f.val < 5504 by omega), read_w m c t h]
  simp only [read_a m c t h, read_b m c t h, hH]

theorem norm_at (t : Fin cfg0.N) (i : Fin 1) (hi : t.val / 11 = i.val) (r : Fin 32) (d : Fin 2048) :
    k0_pay1 (iblk m c 0 t) (iblk m c 1 t) (ix2 r d) = rowAt m c i r d := by
  rw [pay1_apply]
  simp only [read_x, read_g, hi]

theorem inv (i : Fin 1) : ∀ (j : ℕ) (_ : j ≤ 9) (n : ℕ) (hn : n < cfg0.N) (_ : n = 11 * i.val + j),
    Inv m c i j (outsAt0 m c n hn) := by
  intro j
  induction j with
  | zero =>
    intro _ n hn e
    have hd : n / 11 = i.val := by omega
    have hm : n % 11 = 0 := by omega
    obtain ⟨e1, e2⟩ := outs_first m c ⟨n, hn⟩ hm
    dsimp only at e1 e2
    refine ⟨fun r d => ?_, fun r d => by rw [e2]; exact norm_at m c ⟨n, hn⟩ i hd r d⟩
    rw [e1, pay2_apply, ← zero_add (∑ f : Fin 512, _)]
    refine sum_tile (featAt m c i r d) 0 512 _ rfl _ fun f => ?_
    rw [tile_feat m c ⟨n, hn⟩ i hd (by dsimp only; omega) r d _ (fun k => norm_at m c ⟨n, hn⟩ i hd r k)]
    dsimp only
    rw [hm]
  | succ j ih =>
    intro hj n hn e
    have hd : n / 11 = i.val := by omega
    have hm : n % 11 = j + 1 := by omega
    obtain ⟨ha, hh⟩ := ih (by omega) (n - 1) (by omega) (by omega)
    obtain ⟨e1, e2⟩ := outs_middle m c ⟨n, hn⟩ (by dsimp only; omega)
    dsimp only at e1 e2
    refine ⟨fun r d => ?_, fun r d => by rw [e2]; exact hh r d⟩
    rw [e1, pay3_apply, ha]
    refine sum_tile (featAt m c i r d) (512 * (j + 1)) 512 _ (by omega) _ fun f => ?_
    rw [tile_feat m c ⟨n, hn⟩ i hd (by dsimp only; omega) r d _ (fun k => hh r k)]
    dsimp only
    rw [hm]

/-- After the last tile the output block holds the layer's rows. -/
theorem out_block (t : Fin cfg0.N) (ht : t.val % 11 = 10) (r : Fin 32) (d : Fin 2048) :
    (outsAt0 m c t.val t.isLt).1 (ix2 r d)
      = layer (argX m c ⟨32 * (t.val / 11) + r.val, by have := lt_1 t; omega⟩) (argG m c) (argU m c) (argD m c) d := by
  obtain ⟨ha, hh⟩ := inv m c ⟨t.val / 11, lt_1 t⟩ 9 (by omega) (t.val - 1) (by omega) (by dsimp only; omega)
  have last (f : Fin 384) : gate (∑ k, (outsAt0 m c (t.val - 1) (by omega)).2.2 (ix2 r k) * iblk m c 6 t (ix2 k f))
      (∑ k, (outsAt0 m c (t.val - 1) (by omega)).2.2 (ix2 r k) * iblk m c 7 t (ix2 k f)) * iblk m c 8 t (ix2 f d)
      = featAt m c ⟨t.val / 11, lt_1 t⟩ r d (5120 + f.val) := by
    rw [featAt, feat_of_lt _ _ _ _ (show 5120 + f.val < 5504 by omega), read_tw]
    simp only [read_ta, read_tb, hh]
  rw [outs_last m c t ht, pay5_apply, ha, read_x, sum_tile (featAt m c ⟨t.val / 11, lt_1 t⟩ r d) 5120 384 5504 (by omega) _ last, layer]

/-- After the last tile the second output's block holds the layer's rows, normalised. -/
theorem next_block (t : Fin cfg0.N) (ht : t.val % 11 = 10) (r : Fin 32) (d : Fin 2048) :
    (outsAt0 m c t.val t.isLt).2.1 (ix2 r d)
      = hrow (layer (argX m c ⟨32 * (t.val / 11) + r.val, by have := lt_1 t; omega⟩) (argG m c) (argU m c) (argD m c)) (argN m c) d := by
  have h := fun k => out_block m c t ht r k
  rw [outs_last m c t ht] at h
  rw [nexts_last m c t ht, pay4_apply _ _ _ r (pay7_apply _ _ _ _ _ _ r)]
  simp only [h, pay6_apply, read_n]

/-! ## The arrays after the run -/

/-- The layer's rows, as the result array. -/
def target : Buf (Elt Ideal) ((c : Thread nD τ).loc main_v4_0) := fun i : S32x2048.Idx =>
  layer (argX m c (i 0)) (argG m c) (argU m c) (argD m c) (i 1)

theorem flushed (t : Fin cfg0.N) (hf : (cfg0.win 9).flush t = true) :
    (dats m 0 c).flushed 9 t = ((cfg0.win 9).blk t).view.read (Elt Ideal) (target m c) := by
  show (cfg0.win 9).cut (grid0.coords t) ((dats m 0 c).after 9 t) = _
  rw [after0_9]
  funext y
  obtain ⟨_, _, _, _, e0, e1, _⟩ := idx_facts t
  have hb0 : (((cfg0.win 9).blk t).view.emb y 0) = (⟨32 * (t.val / 11) + (y 0).val, by have := lt_1 t; have : (y 0).val < 32 := (y 0).isLt; omega⟩ : Fin 32) := by
    apply Fin.ext; show win0_9.index t (0 : Fin 2) * 32 + 1 * (y 0).val = 32 * (t.val / 11) + (y 0).val; omega
  have hb1 : (((cfg0.win 9).blk t).view.emb y 1) = (⟨(y 1).val, (y 1).isLt⟩ : Fin 2048) := by
    apply Fin.ext; show win0_9.index t (1 : Fin 2) * 2048 + 1 * (y 1).val = (y 1).val; omega
  have h := out_block m c t ((flush0_9 t).mp hf) ⟨(y 0).val, (y 0).isLt⟩ ⟨(y 1).val, (y 1).isLt⟩
  show (outsAt0 m c t.val t.isLt).1 ((cfg0.win 9).xinj (grid0.coords t) y)
    = layer (argX m c (((cfg0.win 9).blk t).view.emb y 0)) (argG m c) (argU m c) (argD m c) (((cfg0.win 9).blk t).view.emb y 1)
  rw [hb0, hb1, ← h]
  refine congrArg _ ?_
  funext a; apply Fin.ext
  match a with
  | ⟨0, _⟩ => rfl
  | ⟨1, _⟩ => rfl

theorem cover (i : S32x2048.Idx) : ∃ t : Fin cfg0.N, (cfg0.win 9).flush t = true ∧ i ∈ ((cfg0.win 9).blk t).view.set := by
  have hi0 : (i 0).val < 32 := (i 0).isLt
  have hi1 : (i 1).val < 2048 := (i 1).isLt
  have hN : 11 * ((i 0).val / 32) + 10 < cfg0.N := lt_of_lt_of_eq (by omega) N_0.symm
  refine ⟨⟨11 * ((i 0).val / 32) + 10, hN⟩, (flush0_9 _).mpr (by dsimp only; omega), ?_⟩
  obtain ⟨_, _, _, _, e0, e1, _⟩ := idx_facts ⟨11 * ((i 0).val / 32) + 10, hN⟩
  dsimp only at e0 e1
  show i ∈ ((View.whole main_v4_0).slice (win0_9.rect (⟨11 * ((i 0).val / 32) + 10, hN⟩ : Fin cfg0.N))).set
  rw [View.set_slice_whole, Rect.mem_set_unit]
  intro a
  match a with
  | ⟨0, _⟩ => show win0_9.index _ (0 : Fin 2) * 32 ≤ (i 0).val ∧ (i 0).val < win0_9.index _ (0 : Fin 2) * 32 + 32; omega
  | ⟨1, _⟩ => show win0_9.index _ (1 : Fin 2) * 2048 ≤ (i 1).val ∧ (i 1).val < win0_9.index _ (1 : Fin 2) * 2048 + 2048; omega

theorem final : (dats m 0 c).arrAt 9 cfg0.N = target m c :=
  (dats m 0 c).arrAt_eq_of_cover 9 _ (fun t hf => flushed m c t hf) cover

/-- The layer's rows normalised, as the second result array. -/
def nextTarget : Buf (Elt Ideal) ((c : Thread nD τ).loc main_v4_1) := fun i : S32x2048.Idx =>
  hrow (layer (argX m c (i 0)) (argG m c) (argU m c) (argD m c)) (argN m c) (i 1)

theorem flushed_next (t : Fin cfg0.N) (hf : (cfg0.win 10).flush t = true) :
    (dats m 0 c).flushed 10 t = ((cfg0.win 10).blk t).view.read (Elt Ideal) (nextTarget m c) := by
  show (cfg0.win 10).cut (grid0.coords t) ((dats m 0 c).after 10 t) = _
  rw [after0_10]
  funext y
  obtain ⟨_, _, _, _, _, _, e0, e1, _⟩ := idx_facts t
  have hb0 : (((cfg0.win 10).blk t).view.emb y 0) = (⟨32 * (t.val / 11) + (y 0).val, by have := lt_1 t; have : (y 0).val < 32 := (y 0).isLt; omega⟩ : Fin 32) := by
    apply Fin.ext; show win0_10.index t (0 : Fin 2) * 32 + 1 * (y 0).val = 32 * (t.val / 11) + (y 0).val; omega
  have hb1 : (((cfg0.win 10).blk t).view.emb y 1) = (⟨(y 1).val, (y 1).isLt⟩ : Fin 2048) := by
    apply Fin.ext; show win0_10.index t (1 : Fin 2) * 2048 + 1 * (y 1).val = (y 1).val; omega
  have h := next_block m c t ((flush0_10 t).mp hf) ⟨(y 0).val, (y 0).isLt⟩ ⟨(y 1).val, (y 1).isLt⟩
  show (outsAt0 m c t.val t.isLt).2.1 ((cfg0.win 10).xinj (grid0.coords t) y)
    = hrow (layer (argX m c (((cfg0.win 10).blk t).view.emb y 0)) (argG m c) (argU m c) (argD m c)) (argN m c) (((cfg0.win 10).blk t).view.emb y 1)
  rw [hb0, hb1, ← h]
  refine congrArg _ ?_
  funext a; apply Fin.ext
  match a with
  | ⟨0, _⟩ => rfl
  | ⟨1, _⟩ => rfl

theorem cover_next (i : S32x2048.Idx) : ∃ t : Fin cfg0.N, (cfg0.win 10).flush t = true ∧ i ∈ ((cfg0.win 10).blk t).view.set := by
  have hi0 : (i 0).val < 32 := (i 0).isLt
  have hi1 : (i 1).val < 2048 := (i 1).isLt
  have hN : 11 * ((i 0).val / 32) + 10 < cfg0.N := lt_of_lt_of_eq (by omega) N_0.symm
  refine ⟨⟨11 * ((i 0).val / 32) + 10, hN⟩, (flush0_10 _).mpr (by dsimp only; omega), ?_⟩
  obtain ⟨_, _, _, _, _, _, e0, e1, _⟩ := idx_facts ⟨11 * ((i 0).val / 32) + 10, hN⟩
  dsimp only at e0 e1
  show i ∈ ((View.whole main_v4_1).slice (win0_10.rect (⟨11 * ((i 0).val / 32) + 10, hN⟩ : Fin cfg0.N))).set
  rw [View.set_slice_whole, Rect.mem_set_unit]
  intro a
  match a with
  | ⟨0, _⟩ => show win0_10.index _ (0 : Fin 2) * 32 ≤ (i 0).val ∧ (i 0).val < win0_10.index _ (0 : Fin 2) * 32 + 32; omega
  | ⟨1, _⟩ => show win0_10.index _ (1 : Fin 2) * 2048 ≤ (i 1).val ∧ (i 1).val < win0_10.index _ (1 : Fin 2) * 2048 + 2048; omega

theorem final_next : (dats m 0 c).arrAt 10 cfg0.N = nextTarget m c :=
  (dats m 0 c).arrAt_eq_of_cover 10 _ (fun t hf => flushed_next m c t hf) cover_next

/-- The kernel's run: the layer's rows, those rows normalised, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = target m c
      ∧ r.2.mem ((c : Thread nD τ).loc main_v4_1) = nextTarget m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 9).trans (final m c), ((h c).1 10).trans (final_next m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.FfnFirstSample
-- ==== Proof.FirstSampleReference.lean ====
module

public import proofs.«01_k».proof.Proof.Gen.Reference13Ideal.Run
public import proofs.«01_k».proof.Proof.FfnMath

/-! The feed-forward reference's result is the layer's rows. -/

@[expose] public section

noncomputable section

namespace Cert.FfnFirstSampleReference

open Cert.Ffn Cert.Reference13Ideal Cert.Reference13Ideal.Gen Idealize.ShloMosaic Idealize.ShloMosaic.TcCoe Idealize.SL.Sem

variable (m : (ℓ : Loc nD τ sig) → Buf (Elt Ideal) ℓ) (c : Dev nD)

/-- The layer's row `r` of the reference's arguments. -/
def row (r : Fin 32) : Fin 2048 → EReal :=
  layer (fun d => m ((c : Thread nD τ).loc main_arg0) (ix2 r d)) (fun d => m ((c : Thread nD τ).loc main_arg1) (ix1 d))
    (fun k f => m ((c : Thread nD τ).loc main_arg3) (ix2 k f)) (fun f d => m ((c : Thread nD τ).loc main_arg4) (ix2 f d))

/-- The layer's rows. -/
def target : Buf (Elt Ideal) ((c : Thread nD τ).loc main_v21) := fun i : S32x2048.Idx => row m c (i 0) (i 1)

/-- The layer's rows normalised. -/
def nextTarget : Buf (Elt Ideal) ((c : Thread nD τ).loc main_v35) := fun i : S32x2048.Idx =>
  hrow (row m c (i 0)) (fun d => m ((c : Thread nD τ).loc main_arg2) (ix1 d)) (i 1)

/-- The reference's first result. -/
def rowsTerm (a0 : FVec Ideal S32x2048 .f32) (a1 : FVec Ideal S2048 .f32) (a3 : FVec Ideal S2048x11008 .f32)
    (a4 : FVec Ideal S5504x2048 .f32) : FVec Ideal S32x2048 .f32 :=
  addf a0 (mulf (broadcastInDim S32x2048 ![] bcast_S_S32x2048 (constant S_ .f32 0x3F000000#32)) (Host.dotGeneral dot_S32x5504_S5504x2048_S32x2048_1_0_0_1_n_n none (mulf (mulf (extractStridedSlice S32x5504 ![0, 0] (Host.dotGeneral dot_S32x2048_S2048x11008_S32x11008_1_0_0_1_n_n none (mulf (mulf a0 (broadcastInDim S32x2048 ![0, 1] bcast_S32x1_S32x2048_0_1 (Host.rsqrt (addf (Host.divf (broadcastInDim S32x1 ![0] bcast_S32_S32x1_0 (Host.reduceAdd (mulf a0 a0) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 a1))) a3) slices_S32x11008_S32x5504_0_0) (Host.divf (broadcastInDim S32x5504 ![] bcast_S_S32x5504 (constant S_ .f32 0x3F800000#32)) (addf (broadcastInDim S32x5504 ![] bcast_S_S32x5504 (constant S_ .f32 0x3F800000#32)) (Host.exp (Host.negf (extractStridedSlice S32x5504 ![0, 0] (Host.dotGeneral dot_S32x2048_S2048x11008_S32x11008_1_0_0_1_n_n none (mulf (mulf a0 (broadcastInDim S32x2048 ![0, 1] bcast_S32x1_S32x2048_0_1 (Host.rsqrt (addf (Host.divf (broadcastInDim S32x1 ![0] bcast_S32_S32x1_0 (Host.reduceAdd (mulf a0 a0) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 a1))) a3) slices_S32x11008_S32x5504_0_0)))))) (extractStridedSlice S32x5504 ![0, 5504] (Host.dotGeneral dot_S32x2048_S2048x11008_S32x11008_1_0_0_1_n_n none (mulf (mulf a0 (broadcastInDim S32x2048 ![0, 1] bcast_S32x1_S32x2048_0_1 (Host.rsqrt (addf (Host.divf (broadcastInDim S32x1 ![0] bcast_S32_S32x1_0 (Host.reduceAdd (mulf a0 a0) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 a1))) a3) slices_S32x11008_S32x5504_0_5504)) a4))

/-- What the reference does to its first result. -/
def nextTerm (y : FVec Ideal S32x2048 .f32) (g : FVec Ideal S2048 .f32) : FVec Ideal S32x2048 .bf16 :=
  truncf .bf16 (mulf (mulf y (broadcastInDim S32x2048 ![0, 1] bcast_S32x1_S32x2048_0_1 (Host.rsqrt (addf (Host.divf (broadcastInDim S32x1 ![0] bcast_S32_S32x1_0 (Host.reduceAdd (mulf y y) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 g))) bitsLt_bf16_f32

/-- The reference's first result of the arguments. -/
abbrev rowsAt : FVec Ideal S32x2048 .f32 :=
  rowsTerm (m ((c : Thread nD τ).loc main_arg0)) (m ((c : Thread nD τ).loc main_arg1)) (m ((c : Thread nD τ).loc main_arg3)) (m ((c : Thread nD τ).loc main_arg4))

theorem rows_eq (r : Fin 32) (d : Fin 2048) : rowsAt m c (ix2 r d) = row m c r d := by
  unfold row rowsAt rowsTerm
  rw [layer_sum]
  pointwise [hrow, gate]
  simp only [zero_sub]

theorem next_eq (y : FVec Ideal S32x2048 .f32) (g : FVec Ideal S2048 .f32) (r : Fin 32) (d : Fin 2048) :
    nextTerm y g (ix2 r d) = hrow (fun k => y (ix2 r k)) (fun k => g (ix1 k)) d := by
  unfold nextTerm
  pointwise [hrow]

theorem next_rows (r : Fin 32) (d : Fin 2048) :
    nextTerm (rowsAt m c) (m ((c : Thread nD τ).loc main_arg2)) (ix2 r d)
      = hrow (row m c r) (fun d => m ((c : Thread nD τ).loc main_arg2) (ix1 d)) d := by
  rw [next_eq]
  simp only [rows_eq]

/-- The reference's run: the layer's rows, those rows normalised, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v21) = target m c
      ∧ r.2.mem ((c : Thread nD τ).loc main_v35) = nextTarget m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun _ h c => ⟨(h c).1.trans ?_, (h c).2.1.trans ?_, (h c).2.2⟩) (Cert.Reference13Ideal.Value.run m ρ)
  · funext i
    rw [← ix2_eta i]
    exact rows_eq m c (i 0) (i 1)
  · funext i
    have e : Cert.Reference13Ideal.Value.res_out1 m c = nextTerm (rowsAt m c) (m ((c : Thread nD τ).loc main_arg2)) := rfl
    show Cert.Reference13Ideal.Value.res_out1 m c i = _
    rw [e, ← ix2_eta i]
    exact next_rows m c (i 0) (i 1)

end Cert.FfnFirstSampleReference
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.MlstmValue
public import proofs.«01_k».proof.Proof.MlstmReference
public import proofs.«01_k».proof.Proof.FfnValue
public import proofs.«01_k».proof.Proof.FfnReference
public import proofs.«01_k».proof.Proof.FirstValue
public import proofs.«01_k».proof.Proof.FirstReference
public import proofs.«01_k».proof.Proof.SampleValue
public import proofs.«01_k».proof.Proof.SampleReference
public import proofs.«01_k».proof.Proof.MergeValue
public import proofs.«01_k».proof.Proof.MergeReference
public import proofs.«01_k».proof.Proof.InprojValue
public import proofs.«01_k».proof.Proof.InprojReference
public import proofs.«01_k».proof.Proof.SmallValue
public import proofs.«01_k».proof.Proof.SmallReference
public import proofs.«01_k».proof.Proof.SmallSampleValue
public import proofs.«01_k».proof.Proof.SmallSampleReference
public import proofs.«01_k».proof.Proof.SamplePrepValue
public import proofs.«01_k».proof.Proof.SamplePrepReference
public import proofs.«01_k».proof.Proof.PrepValue
public import proofs.«01_k».proof.Proof.PrepReference
public import proofs.«01_k».proof.Proof.MergeSampleValue
public import proofs.«01_k».proof.Proof.MergeSampleReference
public import proofs.«01_k».proof.Proof.InprojSampleValue
public import proofs.«01_k».proof.Proof.InprojSampleReference
public import proofs.«01_k».proof.Proof.FirstSampleValue
public import proofs.«01_k».proof.Proof.FirstSampleReference
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono
    (fun r h => ⟨fun c => (h c).2.2.2.2.2, sem_eq_zero_of_no_sems (by decide) r.2⟩)
    (Cert.MlstmReference.run m ρ)

/-- The two programs' branches read the same arrays. -/
theorem arrays_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.MlstmReference.arraysAt m' c = Cert.Mlstm.arraysOf m c := by
  obtain ⟨h0, h1, h2, h3, h4, h5⟩ := h
  unfold Cert.MlstmReference.arraysAt
  rw [h0, h1, h2, h3, h4, h5]
  rfl

theorem algebraic_KernelIdeal_ReferenceIdeal : algebraic_KernelIdeal_ReferenceIdeal := by
  intro m ρ m' ρ' _ hagree
  refine ⟨_, _, _, _, _, Cert.Mlstm.run m ρ, ?_⟩
  refine (θ_run Cert.ReferenceIdeal.defs _ _).mono (fun r h c => ?_) (Cert.MlstmReference.run m' ρ')
  obtain ⟨h0, h1, h2, h3, h4, hargs⟩ := h c
  rw [arrays_agree m m' c (hagree c)] at h0 h1 h2 h3 h4
  refine ⟨?_, ?_, ?_, ?_, ?_, hargs⟩
  · funext i; rw [← ix2_eta i]; exact h0 (i 0) (i 1)
  · funext i; rw [← ix2_eta i]; exact h1 (i 0) (i 1)
  · funext i; rw [← ix3_eta i]; exact h2 (i 0) (i 1) (i 2)
  · funext i; rw [← ix2_eta i]; exact h3 (i 0) (i 1)
  · funext i; rw [← ix2_eta i]; exact h4 (i 0) (i 1)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Ffn.run m ρ, ?_⟩
  refine (θ_run Cert.Reference2Ideal.defs _ _).mono (fun _ h c => ⟨?_, (h c).2⟩) (Cert.FfnReference.run m' ρ')
  rw [(h c).1]
  unfold Cert.FfnReference.target Cert.Ffn.target
  simp only [hagree c]

theorem quiescent_Reference3Ideal : quiescent_Reference3Ideal := fun m ρ _ =>
  (θ_run Cert.Reference3Ideal.defs _ _).mono (fun r h => ⟨fun c => (h c).2.2, sem_eq_zero_of_no_sems (by decide) r.2⟩)
    (Cert.FfnFirstReference.run m ρ)

theorem algebraic_Kernel3Ideal_Reference3Ideal : algebraic_Kernel3Ideal_Reference3Ideal := by
  intro m ρ m' ρ' _ hagree
  refine ⟨_, _, Cert.FfnFirst.run m ρ, ?_⟩
  refine (θ_run Cert.Reference3Ideal.defs _ _).mono (fun _ h c => ⟨?_, ?_, (h c).2.2⟩) (Cert.FfnFirstReference.run m' ρ')
  · rw [(h c).1]
    unfold Cert.FfnFirstReference.target Cert.FfnFirstReference.row Cert.FfnFirst.target
    simp only [hagree c]
  · rw [(h c).2.1]
    unfold Cert.FfnFirstReference.nextTarget Cert.FfnFirstReference.row Cert.FfnFirst.nextTarget
    simp only [hagree c]

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨_, Cert.FfnSample.run m ρ, ?_⟩
  refine (θ_run Cert.Reference4Ideal.defs _ _).mono (fun _ h c => ⟨?_, (h c).2⟩) (Cert.FfnSampleReference.run m' ρ')
  rw [(h c).1]
  unfold Cert.FfnSampleReference.target Cert.FfnSample.target
  simp only [hagree c]

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_Kernel7Ideal_Reference7Ideal : algebraic_Kernel7Ideal_Reference7Ideal := by
  intro m ρ m' ρ' _ hagree
  refine ⟨_, Cert.Merge.run m ρ, ?_⟩
  refine (θ_run Cert.Reference7Ideal.defs _ _).mono (fun _ h c => ⟨?_, (h c).2⟩) (Cert.MergeReference.run m' ρ')
  rw [(h c).1]
  unfold Cert.MergeReference.target Cert.Merge.target
  simp only [hagree c]

theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic_Kernel9Ideal_Reference9Ideal : algebraic_Kernel9Ideal_Reference9Ideal := by
  intro m ρ m' ρ' _ hagree
  refine ⟨_, Cert.Inproj.run m ρ, ?_⟩
  refine (θ_run Cert.Reference9Ideal.defs _ _).mono (fun _ h c => ⟨?_, (h c).2⟩) (Cert.InprojReference.run m' ρ')
  rw [(h c).1]
  unfold Cert.InprojReference.target Cert.Inproj.target
  simp only [hagree c]

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal : algebraic_Kernel5Ideal_Reference5Ideal := by
  intro m ρ m' ρ' _ hagree
  refine ⟨_, Cert.Small.run m ρ, ?_⟩
  refine (θ_run Cert.Reference5Ideal.defs _ _).mono (fun _ h c => ⟨?_, (h c).2⟩) (Cert.SmallReference.run m' ρ')
  rw [(h c).1]
  unfold Cert.SmallReference.target Cert.Small.target
  simp only [hagree c]

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal_Reference6Ideal : algebraic_Kernel6Ideal_Reference6Ideal := by
  intro m ρ m' ρ' _ hagree
  refine ⟨_, Cert.SmallSample.run m ρ, ?_⟩
  refine (θ_run Cert.Reference6Ideal.defs _ _).mono (fun _ h c => ⟨?_, (h c).2⟩) (Cert.SmallSampleReference.run m' ρ')
  rw [(h c).1]
  unfold Cert.SmallSampleReference.target Cert.SmallSample.target
  simp only [hagree c]

theorem quiescent_Reference10Ideal : quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

theorem algebraic_Kernel10Ideal_Reference10Ideal : algebraic_Kernel10Ideal_Reference10Ideal := by
  intro m ρ m' ρ' _ hagree
  refine ⟨_, _, _, _, Cert.SamplePrep.run m ρ, ?_⟩
  refine (θ_run Cert.Reference10Ideal.defs _ _).mono (fun _ h c => ⟨?_, ?_, ?_, ?_, (h c).2.2.2.2⟩) (Cert.SamplePrepReference.run m' ρ')
  · rw [(h c).1]
    unfold Cert.SamplePrepReference.queriesTarget Cert.SamplePrep.queriesTarget
    unfold Cert.SamplePrepReference.argP Cert.SamplePrep.argP Cert.SamplePrepReference.argQ Cert.SamplePrep.argQ
    simp only [hagree c]
  · rw [(h c).2.1]
    unfold Cert.SamplePrepReference.keysTarget Cert.SamplePrep.keysTarget
    unfold Cert.SamplePrepReference.argP Cert.SamplePrep.argP Cert.SamplePrepReference.argK Cert.SamplePrep.argK
    simp only [hagree c]
  · rw [(h c).2.2.1]
    unfold Cert.SamplePrepReference.valuesTarget Cert.SamplePrep.valuesTarget
    unfold Cert.SamplePrepReference.argP Cert.SamplePrep.argP
    simp only [hagree c]
  · rw [(h c).2.2.2.1]
    unfold Cert.SamplePrepReference.scoreTarget Cert.SamplePrep.scoreTarget
    unfold Cert.SamplePrepReference.argP Cert.SamplePrep.argP
    simp only [hagree c]

theorem quiescent_Reference8Ideal : quiescent_Reference8Ideal := fun m ρ _ =>
  (θ_run Cert.Reference8Ideal.defs _ _).mono (fun r h => ⟨fun c => (h c).2.2.2.2.2.2, sem_eq_zero_of_no_sems (by decide) r.2⟩)
    (Cert.Reference8Ideal.Value.run (F := Ideal) m ρ)

theorem algebraic_Kernel8Ideal_Reference8Ideal : algebraic_Kernel8Ideal_Reference8Ideal := by
  intro m ρ m' ρ' _ hagree
  refine ⟨_, _, _, _, _, _, Cert.Prep.run m ρ, ?_⟩
  refine (θ_run Cert.Reference8Ideal.defs _ _).mono (fun _ h c => ⟨?_, ?_, ?_, ?_, ?_, ?_, (h c).2.2.2.2.2.2⟩) (Cert.PrepReference.run m' ρ')
  · rw [(h c).1]
    unfold Cert.PrepReference.keysTarget Cert.Prep.keysTarget
    unfold Cert.PrepReference.keyRow Cert.PrepReference.argP Cert.PrepReference.argK Cert.Prep.keyRow Cert.Prep.argP Cert.Prep.argK
    simp only [hagree c]
  · rw [(h c).2.1]
    unfold Cert.PrepReference.valuesTarget Cert.Prep.valuesTarget
    unfold Cert.PrepReference.argP Cert.Prep.argP
    simp only [hagree c]
  · rw [(h c).2.2.1]
    unfold Cert.PrepReference.narrowKeysTarget Cert.Prep.narrowKeysTarget
    unfold Cert.PrepReference.keyRow Cert.PrepReference.argP Cert.PrepReference.argK Cert.Prep.keyRow Cert.Prep.argP Cert.Prep.argK
    simp only [hagree c]
  · rw [(h c).2.2.2.1]
    unfold Cert.PrepReference.narrowValuesTarget Cert.Prep.narrowValuesTarget
    unfold Cert.PrepReference.argP Cert.Prep.argP
    simp only [hagree c]
  · rw [(h c).2.2.2.2.1]
    unfold Cert.PrepReference.smallTarget Cert.Prep.smallTarget
    unfold Cert.PrepReference.argP Cert.Prep.argP
    simp only [hagree c]
  · rw [(h c).2.2.2.2.2.1]
    unfold Cert.PrepReference.maximaTarget Cert.Prep.maximaTarget
    unfold Cert.PrepReference.keyRow Cert.PrepReference.argP Cert.PrepReference.argK Cert.Prep.keyRow Cert.Prep.argP Cert.Prep.argK
    simp only [hagree c]

theorem quiescent_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic_Kernel11Ideal_Reference11Ideal : algebraic_Kernel11Ideal_Reference11Ideal := by
  intro m ρ m' ρ' _ hagree
  refine ⟨_, Cert.MergeSample.run m ρ, ?_⟩
  refine (θ_run Cert.Reference11Ideal.defs _ _).mono (fun _ h c => ⟨?_, (h c).2⟩) (Cert.MergeSampleReference.run m' ρ')
  rw [(h c).1]
  unfold Cert.MergeSampleReference.target Cert.MergeSample.target
  simp only [hagree c]

theorem quiescent_Reference12Ideal : quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic_Kernel12Ideal_Reference12Ideal : algebraic_Kernel12Ideal_Reference12Ideal := by
  intro m ρ m' ρ' _ hagree
  refine ⟨_, Cert.InprojSample.run m ρ, ?_⟩
  refine (θ_run Cert.Reference12Ideal.defs _ _).mono (fun _ h c => ⟨?_, (h c).2⟩) (Cert.InprojSampleReference.run m' ρ')
  rw [(h c).1]
  unfold Cert.InprojSampleReference.target Cert.InprojSample.target
  simp only [hagree c]

theorem quiescent_Reference13Ideal : quiescent_Reference13Ideal := fun m ρ _ =>
  (θ_run Cert.Reference13Ideal.defs _ _).mono (fun r h => ⟨fun c => (h c).2.2, sem_eq_zero_of_no_sems (by decide) r.2⟩)
    (Cert.FfnFirstSampleReference.run m ρ)

theorem algebraic_Kernel13Ideal_Reference13Ideal : algebraic_Kernel13Ideal_Reference13Ideal := by
  intro m ρ m' ρ' _ hagree
  refine ⟨_, _, Cert.FfnFirstSample.run m ρ, ?_⟩
  refine (θ_run Cert.Reference13Ideal.defs _ _).mono (fun _ h c => ⟨?_, ?_, (h c).2.2⟩) (Cert.FfnFirstSampleReference.run m' ρ')
  · rw [(h c).1]
    unfold Cert.FfnFirstSampleReference.target Cert.FfnFirstSampleReference.row Cert.FfnFirstSample.target
    simp only [hagree c]
  · rw [(h c).2.1]
    unfold Cert.FfnFirstSampleReference.nextTarget Cert.FfnFirstSampleReference.row Cert.FfnFirstSample.nextTarget
    simp only [hagree c]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  fun m ρ _ => Cert.Kernel9.Gen.frame m ρ (Cert.Inproj.ok m),
  fun m ρ _ => Cert.Kernel9Ideal.Gen.frame m ρ (Cert.Inproj.ok_ideal m), quiescent_Reference9Ideal,
  fun m ρ _ => Cert.Kernel10.Gen.frame m ρ, fun m ρ _ => Cert.Kernel10Ideal.Gen.frame m ρ, quiescent_Reference10Ideal,
  fun m ρ _ => Cert.Kernel11.Gen.frame m ρ, fun m ρ _ => Cert.Kernel11Ideal.Gen.frame m ρ, quiescent_Reference11Ideal,
  fun m ρ _ => Cert.Kernel12.Gen.frame m ρ (Cert.InprojSample.ok m),
  fun m ρ _ => Cert.Kernel12Ideal.Gen.frame m ρ (Cert.InprojSample.ok_ideal m), quiescent_Reference12Ideal,
  fun m ρ _ => Cert.Kernel13.Gen.frame m ρ, fun m ρ _ => Cert.Kernel13Ideal.Gen.frame m ρ, quiescent_Reference13Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal,
  (trivial : preserves_Kernel9_Kernel9Ideal), algebraic_Kernel9Ideal_Reference9Ideal,
  (trivial : preserves_Kernel10_Kernel10Ideal), algebraic_Kernel10Ideal_Reference10Ideal,
  (trivial : preserves_Kernel11_Kernel11Ideal), algebraic_Kernel11Ideal_Reference11Ideal,
  (trivial : preserves_Kernel12_Kernel12Ideal), algebraic_Kernel12Ideal_Reference12Ideal,
  (trivial : preserves_Kernel13_Kernel13Ideal), algebraic_Kernel13Ideal_Reference13Ideal⟩

end Cert.Proof

end
